-- ==== Defs.lean ====
def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite_in [hPre_finite_in : Cert.Pre_finite_in.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.2.2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.2.2.2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.2.2.2.2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8))).2.2.2.2.2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite_in [hPre_finite_in : Cert.Pre_finite_in.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.2.2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.2.2.2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.2.2.2.2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8))).2.2.2.2.2.2.2 = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpKernelIdeal_finite_mlp [hPre_finite_mlp : Cert.Pre_finite_mlp.Facts] (m : (ℓ : Loc Cert.MlpKernelIdeal.nD Cert.MlpKernelIdeal.τ Cert.MlpKernelIdeal.sig) → Buf (Elt Ideal) ℓ) : Prop :=
  ∀ c : Dev Cert.MlpKernelIdeal.nD,
    (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4))).1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4))).2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4))).2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4))).2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4))).2.2.2.2 = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_finite_mlp [hPre_finite_mlp : Cert.Pre_finite_mlp.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4))).1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4))).2.1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4))).2.2.1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4))).2.2.2.1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4))).2.2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.2 = (fun _ => 1#1)

def Pre_XattnKernel (m : (ℓ : Loc Cert.XattnKernel.nD Cert.XattnKernel.τ Cert.XattnKernel.sig) → Buf (Elt Bits) ℓ) : Prop :=
  True

def Pre_XattnKernelIdeal (m : (ℓ : Loc Cert.XattnKernelIdeal.nD Cert.XattnKernelIdeal.τ Cert.XattnKernelIdeal.sig) → Buf (Elt Ideal) ℓ) : Prop :=
  True

def Pre_XattnKernelIdeal_finite_xattn [hPre_finite_xattn : Cert.Pre_finite_xattn.Facts] (m : (ℓ : Loc Cert.XattnKernelIdeal.nD Cert.XattnKernelIdeal.τ Cert.XattnKernelIdeal.sig) → Buf (Elt Ideal) ℓ) : Prop :=
  ∀ c : Dev Cert.XattnKernelIdeal.nD,
    (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6)) (m ((c.tc : Thread Cert.XattnKernelIdeal.nD Cert.XattnKernelIdeal.τ).loc Cert.XattnKernelIdeal.main_arg7)) (m ((c.tc : Thread Cert.XattnKernelIdeal.nD Cert.XattnKernelIdeal.τ).loc Cert.XattnKernelIdeal.main_arg8))).1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6)) (m ((c.tc : Thread Cert.XattnKernelIdeal.nD Cert.XattnKernelIdeal.τ).loc Cert.XattnKernelIdeal.main_arg7)) (m ((c.tc : Thread Cert.XattnKernelIdeal.nD Cert.XattnKernelIdeal.τ).loc Cert.XattnKernelIdeal.main_arg8))).2.1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6)) (m ((c.tc : Thread Cert.XattnKernelIdeal.nD Cert.XattnKernelIdeal.τ).loc Cert.XattnKernelIdeal.main_arg7)) (m ((c.tc : Thread Cert.XattnKernelIdeal.nD Cert.XattnKernelIdeal.τ).loc Cert.XattnKernelIdeal.main_arg8))).2.2.1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6)) (m ((c.tc : Thread Cert.XattnKernelIdeal.nD Cert.XattnKernelIdeal.τ).loc Cert.XattnKernelIdeal.main_arg7)) (m ((c.tc : Thread Cert.XattnKernelIdeal.nD Cert.XattnKernelIdeal.τ).loc Cert.XattnKernelIdeal.main_arg8))).2.2.2.1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6)) (m ((c.tc : Thread Cert.XattnKernelIdeal.nD Cert.XattnKernelIdeal.τ).loc Cert.XattnKernelIdeal.main_arg7)) (m ((c.tc : Thread Cert.XattnKernelIdeal.nD Cert.XattnKernelIdeal.τ).loc Cert.XattnKernelIdeal.main_arg8))).2.2.2.2.1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6)) (m ((c.tc : Thread Cert.XattnKernelIdeal.nD Cert.XattnKernelIdeal.τ).loc Cert.XattnKernelIdeal.main_arg7)) (m ((c.tc : Thread Cert.XattnKernelIdeal.nD Cert.XattnKernelIdeal.τ).loc Cert.XattnKernelIdeal.main_arg8))).2.2.2.2.2.1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6)) (m ((c.tc : Thread Cert.XattnKernelIdeal.nD Cert.XattnKernelIdeal.τ).loc Cert.XattnKernelIdeal.main_arg7)) (m ((c.tc : Thread Cert.XattnKernelIdeal.nD Cert.XattnKernelIdeal.τ).loc Cert.XattnKernelIdeal.main_arg8))).2.2.2.2.2.2.1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6)) (m ((c.tc : Thread Cert.XattnKernelIdeal.nD Cert.XattnKernelIdeal.τ).loc Cert.XattnKernelIdeal.main_arg7)) (m ((c.tc : Thread Cert.XattnKernelIdeal.nD Cert.XattnKernelIdeal.τ).loc Cert.XattnKernelIdeal.main_arg8))).2.2.2.2.2.2.2.1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6)) (m ((c.tc : Thread Cert.XattnKernelIdeal.nD Cert.XattnKernelIdeal.τ).loc Cert.XattnKernelIdeal.main_arg7)) (m ((c.tc : Thread Cert.XattnKernelIdeal.nD Cert.XattnKernelIdeal.τ).loc Cert.XattnKernelIdeal.main_arg8))).2.2.2.2.2.2.2.2 = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_finite_xattn [hPre_finite_xattn : Cert.Pre_finite_xattn.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8))).1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8))).2.1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8))).2.2.1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8))).2.2.2.1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8))).2.2.2.2.1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8))).2.2.2.2.2.1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8))).2.2.2.2.2.2.1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8))).2.2.2.2.2.2.2.1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8))).2.2.2.2.2.2.2.2 = (fun _ => 1#1)

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_finite_pool [hPre_finite_pool : Cert.Pre_finite_pool.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).1 = (fun _ => 1#1)
    ∧ (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.1 = (fun _ => 1#1)
    ∧ (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.2.1 = (fun _ => 1#1)
    ∧ (Cert.Pre_finite_pool.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))).2.2.2 = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite_pool [hPre_finite_pool : Cert.Pre_finite_pool.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).1 = (fun _ => 1#1)
    ∧ (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.1 = (fun _ => 1#1)
    ∧ (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.2.1 = (fun _ => 1#1)
    ∧ (Cert.Pre_finite_pool.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))).2.2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_PoolFwdKernel (m : (ℓ : Loc Cert.PoolFwdKernel.nD Cert.PoolFwdKernel.τ Cert.PoolFwdKernel.sig) → Buf (Elt Bits) ℓ) : Prop :=
  True

def Pre_PoolFwdKernelIdeal (m : (ℓ : Loc Cert.PoolFwdKernelIdeal.nD Cert.PoolFwdKernelIdeal.τ Cert.PoolFwdKernelIdeal.sig) → Buf (Elt Ideal) ℓ) : Prop :=
  True

def Pre_PoolFwdKernelIdeal_finite_poolf [hPre_finite_poolf : Cert.Pre_finite_poolf.Facts] (m : (ℓ : Loc Cert.PoolFwdKernelIdeal.nD Cert.PoolFwdKernelIdeal.τ Cert.PoolFwdKernelIdeal.sig) → Buf (Elt Ideal) ℓ) : Prop :=
  ∀ c : Dev Cert.PoolFwdKernelIdeal.nD,
    (Cert.Pre_finite_poolf.fn (F := Ideal) (m ((c.tc : Thread Cert.PoolFwdKernelIdeal.nD Cert.PoolFwdKernelIdeal.τ).loc Cert.PoolFwdKernelIdeal.main_arg0)) (m ((c.tc : Thread Cert.PoolFwdKernelIdeal.nD Cert.PoolFwdKernelIdeal.τ).loc Cert.PoolFwdKernelIdeal.main_arg1)) (m ((c.tc : Thread Cert.PoolFwdKernelIdeal.nD Cert.PoolFwdKernelIdeal.τ).loc Cert.PoolFwdKernelIdeal.main_arg2))) = (fun _ => 1#1)

def Pre_PoolFwdReferenceIdeal (m : (ℓ : Loc Cert.PoolFwdReferenceIdeal.nD Cert.PoolFwdReferenceIdeal.τ Cert.PoolFwdReferenceIdeal.sig) → Buf (Elt Ideal) ℓ) : Prop :=
  True

def Pre_PoolFwdReferenceIdeal_finite_poolf [hPre_finite_poolf : Cert.Pre_finite_poolf.Facts] (m : (ℓ : Loc Cert.PoolFwdReferenceIdeal.nD Cert.PoolFwdReferenceIdeal.τ Cert.PoolFwdReferenceIdeal.sig) → Buf (Elt Ideal) ℓ) : Prop :=
  ∀ c : Dev Cert.PoolFwdReferenceIdeal.nD,
    (Cert.Pre_finite_poolf.fn (F := Ideal) (m ((c.tc : Thread Cert.PoolFwdReferenceIdeal.nD Cert.PoolFwdReferenceIdeal.τ).loc Cert.PoolFwdReferenceIdeal.main_arg0)) (m ((c.tc : Thread Cert.PoolFwdReferenceIdeal.nD Cert.PoolFwdReferenceIdeal.τ).loc Cert.PoolFwdReferenceIdeal.main_arg1)) (m ((c.tc : Thread Cert.PoolFwdReferenceIdeal.nD Cert.PoolFwdReferenceIdeal.τ).loc Cert.PoolFwdReferenceIdeal.main_arg2))) = (fun _ => 1#1)

def Pre_PairKernel (m : (ℓ : Loc Cert.PairKernel.nD Cert.PairKernel.τ Cert.PairKernel.sig) → Buf (Elt Bits) ℓ) : Prop :=
  True

def Pre_PairKernelIdeal (m : (ℓ : Loc Cert.PairKernelIdeal.nD Cert.PairKernelIdeal.τ Cert.PairKernelIdeal.sig) → Buf (Elt Ideal) ℓ) : Prop :=
  True

def Pre_PairReferenceIdeal (m : (ℓ : Loc Cert.PairReferenceIdeal.nD Cert.PairReferenceIdeal.τ Cert.PairReferenceIdeal.sig) → Buf (Elt Ideal) ℓ) : Prop :=
  True

def Pre_TnKernel (m : (ℓ : Loc Cert.TnKernel.nD Cert.TnKernel.τ Cert.TnKernel.sig) → Buf (Elt Bits) ℓ) : Prop :=
  True

def Pre_TnKernelIdeal (m : (ℓ : Loc Cert.TnKernelIdeal.nD Cert.TnKernelIdeal.τ Cert.TnKernelIdeal.sig) → Buf (Elt Ideal) ℓ) : Prop :=
  True

def Pre_TnReferenceIdeal (m : (ℓ : Loc Cert.TnReferenceIdeal.nD Cert.TnReferenceIdeal.τ Cert.TnReferenceIdeal.sig) → Buf (Elt Ideal) ℓ) : Prop :=
  True

def Pre_ChAddKernel (m : (ℓ : Loc Cert.ChAddKernel.nD Cert.ChAddKernel.τ Cert.ChAddKernel.sig) → Buf (Elt Bits) ℓ) : Prop :=
  True

def Pre_ChAddKernelIdeal (m : (ℓ : Loc Cert.ChAddKernelIdeal.nD Cert.ChAddKernelIdeal.τ Cert.ChAddKernelIdeal.sig) → Buf (Elt Ideal) ℓ) : Prop :=
  True

def Pre_ChAddReferenceIdeal (m : (ℓ : Loc Cert.ChAddReferenceIdeal.nD Cert.ChAddReferenceIdeal.τ Cert.ChAddReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_HalfKernel (m : (ℓ : Loc Cert.HalfKernel.nD Cert.HalfKernel.τ Cert.HalfKernel.sig) → Buf (Elt Bits) ℓ) : Prop :=
  True

def Pre_HalfKernelIdeal (m : (ℓ : Loc Cert.HalfKernelIdeal.nD Cert.HalfKernelIdeal.τ Cert.HalfKernelIdeal.sig) → Buf (Elt Ideal) ℓ) : Prop :=
  True

def Pre_HalfReferenceIdeal (m : (ℓ : Loc Cert.HalfReferenceIdeal.nD Cert.HalfReferenceIdeal.τ Cert.HalfReferenceIdeal.sig) → Buf (Elt Ideal) ℓ) : Prop :=
  True

def Pre_ChipKernel (m : (ℓ : Loc Cert.ChipKernel.nD Cert.ChipKernel.τ Cert.ChipKernel.sig) → Buf (Elt Bits) ℓ) : Prop :=
  True

def Pre_ChipKernelIdeal (m : (ℓ : Loc Cert.ChipKernelIdeal.nD Cert.ChipKernelIdeal.τ Cert.ChipKernelIdeal.sig) → Buf (Elt Ideal) ℓ) : Prop :=
  True

def Pre_ChipReferenceIdeal (m : (ℓ : Loc Cert.ChipReferenceIdeal.nD Cert.ChipReferenceIdeal.τ Cert.ChipReferenceIdeal.sig) → Buf (Elt Ideal) ℓ) : Prop :=
  True

def Pre_GatherKernel (m : (ℓ : Loc Cert.GatherKernel.nD Cert.GatherKernel.τ Cert.GatherKernel.sig) → Buf (Elt Bits) ℓ) : Prop :=
  True

def Pre_GatherKernelIdeal (m : (ℓ : Loc Cert.GatherKernelIdeal.nD Cert.GatherKernelIdeal.τ Cert.GatherKernelIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2)
      ∧ r.2.mem ((c.tc : Thread Cert.KvKernel.nD Cert.KvKernel.τ).loc Cert.KvKernel.main_arg3) = m ((c.tc : Thread Cert.KvKernel.nD Cert.KvKernel.τ).loc Cert.KvKernel.main_arg3)
      ∧ r.2.mem ((c.tc : Thread Cert.KvKernel.nD Cert.KvKernel.τ).loc Cert.KvKernel.main_arg4) = m ((c.tc : Thread Cert.KvKernel.nD Cert.KvKernel.τ).loc Cert.KvKernel.main_arg4)
      ∧ r.2.mem ((c.tc : Thread Cert.KvKernel.nD Cert.KvKernel.τ).loc Cert.KvKernel.main_arg5) = m ((c.tc : Thread Cert.KvKernel.nD Cert.KvKernel.τ).loc Cert.KvKernel.main_arg5))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
      ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3)
      ∧ r.2.mem ((c.tc : Thread Cert.KvKernelIdeal.nD Cert.KvKernelIdeal.τ).loc Cert.KvKernelIdeal.main_arg4) = m ((c.tc : Thread Cert.KvKernelIdeal.nD Cert.KvKernelIdeal.τ).loc Cert.KvKernelIdeal.main_arg4)
      ∧ r.2.mem ((c.tc : Thread Cert.KvKernelIdeal.nD Cert.KvKernelIdeal.τ).loc Cert.KvKernelIdeal.main_arg5) = m ((c.tc : Thread Cert.KvKernelIdeal.nD Cert.KvKernelIdeal.τ).loc Cert.KvKernelIdeal.main_arg5))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3)
      ∧ r.2.mem ((c.tc : Thread Cert.KvReferenceIdeal.nD Cert.KvReferenceIdeal.τ).loc Cert.KvReferenceIdeal.main_arg4) = m ((c.tc : Thread Cert.KvReferenceIdeal.nD Cert.KvReferenceIdeal.τ).loc Cert.KvReferenceIdeal.main_arg4)
      ∧ r.2.mem ((c.tc : Thread Cert.KvReferenceIdeal.nD Cert.KvReferenceIdeal.τ).loc Cert.KvReferenceIdeal.main_arg5) = m ((c.tc : Thread Cert.KvReferenceIdeal.nD Cert.KvReferenceIdeal.τ).loc Cert.KvReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ r.2.sem = fun _ => 0)

def quiescent_InKernelIdeal_pre_finite_in [hInKernelIdeal : Cert.InKernelIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite_in m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8))
      ∧ r.2.sem = fun _ => 0)

def quiescent_InReferenceIdeal_pre_finite_in [hInReferenceIdeal : Cert.InReferenceIdeal.Facts] [hPre_finite_in : Cert.Pre_finite_in.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite_in m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ r.2.sem = fun _ => 0)

def quiescent_MlpKernelIdeal_pre_finite_mlp [hMlpKernelIdeal : Cert.MlpKernelIdeal.Facts] [hPre_finite_mlp : Cert.Pre_finite_mlp.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal_finite_mlp m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_MlpReferenceIdeal_pre_finite_mlp [hMlpReferenceIdeal : Cert.MlpReferenceIdeal.Facts] [hPre_finite_mlp : Cert.Pre_finite_mlp.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_finite_mlp m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_XattnKernel [hXattnKernel : Cert.XattnKernel.Facts] : Prop :=
  ∀ (m : (ℓ : Loc Cert.XattnKernel.nD Cert.XattnKernel.τ Cert.XattnKernel.sig) → Buf (Elt Bits) ℓ) (g : Dev Cert.XattnKernel.nD → PrngReg), Pre_XattnKernel m →
    θ_run (Cert.XattnKernel.defs (F := Bits)) (onTc (τ := Cert.XattnKernel.τ) (Cert.XattnKernel.main (F := Bits))) ⟨m, fun _ => 0, g⟩ (fun r => (∀ c : Dev Cert.XattnKernel.nD,
      r.2.mem ((c.tc : Thread Cert.XattnKernel.nD Cert.XattnKernel.τ).loc Cert.XattnKernel.main_arg0) = m ((c.tc : Thread Cert.XattnKernel.nD Cert.XattnKernel.τ).loc Cert.XattnKernel.main_arg0)
      ∧ r.2.mem ((c.tc : Thread Cert.XattnKernel.nD Cert.XattnKernel.τ).loc Cert.XattnKernel.main_arg1) = m ((c.tc : Thread Cert.XattnKernel.nD Cert.XattnKernel.τ).loc Cert.XattnKernel.main_arg1)
      ∧ r.2.mem ((c.tc : Thread Cert.XattnKernel.nD Cert.XattnKernel.τ).loc Cert.XattnKernel.main_arg2) = m ((c.tc : Thread Cert.XattnKernel.nD Cert.XattnKernel.τ).loc Cert.XattnKernel.main_arg2)
      ∧ r.2.mem ((c.tc : Thread Cert.XattnKernel.nD Cert.XattnKernel.τ).loc Cert.XattnKernel.main_arg3) = m ((c.tc : Thread Cert.XattnKernel.nD Cert.XattnKernel.τ).loc Cert.XattnKernel.main_arg3)
      ∧ r.2.mem ((c.tc : Thread Cert.XattnKernel.nD Cert.XattnKernel.τ).loc Cert.XattnKernel.main_arg4) = m ((c.tc : Thread Cert.XattnKernel.nD Cert.XattnKernel.τ).loc Cert.XattnKernel.main_arg4)
      ∧ r.2.mem ((c.tc : Thread Cert.XattnKernel.nD Cert.XattnKernel.τ).loc Cert.XattnKernel.main_arg5) = m ((c.tc : Thread Cert.XattnKernel.nD Cert.XattnKernel.τ).loc Cert.XattnKernel.main_arg5)
      ∧ r.2.mem ((c.tc : Thread Cert.XattnKernel.nD Cert.XattnKernel.τ).loc Cert.XattnKernel.main_arg6) = m ((c.tc : Thread Cert.XattnKernel.nD Cert.XattnKernel.τ).loc Cert.XattnKernel.main_arg6)
      ∧ r.2.mem ((c.tc : Thread Cert.XattnKernel.nD Cert.XattnKernel.τ).loc Cert.XattnKernel.main_arg7) = m ((c.tc : Thread Cert.XattnKernel.nD Cert.XattnKernel.τ).loc Cert.XattnKernel.main_arg7)
      ∧ r.2.mem ((c.tc : Thread Cert.XattnKernel.nD Cert.XattnKernel.τ).loc Cert.XattnKernel.main_arg8) = m ((c.tc : Thread Cert.XattnKernel.nD Cert.XattnKernel.τ).loc Cert.XattnKernel.main_arg8))
      ∧ r.2.sem = fun _ => 0)

def quiescent_XattnKernelIdeal [hXattnKernelIdeal : Cert.XattnKernelIdeal.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
      ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
      ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
      ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5)
      ∧ r.2.mem ((c.tc : Thread Cert.XattnKernelIdeal.nD Cert.XattnKernelIdeal.τ).loc Cert.XattnKernelIdeal.main_arg6) = m ((c.tc : Thread Cert.XattnKernelIdeal.nD Cert.XattnKernelIdeal.τ).loc Cert.XattnKernelIdeal.main_arg6)
      ∧ r.2.mem ((c.tc : Thread Cert.XattnKernelIdeal.nD Cert.XattnKernelIdeal.τ).loc Cert.XattnKernelIdeal.main_arg7) = m ((c.tc : Thread Cert.XattnKernelIdeal.nD Cert.XattnKernelIdeal.τ).loc Cert.XattnKernelIdeal.main_arg7)
      ∧ r.2.mem ((c.tc : Thread Cert.XattnKernelIdeal.nD Cert.XattnKernelIdeal.τ).loc Cert.XattnKernelIdeal.main_arg8) = m ((c.tc : Thread Cert.XattnKernelIdeal.nD Cert.XattnKernelIdeal.τ).loc Cert.XattnKernelIdeal.main_arg8))
      ∧ r.2.sem = fun _ => 0)

def quiescent_XattnKernelIdeal_pre_finite_xattn [hXattnKernelIdeal : Cert.XattnKernelIdeal.Facts] [hPre_finite_xattn : Cert.Pre_finite_xattn.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal_finite_xattn m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
      ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
      ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
      ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5)
      ∧ r.2.mem ((c.tc : Thread Cert.XattnKernelIdeal.nD Cert.XattnKernelIdeal.τ).loc Cert.XattnKernelIdeal.main_arg6) = m ((c.tc : Thread Cert.XattnKernelIdeal.nD Cert.XattnKernelIdeal.τ).loc Cert.XattnKernelIdeal.main_arg6)
      ∧ r.2.mem ((c.tc : Thread Cert.XattnKernelIdeal.nD Cert.XattnKernelIdeal.τ).loc Cert.XattnKernelIdeal.main_arg7) = m ((c.tc : Thread Cert.XattnKernelIdeal.nD Cert.XattnKernelIdeal.τ).loc Cert.XattnKernelIdeal.main_arg7)
      ∧ r.2.mem ((c.tc : Thread Cert.XattnKernelIdeal.nD Cert.XattnKernelIdeal.τ).loc Cert.XattnKernelIdeal.main_arg8) = m ((c.tc : Thread Cert.XattnKernelIdeal.nD Cert.XattnKernelIdeal.τ).loc Cert.XattnKernelIdeal.main_arg8))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6)
      ∧ r.2.mem ((c.tc : Thread Cert.XattnReferenceIdeal.nD Cert.XattnReferenceIdeal.τ).loc Cert.XattnReferenceIdeal.main_arg7) = m ((c.tc : Thread Cert.XattnReferenceIdeal.nD Cert.XattnReferenceIdeal.τ).loc Cert.XattnReferenceIdeal.main_arg7)
      ∧ r.2.mem ((c.tc : Thread Cert.XattnReferenceIdeal.nD Cert.XattnReferenceIdeal.τ).loc Cert.XattnReferenceIdeal.main_arg8) = m ((c.tc : Thread Cert.XattnReferenceIdeal.nD Cert.XattnReferenceIdeal.τ).loc Cert.XattnReferenceIdeal.main_arg8))
      ∧ r.2.sem = fun _ => 0)

def quiescent_XattnReferenceIdeal_pre_finite_xattn [hXattnReferenceIdeal : Cert.XattnReferenceIdeal.Facts] [hPre_finite_xattn : Cert.Pre_finite_xattn.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_finite_xattn m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6)
      ∧ r.2.mem ((c.tc : Thread Cert.XattnReferenceIdeal.nD Cert.XattnReferenceIdeal.τ).loc Cert.XattnReferenceIdeal.main_arg7) = m ((c.tc : Thread Cert.XattnReferenceIdeal.nD Cert.XattnReferenceIdeal.τ).loc Cert.XattnReferenceIdeal.main_arg7)
      ∧ r.2.mem ((c.tc : Thread Cert.XattnReferenceIdeal.nD Cert.XattnReferenceIdeal.τ).loc Cert.XattnReferenceIdeal.main_arg8) = m ((c.tc : Thread Cert.XattnReferenceIdeal.nD Cert.XattnReferenceIdeal.τ).loc Cert.XattnReferenceIdeal.main_arg8))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolKernelIdeal_pre_finite_pool [hPoolKernelIdeal : Cert.PoolKernelIdeal.Facts] [hPre_finite_pool : Cert.Pre_finite_pool.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_finite_pool m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolReferenceIdeal_pre_finite_pool [hPoolReferenceIdeal : Cert.PoolReferenceIdeal.Facts] [hPre_finite_pool : Cert.Pre_finite_pool.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite_pool m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_PoolFwdKernel [hPoolFwdKernel : Cert.PoolFwdKernel.Facts] : Prop :=
  ∀ (m : (ℓ : Loc Cert.PoolFwdKernel.nD Cert.PoolFwdKernel.τ Cert.PoolFwdKernel.sig) → Buf (Elt Bits) ℓ) (g : Dev Cert.PoolFwdKernel.nD → PrngReg), Pre_PoolFwdKernel m →
    θ_run (Cert.PoolFwdKernel.defs (F := Bits)) (onTc (τ := Cert.PoolFwdKernel.τ) (Cert.PoolFwdKernel.main (F := Bits))) ⟨m, fun _ => 0, g⟩ (fun r => (∀ c : Dev Cert.PoolFwdKernel.nD,
      r.2.mem ((c.tc : Thread Cert.PoolFwdKernel.nD Cert.PoolFwdKernel.τ).loc Cert.PoolFwdKernel.main_arg0) = m ((c.tc : Thread Cert.PoolFwdKernel.nD Cert.PoolFwdKernel.τ).loc Cert.PoolFwdKernel.main_arg0)
      ∧ r.2.mem ((c.tc : Thread Cert.PoolFwdKernel.nD Cert.PoolFwdKernel.τ).loc Cert.PoolFwdKernel.main_arg1) = m ((c.tc : Thread Cert.PoolFwdKernel.nD Cert.PoolFwdKernel.τ).loc Cert.PoolFwdKernel.main_arg1)
      ∧ r.2.mem ((c.tc : Thread Cert.PoolFwdKernel.nD Cert.PoolFwdKernel.τ).loc Cert.PoolFwdKernel.main_arg2) = m ((c.tc : Thread Cert.PoolFwdKernel.nD Cert.PoolFwdKernel.τ).loc Cert.PoolFwdKernel.main_arg2))
      ∧ r.2.sem = fun _ => 0)

def quiescent_PoolFwdKernelIdeal [hPoolFwdKernelIdeal : Cert.PoolFwdKernelIdeal.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ r.2.sem = fun _ => 0)

def quiescent_PoolFwdKernelIdeal_pre_finite_poolf [hPoolFwdKernelIdeal : Cert.PoolFwdKernelIdeal.Facts] [hPre_finite_poolf : Cert.Pre_finite_poolf.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal_finite_poolf m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ r.2.sem = fun _ => 0)

def quiescent_PoolFwdReferenceIdeal [hPoolFwdReferenceIdeal : Cert.PoolFwdReferenceIdeal.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def quiescent_PoolFwdReferenceIdeal_pre_finite_poolf [hPoolFwdReferenceIdeal : Cert.PoolFwdReferenceIdeal.Facts] [hPre_finite_poolf : Cert.Pre_finite_poolf.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal_finite_poolf m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def quiescent_PairKernel [hPairKernel : Cert.PairKernel.Facts] : Prop :=
  ∀ (m : (ℓ : Loc Cert.PairKernel.nD Cert.PairKernel.τ Cert.PairKernel.sig) → Buf (Elt Bits) ℓ) (g : Dev Cert.PairKernel.nD → PrngReg), Pre_PairKernel m →
    θ_run (Cert.PairKernel.defs (F := Bits)) (onTc (τ := Cert.PairKernel.τ) (Cert.PairKernel.main (F := Bits))) ⟨m, fun _ => 0, g⟩ (fun r => (∀ c : Dev Cert.PairKernel.nD,
      r.2.mem ((c.tc : Thread Cert.PairKernel.nD Cert.PairKernel.τ).loc Cert.PairKernel.main_arg0) = m ((c.tc : Thread Cert.PairKernel.nD Cert.PairKernel.τ).loc Cert.PairKernel.main_arg0))
      ∧ r.2.sem = fun _ => 0)

def quiescent_PairKernelIdeal [hPairKernelIdeal : Cert.PairKernelIdeal.Facts] : Prop :=
  ∀ (m : (ℓ : Loc Cert.PairKernelIdeal.nD Cert.PairKernelIdeal.τ Cert.PairKernelIdeal.sig) → Buf (Elt Ideal) ℓ) (g : Dev Cert.PairKernelIdeal.nD → PrngReg), Pre_PairKernelIdeal m →
    θ_run (Cert.PairKernelIdeal.defs (F := Ideal)) (onTc (τ := Cert.PairKernelIdeal.τ) (Cert.PairKernelIdeal.main (F := Ideal))) ⟨m, fun _ => 0, g⟩ (fun r => (∀ c : Dev Cert.PairKernelIdeal.nD,
      r.2.mem ((c.tc : Thread Cert.PairKernelIdeal.nD Cert.PairKernelIdeal.τ).loc Cert.PairKernelIdeal.main_arg0) = m ((c.tc : Thread Cert.PairKernelIdeal.nD Cert.PairKernelIdeal.τ).loc Cert.PairKernelIdeal.main_arg0))
      ∧ r.2.sem = fun _ => 0)

def quiescent_PairReferenceIdeal [hPairReferenceIdeal : Cert.PairReferenceIdeal.Facts] : Prop :=
  ∀ (m : (ℓ : Loc Cert.PairReferenceIdeal.nD Cert.PairReferenceIdeal.τ Cert.PairReferenceIdeal.sig) → Buf (Elt Ideal) ℓ) (g : Dev Cert.PairReferenceIdeal.nD → PrngReg), Pre_PairReferenceIdeal m →
    θ_run (Cert.PairReferenceIdeal.defs (F := Ideal)) (onTc (τ := Cert.PairReferenceIdeal.τ) (Cert.PairReferenceIdeal.main (F := Ideal))) ⟨m, fun _ => 0, g⟩ (fun r => (∀ c : Dev Cert.PairReferenceIdeal.nD,
      r.2.mem ((c.tc : Thread Cert.PairReferenceIdeal.nD Cert.PairReferenceIdeal.τ).loc Cert.PairReferenceIdeal.main_arg0) = m ((c.tc : Thread Cert.PairReferenceIdeal.nD Cert.PairReferenceIdeal.τ).loc Cert.PairReferenceIdeal.main_arg0))
      ∧ r.2.sem = fun _ => 0)

def quiescent_TnKernel [hTnKernel : Cert.TnKernel.Facts] : Prop :=
  ∀ (m : (ℓ : Loc Cert.TnKernel.nD Cert.TnKernel.τ Cert.TnKernel.sig) → Buf (Elt Bits) ℓ) (g : Dev Cert.TnKernel.nD → PrngReg), Pre_TnKernel m →
    θ_run (Cert.TnKernel.defs (F := Bits)) (onTc (τ := Cert.TnKernel.τ) (Cert.TnKernel.main (F := Bits))) ⟨m, fun _ => 0, g⟩ (fun r => (∀ c : Dev Cert.TnKernel.nD,
      r.2.mem ((c.tc : Thread Cert.TnKernel.nD Cert.TnKernel.τ).loc Cert.TnKernel.main_arg0) = m ((c.tc : Thread Cert.TnKernel.nD Cert.TnKernel.τ).loc Cert.TnKernel.main_arg0)
      ∧ r.2.mem ((c.tc : Thread Cert.TnKernel.nD Cert.TnKernel.τ).loc Cert.TnKernel.main_arg1) = m ((c.tc : Thread Cert.TnKernel.nD Cert.TnKernel.τ).loc Cert.TnKernel.main_arg1))
      ∧ r.2.sem = fun _ => 0)

def quiescent_TnKernelIdeal [hTnKernelIdeal : Cert.TnKernelIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg), Pre_TnKernelIdeal m →
    θ_run (Cert.TnKernelIdeal.defs (F := Ideal)) (onTc (τ := Cert.TnKernelIdeal.τ) (Cert.TnKernelIdeal.main (F := Ideal))) ⟨m, fun _ => 0, g⟩ (fun r => (∀ c : Dev Cert.TnKernelIdeal.nD,
      r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
      ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ r.2.sem = fun _ => 0)

def quiescent_TnReferenceIdeal [hTnReferenceIdeal : Cert.TnReferenceIdeal.Facts] : Prop :=
  ∀ (m : (ℓ : Loc Cert.TnReferenceIdeal.nD Cert.TnReferenceIdeal.τ Cert.TnReferenceIdeal.sig) → Buf (Elt Ideal) ℓ) (g : Dev Cert.TnReferenceIdeal.nD → PrngReg), Pre_TnReferenceIdeal m →
    θ_run (Cert.TnReferenceIdeal.defs (F := Ideal)) (onTc (τ := Cert.TnReferenceIdeal.τ) (Cert.TnReferenceIdeal.main (F := Ideal))) ⟨m, fun _ => 0, g⟩ (fun r => (∀ c : Dev Cert.TnReferenceIdeal.nD,
      r.2.mem ((c.tc : Thread Cert.TnReferenceIdeal.nD Cert.TnReferenceIdeal.τ).loc Cert.TnReferenceIdeal.main_arg0) = m ((c.tc : Thread Cert.TnReferenceIdeal.nD Cert.TnReferenceIdeal.τ).loc Cert.TnReferenceIdeal.main_arg0)
      ∧ r.2.mem ((c.tc : Thread Cert.TnReferenceIdeal.nD Cert.TnReferenceIdeal.τ).loc Cert.TnReferenceIdeal.main_arg1) = m ((c.tc : Thread Cert.TnReferenceIdeal.nD Cert.TnReferenceIdeal.τ).loc Cert.TnReferenceIdeal.main_arg1))
      ∧ r.2.sem = fun _ => 0)

def quiescent_ChAddKernel [hChAddKernel : Cert.ChAddKernel.Facts] : Prop :=
  ∀ (m : (ℓ : Loc Cert.ChAddKernel.nD Cert.ChAddKernel.τ Cert.ChAddKernel.sig) → Buf (Elt Bits) ℓ) (g : Dev Cert.ChAddKernel.nD → PrngReg), Pre_ChAddKernel m →
    θ_run (Cert.ChAddKernel.defs (F := Bits)) (onTc (τ := Cert.ChAddKernel.τ) (Cert.ChAddKernel.main (F := Bits))) ⟨m, fun _ => 0, g⟩ (fun r => (∀ c : Dev Cert.ChAddKernel.nD,
      r.2.mem ((c.tc : Thread Cert.ChAddKernel.nD Cert.ChAddKernel.τ).loc Cert.ChAddKernel.main_arg0) = m ((c.tc : Thread Cert.ChAddKernel.nD Cert.ChAddKernel.τ).loc Cert.ChAddKernel.main_arg0)
      ∧ r.2.mem ((c.tc : Thread Cert.ChAddKernel.nD Cert.ChAddKernel.τ).loc Cert.ChAddKernel.main_arg1) = m ((c.tc : Thread Cert.ChAddKernel.nD Cert.ChAddKernel.τ).loc Cert.ChAddKernel.main_arg1))
      ∧ r.2.sem = fun _ => 0)

def quiescent_ChAddKernelIdeal [hChAddKernelIdeal : Cert.ChAddKernelIdeal.Facts] : Prop :=
  ∀ (m : (ℓ : Loc Cert.ChAddKernelIdeal.nD Cert.ChAddKernelIdeal.τ Cert.ChAddKernelIdeal.sig) → Buf (Elt Ideal) ℓ) (g : Dev Cert.ChAddKernelIdeal.nD → PrngReg), Pre_ChAddKernelIdeal m →
    θ_run (Cert.ChAddKernelIdeal.defs (F := Ideal)) (onTc (τ := Cert.ChAddKernelIdeal.τ) (Cert.ChAddKernelIdeal.main (F := Ideal))) ⟨m, fun _ => 0, g⟩ (fun r => (∀ c : Dev Cert.ChAddKernelIdeal.nD,
      r.2.mem ((c.tc : Thread Cert.ChAddKernelIdeal.nD Cert.ChAddKernelIdeal.τ).loc Cert.ChAddKernelIdeal.main_arg0) = m ((c.tc : Thread Cert.ChAddKernelIdeal.nD Cert.ChAddKernelIdeal.τ).loc Cert.ChAddKernelIdeal.main_arg0)
      ∧ r.2.mem ((c.tc : Thread Cert.ChAddKernelIdeal.nD Cert.ChAddKernelIdeal.τ).loc Cert.ChAddKernelIdeal.main_arg1) = m ((c.tc : Thread Cert.ChAddKernelIdeal.nD Cert.ChAddKernelIdeal.τ).loc Cert.ChAddKernelIdeal.main_arg1))
      ∧ r.2.sem = fun _ => 0)

def quiescent_ChAddReferenceIdeal [hChAddReferenceIdeal : Cert.ChAddReferenceIdeal.Facts] : Prop :=
  ∀ (m : (ℓ : Loc Cert.ChAddReferenceIdeal.nD Cert.ChAddReferenceIdeal.τ Cert.ChAddReferenceIdeal.sig) → Buf (Elt Ideal) ℓ) (g : Dev Cert.ChAddReferenceIdeal.nD → PrngReg), Pre_ChAddReferenceIdeal m →
    θ_run (Cert.ChAddReferenceIdeal.defs (F := Ideal)) (onTc (τ := Cert.ChAddReferenceIdeal.τ) (Cert.ChAddReferenceIdeal.main (F := Ideal))) ⟨m, fun _ => 0, g⟩ (fun r => (∀ c : Dev Cert.ChAddReferenceIdeal.nD,
      r.2.mem ((c.tc : Thread Cert.ChAddReferenceIdeal.nD Cert.ChAddReferenceIdeal.τ).loc Cert.ChAddReferenceIdeal.main_arg0) = m ((c.tc : Thread Cert.ChAddReferenceIdeal.nD Cert.ChAddReferenceIdeal.τ).loc Cert.ChAddReferenceIdeal.main_arg0)
      ∧ r.2.mem ((c.tc : Thread Cert.ChAddReferenceIdeal.nD Cert.ChAddReferenceIdeal.τ).loc Cert.ChAddReferenceIdeal.main_arg1) = m ((c.tc : Thread Cert.ChAddReferenceIdeal.nD Cert.ChAddReferenceIdeal.τ).loc Cert.ChAddReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4)
      ∧ r.2.mem ((c.tc : Thread Cert.AdamKernel.nD Cert.AdamKernel.τ).loc Cert.AdamKernel.main_arg5) = m ((c.tc : Thread Cert.AdamKernel.nD Cert.AdamKernel.τ).loc Cert.AdamKernel.main_arg5))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
      ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5))
      ∧ r.2.sem = fun _ => 0)

def quiescent_HalfKernel [hHalfKernel : Cert.HalfKernel.Facts] : Prop :=
  ∀ (m : (ℓ : Loc Cert.HalfKernel.nD Cert.HalfKernel.τ Cert.HalfKernel.sig) → Buf (Elt Bits) ℓ) (g : Dev Cert.HalfKernel.nD → PrngReg), Pre_HalfKernel m →
    θ_run (Cert.HalfKernel.defs (F := Bits)) (onTc (τ := Cert.HalfKernel.τ) (Cert.HalfKernel.main (F := Bits))) ⟨m, fun _ => 0, g⟩ (fun r => (∀ c : Dev Cert.HalfKernel.nD,
      r.2.mem ((c.tc : Thread Cert.HalfKernel.nD Cert.HalfKernel.τ).loc Cert.HalfKernel.main_arg0) = m ((c.tc : Thread Cert.HalfKernel.nD Cert.HalfKernel.τ).loc Cert.HalfKernel.main_arg0))
      ∧ r.2.sem = fun _ => 0)

def quiescent_HalfKernelIdeal [hHalfKernelIdeal : Cert.HalfKernelIdeal.Facts] : Prop :=
  ∀ (m : (ℓ : Loc Cert.HalfKernelIdeal.nD Cert.HalfKernelIdeal.τ Cert.HalfKernelIdeal.sig) → Buf (Elt Ideal) ℓ) (g : Dev Cert.HalfKernelIdeal.nD → PrngReg), Pre_HalfKernelIdeal m →
    θ_run (Cert.HalfKernelIdeal.defs (F := Ideal)) (onTc (τ := Cert.HalfKernelIdeal.τ) (Cert.HalfKernelIdeal.main (F := Ideal))) ⟨m, fun _ => 0, g⟩ (fun r => (∀ c : Dev Cert.HalfKernelIdeal.nD,
      r.2.mem ((c.tc : Thread Cert.HalfKernelIdeal.nD Cert.HalfKernelIdeal.τ).loc Cert.HalfKernelIdeal.main_arg0) = m ((c.tc : Thread Cert.HalfKernelIdeal.nD Cert.HalfKernelIdeal.τ).loc Cert.HalfKernelIdeal.main_arg0))
      ∧ r.2.sem = fun _ => 0)

def quiescent_HalfReferenceIdeal [hHalfReferenceIdeal : Cert.HalfReferenceIdeal.Facts] : Prop :=
  ∀ (m : (ℓ : Loc Cert.HalfReferenceIdeal.nD Cert.HalfReferenceIdeal.τ Cert.HalfReferenceIdeal.sig) → Buf (Elt Ideal) ℓ) (g : Dev Cert.HalfReferenceIdeal.nD → PrngReg), Pre_HalfReferenceIdeal m →
    θ_run (Cert.HalfReferenceIdeal.defs (F := Ideal)) (onTc (τ := Cert.HalfReferenceIdeal.τ) (Cert.HalfReferenceIdeal.main (F := Ideal))) ⟨m, fun _ => 0, g⟩ (fun r => (∀ c : Dev Cert.HalfReferenceIdeal.nD,
      r.2.mem ((c.tc : Thread Cert.HalfReferenceIdeal.nD Cert.HalfReferenceIdeal.τ).loc Cert.HalfReferenceIdeal.main_arg0) = m ((c.tc : Thread Cert.HalfReferenceIdeal.nD Cert.HalfReferenceIdeal.τ).loc Cert.HalfReferenceIdeal.main_arg0))
      ∧ r.2.sem = fun _ => 0)

def quiescent_ChipKernel [hChipKernel : Cert.ChipKernel.Facts] : Prop :=
  ∀ (m : (ℓ : Loc Cert.ChipKernel.nD Cert.ChipKernel.τ Cert.ChipKernel.sig) → Buf (Elt Bits) ℓ) (g : Dev Cert.ChipKernel.nD → PrngReg), Pre_ChipKernel m →
    θ_run (Cert.ChipKernel.defs (F := Bits)) (onTc (τ := Cert.ChipKernel.τ) (Cert.ChipKernel.main (F := Bits))) ⟨m, fun _ => 0, g⟩ (fun r => (∀ c : Dev Cert.ChipKernel.nD,
      r.2.mem ((c.tc : Thread Cert.ChipKernel.nD Cert.ChipKernel.τ).loc Cert.ChipKernel.main_arg0) = m ((c.tc : Thread Cert.ChipKernel.nD Cert.ChipKernel.τ).loc Cert.ChipKernel.main_arg0))
      ∧ r.2.sem = fun _ => 0)

def quiescent_ChipKernelIdeal [hChipKernelIdeal : Cert.ChipKernelIdeal.Facts] : Prop :=
  ∀ (m : (ℓ : Loc Cert.ChipKernelIdeal.nD Cert.ChipKernelIdeal.τ Cert.ChipKernelIdeal.sig) → Buf (Elt Ideal) ℓ) (g : Dev Cert.ChipKernelIdeal.nD → PrngReg), Pre_ChipKernelIdeal m →
    θ_run (Cert.ChipKernelIdeal.defs (F := Ideal)) (onTc (τ := Cert.ChipKernelIdeal.τ) (Cert.ChipKernelIdeal.main (F := Ideal))) ⟨m, fun _ => 0, g⟩ (fun r => (∀ c : Dev Cert.ChipKernelIdeal.nD,
      r.2.mem ((c.tc : Thread Cert.ChipKernelIdeal.nD Cert.ChipKernelIdeal.τ).loc Cert.ChipKernelIdeal.main_arg0) = m ((c.tc : Thread Cert.ChipKernelIdeal.nD Cert.ChipKernelIdeal.τ).loc Cert.ChipKernelIdeal.main_arg0))
      ∧ r.2.sem = fun _ => 0)

def quiescent_ChipReferenceIdeal [hChipReferenceIdeal : Cert.ChipReferenceIdeal.Facts] : Prop :=
  ∀ (m : (ℓ : Loc Cert.ChipReferenceIdeal.nD Cert.ChipReferenceIdeal.τ Cert.ChipReferenceIdeal.sig) → Buf (Elt Ideal) ℓ) (g : Dev Cert.ChipReferenceIdeal.nD → PrngReg), Pre_ChipReferenceIdeal m →
    θ_run (Cert.ChipReferenceIdeal.defs (F := Ideal)) (onTc (τ := Cert.ChipReferenceIdeal.τ) (Cert.ChipReferenceIdeal.main (F := Ideal))) ⟨m, fun _ => 0, g⟩ (fun r => (∀ c : Dev Cert.ChipReferenceIdeal.nD,
      r.2.mem ((c.tc : Thread Cert.ChipReferenceIdeal.nD Cert.ChipReferenceIdeal.τ).loc Cert.ChipReferenceIdeal.main_arg0) = m ((c.tc : Thread Cert.ChipReferenceIdeal.nD Cert.ChipReferenceIdeal.τ).loc Cert.ChipReferenceIdeal.main_arg0))
      ∧ r.2.sem = fun _ => 0)

def quiescent_GatherKernel [hGatherKernel : Cert.GatherKernel.Facts] : Prop :=
  ∀ (m : (ℓ : Loc Cert.GatherKernel.nD Cert.GatherKernel.τ Cert.GatherKernel.sig) → Buf (Elt Bits) ℓ) (g : Dev Cert.GatherKernel.nD → PrngReg), Pre_GatherKernel m →
    θ_run (Cert.GatherKernel.defs (F := Bits)) (onTc (τ := Cert.GatherKernel.τ) (Cert.GatherKernel.main (F := Bits))) ⟨m, fun _ => 0, g⟩ (fun r => (∀ c : Dev Cert.GatherKernel.nD,
      r.2.mem ((c.tc : Thread Cert.GatherKernel.nD Cert.GatherKernel.τ).loc Cert.GatherKernel.main_arg0) = m ((c.tc : Thread Cert.GatherKernel.nD Cert.GatherKernel.τ).loc Cert.GatherKernel.main_arg0))
      ∧ r.2.sem = fun _ => 0)

def quiescent_GatherKernelIdeal [hGatherKernelIdeal : Cert.GatherKernelIdeal.Facts] : Prop :=
  ∀ (m : (ℓ : Loc Cert.GatherKernelIdeal.nD Cert.GatherKernelIdeal.τ Cert.GatherKernelIdeal.sig) → Buf (Elt Ideal) ℓ) (g : Dev Cert.GatherKernelIdeal.nD → PrngReg), Pre_GatherKernelIdeal m →
    θ_run (Cert.GatherKernelIdeal.defs (F := Ideal)) (onTc (τ := Cert.GatherKernelIdeal.τ) (Cert.GatherKernelIdeal.main (F := Ideal))) ⟨m, fun _ => 0, g⟩ (fun r => (∀ c : Dev Cert.GatherKernelIdeal.nD,
      r.2.mem ((c.tc : Thread Cert.GatherKernelIdeal.nD Cert.GatherKernelIdeal.τ).loc Cert.GatherKernelIdeal.main_arg0) = m ((c.tc : Thread Cert.GatherKernelIdeal.nD Cert.GatherKernelIdeal.τ).loc Cert.GatherKernelIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)
      ∧ m' ((c.tc : Thread Cert.KvReferenceIdeal.nD Cert.KvReferenceIdeal.τ).loc Cert.KvReferenceIdeal.main_arg2) = m ((c.tc : Thread Cert.KvKernelIdeal.nD Cert.KvKernelIdeal.τ).loc Cert.KvKernelIdeal.main_arg2)
      ∧ m' ((c.tc : Thread Cert.KvReferenceIdeal.nD Cert.KvReferenceIdeal.τ).loc Cert.KvReferenceIdeal.main_arg3) = m ((c.tc : Thread Cert.KvKernelIdeal.nD Cert.KvKernelIdeal.τ).loc Cert.KvKernelIdeal.main_arg3)
      ∧ m' ((c.tc : Thread Cert.KvReferenceIdeal.nD Cert.KvReferenceIdeal.τ).loc Cert.KvReferenceIdeal.main_arg4) = m ((c.tc : Thread Cert.KvKernelIdeal.nD Cert.KvKernelIdeal.τ).loc Cert.KvKernelIdeal.main_arg4)
      ∧ m' ((c.tc : Thread Cert.KvReferenceIdeal.nD Cert.KvReferenceIdeal.τ).loc Cert.KvReferenceIdeal.main_arg5) = m ((c.tc : Thread Cert.KvKernelIdeal.nD Cert.KvKernelIdeal.τ).loc Cert.KvKernelIdeal.main_arg5)) →
    ∃ (v0 : (c : Dev Cert.KvKernelIdeal.nD) → Buf (Elt Ideal) ((c.tc : Thread Cert.KvKernelIdeal.nD Cert.KvKernelIdeal.τ).loc Cert.KvKernelIdeal.main_v9_0)) (v1 : (c : Dev Cert.KvKernelIdeal.nD) → Buf (Elt Ideal) ((c.tc : Thread Cert.KvKernelIdeal.nD Cert.KvKernelIdeal.τ).loc Cert.KvKernelIdeal.main_v9_1)) (v2 : (c : Dev Cert.KvKernelIdeal.nD) → Buf (Elt Ideal) ((c.tc : Thread Cert.KvKernelIdeal.nD Cert.KvKernelIdeal.τ).loc Cert.KvKernelIdeal.main_v9_2)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v9_0) = v0 c
          ∧ r.2.mem ((c.tc : Thread Cert.KvKernelIdeal.nD Cert.KvKernelIdeal.τ).loc Cert.KvKernelIdeal.main_v9_1) = v1 c
          ∧ r.2.mem ((c.tc : Thread Cert.KvKernelIdeal.nD Cert.KvKernelIdeal.τ).loc Cert.KvKernelIdeal.main_v9_2) = v2 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
          ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3)
          ∧ r.2.mem ((c.tc : Thread Cert.KvKernelIdeal.nD Cert.KvKernelIdeal.τ).loc Cert.KvKernelIdeal.main_arg4) = m ((c.tc : Thread Cert.KvKernelIdeal.nD Cert.KvKernelIdeal.τ).loc Cert.KvKernelIdeal.main_arg4)
          ∧ r.2.mem ((c.tc : Thread Cert.KvKernelIdeal.nD Cert.KvKernelIdeal.τ).loc Cert.KvKernelIdeal.main_arg5) = m ((c.tc : Thread Cert.KvKernelIdeal.nD Cert.KvKernelIdeal.τ).loc Cert.KvKernelIdeal.main_arg5))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v32) = v0 c
          ∧ r.2.mem ((c.tc : Thread Cert.KvReferenceIdeal.nD Cert.KvReferenceIdeal.τ).loc Cert.KvReferenceIdeal.main_v33) = v1 c
          ∧ r.2.mem ((c.tc : Thread Cert.KvReferenceIdeal.nD Cert.KvReferenceIdeal.τ).loc Cert.KvReferenceIdeal.main_v35) = v2 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3)
          ∧ r.2.mem ((c.tc : Thread Cert.KvReferenceIdeal.nD Cert.KvReferenceIdeal.τ).loc Cert.KvReferenceIdeal.main_arg4) = m' ((c.tc : Thread Cert.KvReferenceIdeal.nD Cert.KvReferenceIdeal.τ).loc Cert.KvReferenceIdeal.main_arg4)
          ∧ r.2.mem ((c.tc : Thread Cert.KvReferenceIdeal.nD Cert.KvReferenceIdeal.τ).loc Cert.KvReferenceIdeal.main_arg5) = m' ((c.tc : Thread Cert.KvReferenceIdeal.nD Cert.KvReferenceIdeal.τ).loc Cert.KvReferenceIdeal.main_arg5))

def preserves_InKernel_InKernelIdeal : Prop :=
  True

def algebraic_InKernelIdeal_InReferenceIdeal_pre_finite_in [hInKernelIdeal : Cert.InKernelIdeal.Facts] [hInReferenceIdeal : Cert.InReferenceIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite_in m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)) →
    ∃ (v0 : (c : Dev Cert.InKernelIdeal.nD) → Buf (Elt Ideal) ((c.tc : Thread Cert.InKernelIdeal.nD Cert.InKernelIdeal.τ).loc Cert.InKernelIdeal.main_v11_0)) (v1 : (c : Dev Cert.InKernelIdeal.nD) → Buf (Elt Ideal) ((c.tc : Thread Cert.InKernelIdeal.nD Cert.InKernelIdeal.τ).loc Cert.InKernelIdeal.main_v11_1)) (v2 : (c : Dev Cert.InKernelIdeal.nD) → Buf (Elt Ideal) ((c.tc : Thread Cert.InKernelIdeal.nD Cert.InKernelIdeal.τ).loc Cert.InKernelIdeal.main_v11_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v11_0) = v0 c
          ∧ r.2.mem ((c.tc : Thread Cert.InKernelIdeal.nD Cert.InKernelIdeal.τ).loc Cert.InKernelIdeal.main_v11_1) = v1 c
          ∧ r.2.mem ((c.tc : Thread Cert.InKernelIdeal.nD Cert.InKernelIdeal.τ).loc Cert.InKernelIdeal.main_v11_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v50) = v0 c
          ∧ r.2.mem ((c.tc : Thread Cert.InReferenceIdeal.nD Cert.InReferenceIdeal.τ).loc Cert.InReferenceIdeal.main_v52) = v1 c
          ∧ r.2.mem ((c.tc : Thread Cert.InReferenceIdeal.nD Cert.InReferenceIdeal.τ).loc Cert.InReferenceIdeal.main_v54) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8))

def preserves_MlpKernel_MlpKernelIdeal : Prop :=
  True

def algebraic_MlpKernelIdeal_MlpReferenceIdeal_pre_finite_mlp [hMlpKernelIdeal : Cert.MlpKernelIdeal.Facts] [hMlpReferenceIdeal : Cert.MlpReferenceIdeal.Facts] [hPre_finite_mlp : Cert.Pre_finite_mlp.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal_finite_mlp m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)) →
    ∃ (v0 : (c : Dev Cert.MlpKernelIdeal.nD) → Buf (Elt Ideal) ((c.tc : Thread Cert.MlpKernelIdeal.nD Cert.MlpKernelIdeal.τ).loc Cert.MlpKernelIdeal.main_v28_0)) (v1 : (c : Dev Cert.MlpKernelIdeal.nD) → Buf (Elt Ideal) ((c.tc : Thread Cert.MlpKernelIdeal.nD Cert.MlpKernelIdeal.τ).loc Cert.MlpKernelIdeal.main_v28_1)) (v2 : (c : Dev Cert.MlpKernelIdeal.nD) → Buf (Elt Ideal) ((c.tc : Thread Cert.MlpKernelIdeal.nD Cert.MlpKernelIdeal.τ).loc Cert.MlpKernelIdeal.main_v28_2)) (v3 : (c : Dev Cert.MlpKernelIdeal.nD) → Buf (Elt Ideal) ((c.tc : Thread Cert.MlpKernelIdeal.nD Cert.MlpKernelIdeal.τ).loc Cert.MlpKernelIdeal.main_v28_3)) (v4 : (c : Dev Cert.MlpKernelIdeal.nD) → Buf (Elt Ideal) ((c.tc : Thread Cert.MlpKernelIdeal.nD Cert.MlpKernelIdeal.τ).loc Cert.MlpKernelIdeal.main_v28_4)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v28_0) = v0 c
          ∧ r.2.mem ((c.tc : Thread Cert.MlpKernelIdeal.nD Cert.MlpKernelIdeal.τ).loc Cert.MlpKernelIdeal.main_v28_1) = v1 c
          ∧ r.2.mem ((c.tc : Thread Cert.MlpKernelIdeal.nD Cert.MlpKernelIdeal.τ).loc Cert.MlpKernelIdeal.main_v28_2) = v2 c
          ∧ r.2.mem ((c.tc : Thread Cert.MlpKernelIdeal.nD Cert.MlpKernelIdeal.τ).loc Cert.MlpKernelIdeal.main_v28_3) = v3 c
          ∧ r.2.mem ((c.tc : Thread Cert.MlpKernelIdeal.nD Cert.MlpKernelIdeal.τ).loc Cert.MlpKernelIdeal.main_v28_4) = v4 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v90) = v0 c
          ∧ r.2.mem ((c.tc : Thread Cert.MlpReferenceIdeal.nD Cert.MlpReferenceIdeal.τ).loc Cert.MlpReferenceIdeal.main_v92) = v1 c
          ∧ r.2.mem ((c.tc : Thread Cert.MlpReferenceIdeal.nD Cert.MlpReferenceIdeal.τ).loc Cert.MlpReferenceIdeal.main_v93) = v2 c
          ∧ r.2.mem ((c.tc : Thread Cert.MlpReferenceIdeal.nD Cert.MlpReferenceIdeal.τ).loc Cert.MlpReferenceIdeal.main_v95) = v3 c
          ∧ r.2.mem ((c.tc : Thread Cert.MlpReferenceIdeal.nD Cert.MlpReferenceIdeal.τ).loc Cert.MlpReferenceIdeal.main_v97) = v4 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v10_0)) (v1 : (c : Dev Cert.LossKernelIdeal.nD) → Buf (Elt Ideal) ((c.tc : Thread Cert.LossKernelIdeal.nD Cert.LossKernelIdeal.τ).loc Cert.LossKernelIdeal.main_v10_1)) (v2 : (c : Dev Cert.LossKernelIdeal.nD) → Buf (Elt Ideal) ((c.tc : Thread Cert.LossKernelIdeal.nD Cert.LossKernelIdeal.τ).loc Cert.LossKernelIdeal.main_v10_2)) (v3 : (c : Dev Cert.LossKernelIdeal.nD) → Buf (Elt Ideal) ((c.tc : Thread Cert.LossKernelIdeal.nD Cert.LossKernelIdeal.τ).loc Cert.LossKernelIdeal.main_v10_3)) (v4 : (c : Dev Cert.LossKernelIdeal.nD) → Buf (Elt Ideal) ((c.tc : Thread Cert.LossKernelIdeal.nD Cert.LossKernelIdeal.τ).loc Cert.LossKernelIdeal.main_v10_4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v10_0) = v0 c
          ∧ r.2.mem ((c.tc : Thread Cert.LossKernelIdeal.nD Cert.LossKernelIdeal.τ).loc Cert.LossKernelIdeal.main_v10_1) = v1 c
          ∧ r.2.mem ((c.tc : Thread Cert.LossKernelIdeal.nD Cert.LossKernelIdeal.τ).loc Cert.LossKernelIdeal.main_v10_2) = v2 c
          ∧ r.2.mem ((c.tc : Thread Cert.LossKernelIdeal.nD Cert.LossKernelIdeal.τ).loc Cert.LossKernelIdeal.main_v10_3) = v3 c
          ∧ r.2.mem ((c.tc : Thread Cert.LossKernelIdeal.nD Cert.LossKernelIdeal.τ).loc Cert.LossKernelIdeal.main_v10_4) = v4 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v77) = v0 c
          ∧ r.2.mem ((c.tc : Thread Cert.LossReferenceIdeal.nD Cert.LossReferenceIdeal.τ).loc Cert.LossReferenceIdeal.main_v79) = v1 c
          ∧ r.2.mem ((c.tc : Thread Cert.LossReferenceIdeal.nD Cert.LossReferenceIdeal.τ).loc Cert.LossReferenceIdeal.main_v80) = v2 c
          ∧ r.2.mem ((c.tc : Thread Cert.LossReferenceIdeal.nD Cert.LossReferenceIdeal.τ).loc Cert.LossReferenceIdeal.main_v82) = v3 c
          ∧ r.2.mem ((c.tc : Thread Cert.LossReferenceIdeal.nD Cert.LossReferenceIdeal.τ).loc Cert.LossReferenceIdeal.main_v76) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_XattnKernel_XattnKernelIdeal : Prop :=
  True

def algebraic_XattnKernelIdeal_XattnReferenceIdeal_pre_finite_xattn [hXattnKernelIdeal : Cert.XattnKernelIdeal.Facts] [hXattnReferenceIdeal : Cert.XattnReferenceIdeal.Facts] [hPre_finite_xattn : Cert.Pre_finite_xattn.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnKernelIdeal_finite_xattn m →
    (∀ c : Dev Cert.XattnKernelIdeal.nD,
      m' ((c.tc : Thread Cert.XattnReferenceIdeal.nD Cert.XattnReferenceIdeal.τ).loc Cert.XattnReferenceIdeal.main_arg0) = m ((c.tc : Thread Cert.XattnKernelIdeal.nD Cert.XattnKernelIdeal.τ).loc Cert.XattnKernelIdeal.main_arg0)
      ∧ m' ((c.tc : Thread Cert.XattnReferenceIdeal.nD Cert.XattnReferenceIdeal.τ).loc Cert.XattnReferenceIdeal.main_arg1) = m ((c.tc : Thread Cert.XattnKernelIdeal.nD Cert.XattnKernelIdeal.τ).loc Cert.XattnKernelIdeal.main_arg1)
      ∧ m' ((c.tc : Thread Cert.XattnReferenceIdeal.nD Cert.XattnReferenceIdeal.τ).loc Cert.XattnReferenceIdeal.main_arg2) = m ((c.tc : Thread Cert.XattnKernelIdeal.nD Cert.XattnKernelIdeal.τ).loc Cert.XattnKernelIdeal.main_arg2)
      ∧ m' ((c.tc : Thread Cert.XattnReferenceIdeal.nD Cert.XattnReferenceIdeal.τ).loc Cert.XattnReferenceIdeal.main_arg3) = m ((c.tc : Thread Cert.XattnKernelIdeal.nD Cert.XattnKernelIdeal.τ).loc Cert.XattnKernelIdeal.main_arg3)
      ∧ m' ((c.tc : Thread Cert.XattnReferenceIdeal.nD Cert.XattnReferenceIdeal.τ).loc Cert.XattnReferenceIdeal.main_arg4) = m ((c.tc : Thread Cert.XattnKernelIdeal.nD Cert.XattnKernelIdeal.τ).loc Cert.XattnKernelIdeal.main_arg4)
      ∧ m' ((c.tc : Thread Cert.XattnReferenceIdeal.nD Cert.XattnReferenceIdeal.τ).loc Cert.XattnReferenceIdeal.main_arg5) = m ((c.tc : Thread Cert.XattnKernelIdeal.nD Cert.XattnKernelIdeal.τ).loc Cert.XattnKernelIdeal.main_arg5)
      ∧ m' ((c.tc : Thread Cert.XattnReferenceIdeal.nD Cert.XattnReferenceIdeal.τ).loc Cert.XattnReferenceIdeal.main_arg6) = m ((c.tc : Thread Cert.XattnKernelIdeal.nD Cert.XattnKernelIdeal.τ).loc Cert.XattnKernelIdeal.main_arg6)
      ∧ m' ((c.tc : Thread Cert.XattnReferenceIdeal.nD Cert.XattnReferenceIdeal.τ).loc Cert.XattnReferenceIdeal.main_arg7) = m ((c.tc : Thread Cert.XattnKernelIdeal.nD Cert.XattnKernelIdeal.τ).loc Cert.XattnKernelIdeal.main_arg7)
      ∧ m' ((c.tc : Thread Cert.XattnReferenceIdeal.nD Cert.XattnReferenceIdeal.τ).loc Cert.XattnReferenceIdeal.main_arg8) = m ((c.tc : Thread Cert.XattnKernelIdeal.nD Cert.XattnKernelIdeal.τ).loc Cert.XattnKernelIdeal.main_arg8)) →
    ∃ (v0 : (c : Dev Cert.XattnKernelIdeal.nD) → Buf (Elt Ideal) ((c.tc : Thread Cert.XattnKernelIdeal.nD Cert.XattnKernelIdeal.τ).loc Cert.XattnKernelIdeal.main_v39_0)) (v1 : (c : Dev Cert.XattnKernelIdeal.nD) → Buf (Elt Ideal) ((c.tc : Thread Cert.XattnKernelIdeal.nD Cert.XattnKernelIdeal.τ).loc Cert.XattnKernelIdeal.main_v39_1)) (v2 : (c : Dev Cert.XattnKernelIdeal.nD) → Buf (Elt Ideal) ((c.tc : Thread Cert.XattnKernelIdeal.nD Cert.XattnKernelIdeal.τ).loc Cert.XattnKernelIdeal.main_v39_2)) (v3 : (c : Dev Cert.XattnKernelIdeal.nD) → Buf (Elt Ideal) ((c.tc : Thread Cert.XattnKernelIdeal.nD Cert.XattnKernelIdeal.τ).loc Cert.XattnKernelIdeal.main_v39_3)) (v4 : (c : Dev Cert.XattnKernelIdeal.nD) → Buf (Elt Ideal) ((c.tc : Thread Cert.XattnKernelIdeal.nD Cert.XattnKernelIdeal.τ).loc Cert.XattnKernelIdeal.main_v39_4)) (v5 : (c : Dev Cert.XattnKernelIdeal.nD) → Buf (Elt Ideal) ((c.tc : Thread Cert.XattnKernelIdeal.nD Cert.XattnKernelIdeal.τ).loc Cert.XattnKernelIdeal.main_v39_5)) (v6 : (c : Dev Cert.XattnKernelIdeal.nD) → Buf (Elt Ideal) ((c.tc : Thread Cert.XattnKernelIdeal.nD Cert.XattnKernelIdeal.τ).loc Cert.XattnKernelIdeal.main_v39_6)),
      θ_run (Cert.XattnKernelIdeal.defs (F := Ideal)) (onTc (τ := Cert.XattnKernelIdeal.τ) (Cert.XattnKernelIdeal.main (F := Ideal))) ⟨m, fun _ => 0, g⟩ (fun r => ∀ c : Dev Cert.XattnKernelIdeal.nD,
          r.2.mem ((c.tc : Thread Cert.XattnKernelIdeal.nD Cert.XattnKernelIdeal.τ).loc Cert.XattnKernelIdeal.main_v39_0) = v0 c
          ∧ r.2.mem ((c.tc : Thread Cert.XattnKernelIdeal.nD Cert.XattnKernelIdeal.τ).loc Cert.XattnKernelIdeal.main_v39_1) = v1 c
          ∧ r.2.mem ((c.tc : Thread Cert.XattnKernelIdeal.nD Cert.XattnKernelIdeal.τ).loc Cert.XattnKernelIdeal.main_v39_2) = v2 c
          ∧ r.2.mem ((c.tc : Thread Cert.XattnKernelIdeal.nD Cert.XattnKernelIdeal.τ).loc Cert.XattnKernelIdeal.main_v39_3) = v3 c
          ∧ r.2.mem ((c.tc : Thread Cert.XattnKernelIdeal.nD Cert.XattnKernelIdeal.τ).loc Cert.XattnKernelIdeal.main_v39_4) = v4 c
          ∧ r.2.mem ((c.tc : Thread Cert.XattnKernelIdeal.nD Cert.XattnKernelIdeal.τ).loc Cert.XattnKernelIdeal.main_v39_5) = v5 c
          ∧ r.2.mem ((c.tc : Thread Cert.XattnKernelIdeal.nD Cert.XattnKernelIdeal.τ).loc Cert.XattnKernelIdeal.main_v39_6) = v6 c
          ∧ r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
          ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
          ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
          ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
          ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
          ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5)
          ∧ r.2.mem ((c.tc : Thread Cert.XattnKernelIdeal.nD Cert.XattnKernelIdeal.τ).loc Cert.XattnKernelIdeal.main_arg6) = m ((c.tc : Thread Cert.XattnKernelIdeal.nD Cert.XattnKernelIdeal.τ).loc Cert.XattnKernelIdeal.main_arg6)
          ∧ r.2.mem ((c.tc : Thread Cert.XattnKernelIdeal.nD Cert.XattnKernelIdeal.τ).loc Cert.XattnKernelIdeal.main_arg7) = m ((c.tc : Thread Cert.XattnKernelIdeal.nD Cert.XattnKernelIdeal.τ).loc Cert.XattnKernelIdeal.main_arg7)
          ∧ r.2.mem ((c.tc : Thread Cert.XattnKernelIdeal.nD Cert.XattnKernelIdeal.τ).loc Cert.XattnKernelIdeal.main_arg8) = m ((c.tc : Thread Cert.XattnKernelIdeal.nD Cert.XattnKernelIdeal.τ).loc Cert.XattnKernelIdeal.main_arg8))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v183) = v0 c
          ∧ r.2.mem ((c.tc : Thread Cert.XattnReferenceIdeal.nD Cert.XattnReferenceIdeal.τ).loc Cert.XattnReferenceIdeal.main_v185) = v1 c
          ∧ r.2.mem ((c.tc : Thread Cert.XattnReferenceIdeal.nD Cert.XattnReferenceIdeal.τ).loc Cert.XattnReferenceIdeal.main_v187) = v2 c
          ∧ r.2.mem ((c.tc : Thread Cert.XattnReferenceIdeal.nD Cert.XattnReferenceIdeal.τ).loc Cert.XattnReferenceIdeal.main_v188) = v3 c
          ∧ r.2.mem ((c.tc : Thread Cert.XattnReferenceIdeal.nD Cert.XattnReferenceIdeal.τ).loc Cert.XattnReferenceIdeal.main_v189) = v4 c
          ∧ r.2.mem ((c.tc : Thread Cert.XattnReferenceIdeal.nD Cert.XattnReferenceIdeal.τ).loc Cert.XattnReferenceIdeal.main_v190) = v5 c
          ∧ r.2.mem ((c.tc : Thread Cert.XattnReferenceIdeal.nD Cert.XattnReferenceIdeal.τ).loc Cert.XattnReferenceIdeal.main_v192) = v6 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5)
          ∧ r.2.mem ((c.tc : Thread Cert.XattnReferenceIdeal.nD Cert.XattnReferenceIdeal.τ).loc Cert.XattnReferenceIdeal.main_arg6) = m' ((c.tc : Thread Cert.XattnReferenceIdeal.nD Cert.XattnReferenceIdeal.τ).loc Cert.XattnReferenceIdeal.main_arg6)
          ∧ r.2.mem ((c.tc : Thread Cert.XattnReferenceIdeal.nD Cert.XattnReferenceIdeal.τ).loc Cert.XattnReferenceIdeal.main_arg7) = m' ((c.tc : Thread Cert.XattnReferenceIdeal.nD Cert.XattnReferenceIdeal.τ).loc Cert.XattnReferenceIdeal.main_arg7)
          ∧ r.2.mem ((c.tc : Thread Cert.XattnReferenceIdeal.nD Cert.XattnReferenceIdeal.τ).loc Cert.XattnReferenceIdeal.main_arg8) = m' ((c.tc : Thread Cert.XattnReferenceIdeal.nD Cert.XattnReferenceIdeal.τ).loc Cert.XattnReferenceIdeal.main_arg8))

def preserves_PoolKernel_PoolKernelIdeal : Prop :=
  True

def algebraic_PoolKernelIdeal_PoolReferenceIdeal_pre_finite_pool [hPoolKernelIdeal : Cert.PoolKernelIdeal.Facts] [hPoolReferenceIdeal : Cert.PoolReferenceIdeal.Facts] [hPre_finite_pool : Cert.Pre_finite_pool.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_finite_pool m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v3_0)) (v1 : (c : Dev Cert.PoolKernelIdeal.nD) → Buf (Elt Ideal) ((c.tc : Thread Cert.PoolKernelIdeal.nD Cert.PoolKernelIdeal.τ).loc Cert.PoolKernelIdeal.main_v3_1)) (v2 : (c : Dev Cert.PoolKernelIdeal.nD) → Buf (Elt Ideal) ((c.tc : Thread Cert.PoolKernelIdeal.nD Cert.PoolKernelIdeal.τ).loc Cert.PoolKernelIdeal.main_v3_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v3_0) = v0 c
          ∧ r.2.mem ((c.tc : Thread Cert.PoolKernelIdeal.nD Cert.PoolKernelIdeal.τ).loc Cert.PoolKernelIdeal.main_v3_1) = v1 c
          ∧ r.2.mem ((c.tc : Thread Cert.PoolKernelIdeal.nD Cert.PoolKernelIdeal.τ).loc Cert.PoolKernelIdeal.main_v3_2) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v156) = v0 c
          ∧ r.2.mem ((c.tc : Thread Cert.PoolReferenceIdeal.nD Cert.PoolReferenceIdeal.τ).loc Cert.PoolReferenceIdeal.main_v157) = v1 c
          ∧ r.2.mem ((c.tc : Thread Cert.PoolReferenceIdeal.nD Cert.PoolReferenceIdeal.τ).loc Cert.PoolReferenceIdeal.main_v159) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)) →
    ∃ (v0 : (c : Dev Cert.MixKernelIdeal.nD) → Buf (Elt Ideal) ((c.tc : Thread Cert.MixKernelIdeal.nD Cert.MixKernelIdeal.τ).loc Cert.MixKernelIdeal.main_v21_0)) (v1 : (c : Dev Cert.MixKernelIdeal.nD) → Buf (Elt Ideal) ((c.tc : Thread Cert.MixKernelIdeal.nD Cert.MixKernelIdeal.τ).loc Cert.MixKernelIdeal.main_v21_1)) (v2 : (c : Dev Cert.MixKernelIdeal.nD) → Buf (Elt Ideal) ((c.tc : Thread Cert.MixKernelIdeal.nD Cert.MixKernelIdeal.τ).loc Cert.MixKernelIdeal.main_v21_2)) (v3 : (c : Dev Cert.MixKernelIdeal.nD) → Buf (Elt Ideal) ((c.tc : Thread Cert.MixKernelIdeal.nD Cert.MixKernelIdeal.τ).loc Cert.MixKernelIdeal.main_v21_3)) (v4 : (c : Dev Cert.MixKernelIdeal.nD) → Buf (Elt Ideal) ((c.tc : Thread Cert.MixKernelIdeal.nD Cert.MixKernelIdeal.τ).loc Cert.MixKernelIdeal.main_v21_4)) (v5 : (c : Dev Cert.MixKernelIdeal.nD) → Buf (Elt Ideal) ((c.tc : Thread Cert.MixKernelIdeal.nD Cert.MixKernelIdeal.τ).loc Cert.MixKernelIdeal.main_v21_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v21_0) = v0 c
          ∧ r.2.mem ((c.tc : Thread Cert.MixKernelIdeal.nD Cert.MixKernelIdeal.τ).loc Cert.MixKernelIdeal.main_v21_1) = v1 c
          ∧ r.2.mem ((c.tc : Thread Cert.MixKernelIdeal.nD Cert.MixKernelIdeal.τ).loc Cert.MixKernelIdeal.main_v21_2) = v2 c
          ∧ r.2.mem ((c.tc : Thread Cert.MixKernelIdeal.nD Cert.MixKernelIdeal.τ).loc Cert.MixKernelIdeal.main_v21_3) = v3 c
          ∧ r.2.mem ((c.tc : Thread Cert.MixKernelIdeal.nD Cert.MixKernelIdeal.τ).loc Cert.MixKernelIdeal.main_v21_4) = v4 c
          ∧ r.2.mem ((c.tc : Thread Cert.MixKernelIdeal.nD Cert.MixKernelIdeal.τ).loc Cert.MixKernelIdeal.main_v21_5) = v5 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v39) = v0 c
          ∧ r.2.mem ((c.tc : Thread Cert.MixReferenceIdeal.nD Cert.MixReferenceIdeal.τ).loc Cert.MixReferenceIdeal.main_v41) = v1 c
          ∧ r.2.mem ((c.tc : Thread Cert.MixReferenceIdeal.nD Cert.MixReferenceIdeal.τ).loc Cert.MixReferenceIdeal.main_v43) = v2 c
          ∧ r.2.mem ((c.tc : Thread Cert.MixReferenceIdeal.nD Cert.MixReferenceIdeal.τ).loc Cert.MixReferenceIdeal.main_v45) = v3 c
          ∧ r.2.mem ((c.tc : Thread Cert.MixReferenceIdeal.nD Cert.MixReferenceIdeal.τ).loc Cert.MixReferenceIdeal.main_v47) = v4 c
          ∧ r.2.mem ((c.tc : Thread Cert.MixReferenceIdeal.nD Cert.MixReferenceIdeal.τ).loc Cert.MixReferenceIdeal.main_v48) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v5_0)) (v1 : (c : Dev Cert.ProjKernelIdeal.nD) → Buf (Elt Ideal) ((c.tc : Thread Cert.ProjKernelIdeal.nD Cert.ProjKernelIdeal.τ).loc Cert.ProjKernelIdeal.main_v5_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v5_0) = v0 c
          ∧ r.2.mem ((c.tc : Thread Cert.ProjKernelIdeal.nD Cert.ProjKernelIdeal.τ).loc Cert.ProjKernelIdeal.main_v5_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v16) = v0 c
          ∧ r.2.mem ((c.tc : Thread Cert.ProjReferenceIdeal.nD Cert.ProjReferenceIdeal.τ).loc Cert.ProjReferenceIdeal.main_v18) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v7_0)) (v1 : (c : Dev Cert.MemKernelIdeal.nD) → Buf (Elt Ideal) ((c.tc : Thread Cert.MemKernelIdeal.nD Cert.MemKernelIdeal.τ).loc Cert.MemKernelIdeal.main_v7_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v7_0) = v0 c
          ∧ r.2.mem ((c.tc : Thread Cert.MemKernelIdeal.nD Cert.MemKernelIdeal.τ).loc Cert.MemKernelIdeal.main_v7_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v19) = v0 c
          ∧ r.2.mem ((c.tc : Thread Cert.MemReferenceIdeal.nD Cert.MemReferenceIdeal.τ).loc Cert.MemReferenceIdeal.main_v21) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_PoolFwdKernel_PoolFwdKernelIdeal : Prop :=
  True

def algebraic_PoolFwdKernelIdeal_PoolFwdReferenceIdeal_pre_finite_poolf [hPoolFwdKernelIdeal : Cert.PoolFwdKernelIdeal.Facts] [hPoolFwdReferenceIdeal : Cert.PoolFwdReferenceIdeal.Facts] [hPre_finite_poolf : Cert.Pre_finite_poolf.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg)
    (m' : (ℓ : Loc Cert.PoolFwdReferenceIdeal.nD Cert.PoolFwdReferenceIdeal.τ Cert.PoolFwdReferenceIdeal.sig) → Buf (Elt Ideal) ℓ) (g' : Dev Cert.PoolFwdReferenceIdeal.nD → PrngReg), Pre_PoolFwdKernelIdeal_finite_poolf m →
    (∀ c : Dev Cert.PoolFwdKernelIdeal.nD,
      m' ((c.tc : Thread Cert.PoolFwdReferenceIdeal.nD Cert.PoolFwdReferenceIdeal.τ).loc Cert.PoolFwdReferenceIdeal.main_arg0) = m ((c.tc : Thread Cert.PoolFwdKernelIdeal.nD Cert.PoolFwdKernelIdeal.τ).loc Cert.PoolFwdKernelIdeal.main_arg0)
      ∧ m' ((c.tc : Thread Cert.PoolFwdReferenceIdeal.nD Cert.PoolFwdReferenceIdeal.τ).loc Cert.PoolFwdReferenceIdeal.main_arg1) = m ((c.tc : Thread Cert.PoolFwdKernelIdeal.nD Cert.PoolFwdKernelIdeal.τ).loc Cert.PoolFwdKernelIdeal.main_arg1)
      ∧ m' ((c.tc : Thread Cert.PoolFwdReferenceIdeal.nD Cert.PoolFwdReferenceIdeal.τ).loc Cert.PoolFwdReferenceIdeal.main_arg2) = m ((c.tc : Thread Cert.PoolFwdKernelIdeal.nD Cert.PoolFwdKernelIdeal.τ).loc Cert.PoolFwdKernelIdeal.main_arg2)) →
    ∃ (v0 : (c : Dev Cert.PoolFwdKernelIdeal.nD) → Buf (Elt Ideal) ((c.tc : Thread Cert.PoolFwdKernelIdeal.nD Cert.PoolFwdKernelIdeal.τ).loc Cert.PoolFwdKernelIdeal.main_v2)),
      θ_run (Cert.PoolFwdKernelIdeal.defs (F := Ideal)) (onTc (τ := Cert.PoolFwdKernelIdeal.τ) (Cert.PoolFwdKernelIdeal.main (F := Ideal))) ⟨m, fun _ => 0, g⟩ (fun r => ∀ c : Dev Cert.PoolFwdKernelIdeal.nD,
          r.2.mem ((c.tc : Thread Cert.PoolFwdKernelIdeal.nD Cert.PoolFwdKernelIdeal.τ).loc Cert.PoolFwdKernelIdeal.main_v2) = v0 c
          ∧ r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
          ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
          ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ θ_run (Cert.PoolFwdReferenceIdeal.defs (F := Ideal)) (onTc (τ := Cert.PoolFwdReferenceIdeal.τ) (Cert.PoolFwdReferenceIdeal.main (F := Ideal))) ⟨m', fun _ => 0, g'⟩ (fun r => ∀ c : Dev Cert.PoolFwdReferenceIdeal.nD,
          r.2.mem ((c.tc : Thread Cert.PoolFwdReferenceIdeal.nD Cert.PoolFwdReferenceIdeal.τ).loc Cert.PoolFwdReferenceIdeal.main_v78) = v0 c
          ∧ r.2.mem ((c.tc : Thread Cert.PoolFwdReferenceIdeal.nD Cert.PoolFwdReferenceIdeal.τ).loc Cert.PoolFwdReferenceIdeal.main_arg0) = m' ((c.tc : Thread Cert.PoolFwdReferenceIdeal.nD Cert.PoolFwdReferenceIdeal.τ).loc Cert.PoolFwdReferenceIdeal.main_arg0)
          ∧ r.2.mem ((c.tc : Thread Cert.PoolFwdReferenceIdeal.nD Cert.PoolFwdReferenceIdeal.τ).loc Cert.PoolFwdReferenceIdeal.main_arg1) = m' ((c.tc : Thread Cert.PoolFwdReferenceIdeal.nD Cert.PoolFwdReferenceIdeal.τ).loc Cert.PoolFwdReferenceIdeal.main_arg1)
          ∧ r.2.mem ((c.tc : Thread Cert.PoolFwdReferenceIdeal.nD Cert.PoolFwdReferenceIdeal.τ).loc Cert.PoolFwdReferenceIdeal.main_arg2) = m' ((c.tc : Thread Cert.PoolFwdReferenceIdeal.nD Cert.PoolFwdReferenceIdeal.τ).loc Cert.PoolFwdReferenceIdeal.main_arg2))

def preserves_PairKernel_PairKernelIdeal : Prop :=
  True

def algebraic_PairKernelIdeal_PairReferenceIdeal [hPairKernelIdeal : Cert.PairKernelIdeal.Facts] [hPairReferenceIdeal : Cert.PairReferenceIdeal.Facts] : Prop :=
  ∀ (m : (ℓ : Loc Cert.PairKernelIdeal.nD Cert.PairKernelIdeal.τ Cert.PairKernelIdeal.sig) → Buf (Elt Ideal) ℓ) (g : Dev Cert.PairKernelIdeal.nD → PrngReg)
    (m' : (ℓ : Loc Cert.PairReferenceIdeal.nD Cert.PairReferenceIdeal.τ Cert.PairReferenceIdeal.sig) → Buf (Elt Ideal) ℓ) (g' : Dev Cert.PairReferenceIdeal.nD → PrngReg), Pre_PairKernelIdeal m →
    (∀ c : Dev Cert.PairKernelIdeal.nD,
      m ((c.tc : Thread Cert.PairKernelIdeal.nD Cert.PairKernelIdeal.τ).loc Cert.PairKernelIdeal.main_arg0) = Layout.block ⟨4, ![4, 2, 512, 640]⟩ ⟨4, ![8, 2, 512, 640]⟩ 0 2 c (m' (((0 : Dev Cert.PairReferenceIdeal.nD).tc : Thread Cert.PairReferenceIdeal.nD Cert.PairReferenceIdeal.τ).loc Cert.PairReferenceIdeal.main_arg0))) →
    ∃ (v0 : Buf (Elt Ideal) (((0 : Dev Cert.PairReferenceIdeal.nD).tc : Thread Cert.PairReferenceIdeal.nD Cert.PairReferenceIdeal.τ).loc Cert.PairReferenceIdeal.main_v4)),
      θ_run (Cert.PairKernelIdeal.defs (F := Ideal)) (onTc (τ := Cert.PairKernelIdeal.τ) (Cert.PairKernelIdeal.main (F := Ideal))) ⟨m, fun _ => 0, g⟩ (fun r => ∀ c : Dev Cert.PairKernelIdeal.nD,
          r.2.mem ((c.tc : Thread Cert.PairKernelIdeal.nD Cert.PairKernelIdeal.τ).loc Cert.PairKernelIdeal.main_v1) = Layout.block ⟨3, ![4, 512, 640]⟩ ⟨3, ![8, 512, 640]⟩ 0 2 c v0
          ∧ r.2.mem ((c.tc : Thread Cert.PairKernelIdeal.nD Cert.PairKernelIdeal.τ).loc Cert.PairKernelIdeal.main_arg0) = m ((c.tc : Thread Cert.PairKernelIdeal.nD Cert.PairKernelIdeal.τ).loc Cert.PairKernelIdeal.main_arg0))
      ∧ θ_run (Cert.PairReferenceIdeal.defs (F := Ideal)) (onTc (τ := Cert.PairReferenceIdeal.τ) (Cert.PairReferenceIdeal.main (F := Ideal))) ⟨m', fun _ => 0, g'⟩ (fun r =>
          r.2.mem (((0 : Dev Cert.PairReferenceIdeal.nD).tc : Thread Cert.PairReferenceIdeal.nD Cert.PairReferenceIdeal.τ).loc Cert.PairReferenceIdeal.main_v4) = v0
          ∧ r.2.mem (((0 : Dev Cert.PairReferenceIdeal.nD).tc : Thread Cert.PairReferenceIdeal.nD Cert.PairReferenceIdeal.τ).loc Cert.PairReferenceIdeal.main_arg0) = m' (((0 : Dev Cert.PairReferenceIdeal.nD).tc : Thread Cert.PairReferenceIdeal.nD Cert.PairReferenceIdeal.τ).loc Cert.PairReferenceIdeal.main_arg0))

def preserves_TnKernel_TnKernelIdeal : Prop :=
  True

def algebraic_TnKernelIdeal_TnReferenceIdeal [hTnKernelIdeal : Cert.TnKernelIdeal.Facts] [hTnReferenceIdeal : Cert.TnReferenceIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg)
    (m' : (ℓ : Loc Cert.TnReferenceIdeal.nD Cert.TnReferenceIdeal.τ Cert.TnReferenceIdeal.sig) → Buf (Elt Ideal) ℓ) (g' : Dev Cert.TnReferenceIdeal.nD → PrngReg), Pre_TnKernelIdeal m →
    (∀ c : Dev Cert.TnKernelIdeal.nD,
      m' ((c.tc : Thread Cert.TnReferenceIdeal.nD Cert.TnReferenceIdeal.τ).loc Cert.TnReferenceIdeal.main_arg0) = m ((c.tc : Thread Cert.TnKernelIdeal.nD Cert.TnKernelIdeal.τ).loc Cert.TnKernelIdeal.main_arg0)
      ∧ m' ((c.tc : Thread Cert.TnReferenceIdeal.nD Cert.TnReferenceIdeal.τ).loc Cert.TnReferenceIdeal.main_arg1) = m ((c.tc : Thread Cert.TnKernelIdeal.nD Cert.TnKernelIdeal.τ).loc Cert.TnKernelIdeal.main_arg1)) →
    ∃ (v0 : (c : Dev Cert.TnKernelIdeal.nD) → Buf (Elt Ideal) ((c.tc : Thread Cert.TnKernelIdeal.nD Cert.TnKernelIdeal.τ).loc Cert.TnKernelIdeal.main_v0)),
      θ_run (Cert.TnKernelIdeal.defs (F := Ideal)) (onTc (τ := Cert.TnKernelIdeal.τ) (Cert.TnKernelIdeal.main (F := Ideal))) ⟨m, fun _ => 0, g⟩ (fun r => ∀ c : Dev Cert.TnKernelIdeal.nD,
          r.2.mem ((c.tc : Thread Cert.TnKernelIdeal.nD Cert.TnKernelIdeal.τ).loc Cert.TnKernelIdeal.main_v0) = v0 c
          ∧ r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
          ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ θ_run (Cert.TnReferenceIdeal.defs (F := Ideal)) (onTc (τ := Cert.TnReferenceIdeal.τ) (Cert.TnReferenceIdeal.main (F := Ideal))) ⟨m', fun _ => 0, g'⟩ (fun r => ∀ c : Dev Cert.TnReferenceIdeal.nD,
          r.2.mem ((c.tc : Thread Cert.TnReferenceIdeal.nD Cert.TnReferenceIdeal.τ).loc Cert.TnReferenceIdeal.main_v7) = v0 c
          ∧ r.2.mem ((c.tc : Thread Cert.TnReferenceIdeal.nD Cert.TnReferenceIdeal.τ).loc Cert.TnReferenceIdeal.main_arg0) = m' ((c.tc : Thread Cert.TnReferenceIdeal.nD Cert.TnReferenceIdeal.τ).loc Cert.TnReferenceIdeal.main_arg0)
          ∧ r.2.mem ((c.tc : Thread Cert.TnReferenceIdeal.nD Cert.TnReferenceIdeal.τ).loc Cert.TnReferenceIdeal.main_arg1) = m' ((c.tc : Thread Cert.TnReferenceIdeal.nD Cert.TnReferenceIdeal.τ).loc Cert.TnReferenceIdeal.main_arg1))

def preserves_ChAddKernel_ChAddKernelIdeal : Prop :=
  True

def algebraic_ChAddKernelIdeal_ChAddReferenceIdeal [hChAddKernelIdeal : Cert.ChAddKernelIdeal.Facts] [hChAddReferenceIdeal : Cert.ChAddReferenceIdeal.Facts] : Prop :=
  ∀ (m : (ℓ : Loc Cert.ChAddKernelIdeal.nD Cert.ChAddKernelIdeal.τ Cert.ChAddKernelIdeal.sig) → Buf (Elt Ideal) ℓ) (g : Dev Cert.ChAddKernelIdeal.nD → PrngReg)
    (m' : (ℓ : Loc Cert.ChAddReferenceIdeal.nD Cert.ChAddReferenceIdeal.τ Cert.ChAddReferenceIdeal.sig) → Buf (Elt Ideal) ℓ) (g' : Dev Cert.ChAddReferenceIdeal.nD → PrngReg), Pre_ChAddKernelIdeal m →
    (∀ c : Dev Cert.ChAddKernelIdeal.nD,
      m' ((c.tc : Thread Cert.ChAddReferenceIdeal.nD Cert.ChAddReferenceIdeal.τ).loc Cert.ChAddReferenceIdeal.main_arg0) = m ((c.tc : Thread Cert.ChAddKernelIdeal.nD Cert.ChAddKernelIdeal.τ).loc Cert.ChAddKernelIdeal.main_arg0)
      ∧ m' ((c.tc : Thread Cert.ChAddReferenceIdeal.nD Cert.ChAddReferenceIdeal.τ).loc Cert.ChAddReferenceIdeal.main_arg1) = m ((c.tc : Thread Cert.ChAddKernelIdeal.nD Cert.ChAddKernelIdeal.τ).loc Cert.ChAddKernelIdeal.main_arg1)) →
    ∃ (v0 : (c : Dev Cert.ChAddKernelIdeal.nD) → Buf (Elt Ideal) ((c.tc : Thread Cert.ChAddKernelIdeal.nD Cert.ChAddKernelIdeal.τ).loc Cert.ChAddKernelIdeal.main_v0)),
      θ_run (Cert.ChAddKernelIdeal.defs (F := Ideal)) (onTc (τ := Cert.ChAddKernelIdeal.τ) (Cert.ChAddKernelIdeal.main (F := Ideal))) ⟨m, fun _ => 0, g⟩ (fun r => ∀ c : Dev Cert.ChAddKernelIdeal.nD,
          r.2.mem ((c.tc : Thread Cert.ChAddKernelIdeal.nD Cert.ChAddKernelIdeal.τ).loc Cert.ChAddKernelIdeal.main_v0) = v0 c
          ∧ r.2.mem ((c.tc : Thread Cert.ChAddKernelIdeal.nD Cert.ChAddKernelIdeal.τ).loc Cert.ChAddKernelIdeal.main_arg0) = m ((c.tc : Thread Cert.ChAddKernelIdeal.nD Cert.ChAddKernelIdeal.τ).loc Cert.ChAddKernelIdeal.main_arg0)
          ∧ r.2.mem ((c.tc : Thread Cert.ChAddKernelIdeal.nD Cert.ChAddKernelIdeal.τ).loc Cert.ChAddKernelIdeal.main_arg1) = m ((c.tc : Thread Cert.ChAddKernelIdeal.nD Cert.ChAddKernelIdeal.τ).loc Cert.ChAddKernelIdeal.main_arg1))
      ∧ θ_run (Cert.ChAddReferenceIdeal.defs (F := Ideal)) (onTc (τ := Cert.ChAddReferenceIdeal.τ) (Cert.ChAddReferenceIdeal.main (F := Ideal))) ⟨m', fun _ => 0, g'⟩ (fun r => ∀ c : Dev Cert.ChAddReferenceIdeal.nD,
          r.2.mem ((c.tc : Thread Cert.ChAddReferenceIdeal.nD Cert.ChAddReferenceIdeal.τ).loc Cert.ChAddReferenceIdeal.main_v2) = v0 c
          ∧ r.2.mem ((c.tc : Thread Cert.ChAddReferenceIdeal.nD Cert.ChAddReferenceIdeal.τ).loc Cert.ChAddReferenceIdeal.main_arg0) = m' ((c.tc : Thread Cert.ChAddReferenceIdeal.nD Cert.ChAddReferenceIdeal.τ).loc Cert.ChAddReferenceIdeal.main_arg0)
          ∧ r.2.mem ((c.tc : Thread Cert.ChAddReferenceIdeal.nD Cert.ChAddReferenceIdeal.τ).loc Cert.ChAddReferenceIdeal.main_arg1) = m' ((c.tc : Thread Cert.ChAddReferenceIdeal.nD Cert.ChAddReferenceIdeal.τ).loc Cert.ChAddReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)
      ∧ m' ((c.tc : Thread Cert.AdamReferenceIdeal.nD Cert.AdamReferenceIdeal.τ).loc Cert.AdamReferenceIdeal.main_arg5) = m ((c.tc : Thread Cert.AdamKernelIdeal.nD Cert.AdamKernelIdeal.τ).loc Cert.AdamKernelIdeal.main_arg5)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)) (v3 : (c : Dev Cert.AdamKernelIdeal.nD) → Buf (Elt Ideal) ((c.tc : Thread Cert.AdamKernelIdeal.nD Cert.AdamKernelIdeal.τ).loc Cert.AdamKernelIdeal.main_v0_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_v0_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
          ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v8) = v0 c
          ∧ r.2.mem ((c.tc : Thread Cert.AdamReferenceIdeal.nD Cert.AdamReferenceIdeal.τ).loc Cert.AdamReferenceIdeal.main_v32) = v1 c
          ∧ r.2.mem ((c.tc : Thread Cert.AdamReferenceIdeal.nD Cert.AdamReferenceIdeal.τ).loc Cert.AdamReferenceIdeal.main_v13) = v2 c
          ∧ r.2.mem ((c.tc : Thread Cert.AdamReferenceIdeal.nD Cert.AdamReferenceIdeal.τ).loc Cert.AdamReferenceIdeal.main_v19) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5))

def preserves_HalfKernel_HalfKernelIdeal : Prop :=
  True

def algebraic_HalfKernelIdeal_HalfReferenceIdeal [hHalfKernelIdeal : Cert.HalfKernelIdeal.Facts] [hHalfReferenceIdeal : Cert.HalfReferenceIdeal.Facts] : Prop :=
  ∀ (m : (ℓ : Loc Cert.HalfKernelIdeal.nD Cert.HalfKernelIdeal.τ Cert.HalfKernelIdeal.sig) → Buf (Elt Ideal) ℓ) (g : Dev Cert.HalfKernelIdeal.nD → PrngReg)
    (m' : (ℓ : Loc Cert.HalfReferenceIdeal.nD Cert.HalfReferenceIdeal.τ Cert.HalfReferenceIdeal.sig) → Buf (Elt Ideal) ℓ) (g' : Dev Cert.HalfReferenceIdeal.nD → PrngReg), Pre_HalfKernelIdeal m →
    (∀ c : Dev Cert.HalfKernelIdeal.nD,
      m ((c.tc : Thread Cert.HalfKernelIdeal.nD Cert.HalfKernelIdeal.τ).loc Cert.HalfKernelIdeal.main_arg0) = Layout.block ⟨2, ![512, 640]⟩ ⟨2, ![1024, 640]⟩ 0 2 c (m' (((0 : Dev Cert.HalfReferenceIdeal.nD).tc : Thread Cert.HalfReferenceIdeal.nD Cert.HalfReferenceIdeal.τ).loc Cert.HalfReferenceIdeal.main_arg0))) →
    ∃ (v0 : Buf (Elt Ideal) (((0 : Dev Cert.HalfReferenceIdeal.nD).tc : Thread Cert.HalfReferenceIdeal.nD Cert.HalfReferenceIdeal.τ).loc Cert.HalfReferenceIdeal.main_v2)),
      θ_run (Cert.HalfKernelIdeal.defs (F := Ideal)) (onTc (τ := Cert.HalfKernelIdeal.τ) (Cert.HalfKernelIdeal.main (F := Ideal))) ⟨m, fun _ => 0, g⟩ (fun r => ∀ c : Dev Cert.HalfKernelIdeal.nD,
          r.2.mem ((c.tc : Thread Cert.HalfKernelIdeal.nD Cert.HalfKernelIdeal.τ).loc Cert.HalfKernelIdeal.main_v1) = Layout.block ⟨2, ![512, 640]⟩ ⟨2, ![1024, 640]⟩ 0 2 c v0
          ∧ r.2.mem ((c.tc : Thread Cert.HalfKernelIdeal.nD Cert.HalfKernelIdeal.τ).loc Cert.HalfKernelIdeal.main_arg0) = m ((c.tc : Thread Cert.HalfKernelIdeal.nD Cert.HalfKernelIdeal.τ).loc Cert.HalfKernelIdeal.main_arg0))
      ∧ θ_run (Cert.HalfReferenceIdeal.defs (F := Ideal)) (onTc (τ := Cert.HalfReferenceIdeal.τ) (Cert.HalfReferenceIdeal.main (F := Ideal))) ⟨m', fun _ => 0, g'⟩ (fun r =>
          r.2.mem (((0 : Dev Cert.HalfReferenceIdeal.nD).tc : Thread Cert.HalfReferenceIdeal.nD Cert.HalfReferenceIdeal.τ).loc Cert.HalfReferenceIdeal.main_v2) = v0
          ∧ r.2.mem (((0 : Dev Cert.HalfReferenceIdeal.nD).tc : Thread Cert.HalfReferenceIdeal.nD Cert.HalfReferenceIdeal.τ).loc Cert.HalfReferenceIdeal.main_arg0) = m' (((0 : Dev Cert.HalfReferenceIdeal.nD).tc : Thread Cert.HalfReferenceIdeal.nD Cert.HalfReferenceIdeal.τ).loc Cert.HalfReferenceIdeal.main_arg0))

def preserves_ChipKernel_ChipKernelIdeal : Prop :=
  True

def algebraic_ChipKernelIdeal_ChipReferenceIdeal [hChipKernelIdeal : Cert.ChipKernelIdeal.Facts] [hChipReferenceIdeal : Cert.ChipReferenceIdeal.Facts] : Prop :=
  ∀ (m : (ℓ : Loc Cert.ChipKernelIdeal.nD Cert.ChipKernelIdeal.τ Cert.ChipKernelIdeal.sig) → Buf (Elt Ideal) ℓ) (g : Dev Cert.ChipKernelIdeal.nD → PrngReg)
    (m' : (ℓ : Loc Cert.ChipReferenceIdeal.nD Cert.ChipReferenceIdeal.τ Cert.ChipReferenceIdeal.sig) → Buf (Elt Ideal) ℓ) (g' : Dev Cert.ChipReferenceIdeal.nD → PrngReg), Pre_ChipKernelIdeal m →
    (∀ c : Dev Cert.ChipKernelIdeal.nD,
      m ((c.tc : Thread Cert.ChipKernelIdeal.nD Cert.ChipKernelIdeal.τ).loc Cert.ChipKernelIdeal.main_arg0) = Layout.block ⟨3, ![3, 512, 640]⟩ ⟨3, ![12, 512, 640]⟩ 0 4 c (m' (((0 : Dev Cert.ChipReferenceIdeal.nD).tc : Thread Cert.ChipReferenceIdeal.nD Cert.ChipReferenceIdeal.τ).loc Cert.ChipReferenceIdeal.main_arg0))) →
    ∃ (v0 : Buf (Elt Ideal) (((0 : Dev Cert.ChipReferenceIdeal.nD).tc : Thread Cert.ChipReferenceIdeal.nD Cert.ChipReferenceIdeal.τ).loc Cert.ChipReferenceIdeal.main_v16)),
      θ_run (Cert.ChipKernelIdeal.defs (F := Ideal)) (onTc (τ := Cert.ChipKernelIdeal.τ) (Cert.ChipKernelIdeal.main (F := Ideal))) ⟨m, fun _ => 0, g⟩ (fun r => ∀ c : Dev Cert.ChipKernelIdeal.nD,
          r.2.mem ((c.tc : Thread Cert.ChipKernelIdeal.nD Cert.ChipKernelIdeal.τ).loc Cert.ChipKernelIdeal.main_v1) = Layout.block ⟨3, ![3, 512, 640]⟩ ⟨3, ![12, 512, 640]⟩ 0 4 c v0
          ∧ r.2.mem ((c.tc : Thread Cert.ChipKernelIdeal.nD Cert.ChipKernelIdeal.τ).loc Cert.ChipKernelIdeal.main_arg0) = m ((c.tc : Thread Cert.ChipKernelIdeal.nD Cert.ChipKernelIdeal.τ).loc Cert.ChipKernelIdeal.main_arg0))
      ∧ θ_run (Cert.ChipReferenceIdeal.defs (F := Ideal)) (onTc (τ := Cert.ChipReferenceIdeal.τ) (Cert.ChipReferenceIdeal.main (F := Ideal))) ⟨m', fun _ => 0, g'⟩ (fun r =>
          r.2.mem (((0 : Dev Cert.ChipReferenceIdeal.nD).tc : Thread Cert.ChipReferenceIdeal.nD Cert.ChipReferenceIdeal.τ).loc Cert.ChipReferenceIdeal.main_v16) = v0
          ∧ r.2.mem (((0 : Dev Cert.ChipReferenceIdeal.nD).tc : Thread Cert.ChipReferenceIdeal.nD Cert.ChipReferenceIdeal.τ).loc Cert.ChipReferenceIdeal.main_arg0) = m' (((0 : Dev Cert.ChipReferenceIdeal.nD).tc : Thread Cert.ChipReferenceIdeal.nD Cert.ChipReferenceIdeal.τ).loc Cert.ChipReferenceIdeal.main_arg0))

def preserves_GatherKernel_GatherKernelIdeal : Prop :=
  True

def algebraic_GatherKernelIdeal_GatherReferenceIdeal [hGatherKernelIdeal : Cert.GatherKernelIdeal.Facts] [hGatherReferenceIdeal : Cert.GatherReferenceIdeal.Facts] : Prop :=
  ∀ (m : (ℓ : Loc Cert.GatherKernelIdeal.nD Cert.GatherKernelIdeal.τ Cert.GatherKernelIdeal.sig) → Buf (Elt Ideal) ℓ) (g : Dev Cert.GatherKernelIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherKernelIdeal m →
    (∀ c : Dev Cert.GatherKernelIdeal.nD,
      m ((c.tc : Thread Cert.GatherKernelIdeal.nD Cert.GatherKernelIdeal.τ).loc Cert.GatherKernelIdeal.main_arg0) = Layout.blockN ⟨2, ![1024, 640]⟩ ⟨2, ![1024, 2560]⟩ (Layout.meshBlock [2, 2, 2] ![[], [0, 1]] c) (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v1)),
      θ_run (Cert.GatherKernelIdeal.defs (F := Ideal)) (onTc (τ := Cert.GatherKernelIdeal.τ) (Cert.GatherKernelIdeal.main (F := Ideal))) ⟨m, fun _ => 0, g⟩ (fun r => ∀ c : Dev Cert.GatherKernelIdeal.nD,
          r.2.mem ((c.tc : Thread Cert.GatherKernelIdeal.nD Cert.GatherKernelIdeal.τ).loc Cert.GatherKernelIdeal.main_v1) = v0
          ∧ r.2.mem ((c.tc : Thread Cert.GatherKernelIdeal.nD Cert.GatherKernelIdeal.τ).loc Cert.GatherKernelIdeal.main_arg0) = m ((c.tc : Thread Cert.GatherKernelIdeal.nD Cert.GatherKernelIdeal.τ).loc Cert.GatherKernelIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v1) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def Claim : Prop :=
  ∃ (hKvKernel : Cert.KvKernel.Facts) (hKvKernelIdeal : Cert.KvKernelIdeal.Facts) (hKvReferenceIdeal : Cert.KvReferenceIdeal.Facts) (hInKernel : Cert.InKernel.Facts) (hInKernelIdeal : Cert.InKernelIdeal.Facts) (hInReferenceIdeal : Cert.InReferenceIdeal.Facts) (hMlpKernel : Cert.MlpKernel.Facts) (hMlpKernelIdeal : Cert.MlpKernelIdeal.Facts) (hMlpReferenceIdeal : Cert.MlpReferenceIdeal.Facts) (hLossKernel : Cert.LossKernel.Facts) (hLossKernelIdeal : Cert.LossKernelIdeal.Facts) (hLossReferenceIdeal : Cert.LossReferenceIdeal.Facts) (hXattnKernel : Cert.XattnKernel.Facts) (hXattnKernelIdeal : Cert.XattnKernelIdeal.Facts) (hXattnReferenceIdeal : Cert.XattnReferenceIdeal.Facts) (hPoolKernel : Cert.PoolKernel.Facts) (hPoolKernelIdeal : Cert.PoolKernelIdeal.Facts) (hPoolReferenceIdeal : Cert.PoolReferenceIdeal.Facts) (hMixKernel : Cert.MixKernel.Facts) (hMixKernelIdeal : Cert.MixKernelIdeal.Facts) (hMixReferenceIdeal : Cert.MixReferenceIdeal.Facts) (hProjKernel : Cert.ProjKernel.Facts) (hProjKernelIdeal : Cert.ProjKernelIdeal.Facts) (hProjReferenceIdeal : Cert.ProjReferenceIdeal.Facts) (hMemKernel : Cert.MemKernel.Facts) (hMemKernelIdeal : Cert.MemKernelIdeal.Facts) (hMemReferenceIdeal : Cert.MemReferenceIdeal.Facts) (hPoolFwdKernel : Cert.PoolFwdKernel.Facts) (hPoolFwdKernelIdeal : Cert.PoolFwdKernelIdeal.Facts) (hPoolFwdReferenceIdeal : Cert.PoolFwdReferenceIdeal.Facts) (hPairKernel : Cert.PairKernel.Facts) (hPairKernelIdeal : Cert.PairKernelIdeal.Facts) (hPairReferenceIdeal : Cert.PairReferenceIdeal.Facts) (hTnKernel : Cert.TnKernel.Facts) (hTnKernelIdeal : Cert.TnKernelIdeal.Facts) (hTnReferenceIdeal : Cert.TnReferenceIdeal.Facts) (hChAddKernel : Cert.ChAddKernel.Facts) (hChAddKernelIdeal : Cert.ChAddKernelIdeal.Facts) (hChAddReferenceIdeal : Cert.ChAddReferenceIdeal.Facts) (hAdamKernel : Cert.AdamKernel.Facts) (hAdamKernelIdeal : Cert.AdamKernelIdeal.Facts) (hAdamReferenceIdeal : Cert.AdamReferenceIdeal.Facts) (hHalfKernel : Cert.HalfKernel.Facts) (hHalfKernelIdeal : Cert.HalfKernelIdeal.Facts) (hHalfReferenceIdeal : Cert.HalfReferenceIdeal.Facts) (hChipKernel : Cert.ChipKernel.Facts) (hChipKernelIdeal : Cert.ChipKernelIdeal.Facts) (hChipReferenceIdeal : Cert.ChipReferenceIdeal.Facts) (hGatherKernel : Cert.GatherKernel.Facts) (hGatherKernelIdeal : Cert.GatherKernelIdeal.Facts) (hGatherReferenceIdeal : Cert.GatherReferenceIdeal.Facts) (hPre_finite_in : Cert.Pre_finite_in.Facts) (hPre_finite_mlp : Cert.Pre_finite_mlp.Facts) (hPre_finite_loss : Cert.Pre_finite_loss.Facts) (hPre_finite_xattn : Cert.Pre_finite_xattn.Facts) (hPre_finite_pool : Cert.Pre_finite_pool.Facts) (hPre_finite_poolf : Cert.Pre_finite_poolf.Facts),
    quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_InKernel (hInKernel := hInKernel)
    ∧ quiescent_InKernelIdeal (hInKernelIdeal := hInKernelIdeal)
    ∧ quiescent_InKernelIdeal_pre_finite_in (hInKernelIdeal := hInKernelIdeal) (hPre_finite_in := hPre_finite_in)
    ∧ quiescent_InReferenceIdeal (hInReferenceIdeal := hInReferenceIdeal)
    ∧ quiescent_InReferenceIdeal_pre_finite_in (hInReferenceIdeal := hInReferenceIdeal) (hPre_finite_in := hPre_finite_in)
    ∧ quiescent_MlpKernel (hMlpKernel := hMlpKernel)
    ∧ quiescent_MlpKernelIdeal (hMlpKernelIdeal := hMlpKernelIdeal)
    ∧ quiescent_MlpKernelIdeal_pre_finite_mlp (hMlpKernelIdeal := hMlpKernelIdeal) (hPre_finite_mlp := hPre_finite_mlp)
    ∧ quiescent_MlpReferenceIdeal (hMlpReferenceIdeal := hMlpReferenceIdeal)
    ∧ quiescent_MlpReferenceIdeal_pre_finite_mlp (hMlpReferenceIdeal := hMlpReferenceIdeal) (hPre_finite_mlp := hPre_finite_mlp)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_XattnKernel (hXattnKernel := hXattnKernel)
    ∧ quiescent_XattnKernelIdeal (hXattnKernelIdeal := hXattnKernelIdeal)
    ∧ quiescent_XattnKernelIdeal_pre_finite_xattn (hXattnKernelIdeal := hXattnKernelIdeal) (hPre_finite_xattn := hPre_finite_xattn)
    ∧ quiescent_XattnReferenceIdeal (hXattnReferenceIdeal := hXattnReferenceIdeal)
    ∧ quiescent_XattnReferenceIdeal_pre_finite_xattn (hXattnReferenceIdeal := hXattnReferenceIdeal) (hPre_finite_xattn := hPre_finite_xattn)
    ∧ quiescent_PoolKernel (hPoolKernel := hPoolKernel)
    ∧ quiescent_PoolKernelIdeal (hPoolKernelIdeal := hPoolKernelIdeal)
    ∧ quiescent_PoolKernelIdeal_pre_finite_pool (hPoolKernelIdeal := hPoolKernelIdeal) (hPre_finite_pool := hPre_finite_pool)
    ∧ quiescent_PoolReferenceIdeal (hPoolReferenceIdeal := hPoolReferenceIdeal)
    ∧ quiescent_PoolReferenceIdeal_pre_finite_pool (hPoolReferenceIdeal := hPoolReferenceIdeal) (hPre_finite_pool := hPre_finite_pool)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_PoolFwdKernel (hPoolFwdKernel := hPoolFwdKernel)
    ∧ quiescent_PoolFwdKernelIdeal (hPoolFwdKernelIdeal := hPoolFwdKernelIdeal)
    ∧ quiescent_PoolFwdKernelIdeal_pre_finite_poolf (hPoolFwdKernelIdeal := hPoolFwdKernelIdeal) (hPre_finite_poolf := hPre_finite_poolf)
    ∧ quiescent_PoolFwdReferenceIdeal (hPoolFwdReferenceIdeal := hPoolFwdReferenceIdeal)
    ∧ quiescent_PoolFwdReferenceIdeal_pre_finite_poolf (hPoolFwdReferenceIdeal := hPoolFwdReferenceIdeal) (hPre_finite_poolf := hPre_finite_poolf)
    ∧ quiescent_PairKernel (hPairKernel := hPairKernel)
    ∧ quiescent_PairKernelIdeal (hPairKernelIdeal := hPairKernelIdeal)
    ∧ quiescent_PairReferenceIdeal (hPairReferenceIdeal := hPairReferenceIdeal)
    ∧ quiescent_TnKernel (hTnKernel := hTnKernel)
    ∧ quiescent_TnKernelIdeal (hTnKernelIdeal := hTnKernelIdeal)
    ∧ quiescent_TnReferenceIdeal (hTnReferenceIdeal := hTnReferenceIdeal)
    ∧ quiescent_ChAddKernel (hChAddKernel := hChAddKernel)
    ∧ quiescent_ChAddKernelIdeal (hChAddKernelIdeal := hChAddKernelIdeal)
    ∧ quiescent_ChAddReferenceIdeal (hChAddReferenceIdeal := hChAddReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_HalfKernel (hHalfKernel := hHalfKernel)
    ∧ quiescent_HalfKernelIdeal (hHalfKernelIdeal := hHalfKernelIdeal)
    ∧ quiescent_HalfReferenceIdeal (hHalfReferenceIdeal := hHalfReferenceIdeal)
    ∧ quiescent_ChipKernel (hChipKernel := hChipKernel)
    ∧ quiescent_ChipKernelIdeal (hChipKernelIdeal := hChipKernelIdeal)
    ∧ quiescent_ChipReferenceIdeal (hChipReferenceIdeal := hChipReferenceIdeal)
    ∧ quiescent_GatherKernel (hGatherKernel := hGatherKernel)
    ∧ quiescent_GatherKernelIdeal (hGatherKernelIdeal := hGatherKernelIdeal)
    ∧ quiescent_GatherReferenceIdeal (hGatherReferenceIdeal := hGatherReferenceIdeal)
    ∧ preserves_KvKernel_KvKernelIdeal
    ∧ algebraic_KvKernelIdeal_KvReferenceIdeal (hKvKernelIdeal := hKvKernelIdeal) (hKvReferenceIdeal := hKvReferenceIdeal)
    ∧ preserves_InKernel_InKernelIdeal
    ∧ algebraic_InKernelIdeal_InReferenceIdeal_pre_finite_in (hInKernelIdeal := hInKernelIdeal) (hInReferenceIdeal := hInReferenceIdeal) (hPre_finite_in := hPre_finite_in)
    ∧ preserves_MlpKernel_MlpKernelIdeal
    ∧ algebraic_MlpKernelIdeal_MlpReferenceIdeal_pre_finite_mlp (hMlpKernelIdeal := hMlpKernelIdeal) (hMlpReferenceIdeal := hMlpReferenceIdeal) (hPre_finite_mlp := hPre_finite_mlp)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_XattnKernel_XattnKernelIdeal
    ∧ algebraic_XattnKernelIdeal_XattnReferenceIdeal_pre_finite_xattn (hXattnKernelIdeal := hXattnKernelIdeal) (hXattnReferenceIdeal := hXattnReferenceIdeal) (hPre_finite_xattn := hPre_finite_xattn)
    ∧ preserves_PoolKernel_PoolKernelIdeal
    ∧ algebraic_PoolKernelIdeal_PoolReferenceIdeal_pre_finite_pool (hPoolKernelIdeal := hPoolKernelIdeal) (hPoolReferenceIdeal := hPoolReferenceIdeal) (hPre_finite_pool := hPre_finite_pool)
    ∧ preserves_MixKernel_MixKernelIdeal
    ∧ algebraic_MixKernelIdeal_MixReferenceIdeal (hMixKernelIdeal := hMixKernelIdeal) (hMixReferenceIdeal := hMixReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_MemKernel_MemKernelIdeal
    ∧ algebraic_MemKernelIdeal_MemReferenceIdeal (hMemKernelIdeal := hMemKernelIdeal) (hMemReferenceIdeal := hMemReferenceIdeal)
    ∧ preserves_PoolFwdKernel_PoolFwdKernelIdeal
    ∧ algebraic_PoolFwdKernelIdeal_PoolFwdReferenceIdeal_pre_finite_poolf (hPoolFwdKernelIdeal := hPoolFwdKernelIdeal) (hPoolFwdReferenceIdeal := hPoolFwdReferenceIdeal) (hPre_finite_poolf := hPre_finite_poolf)
    ∧ preserves_PairKernel_PairKernelIdeal
    ∧ algebraic_PairKernelIdeal_PairReferenceIdeal (hPairKernelIdeal := hPairKernelIdeal) (hPairReferenceIdeal := hPairReferenceIdeal)
    ∧ preserves_TnKernel_TnKernelIdeal
    ∧ algebraic_TnKernelIdeal_TnReferenceIdeal (hTnKernelIdeal := hTnKernelIdeal) (hTnReferenceIdeal := hTnReferenceIdeal)
    ∧ preserves_ChAddKernel_ChAddKernelIdeal
    ∧ algebraic_ChAddKernelIdeal_ChAddReferenceIdeal (hChAddKernelIdeal := hChAddKernelIdeal) (hChAddReferenceIdeal := hChAddReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_HalfKernel_HalfKernelIdeal
    ∧ algebraic_HalfKernelIdeal_HalfReferenceIdeal (hHalfKernelIdeal := hHalfKernelIdeal) (hHalfReferenceIdeal := hHalfReferenceIdeal)
    ∧ preserves_ChipKernel_ChipKernelIdeal
    ∧ algebraic_ChipKernelIdeal_ChipReferenceIdeal (hChipKernelIdeal := hChipKernelIdeal) (hChipReferenceIdeal := hChipReferenceIdeal)
    ∧ preserves_GatherKernel_GatherKernelIdeal
    ∧ algebraic_GatherKernelIdeal_GatherReferenceIdeal (hGatherKernelIdeal := hGatherKernelIdeal) (hGatherReferenceIdeal := hGatherReferenceIdeal)
-- ==== Pre_finite_in.lean ====
abbrev S1x4096x1024 : Shape := ⟨3, ![1, 4096, 1024]⟩
abbrev S1x1024 : Shape := ⟨2, ![1, 1024]⟩
abbrev S1x1024x2560 : Shape := ⟨3, ![1, 1024, 2560]⟩
abbrev S1x4096x512 : Shape := ⟨3, ![1, 4096, 512]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x2560 : S_.BroadcastsInDim S1x1024x2560 (![] : Fin 0 → Fin S1x1024x2560.rank)
  bcast_S_S1x4096x512 : S_.BroadcastsInDim S1x4096x512 (![] : Fin 0 → Fin S1x4096x512.rank)

variable [Facts]

def fn_part1 {F : FTy → Type} [FloatOps F] (main_arg7 : FVec F S1x4096x512 .f32) (main_arg8 : FVec F S1x4096x512 .f32) (main_v2 : IVec S1x4096x1024 1) (main_v5 : IVec S1x1024 1) (main_v8 : IVec S1x1024x2560 1) (main_v11 : IVec S1x4096x512 1) (main_v14 : IVec S1x4096x512 1) (main_v17 : IVec S1x4096x512 1) : IVec S1x4096x1024 1 × IVec S1x1024 1 × IVec S1x1024x2560 1 × IVec S1x4096x512 1 × IVec S1x4096x512 1 × IVec S1x4096x512 1 × IVec S1x4096x512 1 × IVec S1x4096x512 1 :=
  let main_v18 : FVec F S1x4096x512 .f32 := Host.absf main_arg7
  let main_cst_5 : FVec F S_ .f32 := constant S_ .f32 0x7F800000#32
  let main_v19 : FVec F S1x4096x512 .f32 := broadcastInDim S1x4096x512 ![] bcast_S_S1x4096x512 main_cst_5
  let main_v20 : IVec S1x4096x512 1 := cmpf .olt main_v18 main_v19
  let main_v21 : FVec F S1x4096x512 .f32 := Host.absf main_arg8
  let main_cst_6 : FVec F S_ .f32 := constant S_ .f32 0x7F800000#32
  let main_v22 : FVec F S1x4096x512 .f32 := broadcastInDim S1x4096x512 ![] bcast_S_S1x4096x512 main_cst_6
  let main_v23 : IVec S1x4096x512 1 := cmpf .olt main_v21 main_v22
  (main_v2, main_v5, main_v8, main_v11, main_v14, main_v17, main_v20, main_v23)

def fn {F : FTy → Type} [FloatOps F] (main_arg0 : FVec F S1x4096x1024 .f32) (main_arg1 : FVec F S1x1024 .f32) (main_arg2 : FVec F S1x1024x2560 .f32) (main_arg3 : FVec F S1x4096x1024 .f32) (main_arg4 : FVec F S1x4096x512 .f32) (main_arg5 : FVec F S1x4096x512 .f32) (main_arg6 : FVec F S1x4096x512 .f32) (main_arg7 : FVec F S1x4096x512 .f32) (main_arg8 : FVec F S1x4096x512 .f32) : IVec S1x4096x1024 1 × IVec S1x1024 1 × IVec S1x1024x2560 1 × IVec S1x4096x512 1 × IVec S1x4096x512 1 × IVec S1x4096x512 1 × IVec S1x4096x512 1 × IVec S1x4096x512 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2560 .f32 := Host.absf main_arg2
  let main_cst_1 : FVec F S_ .f32 := constant S_ .f32 0x7F800000#32
  let main_v7 : FVec F S1x1024x2560 .f32 := broadcastInDim S1x1024x2560 ![] bcast_S_S1x1024x2560 main_cst_1
  let main_v8 : IVec S1x1024x2560 1 := cmpf .olt main_v6 main_v7
  let main_v9 : FVec F S1x4096x512 .f32 := Host.absf main_arg4
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  let main_v12 : FVec F S1x4096x512 .f32 := Host.absf main_arg5
  let main_cst_3 : FVec F S_ .f32 := constant S_ .f32 0x7F800000#32
  let main_v13 : FVec F S1x4096x512 .f32 := broadcastInDim S1x4096x512 ![] bcast_S_S1x4096x512 main_cst_3
  let main_v14 : IVec S1x4096x512 1 := cmpf .olt main_v12 main_v13
  let main_v15 : FVec F S1x4096x512 .f32 := Host.absf main_arg6
  let main_cst_4 : FVec F S_ .f32 := constant S_ .f32 0x7F800000#32
  let main_v16 : FVec F S1x4096x512 .f32 := broadcastInDim S1x4096x512 ![] bcast_S_S1x4096x512 main_cst_4
  let main_v17 : IVec S1x4096x512 1 := cmpf .olt main_v15 main_v16
  fn_part1 (F := F) main_arg7 main_arg8 main_v2 main_v5 main_v8 main_v11 main_v14 main_v17
-- ==== Pre_finite_loss.lean ====
abbrev S1x4096x1024 : Shape := ⟨3, ![1, 4096, 1024]⟩
abbrev S1x1024 : Shape := ⟨2, ![1, 1024]⟩
abbrev S1024 : Shape := ⟨1, ![1024]⟩
abbrev S1x1024x4096 : Shape := ⟨3, ![1, 1024, 4096]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1024 : S_.BroadcastsInDim S1024 (![] : Fin 0 → Fin S1024.rank)
  bcast_S_S1x1024x4096 : S_.BroadcastsInDim S1x1024x4096 (![] : Fin 0 → Fin S1x1024x4096.rank)

variable [Facts]

def fn {F : FTy → Type} [FloatOps F] (main_arg0 : FVec F S1x4096x1024 .f32) (main_arg1 : FVec F S1x1024 .f32) (main_arg2 : FVec F S1024 .f32) (main_arg3 : FVec F S1x1024x4096 .f32) (main_arg4 : FVec F S1x4096x1024 .f32) (main_arg5 : FVec F S1x4096x1024 .f32) : IVec S1x4096x1024 1 × IVec S1x1024 1 × IVec S1024 1 × IVec S1x1024x4096 1 × IVec S1x4096x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1x1024x4096 .f32 := Host.absf main_arg3
  let main_cst_2 : FVec F S_ .f32 := constant S_ .f32 0x7F800000#32
  let main_v10 : FVec F S1x1024x4096 .f32 := broadcastInDim S1x1024x4096 ![] bcast_S_S1x1024x4096 main_cst_2
  let main_v11 : IVec S1x1024x4096 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_finite_mlp.lean ====
abbrev S1x4096x1024 : Shape := ⟨3, ![1, 4096, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)

variable [Facts]

def fn {F : FTy → Type} [FloatOps F] (main_arg0 : FVec F S1x4096x1024 .f32) (main_arg1 : FVec F S1x1024 .f32) (main_arg2 : FVec F S1x1024x4096 .f32) (main_arg3 : FVec F S1x4096x1024 .f32) (main_arg4 : FVec F S1x4096x1024 .f32) : IVec S1x4096x1024 1 × IVec S1x1024 1 × IVec S1x1024x4096 1 × IVec S1x4096x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_finite_pool.lean ====
abbrev S1x4096x2560 : Shape := ⟨3, ![1, 4096, 2560]⟩
abbrev S1x4x128x128 : Shape := ⟨4, ![1, 4, 128, 128]⟩
abbrev S1x512 : Shape := ⟨2, ![1, 512]⟩
abbrev S1x4096x1024 : Shape := ⟨3, ![1, 4096, 1024]⟩
abbrev S1x4096x512 : Shape := ⟨3, ![1, 4096, 512]⟩
abbrev S_ : Shape := ⟨0, ![]⟩

class Facts : Prop where
  slices_S1x4096x2560_S1x4096x512_0_0_2048 : S1x4096x2560.Slices ![0, 0, 2048] S1x4096x512
  slices_S1x4096x1024_S1x4096x512_0_0_512 : S1x4096x1024.Slices ![0, 0, 512] S1x4096x512
  bcast_S_S1x4096x512 : S_.BroadcastsInDim S1x4096x512 (![] : Fin 0 → Fin S1x4096x512.rank)
  bcast_S_S1x4x128x128 : S_.BroadcastsInDim S1x4x128x128 (![] : Fin 0 → Fin S1x4x128x128.rank)
  bcast_S_S1x512 : S_.BroadcastsInDim S1x512 (![] : Fin 0 → Fin S1x512.rank)

variable [Facts]

def fn {F : FTy → Type} [FloatOps F] (main_arg0 : FVec F S1x4096x2560 .f32) (main_arg1 : FVec F S1x4x128x128 .f32) (main_arg2 : FVec F S1x512 .f32) (main_arg3 : FVec F S1x4096x1024 .f32) : IVec S1x4096x512 1 × IVec S1x4x128x128 1 × IVec S1x512 1 × IVec S1x4096x512 1 :=
  let main_v0 : FVec F S1x4096x512 .f32 := (extractStridedSlice S1x4096x512 ![0, 0, 2048] · slices_S1x4096x2560_S1x4096x512_0_0_2048) main_arg0
  let main_v1 : FVec F S1x4096x512 .f32 := (extractStridedSlice S1x4096x512 ![0, 0, 512] · slices_S1x4096x1024_S1x4096x512_0_0_512) main_arg3
  let main_v2 : FVec F S1x4096x512 .f32 := Host.absf main_v0
  let main_cst : FVec F S_ .f32 := constant S_ .f32 0x7F800000#32
  let main_v3 : FVec F S1x4096x512 .f32 := broadcastInDim S1x4096x512 ![] bcast_S_S1x4096x512 main_cst
  let main_v4 : IVec S1x4096x512 1 := cmpf .olt main_v2 main_v3
  let main_v5 : FVec F S1x4x128x128 .f32 := Host.absf main_arg1
  let main_cst_0 : FVec F S_ .f32 := constant S_ .f32 0x7F800000#32
  let main_v6 : FVec F S1x4x128x128 .f32 := broadcastInDim S1x4x128x128 ![] bcast_S_S1x4x128x128 main_cst_0
  let main_v7 : IVec S1x4x128x128 1 := cmpf .olt main_v5 main_v6
  let main_v8 : FVec F S1x512 .f32 := Host.absf main_arg2
  let main_cst_1 : FVec F S_ .f32 := constant S_ .f32 0x7F800000#32
  let main_v9 : FVec F S1x512 .f32 := broadcastInDim S1x512 ![] bcast_S_S1x512 main_cst_1
  let main_v10 : IVec S1x512 1 := cmpf .olt main_v8 main_v9
  let main_v11 : FVec F S1x4096x512 .f32 := Host.absf main_v1
  let main_cst_2 : FVec F S_ .f32 := constant S_ .f32 0x7F800000#32
  let main_v12 : FVec F S1x4096x512 .f32 := broadcastInDim S1x4096x512 ![] bcast_S_S1x4096x512 main_cst_2
  let main_v13 : IVec S1x4096x512 1 := cmpf .olt main_v11 main_v12
  (main_v4, main_v7, main_v10, main_v13)
-- ==== Pre_finite_poolf.lean ====
abbrev S1x4096x2560 : Shape := ⟨3, ![1, 4096, 2560]⟩
abbrev S1x4x128x128 : Shape := ⟨4, ![1, 4, 128, 128]⟩
abbrev S1x512 : Shape := ⟨2, ![1, 512]⟩
abbrev S1x4096x512 : Shape := ⟨3, ![1, 4096, 512]⟩
abbrev S_ : Shape := ⟨0, ![]⟩

class Facts : Prop where
  slices_S1x4096x2560_S1x4096x512_0_0_2048 : S1x4096x2560.Slices ![0, 0, 2048] S1x4096x512
  bcast_S_S1x4096x512 : S_.BroadcastsInDim S1x4096x512 (![] : Fin 0 → Fin S1x4096x512.rank)

variable [Facts]

def fn {F : FTy → Type} [FloatOps F] (main_arg0 : FVec F S1x4096x2560 .f32) (main_arg1 : FVec F S1x4x128x128 .f32) (main_arg2 : FVec F S1x512 .f32) : IVec S1x4096x512 1 :=
  let main_v0 : FVec F S1x4096x512 .f32 := (extractStridedSlice S1x4096x512 ![0, 0, 2048] · slices_S1x4096x2560_S1x4096x512_0_0_2048) main_arg0
  let main_v1 : FVec F S1x4096x512 .f32 := Host.absf main_v0
  let main_cst : FVec F S_ .f32 := constant S_ .f32 0x7F800000#32
  let main_v2 : FVec F S1x4096x512 .f32 := broadcastInDim S1x4096x512 ![] bcast_S_S1x4096x512 main_cst
  let main_v3 : IVec S1x4096x512 1 := cmpf .olt main_v1 main_v2
  main_v3
-- ==== Pre_finite_xattn.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1x4x256x1024 : Shape := ⟨4, ![1, 4, 256, 1024]⟩
abbrev S_ : Shape := ⟨0, ![]⟩

class Facts : Prop where
  bcast_S_S1x4096x1024 : S_.BroadcastsInDim S1x4096x1024 (![] : Fin 0 → Fin S1x4096x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x4x256 : S_.BroadcastsInDim S1x1024x4x256 (![] : Fin 0 → Fin S1x1024x4x256.rank)
  bcast_S_S1x256x4x256 : S_.BroadcastsInDim S1x256x4x256 (![] : Fin 0 → Fin S1x256x4x256.rank)
  bcast_S_S1x4x256x1024 : S_.BroadcastsInDim S1x4x256x1024 (![] : Fin 0 → Fin S1x4x256x1024.rank)

variable [Facts]

def fn_part1 {F : FTy → Type} [FloatOps F] (main_arg6 : FVec F S1x256x4x256 .f32) (main_arg7 : FVec F S1x4x256x1024 .f32) (main_arg8 : FVec F S1x4096x1024 .f32) (main_v2 : IVec S1x4096x1024 1) (main_v5 : IVec S1x4096x1024 1) (main_v8 : IVec S1x1024x1024 1) (main_v11 : IVec S1x1024 1) (main_v14 : IVec S1x1024x4x256 1) (main_v17 : IVec S1x256x4x256 1) : IVec S1x4096x1024 1 × IVec S1x4096x1024 1 × IVec S1x1024x1024 1 × IVec S1x1024 1 × IVec S1x1024x4x256 1 × IVec S1x256x4x256 1 × IVec S1x256x4x256 1 × IVec S1x4x256x1024 1 × IVec S1x4096x1024 1 :=
  let main_v18 : FVec F S1x256x4x256 .f32 := Host.absf main_arg6
  let main_cst_5 : FVec F S_ .f32 := constant S_ .f32 0x7F800000#32
  let main_v19 : FVec F S1x256x4x256 .f32 := broadcastInDim S1x256x4x256 ![] bcast_S_S1x256x4x256 main_cst_5
  let main_v20 : IVec S1x256x4x256 1 := cmpf .olt main_v18 main_v19
  let main_v21 : FVec F S1x4x256x1024 .f32 := Host.absf main_arg7
  let main_cst_6 : FVec F S_ .f32 := constant S_ .f32 0x7F800000#32
  let main_v22 : FVec F S1x4x256x1024 .f32 := broadcastInDim S1x4x256x1024 ![] bcast_S_S1x4x256x1024 main_cst_6
  let main_v23 : IVec S1x4x256x1024 1 := cmpf .olt main_v21 main_v22
  let main_v24 : FVec F S1x4096x1024 .f32 := Host.absf main_arg8
  let main_cst_7 : FVec F S_ .f32 := constant S_ .f32 0x7F800000#32
  let main_v25 : FVec F S1x4096x1024 .f32 := broadcastInDim S1x4096x1024 ![] bcast_S_S1x4096x1024 main_cst_7
  let main_v26 : IVec S1x4096x1024 1 := cmpf .olt main_v24 main_v25
  (main_v2, main_v5, main_v8, main_v11, main_v14, main_v17, main_v20, main_v23, main_v26)

def fn {F : FTy → Type} [FloatOps F] (main_arg0 : FVec F S1x4096x1024 .f32) (main_arg1 : FVec F S1x4096x1024 .f32) (main_arg2 : FVec F S1x1024x1024 .f32) (main_arg3 : FVec F S1x1024 .f32) (main_arg4 : FVec F S1x1024x4x256 .f32) (main_arg5 : FVec F S1x256x4x256 .f32) (main_arg6 : FVec F S1x256x4x256 .f32) (main_arg7 : FVec F S1x4x256x1024 .f32) (main_arg8 : FVec F S1x4096x1024 .f32) : IVec S1x4096x1024 1 × IVec S1x4096x1024 1 × IVec S1x1024x1024 1 × IVec S1x1024 1 × IVec S1x1024x4x256 1 × IVec S1x256x4x256 1 × IVec S1x256x4x256 1 × IVec S1x4x256x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x4x256 .f32 := Host.absf main_arg4
  let main_cst_3 : FVec F S_ .f32 := constant S_ .f32 0x7F800000#32
  let main_v13 : FVec F S1x1024x4x256 .f32 := broadcastInDim S1x1024x4x256 ![] bcast_S_S1x1024x4x256 main_cst_3
  let main_v14 : IVec S1x1024x4x256 1 := cmpf .olt main_v12 main_v13
  let main_v15 : FVec F S1x256x4x256 .f32 := Host.absf main_arg5
  let main_cst_4 : FVec F S_ .f32 := constant S_ .f32 0x7F800000#32
  let main_v16 : FVec F S1x256x4x256 .f32 := broadcastInDim S1x256x4x256 ![] bcast_S_S1x256x4x256 main_cst_4
  let main_v17 : IVec S1x256x4x256 1 := cmpf .olt main_v15 main_v16
  fn_part1 (F := F) main_arg6 main_arg7 main_arg8 main_v2 main_v5 main_v8 main_v11 main_v14 main_v17
-- ==== KvKernel.lean ====
abbrev S1x256x1024 : Shape := ⟨3, ![1, 256, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1024x4x256 : Shape := ⟨3, ![1024, 4, 256]⟩
abbrev S4x256x1024 : Shape := ⟨3, ![4, 256, 1024]⟩
abbrev S4x512x1024 : Shape := ⟨3, ![4, 512, 1024]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S256x256 : Shape := ⟨2, ![256, 256]⟩
abbrev S1024 : Shape := ⟨1, ![1024]⟩
abbrev S7x1024 : Shape := ⟨2, ![7, 1024]⟩

abbrev nBuf : Space → Nat
  | .hbm => 18
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x4x256, .f32⟩
  | .hbm, ⟨3, _⟩ => ⟨S1x1024x4x256, .f32⟩
  | .hbm, ⟨4, _⟩ => ⟨S1x256x4x256, .f32⟩
  | .hbm, ⟨5, _⟩ => ⟨S1x256x4x256, .f32⟩
  | .hbm, ⟨6, _⟩ => ⟨S1024x4x256, .f32⟩
  | .hbm, ⟨7, _⟩ => ⟨S4x256x1024, .f32⟩
  | .hbm, ⟨8, _⟩ => ⟨S1024x4x256, .f32⟩
  | .hbm, ⟨9, _⟩ => ⟨S4x256x1024, .f32⟩
  | .hbm, ⟨10, _⟩ => ⟨S4x512x1024, .f32⟩
  | .hbm, ⟨11, _⟩ => ⟨S4x512x1024, .bf16⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S4x256x1024, .f32⟩
  | .hbm, ⟨16, _⟩ => ⟨S4x256x1024, .f32⟩
  | .hbm, ⟨17, _⟩ => ⟨S8x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .f32⟩
  | .local _ .vmem, ⟨7, _⟩ => ⟨S4x256x1024, .f32⟩
  | .local _ .vmem, ⟨8, _⟩ => ⟨S8x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KvReferenceIdeal.lean ====
abbrev S1x256x1024 : Shape := ⟨3, ![1, 256, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1024 : Shape := ⟨1, ![1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1024x4x256 : Shape := ⟨3, ![1024, 4, 256]⟩
abbrev S4x256x1024 : Shape := ⟨3, ![4, 256, 1024]⟩
abbrev S7x1024 : Shape := ⟨2, ![7, 1024]⟩
abbrev S8x1024 : Shape := ⟨2, ![8, 1024]⟩

abbrev nBuf : Space → Nat
  | .hbm => 48
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x4x256, .f32⟩
  | .hbm, ⟨3, _⟩ => ⟨S1x1024x4x256, .f32⟩
  | .hbm, ⟨4, _⟩ => ⟨S1x256x4x256, .f32⟩
  | .hbm, ⟨5, _⟩ => ⟨S1x256x4x256, .f32⟩
  | .hbm, ⟨6, _⟩ => ⟨S1024, .f32⟩
  | .hbm, ⟨7, _⟩ => ⟨S1x256x1024, .f32⟩
  | .hbm, ⟨8, _⟩ => ⟨S_, .f32⟩
  | .hbm, ⟨9, _⟩ => ⟨S1x256, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S_, .f32⟩
  | .hbm, ⟨15, _⟩ => ⟨S1x256x1, .f32⟩
  | .hbm, ⟨16, _⟩ => ⟨S1x256x1, .f32⟩
  | .hbm, ⟨17, _⟩ => ⟨S1x256x1, .f32⟩
  | .hbm, ⟨18, _⟩ => ⟨S1x256x1024, .f32⟩
  | .hbm, ⟨19, _⟩ => ⟨S1x256x1024, .f32⟩
  | .hbm, ⟨20, _⟩ => ⟨S1x1x1024, .f32⟩
  | .hbm, ⟨21, _⟩ => ⟨S1x256x1024, .f32⟩
  | .hbm, ⟨22, _⟩ => ⟨S1x256x1024, .f32⟩
  | .hbm, ⟨23, _⟩ => ⟨S1024x4x256, .f32⟩
  | .hbm, ⟨24, _⟩ => ⟨S1x256x4x256, .f32⟩
  | .hbm, ⟨25, _⟩ => ⟨S1024x4x256, .f32⟩
  | .hbm, ⟨26, _⟩ => ⟨S1x256x4x256, .f32⟩
  | .hbm, ⟨27, _⟩ => ⟨S4x256x1024, .f32⟩
  | .hbm, ⟨28, _⟩ => ⟨S1024x4x256, .f32⟩
  | .hbm, ⟨29, _⟩ => ⟨S1x256x1024, .f32⟩
  | .hbm, ⟨30, _⟩ => ⟨S1x1024x4x256, .f32⟩
  | .hbm, ⟨31, _⟩ => ⟨S4x256x1024, .f32⟩
  | .hbm, ⟨32, _⟩ => ⟨S1024x4x256, .f32⟩
  | .hbm, ⟨33, _⟩ => ⟨S1x256x1024, .f32⟩
  | .hbm, ⟨34, _⟩ => ⟨S1x256x1024, .f32⟩
  | .hbm, ⟨35, _⟩ => ⟨S1x1024x4x256, .f32⟩
  | .hbm, ⟨36, _⟩ => ⟨S1x256x1024, .f32⟩
  | .hbm, ⟨37, _⟩ => ⟨S_, .f32⟩
  | .hbm, ⟨38, _⟩ => ⟨S1x1024, .f32⟩
  | .hbm, ⟨39, _⟩ => ⟨S1x1x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4x256x1024, .f32⟩
  | .hbm, ⟨44, _⟩ => ⟨S4x256x1024, .f32⟩
  | .hbm, ⟨45, _⟩ => ⟨S_, .f32⟩
  | .hbm, ⟨46, _⟩ => ⟨S7x1024, .f32⟩
  | .hbm, ⟨47, _⟩ => ⟨S8x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== InKernel.lean ====
abbrev S1x4096x1024 : Shape := ⟨3, ![1, 4096, 1024]⟩
abbrev S1x1024 : Shape := ⟨2, ![1, 1024]⟩
abbrev S1x1024x2560 : Shape := ⟨3, ![1, 1024, 2560]⟩
abbrev S1x4096x512 : Shape := ⟨3, ![1, 4096, 512]⟩
abbrev S1024x2560 : Shape := ⟨2, ![1024, 2560]⟩
abbrev S1024x4x640 : Shape := ⟨3, ![1024, 4, 640]⟩
abbrev S4x1024x640 : Shape := ⟨3, ![4, 1024, 640]⟩
abbrev S4096x512 : Shape := ⟨2, ![4096, 512]⟩
abbrev S4096x1024 : Shape := ⟨2, ![4096, 1024]⟩
abbrev S4096x2560 : Shape := ⟨2, ![4096, 2560]⟩
abbrev S8x1024 : Shape := ⟨2, ![8, 1024]⟩
abbrev S512x512 : Shape := ⟨2, ![512, 512]⟩
abbrev S512x1024 : Shape := ⟨2, ![512, 1024]⟩
abbrev S512x2560 : Shape := ⟨2, ![512, 2560]⟩
abbrev S512x640 : Shape := ⟨2, ![512, 640]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩
abbrev S1024 : Shape := ⟨1, ![1024]⟩
abbrev S7x1024 : Shape := ⟨2, ![7, 1024]⟩

abbrev nBuf : Space → Nat
  | .hbm => 23
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2560, .f32⟩
  | .hbm, ⟨3, _⟩ => ⟨S1x4096x1024, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .hbm, ⟨9, _⟩ => ⟨S1024x2560, .f32⟩
  | .hbm, ⟨10, _⟩ => ⟨S1024x4x640, .f32⟩
  | .hbm, ⟨11, _⟩ => ⟨S4x1024x640, .f32⟩
  | .hbm, ⟨12, _⟩ => ⟨S4x1024x640, .bf16⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2560, .bf16⟩
  | .hbm, ⟨22, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S4x1024x640, .bf16⟩
  | .local _ .vmem, ⟨16, _⟩ => ⟨S512x1024, .f32⟩
  | .local _ .vmem, ⟨17, _⟩ => ⟨S512x1024, .f32⟩
  | .local _ .vmem, ⟨18, _⟩ => ⟨S512x2560, .bf16⟩
  | .local _ .vmem, ⟨19, _⟩ => ⟨S512x2560, .bf16⟩
  | .local _ .vmem, ⟨20, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_39 : BitVec 32 := 0#32
  let v70 : BitVec 1 := Scalar.cmpi .ne v69 c0_i32_39
  v70

def k0_cond2 (i : grid0.Coords) : BitVec 1 :=
  let arg0 : BitVec 32 := BitVec.ofNat 32 (i 0).val
  let c0_i32_40 : BitVec 32 := 0#32
  let v71 : BitVec 1 := Scalar.cmpi .sgt arg0 c0_i32_40
  let v72 : BitVec 32 := Scalar.extui v71
  let c0_i32_41 : BitVec 32 := 0#32
  let v73 : BitVec 1 := Scalar.cmpi .ne v72 c0_i32_41
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InReferenceIdeal.lean ====
abbrev S1x4096x1024 : Shape := ⟨3, ![1, 4096, 1024]⟩
abbrev S1x1024 : Shape := ⟨2, ![1, 1024]⟩
abbrev S1x1024x2560 : Shape := ⟨3, ![1, 1024, 2560]⟩
abbrev S1x4096x512 : Shape := ⟨3, ![1, 4096, 512]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2560 : Shape := ⟨2, ![1024, 2560]⟩
abbrev S1x4096x2560 : Shape := ⟨3, ![1, 4096, 2560]⟩
abbrev S4096 : Shape := ⟨1, ![4096]⟩
abbrev S4096x1024 : Shape := ⟨2, ![4096, 1024]⟩
abbrev S4096x2560 : Shape := ⟨2, ![4096, 2560]⟩
abbrev S7x1024 : Shape := ⟨2, ![7, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2560, .f32⟩
  | .hbm, ⟨3, _⟩ => ⟨S1x4096x1024, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .hbm, ⟨9, _⟩ => ⟨S1024, .f32⟩
  | .hbm, ⟨10, _⟩ => ⟨S1x4096x1024, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x1024, .f32⟩
  | .hbm, ⟨26, _⟩ => ⟨S1x4096x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1024x2560, .f32⟩
  | .hbm, ⟨31, _⟩ => ⟨S1x4096x2560, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S1x4096x2560, .f32⟩
  | .hbm, ⟨38, _⟩ => ⟨S1x4096x1024, .f32⟩
  | .hbm, ⟨39, _⟩ => ⟨S1x4096x1024, .f32⟩
  | .hbm, ⟨40, _⟩ => ⟨S_, .f32⟩
  | .hbm, ⟨41, _⟩ => ⟨S1x1024, .f32⟩
  | .hbm, ⟨42, _⟩ => ⟨S1x1x1024, .f32⟩
  | .hbm, ⟨43, _⟩ => ⟨S1x4096x1024, .f32⟩
  | .hbm, ⟨44, _⟩ => ⟨S1x4096x1024, .f32⟩
  | .hbm, ⟨45, _⟩ => ⟨S_, .f32⟩
  | .hbm, ⟨46, _⟩ => ⟨S1024, .f32⟩
  | .hbm, ⟨47, _⟩ => ⟨S1x4096x1024, .f32⟩
  | .hbm, ⟨48, _⟩ => ⟨S_, .f32⟩
  | .hbm, ⟨49, _⟩ => ⟨S1x4096, .f32⟩
  | .hbm, ⟨50, _⟩ => ⟨S1x4096x1, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1, .f32⟩
  | .hbm, ⟨55, _⟩ => ⟨S_, .f32⟩
  | .hbm, ⟨56, _⟩ => ⟨S1x4096x1, .f32⟩
  | .hbm, ⟨57, _⟩ => ⟨S1x4096x1, .f32⟩
  | .hbm, ⟨58, _⟩ => ⟨S_, .f32⟩
  | .hbm, ⟨59, _⟩ => ⟨S4096, .f32⟩
  | .hbm, ⟨60, _⟩ => ⟨S1x4096, .f32⟩
  | .hbm, ⟨61, _⟩ => ⟨S1x4096x1024, .f32⟩
  | .hbm, ⟨62, _⟩ => ⟨S1x4096x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x1024, .f32⟩
  | .hbm, ⟨67, _⟩ => ⟨S1x4096x2560, .f32⟩
  | .hbm, ⟨68, _⟩ => ⟨S4096x1024, .f32⟩
  | .hbm, ⟨69, _⟩ => ⟨S4096x2560, .f32⟩
  | .hbm, ⟨70, _⟩ => ⟨S4096x2560, .bf16⟩
  | .hbm, ⟨71, _⟩ => ⟨S_, .f32⟩
  | .hbm, ⟨72, _⟩ => ⟨S7x1024, .f32⟩
  | .hbm, ⟨73, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== MlpKernel.lean ====
abbrev S1x4096x1024 : Shape := ⟨3, ![1, 4096, 1024]⟩
abbrev S1x1024 : Shape := ⟨2, ![1, 1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S8x1024 : Shape := ⟨2, ![8, 1024]⟩
abbrev S256x1024 : Shape := ⟨2, ![256, 1024]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩
abbrev S7x1024 : Shape := ⟨2, ![7, 1024]⟩

abbrev nBuf : Space → Nat
  | .hbm => 41
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x4096x1024, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S4096x1024, .f32⟩
  | .hbm, ⟨10, _⟩ => ⟨S4x1024x1024, .f32⟩
  | .hbm, ⟨11, _⟩ => ⟨S4x1024x1024, .bf16⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S1024x4096, .f32⟩
  | .hbm, ⟨30, _⟩ => ⟨S1024x4096, .bf16⟩
  | .hbm, ⟨31, _⟩ => ⟨S4096x4096, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S4096x4096, .bf16⟩
  | .hbm, ⟨37, _⟩ => ⟨S4096x4096, .bf16⟩
  | .hbm, ⟨38, _⟩ => ⟨S4096x1024, .f32⟩
  | .hbm, ⟨39, _⟩ => ⟨S4096x1024, .bf16⟩
  | .hbm, ⟨40, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x4096, .f32⟩
  | .local _ .vmem, ⟨5, _⟩ => ⟨S256x4096, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S4x1024x1024, .bf16⟩
  | .local _ .vmem, ⟨10, _⟩ => ⟨S4x1024x1024, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_v28_3 : Ref sig .tc := ⟨.hbm, 39, rfl⟩
abbrev main_v28_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v115 : BitVec 1 := Scalar.cmpi .eq arg0 c0_i32
  let v116 : BitVec 32 := Scalar.extui v115
  let c0_i32_76 : BitVec 32 := 0#32
  let v117 : BitVec 1 := Scalar.cmpi .ne v116 c0_i32_76
  v117

def k0_cond2 (i : grid0.Coords) : BitVec 1 :=
  let arg0 : BitVec 32 := BitVec.ofNat 32 (i 0).val
  let c0_i32_77 : BitVec 32 := 0#32
  let v118 : BitVec 1 := Scalar.cmpi .sgt arg0 c0_i32_77
  let v119 : BitVec 32 := Scalar.extui v118
  let c0_i32_78 : BitVec 32 := 0#32
  let v120 : BitVec 1 := Scalar.cmpi .ne v119 c0_i32_78
  v120

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpReferenceIdeal.lean ====
abbrev S1x4096x1024 : Shape := ⟨3, ![1, 4096, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4096 : Shape := ⟨2, ![1024, 4096]⟩
abbrev S1x4096x4096 : Shape := ⟨3, ![1, 4096, 4096]⟩
abbrev S4096x1024 : Shape := ⟨2, ![4096, 1024]⟩
abbrev S4096 : Shape := ⟨1, ![4096]⟩
abbrev S4096x4096 : Shape := ⟨2, ![4096, 4096]⟩
abbrev S7x1024 : Shape := ⟨2, ![7, 1024]⟩
abbrev S8x1024 : Shape := ⟨2, ![8, 1024]⟩

abbrev nBuf : Space → Nat
  | .hbm => 130
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x4096, .f32⟩
  | 3 => ⟨S1x4096x1024, .f32⟩
  | 4 => ⟨S1x4096x1024, .f32⟩
  | 5 => ⟨S1024, .f32⟩
  | 6 => ⟨S1x4096x1024, .f32⟩
  | 7 => ⟨S_, .f32⟩
  | 8 => ⟨S1x4096, .f32⟩
  | 9 => ⟨S1x4096x1, .f32⟩
  | 10 => ⟨S_, .f32⟩
  | 11 => ⟨S1x4096x1, .f32⟩
  | 12 => ⟨S1x4096x1, .f32⟩
  | 13 => ⟨S_, .f32⟩
  | 14 => ⟨S1x4096x1, .f32⟩
  | 15 => ⟨S1x4096x1, .f32⟩
  | 16 => ⟨S1x4096x1, .f32⟩
  | 17 => ⟨S1x4096x1024, .f32⟩
  | 18 => ⟨S1x4096x1024, .f32⟩
  | 19 => ⟨S1x1x1024, .f32⟩
  | 20 => ⟨S1x4096x1024, .f32⟩
  | 21 => ⟨S1x4096x1024, .f32⟩
  | 22 => ⟨S1024x4096, .f32⟩
  | 23 => ⟨S1x4096x4096, .f32⟩
  | 24 => ⟨S_, .f32⟩
  | 25 => ⟨S1x4096x4096, .f32⟩
  | 26 => ⟨S1x4096x4096, .f32⟩
  | 27 => ⟨S1x4096x4096, .f32⟩
  | 28 => ⟨S_, .f32⟩
  | 29 => ⟨S1x4096x4096, .f32⟩
  | 30 => ⟨S1x4096x4096, .f32⟩
  | 31 => ⟨S_, .f32⟩
  | 32 => ⟨S1x4096x4096, .f32⟩
  | 33 => ⟨S1x4096x4096, .i1⟩
  | 34 => ⟨S_, .f32⟩
  | 35 => ⟨S1x4096x4096, .f32⟩
  | 36 => ⟨S1x4096x4096, .f32⟩
  | 37 => ⟨S_, .f32⟩
  | 38 => ⟨S1x4096x4096, .f32⟩
  | 39 => ⟨S1x4096x4096, .f32⟩
  | 40 => ⟨S4096x1024, .f32⟩
  | 41 => ⟨S1x4096x1024, .f32⟩
  | 42 => ⟨S1x4096x4096, .f32⟩
  | 43 => ⟨S1x4096x4096, .f32⟩
  | 44 => ⟨S_, .f32⟩
  | 45 => ⟨S1x4096x4096, .f32⟩
  | 46 => ⟨S1x4096x4096, .f32⟩
  | 47 => ⟨S1024, .f32⟩
  | 48 => ⟨S1x4096x1024, .f32⟩
  | 49 => ⟨S_, .f32⟩
  | 50 => ⟨S1x4096, .f32⟩
  | 51 => ⟨S1x4096x1, .f32⟩
  | 52 => ⟨S_, .f32⟩
  | 53 => ⟨S1x4096x1, .f32⟩
  | 54 => ⟨S1x4096x1, .f32⟩
  | 55 => ⟨S_, .f32⟩
  | 56 => ⟨S1x4096x1, .f32⟩
  | 57 => ⟨S1x4096x1, .f32⟩
  | 58 => ⟨S1x4096x1, .f32⟩
  | 59 => ⟨S1x4096x1, .f32⟩
  | 60 => ⟨S_, .f32⟩
  | 61 => ⟨S1x4096x1, .f32⟩
  | 62 => ⟨S1x4096x1, .f32⟩
  | 63 => ⟨S1x4096x1024, .f32⟩
  | 64 => ⟨S1x4096x1024, .f32⟩
  | 65 => ⟨S1x1x1024, .f32⟩
  | 66 => ⟨S1x4096x1024, .f32⟩
  | 67 => ⟨S1x4096x1024, .f32⟩
  | 68 => ⟨S1024x4096, .f32⟩
  | 69 => ⟨S1x4096x4096, .f32⟩
  | 70 => ⟨S_, .f32⟩
  | 71 => ⟨S1x4096x4096, .f32⟩
  | 72 => ⟨S1x4096x4096, .f32⟩
  | 73 => ⟨S_, .f32⟩
  | 74 => ⟨S1x4096x4096, .f32⟩
  | 75 => ⟨S1x4096x4096, .i1⟩
  | 76 => ⟨S_, .f32⟩
  | 77 => ⟨S1x4096x4096, .f32⟩
  | 78 => ⟨S1x4096x4096, .f32⟩
  | 79 => ⟨S_, .f32⟩
  | 80 => ⟨S1x4096x4096, .f32⟩
  | 81 => ⟨S1x4096x4096, .f32⟩
  | 82 => ⟨S4096x1024, .f32⟩
  | 83 => ⟨S1x4096x1024, .f32⟩
  | 84 => ⟨S1x4096x1024, .f32⟩
  | 85 => ⟨S1x4096x1024, .f32⟩
  | 86 => ⟨S1x4096x4096, .f32⟩
  | 87 => ⟨S1x4096x4096, .f32⟩
  | 88 => ⟨S_, .f32⟩
  | 89 => ⟨S1x4096x4096, .f32⟩
  | 90 => ⟨S1x4096x4096, .f32⟩
  | 91 => ⟨S1x4096x1024, .f32⟩
  | 92 => ⟨S1x4096x1024, .f32⟩
  | 93 => ⟨S_, .f32⟩
  | 94 => ⟨S1x1024, .f32⟩
  | 95 => ⟨S1x1x1024, .f32⟩
  | 96 => ⟨S1x4096x1024, .f32⟩
  | 97 => ⟨S1x4096x1024, .f32⟩
  | 98 => ⟨S_, .f32⟩
  | 99 => ⟨S1024, .f32⟩
  | 100 => ⟨S1x4096x1024, .f32⟩
  | 101 => ⟨S_, .f32⟩
  | 102 => ⟨S1x4096, .f32⟩
  | 103 => ⟨S1x4096x1, .f32⟩
  | 104 => ⟨S1x4096x1024, .f32⟩
  | 105 => ⟨S1x4096x1024, .f32⟩
  | 106 => ⟨S1x4096x1024, .f32⟩
  | 107 => ⟨S1x4096x1, .f32⟩
  | 108 => ⟨S_, .f32⟩
  | 109 => ⟨S1x4096x1, .f32⟩
  | 110 => ⟨S1x4096x1, .f32⟩
  | 111 => ⟨S_, .f32⟩
  | 112 => ⟨S4096, .f32⟩
  | 113 => ⟨S1x4096, .f32⟩
  | 114 => ⟨S1x4096x1024, .f32⟩
  | 115 => ⟨S1x4096x1024, .f32⟩
  | 116 => ⟨S1x4096x1024, .f32⟩
  | 117 => ⟨S1x4096x1024, .f32⟩
  | 118 => ⟨S1x4096x1024, .f32⟩
  | 119 => ⟨S1x1024, .f32⟩
  | 120 => ⟨S4096x4096, .f32⟩
  | 121 => ⟨S4096x4096, .bf16⟩
  | 122 => ⟨S4096x4096, .f32⟩
  | 123 => ⟨S4096x4096, .bf16⟩
  | 124 => ⟨S4096x1024, .f32⟩
  | 125 => ⟨S4096x1024, .f32⟩
  | 126 => ⟨S4096x1024, .bf16⟩
  | 127 => ⟨S_, .f32⟩
  | _ => ⟨S1x4096x1024, .f32⟩

abbrev hbmTy0_1 (i : Nat) : BufTy := match i % 128 with
  | 0 => ⟨S7x1024, .f32⟩
  | 1 => ⟨S8x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_call1_cst : Ref sig .tc := ⟨.hbm, 28, rfl⟩
abbrev main_call1_v0 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call2_cst : Ref sig .tc := ⟨.hbm, 70, rfl⟩
abbrev main_call2_v0 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_19 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]
-- ==== LossKernel.lean ====
abbrev S1x4096x1024 : Shape := ⟨3, ![1, 4096, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S4096x4096 : Shape := ⟨2, ![4096, 4096]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1 : Shape := ⟨1, ![1]⟩
abbrev S1x1 : Shape := ⟨2, ![1, 1]⟩
abbrev S6x1024 : Shape := ⟨2, ![6, 1024]⟩

abbrev nBuf : Space → Nat
  | .hbm => 21
  | .vmem => 17
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024, .f32⟩
  | .hbm, ⟨3, _⟩ => ⟨S1x1024x4096, .f32⟩
  | .hbm, ⟨4, _⟩ => ⟨S1x4096x1024, .f32⟩
  | .hbm, ⟨5, _⟩ => ⟨S1x4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | .hbm, ⟨10, _⟩ => ⟨S4096x1024, .f32⟩
  | .hbm, ⟨11, _⟩ => ⟨S4x1024x1024, .f32⟩
  | .hbm, ⟨12, _⟩ => ⟨S4x1024x1024, .bf16⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x4096, .f32⟩
  | .hbm, ⟨17, _⟩ => ⟨S4096x1024, .bf16⟩
  | .hbm, ⟨18, _⟩ => ⟨S4096x1024, .f32⟩
  | .hbm, ⟨19, _⟩ => ⟨S4096x1024, .bf16⟩
  | .hbm, ⟨20, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S4x1024x1024, .bf16⟩
  | .local _ .vmem, ⟨5, _⟩ => ⟨S4x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x4096, .f32⟩
  | .local _ .vmem, ⟨9, _⟩ => ⟨S512x4096, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v115 : BitVec 1 := Scalar.cmpi .eq arg0 c0_i32
  let v116 : BitVec 32 := Scalar.extui v115
  let c0_i32_65 : BitVec 32 := 0#32
  let v117 : BitVec 1 := Scalar.cmpi .ne v116 c0_i32_65
  v117

def k0_cond2 (i : grid0.Coords) : BitVec 1 :=
  let arg0 : BitVec 32 := BitVec.ofNat 32 (i 0).val
  let c0_i32_66 : BitVec 32 := 0#32
  let v118 : BitVec 1 := Scalar.cmpi .sgt arg0 c0_i32_66
  let v119 : BitVec 32 := Scalar.extui v118
  let c0_i32_67 : BitVec 32 := 0#32
  let v120 : BitVec 1 := Scalar.cmpi .ne v119 c0_i32_67
  v120

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossReferenceIdeal.lean ====
abbrev S1x4096x1024 : Shape := ⟨3, ![1, 4096, 1024]⟩
abbrev S1x1024 : Shape := ⟨2, ![1, 1024]⟩
abbrev S1024 : Shape := ⟨1, ![1024]⟩
abbrev S1x1024x4096 : Shape := ⟨3, ![1, 1024, 4096]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4096 : Shape := ⟨2, ![1024, 4096]⟩
abbrev S1x4096x4096 : Shape := ⟨3, ![1, 4096, 4096]⟩
abbrev S4096x1024 : Shape := ⟨2, ![4096, 1024]⟩
abbrev S4096 : Shape := ⟨1, ![4096]⟩
abbrev S6x1024 : Shape := ⟨2, ![6, 1024]⟩
abbrev S8x1024 : Shape := ⟨2, ![8, 1024]⟩
abbrev S4096x4096 : Shape := ⟨2, ![4096, 4096]⟩

abbrev nBuf : Space → Nat
  | .hbm => 112
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024, .f32⟩
  | .hbm, ⟨3, _⟩ => ⟨S1x1024x4096, .f32⟩
  | .hbm, ⟨4, _⟩ => ⟨S1x4096x1024, .f32⟩
  | .hbm, ⟨5, _⟩ => ⟨S1x4096x1024, .f32⟩
  | .hbm, ⟨6, _⟩ => ⟨S1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1024x4096, .f32⟩
  | .hbm, ⟨24, _⟩ => ⟨S1x4096x4096, .f32⟩
  | .hbm, ⟨25, _⟩ => ⟨S_, .f32⟩
  | .hbm, ⟨26, _⟩ => ⟨S1x4096x4096, .f32⟩
  | .hbm, ⟨27, _⟩ => ⟨S1x4096x4096, .f32⟩
  | .hbm, ⟨28, _⟩ => ⟨S1x4096x4096, .f32⟩
  | .hbm, ⟨29, _⟩ => ⟨S4096x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x4096, .f32⟩
  | .hbm, ⟨35, _⟩ => ⟨S1x4096x1, .f32⟩
  | .hbm, ⟨36, _⟩ => ⟨S_, .f32⟩
  | .hbm, ⟨37, _⟩ => ⟨S1x4096x1, .f32⟩
  | .hbm, ⟨38, _⟩ => ⟨S1x4096x1, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S1x4096x1, .f32⟩
  | .hbm, ⟨43, _⟩ => ⟨S1x4096x1, .f32⟩
  | .hbm, ⟨44, _⟩ => ⟨S_, .f32⟩
  | .hbm, ⟨45, _⟩ => ⟨S1x4096x1, .f32⟩
  | .hbm, ⟨46, _⟩ => ⟨S1x4096x1, .f32⟩
  | .hbm, ⟨47, _⟩ => ⟨S1x4096x1024, .f32⟩
  | .hbm, ⟨48, _⟩ => ⟨S1x4096x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1x4096x1024, .f32⟩
  | .hbm, ⟨56, _⟩ => ⟨S1x4096x1024, .f32⟩
  | .hbm, ⟨57, _⟩ => ⟨S_, .f32⟩
  | .hbm, ⟨58, _⟩ => ⟨S1x4096, .f32⟩
  | .hbm, ⟨59, _⟩ => ⟨S_, .f32⟩
  | .hbm, ⟨60, _⟩ => ⟨S1x4096, .f32⟩
  | .hbm, ⟨61, _⟩ => ⟨S1x4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x4096, .f32⟩
  | .hbm, ⟨70, _⟩ => ⟨S_, .f32⟩
  | .hbm, ⟨71, _⟩ => ⟨S1x4096, .f32⟩
  | .hbm, ⟨72, _⟩ => ⟨S1x4096, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S_, .f32⟩
  | .hbm, ⟨77, _⟩ => ⟨S1x1024, .f32⟩
  | .hbm, ⟨78, _⟩ => ⟨S1x1x1024, .f32⟩
  | .hbm, ⟨79, _⟩ => ⟨S1x4096x1024, .f32⟩
  | .hbm, ⟨80, _⟩ => ⟨S1x4096x1024, .f32⟩
  | .hbm, ⟨81, _⟩ => ⟨S_, .f32⟩
  | .hbm, ⟨82, _⟩ => ⟨S1024, .f32⟩
  | .hbm, ⟨83, _⟩ => ⟨S1x4096x1024, .f32⟩
  | .hbm, ⟨84, _⟩ => ⟨S_, .f32⟩
  | .hbm, ⟨85, _⟩ => ⟨S1x4096, .f32⟩
  | .hbm, ⟨86, _⟩ => ⟨S1x4096x1, .f32⟩
  | .hbm, ⟨87, _⟩ => ⟨S1x4096x1024, .f32⟩
  | .hbm, ⟨88, _⟩ => ⟨S1x4096x1024, .f32⟩
  | .hbm, ⟨89, _⟩ => ⟨S1x4096x1, .f32⟩
  | .hbm, ⟨90, _⟩ => ⟨S_, .f32⟩
  | .hbm, ⟨91, _⟩ => ⟨S1x4096x1, .f32⟩
  | .hbm, ⟨92, _⟩ => ⟨S1x4096x1, .f32⟩
  | .hbm, ⟨93, _⟩ => ⟨S_, .f32⟩
  | .hbm, ⟨94, _⟩ => ⟨S4096, .f32⟩
  | .hbm, ⟨95, _⟩ => ⟨S1x4096, .f32⟩
  | .hbm, ⟨96, _⟩ => ⟨S1x4096x1024, .f32⟩
  | .hbm, ⟨97, _⟩ => ⟨S1x4096x1024, .f32⟩
  | .hbm, ⟨98, _⟩ => ⟨S1x4096x1024, .f32⟩
  | .hbm, ⟨99, _⟩ => ⟨S1x4096x1024, .f32⟩
  | .hbm, ⟨100, _⟩ => ⟨S1x4096x1024, .f32⟩
  | .hbm, ⟨101, _⟩ => ⟨S1x1024, .f32⟩
  | .hbm, ⟨102, _⟩ => ⟨S1x1024, .f32⟩
  | .hbm, ⟨103, _⟩ => ⟨S_, .f32⟩
  | .hbm, ⟨104, _⟩ => ⟨S6x1024, .f32⟩
  | .hbm, ⟨105, _⟩ => ⟨S8x1024, .f32⟩
  | .hbm, ⟨106, _⟩ => ⟨S4096x4096, .f32⟩
  | .hbm, ⟨107, _⟩ => ⟨S4096x1024, .f32⟩
  | .hbm, ⟨108, _⟩ => ⟨S4096x1024, .bf16⟩
  | .hbm, ⟨109, _⟩ => ⟨S4096x1024, .f32⟩
  | .hbm, ⟨110, _⟩ => ⟨S4096x1024, .f32⟩
  | .hbm, ⟨111, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_cst_11 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_19 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== XattnKernel.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1x4x256x1024 : Shape := ⟨4, ![1, 4, 256, 1024]⟩
abbrev S1024x1024 : Shape := ⟨2, ![1024, 1024]⟩
abbrev S1024x4x256 : Shape := ⟨3, ![1024, 4, 256]⟩
abbrev S4x256x1024 : Shape := ⟨3, ![4, 256, 1024]⟩
abbrev S4x512x1024 : Shape := ⟨3, ![4, 512, 1024]⟩
abbrev S4x1024x256 : Shape := ⟨3, ![4, 1024, 256]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S8x1024 : Shape := ⟨2, ![8, 1024]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩
abbrev S256x256 : Shape := ⟨2, ![256, 256]⟩
abbrev S512 : Shape := ⟨1, ![512]⟩
abbrev S512x1 : Shape := ⟨2, ![512, 1]⟩
abbrev S1x256x1024 : Shape := ⟨3, ![1, 256, 1024]⟩
abbrev S1024 : Shape := ⟨1, ![1024]⟩
abbrev S7x1024 : Shape := ⟨2, ![7, 1024]⟩

abbrev nBuf : Space → Nat
  | .hbm => 58
  | .vmem => 23
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S1x1024x4x256, .f32⟩
  | .hbm, ⟨5, _⟩ => ⟨S1x256x4x256, .f32⟩
  | .hbm, ⟨6, _⟩ => ⟨S1x256x4x256, .f32⟩
  | .hbm, ⟨7, _⟩ => ⟨S1x4x256x1024, .f32⟩
  | .hbm, ⟨8, _⟩ => ⟨S1x4096x1024, .f32⟩
  | .hbm, ⟨9, _⟩ => ⟨S1024x1024, .f32⟩
  | .hbm, ⟨10, _⟩ => ⟨S1024x4x256, .f32⟩
  | .hbm, ⟨11, _⟩ => ⟨S1024x1024, .f32⟩
  | .hbm, ⟨12, _⟩ => ⟨S4x256x1024, .f32⟩
  | .hbm, ⟨13, _⟩ => ⟨S1024x1024, .f32⟩
  | .hbm, ⟨14, _⟩ => ⟨S4x256x1024, .f32⟩
  | .hbm, ⟨15, _⟩ => ⟨S4x256x1024, .f32⟩
  | .hbm, ⟨16, _⟩ => ⟨S4x512x1024, .f32⟩
  | .hbm, ⟨17, _⟩ => ⟨S4x512x1024, .bf16⟩
  | .hbm, ⟨18, _⟩ => ⟨S1024x4x256, .f32⟩
  | .hbm, ⟨19, _⟩ => ⟨S4x1024x256, .f32⟩
  | .hbm, ⟨20, _⟩ => ⟨S4x1024x256, .bf16⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x1024, .bf16⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S1024x1024, .bf16⟩
  | .hbm, ⟨44, _⟩ => ⟨S4096x1024, .f32⟩
  | .hbm, ⟨45, _⟩ => ⟨S4096x1024, .bf16⟩
  | .hbm, ⟨46, _⟩ => ⟨S4096x1024, .f32⟩
  | .hbm, ⟨47, _⟩ => ⟨S256x1024, .f32⟩
  | .hbm, ⟨48, _⟩ => ⟨S256x1024, .bf16⟩
  | .hbm, ⟨49, _⟩ => ⟨S256x1024, .f32⟩
  | .hbm, ⟨50, _⟩ => ⟨S256x1024, .bf16⟩
  | .hbm, ⟨51, _⟩ => ⟨S4096x1024, .f32⟩
  | .hbm, ⟨52, _⟩ => ⟨S4096x1024, .bf16⟩
  | .hbm, ⟨53, _⟩ => ⟨S4096x1024, .bf16⟩
  | .hbm, ⟨54, _⟩ => ⟨S4096x1024, .f32⟩
  | .hbm, ⟨55, _⟩ => ⟨S256x1024, .f32⟩
  | .hbm, ⟨56, _⟩ => ⟨S256x1024, .f32⟩
  | .hbm, ⟨57, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S4x256x1024, .bf16⟩
  | .local _ .vmem, ⟨10, _⟩ => ⟨S4x256x1024, .bf16⟩
  | .local _ .vmem, ⟨11, _⟩ => ⟨S4x1024x256, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S256x1024, .f32⟩
  | .local _ .vmem, ⟨21, _⟩ => ⟨S256x1024, .f32⟩
  | .local _ .vmem, ⟨22, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_v39_2 : Ref sig .tc := ⟨.hbm, 53, rfl⟩
abbrev main_v39_3 : Ref sig .tc := ⟨.hbm, 54, rfl⟩
abbrev main_v39_4 : Ref sig .tc := ⟨.hbm, 55, rfl⟩
abbrev main_v39_5 : Ref sig .tc := ⟨.hbm, 56, rfl⟩
abbrev main_v39_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v169 : BitVec 1 := Scalar.cmpi .eq arg0 c0_i32
  let v170 : BitVec 32 := Scalar.extui v169
  let c0_i32_77 : BitVec 32 := 0#32
  let v171 : BitVec 1 := Scalar.cmpi .ne v170 c0_i32_77
  v171

def k0_cond2 (i : grid0.Coords) : BitVec 1 :=
  let arg0 : BitVec 32 := BitVec.ofNat 32 (i 0).val
  let c0_i32_78 : BitVec 32 := 0#32
  let v172 : BitVec 1 := Scalar.cmpi .sgt arg0 c0_i32_78
  let v173 : BitVec 32 := Scalar.extui v172
  let c0_i32_79 : BitVec 32 := 0#32
  let v174 : BitVec 1 := Scalar.cmpi .ne v173 c0_i32_79
  v174

def k0_cond3 (i : grid0.Coords) : BitVec 1 :=
  let arg0 : BitVec 32 := BitVec.ofNat 32 (i 0).val
  let c0_i32_135 : BitVec 32 := 0#32
  let v238 : BitVec 1 := Scalar.cmpi .eq arg0 c0_i32_135
  let v239 : BitVec 32 := Scalar.extui v238
  let c0_i32_136 : BitVec 32 := 0#32
  let v240 : BitVec 1 := Scalar.cmpi .ne v239 c0_i32_136
  v240

def k0_cond4 (i : grid0.Coords) : BitVec 1 :=
  let arg0 : BitVec 32 := BitVec.ofNat 32 (i 0).val
  let c0_i32_137 : BitVec 32 := 0#32
  let v241 : BitVec 1 := Scalar.cmpi .sgt arg0 c0_i32_137
  let v242 : BitVec 32 := Scalar.extui v241
  let c0_i32_138 : BitVec 32 := 0#32
  let v243 : BitVec 1 := Scalar.cmpi .ne v242 c0_i32_138
  v243

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== XattnReferenceIdeal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1x4x256x1024 : Shape := ⟨4, ![1, 4, 256, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4x256 : Shape := ⟨3, ![1024, 4, 256]⟩
abbrev S1x4096x4x256 : Shape := ⟨4, ![1, 4096, 4, 256]⟩
abbrev S1x4x4096x256 : Shape := ⟨4, ![1, 4, 4096, 256]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S4x256x1024 : Shape := ⟨3, ![4, 256, 1024]⟩
abbrev S1x4x256x256 : Shape := ⟨4, ![1, 4, 256, 256]⟩
abbrev S4x4096 : Shape := ⟨2, ![4, 4096]⟩
abbrev S4096 : Shape := ⟨1, ![4096]⟩
abbrev S4096x1024 : Shape := ⟨2, ![4096, 1024]⟩
abbrev S256x1024 : Shape := ⟨2, ![256, 1024]⟩
abbrev S7x1024 : Shape := ⟨2, ![7, 1024]⟩
abbrev S8x1024 : Shape := ⟨2, ![8, 1024]⟩

abbrev nBuf : Space → Nat
  | .hbm => 243
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x1024x1024, .f32⟩
  | 3 => ⟨S1x1024, .f32⟩
  | 4 => ⟨S1x1024x4x256, .f32⟩
  | 5 => ⟨S1x256x4x256, .f32⟩
  | 6 => ⟨S1x256x4x256, .f32⟩
  | 7 => ⟨S1x4x256x1024, .f32⟩
  | 8 => ⟨S1x4096x1024, .f32⟩
  | 9 => ⟨S1024x1024, .f32⟩
  | 10 => ⟨S1x4096x1024, .f32⟩
  | 11 => ⟨S1x4096x1024, .f32⟩
  | 12 => ⟨S1024, .f32⟩
  | 13 => ⟨S1x4096x1024, .f32⟩
  | 14 => ⟨S_, .f32⟩
  | 15 => ⟨S1x4096, .f32⟩
  | 16 => ⟨S1x4096x1, .f32⟩
  | 17 => ⟨S_, .f32⟩
  | 18 => ⟨S1x4096x1, .f32⟩
  | 19 => ⟨S1x4096x1, .f32⟩
  | 20 => ⟨S_, .f32⟩
  | 21 => ⟨S1x4096x1, .f32⟩
  | 22 => ⟨S1x4096x1, .f32⟩
  | 23 => ⟨S1x4096x1, .f32⟩
  | 24 => ⟨S1x4096x1024, .f32⟩
  | 25 => ⟨S1x4096x1024, .f32⟩
  | 26 => ⟨S1x1x1024, .f32⟩
  | 27 => ⟨S1x4096x1024, .f32⟩
  | 28 => ⟨S1x4096x1024, .f32⟩
  | 29 => ⟨S1024x4x256, .f32⟩
  | 30 => ⟨S1x4096x4x256, .f32⟩
  | 31 => ⟨S1x4x4096x256, .f32⟩
  | 32 => ⟨S_, .f32⟩
  | 33 => ⟨S1x4x4096x256, .f32⟩
  | 34 => ⟨S1x4x4096x256, .f32⟩
  | 35 => ⟨S_, .f32⟩
  | 36 => ⟨S1x4x4096, .f32⟩
  | 37 => ⟨S1x4x4096x1, .f32⟩
  | 38 => ⟨S1x4x4096x256, .f32⟩
  | 39 => ⟨S1x4x4096x256, .i1⟩
  | 40 => ⟨S1x4x4096x256, .f32⟩
  | 41 => ⟨S_, .f32⟩
  | 42 => ⟨S1x4x4096, .f32⟩
  | 43 => ⟨S_, .f32⟩
  | 44 => ⟨S1x4x4096, .f32⟩
  | 45 => ⟨S1x4x4096, .f32⟩
  | 46 => ⟨S_, .f32⟩
  | 47 => ⟨S1x4x4096, .f32⟩
  | 48 => ⟨S1x4x4096, .i1⟩
  | 49 => ⟨S_, .f32⟩
  | 50 => ⟨S1x4x4096, .f32⟩
  | 51 => ⟨S1x4x4096, .i1⟩
  | 52 => ⟨S_, .f32⟩
  | 53 => ⟨S1x4x4096, .f32⟩
  | 54 => ⟨S_, .f32⟩
  | 55 => ⟨S1x4x4096, .f32⟩
  | 56 => ⟨S_, .f32⟩
  | 57 => ⟨S1x4x4096, .f32⟩
  | 58 => ⟨S1x4x4096, .f32⟩
  | 59 => ⟨S1x4x4096, .f32⟩
  | 60 => ⟨S1x4x4096x1, .f32⟩
  | 61 => ⟨S1x4x4096x256, .f32⟩
  | 62 => ⟨S1x4x4096x256, .f32⟩
  | 63 => ⟨S1x4x4096x256, .f32⟩
  | 64 => ⟨S_, .f32⟩
  | 65 => ⟨S1x4x4096, .f32⟩
  | 66 => ⟨S1x4x4096x1, .f32⟩
  | 67 => ⟨S1x4x4096x256, .f32⟩
  | 68 => ⟨S1x4x4096x256, .f32⟩
  | 69 => ⟨S1x4x4096x1, .f32⟩
  | 70 => ⟨S_, .f32⟩
  | 71 => ⟨S1x4x4096x1, .f32⟩
  | 72 => ⟨S1x4x4096x1, .f32⟩
  | 73 => ⟨S1x4x256x4096, .f32⟩
  | 74 => ⟨S1x4096x4x256, .f32⟩
  | 75 => ⟨S4x256x1024, .f32⟩
  | 76 => ⟨S1x4096x1024, .f32⟩
  | 77 => ⟨S1x4096x4x256, .f32⟩
  | 78 => ⟨S1x4x256x4096, .f32⟩
  | 79 => ⟨S1x4x4096x256, .f32⟩
  | 80 => ⟨S1x4x256x256, .f32⟩
  | 81 => ⟨S1x256x4x256, .f32⟩
  | 82 => ⟨S1x4x4096x256, .f32⟩
  | 83 => ⟨S1x4x4096x256, .f32⟩
  | 84 => ⟨S1x4x4096x256, .f32⟩
  | 85 => ⟨S_, .f32⟩
  | 86 => ⟨S1x4x4096, .f32⟩
  | 87 => ⟨S1x4x4096x1, .f32⟩
  | 88 => ⟨S1x4x4096x1, .f32⟩
  | 89 => ⟨S1x4x4096x256, .f32⟩
  | 90 => ⟨S1x4x4096x256, .f32⟩
  | 91 => ⟨S_, .f32⟩
  | 92 => ⟨S4x4096, .f32⟩
  | 93 => ⟨S1x4x4096, .f32⟩
  | 94 => ⟨S1x4x4096x256, .f32⟩
  | 95 => ⟨S1x4x4096x256, .f32⟩
  | 96 => ⟨S1x4x4096x256, .f32⟩
  | 97 => ⟨S_, .f32⟩
  | 98 => ⟨S1x4x4096x256, .f32⟩
  | 99 => ⟨S1x4x4096x256, .f32⟩
  | 100 => ⟨S1x4x256x256, .f32⟩
  | 101 => ⟨S1x256x4x256, .f32⟩
  | 102 => ⟨S1x4x4096x256, .f32⟩
  | 103 => ⟨S1x4096x4x256, .f32⟩
  | 104 => ⟨S1024x1024, .f32⟩
  | 105 => ⟨S1x4096x1024, .f32⟩
  | 106 => ⟨S1x4096x1024, .f32⟩
  | 107 => ⟨S1024, .f32⟩
  | 108 => ⟨S1x4096x1024, .f32⟩
  | 109 => ⟨S_, .f32⟩
  | 110 => ⟨S1x4096, .f32⟩
  | 111 => ⟨S1x4096x1, .f32⟩
  | 112 => ⟨S_, .f32⟩
  | 113 => ⟨S1x4096x1, .f32⟩
  | 114 => ⟨S1x4096x1, .f32⟩
  | 115 => ⟨S_, .f32⟩
  | 116 => ⟨S1x4096x1, .f32⟩
  | 117 => ⟨S1x4096x1, .f32⟩
  | 118 => ⟨S1x4096x1, .f32⟩
  | 119 => ⟨S1x4096x1, .f32⟩
  | 120 => ⟨S_, .f32⟩
  | 121 => ⟨S1x4096x1, .f32⟩
  | 122 => ⟨S1x4096x1, .f32⟩
  | 123 => ⟨S1x4096x1024, .f32⟩
  | 124 => ⟨S1x4096x1024, .f32⟩
  | 125 => ⟨S1x1x1024, .f32⟩
  | 126 => ⟨S1x4096x1024, .f32⟩
  | 127 => ⟨S1x4096x1024, .f32⟩
  | _ => ⟨S1x4096x1024, .f32⟩

abbrev hbmTy0_1 (i : Nat) : BufTy := match i % 128 with
  | 0 => ⟨S1024x4x256, .f32⟩
  | 1 => ⟨S1x4096x4x256, .f32⟩
  | 2 => ⟨S1x4x4096x256, .f32⟩
  | 3 => ⟨S_, .f32⟩
  | 4 => ⟨S1x4x4096x256, .f32⟩
  | 5 => ⟨S1x4x4096x256, .f32⟩
  | 6 => ⟨S_, .f32⟩
  | 7 => ⟨S1x4x4096, .f32⟩
  | 8 => ⟨S1x4x4096x1, .f32⟩
  | 9 => ⟨S1x4x4096x256, .f32⟩
  | 10 => ⟨S1x4x4096x256, .i1⟩
  | 11 => ⟨S1x4x4096x256, .f32⟩
  | 12 => ⟨S_, .f32⟩
  | 13 => ⟨S1x4x4096, .f32⟩
  | 14 => ⟨S_, .f32⟩
  | 15 => ⟨S1x4x4096, .f32⟩
  | 16 => ⟨S1x4x4096, .f32⟩
  | 17 => ⟨S_, .f32⟩
  | 18 => ⟨S1x4x4096, .f32⟩
  | 19 => ⟨S1x4x4096, .i1⟩
  | 20 => ⟨S_, .f32⟩
  | 21 => ⟨S1x4x4096, .f32⟩
  | 22 => ⟨S1x4x4096, .i1⟩
  | 23 => ⟨S_, .f32⟩
  | 24 => ⟨S1x4x4096, .f32⟩
  | 25 => ⟨S_, .f32⟩
  | 26 => ⟨S1x4x4096, .f32⟩
  | 27 => ⟨S_, .f32⟩
  | 28 => ⟨S1x4x4096, .f32⟩
  | 29 => ⟨S1x4x4096, .f32⟩
  | 30 => ⟨S1x4x4096, .f32⟩
  | 31 => ⟨S1x4x4096x1, .f32⟩
  | 32 => ⟨S1x4x4096x256, .f32⟩
  | 33 => ⟨S1x4x4096x256, .f32⟩
  | 34 => ⟨S1x4x4096x256, .f32⟩
  | 35 => ⟨S_, .f32⟩
  | 36 => ⟨S1x4x4096, .f32⟩
  | 37 => ⟨S1x4x4096x1, .f32⟩
  | 38 => ⟨S1x4x4096x256, .f32⟩
  | 39 => ⟨S1x4x4096x256, .f32⟩
  | 40 => ⟨S1x4x4096x1, .f32⟩
  | 41 => ⟨S_, .f32⟩
  | 42 => ⟨S1x4x4096x1, .f32⟩
  | 43 => ⟨S1x4x4096x1, .f32⟩
  | 44 => ⟨S1x4x256x4096, .f32⟩
  | 45 => ⟨S1x4096x4x256, .f32⟩
  | 46 => ⟨S4x256x1024, .f32⟩
  | 47 => ⟨S1x4096x1024, .f32⟩
  | 48 => ⟨S1x4096x1024, .f32⟩
  | 49 => ⟨S1x4096x1024, .f32⟩
  | 50 => ⟨S1x4096x1024, .f32⟩
  | 51 => ⟨S1x4096x4x256, .f32⟩
  | 52 => ⟨S1x4x256x4096, .f32⟩
  | 53 => ⟨S1x4x4096x256, .f32⟩
  | 54 => ⟨S1x4x4096x256, .f32⟩
  | 55 => ⟨S1x4x4096x256, .f32⟩
  | 56 => ⟨S1x4x4096x256, .f32⟩
  | 57 => ⟨S_, .f32⟩
  | 58 => ⟨S1x4x4096, .f32⟩
  | 59 => ⟨S1x4x4096x1, .f32⟩
  | 60 => ⟨S1x4x4096x1, .f32⟩
  | 61 => ⟨S1x4x4096x256, .f32⟩
  | 62 => ⟨S1x4x4096x256, .f32⟩
  | 63 => ⟨S_, .f32⟩
  | 64 => ⟨S4x4096, .f32⟩
  | 65 => ⟨S1x4x4096, .f32⟩
  | 66 => ⟨S1x4x4096x256, .f32⟩
  | 67 => ⟨S1x4x4096x256, .f32⟩
  | 68 => ⟨S1x4x4096x256, .f32⟩
  | 69 => ⟨S_, .f32⟩
  | 70 => ⟨S1x4x4096x256, .f32⟩
  | 71 => ⟨S1x4x4096x256, .f32⟩
  | 72 => ⟨S1x4x4096x256, .f32⟩
  | 73 => ⟨S1x4096x4x256, .f32⟩
  | 74 => ⟨S1x4096x1024, .f32⟩
  | 75 => ⟨S1x4096x1024, .f32⟩
  | 76 => ⟨S_, .f32⟩
  | 77 => ⟨S1x1024, .f32⟩
  | 78 => ⟨S1x1x1024, .f32⟩
  | 79 => ⟨S1x4096x1024, .f32⟩
  | 80 => ⟨S1x4096x1024, .f32⟩
  | 81 => ⟨S_, .f32⟩
  | 82 => ⟨S1024, .f32⟩
  | 83 => ⟨S1x4096x1024, .f32⟩
  | 84 => ⟨S_, .f32⟩
  | 85 => ⟨S1x4096, .f32⟩
  | 86 => ⟨S1x4096x1, .f32⟩
  | 87 => ⟨S1x4096x1024, .f32⟩
  | 88 => ⟨S1x4096x1024, .f32⟩
  | 89 => ⟨S1x4096x1024, .f32⟩
  | 90 => ⟨S1x4096x1, .f32⟩
  | 91 => ⟨S_, .f32⟩
  | 92 => ⟨S1x4096x1, .f32⟩
  | 93 => ⟨S1x4096x1, .f32⟩
  | 94 => ⟨S_, .f32⟩
  | 95 => ⟨S4096, .f32⟩
  | 96 => ⟨S1x4096, .f32⟩
  | 97 => ⟨S1x4096x1024, .f32⟩
  | 98 => ⟨S1x4096x1024, .f32⟩
  | 99 => ⟨S1x4096x1024, .f32⟩
  | 100 => ⟨S1x4096x1024, .f32⟩
  | 101 => ⟨S1x4096x1024, .f32⟩
  | 102 => ⟨S1x1024, .f32⟩
  | 103 => ⟨S1x4096x1024, .f32⟩
  | 104 => ⟨S4096x1024, .f32⟩
  | 105 => ⟨S4096x1024, .f32⟩
  | 106 => ⟨S4096x1024, .bf16⟩
  | 107 => ⟨S4096x1024, .f32⟩
  | 108 => ⟨S4096x1024, .bf16⟩
  | 109 => ⟨S4096x1024, .f32⟩
  | 110 => ⟨S256x1024, .f32⟩
  | 111 => ⟨S256x1024, .f32⟩
  | 112 => ⟨S_, .f32⟩
  | 113 => ⟨S7x1024, .f32⟩
  | 114 => ⟨S8x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_19 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_20 : Ref sig .tc := ⟨.hbm, 131, rfl⟩
abbrev main_v101 : Ref sig .tc := ⟨.hbm, 132, rfl⟩
abbrev main_v102 : Ref sig .tc := ⟨.hbm, 133, rfl⟩
abbrev main_cst_21 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_22 : Ref sig .tc := ⟨.hbm, 140, rfl⟩
abbrev main_v108 : Ref sig .tc := ⟨.hbm, 141, rfl⟩
abbrev main_cst_23 : Ref sig .tc := ⟨.hbm, 142, rfl⟩
abbrev main_v109 : Ref sig .tc := ⟨.hbm, 143, rfl⟩
abbrev main_v110 : Ref sig .tc := ⟨.hbm, 144, rfl⟩
abbrev main_cst_24 : Ref sig .tc := ⟨.hbm, 145, rfl⟩
abbrev main_v111 : Ref sig .tc := ⟨.hbm, 146, rfl⟩
abbrev main_v112 : Ref sig .tc := ⟨.hbm, 147, rfl⟩
abbrev main_cst_25 : Ref sig .tc := ⟨.hbm, 148, rfl⟩
abbrev main_v113 : Ref sig .tc := ⟨.hbm, 149, rfl⟩
abbrev main_v114 : Ref sig .tc := ⟨.hbm, 150, rfl⟩
abbrev main_cst_26 : Ref sig .tc := ⟨.hbm, 151, rfl⟩
abbrev main_v115 : Ref sig .tc := ⟨.hbm, 152, rfl⟩
abbrev main_cst_27 : Ref sig .tc := ⟨.hbm, 153, rfl⟩
abbrev main_v116 : Ref sig .tc := ⟨.hbm, 154, rfl⟩
abbrev main_cst_28 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_29 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_30 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_31 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_32 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_33 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_34 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_cst_35 : Ref sig .tc := ⟨.hbm, 209, rfl⟩
abbrev main_v164 : Ref sig .tc := ⟨.hbm, 210, rfl⟩
abbrev main_v165 : Ref sig .tc := ⟨.hbm, 211, rfl⟩
abbrev main_cst_36 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_37 : Ref sig .tc := ⟨.hbm, 219, rfl⟩
abbrev main_v172 : Ref sig .tc := ⟨.hbm, 220, rfl⟩
abbrev main_v173 : Ref sig .tc := ⟨.hbm, 221, rfl⟩
abbrev main_cst_38 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_39 : Ref sig .tc := ⟨.hbm, 240, rfl⟩
abbrev main_v191 : Ref sig .tc := ⟨.hbm, 241, rfl⟩
abbrev main_v192 : Ref sig .tc := ⟨.hbm, 242, rfl⟩

abbrev nD : Nat := 1
abbrev τ : Topo := Topo.v7x

variable {F : FTy → Type} [FloatOps F]
-- ==== PoolKernel.lean ====
abbrev S1x4096x2560 : Shape := ⟨3, ![1, 4096, 2560]⟩
abbrev S1x4x128x128 : Shape := ⟨4, ![1, 4, 128, 128]⟩
abbrev S1x512 : Shape := ⟨2, ![1, 512]⟩
abbrev S1x4096x1024 : Shape := ⟨3, ![1, 4096, 1024]⟩
abbrev S4096x2560 : Shape := ⟨2, ![4096, 2560]⟩
abbrev S4096x1024 : Shape := ⟨2, ![4096, 1024]⟩
abbrev S4x128x128 : Shape := ⟨3, ![4, 128, 128]⟩
abbrev S4096x512 : Shape := ⟨2, ![4096, 512]⟩
abbrev S8x512 : Shape := ⟨2, ![8, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S528x128 : Shape := ⟨2, ![528, 128]⟩
abbrev S512x128 : Shape := ⟨2, ![512, 128]⟩
abbrev S528x1 : Shape := ⟨2, ![528, 1]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S7x512 : Shape := ⟨2, ![7, 512]⟩

abbrev nBuf : Space → Nat
  | .hbm => 10
  | .vmem => 14
  | .smem => 0
  | _ => 0

abbrev bufTy : (tb : Table) → Fin (tcTables nBuf tb) → BufTy
  | .hbm, ⟨0, _⟩ => ⟨S1x4096x2560, .f32⟩
  | .hbm, ⟨1, _⟩ => ⟨S1x4x128x128, .f32⟩
  | .hbm, ⟨2, _⟩ => ⟨S1x512, .f32⟩
  | .hbm, ⟨3, _⟩ => ⟨S1x4096x1024, .f32⟩
  | .hbm, ⟨4, _⟩ => ⟨S4096x2560, .f32⟩
  | .hbm, ⟨5, _⟩ => ⟨S4096x1024, .f32⟩
  | .hbm, ⟨6, _⟩ => ⟨S4x128x128, .f32⟩
  | .hbm, ⟨7, _⟩ => ⟨S4096x512, .f32⟩
  | .hbm, ⟨8, _⟩ => ⟨S4x128x128, .f32⟩
  | .hbm, ⟨9, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S4x128x128, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S4x128x128, .f32⟩
  | .local _ .vmem, ⟨13, _⟩ => ⟨S8x512, .f32⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_65 : BitVec 32 := 0#32
  let v210 : BitVec 1 := Scalar.cmpi .eq arg0 c0_i32_65
  let v211 : BitVec 32 := Scalar.extui v210
  let c0_i32_66 : BitVec 32 := 0#32
  let v212 : BitVec 1 := Scalar.cmpi .ne v211 c0_i32_66
  v212

def k0_cond2 (i : grid0.Coords) : BitVec 1 :=
  let arg0 : BitVec 32 := BitVec.ofNat 32 (i 0).val
  let c0_i32_67 : BitVec 32 := 0#32
  let v213 : BitVec 1 := Scalar.cmpi .sgt arg0 c0_i32_67
  let v214 : BitVec 32 := Scalar.extui v213
  let c0_i32_68 : BitVec 32 := 0#32
  let v215 : BitVec 1 := Scalar.cmpi .ne v214 c0_i32_68
  v215

def k0_cond3 (i : grid0.Coords) : BitVec 1 :=
  let arg0 : BitVec 32 := BitVec.ofNat 32 (i 0).val
  let c0_i32_70 : BitVec 32 := 0#32
  let v218 : BitVec 1 := Scalar.cmpi .eq arg0 c0_i32_70
  let v219 : BitVec 32 := Scalar.extui v218
  let c0_i32_71 : BitVec 32 := 0#32
  let v220 : BitVec 1 := Scalar.cmpi .ne v219 c0_i32_71
  v220

def k0_cond4 (i : grid0.Coords) : BitVec 1 :=
  let arg0 : BitVec 32 := BitVec.ofNat 32 (i 0).val
  let c0_i32_72 : BitVec 32 := 0#32
  let v221 : BitVec 1 := Scalar.cmpi .sgt arg0 c0_i32_72
  let v222 : BitVec 32 := Scalar.extui v221
  let c0_i32_73 : BitVec 32 := 0#32
  let v223 : BitVec 1 := Scalar.cmpi .ne v222 c0_i32_73
  v223

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolReferenceIdeal.lean ====
abbrev S1x4096x2560 : Shape := ⟨3, ![1, 4096, 2560]⟩
abbrev S1x4x128x128 : Shape := ⟨4, ![1, 4, 128, 128]⟩
abbrev S1x512 : Shape := ⟨2, ![1, 512]⟩
abbrev S1x4096x1024 : Shape := ⟨3, ![1, 4096, 1024]⟩
abbrev S1x4096x512 : Shape := ⟨3, ![1, 4096, 512]⟩
abbrev S4x128x128 : Shape := ⟨3, ![4, 128, 128]⟩
abbrev S512 : Shape := ⟨1, ![512]⟩
abbrev S1x4096x4x128 : Shape := ⟨4, ![1, 4096, 4, 128]⟩
abbrev S_ : Shape := ⟨0, ![]⟩
abbrev S1x16x4x128 : Shape := ⟨4, ![1, 16, 4, 128]⟩
abbrev S1x4112x4x128 : Shape := ⟨4, ![1, 4112, 4, 128]⟩
abbrev S4096 : Shape := ⟨1, ![4096]⟩
abbrev S1x4096x1x128 : Shape := ⟨4, ![1, 4096, 1, 128]⟩
abbrev S1x4096x128 : Shape := ⟨3, ![1, 4096, 128]⟩
abbrev S1x4096x1 : Shape := ⟨3, ![1, 4096, 1]⟩
abbrev S4x128x1x4096 : Shape := ⟨4, ![4, 128, 1, 4096]⟩
abbrev S1x1x512 : Shape := ⟨3, ![1, 1, 512]⟩
abbrev S4x1x4096x128 : Shape := ⟨4, ![4, 1, 4096, 128]⟩
abbrev S4096x512 : Shape := ⟨2, ![4096, 512]⟩
abbrev S7x512 : Shape := ⟨2, ![7, 512]⟩
abbrev S8x512 : Shape := ⟨2, ![8, 512]⟩

abbrev nBuf : Space → Nat
  | .hbm => 190
  | .vmem => 0
  | .smem => 0
  | _ => 0

abbrev hbmTy0_0 (i : Nat) : BufTy := match i % 128 with
  | 0 => ⟨S1x4096x2560, .f32⟩
  | 1 => ⟨S1x4x128x128, .f32⟩
  | 2 => ⟨S1x512, .f32⟩
  | 3 => ⟨S1x4096x1024, .f32⟩
  | 4 => ⟨S1x4096x512, .f32⟩
  | 5 => ⟨S4x128x128, .f32⟩
  | 6 => ⟨S512, .f32⟩
  | 7 => ⟨S1x4096x4x128, .f32⟩
  | 8 => ⟨S_, .f32⟩
  | 9 => ⟨S_, .f32⟩
  | 10 => ⟨S1x4096x4x128, .f32⟩
  | 11 => ⟨S_, .f32⟩
  | 12 => ⟨S1x16x4x128, .f32⟩
  | 13 => ⟨S1x4112x4x128, .f32⟩
  | 14 => ⟨S_, .f32⟩
  | 15 => ⟨S1x16x4x128, .f32⟩
  | 16 => ⟨S4096, .i32⟩
  | 17 => ⟨S_, .i32⟩
  | 18 => ⟨S4096, .i32⟩
  | 19 => ⟨S4096, .i32⟩
  | 20 => ⟨S1x4096x1x128, .f32⟩
  | 21 => ⟨S1x4096x128, .f32⟩
  | 22 => ⟨S1x4096x1x128, .f32⟩
  | 23 => ⟨S1x4096x128, .f32⟩
  | 24 => ⟨S1x4096x128, .f32⟩
  | 25 => ⟨S_, .i32⟩
  | 26 => ⟨S4096, .i32⟩
  | 27 => ⟨S4096, .i32⟩
  | 28 => ⟨S4096, .f32⟩
  | 29 => ⟨S1x4096x1, .f32⟩
  | 30 => ⟨S1x4096x128, .f32⟩
  | 31 => ⟨S1x4096x128, .f32⟩
  | 32 => ⟨S1x4096x1x128, .f32⟩
  | 33 => ⟨S1x4096x128, .f32⟩
  | 34 => ⟨S1x4096x128, .f32⟩
  | 35 => ⟨S1x4096x1x128, .f32⟩
  | 36 => ⟨S1x4096x128, .f32⟩
  | 37 => ⟨S1x4096x1x128, .f32⟩
  | 38 => ⟨S1x4096x128, .f32⟩
  | 39 => ⟨S1x4096x128, .f32⟩
  | 40 => ⟨S_, .i32⟩
  | 41 => ⟨S4096, .i32⟩
  | 42 => ⟨S4096, .i32⟩
  | 43 => ⟨S4096, .f32⟩
  | 44 => ⟨S1x4096x1, .f32⟩
  | 45 => ⟨S1x4096x128, .f32⟩
  | 46 => ⟨S1x4096x128, .f32⟩
  | 47 => ⟨S1x4096x1x128, .f32⟩
  | 48 => ⟨S1x4096x128, .f32⟩
  | 49 => ⟨S1x4096x128, .f32⟩
  | 50 => ⟨S1x4096x1x128, .f32⟩
  | 51 => ⟨S1x4096x128, .f32⟩
  | 52 => ⟨S1x4096x1x128, .f32⟩
  | 53 => ⟨S1x4096x128, .f32⟩
  | 54 => ⟨S1x4096x128, .f32⟩
  | 55 => ⟨S_, .i32⟩
  | 56 => ⟨S4096, .i32⟩
  | 57 => ⟨S4096, .i32⟩
  | 58 => ⟨S4096, .f32⟩
  | 59 => ⟨S1x4096x1, .f32⟩
  | 60 => ⟨S1x4096x128, .f32⟩
  | 61 => ⟨S1x4096x128, .f32⟩
  | 62 => ⟨S1x4096x1x128, .f32⟩
  | 63 => ⟨S1x4096x128, .f32⟩
  | 64 => ⟨S1x4096x128, .f32⟩
  | 65 => ⟨S1x4096x1x128, .f32⟩
  | 66 => ⟨S1x4096x128, .f32⟩
  | 67 => ⟨S1x4096x1x128, .f32⟩
  | 68 => ⟨S1x4096x128, .f32⟩
  | 69 => ⟨S1x4096x128, .f32⟩
  | 70 => ⟨S_, .i32⟩
  | 71 => ⟨S4096, .i32⟩
  | 72 => ⟨S4096, .i32⟩
  | 73 => ⟨S4096, .f32⟩
  | 74 => ⟨S1x4096x1, .f32⟩
  | 75 => ⟨S1x4096x128, .f32⟩
  | 76 => ⟨S1x4096x128, .f32⟩
  | 77 => ⟨S1x4096x1x128, .f32⟩
  | 78 => ⟨S1x4096x128, .f32⟩
  | 79 => ⟨S1x4096x128, .f32⟩
  | 80 => ⟨S1x4096x1x128, .f32⟩
  | 81 => ⟨S1x4096x1x128, .f32⟩
  | 82 => ⟨S1x4096x1x128, .f32⟩
  | 83 => ⟨S1x4096x1x128, .f32⟩
  | 84 => ⟨S1x4096x4x128, .f32⟩
  | 85 => ⟨S4x128x1x4096, .f32⟩
  | 86 => ⟨S1x4096x4x128, .f32⟩
  | 87 => ⟨S1x4096x512, .f32⟩
  | 88 => ⟨S1x1x512, .f32⟩
  | 89 => ⟨S1x4096x512, .f32⟩
  | 90 => ⟨S1x4096x512, .f32⟩
  | 91 => ⟨S1x4096x512, .f32⟩
  | 92 => ⟨S1x4096x512, .f32⟩
  | 93 => ⟨S_, .f32⟩
  | 94 => ⟨S1x512, .f32⟩
  | 95 => ⟨S1x1x512, .f32⟩
  | 96 => ⟨S1x4096x512, .f32⟩
  | 97 => ⟨S1x4096x512, .f32⟩
  | 98 => ⟨S_, .f32⟩
  | 99 => ⟨S512, .f32⟩
  | 100 => ⟨S1x4096x4x128, .f32⟩
  | 101 => ⟨S4x128x1x4096, .f32⟩
  | 102 => ⟨S4x1x4096x128, .f32⟩
  | 103 => ⟨S1x4096x4x128, .f32⟩
  | 104 => ⟨S4x128x128, .f32⟩
  | 105 => ⟨S4x128x128, .f32⟩
  | 106 => ⟨S1x4096x1x128, .f32⟩
  | 107 => ⟨S1x4096x128, .f32⟩
  | 108 => ⟨S1x4096x1x128, .f32⟩
  | 109 => ⟨S1x4096x128, .f32⟩
  | 110 => ⟨S1x4096x1x128, .f32⟩
  | 111 => ⟨S1x4096x128, .f32⟩
  | 112 => ⟨S1x4096x1x128, .f32⟩
  | 113 => ⟨S1x4096x128, .f32⟩
  | 114 => ⟨S1x4096x128, .f32⟩
  | 115 => ⟨S1x4096x1x128, .f32⟩
  | 116 => ⟨S_, .f32⟩
  | 117 => ⟨S1x4096x4x128, .f32⟩
  | 118 => ⟨S1x4096x128, .f32⟩
  | 119 => ⟨S1x4096x128, .f32⟩
  | 120 => ⟨S1x4096x128, .f32⟩
  | 121 => ⟨S1x4096x1x128, .f32⟩
  | 122 => ⟨S_, .f32⟩
  | 123 => ⟨S1x4112x4x128, .f32⟩
  | 124 => ⟨S1x4096x1x128, .f32⟩
  | 125 => ⟨S_, .f32⟩
  | 126 => ⟨S1x4112x4x128, .f32⟩
  | 127 => ⟨S1x4112x4x128, .f32⟩
  | _ => ⟨S1x4096x2560, .f32⟩

abbrev hbmTy0_1 (i : Nat) : BufTy := match i % 128 with
  | 0 => ⟨S1x4096x128, .f32⟩
  | 1 => ⟨S1x4096x1x128, .f32⟩
  | 2 => ⟨S_, .f32⟩
  | 3 => ⟨S1x4096x4x128, .f32⟩
  | 4 => ⟨S1x4096x4x128, .f32⟩
  | 5 => ⟨S1x4096x128, .f32⟩
  | 6 => ⟨S1x4096x128, .f32⟩
  | 7 => ⟨S1x4096x128, .f32⟩
  | 8 => ⟨S1x4096x1x128, .f32⟩
  | 9 => ⟨S_, .f32⟩
  | 10 => ⟨S1x4112x4x128, .f32⟩
  | 11 => ⟨S1x4112x4x128, .f32⟩
  | 12 => ⟨S1x4096x1x128, .f32⟩
  | 13 => ⟨S_, .f32⟩
  | 14 => ⟨S1x4112x4x128, .f32⟩
  | 15 => ⟨S1x4112x4x128, .f32⟩
  | 16 => ⟨S1x4096x128, .f32⟩
  | 17 => ⟨S1x4096x1x128, .f32⟩
  | 18 => ⟨S_, .f32⟩
  | 19 => ⟨S1x4096x4x128, .f32⟩
  | 20 => ⟨S1x4096x4x128, .f32⟩
  | 21 => ⟨S1x4096x128, .f32⟩
  | 22 => ⟨S1x4096x128, .f32⟩
  | 23 => ⟨S1x4096x128, .f32⟩
  | 24 => ⟨S1x4096x1x128, .f32⟩
  | 25 => ⟨S_, .f32⟩
  | 26 => ⟨S1x4112x4x128, .f32⟩
  | 27 => ⟨S1x4112x4x128, .f32⟩
  | 28 => ⟨S1x4096x1x128, .f32⟩
  | 29 => ⟨S_, .f32⟩
  | 30 => ⟨S1x4112x4x128, .f32⟩
  | 31 => ⟨S1x4112x4x128, .f32⟩
  | 32 => ⟨S1x4096x128, .f32⟩
  | 33 => ⟨S1x4096x1x128, .f32⟩
  | 34 => ⟨S_, .f32⟩
  | 35 => ⟨S1x4096x4x128, .f32⟩
  | 36 => ⟨S1x4096x4x128, .f32⟩
  | 37 => ⟨S1x4096x128, .f32⟩
  | 38 => ⟨S1x4096x128, .f32⟩
  | 39 => ⟨S1x4096x128, .f32⟩
  | 40 => ⟨S1x4096x1x128, .f32⟩
  | 41 => ⟨S_, .f32⟩
  | 42 => ⟨S1x4112x4x128, .f32⟩
  | 43 => ⟨S1x4112x4x128, .f32⟩
  | 44 => ⟨S1x4096x1x128, .f32⟩
  | 45 => ⟨S_, .f32⟩
  | 46 => ⟨S1x4112x4x128, .f32⟩
  | 47 => ⟨S1x4112x4x128, .f32⟩
  | 48 => ⟨S1x16x4x128, .f32⟩
  | 49 => ⟨S1x4096x4x128, .f32⟩
  | 50 => ⟨S_, .f32⟩
  | 51 => ⟨S_, .f32⟩
  | 52 => ⟨S1x4096x4x128, .f32⟩
  | 53 => ⟨S1x4096x4x128, .f32⟩
  | 54 => ⟨S1x4096x512, .f32⟩
  | 55 => ⟨S1x512, .f32⟩
  | 56 => ⟨S1x4x128x128, .f32⟩
  | 57 => ⟨S4096x512, .f32⟩
  | 58 => ⟨S4x128x128, .f32⟩
  | 59 => ⟨S_, .f32⟩
  | 60 => ⟨S7x512, .f32⟩
  | 61 => ⟨S8x512, .f32⟩
  | _ => ⟨S1x4096x2560, .f32⟩

abbrev hbmTy (i : Nat) : BufTy := match i / 128 with
  | 0 => hbmTy0_0 i
  | 1 => hbmTy0_1 i
  | _ => ⟨S1x4096x2560, .f32⟩

abbrev bufTy : (tb : Table) → Fin (tcTables nBuf tb) → BufTy
  | .hbm, ⟨i, _⟩ => hbmTy i
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_4 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_5 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_6 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_7 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_8 : Ref sig .tc := ⟨.hbm, 122, rfl⟩
abbrev main_v106 : Ref sig .tc := ⟨.hbm, 123, rfl⟩
abbrev main_v107 : Ref sig .tc := ⟨.hbm, 124, rfl⟩
abbrev main_cst_9 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_10 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_cst_11 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_12 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_13 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_14 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_15 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_16 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_cst_17 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_cst_18 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_call1_call0_cst : Ref sig .tc := ⟨.hbm, 178, rfl⟩
abbrev main_call1_call0_v0 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_cst_19 : Ref sig .tc := ⟨.hbm, 187, rfl⟩
abbrev main_v158 : Ref sig .tc := ⟨.hbm, 188, rfl⟩
abbrev main_v159 : Ref sig .tc := ⟨.hbm, 189, rfl⟩

abbrev nD : Nat := 1
abbrev τ : Topo := Topo.v7x

variable {F : FTy → Type} [FloatOps F]
-- ==== MixKernel.lean ====
abbrev S1x4096x1024 : Shape := ⟨3, ![1, 4096, 1024]⟩
abbrev S1x4096x512 : Shape := ⟨3, ![1, 4096, 512]⟩
abbrev S1x1024x1024 : Shape := ⟨3, ![1, 1024, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1x4x256x1024 : Shape := ⟨4, ![1, 4, 256, 1024]⟩
abbrev S1024x1024 : Shape := ⟨2, ![1024, 1024]⟩
abbrev S1024x4x256 : Shape := ⟨3, ![1024, 4, 256]⟩
abbrev S4x256x1024 : Shape := ⟨3, ![4, 256, 1024]⟩
abbrev S4x512x1024 : Shape := ⟨3, ![4, 512, 1024]⟩
abbrev S4x1024x256 : Shape := ⟨3, ![4, 1024, 256]⟩
abbrev S4096x1024 : Shape := ⟨2, ![4096, 1024]⟩
abbrev S4096x512 : Shape := ⟨2, ![4096, 512]⟩
abbrev S256x1024 : Shape := ⟨2, ![256, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 36
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x1024x1024, .f32⟩
  | .hbm, ⟨4, _⟩ => ⟨S1x1024, .f32⟩
  | .hbm, ⟨5, _⟩ => ⟨S1x1024x4x256, .f32⟩
  | .hbm, ⟨6, _⟩ => ⟨S1x256x4x256, .f32⟩
  | .hbm, ⟨7, _⟩ => ⟨S1x256x4x256, .f32⟩
  | .hbm, ⟨8, _⟩ => ⟨S1x4x256x1024, .f32⟩
  | .hbm, ⟨9, _⟩ => ⟨S1024x1024, .f32⟩
  | .hbm, ⟨10, _⟩ => ⟨S1024x4x256, .f32⟩
  | .hbm, ⟨11, _⟩ => ⟨S1024x1024, .f32⟩
  | .hbm, ⟨12, _⟩ => ⟨S4x256x1024, .f32⟩
  | .hbm, ⟨13, _⟩ => ⟨S1024x1024, .f32⟩
  | .hbm, ⟨14, _⟩ => ⟨S4x256x1024, .f32⟩
  | .hbm, ⟨15, _⟩ => ⟨S4x256x1024, .f32⟩
  | .hbm, ⟨16, _⟩ => ⟨S4x512x1024, .f32⟩
  | .hbm, ⟨17, _⟩ => ⟨S4x512x1024, .bf16⟩
  | .hbm, ⟨18, _⟩ => ⟨S1024x4x256, .f32⟩
  | .hbm, ⟨19, _⟩ => ⟨S4x1024x256, .f32⟩
  | .hbm, ⟨20, _⟩ => ⟨S4x1024x256, .bf16⟩
  | .hbm, ⟨21, _⟩ => ⟨S4096x1024, .f32⟩
  | .hbm, ⟨22, _⟩ => ⟨S4096x512, .f32⟩
  | .hbm, ⟨23, _⟩ => ⟨S4096x512, .bf16⟩
  | .hbm, ⟨24, _⟩ => ⟨S4096x512, .f32⟩
  | .hbm, ⟨25, _⟩ => ⟨S4096x512, .bf16⟩
  | .hbm, ⟨26, _⟩ => ⟨S256x1024, .f32⟩
  | .hbm, ⟨27, _⟩ => ⟨S256x1024, .bf16⟩
  | .hbm, ⟨28, _⟩ => ⟨S256x1024, .f32⟩
  | .hbm, ⟨29, _⟩ => ⟨S256x1024, .bf16⟩
  | .hbm, ⟨30, _⟩ => ⟨S4096x1024, .f32⟩
  | .hbm, ⟨31, _⟩ => ⟨S4096x1024, .bf16⟩
  | .hbm, ⟨32, _⟩ => ⟨S4096x1024, .bf16⟩
  | .hbm, ⟨33, _⟩ => ⟨S4096x1024, .bf16⟩
  | .hbm, ⟨34, _⟩ => ⟨S4096x1024, .bf16⟩
  | .hbm, ⟨35, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S4x256x1024, .bf16⟩
  | .local _ .vmem, ⟨8, _⟩ => ⟨S4x256x1024, .bf16⟩
  | .local _ .vmem, ⟨9, _⟩ => ⟨S4x1024x256, .bf16⟩
  | .local _ .vmem, ⟨10, _⟩ => ⟨S256x1024, .bf16⟩
  | .local _ .vmem, ⟨11, _⟩ => ⟨S256x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixReferenceIdeal.lean ====
abbrev S1x4096x1024 : Shape := ⟨3, ![1, 4096, 1024]⟩
abbrev S1x4096x512 : Shape := ⟨3, ![1, 4096, 512]⟩
abbrev S1x1024x1024 : Shape := ⟨3, ![1, 1024, 1024]⟩
abbrev S1x1024 : Shape := ⟨2, ![1, 1024]⟩
abbrev S1x1024x4x256 : Shape := ⟨4, ![1, 1024, 4, 256]⟩
abbrev S1x256x4x256 : Shape := ⟨4, ![1, 256, 4, 256]⟩
abbrev S1x4x256x1024 : Shape := ⟨4, ![1, 4, 256, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4x256 : Shape := ⟨3, ![1024, 4, 256]⟩
abbrev S1x4096x4x256 : Shape := ⟨4, ![1, 4096, 4, 256]⟩
abbrev S1x4x4096x256 : Shape := ⟨4, ![1, 4, 4096, 256]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S4x256x1024 : Shape := ⟨3, ![4, 256, 1024]⟩
abbrev S4096x1024 : Shape := ⟨2, ![4096, 1024]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x1024x1024, .f32⟩
  | .hbm, ⟨4, _⟩ => ⟨S1x1024, .f32⟩
  | .hbm, ⟨5, _⟩ => ⟨S1x1024x4x256, .f32⟩
  | .hbm, ⟨6, _⟩ => ⟨S1x256x4x256, .f32⟩
  | .hbm, ⟨7, _⟩ => ⟨S1x256x4x256, .f32⟩
  | .hbm, ⟨8, _⟩ => ⟨S1x4x256x1024, .f32⟩
  | .hbm, ⟨9, _⟩ => ⟨S1x4096x1024, .f32⟩
  | .hbm, ⟨10, _⟩ => ⟨S1024x1024, .f32⟩
  | .hbm, ⟨11, _⟩ => ⟨S1x4096x1024, .f32⟩
  | .hbm, ⟨12, _⟩ => ⟨S1x4096x1024, .f32⟩
  | .hbm, ⟨13, _⟩ => ⟨S1024, .f32⟩
  | .hbm, ⟨14, _⟩ => ⟨S1x4096x1024, .f32⟩
  | .hbm, ⟨15, _⟩ => ⟨S_, .f32⟩
  | .hbm, ⟨16, _⟩ => ⟨S1x4096, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x1, .f32⟩
  | .hbm, ⟨25, _⟩ => ⟨S1x4096x1024, .f32⟩
  | .hbm, ⟨26, _⟩ => ⟨S1x4096x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1024x4x256, .f32⟩
  | .hbm, ⟨31, _⟩ => ⟨S1x4096x4x256, .f32⟩
  | .hbm, ⟨32, _⟩ => ⟨S1x4x4096x256, .f32⟩
  | .hbm, ⟨33, _⟩ => ⟨S_, .f32⟩
  | .hbm, ⟨34, _⟩ => ⟨S1x4x4096x256, .f32⟩
  | .hbm, ⟨35, _⟩ => ⟨S1x4x4096x256, .f32⟩
  | .hbm, ⟨36, _⟩ => ⟨S_, .f32⟩
  | .hbm, ⟨37, _⟩ => ⟨S1x4x4096, .f32⟩
  | .hbm, ⟨38, _⟩ => ⟨S_, .f32⟩
  | .hbm, ⟨39, _⟩ => ⟨S1x4x4096, .f32⟩
  | .hbm, ⟨40, _⟩ => ⟨S1x4x4096, .f32⟩
  | .hbm, ⟨41, _⟩ => ⟨S1x4x4096x1, .f32⟩
  | .hbm, ⟨42, _⟩ => ⟨S1x4x4096x256, .f32⟩
  | .hbm, ⟨43, _⟩ => ⟨S1x4x4096x256, .f32⟩
  | .hbm, ⟨44, _⟩ => ⟨S1x4x4096x256, .f32⟩
  | .hbm, ⟨45, _⟩ => ⟨S_, .f32⟩
  | .hbm, ⟨46, _⟩ => ⟨S1x4x4096, .f32⟩
  | .hbm, ⟨47, _⟩ => ⟨S1x4x4096x1, .f32⟩
  | .hbm, ⟨48, _⟩ => ⟨S1x4x4096x256, .f32⟩
  | .hbm, ⟨49, _⟩ => ⟨S1x4x4096x256, .f32⟩
  | .hbm, ⟨50, _⟩ => ⟨S1x4x256x4096, .f32⟩
  | .hbm, ⟨51, _⟩ => ⟨S1x4096x4x256, .f32⟩
  | .hbm, ⟨52, _⟩ => ⟨S4x256x1024, .f32⟩
  | .hbm, ⟨53, _⟩ => ⟨S1x4096x1024, .f32⟩
  | .hbm, ⟨54, _⟩ => ⟨S1x4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S4096x1024, .f32⟩
  | .hbm, ⟨59, _⟩ => ⟨S4096x1024, .bf16⟩
  | .hbm, ⟨60, _⟩ => ⟨S4096x1024, .f32⟩
  | .hbm, ⟨61, _⟩ => ⟨S4096x1024, .bf16⟩
  | .hbm, ⟨62, _⟩ => ⟨S4096x1024, .f32⟩
  | .hbm, ⟨63, _⟩ => ⟨S4096x1024, .bf16⟩
  | .hbm, ⟨64, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== ProjKernel.lean ====
abbrev S1x4096x1024 : Shape := ⟨3, ![1, 4096, 1024]⟩
abbrev S1x1024 : Shape := ⟨2, ![1, 1024]⟩
abbrev S1x1024x2560 : Shape := ⟨3, ![1, 1024, 2560]⟩
abbrev S1024x2560 : Shape := ⟨2, ![1024, 2560]⟩
abbrev S1024x4x640 : Shape := ⟨3, ![1024, 4, 640]⟩
abbrev S4x1024x640 : Shape := ⟨3, ![4, 1024, 640]⟩
abbrev S4096x1024 : Shape := ⟨2, ![4096, 1024]⟩
abbrev S4096x2560 : Shape := ⟨2, ![4096, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 10
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2560, .f32⟩
  | .hbm, ⟨3, _⟩ => ⟨S1024x2560, .f32⟩
  | .hbm, ⟨4, _⟩ => ⟨S1024x4x640, .f32⟩
  | .hbm, ⟨5, _⟩ => ⟨S4x1024x640, .f32⟩
  | .hbm, ⟨6, _⟩ => ⟨S4x1024x640, .bf16⟩
  | .hbm, ⟨7, _⟩ => ⟨S4096x1024, .f32⟩
  | .hbm, ⟨8, _⟩ => ⟨S4096x2560, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S1x4096x1024 : Shape := ⟨3, ![1, 4096, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2560 : Shape := ⟨2, ![1024, 2560]⟩
abbrev S1x4096x2560 : Shape := ⟨3, ![1, 4096, 2560]⟩
abbrev S4096x2560 : Shape := ⟨2, ![4096, 2560]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2560, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1024x2560, .f32⟩
  | .hbm, ⟨21, _⟩ => ⟨S1x4096x2560, .f32⟩
  | .hbm, ⟨22, _⟩ => ⟨S4096x2560, .f32⟩
  | .hbm, ⟨23, _⟩ => ⟨S4096x1024, .f32⟩
  | .hbm, ⟨24, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MemKernel.lean ====
abbrev S1x256x1024 : Shape := ⟨3, ![1, 256, 1024]⟩
abbrev S1x1024 : Shape := ⟨2, ![1, 1024]⟩
abbrev S1x1024x4x256 : Shape := ⟨4, ![1, 1024, 4, 256]⟩
abbrev S1024x4x256 : Shape := ⟨3, ![1024, 4, 256]⟩
abbrev S4x256x1024 : Shape := ⟨3, ![4, 256, 1024]⟩
abbrev S4x512x1024 : Shape := ⟨3, ![4, 512, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x4x256, .f32⟩
  | .hbm, ⟨3, _⟩ => ⟨S1x1024x4x256, .f32⟩
  | .hbm, ⟨4, _⟩ => ⟨S1024x4x256, .f32⟩
  | .hbm, ⟨5, _⟩ => ⟨S4x256x1024, .f32⟩
  | .hbm, ⟨6, _⟩ => ⟨S1024x4x256, .f32⟩
  | .hbm, ⟨7, _⟩ => ⟨S4x256x1024, .f32⟩
  | .hbm, ⟨8, _⟩ => ⟨S4x512x1024, .f32⟩
  | .hbm, ⟨9, _⟩ => ⟨S4x512x1024, .bf16⟩
  | .hbm, ⟨10, _⟩ => ⟨S256x1024, .f32⟩
  | .hbm, ⟨11, _⟩ => ⟨S256x1024, .bf16⟩
  | .hbm, ⟨12, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S256x1024, .bf16⟩
  | .local _ .vmem, ⟨5, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemReferenceIdeal.lean ====
abbrev S1x256x1024 : Shape := ⟨3, ![1, 256, 1024]⟩
abbrev S1x1024 : Shape := ⟨2, ![1, 1024]⟩
abbrev S1x1024x4x256 : Shape := ⟨4, ![1, 1024, 4, 256]⟩
abbrev S1024 : Shape := ⟨1, ![1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1024x4x256 : Shape := ⟨3, ![1024, 4, 256]⟩
abbrev S1x256x4x256 : Shape := ⟨4, ![1, 256, 4, 256]⟩
abbrev S256x1024 : Shape := ⟨2, ![256, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x4x256, .f32⟩
  | .hbm, ⟨3, _⟩ => ⟨S1x1024x4x256, .f32⟩
  | .hbm, ⟨4, _⟩ => ⟨S1024, .f32⟩
  | .hbm, ⟨5, _⟩ => ⟨S1x256x1024, .f32⟩
  | .hbm, ⟨6, _⟩ => ⟨S_, .f32⟩
  | .hbm, ⟨7, _⟩ => ⟨S1x256, .f32⟩
  | .hbm, ⟨8, _⟩ => ⟨S1x256x1, .f32⟩
  | .hbm, ⟨9, _⟩ => ⟨S_, .f32⟩
  | .hbm, ⟨10, _⟩ => ⟨S1x256x1, .f32⟩
  | .hbm, ⟨11, _⟩ => ⟨S1x256x1, .f32⟩
  | .hbm, ⟨12, _⟩ => ⟨S_, .f32⟩
  | .hbm, ⟨13, _⟩ => ⟨S1x256x1, .f32⟩
  | .hbm, ⟨14, _⟩ => ⟨S1x256x1, .f32⟩
  | .hbm, ⟨15, _⟩ => ⟨S1x256x1, .f32⟩
  | .hbm, ⟨16, _⟩ => ⟨S1x256x1024, .f32⟩
  | .hbm, ⟨17, _⟩ => ⟨S1x256x1024, .f32⟩
  | .hbm, ⟨18, _⟩ => ⟨S1x1x1024, .f32⟩
  | .hbm, ⟨19, _⟩ => ⟨S1x256x1024, .f32⟩
  | .hbm, ⟨20, _⟩ => ⟨S1x256x1024, .f32⟩
  | .hbm, ⟨21, _⟩ => ⟨S1024x4x256, .f32⟩
  | .hbm, ⟨22, _⟩ => ⟨S1x256x4x256, .f32⟩
  | .hbm, ⟨23, _⟩ => ⟨S1024x4x256, .f32⟩
  | .hbm, ⟨24, _⟩ => ⟨S1x256x4x256, .f32⟩
  | .hbm, ⟨25, _⟩ => ⟨S256x1024, .f32⟩
  | .hbm, ⟨26, _⟩ => ⟨S256x1024, .bf16⟩
  | .hbm, ⟨27, _⟩ => ⟨S256x1024, .f32⟩
  | .hbm, ⟨28, _⟩ => ⟨S256x1024, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== PoolFwdKernel.lean ====
abbrev S1x4096x2560 : Shape := ⟨3, ![1, 4096, 2560]⟩
abbrev S1x4x128x128 : Shape := ⟨4, ![1, 4, 128, 128]⟩
abbrev S1x512 : Shape := ⟨2, ![1, 512]⟩
abbrev S4096x2560 : Shape := ⟨2, ![4096, 2560]⟩
abbrev S4x128x128 : Shape := ⟨3, ![4, 128, 128]⟩
abbrev S4096x512 : Shape := ⟨2, ![4096, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 6
  | .vmem => 8
  | .smem => 0
  | _ => 0

abbrev bufTy : (tb : Table) → Fin (tcTables nBuf tb) → BufTy
  | .hbm, ⟨0, _⟩ => ⟨S1x4096x2560, .f32⟩
  | .hbm, ⟨1, _⟩ => ⟨S1x4x128x128, .f32⟩
  | .hbm, ⟨2, _⟩ => ⟨S1x512, .f32⟩
  | .hbm, ⟨3, _⟩ => ⟨S4096x2560, .f32⟩
  | .hbm, ⟨4, _⟩ => ⟨S4x128x128, .f32⟩
  | .hbm, ⟨5, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdReferenceIdeal.lean ====
abbrev S1x4096x2560 : Shape := ⟨3, ![1, 4096, 2560]⟩
abbrev S1x4x128x128 : Shape := ⟨4, ![1, 4, 128, 128]⟩
abbrev S1x512 : Shape := ⟨2, ![1, 512]⟩
abbrev S1x4096x512 : Shape := ⟨3, ![1, 4096, 512]⟩
abbrev S4x128x128 : Shape := ⟨3, ![4, 128, 128]⟩
abbrev S512 : Shape := ⟨1, ![512]⟩
abbrev S1x4096x4x128 : Shape := ⟨4, ![1, 4096, 4, 128]⟩
abbrev S_ : Shape := ⟨0, ![]⟩
abbrev S1x16x4x128 : Shape := ⟨4, ![1, 16, 4, 128]⟩
abbrev S1x4112x4x128 : Shape := ⟨4, ![1, 4112, 4, 128]⟩
abbrev S4096 : Shape := ⟨1, ![4096]⟩
abbrev S1x4096x1x128 : Shape := ⟨4, ![1, 4096, 1, 128]⟩
abbrev S1x4096x128 : Shape := ⟨3, ![1, 4096, 128]⟩
abbrev S1x4096x1 : Shape := ⟨3, ![1, 4096, 1]⟩
abbrev S4x128x1x4096 : Shape := ⟨4, ![4, 128, 1, 4096]⟩
abbrev S1x1x512 : Shape := ⟨3, ![1, 1, 512]⟩
abbrev S4096x512 : Shape := ⟨2, ![4096, 512]⟩

abbrev nBuf : Space → Nat
  | .hbm => 90
  | .vmem => 0
  | .smem => 0
  | _ => 0

abbrev bufTy : (tb : Table) → Fin (tcTables nBuf tb) → BufTy
  | .hbm, ⟨0, _⟩ => ⟨S1x4096x2560, .f32⟩
  | .hbm, ⟨1, _⟩ => ⟨S1x4x128x128, .f32⟩
  | .hbm, ⟨2, _⟩ => ⟨S1x512, .f32⟩
  | .hbm, ⟨3, _⟩ => ⟨S1x4096x512, .f32⟩
  | .hbm, ⟨4, _⟩ => ⟨S4x128x128, .f32⟩
  | .hbm, ⟨5, _⟩ => ⟨S512, .f32⟩
  | .hbm, ⟨6, _⟩ => ⟨S1x4096x4x128, .f32⟩
  | .hbm, ⟨7, _⟩ => ⟨S_, .f32⟩
  | .hbm, ⟨8, _⟩ => ⟨S_, .f32⟩
  | .hbm, ⟨9, _⟩ => ⟨S1x4096x4x128, .f32⟩
  | .hbm, ⟨10, _⟩ => ⟨S_, .f32⟩
  | .hbm, ⟨11, _⟩ => ⟨S1x16x4x128, .f32⟩
  | .hbm, ⟨12, _⟩ => ⟨S1x4112x4x128, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S1x4096x1x128, .f32⟩
  | .hbm, ⟨18, _⟩ => ⟨S1x4096x128, .f32⟩
  | .hbm, ⟨19, _⟩ => ⟨S1x4096x1x128, .f32⟩
  | .hbm, ⟨20, _⟩ => ⟨S1x4096x128, .f32⟩
  | .hbm, ⟨21, _⟩ => ⟨S1x4096x128, .f32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .f32⟩
  | .hbm, ⟨26, _⟩ => ⟨S1x4096x1, .f32⟩
  | .hbm, ⟨27, _⟩ => ⟨S1x4096x128, .f32⟩
  | .hbm, ⟨28, _⟩ => ⟨S1x4096x128, .f32⟩
  | .hbm, ⟨29, _⟩ => ⟨S1x4096x1x128, .f32⟩
  | .hbm, ⟨30, _⟩ => ⟨S1x4096x128, .f32⟩
  | .hbm, ⟨31, _⟩ => ⟨S1x4096x128, .f32⟩
  | .hbm, ⟨32, _⟩ => ⟨S1x4096x1x128, .f32⟩
  | .hbm, ⟨33, _⟩ => ⟨S1x4096x128, .f32⟩
  | .hbm, ⟨34, _⟩ => ⟨S1x4096x1x128, .f32⟩
  | .hbm, ⟨35, _⟩ => ⟨S1x4096x128, .f32⟩
  | .hbm, ⟨36, _⟩ => ⟨S1x4096x128, .f32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .f32⟩
  | .hbm, ⟨41, _⟩ => ⟨S1x4096x1, .f32⟩
  | .hbm, ⟨42, _⟩ => ⟨S1x4096x128, .f32⟩
  | .hbm, ⟨43, _⟩ => ⟨S1x4096x128, .f32⟩
  | .hbm, ⟨44, _⟩ => ⟨S1x4096x1x128, .f32⟩
  | .hbm, ⟨45, _⟩ => ⟨S1x4096x128, .f32⟩
  | .hbm, ⟨46, _⟩ => ⟨S1x4096x128, .f32⟩
  | .hbm, ⟨47, _⟩ => ⟨S1x4096x1x128, .f32⟩
  | .hbm, ⟨48, _⟩ => ⟨S1x4096x128, .f32⟩
  | .hbm, ⟨49, _⟩ => ⟨S1x4096x1x128, .f32⟩
  | .hbm, ⟨50, _⟩ => ⟨S1x4096x128, .f32⟩
  | .hbm, ⟨51, _⟩ => ⟨S1x4096x128, .f32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .f32⟩
  | .hbm, ⟨56, _⟩ => ⟨S1x4096x1, .f32⟩
  | .hbm, ⟨57, _⟩ => ⟨S1x4096x128, .f32⟩
  | .hbm, ⟨58, _⟩ => ⟨S1x4096x128, .f32⟩
  | .hbm, ⟨59, _⟩ => ⟨S1x4096x1x128, .f32⟩
  | .hbm, ⟨60, _⟩ => ⟨S1x4096x128, .f32⟩
  | .hbm, ⟨61, _⟩ => ⟨S1x4096x128, .f32⟩
  | .hbm, ⟨62, _⟩ => ⟨S1x4096x1x128, .f32⟩
  | .hbm, ⟨63, _⟩ => ⟨S1x4096x128, .f32⟩
  | .hbm, ⟨64, _⟩ => ⟨S1x4096x1x128, .f32⟩
  | .hbm, ⟨65, _⟩ => ⟨S1x4096x128, .f32⟩
  | .hbm, ⟨66, _⟩ => ⟨S1x4096x128, .f32⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .f32⟩
  | .hbm, ⟨71, _⟩ => ⟨S1x4096x1, .f32⟩
  | .hbm, ⟨72, _⟩ => ⟨S1x4096x128, .f32⟩
  | .hbm, ⟨73, _⟩ => ⟨S1x4096x128, .f32⟩
  | .hbm, ⟨74, _⟩ => ⟨S1x4096x1x128, .f32⟩
  | .hbm, ⟨75, _⟩ => ⟨S1x4096x128, .f32⟩
  | .hbm, ⟨76, _⟩ => ⟨S1x4096x128, .f32⟩
  | .hbm, ⟨77, _⟩ => ⟨S1x4096x1x128, .f32⟩
  | .hbm, ⟨78, _⟩ => ⟨S1x4096x1x128, .f32⟩
  | .hbm, ⟨79, _⟩ => ⟨S1x4096x1x128, .f32⟩
  | .hbm, ⟨80, _⟩ => ⟨S1x4096x1x128, .f32⟩
  | .hbm, ⟨81, _⟩ => ⟨S1x4096x4x128, .f32⟩
  | .hbm, ⟨82, _⟩ => ⟨S4x128x1x4096, .f32⟩
  | .hbm, ⟨83, _⟩ => ⟨S1x4096x4x128, .f32⟩
  | .hbm, ⟨84, _⟩ => ⟨S1x4096x512, .f32⟩
  | .hbm, ⟨85, _⟩ => ⟨S1x1x512, .f32⟩
  | .hbm, ⟨86, _⟩ => ⟨S1x4096x512, .f32⟩
  | .hbm, ⟨87, _⟩ => ⟨S1x4096x512, .f32⟩
  | .hbm, ⟨88, _⟩ => ⟨S4096x512, .f32⟩
  | .hbm, ⟨89, _⟩ => ⟨S4096x512, .bf16⟩
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_2 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_c_3 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩

abbrev nD : Nat := 1
abbrev τ : Topo := Topo.v7x

variable {F : FTy → Type} [FloatOps F]
-- ==== PairKernel.lean ====
abbrev S4x2x512x640 : Shape := ⟨4, ![4, 2, 512, 640]⟩
abbrev S4x512x640 : Shape := ⟨3, ![4, 512, 640]⟩
abbrev S1 : Shape := ⟨1, ![1]⟩
abbrev S_ : Shape := ⟨0, ![]⟩
abbrev S4x1x512x640 : Shape := ⟨4, ![4, 1, 512, 640]⟩

abbrev nBuf : Space → Nat
  | .hbm => 2
  | .vmem => 0
  | .smem => 0
  | _ => 0

abbrev bufTy : (tb : Table) → Fin (tcTables nBuf tb) → BufTy
  | .hbm, ⟨0, _⟩ => ⟨S4x2x512x640, .f32⟩
  | .hbm, ⟨1, _⟩ => ⟨S4x512x640, .f32⟩
  | _, _ => ⟨S4x2x512x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_off1 (d0 : Dev nD) : Fin 4 → Nat :=
  let c0_i32_5 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c0_i32_6 : BitVec 32 := 0#32
  let c0_i32_7 : BitVec 32 := 0#32
  ![0, v3.toNat, 0, 0]
def k0_dev1 (d0 : Dev nD) : Nat :=
  let c0_i32_4 : BitVec 32 := 0#32
  let c1_i32_1 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v4 : BitVec 32 := Scalar.subi c1_i32_1 v2
  let c1_i32_3 : BitVec 32 := 1#32
  let v5 : BitVec 32 := Scalar.muli v4 c1_i32_3
  let v6 : BitVec 32 := Scalar.addi c0_i32_4 v5
  v6.toNat
-- ==== PairReferenceIdeal.lean ====
abbrev S8x2x512x640 : Shape := ⟨4, ![8, 2, 512, 640]⟩
abbrev S4x1x512x640 : Shape := ⟨4, ![4, 1, 512, 640]⟩
abbrev S4x512x640 : Shape := ⟨3, ![4, 512, 640]⟩
abbrev S8x512x640 : Shape := ⟨3, ![8, 512, 640]⟩

abbrev nBuf : Space → Nat
  | .hbm => 6
  | .vmem => 0
  | .smem => 0
  | _ => 0

abbrev bufTy : (tb : Table) → Fin (tcTables nBuf tb) → BufTy
  | .hbm, ⟨0, _⟩ => ⟨S8x2x512x640, .f32⟩
  | .hbm, ⟨1, _⟩ => ⟨S4x1x512x640, .f32⟩
  | .hbm, ⟨2, _⟩ => ⟨S4x512x640, .f32⟩
  | .hbm, ⟨3, _⟩ => ⟨S4x1x512x640, .f32⟩
  | .hbm, ⟨4, _⟩ => ⟨S4x512x640, .f32⟩
  | .hbm, ⟨5, _⟩ => ⟨S8x512x640, .f32⟩
  | _, _ => ⟨S8x2x512x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== TnKernel.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== TnReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ChAddKernel.lean ====
abbrev S512x1024 : Shape := ⟨2, ![512, 1024]⟩
abbrev S3x512x1024 : Shape := ⟨3, ![3, 512, 1024]⟩
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChAddReferenceIdeal.lean ====
abbrev S512x1024 : Shape := ⟨2, ![512, 1024]⟩
abbrev S3x512x1024 : Shape := ⟨3, ![3, 512, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S3x512x1024, .f32⟩
  | .hbm, ⟨3, _⟩ => ⟨S_, .f32⟩
  | .hbm, ⟨4, _⟩ => ⟨S512x1024, .f32⟩
  | .hbm, ⟨5, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamKernel.lean ====
abbrev S512x1024 : Shape := ⟨2, ![512, 1024]⟩
abbrev S1024x1024 : Shape := ⟨2, ![1024, 1024]⟩
abbrev S5 : Shape := ⟨1, ![5]⟩
abbrev S256x1024 : Shape := ⟨2, ![256, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S5, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamReferenceIdeal.lean ====
abbrev S512x1024 : Shape := ⟨2, ![512, 1024]⟩
abbrev S1024x1024 : Shape := ⟨2, ![1024, 1024]⟩
abbrev S5 : Shape := ⟨1, ![5]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S5, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S512x1024, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S512x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== HalfKernel.lean ====
abbrev S512x640 : Shape := ⟨2, ![512, 640]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S512x640, .f32⟩
  | .hbm, ⟨1, _⟩ => ⟨S512x640, .f32⟩
  | _, _ => ⟨S512x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_dev1 (d0 : Dev nD) : Nat :=
  let c0_i32_3 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_2 : BitVec 32 := 1#32
  let v4 : BitVec 32 := Scalar.muli v3 c1_i32_2
  let v5 : BitVec 32 := Scalar.addi c0_i32_3 v4
  v5.toNat
-- ==== HalfReferenceIdeal.lean ====
abbrev S1024x640 : Shape := ⟨2, ![1024, 640]⟩
abbrev S512x640 : Shape := ⟨2, ![512, 640]⟩

abbrev nBuf : Space → Nat
  | .hbm => 4
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S512x640, .f32⟩
  | .hbm, ⟨2, _⟩ => ⟨S512x640, .f32⟩
  | .hbm, ⟨3, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== ChipKernel.lean ====
abbrev S3x512x640 : Shape := ⟨3, ![3, 512, 640]⟩
abbrev S1x3 : Shape := ⟨2, ![1, 3]⟩
abbrev S1x1 : Shape := ⟨2, ![1, 1]⟩
abbrev S_ : Shape := ⟨0, ![]⟩
abbrev S1x512x640 : Shape := ⟨3, ![1, 512, 640]⟩
abbrev S512x640 : Shape := ⟨2, ![512, 640]⟩

abbrev nBuf : Space → Nat
  | .hbm => 2
  | .vmem => 0
  | .smem => 0
  | _ => 0

abbrev bufTy : (tb : Table) → Fin (tcTables nBuf tb) → BufTy
  | .hbm, ⟨0, _⟩ => ⟨S3x512x640, .bf16⟩
  | .hbm, ⟨1, _⟩ => ⟨S3x512x640, .bf16⟩
  | _, _ => ⟨S3x512x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 4
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v10 : BitVec 32 := Scalar.muli v2 c2_i32_11
  let v11 : BitVec 32 := Scalar.addi c0_i32_12 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v12 : BitVec 32 := Scalar.muli v6 c1_i32_13
  let v13 : BitVec 32 := Scalar.addi v11 v12
  v13.toNat
def k0_dev2 (d0 : Dev nD) : Nat :=
  let c0_i32_25 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_24 : BitVec 32 := 2#32
  let v22 : BitVec 32 := Scalar.muli v7 c2_i32_24
  let v23 : BitVec 32 := Scalar.addi c0_i32_25 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v24 : BitVec 32 := Scalar.muli v5 c1_i32_26
  let v25 : BitVec 32 := Scalar.addi v23 v24
  v25.toNat
def k0_dev3 (d0 : Dev nD) : Nat :=
  let c0_i32_38 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_37 : BitVec 32 := 2#32
  let v34 : BitVec 32 := Scalar.muli v8 c2_i32_37
  let v35 : BitVec 32 := Scalar.addi c0_i32_38 v34
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_39 : BitVec 32 := 1#32
  let v36 : BitVec 32 := Scalar.muli v9 c1_i32_39
  let v37 : BitVec 32 := Scalar.addi v35 v36
  v37.toNat
-- ==== ChipReferenceIdeal.lean ====
abbrev S12x512x640 : Shape := ⟨3, ![12, 512, 640]⟩
abbrev S3x512x640 : Shape := ⟨3, ![3, 512, 640]⟩
abbrev S1x512x640 : Shape := ⟨3, ![1, 512, 640]⟩

abbrev nBuf : Space → Nat
  | .hbm => 18
  | .vmem => 0
  | .smem => 0
  | _ => 0

abbrev bufTy : (tb : Table) → Fin (tcTables nBuf tb) → BufTy
  | .hbm, ⟨0, _⟩ => ⟨S12x512x640, .bf16⟩
  | .hbm, ⟨1, _⟩ => ⟨S3x512x640, .bf16⟩
  | .hbm, ⟨2, _⟩ => ⟨S3x512x640, .bf16⟩
  | .hbm, ⟨3, _⟩ => ⟨S3x512x640, .bf16⟩
  | .hbm, ⟨4, _⟩ => ⟨S3x512x640, .bf16⟩
  | .hbm, ⟨5, _⟩ => ⟨S1x512x640, .bf16⟩
  | .hbm, ⟨6, _⟩ => ⟨S1x512x640, .bf16⟩
  | .hbm, ⟨7, _⟩ => ⟨S1x512x640, .bf16⟩
  | .hbm, ⟨8, _⟩ => ⟨S1x512x640, .bf16⟩
  | .hbm, ⟨9, _⟩ => ⟨S1x512x640, .bf16⟩
  | .hbm, ⟨10, _⟩ => ⟨S1x512x640, .bf16⟩
  | .hbm, ⟨11, _⟩ => ⟨S1x512x640, .bf16⟩
  | .hbm, ⟨12, _⟩ => ⟨S1x512x640, .bf16⟩
  | .hbm, ⟨13, _⟩ => ⟨S1x512x640, .bf16⟩
  | .hbm, ⟨14, _⟩ => ⟨S1x512x640, .bf16⟩
  | .hbm, ⟨15, _⟩ => ⟨S1x512x640, .bf16⟩
  | .hbm, ⟨16, _⟩ => ⟨S1x512x640, .bf16⟩
  | .hbm, ⟨17, _⟩ => ⟨S12x512x640, .bf16⟩
  | _, _ => ⟨S12x512x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩

abbrev nD : Nat := 1
abbrev τ : Topo := Topo.v7x

variable {F : FTy → Type} [FloatOps F]
-- ==== GatherKernel.lean ====
abbrev S1024x640 : Shape := ⟨2, ![1024, 640]⟩
abbrev S4x1024x640 : Shape := ⟨3, ![4, 1024, 640]⟩
abbrev S1 : Shape := ⟨1, ![1]⟩
abbrev S1x2 : Shape := ⟨2, ![1, 2]⟩
abbrev S1x3 : Shape := ⟨2, ![1, 3]⟩
abbrev S_ : Shape := ⟨0, ![]⟩
abbrev S1x1024x640 : Shape := ⟨3, ![1, 1024, 640]⟩
abbrev S1x1 : Shape := ⟨2, ![1, 1]⟩
abbrev S1x512x640 : Shape := ⟨3, ![1, 512, 640]⟩
abbrev S512x640 : Shape := ⟨2, ![512, 640]⟩
abbrev S1x256x640 : Shape := ⟨3, ![1, 256, 640]⟩
abbrev S256x640 : Shape := ⟨2, ![256, 640]⟩

abbrev nBuf : Space → Nat
  | .hbm => 2
  | .vmem => 0
  | .smem => 0
  | _ => 0

abbrev bufTy : (tb : Table) → Fin (tcTables nBuf tb) → BufTy
  | .hbm, ⟨0, _⟩ => ⟨S1024x640, .bf16⟩
  | .hbm, ⟨1, _⟩ => ⟨S4x1024x640, .bf16⟩
  | _, _ => ⟨S1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_15 : BitVec 32 := 0#32
  let c0_i32_16 : BitVec 32 := 0#32
  ![v10.toNat, 0, 0]
def k0_dev1 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v18 : BitVec 32 := Scalar.muli v2 c4_i32_11
  let v19 : BitVec 32 := Scalar.addi c0_i32_12 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v20 : BitVec 32 := Scalar.muli v5 c2_i32_13
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_14 : BitVec 32 := 1#32
  let v22 : BitVec 32 := Scalar.muli v11 c1_i32_14
  let v23 : BitVec 32 := Scalar.addi v21 v22
  v23.toNat
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_7 : BitVec 32 := 512#32
  let v15 : BitVec 32 := Scalar.muli v8 c512_i32_7
  let c0_i32_25 : BitVec 32 := 0#32
  ![v10.toNat, v15.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v14 : BitVec 32 := Scalar.muli v8 c512_i32
  let c0_i32_26 : BitVec 32 := 0#32
  ![v14.toNat, 0]
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v30 : BitVec 32 := Scalar.muli v2 c4_i32_21
  let v31 : BitVec 32 := Scalar.addi c0_i32_22 v30
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_23 : BitVec 32 := 2#32
  let v32 : BitVec 32 := Scalar.muli v12 c2_i32_23
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v34 : BitVec 32 := Scalar.muli v8 c1_i32_24
  let v35 : BitVec 32 := Scalar.addi v33 v34
  v35.toNat
def k0_dev3 (d0 : Dev nD) : Nat :=
  let c0_i32_32 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_31 : BitVec 32 := 4#32
  let v43 : BitVec 32 := Scalar.muli v13 c4_i32_31
  let v44 : BitVec 32 := Scalar.addi c0_i32_32 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v45 : BitVec 32 := Scalar.muli v5 c2_i32_33
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v47 : BitVec 32 := Scalar.muli v8 c1_i32_34
  let v48 : BitVec 32 := Scalar.addi v46 v47
  v48.toNat
def k0_off4 (d0 : Dev nD) : Fin 3 → Nat :=
  let c2_i32_46 : BitVec 32 := 2#32
  let v56 : BitVec 32 := Dev.word d0
  let c4_i32_38 : BitVec 32 := 4#32
  let v57 : BitVec 32 := Scalar.divsi v56 c4_i32_38
  let c2_i32_37 : BitVec 32 := 2#32
  let v58 : BitVec 32 := Scalar.remsi v57 c2_i32_37
  let v68 : BitVec 32 := Scalar.muli c2_i32_46 v58
  let c1_i32_44 : BitVec 32 := 1#32
  let v59 : BitVec 32 := Dev.word d0
  let c2_i32_40 : BitVec 32 := 2#32
  let v60 : BitVec 32 := Scalar.divsi v59 c2_i32_40
  let c2_i32_39 : BitVec 32 := 2#32
  let v61 : BitVec 32 := Scalar.remsi v60 c2_i32_39
  let v66 : BitVec 32 := Scalar.subi c1_i32_44 v61
  let v69 : BitVec 32 := Scalar.addi v68 v66
  let v62 : BitVec 32 := Dev.word d0
  let c1_i32_42 : BitVec 32 := 1#32
  let v63 : BitVec 32 := Scalar.divsi v62 c1_i32_42
  let c2_i32_41 : BitVec 32 := 2#32
  let v64 : BitVec 32 := Scalar.remsi v63 c2_i32_41
  let c512_i32_48 : BitVec 32 := 512#32
  let v71 : BitVec 32 := Scalar.muli v64 c512_i32_48
  let c0_i32_71 : BitVec 32 := 0#32
  ![v69.toNat, v71.toNat, 0]
def k0_off5 (d0 : Dev nD) : Fin 3 → Nat :=
  let c2_i32_46 : BitVec 32 := 2#32
  let v56 : BitVec 32 := Dev.word d0
  let c4_i32_38 : BitVec 32 := 4#32
  let v57 : BitVec 32 := Scalar.divsi v56 c4_i32_38
  let c2_i32_37 : BitVec 32 := 2#32
  let v58 : BitVec 32 := Scalar.remsi v57 c2_i32_37
  let v68 : BitVec 32 := Scalar.muli c2_i32_46 v58
  let c1_i32_44 : BitVec 32 := 1#32
  let v59 : BitVec 32 := Dev.word d0
  let c2_i32_40 : BitVec 32 := 2#32
  let v60 : BitVec 32 := Scalar.divsi v59 c2_i32_40
  let c2_i32_39 : BitVec 32 := 2#32
  let v61 : BitVec 32 := Scalar.remsi v60 c2_i32_39
  let v66 : BitVec 32 := Scalar.subi c1_i32_44 v61
  let v69 : BitVec 32 := Scalar.addi v68 v66
  let v62 : BitVec 32 := Dev.word d0
  let c1_i32_42 : BitVec 32 := 1#32
  let v63 : BitVec 32 := Scalar.divsi v62 c1_i32_42
  let c2_i32_41 : BitVec 32 := 2#32
  let v64 : BitVec 32 := Scalar.remsi v63 c2_i32_41
  let c512_i32_51 : BitVec 32 := 512#32
  let v74 : BitVec 32 := Scalar.muli v64 c512_i32_51
  let c0_i32_52 : BitVec 32 := 0#32
  let v75 : BitVec 32 := Scalar.addi v74 c0_i32_52
  let c0_i32_81 : BitVec 32 := 0#32
  ![v69.toNat, v75.toNat, 0]
def k0_dev4 (d0 : Dev nD) : Nat :=
  let c0_i32_78 : BitVec 32 := 0#32
  let c1_i32_45 : BitVec 32 := 1#32
  let v56 : BitVec 32 := Dev.word d0
  let c4_i32_38 : BitVec 32 := 4#32
  let v57 : BitVec 32 := Scalar.divsi v56 c4_i32_38
  let c2_i32_37 : BitVec 32 := 2#32
  let v58 : BitVec 32 := Scalar.remsi v57 c2_i32_37
  let v67 : BitVec 32 := Scalar.subi c1_i32_45 v58
  let c4_i32_77 : BitVec 32 := 4#32
  let v100 : BitVec 32 := Scalar.muli v67 c4_i32_77
  let v101 : BitVec 32 := Scalar.addi c0_i32_78 v100
  let v59 : BitVec 32 := Dev.word d0
  let c2_i32_40 : BitVec 32 := 2#32
  let v60 : BitVec 32 := Scalar.divsi v59 c2_i32_40
  let c2_i32_39 : BitVec 32 := 2#32
  let v61 : BitVec 32 := Scalar.remsi v60 c2_i32_39
  let c2_i32_79 : BitVec 32 := 2#32
  let v102 : BitVec 32 := Scalar.muli v61 c2_i32_79
  let v103 : BitVec 32 := Scalar.addi v101 v102
  let v62 : BitVec 32 := Dev.word d0
  let c1_i32_42 : BitVec 32 := 1#32
  let v63 : BitVec 32 := Scalar.divsi v62 c1_i32_42
  let c2_i32_41 : BitVec 32 := 2#32
  let v64 : BitVec 32 := Scalar.remsi v63 c2_i32_41
  let c1_i32_80 : BitVec 32 := 1#32
  let v104 : BitVec 32 := Scalar.muli v64 c1_i32_80
  let v105 : BitVec 32 := Scalar.addi v103 v104
  v105.toNat
def k0_dev5 (d0 : Dev nD) : Nat :=
  let c0_i32_88 : BitVec 32 := 0#32
  let v56 : BitVec 32 := Dev.word d0
  let c4_i32_38 : BitVec 32 := 4#32
  let v57 : BitVec 32 := Scalar.divsi v56 c4_i32_38
  let c2_i32_37 : BitVec 32 := 2#32
  let v58 : BitVec 32 := Scalar.remsi v57 c2_i32_37
  let c4_i32_87 : BitVec 32 := 4#32
  let v114 : BitVec 32 := Scalar.muli v58 c4_i32_87
  let v115 : BitVec 32 := Scalar.addi c0_i32_88 v114
  let v59 : BitVec 32 := Dev.word d0
  let c2_i32_40 : BitVec 32 := 2#32
  let v60 : BitVec 32 := Scalar.divsi v59 c2_i32_40
  let c2_i32_39 : BitVec 32 := 2#32
  let v61 : BitVec 32 := Scalar.remsi v60 c2_i32_39
  let c2_i32_89 : BitVec 32 := 2#32
  let v116 : BitVec 32 := Scalar.muli v61 c2_i32_89
  let v117 : BitVec 32 := Scalar.addi v115 v116
  let c1_i32_43 : BitVec 32 := 1#32
  let v62 : BitVec 32 := Dev.word d0
  let c1_i32_42 : BitVec 32 := 1#32
  let v63 : BitVec 32 := Scalar.divsi v62 c1_i32_42
  let c2_i32_41 : BitVec 32 := 2#32
  let v64 : BitVec 32 := Scalar.remsi v63 c2_i32_41
  let v65 : BitVec 32 := Scalar.subi c1_i32_43 v64
  let c1_i32_90 : BitVec 32 := 1#32
  let v118 : BitVec 32 := Scalar.muli v65 c1_i32_90
  let v119 : BitVec 32 := Scalar.addi v117 v118
  v119.toNat
def k0_off6 (d0 : Dev nD) : Fin 3 → Nat :=
  let c2_i32_55 : BitVec 32 := 2#32
  let c1_i32_45 : BitVec 32 := 1#32
  let v56 : BitVec 32 := Dev.word d0
  let c4_i32_38 : BitVec 32 := 4#32
  let v57 : BitVec 32 := Scalar.divsi v56 c4_i32_38
  let c2_i32_37 : BitVec 32 := 2#32
  let v58 : BitVec 32 := Scalar.remsi v57 c2_i32_37
  let v67 : BitVec 32 := Scalar.subi c1_i32_45 v58
  let v78 : BitVec 32 := Scalar.muli c2_i32_55 v67
  let v59 : BitVec 32 := Dev.word d0
  let c2_i32_40 : BitVec 32 := 2#32
  let v60 : BitVec 32 := Scalar.divsi v59 c2_i32_40
  let c2_i32_39 : BitVec 32 := 2#32
  let v61 : BitVec 32 := Scalar.remsi v60 c2_i32_39
  let v79 : BitVec 32 := Scalar.addi v78 v61
  let v62 : BitVec 32 := Dev.word d0
  let c1_i32_42 : BitVec 32 := 1#32
  let v63 : BitVec 32 := Scalar.divsi v62 c1_i32_42
  let c2_i32_41 : BitVec 32 := 2#32
  let v64 : BitVec 32 := Scalar.remsi v63 c2_i32_41
  let c512_i32_57 : BitVec 32 := 512#32
  let v81 : BitVec 32 := Scalar.muli v64 c512_i32_57
  let c0_i32_101 : BitVec 32 := 0#32
  ![v79.toNat, v81.toNat, 0]
def k0_off7 (d0 : Dev nD) : Fin 3 → Nat :=
  let c2_i32_55 : BitVec 32 := 2#32
  let c1_i32_45 : BitVec 32 := 1#32
  let v56 : BitVec 32 := Dev.word d0
  let c4_i32_38 : BitVec 32 := 4#32
  let v57 : BitVec 32 := Scalar.divsi v56 c4_i32_38
  let c2_i32_37 : BitVec 32 := 2#32
  let v58 : BitVec 32 := Scalar.remsi v57 c2_i32_37
  let v67 : BitVec 32 := Scalar.subi c1_i32_45 v58
  let v78 : BitVec 32 := Scalar.muli c2_i32_55 v67
  let v59 : BitVec 32 := Dev.word d0
  let c2_i32_40 : BitVec 32 := 2#32
  let v60 : BitVec 32 := Scalar.divsi v59 c2_i32_40
  let c2_i32_39 : BitVec 32 := 2#32
  let v61 : BitVec 32 := Scalar.remsi v60 c2_i32_39
  let v79 : BitVec 32 := Scalar.addi v78 v61
  let v62 : BitVec 32 := Dev.word d0
  let c1_i32_42 : BitVec 32 := 1#32
  let v63 : BitVec 32 := Scalar.divsi v62 c1_i32_42
  let c2_i32_41 : BitVec 32 := 2#32
  let v64 : BitVec 32 := Scalar.remsi v63 c2_i32_41
  let c512_i32_59 : BitVec 32 := 512#32
  let v84 : BitVec 32 := Scalar.muli v64 c512_i32_59
  let c256_i32_60 : BitVec 32 := 256#32
  let v85 : BitVec 32 := Scalar.addi v84 c256_i32_60
  let c0_i32_111 : BitVec 32 := 0#32
  ![v79.toNat, v85.toNat, 0]
def k0_dev6 (d0 : Dev nD) : Nat :=
  let c0_i32_108 : BitVec 32 := 0#32
  let v56 : BitVec 32 := Dev.word d0
  let c4_i32_38 : BitVec 32 := 4#32
  let v57 : BitVec 32 := Scalar.divsi v56 c4_i32_38
  let c2_i32_37 : BitVec 32 := 2#32
  let v58 : BitVec 32 := Scalar.remsi v57 c2_i32_37
  let c4_i32_107 : BitVec 32 := 4#32
  let v140 : BitVec 32 := Scalar.muli v58 c4_i32_107
  let v141 : BitVec 32 := Scalar.addi c0_i32_108 v140
  let c1_i32_44 : BitVec 32 := 1#32
  let v59 : BitVec 32 := Dev.word d0
  let c2_i32_40 : BitVec 32 := 2#32
  let v60 : BitVec 32 := Scalar.divsi v59 c2_i32_40
  let c2_i32_39 : BitVec 32 := 2#32
  let v61 : BitVec 32 := Scalar.remsi v60 c2_i32_39
  let v66 : BitVec 32 := Scalar.subi c1_i32_44 v61
  let c2_i32_109 : BitVec 32 := 2#32
  let v142 : BitVec 32 := Scalar.muli v66 c2_i32_109
  let v143 : BitVec 32 := Scalar.addi v141 v142
  let v62 : BitVec 32 := Dev.word d0
  let c1_i32_42 : BitVec 32 := 1#32
  let v63 : BitVec 32 := Scalar.divsi v62 c1_i32_42
  let c2_i32_41 : BitVec 32 := 2#32
  let v64 : BitVec 32 := Scalar.remsi v63 c2_i32_41
  let c1_i32_110 : BitVec 32 := 1#32
  let v144 : BitVec 32 := Scalar.muli v64 c1_i32_110
  let v145 : BitVec 32 := Scalar.addi v143 v144
  v145.toNat
def k0_dev7 (d0 : Dev nD) : Nat :=
  let c0_i32_118 : BitVec 32 := 0#32
  let v56 : BitVec 32 := Dev.word d0
  let c4_i32_38 : BitVec 32 := 4#32
  let v57 : BitVec 32 := Scalar.divsi v56 c4_i32_38
  let c2_i32_37 : BitVec 32 := 2#32
  let v58 : BitVec 32 := Scalar.remsi v57 c2_i32_37
  let c4_i32_117 : BitVec 32 := 4#32
  let v154 : BitVec 32 := Scalar.muli v58 c4_i32_117
  let v155 : BitVec 32 := Scalar.addi c0_i32_118 v154
  let v59 : BitVec 32 := Dev.word d0
  let c2_i32_40 : BitVec 32 := 2#32
  let v60 : BitVec 32 := Scalar.divsi v59 c2_i32_40
  let c2_i32_39 : BitVec 32 := 2#32
  let v61 : BitVec 32 := Scalar.remsi v60 c2_i32_39
  let c2_i32_119 : BitVec 32 := 2#32
  let v156 : BitVec 32 := Scalar.muli v61 c2_i32_119
  let v157 : BitVec 32 := Scalar.addi v155 v156
  let c1_i32_43 : BitVec 32 := 1#32
  let v62 : BitVec 32 := Dev.word d0
  let c1_i32_42 : BitVec 32 := 1#32
  let v63 : BitVec 32 := Scalar.divsi v62 c1_i32_42
  let c2_i32_41 : BitVec 32 := 2#32
  let v64 : BitVec 32 := Scalar.remsi v63 c2_i32_41
  let v65 : BitVec 32 := Scalar.subi c1_i32_43 v64
  let c1_i32_120 : BitVec 32 := 1#32
  let v158 : BitVec 32 := Scalar.muli v65 c1_i32_120
  let v159 : BitVec 32 := Scalar.addi v157 v158
  v159.toNat
def k0_off8 (d0 : Dev nD) (c0_i32_148 : BitVec 32) : Fin 3 → Nat :=
  let c2_i32_134 : BitVec 32 := 2#32
  let c1_i32_133 : BitVec 32 := 1#32
  let v168 : BitVec 32 := Dev.word d0
  let c4_i32_124 : BitVec 32 := 4#32
  let v169 : BitVec 32 := Scalar.divsi v168 c4_i32_124
  let c2_i32_123 : BitVec 32 := 2#32
  let v170 : BitVec 32 := Scalar.remsi v169 c2_i32_123
  let v182 : BitVec 32 := Scalar.subi c1_i32_133 v170
  let v183 : BitVec 32 := Scalar.muli c2_i32_134 v182
  let c1_i32_135 : BitVec 32 := 1#32
  let v171 : BitVec 32 := Dev.word d0
  let c2_i32_126 : BitVec 32 := 2#32
  let v172 : BitVec 32 := Scalar.divsi v171 c2_i32_126
  let c2_i32_125 : BitVec 32 := 2#32
  let v173 : BitVec 32 := Scalar.remsi v172 c2_i32_125
  let v184 : BitVec 32 := Scalar.subi c1_i32_135 v173
  let v185 : BitVec 32 := Scalar.addi v183 v184
  let v174 : BitVec 32 := Dev.word d0
  let c1_i32_128 : BitVec 32 := 1#32
  let v175 : BitVec 32 := Scalar.divsi v174 c1_i32_128
  let c2_i32_127 : BitVec 32 := 2#32
  let v176 : BitVec 32 := Scalar.remsi v175 c2_i32_127
  let c512_i32_147 : BitVec 32 := 512#32
  let v198 : BitVec 32 := Scalar.muli v176 c512_i32_147
  let v199 : BitVec 32 := Scalar.addi v198 c0_i32_148
  let c0_i32_184 : BitVec 32 := 0#32
  ![v185.toNat, v199.toNat, 0]
def k0_off9 (d0 : Dev nD) : Fin 3 → Nat :=
  let c2_i32_134 : BitVec 32 := 2#32
  let c1_i32_133 : BitVec 32 := 1#32
  let v168 : BitVec 32 := Dev.word d0
  let c4_i32_124 : BitVec 32 := 4#32
  let v169 : BitVec 32 := Scalar.divsi v168 c4_i32_124
  let c2_i32_123 : BitVec 32 := 2#32
  let v170 : BitVec 32 := Scalar.remsi v169 c2_i32_123
  let v182 : BitVec 32 := Scalar.subi c1_i32_133 v170
  let v183 : BitVec 32 := Scalar.muli c2_i32_134 v182
  let c1_i32_135 : BitVec 32 := 1#32
  let v171 : BitVec 32 := Dev.word d0
  let c2_i32_126 : BitVec 32 := 2#32
  let v172 : BitVec 32 := Scalar.divsi v171 c2_i32_126
  let c2_i32_125 : BitVec 32 := 2#32
  let v173 : BitVec 32 := Scalar.remsi v172 c2_i32_125
  let v184 : BitVec 32 := Scalar.subi c1_i32_135 v173
  let v185 : BitVec 32 := Scalar.addi v183 v184
  let v174 : BitVec 32 := Dev.word d0
  let c1_i32_128 : BitVec 32 := 1#32
  let v175 : BitVec 32 := Scalar.divsi v174 c1_i32_128
  let c2_i32_127 : BitVec 32 := 2#32
  let v176 : BitVec 32 := Scalar.remsi v175 c2_i32_127
  let c512_i32_171 : BitVec 32 := 512#32
  let v223 : BitVec 32 := Scalar.muli v176 c512_i32_171
  let c0_i32_204 : BitVec 32 := 0#32
  ![v185.toNat, v223.toNat, 0]
def k0_dev8 (d0 : Dev nD) : Nat :=
  let c0_i32_201 : BitVec 32 := 0#32
  let v168 : BitVec 32 := Dev.word d0
  let c4_i32_124 : BitVec 32 := 4#32
  let v169 : BitVec 32 := Scalar.divsi v168 c4_i32_124
  let c2_i32_123 : BitVec 32 := 2#32
  let v170 : BitVec 32 := Scalar.remsi v169 c2_i32_123
  let c4_i32_200 : BitVec 32 := 4#32
  let v252 : BitVec 32 := Scalar.muli v170 c4_i32_200
  let v253 : BitVec 32 := Scalar.addi c0_i32_201 v252
  let v171 : BitVec 32 := Dev.word d0
  let c2_i32_126 : BitVec 32 := 2#32
  let v172 : BitVec 32 := Scalar.divsi v171 c2_i32_126
  let c2_i32_125 : BitVec 32 := 2#32
  let v173 : BitVec 32 := Scalar.remsi v172 c2_i32_125
  let c2_i32_202 : BitVec 32 := 2#32
  let v254 : BitVec 32 := Scalar.muli v173 c2_i32_202
  let v255 : BitVec 32 := Scalar.addi v253 v254
  let c1_i32_130 : BitVec 32 := 1#32
  let v174 : BitVec 32 := Dev.word d0
  let c1_i32_128 : BitVec 32 := 1#32
  let v175 : BitVec 32 := Scalar.divsi v174 c1_i32_128
  let c2_i32_127 : BitVec 32 := 2#32
  let v176 : BitVec 32 := Scalar.remsi v175 c2_i32_127
  let v179 : BitVec 32 := Scalar.subi c1_i32_130 v176
  let c1_i32_203 : BitVec 32 := 1#32
  let v256 : BitVec 32 := Scalar.muli v179 c1_i32_203
  let v257 : BitVec 32 := Scalar.addi v255 v256
  v257.toNat
def k0_off10 (d0 : Dev nD) : Fin 3 → Nat :=
  let c2_i32_136 : BitVec 32 := 2#32
  let v168 : BitVec 32 := Dev.word d0
  let c4_i32_124 : BitVec 32 := 4#32
  let v169 : BitVec 32 := Scalar.divsi v168 c4_i32_124
  let c2_i32_123 : BitVec 32 := 2#32
  let v170 : BitVec 32 := Scalar.remsi v169 c2_i32_123
  let v186 : BitVec 32 := Scalar.muli c2_i32_136 v170
  let c1_i32_131 : BitVec 32 := 1#32
  let v171 : BitVec 32 := Dev.word d0
  let c2_i32_126 : BitVec 32 := 2#32
  let v172 : BitVec 32 := Scalar.divsi v171 c2_i32_126
  let c2_i32_125 : BitVec 32 := 2#32
  let v173 : BitVec 32 := Scalar.remsi v172 c2_i32_125
  let v180 : BitVec 32 := Scalar.subi c1_i32_131 v173
  let v187 : BitVec 32 := Scalar.addi v186 v180
  let c1_i32_151 : BitVec 32 := 1#32
  let v174 : BitVec 32 := Dev.word d0
  let c1_i32_128 : BitVec 32 := 1#32
  let v175 : BitVec 32 := Scalar.divsi v174 c1_i32_128
  let c2_i32_127 : BitVec 32 := 2#32
  let v176 : BitVec 32 := Scalar.remsi v175 c2_i32_127
  let v202 : BitVec 32 := Scalar.subi c1_i32_151 v176
  let c512_i32_152 : BitVec 32 := 512#32
  let v203 : BitVec 32 := Scalar.muli v202 c512_i32_152
  let c0_i32_214 : BitVec 32 := 0#32
  ![v187.toNat, v203.toNat, 0]
def k0_off11 (d0 : Dev nD) : Fin 3 → Nat :=
  let c2_i32_153 : BitVec 32 := 2#32
  let c1_i32_132 : BitVec 32 := 1#32
  let v168 : BitVec 32 := Dev.word d0
  let c4_i32_124 : BitVec 32 := 4#32
  let v169 : BitVec 32 := Scalar.divsi v168 c4_i32_124
  let c2_i32_123 : BitVec 32 := 2#32
  let v170 : BitVec 32 := Scalar.remsi v169 c2_i32_123
  let v181 : BitVec 32 := Scalar.subi c1_i32_132 v170
  let v204 : BitVec 32 := Scalar.muli c2_i32_153 v181
  let v171 : BitVec 32 := Dev.word d0
  let c2_i32_126 : BitVec 32 := 2#32
  let v172 : BitVec 32 := Scalar.divsi v171 c2_i32_126
  let c2_i32_125 : BitVec 32 := 2#32
  let v173 : BitVec 32 := Scalar.remsi v172 c2_i32_125
  let v205 : BitVec 32 := Scalar.addi v204 v173
  let c1_i32_168 : BitVec 32 := 1#32
  let v174 : BitVec 32 := Dev.word d0
  let c1_i32_128 : BitVec 32 := 1#32
  let v175 : BitVec 32 := Scalar.divsi v174 c1_i32_128
  let c2_i32_127 : BitVec 32 := 2#32
  let v176 : BitVec 32 := Scalar.remsi v175 c2_i32_127
  let v220 : BitVec 32 := Scalar.subi c1_i32_168 v176
  let c512_i32_169 : BitVec 32 := 512#32
  let v221 : BitVec 32 := Scalar.muli v220 c512_i32_169
  let c0_i32_224 : BitVec 32 := 0#32
  ![v205.toNat, v221.toNat, 0]
def k0_off12 (d0 : Dev nD) : Fin 3 → Nat :=
  let c2_i32_134 : BitVec 32 := 2#32
  let c1_i32_133 : BitVec 32 := 1#32
  let v168 : BitVec 32 := Dev.word d0
  let c4_i32_124 : BitVec 32 := 4#32
  let v169 : BitVec 32 := Scalar.divsi v168 c4_i32_124
  let c2_i32_123 : BitVec 32 := 2#32
  let v170 : BitVec 32 := Scalar.remsi v169 c2_i32_123
  let v182 : BitVec 32 := Scalar.subi c1_i32_133 v170
  let v183 : BitVec 32 := Scalar.muli c2_i32_134 v182
  let c1_i32_135 : BitVec 32 := 1#32
  let v171 : BitVec 32 := Dev.word d0
  let c2_i32_126 : BitVec 32 := 2#32
  let v172 : BitVec 32 := Scalar.divsi v171 c2_i32_126
  let c2_i32_125 : BitVec 32 := 2#32
  let v173 : BitVec 32 := Scalar.remsi v172 c2_i32_125
  let v184 : BitVec 32 := Scalar.subi c1_i32_135 v173
  let v185 : BitVec 32 := Scalar.addi v183 v184
  let c1_i32_174 : BitVec 32 := 1#32
  let v174 : BitVec 32 := Dev.word d0
  let c1_i32_128 : BitVec 32 := 1#32
  let v175 : BitVec 32 := Scalar.divsi v174 c1_i32_128
  let c2_i32_127 : BitVec 32 := 2#32
  let v176 : BitVec 32 := Scalar.remsi v175 c2_i32_127
  let v226 : BitVec 32 := Scalar.subi c1_i32_174 v176
  let c512_i32_175 : BitVec 32 := 512#32
  let v227 : BitVec 32 := Scalar.muli v226 c512_i32_175
  let c0_i32_234 : BitVec 32 := 0#32
  ![v185.toNat, v227.toNat, 0]
-- ==== GatherReferenceIdeal.lean ====
abbrev S1024x2560 : Shape := ⟨2, ![1024, 2560]⟩
abbrev S1024x4x640 : Shape := ⟨3, ![1024, 4, 640]⟩
abbrev S4x1024x640 : Shape := ⟨3, ![4, 1024, 640]⟩

abbrev nBuf : Space → Nat
  | .hbm => 3
  | .vmem => 0
  | .smem => 0
  | _ => 0

abbrev bufTy : (tb : Table) → Fin (tcTables nBuf tb) → BufTy
  | .hbm, ⟨0, _⟩ => ⟨S1024x2560, .bf16⟩
  | .hbm, ⟨1, _⟩ => ⟨S1024x4x640, .bf16⟩
  | .hbm, ⟨2, _⟩ => ⟨S4x1024x640, .bf16⟩
  | _, _ => ⟨S1024x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Common.lean ====
module

public import Idealize.ShloMosaic.Lib.Pipeline.ValueKit
public import Idealize.ShloMosaic.Lib.Pointwise
public import Idealize.ShloMosaic.Lib.Claim

@[expose] public section

open Idealize.ShloMosaic

namespace Cert.Common

section sumLeading
variable {n0 n1 n2 : Nat}

/-- The rank-3 indices that drop to `j` under a reduction of the two leading axes. -/
theorem fiber_leading (h : (⟨3, ![n0, n1, n2]⟩ : Shape).ReducesTo [0, 1] ⟨1, ![n2]⟩) (j : (⟨1, ![n2]⟩ : Shape).Idx)
    (i : (⟨3, ![n0, n1, n2]⟩ : Shape).Idx) :
    h.drop i = j ↔ ∃ k : Fin n0 × Fin n1, ix3 k.1 k.2 (j 0) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A host sum over the two leading axes of a rank-3 array, at an index. -/
theorem hostReduceAdd_leading (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  classical
  have e := Finset.sum_filter_eq_sum_of_fiber (fun i => h.drop i = j) (fun k : Fin n0 × Fin n1 => ix3 k.1 k.2 (j 0))
    (fun _ _ e => Prod.ext (congrFun e 0) (congrFun e 1)) (fiber_leading h j) v
  rw [Fintype.sum_prod_type] at e
  rw [← e]
  delta Ideal.hostReduceAdd
  exact congrArg (init + ·) (Finset.sum_congr (by ext i; simp) fun _ _ => rfl)

/-- The rank-3 indices that drop to `j` under a reduction of the outer axes. -/
theorem fiber_outer (h : (⟨3, ![n0, n1, n2]⟩ : Shape).ReducesTo [0, 2] ⟨1, ![n1]⟩) (j : (⟨1, ![n1]⟩ : Shape).Idx)
    (i : (⟨3, ![n0, n1, n2]⟩ : Shape).Idx) :
    h.drop i = j ↔ ∃ k : Fin n0 × Fin n2, ix3 k.1 (j 0) k.2 = i := by
  constructor
  · intro e
    refine ⟨(i 0, i 2), ?_⟩
    funext a; apply Fin.ext
    match a with
    | ⟨0, _⟩ => rfl
    | ⟨1, _⟩ => exact (congrArg Fin.val (congrFun e 0)).symm
    | ⟨2, _⟩ => rfl
  · rintro ⟨k, rfl⟩
    funext b
    apply Fin.ext
    match b with
    | ⟨0, _⟩ => rfl

/-- A host sum over the first and the last axis of a rank-3 array, at an index. -/
theorem hostReduceAdd_outer (h : (⟨3, ![n0, n1, n2]⟩ : Shape).ReducesTo [0, 2] ⟨1, ![n1]⟩)
    (v : (⟨3, ![n0, n1, n2]⟩ : Shape).Idx → EReal) (init : EReal) (j : (⟨1, ![n1]⟩ : Shape).Idx) :
    Ideal.hostReduceAdd h v init j = init + ∑ a : Fin n0, ∑ b : Fin n2, v (ix3 a (j 0) b) := by
  classical
  have e := Finset.sum_filter_eq_sum_of_fiber (fun i => h.drop i = j) (fun k : Fin n0 × Fin n2 => ix3 k.1 (j 0) k.2)
    (fun _ _ e => Prod.ext (congrFun e 0) (congrFun e 2)) (fiber_outer h j) v
  rw [Fintype.sum_prod_type] at e
  rw [← e]
  delta Ideal.hostReduceAdd
  exact congrArg (init + ·) (Finset.sum_congr (by ext i; simp) fun _ _ => rfl)

end sumLeading

/-- The rank-4 indices that drop to `j` under a reduction of the first and the last axis. -/
theorem fiber_ends {n0 n1 n2 n3 : Nat} (h : (⟨4, ![n0, n1, n2, n3]⟩ : Shape).ReducesTo [0, 3] ⟨2, ![n1, n2]⟩) (j : (⟨2, ![n1, n2]⟩ : Shape).Idx)
    (i : (⟨4, ![n0, n1, n2, n3]⟩ : Shape).Idx) :
    h.drop i = j ↔ ∃ k : Fin n0 × Fin n3, ix4 k.1 (j 0) (j 1) k.2 = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- A host sum over the first and the last axis of a rank-4 array, at an index. -/
theorem hostReduceAdd_ends {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (j : (⟨2, ![n1, n2]⟩ : Shape).Idx) :
    Ideal.hostReduceAdd h v init j = init + ∑ a : Fin n0, ∑ b : Fin n3, v (ix4 a (j 0) (j 1) b) := by
  classical
  have e := Finset.sum_filter_eq_sum_of_fiber (fun i => h.drop i = j) (fun k : Fin n0 × Fin n3 => ix4 k.1 (j 0) (j 1) k.2)
    (fun _ _ e => Prod.ext (congrFun e 0) (congrFun e 3)) (fiber_ends h j) v
  rw [Fintype.sum_prod_type] at e
  rw [← e]
  delta Ideal.hostReduceAdd
  exact congrArg (init + ·) (Finset.sum_congr (by ext i; simp) fun _ _ => rfl)

/-- A host maximum over the last axis of a rank-4 array, at an index. -/
theorem hostMax_last {n0 n1 n2 n3 : Nat} {u : Shape} (h : (⟨4, ![n0, n1, n2, n3]⟩ : Shape).ReducesTo [3] ⟨3, ![n0, n1, n2]⟩)
    (v : FVec Ideal ⟨4, ![n0, n1, n2, n3]⟩ .f32) (c : FVec Ideal u .f32) (hu : 0 < u.numel) (j : (⟨3, ![n0, n1, n2]⟩ : Shape).Idx) :
    Host.reduce FloatOps.maximumf v c h hu j
      = Finset.univ.fold max (c (Shape.Idx.first hu)) fun k : Fin n3 => v (ix4 (j 0) (j 1) (j 2) k) := by
  simp only [pointwise]

/-- The sum over the positions of an axis of extent `a * b` as a double sum over quotient and remainder. -/
theorem sum_divMod {M : Type*} [AddCommMonoid M] {a b n : Nat} (hb : 0 < b) (hn : n = a * b) (f : Fin a → Fin b → M) :
    ∑ k : Fin n, f ⟨k / b, by have := k.isLt; rw [Nat.div_lt_iff_lt_mul hb]; omega⟩ ⟨k % b, Nat.mod_lt _ hb⟩
      = ∑ i : Fin a, ∑ j : Fin b, f i j := by
  subst hn
  rw [← Fintype.sum_prod_type']
  refine Fintype.sum_equiv finProdFinEquiv.symm _ _ fun k => ?_
  rfl

/-- A column of an array put together of four blocks of columns lies in one of them. -/
theorem four_blocks (d : Fin 1024) (F : Fin 4 → Fin 256 → EReal) (f0 f1 f2 f3 : Fin 256 → EReal)
    (h0 : ∀ e, f0 e = F 0 e) (h1 : ∀ e, f1 e = F 1 e) (h2 : ∀ e, f2 e = F 2 e) (h3 : ∀ e, f3 e = F 3 e) :
    (if h : d.val < 256 then f0 ⟨d.val, h⟩ else if h : d.val - 256 < 256 then f1 ⟨d.val - 256, h⟩
      else if h : d.val - 256 - 256 < 256 then f2 ⟨d.val - 256 - 256, h⟩ else f3 ⟨d.val - 256 - 256 - 256, by omega⟩)
      = F ⟨d.val / 256, by omega⟩ ⟨d.val % 256, by omega⟩ := by
  have k : ∀ (q : Fin 4) (e : Fin 256), d.val = q.val * 256 + e.val → F ⟨d.val / 256, by omega⟩ ⟨d.val % 256, by omega⟩ = F q e := fun q e h => by
    exact congrArg₂ F (Fin.ext (by show d.val / 256 = q.val; omega)) (Fin.ext (by show d.val % 256 = e.val; omega))
  split_ifs with a b c
  · rw [h0]; exact (k 0 ⟨d.val, a⟩ (by simp)).symm
  · rw [h1]; exact (k 1 ⟨d.val - 256, b⟩ (by simp; omega)).symm
  · rw [h2]; exact (k 2 ⟨d.val - 256 - 256, c⟩ (by simp; omega)).symm
  · rw [h3]; exact (k 3 ⟨d.val - 256 - 256 - 256, by omega⟩ (by simp; omega)).symm

/-- A sum over an axis cut into four equal parts. -/
theorem sum_quarters {M : Type*} [AddCommMonoid M] {b n : Nat} (hn : n = b + b + b + b) (f : Fin n → M) (f0 f1 f2 f3 : Fin b → M)
    (h0 : ∀ k, f0 k = f ⟨k, by omega⟩) (h1 : ∀ k, f1 k = f ⟨b + k, by omega⟩) (h2 : ∀ k, f2 k = f ⟨b + b + k, by omega⟩)
    (h3 : ∀ k, f3 k = f ⟨b + b + b + k, by omega⟩) : ∑ k, f0 k + ∑ k, f1 k + ∑ k, f2 k + ∑ k, f3 k = ∑ k, f k := by
  subst hn
  simp only [Fin.sum_univ_add]
  refine congrArg₂ _ (congrArg₂ _ (congrArg₂ _ ?_ ?_) ?_) ?_
  · exact Finset.sum_congr rfl fun k _ => h0 k
  · exact Finset.sum_congr rfl fun k _ => h1 k
  · exact Finset.sum_congr rfl fun k _ => h2 k
  · exact Finset.sum_congr rfl fun k _ => h3 k

end Cert.Common

end
-- ==== Proof.KvValue.lean ====
module

public import proofs.«01_k».proof.Proof.Gen.KvKernelIdeal.Value
public import proofs.«01_k».proof.Proof.Gen.KvReferenceIdeal.Read
public import proofs.«01_k».proof.Proof.Common

@[expose] public section

set_option maxRecDepth 16384
set_option maxHeartbeats 1000000

noncomputable section

open Idealize.ShloMosaic Idealize.ShloMosaic.TcCoe Idealize.SL.Sem
open Idealize.ShloMosaic.Pipeline (Dat)

namespace Cert.KvKernelIdeal.Val

open Cert.KvKernelIdeal Cert.KvKernelIdeal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 1, 0]
    ∧ win0_6.index t = ![0, 0, 0] ∧ win0_7.index t = ![0, 0, 0] ∧ win0_8.index t = ![0, 0] :=
  (by decide +kernel : ∀ t : Fin grid0.N, _)

theorem in0 (c : Dev nD) (t : Fin cfg0.N) (i : Fin 256) (k : Fin 1024) :
    iblk m c 0 t (ix2 i k) = m ((c : Thread nD τ).loc main_arg0) (ix3 0 i k) := by
  blk_point [iblk, V, idx t]

theorem in1 (c : Dev nD) (t : Fin cfg0.N) (k : Fin 1024) :
    iblk m c 1 t (ix2 0 k) = m ((c : Thread nD τ).loc main_arg1) (ix2 0 k) := by
  blk_point [iblk, V, idx t]

theorem in2 (c : Dev nD) (t : Fin cfg0.N) (i : Fin 256) (k : Fin 1024) :
    iblk m c 2 t (ix2 i k) = m ((c : Thread nD τ).loc main_arg4) (ix4 0 i ⟨k / 256, by omega⟩ ⟨k % 256, by omega⟩) := by
  blk_point [iblk, V, idx t]

theorem in3 (c : Dev nD) (t : Fin cfg0.N) (i : Fin 256) (k : Fin 1024) :
    iblk m c 3 t (ix2 i k) = m ((c : Thread nD τ).loc main_arg5) (ix4 0 i ⟨k / 256, by omega⟩ ⟨k % 256, by omega⟩) := by
  blk_point [iblk, V, idx t]

theorem in4 (c : Dev nD) (t : Fin cfg0.N) (j : Fin 4) (i : Fin 256) (k : Fin 1024) (d : Fin 1024) (hd : d.val = j * 256 + i) :
    iblk m c 4 t (ix3 j i k) = m ((c : Thread nD τ).loc main_arg2) (ix4 0 d ⟨k / 256, by omega⟩ ⟨k % 256, by omega⟩) := by
  blk_simp [iblk]
  entry_read
  pointwise
  blk_simp [idx t]
  simp only [i.isLt, ↓reduceDIte, ← hd]

theorem in5 (c : Dev nD) (t : Fin cfg0.N) (j : Fin 4) (i : Fin 256) (k : Fin 1024) (d : Fin 1024) (hd : d.val = j * 256 + i) :
    iblk m c 5 t (ix3 j i k) = m ((c : Thread nD τ).loc main_arg3) (ix4 0 d ⟨k / 256, by omega⟩ ⟨k % 256, by omega⟩) := by
  blk_simp [iblk]
  entry_read
  pointwise
  blk_simp [idx t]
  simp only [show ¬ 256 + i.val < 256 by omega, ↓reduceDIte, Nat.add_sub_cancel_left, ← hd]

/-- The mean square of a row, shifted and inverted. -/
def rinv (x : Fin 1024 → EReal) : EReal :=
  Ideal.rsqrt (Ideal.div (∑ k, x k * x k) (Ideal.ofBits .f32 1149239296#32) + Ideal.ofBits .f32 897988541#32)

theorem gKernel (x0 : Vec Ideal S256x1024 .f32) (x2 x3 : FVec Ideal S256x1024 .f32) (v31 v34 v47 v50 v63 v66 v79 v82 : Vec Ideal S1x256x1024 .bf16)
    (W4 W5 : Fin 1024 → Fin 1024 → EReal) (h31 : ∀ (i : Fin 256) (k : Fin 1024), v31 (ix3 0 i k) = W4 ⟨0 + i, by omega⟩ k)
    (h34 : ∀ (i : Fin 256) (k : Fin 1024), v34 (ix3 0 i k) = W5 ⟨0 + i, by omega⟩ k)
    (h47 : ∀ (i : Fin 256) (k : Fin 1024), v47 (ix3 0 i k) = W4 ⟨256 + i, by omega⟩ k)
    (h50 : ∀ (i : Fin 256) (k : Fin 1024), v50 (ix3 0 i k) = W5 ⟨256 + i, by omega⟩ k)
    (h63 : ∀ (i : Fin 256) (k : Fin 1024), v63 (ix3 0 i k) = W4 ⟨512 + i, by omega⟩ k)
    (h66 : ∀ (i : Fin 256) (k : Fin 1024), v66 (ix3 0 i k) = W5 ⟨512 + i, by omega⟩ k)
    (h79 : ∀ (i : Fin 256) (k : Fin 1024), v79 (ix3 0 i k) = W4 ⟨768 + i, by omega⟩ k)
    (h82 : ∀ (i : Fin 256) (k : Fin 1024), v82 (ix3 0 i k) = W5 ⟨768 + i, by omega⟩ k) (r : Fin 8) (d : Fin 1024) :
    k0_pay20 (k0_pay1 x0) (k0_pay3 x2) (k0_pay4 x3) (k0_pay9 (k0_pay4 x3) (k0_pay8 x2 v31) v34) (k0_pay13 (k0_pay3 x2) (k0_pay4 x3) v47 v50) v63 v66 v79 v82 (ix2 r d)
      = if r.val < 1 then ∑ i : Fin 256, (∑ n : Fin 1024, x2 (ix2 i n) * W4 d n + ∑ n : Fin 1024, x3 (ix2 i n) * W5 d n) * (x0 (ix2 i d) * rinv fun k => x0 (ix2 i k)) else 0 := by
  pointwise [k0_pay20, k0_pay1, k0_pay9, k0_pay13, k0_pay3, k0_pay4, k0_pay8]
  simp only [h31, h34, h47, h50, h63, h66, h79, h82, dite_eq_ite]
  generalize_proofs
  refine if_congr Iff.rfl (Finset.sum_congr rfl fun i _ => ?_) rfl
  refine congrArg (· * _) ?_
  have hd := d.isLt
  split_ifs
  · simp only [show 0 + d.val = d.val by omega]
  · simp only [show 256 + (d.val - 256) = d.val by omega]
  · simp only [show 512 + (d.val - 256 - 256) = d.val by omega]
  · simp only [show 768 + (d.val - 256 - 256 - 256) = d.val by omega]

theorem gReference (X0 : FVec Ideal Cert.KvReferenceIdeal.S1x256x1024 .f32) (X2 X3 : FVec Ideal Cert.KvReferenceIdeal.S1x1024x4x256 .f32)
    (X4 X5 : FVec Ideal Cert.KvReferenceIdeal.S1x256x4x256 .f32) (r : Fin 8) (d : Fin 1024) :
    Cert.KvReferenceIdeal.Read.val_main_v35 (F := Ideal) X0 X2 X3 X4 X5 (ix2 r d)
      = if r.val < 1 then ∑ i : Fin 256, (∑ a : Fin 4, ∑ b : Fin 256, X4 (ix4 0 i a b) * X2 (ix4 0 d a b) + ∑ a : Fin 4, ∑ b : Fin 256, X5 (ix4 0 i a b) * X3 (ix4 0 d a b)) * (X0 (ix3 0 i d) * rinv fun k => X0 (ix3 0 i k)) else 0 := by
  pointwise [Cert.KvReferenceIdeal.Read.val_main_v35, Cert.KvReferenceIdeal.Read.val_main_v34, Cert.KvReferenceIdeal.Read.val_main_v31, Cert.KvReferenceIdeal.Read.val_main_v30, Cert.KvReferenceIdeal.Read.val_main_v29, Cert.KvReferenceIdeal.Read.val_main_v28, Cert.KvReferenceIdeal.Read.val_main_v27, Cert.KvReferenceIdeal.Read.val_main_v25, Cert.KvReferenceIdeal.Read.val_main_v24, Cert.KvReferenceIdeal.Read.val_main_v20, Cert.KvReferenceIdeal.Read.val_main_v16, Cert.KvReferenceIdeal.Read.val_main_v14, Cert.KvReferenceIdeal.Read.val_main_v10, Cert.KvReferenceIdeal.Read.val_main_v9, Cert.KvReferenceIdeal.Read.val_main_v8, Cert.KvReferenceIdeal.Read.val_main_v7, Cert.KvReferenceIdeal.Read.val_main_v6, Cert.KvReferenceIdeal.Read.val_main_v5, Cert.KvReferenceIdeal.Read.val_main_v4, Cert.KvReferenceIdeal.Read.val_main_v3, Cert.KvReferenceIdeal.Read.val_main_v2, Cert.KvReferenceIdeal.Read.val_main_v1, Cert.KvReferenceIdeal.Read.val_main_cst, Cert.KvReferenceIdeal.Read.val_main_cst_0, Cert.KvReferenceIdeal.Read.val_main_cst_1, Cert.KvReferenceIdeal.Read.val_main_cst_2, Cert.KvReferenceIdeal.Read.val_main_cst_3, Cert.KvReferenceIdeal.Read.val_main_cst_4, Common.hostReduceAdd_leading]
  simp only [Fin.sum_univ_one, dite_eq_ite]
  refine if_congr Iff.rfl (Finset.sum_congr rfl fun i _ => ?_) rfl
  rw [mul_comm, add_comm]
  rfl

theorem outG (c : Dev nD) : (dats m 0 c).arrAt 8 (cfgs 0).N
    = Cert.KvReferenceIdeal.Read.val_main_v35 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  obtain ⟨r, d, rfl⟩ : ∃ (r : Fin 8) (d : Fin 1024), y = ix2 r d := ⟨y 0, y 1, eq_ix2 y⟩
  have e : ((cfg0.win 8).blk t).view.emb (ix2 r d) = (ix2 r d : S8x1024.Idx) := by blk_ext [idx t]
  refine Eq.trans ?_ (congrArg _ e).symm
  rw [after0_8]
  frame_out
  simp only [cast_eq]
  unfold k0_pay22 k0_pay23
  frame_out
  refine Eq.trans ?_ (gReference _ _ _ _ _ r d).symm
  refine (gKernel _ _ _ _ _ _ _ _ _ _ _ (fun d k => m ((c : Thread nD τ).loc main_arg2) (ix4 0 d ⟨k / 256, by omega⟩ ⟨k % 256, by omega⟩))
    (fun d k => m ((c : Thread nD τ).loc main_arg3) (ix4 0 d ⟨k / 256, by omega⟩ ⟨k % 256, by omega⟩)) ?_ ?_ ?_ ?_ ?_ ?_ ?_ ?_ r d).trans ?_
  · intro i k; pointwise; simp only [in4 m c t 0 i k ⟨i.val, by omega⟩ (by simp)]
  · intro i k; pointwise; simp only [in5 m c t 0 i k ⟨i.val, by omega⟩ (by simp)]
  · intro i k; pointwise; simp only [in4 m c t 1 i k ⟨256 + i.val, by omega⟩ (by simp)]
  · intro i k; pointwise; simp only [in5 m c t 1 i k ⟨256 + i.val, by omega⟩ (by simp)]
  · intro i k; pointwise; simp only [in4 m c t 2 i k ⟨512 + i.val, by omega⟩ (by simp)]
  · intro i k; pointwise; simp only [in5 m c t 2 i k ⟨512 + i.val, by omega⟩ (by simp)]
  · intro i k; pointwise; simp only [in4 m c t 3 i k ⟨768 + i.val, by omega⟩ (by simp)]
  · intro i k; pointwise; simp only [in5 m c t 3 i k ⟨768 + i.val, by omega⟩ (by simp)]
  · simp only [in0, in2, in3]
    refine if_congr Iff.rfl (Finset.sum_congr rfl fun i _ => ?_) rfl
    refine congrArg (· * _) ?_
    exact congrArg₂ (· + ·)
      (Common.sum_divMod (n := 1024) (by norm_num) rfl fun a b => (show EReal from m ((c : Thread nD τ).loc main_arg4) (ix4 0 i a b)) * (show EReal from m ((c : Thread nD τ).loc main_arg2) (ix4 0 d a b)))
      (Common.sum_divMod (n := 1024) (by norm_num) rfl fun a b => (show EReal from m ((c : Thread nD τ).loc main_arg5) (ix4 0 i a b)) * (show EReal from m ((c : Thread nD τ).loc main_arg3) (ix4 0 d a b)))

theorem outK (c : Dev nD) : (dats m 0 c).arrAt 6 (cfgs 0).N
    = Cert.KvReferenceIdeal.Read.val_main_v32 (F := Ideal) (m ((c : Thread nD τ).loc main_arg0)) (m ((c : Thread nD τ).loc main_arg1)) (m ((c : Thread nD τ).loc main_arg4)) := by
  refine (dats m 0 c).arrAt_eq_of_covers 6 _ (by decide +kernel) fun t _ y => ?_
  blk_simp
  rw [after0_6]; frame_out
  canon_tiles x h <;> idx_vars x
  all_goals
    pointwise [k0_pay18, k0_pay15, k0_pay11, k0_pay6, k0_pay21, k0_pay22, k0_pay23, k0_pay14, k0_pay10, k0_pay5, k0_pay17, k0_pay2, k0_pay1, k0_pay3, k0_pay4,
      Cert.KvReferenceIdeal.Read.val_main_v32, Cert.KvReferenceIdeal.Read.val_main_v26, Cert.KvReferenceIdeal.Read.val_main_v23, Cert.KvReferenceIdeal.Read.val_main_v22, Cert.KvReferenceIdeal.Read.val_main_v13, Cert.KvReferenceIdeal.Read.val_main_v12, Cert.KvReferenceIdeal.Read.val_main_v11, Cert.KvReferenceIdeal.Read.val_main_v10, Cert.KvReferenceIdeal.Read.val_main_v9, Cert.KvReferenceIdeal.Read.val_main_v8, Cert.KvReferenceIdeal.Read.val_main_v7, Cert.KvReferenceIdeal.Read.val_main_v6, Cert.KvReferenceIdeal.Read.val_main_v5, Cert.KvReferenceIdeal.Read.val_main_v4, Cert.KvReferenceIdeal.Read.val_main_v3, Cert.KvReferenceIdeal.Read.val_main_v2, Cert.KvReferenceIdeal.Read.val_main_v1, Cert.KvReferenceIdeal.Read.val_main_v0, Cert.KvReferenceIdeal.Read.val_main_cst, Cert.KvReferenceIdeal.Read.val_main_cst_0, Cert.KvReferenceIdeal.Read.val_main_cst_1]
    simp only [Fin.sum_univ_one, in0, in1, in2, in3]
    blk_simp [idx t]
    refine Finset.sum_congr rfl fun i _ => ?_
    refine (mul_comm (G := EReal) _ _).trans ?_
    simp only [h2]
  · simp only [show (y 0).val * 256 + (y 1).val = 768 + x1.val by omega]
  · simp only [show (y 0).val * 256 + (y 1).val = 512 + x1.val by omega]
  · simp only [show (y 0).val * 256 + (y 1).val = 256 + x1.val by omega]
  · simp only [show (y 0).val * 256 + (y 1).val = x1.val by omega]

theorem outV (c : Dev nD) : (dats m 0 c).arrAt 7 (cfgs 0).N
    = Cert.KvReferenceIdeal.Read.val_main_v33 (F := Ideal) (m ((c : Thread nD τ).loc main_arg0)) (m ((c : Thread nD τ).loc main_arg1)) (m ((c : Thread nD τ).loc main_arg5)) := by
  refine (dats m 0 c).arrAt_eq_of_covers 7 _ (by decide +kernel) fun t _ y => ?_
  blk_simp
  rw [after0_7]; frame_out
  canon_tiles x h <;> idx_vars x
  all_goals
    pointwise [k0_pay19, k0_pay16, k0_pay12, k0_pay7, k0_pay21, k0_pay22, k0_pay23, k0_pay14, k0_pay10, k0_pay5, k0_pay17, k0_pay2, k0_pay1, k0_pay3, k0_pay4,
      Cert.KvReferenceIdeal.Read.val_main_v33, Cert.KvReferenceIdeal.Read.val_main_v21, Cert.KvReferenceIdeal.Read.val_main_v19, Cert.KvReferenceIdeal.Read.val_main_v18, Cert.KvReferenceIdeal.Read.val_main_v13, Cert.KvReferenceIdeal.Read.val_main_v12, Cert.KvReferenceIdeal.Read.val_main_v11, Cert.KvReferenceIdeal.Read.val_main_v10, Cert.KvReferenceIdeal.Read.val_main_v9, Cert.KvReferenceIdeal.Read.val_main_v8, Cert.KvReferenceIdeal.Read.val_main_v7, Cert.KvReferenceIdeal.Read.val_main_v6, Cert.KvReferenceIdeal.Read.val_main_v5, Cert.KvReferenceIdeal.Read.val_main_v4, Cert.KvReferenceIdeal.Read.val_main_v3, Cert.KvReferenceIdeal.Read.val_main_v2, Cert.KvReferenceIdeal.Read.val_main_v1, Cert.KvReferenceIdeal.Read.val_main_v0, Cert.KvReferenceIdeal.Read.val_main_cst, Cert.KvReferenceIdeal.Read.val_main_cst_0, Cert.KvReferenceIdeal.Read.val_main_cst_1]
    simp only [Fin.sum_univ_one, in0, in1, in2, in3]
    blk_simp [idx t]
    refine Finset.sum_congr rfl fun i _ => ?_
    refine (mul_comm (G := EReal) _ _).trans ?_
    simp only [h2]
  · simp only [show (y 0).val * 256 + (y 1).val = 768 + x1.val by omega]
  · simp only [show (y 0).val * 256 + (y 1).val = 512 + x1.val by omega]
  · simp only [show (y 0).val * 256 + (y 1).val = 256 + x1.val by omega]
  · simp only [show (y 0).val * 256 + (y 1).val = x1.val by omega]

end Cert.KvKernelIdeal.Val

end
-- ==== Proof.Kv.lean ====
module

public import proofs.«01_k».proof.Defs
public import proofs.«01_k».proof.Proof.Gen.KvReferenceIdeal.Run
public import proofs.«01_k».proof.Proof.KvValue

@[expose] public section

noncomputable section

open Idealize.ShloMosaic Idealize.SL.Sem

namespace Cert.Kv

/-- The kernel of the keys' and values' gradients computes what the reference computes. -/
theorem algebraic : Cert.algebraic_KvKernelIdeal_KvReferenceIdeal := by
  intro m g m' g' _ h
  refine ⟨fun c => (Cert.KvKernelIdeal.Gen.dats m 0 c).arrAt 6 (Cert.KvKernelIdeal.cfgs 0).N, fun c => (Cert.KvKernelIdeal.Gen.dats m 0 c).arrAt 7 (Cert.KvKernelIdeal.cfgs 0).N, fun c => (Cert.KvKernelIdeal.Gen.dats m 0 c).arrAt 8 (Cert.KvKernelIdeal.cfgs 0).N,
    (θ_run _ _ _).mono (fun r hr c => hr c) (Cert.KvKernelIdeal.Value.run_blocks m g),
    (θ_run _ _ _).mono (fun r hr c => ?_) (Cert.KvReferenceIdeal.Value.run m' g')⟩
  obtain ⟨h0, h1, h2, h3, h4, h5⟩ := h c
  obtain ⟨r0, r1, r2, ra⟩ := hr c
  refine ⟨r0.trans ?_, r1.trans ?_, r2.trans ?_, ra⟩
  · refine (Cert.KvReferenceIdeal.Read.val_main_v32_eq _ _ _).trans ?_
    rewrite [h0, h1, h4]
    exact (Cert.KvKernelIdeal.Val.outK m c).symm
  · refine (Cert.KvReferenceIdeal.Read.val_main_v33_eq _ _ _).trans ?_
    rewrite [h0, h1, h5]
    exact (Cert.KvKernelIdeal.Val.outV m c).symm
  · refine (Cert.KvReferenceIdeal.Read.val_main_v35_eq _ _ _ _ _).trans ?_
    rewrite [h0, h2, h3, h4, h5]
    exact (Cert.KvKernelIdeal.Val.outG m c).symm

/-- The reference terminates, leaves its arguments as they were and has no semaphore. -/
theorem frameReference : Cert.quiescent_KvReferenceIdeal := by
  intro m ρ _
  exact (θ_run _ _ _).mono (fun r h => ⟨fun c => (h c).2.2.2, sem_eq_zero_of_no_sems (by decide) r.2⟩)
    (Cert.KvReferenceIdeal.Value.run m ρ)

end Cert.Kv

end
-- ==== Proof.Norm.lean ====
module

public import Idealize.ShloMosaic.Lib.Pipeline.ValueKit
public import Idealize.ShloMosaic.Lib.Pointwise
public import Idealize.ShloMosaic.Lib.Claim

@[expose] public section

noncomputable section

open Idealize.ShloMosaic

namespace Cert.Norm

/-- A value below plus infinity in absolute value is a real number. -/
theorem real_of_finite {x : Ideal .f32}
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  induction x using EReal.rec with
  | bot => simp at hlt
  | top => simp at hlt
  | coe r => exact ⟨r, rfl⟩

/-- The word of 1024. -/
theorem word_1024 : Ideal.ofBits .f32 1149239296#32 = ((1024 : ℝ) : EReal) := by
  simp [Ideal.ofBits, Ideal.ieee]
  rw [← EReal.coe_mul]; norm_num

/-- The word of minus one half. -/
theorem word_neg_half : Ideal.ofBits .f32 3204448256#32 = ((-(1 / 2) : ℝ) : EReal) := by
  simp [Ideal.ofBits, Ideal.ieee]
  rw [← EReal.coe_mul]; norm_num

/-- The word added to a mean square is a positive real number. -/
theorem word_eps : ∃ e : ℝ, 0 < e ∧ Ideal.ofBits .f32 897988541#32 = ((e : ℝ) : EReal) := by
  refine ⟨_, ?_, by simp [Ideal.ofBits, Ideal.ieee]; rfl⟩
  positivity

/-- A sum of real numbers, as an extended real. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- A finite sum of real values is a real value. -/
theorem real_sum {ι : Type*} (s : Finset ι) (f : ι → EReal) (h : ∀ k, ∃ r : ℝ, f k = r) : ∃ r : ℝ, ∑ k ∈ s, f k = r := by
  choose g hg using h
  exact ⟨∑ k ∈ s, g k, by rw [← coe_sum]; exact Finset.sum_congr rfl fun k _ => hg k⟩

/-- A product of real values is a real value. -/
theorem real_mul {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

/-- A sum of two real values is a real value. -/
theorem real_add {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add r s).symm⟩

/-- A quotient of real numbers, as an extended real. -/
theorem div_real (a : ℝ) {b : ℝ} (hb : b ≠ 0) : Ideal.div (a : EReal) (b : EReal) = ((a / b : ℝ) : EReal) := by
  rw [Ideal.div_coe hb, ← EReal.coe_mul, mul_one_div]

/-- The mean square of a row, shifted. -/
def meanSq (x : Fin 1024 → EReal) : EReal :=
  Ideal.div (∑ k, x k * x k) (Ideal.ofBits .f32 1149239296#32) + Ideal.ofBits .f32 897988541#32

/-- The factor that normalizes a row. -/
def rinv (x : Fin 1024 → EReal) : EReal := Ideal.rsqrt (meanSq x)

/-- The gradient of a row's normalization: the derivative of the factor, taken twice over the row. -/
def slope (x dn : Fin 1024 → EReal) : EReal :=
  Ideal.div ((∑ k, x k * dn k) * (Ideal.ofBits .f32 3204448256#32 * Ideal.div (rinv x) (meanSq x))) (Ideal.ofBits .f32 1149239296#32)

/-- For a real row, its shifted mean square is a positive real number and its factor the inverse of the root. -/
theorem meanSq_real (X : Fin 1024 → ℝ) : ∃ S : ℝ, 0 < S ∧ meanSq (fun k => X k) = (S : EReal)
    ∧ rinv (fun k => X k) = (((Real.sqrt S)⁻¹ : ℝ) : EReal) := by
  obtain ⟨e, he, hw⟩ := word_eps
  have hS : 0 < (∑ k, X k * X k) / 1024 + e :=
    add_pos_of_nonneg_of_pos (div_nonneg (Finset.sum_nonneg fun k _ => mul_self_nonneg _) (by norm_num)) he
  have hm : meanSq (fun k => X k) = (((∑ k, X k * X k) / 1024 + e : ℝ) : EReal) := by
    unfold meanSq
    rw [hw, word_1024]
    simp only [← EReal.coe_mul, coe_sum]
    rw [div_real _ (by norm_num), ← EReal.coe_add]
  refine ⟨_, hS, hm, ?_⟩
  unfold rinv
  rw [hm, Ideal.rsqrt_coe, if_neg (not_lt.mpr hS.le), if_neg hS.ne']

theorem rinv_real (x : Fin 1024 → EReal) (h : ∀ k, ∃ r : ℝ, x k = r) : ∃ r : ℝ, rinv x = r := by
  choose X hX using h
  obtain ⟨S, -, -, hr⟩ := meanSq_real X
  exact ⟨_, by rw [show x = fun k => ((X k : ℝ) : EReal) from funext hX]; exact hr⟩

theorem word_2 : Ideal.ofBits .f32 1073741824#32 = ((2 : ℝ) : EReal) := by
  simp [Ideal.ofBits, Ideal.ieee]
  rw [← EReal.coe_mul]; norm_num

theorem real_max {a b : EReal} (ha : ∃ r : ℝ, a = r) (hb : ∃ r : ℝ, b = r) : ∃ r : ℝ, max a b = r := by
  obtain ⟨a, rfl⟩ := ha
  obtain ⟨b, rfl⟩ := hb
  exact ⟨max a b, (EReal.coe_strictMono.monotone.map_max).symm⟩

theorem word_half : Ideal.ofBits .f32 1056964608#32 = ((1 / 2 : ℝ) : EReal) := by
  simp [Ideal.ofBits, Ideal.ieee]
  rw [← EReal.coe_mul]; norm_num

theorem word_inv : Ideal.ofBits .f32 981467136#32 = ((1 / 1024 : ℝ) : EReal) := by
  simp [Ideal.ofBits, Ideal.ieee]
  rw [← EReal.coe_mul]; norm_num

theorem real_sub {a b : EReal} (ha : ∃ r : ℝ, a = r) (hb : ∃ r : ℝ, b = r) : ∃ r : ℝ, a - b = r := by
  obtain ⟨a, rfl⟩ := ha
  obtain ⟨b, rfl⟩ := hb
  exact ⟨a - b, (EReal.coe_sub a b).symm⟩

theorem mul_sum (c : ℝ) {ι : Type*} (s : Finset ι) (f : ι → EReal) (h : ∀ k, ∃ r : ℝ, f k = r) : ∑ k ∈ s, (c : EReal) * f k = (c : EReal) * ∑ k ∈ s, f k := by
  choose F hF using h
  simp only [hF, ← EReal.coe_mul, coe_sum, Finset.mul_sum]

/-- The mean of a square's factor in front of twice the error is one 1024th of the error. -/
theorem half_two (e : EReal) : Ideal.div (Ideal.ofBits .f32 1056964608#32) (Ideal.ofBits .f32 1149239296#32) * (Ideal.ofBits .f32 1073741824#32 * e)
    = e * Ideal.ofBits .f32 981467136#32 := by
  rw [word_half, word_1024, word_2, word_inv, div_real _ (by norm_num), ← mul_assoc, ← EReal.coe_mul, mul_comm]
  norm_num

theorem div_inv {x : EReal} (h : ∃ r : ℝ, x = r) : Ideal.div x (Ideal.ofBits .f32 1149239296#32) = x * Ideal.ofBits .f32 981467136#32 := by
  obtain ⟨x, rfl⟩ := h
  rw [word_1024, word_inv, div_real _ (by norm_num), ← EReal.coe_mul]
  exact congrArg _ (by ring)

/-- The gradient of a row's normalization by the derivative of its factor is the projection off the normalized row. -/
theorem grad_eq (c : EReal) (x dn : Fin 1024 → EReal) (hx : ∀ k, ∃ r : ℝ, x k = r) (hd : ∀ k, ∃ r : ℝ, dn k = r) (d : Fin 1024) :
    c + dn d * rinv x + x d * slope x dn + slope x dn * x d
      = c + rinv x * (dn d - x d * rinv x * Ideal.div (∑ k, dn k * (x k * rinv x)) (Ideal.ofBits .f32 1149239296#32)) := by
  choose X hX using hx
  choose D hD using hd
  obtain rfl : x = fun k => (X k : EReal) := funext hX
  obtain rfl : dn = fun k => (D k : EReal) := funext hD
  obtain ⟨S, hS, hm, hr⟩ := meanSq_real X
  rw [add_assoc, add_assoc]
  refine congrArg (c + ·) ?_
  unfold slope
  rw [hr, hm, word_1024, word_neg_half]
  simp only [← EReal.coe_mul, coe_sum]
  simp only [div_real _ hS.ne', ← EReal.coe_mul, div_real _ (show (1024 : ℝ) ≠ 0 by norm_num), ← EReal.coe_add, ← EReal.coe_sub]
  refine congrArg _ ?_
  have hs : (Real.sqrt S)⁻¹ / S = (Real.sqrt S)⁻¹ * (Real.sqrt S)⁻¹ * (Real.sqrt S)⁻¹ := by
    have : Real.sqrt S * Real.sqrt S = S := Real.mul_self_sqrt hS.le
    have h0 : Real.sqrt S ≠ 0 := (Real.sqrt_pos.mpr hS).ne'
    field_simp
    nlinarith [this]
  rw [hs]
  generalize (Real.sqrt S)⁻¹ = r
  have hd : ∑ k, D k * (X k * r) = (∑ k, X k * D k) * r := by
    rw [Finset.sum_mul]; exact Finset.sum_congr rfl fun k _ => by ring
  rw [hd]
  ring

end Cert.Norm

end
-- ==== Proof.InValue.lean ====
module

public import proofs.«01_k».proof.Proof.Gen.InKernelIdeal.Value
public import proofs.«01_k».proof.Proof.Gen.InReferenceIdeal.Read
public import proofs.«01_k».proof.Proof.Common
public import proofs.«01_k».proof.Proof.Norm

@[expose] public section

set_option maxRecDepth 16384
set_option maxHeartbeats 1000000

noncomputable section

open Idealize.ShloMosaic Idealize.ShloMosaic.TcCoe Idealize.SL.Sem
open Idealize.ShloMosaic.Pipeline (Dat)

namespace Cert.InKernelIdeal.Val

open Cert.InKernelIdeal Cert.InKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0, 0] ∧ win0_9.index t = ![t.val, 0] ∧ win0_10.index t = ![t.val, 0]
    ∧ win0_11.index t = ![0, 0] :=
  (by decide +kernel : ∀ t : Fin grid0.N, _)

theorem in0 (c : Dev nD) (t : Fin cfg0.N) (i : Fin 512) (k : Fin 512) (j : Fin 4096) (hj : j.val = t.val * 512 + i.val) :
    iblk m c 0 t (ix2 i k) = m ((c : Thread nD τ).loc main_arg4) (ix3 0 j k) := by
  blk_point [iblk, V, idx t]

theorem in1 (c : Dev nD) (t : Fin cfg0.N) (i : Fin 512) (k : Fin 512) (j : Fin 4096) (hj : j.val = t.val * 512 + i.val) :
    iblk m c 1 t (ix2 i k) = m ((c : Thread nD τ).loc main_arg5) (ix3 0 j k) := by
  blk_point [iblk, V, idx t]

theorem in2 (c : Dev nD) (t : Fin cfg0.N) (i : Fin 512) (k : Fin 512) (j : Fin 4096) (hj : j.val = t.val * 512 + i.val) :
    iblk m c 2 t (ix2 i k) = m ((c : Thread nD τ).loc main_arg6) (ix3 0 j k) := by
  blk_point [iblk, V, idx t]

theorem in3 (c : Dev nD) (t : Fin cfg0.N) (i : Fin 512) (k : Fin 512) (j : Fin 4096) (hj : j.val = t.val * 512 + i.val) :
    iblk m c 3 t (ix2 i k) = m ((c : Thread nD τ).loc main_arg7) (ix3 0 j k) := by
  blk_point [iblk, V, idx t]

theorem in4 (c : Dev nD) (t : Fin cfg0.N) (i : Fin 512) (k : Fin 512) (j : Fin 4096) (hj : j.val = t.val * 512 + i.val) :
    iblk m c 4 t (ix2 i k) = m ((c : Thread nD τ).loc main_arg8) (ix3 0 j k) := by
  blk_point [iblk, V, idx t]

theorem in5 (c : Dev nD) (t : Fin cfg0.N) (i : Fin 512) (k : Fin 1024) (j : Fin 4096) (hj : j.val = t.val * 512 + i.val) :
    iblk m c 5 t (ix2 i k) = m ((c : Thread nD τ).loc main_arg3) (ix3 0 j k) := by
  blk_point [iblk, V, idx t]

theorem in6 (c : Dev nD) (t : Fin cfg0.N) (i : Fin 512) (k : Fin 1024) (j : Fin 4096) (hj : j.val = t.val * 512 + i.val) :
    iblk m c 6 t (ix2 i k) = m ((c : Thread nD τ).loc main_arg0) (ix3 0 j k) := by
  blk_point [iblk, V, idx t]

theorem in7 (c : Dev nD) (t : Fin cfg0.N) (k : Fin 1024) :
    iblk m c 7 t (ix2 0 k) = m ((c : Thread nD τ).loc main_arg1) (ix2 0 k) := by
  blk_point [iblk, V, idx t]

theorem in8 (c : Dev nD) (t : Fin cfg0.N) (j : Fin 4) (i : Fin 1024) (k : Fin 640) (e : Fin 2560) (he : e.val = j.val * 640 + k.val) :
    iblk m c 8 t (ix3 j i k) = m ((c : Thread nD τ).loc main_arg2) (ix3 0 i e) := by
  blk_simp [iblk]
  entry_read
  pointwise
  blk_ext [idx t]

/-- Five rows of 512 side by side. -/
def five (f0 f1 f2 f3 f4 : Fin 512 → EReal) (d : Fin 2560) : EReal :=
  if h : d.val < 512 then f0 ⟨d.val, h⟩ else if h : d.val - 512 < 512 then f1 ⟨d.val - 512, h⟩
  else if h : d.val - 512 - 512 < 512 then f2 ⟨d.val - 512 - 512, h⟩
  else if h : d.val - 512 - 512 - 512 < 512 then f3 ⟨d.val - 512 - 512 - 512, h⟩ else f4 ⟨d.val - 512 - 512 - 512 - 512, by omega⟩

/-- A token's gradient of the projection's result. -/
def dz (c : Dev nD) (j : Fin 4096) : Fin 2560 → EReal :=
  five (fun k => m ((c : Thread nD τ).loc main_arg4) (ix3 0 j k)) (fun k => m ((c : Thread nD τ).loc main_arg5) (ix3 0 j k)) (fun k => m ((c : Thread nD τ).loc main_arg6) (ix3 0 j k)) (fun k => m ((c : Thread nD τ).loc main_arg7) (ix3 0 j k)) (fun k => m ((c : Thread nD τ).loc main_arg8) (ix3 0 j k))

/-- A token's gradient of the normalized row. -/
def dh (c : Dev nD) (j : Fin 4096) (d : Fin 1024) : EReal := ∑ e : Fin 2560, dz m c j e * (show EReal from m ((c : Thread nD τ).loc main_arg2) (ix3 0 d e))

/-- A token's row. -/
def row (c : Dev nD) (j : Fin 4096) (k : Fin 1024) : EReal := m ((c : Thread nD τ).loc main_arg0) (ix3 0 j k)

theorem dzK (c : Dev nD) (t : Fin cfg0.N) (i : Fin 512) (j : Fin 4096) (hj : j.val = t.val * 512 + i.val) (e : Fin 2560) :
    k0_pay2 (iblk m c 0 t) (iblk m c 1 t) (iblk m c 2 t) (iblk m c 3 t) (iblk m c 4 t) (ix2 i e) = dz m c j e := by
  pointwise [k0_pay2]
  simp only [in0 m c t i _ j hj, in1 m c t i _ j hj, in2 m c t i _ j hj, in3 m c t i _ j hj, in4 m c t i _ j hj]
  rfl

theorem dhK (x0 x1 x2 x3 x4 : Vec Ideal S512x512 .f32) (w0 w1 w2 w3 : Vec Ideal S1x1024x640 .bf16) (i : Fin 512) (d : Fin 1024)
    (Z W : Fin 2560 → EReal) (hZ : ∀ e, k0_pay2 x0 x1 x2 x3 x4 (ix2 i e) = Z e) (h0 : ∀ k : Fin 640, w0 (ix3 0 d k) = W ⟨k, by omega⟩)
    (h1 : ∀ k : Fin 640, w1 (ix3 0 d k) = W ⟨640 + k, by omega⟩) (h2 : ∀ k : Fin 640, w2 (ix3 0 d k) = W ⟨1280 + k, by omega⟩)
    (h3 : ∀ k : Fin 640, w3 (ix3 0 d k) = W ⟨1920 + k, by omega⟩) :
    k0_pay5 (k0_pay3 x0 x1 x2 x3 x4 w0 w1 w2) (k0_pay4 x0 x1 x2 x3 x4) w3 (ix2 i d) = ∑ e, Z e * W e := by
  pointwise [k0_pay5, k0_pay3, k0_pay4]
  simp only [hZ, h0, h1, h2, h3]
  exact Common.sum_quarters (b := 640) rfl (fun e => Z e * W e) _ _ _ _ (fun _ => rfl) (fun _ => rfl) (fun _ => rfl) (fun _ => rfl)

theorem dhB (c : Dev nD) (t : Fin cfg0.N) (i : Fin 512) (j : Fin 4096) (hj : j.val = t.val * 512 + i.val) (d : Fin 1024)
    (w0 w1 w2 w3 : Vec Ideal S1x1024x640 .bf16) (h0 : ∀ k : Fin 640, w0 (ix3 0 d k) = iblk m c 8 t (ix3 0 d k))
    (h1 : ∀ k : Fin 640, w1 (ix3 0 d k) = iblk m c 8 t (ix3 1 d k)) (h2 : ∀ k : Fin 640, w2 (ix3 0 d k) = iblk m c 8 t (ix3 2 d k))
    (h3 : ∀ k : Fin 640, w3 (ix3 0 d k) = iblk m c 8 t (ix3 3 d k)) :
    k0_pay5 (k0_pay3 (iblk m c 0 t) (iblk m c 1 t) (iblk m c 2 t) (iblk m c 3 t) (iblk m c 4 t) w0 w1 w2) (k0_pay4 (iblk m c 0 t) (iblk m c 1 t) (iblk m c 2 t) (iblk m c 3 t) (iblk m c 4 t)) w3 (ix2 i d) = dh m c j d := by
  refine dhK _ _ _ _ _ _ _ _ _ i d (dz m c j) (fun e => m ((c : Thread nD τ).loc main_arg2) (ix3 0 d e)) (dzK m c t i j hj) ?_ ?_ ?_ ?_
  · intro k; exact (h0 k).trans (in8 m c t 0 d k _ (by simp))
  · intro k; exact (h1 k).trans (in8 m c t 1 d k _ (by simp))
  · intro k; exact (h2 k).trans (in8 m c t 2 d k _ (by simp))
  · intro k; exact (h3 k).trans (in8 m c t 3 d k _ (by simp))

theorem gxK (v28 : FVec Ideal S512x1024 .f32) (v29 : FVec Ideal S512x640 .bf16) (v30 : Vec Ideal S1x1024x640 .bf16) (g : Vec Ideal S1x1024 .f32) (x6 x5 : Vec Ideal S512x1024 .f32) (i : Fin 512) (d : Fin 1024)
    (X H G : Fin 1024 → EReal) (C : EReal) (hX : ∀ k, x6 (ix2 i k) = X k) (hH : ∀ k, k0_pay5 v28 v29 v30 (ix2 i k) = H k) (hG : ∀ k, g (ix2 0 k) = G k)
    (hC : x5 (ix2 i d) = C) :
    k0_pay9 v28 v29 v30 g x6 x5 (ix2 i d)
      = C + Norm.rinv X * (H d * G d - X d * Norm.rinv X * Ideal.div (∑ k, H k * G k * (X k * Norm.rinv X)) (Ideal.ofBits .f32 1149239296#32)) := by
  pointwise [k0_pay9, k0_pay8, k0_pay7, k0_pay6]
  simp only [hX, hH, hG, hC]
  rfl

theorem gxR (X0 X3 : FVec Ideal Cert.InReferenceIdeal.S1x4096x1024 .f32) (X1 : FVec Ideal Cert.InReferenceIdeal.S1x1024 .f32) (X2 : FVec Ideal Cert.InReferenceIdeal.S1x1024x2560 .f32) (X4 X5 X6 X7 X8 : FVec Ideal Cert.InReferenceIdeal.S1x4096x512 .f32) (i : Fin 4096) (d : Fin 1024)
    (X H G : Fin 1024 → EReal) (hX : ∀ k, X0 (ix3 0 i k) = X k)
    (hH : ∀ d, ∑ e : Fin 2560, five (fun k => X4 (ix3 0 i k)) (fun k => X5 (ix3 0 i k)) (fun k => X6 (ix3 0 i k)) (fun k => X7 (ix3 0 i k)) (fun k => X8 (ix3 0 i k)) e * X2 (ix3 0 d e) = H d)
    (hG : ∀ k, X1 (ix2 0 k) = G k) :
   Cert.InReferenceIdeal.Read.val_main_v50 (F := Ideal) X0 X1 X2 X3 X4 X5 X6 X7 X8 (ix2 i d)
     = X3 (ix3 0 i d) + H d * G d * Norm.rinv X + X d * Norm.slope X (fun k => H k * G k) + Norm.slope X (fun k => H k * G k) * X d := by
  pointwise [Cert.InReferenceIdeal.Read.val_main_v0, Cert.InReferenceIdeal.Read.val_main_v1, Cert.InReferenceIdeal.Read.val_main_cst, Cert.InReferenceIdeal.Read.val_main_v2, Cert.InReferenceIdeal.Read.val_main_v3, Cert.InReferenceIdeal.Read.val_main_cst_0, Cert.InReferenceIdeal.Read.val_main_v4, Cert.InReferenceIdeal.Read.val_main_v5, Cert.InReferenceIdeal.Read.val_main_cst_1, Cert.InReferenceIdeal.Read.val_main_v6, Cert.InReferenceIdeal.Read.val_main_v7, Cert.InReferenceIdeal.Read.val_main_v8, Cert.InReferenceIdeal.Read.val_main_v9, Cert.InReferenceIdeal.Read.val_main_cst_2, Cert.InReferenceIdeal.Read.val_main_v10, Cert.InReferenceIdeal.Read.val_main_v11, Cert.InReferenceIdeal.Read.val_main_v12, Cert.InReferenceIdeal.Read.val_main_v13, Cert.InReferenceIdeal.Read.val_main_v14, Cert.InReferenceIdeal.Read.val_main_v15, Cert.InReferenceIdeal.Read.val_main_v16, Cert.InReferenceIdeal.Read.val_main_v17, Cert.InReferenceIdeal.Read.val_main_v18, Cert.InReferenceIdeal.Read.val_main_v19, Cert.InReferenceIdeal.Read.val_main_v20, Cert.InReferenceIdeal.Read.val_main_v21, Cert.InReferenceIdeal.Read.val_main_v22, Cert.InReferenceIdeal.Read.val_main_v23, Cert.InReferenceIdeal.Read.val_main_v24, Cert.InReferenceIdeal.Read.val_main_v25, Cert.InReferenceIdeal.Read.val_main_v26, Cert.InReferenceIdeal.Read.val_main_cst_3, Cert.InReferenceIdeal.Read.val_main_v27, Cert.InReferenceIdeal.Read.val_main_v28, Cert.InReferenceIdeal.Read.val_main_v29, Cert.InReferenceIdeal.Read.val_main_v30, Cert.InReferenceIdeal.Read.val_main_cst_4, Cert.InReferenceIdeal.Read.val_main_v31, Cert.InReferenceIdeal.Read.val_main_v32, Cert.InReferenceIdeal.Read.val_main_cst_5, Cert.InReferenceIdeal.Read.val_main_v33, Cert.InReferenceIdeal.Read.val_main_v34, Cert.InReferenceIdeal.Read.val_main_v35, Cert.InReferenceIdeal.Read.val_main_v36, Cert.InReferenceIdeal.Read.val_main_v37, Cert.InReferenceIdeal.Read.val_main_v38, Cert.InReferenceIdeal.Read.val_main_cst_6, Cert.InReferenceIdeal.Read.val_main_v39, Cert.InReferenceIdeal.Read.val_main_v40, Cert.InReferenceIdeal.Read.val_main_cst_7, Cert.InReferenceIdeal.Read.val_main_v41, Cert.InReferenceIdeal.Read.val_main_v42, Cert.InReferenceIdeal.Read.val_main_v43, Cert.InReferenceIdeal.Read.val_main_v44, Cert.InReferenceIdeal.Read.val_main_v45, Cert.InReferenceIdeal.Read.val_main_v46, Cert.InReferenceIdeal.Read.val_main_v47, Cert.InReferenceIdeal.Read.val_main_v48, Cert.InReferenceIdeal.Read.val_main_v49, Cert.InReferenceIdeal.Read.val_main_v50, Cert.InReferenceIdeal.Read.val_main_v51, Cert.InReferenceIdeal.Read.val_main_v52, Cert.InReferenceIdeal.Read.val_main_cst_8, Cert.InReferenceIdeal.Read.val_main_v53, Cert.InReferenceIdeal.Read.val_main_v54, Common.hostReduceAdd_leading, Common.hostReduceAdd_outer]
  simp only [Fin.sum_univ_one, hX, hG]
  unfold five at hH
  simp only [hH]
  rfl

/-- Of every argument but the gradient added in, each entry is a real number. -/
def Real (c : Dev nD) : Prop :=
  (∀ i, ∃ r : ℝ, (show EReal from m ((c : Thread nD τ).loc main_arg0) i) = r) ∧ (∀ i, ∃ r : ℝ, (show EReal from m ((c : Thread nD τ).loc main_arg1) i) = r)
  ∧ (∀ i, ∃ r : ℝ, (show EReal from m ((c : Thread nD τ).loc main_arg2) i) = r) ∧ (∀ i, ∃ r : ℝ, (show EReal from m ((c : Thread nD τ).loc main_arg4) i) = r)
  ∧ (∀ i, ∃ r : ℝ, (show EReal from m ((c : Thread nD τ).loc main_arg5) i) = r) ∧ (∀ i, ∃ r : ℝ, (show EReal from m ((c : Thread nD τ).loc main_arg6) i) = r)
  ∧ (∀ i, ∃ r : ℝ, (show EReal from m ((c : Thread nD τ).loc main_arg7) i) = r) ∧ (∀ i, ∃ r : ℝ, (show EReal from m ((c : Thread nD τ).loc main_arg8) i) = r)

theorem dh_real (c : Dev nD) (h : Real m c) (j : Fin 4096) (d : Fin 1024) : ∃ r : ℝ, dh m c j d = r := by
  obtain ⟨-, -, h2, h4, h5, h6, h7, h8⟩ := h
  refine Norm.real_sum _ _ fun e => Norm.real_mul ?_ (h2 _)
  unfold dz five
  split_ifs
  exacts [h4 _, h5 _, h6 _, h7 _, h8 _]

theorem outX (c : Dev nD) (h : Real m c) : (dats m 0 c).arrAt 9 (cfgs 0).N
    = Cert.InReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  obtain ⟨i, d, rfl⟩ : ∃ (i : Fin 512) (d : Fin 1024), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 9).blk t).view.emb (ix2 i d) = (ix2 j d : S4096x1024.Idx) := by blk_ext [idx t]
  refine Eq.trans ?_ (congrArg _ e).symm
  refine Eq.trans ?_ ((gxR _ _ _ _ _ _ _ _ _ j d (row m c j) (dh m c j) (fun k => m ((c : Thread nD τ).loc main_arg1) (ix2 0 k)) (fun _ => rfl) (fun _ => rfl) (fun _ => rfl)).trans
    (Norm.grad_eq _ _ _ (fun k => h.1 _) (fun k => Norm.real_mul (dh_real m c h j k) (h.2.1 _)) d)).symm
  rw [after0_9]
  by_cases h0 : t.val % 8 = 0
  · rw [outsAt0_A m c t h0 (by omega)]
    frame_out
    refine gxK _ _ _ _ _ _ i d _ _ _ _ (fun k => in6 m c t i k j hj) (fun k => dhB m c t i j hj k _ _ _ _ ?_ ?_ ?_ ?_) (fun k => in7 m c t k) (in5 m c t i d j hj)
    all_goals (intro k; pointwise)
  · rw [outsAt0_B m c t h0 (by omega)]
    frame_out
    refine gxK _ _ _ _ _ _ i d _ _ _ _ (fun k => in6 m c t i k j hj) (fun k => dhB m c t i j hj k _ _ _ _ ?_ ?_ ?_ ?_) (fun k => in7 m c t k) (in5 m c t i d j hj)
    all_goals (intro k; pointwise)

theorem outZ (c : Dev nD) : (dats m 0 c).arrAt 10 (cfgs 0).N
    = Cert.InReferenceIdeal.Read.val_main_v52 (F := Ideal) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  obtain ⟨i, d, rfl⟩ : ∃ (i : Fin 512) (d : Fin 2560), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 10).blk t).view.emb (ix2 i d) = (ix2 j d : S4096x2560.Idx) := by blk_ext [idx t]
  refine Eq.trans ?_ (congrArg _ e).symm
  have r : Cert.InReferenceIdeal.Read.val_main_v52 (F := Ideal) (m ((c : Thread nD τ).loc main_arg4)) (m ((c : Thread nD τ).loc main_arg5)) (m ((c : Thread nD τ).loc main_arg6)) (m ((c : Thread nD τ).loc main_arg7)) (m ((c : Thread nD τ).loc main_arg8)) (ix2 j d) = dz m c j d := by
    pointwise [Cert.InReferenceIdeal.Read.val_main_v0, Cert.InReferenceIdeal.Read.val_main_v1, Cert.InReferenceIdeal.Read.val_main_cst, Cert.InReferenceIdeal.Read.val_main_v2, Cert.InReferenceIdeal.Read.val_main_v3, Cert.InReferenceIdeal.Read.val_main_cst_0, Cert.InReferenceIdeal.Read.val_main_v4, Cert.InReferenceIdeal.Read.val_main_v5, Cert.InReferenceIdeal.Read.val_main_cst_1, Cert.InReferenceIdeal.Read.val_main_v6, Cert.InReferenceIdeal.Read.val_main_v7, Cert.InReferenceIdeal.Read.val_main_v8, Cert.InReferenceIdeal.Read.val_main_v9, Cert.InReferenceIdeal.Read.val_main_cst_2, Cert.InReferenceIdeal.Read.val_main_v10, Cert.InReferenceIdeal.Read.val_main_v11, Cert.InReferenceIdeal.Read.val_main_v12, Cert.InReferenceIdeal.Read.val_main_v13, Cert.InReferenceIdeal.Read.val_main_v14, Cert.InReferenceIdeal.Read.val_main_v15, Cert.InReferenceIdeal.Read.val_main_v16, Cert.InReferenceIdeal.Read.val_main_v17, Cert.InReferenceIdeal.Read.val_main_v18, Cert.InReferenceIdeal.Read.val_main_v19, Cert.InReferenceIdeal.Read.val_main_v20, Cert.InReferenceIdeal.Read.val_main_v21, Cert.InReferenceIdeal.Read.val_main_v22, Cert.InReferenceIdeal.Read.val_main_v23, Cert.InReferenceIdeal.Read.val_main_v24, Cert.InReferenceIdeal.Read.val_main_v25, Cert.InReferenceIdeal.Read.val_main_v26, Cert.InReferenceIdeal.Read.val_main_cst_3, Cert.InReferenceIdeal.Read.val_main_v27, Cert.InReferenceIdeal.Read.val_main_v28, Cert.InReferenceIdeal.Read.val_main_v29, Cert.InReferenceIdeal.Read.val_main_v30, Cert.InReferenceIdeal.Read.val_main_cst_4, Cert.InReferenceIdeal.Read.val_main_v31, Cert.InReferenceIdeal.Read.val_main_v32, Cert.InReferenceIdeal.Read.val_main_cst_5, Cert.InReferenceIdeal.Read.val_main_v33, Cert.InReferenceIdeal.Read.val_main_v34, Cert.InReferenceIdeal.Read.val_main_v35, Cert.InReferenceIdeal.Read.val_main_v36, Cert.InReferenceIdeal.Read.val_main_v37, Cert.InReferenceIdeal.Read.val_main_v38, Cert.InReferenceIdeal.Read.val_main_cst_6, Cert.InReferenceIdeal.Read.val_main_v39, Cert.InReferenceIdeal.Read.val_main_v40, Cert.InReferenceIdeal.Read.val_main_cst_7, Cert.InReferenceIdeal.Read.val_main_v41, Cert.InReferenceIdeal.Read.val_main_v42, Cert.InReferenceIdeal.Read.val_main_v43, Cert.InReferenceIdeal.Read.val_main_v44, Cert.InReferenceIdeal.Read.val_main_v45, Cert.InReferenceIdeal.Read.val_main_v46, Cert.InReferenceIdeal.Read.val_main_v47, Cert.InReferenceIdeal.Read.val_main_v48, Cert.InReferenceIdeal.Read.val_main_v49, Cert.InReferenceIdeal.Read.val_main_v50, Cert.InReferenceIdeal.Read.val_main_v51, Cert.InReferenceIdeal.Read.val_main_v52, Cert.InReferenceIdeal.Read.val_main_cst_8, Cert.InReferenceIdeal.Read.val_main_v53, Cert.InReferenceIdeal.Read.val_main_v54, Common.hostReduceAdd_leading, Common.hostReduceAdd_outer]
    rfl
  refine Eq.trans ?_ r.symm
  rw [after0_10]
  by_cases h0 : t.val % 8 = 0
  · rw [outsAt0_A m c t h0 (by omega)]
    frame_out
    exact dzK m c t i j hj d
  · rw [outsAt0_B m c t h0 (by omega)]
    frame_out
    exact dzK m c t i j hj d

/-- What a token adds to the gradient of the gain. -/
def gain (c : Dev nD) (j : Fin 4096) (d : Fin 1024) : EReal := dh m c j d * (row m c j d * Norm.rinv (row m c j))

theorem stK (v28 : FVec Ideal S512x1024 .f32) (v29 : FVec Ideal S512x640 .bf16) (v30 : Vec Ideal S1x1024x640 .bf16) (x6 : Vec Ideal S512x1024 .f32) (j : S8x1024.Idx)
    (X H : Fin 512 → Fin 1024 → EReal) (hX : ∀ i k, x6 (ix2 i k) = X i k) (hH : ∀ i k, k0_pay5 v28 v29 v30 (ix2 i k) = H i k) :
    k0_pay10 v28 v29 v30 x6 j = if (j 0).val < 1 then ∑ i : Fin 512, H i (j 1) * (X i (j 1) * Norm.rinv (X i)) else 0 := by
  obtain ⟨r, d, rfl⟩ : ∃ (r : Fin 8) (d : Fin 1024), j = ix2 r d := ⟨j 0, j 1, eq_ix2 j⟩
  pointwise [k0_pay10, k0_pay8, k0_pay7, k0_pay6]
  simp only [hX, hH, dite_eq_ite]
  rfl

/-- A token of a tile. -/
def tok (t : Fin cfg0.N) (i : Fin 512) : Fin 4096 := ⟨t.val * 512 + i.val, by have : t.val < 8 := lt_of_lt_of_eq t.isLt N_0; omega⟩

theorem stB (c : Dev nD) (t : Fin cfg0.N) (j : S8x1024.Idx)
    (w0 w1 w2 w3 : Vec Ideal S1x1024x640 .bf16) (h0 : ∀ d (k : Fin 640), w0 (ix3 0 d k) = iblk m c 8 t (ix3 0 d k))
    (h1 : ∀ d (k : Fin 640), w1 (ix3 0 d k) = iblk m c 8 t (ix3 1 d k)) (h2 : ∀ d (k : Fin 640), w2 (ix3 0 d k) = iblk m c 8 t (ix3 2 d k))
    (h3 : ∀ d (k : Fin 640), w3 (ix3 0 d k) = iblk m c 8 t (ix3 3 d k)) :
    k0_pay10 (k0_pay3 (iblk m c 0 t) (iblk m c 1 t) (iblk m c 2 t) (iblk m c 3 t) (iblk m c 4 t) w0 w1 w2) (k0_pay4 (iblk m c 0 t) (iblk m c 1 t) (iblk m c 2 t) (iblk m c 3 t) (iblk m c 4 t)) w3 (iblk m c 6 t) j
      = if (j 0).val < 1 then ∑ i : Fin 512, gain m c (tok t i) (j 1) else 0 :=
  stK _ _ _ _ j (fun i => row m c (tok t i)) (fun i => dh m c (tok t i)) (fun i k => in6 m c t i k _ rfl) (fun i d => dhB m c t i _ rfl d _ _ _ _ (h0 d) (h1 d) (h2 d) (h3 d))

theorem outG (c : Dev nD) : (dats m 0 c).arrAt 11 (cfgs 0).N
    = Cert.InReferenceIdeal.Read.val_main_v54 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 11 t0_7 (by decide +kernel) _ fun j => ?_
  obtain ⟨r, d, rfl⟩ : ∃ (r : Fin 8) (d : Fin 1024), j = ix2 r d := ⟨j 0, j 1, eq_ix2 j⟩
  have R : Cert.InReferenceIdeal.Read.val_main_v54 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (ix2 r d)
      = if r.val < 1 then ∑ i : Fin 4096, gain m c i d else 0 := by
    pointwise [Cert.InReferenceIdeal.Read.val_main_v0, Cert.InReferenceIdeal.Read.val_main_v1, Cert.InReferenceIdeal.Read.val_main_cst, Cert.InReferenceIdeal.Read.val_main_v2, Cert.InReferenceIdeal.Read.val_main_v3, Cert.InReferenceIdeal.Read.val_main_cst_0, Cert.InReferenceIdeal.Read.val_main_v4, Cert.InReferenceIdeal.Read.val_main_v5, Cert.InReferenceIdeal.Read.val_main_cst_1, Cert.InReferenceIdeal.Read.val_main_v6, Cert.InReferenceIdeal.Read.val_main_v7, Cert.InReferenceIdeal.Read.val_main_v8, Cert.InReferenceIdeal.Read.val_main_v9, Cert.InReferenceIdeal.Read.val_main_cst_2, Cert.InReferenceIdeal.Read.val_main_v10, Cert.InReferenceIdeal.Read.val_main_v11, Cert.InReferenceIdeal.Read.val_main_v12, Cert.InReferenceIdeal.Read.val_main_v13, Cert.InReferenceIdeal.Read.val_main_v14, Cert.InReferenceIdeal.Read.val_main_v15, Cert.InReferenceIdeal.Read.val_main_v16, Cert.InReferenceIdeal.Read.val_main_v17, Cert.InReferenceIdeal.Read.val_main_v18, Cert.InReferenceIdeal.Read.val_main_v19, Cert.InReferenceIdeal.Read.val_main_v20, Cert.InReferenceIdeal.Read.val_main_v21, Cert.InReferenceIdeal.Read.val_main_v22, Cert.InReferenceIdeal.Read.val_main_v23, Cert.InReferenceIdeal.Read.val_main_v24, Cert.InReferenceIdeal.Read.val_main_v25, Cert.InReferenceIdeal.Read.val_main_v26, Cert.InReferenceIdeal.Read.val_main_cst_3, Cert.InReferenceIdeal.Read.val_main_v27, Cert.InReferenceIdeal.Read.val_main_v28, Cert.InReferenceIdeal.Read.val_main_v29, Cert.InReferenceIdeal.Read.val_main_v30, Cert.InReferenceIdeal.Read.val_main_cst_4, Cert.InReferenceIdeal.Read.val_main_v31, Cert.InReferenceIdeal.Read.val_main_v32, Cert.InReferenceIdeal.Read.val_main_cst_5, Cert.InReferenceIdeal.Read.val_main_v33, Cert.InReferenceIdeal.Read.val_main_v34, Cert.InReferenceIdeal.Read.val_main_v35, Cert.InReferenceIdeal.Read.val_main_v36, Cert.InReferenceIdeal.Read.val_main_v37, Cert.InReferenceIdeal.Read.val_main_v38, Cert.InReferenceIdeal.Read.val_main_cst_6, Cert.InReferenceIdeal.Read.val_main_v39, Cert.InReferenceIdeal.Read.val_main_v40, Cert.InReferenceIdeal.Read.val_main_cst_7, Cert.InReferenceIdeal.Read.val_main_v41, Cert.InReferenceIdeal.Read.val_main_v42, Cert.InReferenceIdeal.Read.val_main_v43, Cert.InReferenceIdeal.Read.val_main_v44, Cert.InReferenceIdeal.Read.val_main_v45, Cert.InReferenceIdeal.Read.val_main_v46, Cert.InReferenceIdeal.Read.val_main_v47, Cert.InReferenceIdeal.Read.val_main_v48, Cert.InReferenceIdeal.Read.val_main_v49, Cert.InReferenceIdeal.Read.val_main_v50, Cert.InReferenceIdeal.Read.val_main_v51, Cert.InReferenceIdeal.Read.val_main_v52, Cert.InReferenceIdeal.Read.val_main_cst_8, Cert.InReferenceIdeal.Read.val_main_v53, Cert.InReferenceIdeal.Read.val_main_v54, Common.hostReduceAdd_leading, Common.hostReduceAdd_outer]
    simp only [Fin.sum_univ_one, dite_eq_ite]
    refine if_congr Iff.rfl (Fin.sum_fin_congr fun i => ?_) rfl
    exact mul_comm (G := EReal) _ _
  refine Eq.trans ?_ R.symm
  blk_simp
  rw [after0_11, Pipeline.eq_sum_fin_of_reset_step_apply_last (fun n h => (outsAt0 m c n h).2.2) 8 (fun _ => 0)
    (fun p j => if (j 0).val < 1 then ∑ i : Fin 512, gain m c (tok p i) (j 1) else 0)
    (fun t h j => by
      have ht : t.val < 8 := lt_of_lt_of_eq t.isLt N_0
      rw [outsAt0_A m c t h (by omega)]; frame_out
      refine (stB m c t j _ _ _ _ ?_ ?_ ?_ ?_).trans (zero_add _).symm
      all_goals (intro d k; pointwise))
    (fun t h j => by
      rw [outsAt0_B m c t h (by omega)]; frame_out
      pointwise [k0_pay1]
      refine (congrArg (fun x : EReal => (((outsAt0 m c (t.val - 1) (Nat.lt_of_le_of_lt (Nat.sub_le _ 1) t.isLt)).2.2 j : EReal) + x : EReal)) (stB m c t j _ _ _ _ ?_ ?_ ?_ ?_))
      all_goals (intro d k; pointwise))
    (le_of_eq N_0) t0_7 rfl (ix2 r d), zero_add]
  show (∑ p : Fin cfg0.N, if r.val < 1 then ∑ i : Fin 512, gain m c (tok p i) d else 0 : EReal) = _
  split_ifs
  · exact Fin.sum_mul_add_congr fun p i hl => rfl
  · exact Finset.sum_const_zero

end Cert.InKernelIdeal.Val

end
-- ==== Proof.In.lean ====
module

public import proofs.«01_k».proof.Defs
public import proofs.«01_k».proof.Proof.Gen.InReferenceIdeal.Run
public import proofs.«01_k».proof.Proof.InValue

@[expose] public section

noncomputable section

open Idealize.ShloMosaic Idealize.SL.Sem

namespace Cert.In

/-- Of finite arguments, every entry is a real number. -/
theorem real [Cert.Pre_finite_in.Facts] (m : (ℓ : Loc Cert.InKernelIdeal.nD Cert.InKernelIdeal.τ Cert.InKernelIdeal.sig) → Buf (Elt Ideal) ℓ)
    (hp : Cert.Pre_InKernelIdeal_finite_in m) (c : Dev Cert.InKernelIdeal.nD) : Cert.InKernelIdeal.Val.Real m c := by
  obtain ⟨h0, h1, h2, h3, h4, h5, h6, h7⟩ := hp c
  exact ⟨fun i => Norm.real_of_finite (congrFun h0 i), fun i => Norm.real_of_finite (congrFun h1 i), fun i => Norm.real_of_finite (congrFun h2 i), fun i => Norm.real_of_finite (congrFun h3 i), fun i => Norm.real_of_finite (congrFun h4 i), fun i => Norm.real_of_finite (congrFun h5 i), fun i => Norm.real_of_finite (congrFun h6 i), fun i => Norm.real_of_finite (congrFun h7 i)⟩

/-- Of finite arguments, the kernel of the input projection's gradient computes what the reference computes. -/
theorem algebraic [Cert.Pre_finite_in.Facts] : Cert.algebraic_InKernelIdeal_InReferenceIdeal_pre_finite_in := by
  intro m g m' g' hp h
  refine ⟨fun c => (Cert.InKernelIdeal.Gen.dats m 0 c).arrAt 9 (Cert.InKernelIdeal.cfgs 0).N, fun c => (Cert.InKernelIdeal.Gen.dats m 0 c).arrAt 10 (Cert.InKernelIdeal.cfgs 0).N, fun c => (Cert.InKernelIdeal.Gen.dats m 0 c).arrAt 11 (Cert.InKernelIdeal.cfgs 0).N,
    (θ_run _ _ _).mono (fun r hr c => hr c) (Cert.InKernelIdeal.Value.run_blocks m g),
    (θ_run _ _ _).mono (fun r hr c => ?_) (Cert.InReferenceIdeal.Value.run m' g')⟩
  obtain ⟨h0, h1, h2, h3, h4, h5, h6, h7, h8⟩ := h c
  obtain ⟨r0, r1, r2, ra⟩ := hr c
  refine ⟨r0.trans ?_, r1.trans ?_, r2.trans ?_, ra⟩
  · refine (Cert.InReferenceIdeal.Read.val_main_v50_eq _ _).trans ?_
    rewrite [h0, h1, h2, h3, h4, h5, h6, h7, h8]
    exact (Cert.InKernelIdeal.Val.outX m c (real m hp c)).symm
  · refine (Cert.InReferenceIdeal.Read.val_main_v52_eq _ _ _ _ _).trans ?_
    rewrite [h4, h5, h6, h7, h8]
    exact (Cert.InKernelIdeal.Val.outZ m c).symm
  · refine (Cert.InReferenceIdeal.Read.val_main_v54_eq _ _ _ _ _ _ _).trans ?_
    rewrite [h0, h2, h4, h5, h6, h7, h8]
    exact (Cert.InKernelIdeal.Val.outG m c).symm

/-- The reference terminates, leaves its arguments as they were and has no semaphore. -/
theorem frameReference : Cert.quiescent_InReferenceIdeal := by
  intro m ρ _
  exact (θ_run _ _ _).mono (fun r h => ⟨fun c => (h c).2.2.2, sem_eq_zero_of_no_sems (by decide) r.2⟩)
    (Cert.InReferenceIdeal.Value.run m ρ)

end Cert.In

end
-- ==== Proof.MlpValue.lean ====
module

public import proofs.«01_k».proof.Proof.Gen.MlpKernelIdeal.Value
public import proofs.«01_k».proof.Proof.Gen.MlpReferenceIdeal.Read
public import proofs.«01_k».proof.Proof.Common
public import proofs.«01_k».proof.Proof.Norm

@[expose] public section

set_option maxRecDepth 16384
set_option maxHeartbeats 1000000

noncomputable section

open Idealize.ShloMosaic Idealize.ShloMosaic.TcCoe Idealize.SL.Sem
open Idealize.ShloMosaic.Pipeline (Dat)

namespace Cert.MlpKernelIdeal.Val

open Cert.MlpKernelIdeal Cert.MlpKernelIdeal.Gen
open Cert.MlpReferenceIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, _)

/-- A token's row. -/
def row (X0 : FVec Ideal S1x4096x1024 .f32) (j : Fin 4096) (k : Fin 1024) : EReal := X0 (ix3 0 j k)

/-- A token's pre-activation. -/
def pre (X0 : FVec Ideal S1x4096x1024 .f32) (X1 : FVec Ideal S1x1024 .f32) (X2 : FVec Ideal S1x1024x4096 .f32) (j f : Fin 4096) : EReal :=
  ∑ k : Fin 1024, row X0 j k * Norm.rinv (row X0 j) * X1 (ix2 0 k) * X2 (ix3 0 k f)

/-- A token's gradient of the pre-activation. -/
def da (X0 : FVec Ideal S1x4096x1024 .f32) (X1 : FVec Ideal S1x1024 .f32) (X2 : FVec Ideal S1x1024x4096 .f32) (X3 X4 : FVec Ideal S1x4096x1024 .f32) (j f : Fin 4096) : EReal :=
  (∑ k : Fin 1024, X4 (ix3 0 j k) * X3 (ix3 0 f k)) * (Ideal.ofBits .f32 1073741824#32 * max (pre X0 X1 X2 j f) 0)

/-- A token's gradient of the normalized row. -/
def dh (X0 : FVec Ideal S1x4096x1024 .f32) (X1 : FVec Ideal S1x1024 .f32) (X2 : FVec Ideal S1x1024x4096 .f32) (X3 X4 : FVec Ideal S1x4096x1024 .f32) (j : Fin 4096) (d : Fin 1024) : EReal :=
  ∑ f : Fin 4096, da X0 X1 X2 X3 X4 j f * X2 (ix3 0 d f)

theorem preR (X0 X3 X4 : FVec Ideal Cert.MlpReferenceIdeal.S1x4096x1024 .f32) (X1 : FVec Ideal Cert.MlpReferenceIdeal.S1x1024 .f32) (X2 : FVec Ideal Cert.MlpReferenceIdeal.S1x1024x4096 .f32) (i f : Fin 4096) : val_main_v49 (F := Ideal) X0 X1 X2 (ix3 0 i f) = pre X0 X1 X2 i f := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_call0_cst, val_main_call0_v0, val_main_v16, val_main_v17, val_main_call1_cst, val_main_call1_v0, val_main_v18, val_main_cst_2, val_main_v19, val_main_v20, val_main_cst_3, val_main_v21, val_main_v22, val_main_cst_4, val_main_v23, val_main_v24, val_main_v25, val_main_v26, val_main_v27, val_main_v28, val_main_cst_5, val_main_v29, val_main_v30, val_main_v31, val_main_v32, val_main_cst_6, val_main_v33, val_main_v34, val_main_cst_7, val_main_v35, val_main_v36, val_main_cst_8, val_main_v37, val_main_v38, val_main_v39, val_main_v40, val_main_cst_9, val_main_v41, val_main_v42, val_main_v43, val_main_v44, val_main_v45, val_main_v46, val_main_v47, val_main_v48, val_main_v49, val_main_call2_cst, val_main_call2_v0, val_main_cst_10, val_main_cst_11, val_main_cst_12, val_main_cst_13, val_main_cst_14, val_main_cst_15, val_main_cst_16, val_main_cst_17, val_main_cst_18, val_main_cst_19, Common.hostReduceAdd_leading, Common.hostReduceAdd_outer]
  rfl

theorem preR' (X0 X3 X4 : FVec Ideal Cert.MlpReferenceIdeal.S1x4096x1024 .f32) (X1 : FVec Ideal Cert.MlpReferenceIdeal.S1x1024 .f32) (X2 : FVec Ideal Cert.MlpReferenceIdeal.S1x1024x4096 .f32) (i f : Fin 4096) : val_main_v15 (F := Ideal) X0 X1 X2 (ix3 0 i f) = pre X0 X1 X2 i f := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_call0_cst, val_main_call0_v0, val_main_v16, val_main_v17, val_main_call1_cst, val_main_call1_v0, val_main_v18, val_main_cst_2, val_main_v19, val_main_v20, val_main_cst_3, val_main_v21, val_main_v22, val_main_cst_4, val_main_v23, val_main_v24, val_main_v25, val_main_v26, val_main_v27, val_main_v28, val_main_cst_5, val_main_v29, val_main_v30, val_main_v31, val_main_v32, val_main_cst_6, val_main_v33, val_main_v34, val_main_cst_7, val_main_v35, val_main_v36, val_main_cst_8, val_main_v37, val_main_v38, val_main_v39, val_main_v40, val_main_cst_9, val_main_v41, val_main_v42, val_main_v43, val_main_v44, val_main_v45, val_main_v46, val_main_v47, val_main_v48, val_main_v49, val_main_call2_cst, val_main_call2_v0, val_main_cst_10, val_main_cst_11, val_main_cst_12, val_main_cst_13, val_main_cst_14, val_main_cst_15, val_main_cst_16, val_main_cst_17, val_main_cst_18, val_main_cst_19, Common.hostReduceAdd_leading, Common.hostReduceAdd_outer]
  rfl

/-- The derivative of a squared maximum with zero, with or without the choice at zero. -/
theorem choose (p s w : EReal) : (if 0 < p then s * (w * max p 0) else 0) = s * (w * max p 0) := by
  split_ifs with h
  · rfl
  · rw [max_eq_right (not_lt.mp h), mul_zero, mul_zero]

theorem daR (X0 X3 X4 : FVec Ideal Cert.MlpReferenceIdeal.S1x4096x1024 .f32) (X1 : FVec Ideal Cert.MlpReferenceIdeal.S1x1024 .f32) (X2 : FVec Ideal Cert.MlpReferenceIdeal.S1x1024x4096 .f32) (i f : Fin 4096) : val_main_v64 (F := Ideal) X0 X1 X2 X3 X4 (ix3 0 i f) = da X0 X1 X2 X3 X4 i f := by
  pointwise [val_main_cst, val_main_cst_0, val_main_cst_1, val_main_call0_cst, val_main_call0_v0, val_main_call1_cst, val_main_call1_v0, val_main_cst_2, val_main_cst_3, val_main_cst_4, val_main_cst_5, val_main_cst_6, val_main_cst_7, val_main_cst_8, val_main_cst_9, val_main_call2_cst, val_main_call2_v0, val_main_v50, val_main_cst_10, val_main_v51, val_main_v52, val_main_cst_11, val_main_v53, val_main_v54, val_main_cst_12, val_main_v55, val_main_v56, val_main_v57, val_main_v58, val_main_v59, val_main_v60, val_main_v61, val_main_v62, val_main_cst_13, val_main_v63, val_main_v64, val_main_cst_14, val_main_cst_15, val_main_cst_16, val_main_cst_17, val_main_cst_18, val_main_cst_19, Common.hostReduceAdd_leading, Common.hostReduceAdd_outer]
  simp only [preR X0 X3 X4 X1 X2]
  exact choose _ _ _

theorem daR' (X0 X3 X4 : FVec Ideal Cert.MlpReferenceIdeal.S1x4096x1024 .f32) (X1 : FVec Ideal Cert.MlpReferenceIdeal.S1x1024 .f32) (X2 : FVec Ideal Cert.MlpReferenceIdeal.S1x1024x4096 .f32) (i f : Fin 4096) : val_main_v90 (F := Ideal) X0 X1 X2 X3 X4 (ix2 i f) = da X0 X1 X2 X3 X4 i f := by
  pointwise [val_main_cst, val_main_cst_0, val_main_cst_1, val_main_call0_cst, val_main_call0_v0, val_main_v16, val_main_v17, val_main_call1_cst, val_main_call1_v0, val_main_v18, val_main_cst_2, val_main_v19, val_main_v20, val_main_cst_3, val_main_v21, val_main_v22, val_main_cst_4, val_main_v23, val_main_v24, val_main_v25, val_main_v26, val_main_v27, val_main_v28, val_main_cst_5, val_main_v29, val_main_v30, val_main_v31, val_main_v32, val_main_cst_6, val_main_v33, val_main_v34, val_main_cst_7, val_main_v35, val_main_v36, val_main_cst_8, val_main_v37, val_main_v38, val_main_v39, val_main_v40, val_main_cst_9, val_main_v41, val_main_v42, val_main_v43, val_main_v44, val_main_v45, val_main_v46, val_main_v47, val_main_v48, val_main_v49, val_main_call2_cst, val_main_call2_v0, val_main_v50, val_main_cst_10, val_main_v51, val_main_v52, val_main_cst_11, val_main_v53, val_main_v54, val_main_cst_12, val_main_v55, val_main_v56, val_main_v57, val_main_v58, val_main_v59, val_main_v60, val_main_v61, val_main_v62, val_main_cst_13, val_main_v63, val_main_v64, val_main_v65, val_main_v66, val_main_cst_14, val_main_v67, val_main_v68, val_main_v69, val_main_v70, val_main_cst_15, val_main_v71, val_main_v72, val_main_cst_16, val_main_v73, val_main_v74, val_main_v75, val_main_v76, val_main_v77, val_main_v78, val_main_cst_17, val_main_v79, val_main_v80, val_main_cst_18, val_main_v81, val_main_v82, val_main_v83, val_main_v84, val_main_v85, val_main_v86, val_main_v87, val_main_v88, val_main_v89, val_main_v90, val_main_cst_19, Common.hostReduceAdd_leading, Common.hostReduceAdd_outer]
  simp only [preR' X0 X3 X4 X1 X2]
  exact choose _ _ _

theorem uR (X0 X3 X4 : FVec Ideal Cert.MlpReferenceIdeal.S1x4096x1024 .f32) (X1 : FVec Ideal Cert.MlpReferenceIdeal.S1x1024 .f32) (X2 : FVec Ideal Cert.MlpReferenceIdeal.S1x1024x4096 .f32) (i f : Fin 4096) : val_main_v92 (F := Ideal) X0 X1 X2 (ix2 i f) = max (pre X0 X1 X2 i f) 0 * max (pre X0 X1 X2 i f) 0 := by
  pointwise [val_main_cst, val_main_cst_0, val_main_cst_1, val_main_call0_cst, val_main_call0_v0, val_main_v16, val_main_v17, val_main_call1_cst, val_main_call1_v0, val_main_v18, val_main_cst_2, val_main_v19, val_main_v20, val_main_cst_3, val_main_v21, val_main_v22, val_main_cst_4, val_main_v23, val_main_v24, val_main_v25, val_main_v26, val_main_v27, val_main_v28, val_main_cst_5, val_main_v29, val_main_v30, val_main_v31, val_main_v32, val_main_cst_6, val_main_v33, val_main_v34, val_main_cst_7, val_main_v35, val_main_v36, val_main_cst_8, val_main_v37, val_main_v38, val_main_v39, val_main_v40, val_main_cst_9, val_main_v41, val_main_v42, val_main_v43, val_main_v44, val_main_v45, val_main_v46, val_main_v47, val_main_v48, val_main_v49, val_main_call2_cst, val_main_call2_v0, val_main_v50, val_main_cst_10, val_main_v51, val_main_v52, val_main_cst_11, val_main_v53, val_main_v54, val_main_cst_12, val_main_v55, val_main_v56, val_main_v57, val_main_v58, val_main_v59, val_main_v60, val_main_v61, val_main_v62, val_main_cst_13, val_main_v63, val_main_v64, val_main_v65, val_main_v66, val_main_cst_14, val_main_v67, val_main_v68, val_main_v69, val_main_v70, val_main_cst_15, val_main_v71, val_main_v72, val_main_cst_16, val_main_v73, val_main_v74, val_main_v75, val_main_v76, val_main_v77, val_main_v78, val_main_cst_17, val_main_v79, val_main_v80, val_main_cst_18, val_main_v81, val_main_v82, val_main_v83, val_main_v84, val_main_v85, val_main_v86, val_main_v87, val_main_v88, val_main_v89, val_main_v90, val_main_v91, val_main_v92, val_main_cst_19, Common.hostReduceAdd_leading, Common.hostReduceAdd_outer]
  simp only [preR' X0 X3 X4 X1 X2]

theorem dhR (X0 X3 X4 : FVec Ideal Cert.MlpReferenceIdeal.S1x4096x1024 .f32) (X1 : FVec Ideal Cert.MlpReferenceIdeal.S1x1024 .f32) (X2 : FVec Ideal Cert.MlpReferenceIdeal.S1x1024x4096 .f32) (i : Fin 4096) (d : Fin 1024) : val_main_v65 (F := Ideal) X0 X1 X2 X3 X4 (ix3 0 i d) = dh X0 X1 X2 X3 X4 i d := by
  pointwise [val_main_cst, val_main_cst_0, val_main_cst_1, val_main_call0_cst, val_main_call0_v0, val_main_call1_cst, val_main_call1_v0, val_main_cst_2, val_main_cst_3, val_main_cst_4, val_main_cst_5, val_main_cst_6, val_main_cst_7, val_main_cst_8, val_main_cst_9, val_main_call2_cst, val_main_call2_v0, val_main_cst_10, val_main_cst_11, val_main_cst_12, val_main_cst_13, val_main_v65, val_main_cst_14, val_main_cst_15, val_main_cst_16, val_main_cst_17, val_main_cst_18, val_main_cst_19, Common.hostReduceAdd_leading, Common.hostReduceAdd_outer, val_main_v48]
  simp only [daR X0 X3 X4 X1 X2]
  rfl

theorem dxR (X0 X3 X4 : FVec Ideal Cert.MlpReferenceIdeal.S1x4096x1024 .f32) (X1 : FVec Ideal Cert.MlpReferenceIdeal.S1x1024 .f32) (X2 : FVec Ideal Cert.MlpReferenceIdeal.S1x1024x4096 .f32) (i : Fin 4096) (d : Fin 1024) :
    val_main_v87 (F := Ideal) X0 X1 X2 X3 X4 (ix3 0 i d)
      = X4 (ix3 0 i d) + dh X0 X1 X2 X3 X4 i d * X1 (ix2 0 d) * Norm.rinv (row X0 i) + row X0 i d * Norm.slope (row X0 i) (fun k => dh X0 X1 X2 X3 X4 i k * X1 (ix2 0 k))
        + Norm.slope (row X0 i) (fun k => dh X0 X1 X2 X3 X4 i k * X1 (ix2 0 k)) * row X0 i d := by
  pointwise [val_main_cst, val_main_cst_0, val_main_cst_1, val_main_call0_cst, val_main_call0_v0, val_main_call1_cst, val_main_call1_v0, val_main_cst_2, val_main_cst_3, val_main_cst_4, val_main_cst_5, val_main_cst_6, val_main_cst_7, val_main_cst_8, val_main_cst_9, val_main_call2_cst, val_main_call2_v0, val_main_cst_10, val_main_cst_11, val_main_cst_12, val_main_cst_13, val_main_v66, val_main_cst_14, val_main_v67, val_main_v68, val_main_v69, val_main_v70, val_main_cst_15, val_main_v71, val_main_v72, val_main_cst_16, val_main_v73, val_main_v74, val_main_v75, val_main_v76, val_main_v77, val_main_v78, val_main_cst_17, val_main_v79, val_main_v80, val_main_cst_18, val_main_v81, val_main_v82, val_main_v83, val_main_v84, val_main_v85, val_main_v86, val_main_v87, val_main_cst_19, Common.hostReduceAdd_leading, Common.hostReduceAdd_outer, val_main_cst, val_main_cst_0, val_main_cst_1, val_main_call0_cst, val_main_call0_v0, val_main_call1_cst, val_main_call1_v0, val_main_cst_2, val_main_cst_3, val_main_cst_4, val_main_cst_5, val_main_v31, val_main_v32, val_main_cst_6, val_main_v33, val_main_v34, val_main_cst_7, val_main_v35, val_main_v36, val_main_cst_8, val_main_v37, val_main_v38, val_main_v39, val_main_v40, val_main_cst_9, val_main_v41, val_main_v42, val_main_v43, val_main_v44, val_main_v45, val_main_v46, val_main_v47, val_main_call2_cst, val_main_call2_v0, val_main_cst_10, val_main_cst_11, val_main_cst_12, val_main_cst_13, val_main_cst_14, val_main_cst_15, val_main_cst_16, val_main_cst_17, val_main_cst_18, val_main_cst_19, Common.hostReduceAdd_leading, Common.hostReduceAdd_outer]
  simp only [Fin.sum_univ_one, dhR X0 X3 X4 X1 X2]
  rfl

theorem stR (X0 X3 X4 : FVec Ideal Cert.MlpReferenceIdeal.S1x4096x1024 .f32) (X1 : FVec Ideal Cert.MlpReferenceIdeal.S1x1024 .f32) (X2 : FVec Ideal Cert.MlpReferenceIdeal.S1x1024x4096 .f32) (r : Fin 8) (d : Fin 1024) :
    val_main_v97 (F := Ideal) X0 X1 X2 X3 X4 (ix2 r d)
      = if r.val < 1 then ∑ i : Fin 4096, dh X0 X1 X2 X3 X4 i d * (row X0 i d * Norm.rinv (row X0 i)) else 0 := by
  pointwise [val_main_cst, val_main_cst_0, val_main_cst_1, val_main_call0_cst, val_main_call0_v0, val_main_call1_cst, val_main_call1_v0, val_main_cst_2, val_main_cst_3, val_main_cst_4, val_main_cst_5, val_main_cst_6, val_main_cst_7, val_main_cst_8, val_main_cst_9, val_main_call2_cst, val_main_call2_v0, val_main_cst_10, val_main_cst_11, val_main_cst_12, val_main_cst_13, val_main_v66, val_main_cst_14, val_main_v67, val_main_v68, val_main_v69, val_main_v70, val_main_cst_15, val_main_v71, val_main_v72, val_main_cst_16, val_main_v73, val_main_v74, val_main_v75, val_main_v76, val_main_v77, val_main_v78, val_main_cst_17, val_main_v79, val_main_v80, val_main_cst_18, val_main_v81, val_main_v82, val_main_v83, val_main_v84, val_main_v85, val_main_v86, val_main_v87, val_main_v88, val_main_v89, val_main_v90, val_main_v91, val_main_v92, val_main_v93, val_main_v94, val_main_v95, val_main_cst_19, val_main_v96, val_main_v97, Common.hostReduceAdd_leading, Common.hostReduceAdd_outer, val_main_cst, val_main_cst_0, val_main_cst_1, val_main_call0_cst, val_main_call0_v0, val_main_call1_cst, val_main_call1_v0, val_main_cst_2, val_main_cst_3, val_main_cst_4, val_main_cst_5, val_main_v31, val_main_v32, val_main_cst_6, val_main_v33, val_main_v34, val_main_cst_7, val_main_v35, val_main_v36, val_main_cst_8, val_main_v37, val_main_v38, val_main_v39, val_main_v40, val_main_cst_9, val_main_v41, val_main_v42, val_main_v43, val_main_v44, val_main_v45, val_main_v46, val_main_v47, val_main_call2_cst, val_main_call2_v0, val_main_cst_10, val_main_cst_11, val_main_cst_12, val_main_cst_13, val_main_cst_14, val_main_cst_15, val_main_cst_16, val_main_cst_17, val_main_cst_18, val_main_cst_19, Common.hostReduceAdd_leading, Common.hostReduceAdd_outer]
  simp only [Fin.sum_univ_one, dhR X0 X3 X4 X1 X2, dite_eq_ite]
  refine if_congr Iff.rfl (Fin.sum_fin_congr fun i => ?_) rfl
  exact mul_comm (G := EReal) _ _

theorem in0 (c : Dev nD) (t : Fin cfg0.N) (i : Fin 256) (k : Fin 1024) (j : Fin 4096) (hj : j.val = t.val * 256 + i.val) :
    iblk m c 0 t (ix2 i k) = m ((c : Thread nD τ).loc main_arg4) (ix3 0 j k) := by
  blk_point [iblk, V, idx t]

theorem in1 (c : Dev nD) (t : Fin cfg0.N) (i : Fin 256) (k : Fin 1024) (j : Fin 4096) (hj : j.val = t.val * 256 + i.val) :
    iblk m c 1 t (ix2 i k) = m ((c : Thread nD τ).loc main_arg4) (ix3 0 j k) := by
  blk_simp [iblk]
  entry_read
  pointwise
  blk_ext [idx t]

theorem in3 (c : Dev nD) (t : Fin cfg0.N) (i : Fin 256) (k : Fin 1024) (j : Fin 4096) (hj : j.val = t.val * 256 + i.val) :
    iblk m c 3 t (ix2 i k) = m ((c : Thread nD τ).loc main_arg0) (ix3 0 j k) := by
  blk_point [iblk, V, idx t]

theorem in2 (c : Dev nD) (t : Fin cfg0.N) (i : Fin 256) (f : Fin 4096) (j : Fin 4096) (hj : j.val = t.val * 256 + i.val) :
    iblk m c 2 t (ix2 i f) = pre (m ((c : Thread nD τ).loc main_arg0)) (m ((c : Thread nD τ).loc main_arg1)) (m ((c : Thread nD τ).loc main_arg2)) j f := by
  blk_simp [iblk]
  entry_read
  pointwise
  have e : (win0_2.blk t).view.emb (ix2 i f) = (ix2 j f : S4096x4096.Idx) := by blk_ext [idx t]
  simp only [e]
  rfl

theorem in4 (c : Dev nD) (t : Fin cfg0.N) (k : Fin 1024) :
    iblk m c 4 t (ix2 0 k) = m ((c : Thread nD τ).loc main_arg1) (ix2 0 k) := by
  blk_point [iblk, V, idx t]

theorem in5 (c : Dev nD) (t : Fin cfg0.N) (q : Fin 4) (d : Fin 1024) (k : Fin 1024) (f : Fin 4096) (hf : f.val = q.val * 1024 + k.val) :
    iblk m c 5 t (ix3 q d k) = m ((c : Thread nD τ).loc main_arg2) (ix3 0 d f) := by
  blk_simp [iblk]
  entry_read
  pointwise
  blk_ext [idx t]

theorem in6 (c : Dev nD) (t : Fin cfg0.N) (q : Fin 4) (d : Fin 1024) (k : Fin 1024) (f : Fin 4096) (hf : f.val = q.val * 1024 + d.val) :
    iblk m c 6 t (ix3 q d k) = m ((c : Thread nD τ).loc main_arg3) (ix3 0 f k) := by
  blk_simp [iblk]
  entry_read
  pointwise
  blk_ext [idx t]

theorem daK0 (x1 : Vec Ideal S256x1024 .bf16) (a : Vec Ideal S256x1024 .f32) (u : Vec Ideal S1x1024x1024 .bf16) (i : Fin 256) (k : Fin 1024) :
    k0_pay7 x1 a u (ix2 i k) = (∑ x, x1 (ix2 i x) * u (ix3 0 k x)) * (Ideal.ofBits .f32 1073741824#32 * max (a (ix2 i k)) 0) := by
  pointwise [k0_pay7, k0_pay13, k0_pay10, k0_pay11, k0_pay12, k0_pay16, k0_pay20, k0_pay5, k0_pay6, k0_pay15, k0_pay19]

theorem daT0 (c : Dev nD) (t : Fin cfg0.N) (i : Fin 256) (j : Fin 4096) (hj : j.val = t.val * 256 + i.val) (k : Fin 1024) (f : Fin 4096) (hf : f.val = 0 + k.val)
    (a : Vec Ideal S256x1024 .f32) (u : Vec Ideal S1x1024x1024 .bf16) (ha : a (ix2 i k) = iblk m c 2 t (ix2 i f)) (hu : ∀ x : Fin 1024, u (ix3 0 k x) = iblk m c 6 t (ix3 0 k x)) :
    k0_pay7 (iblk m c 1 t) a u (ix2 i k) = da (m ((c : Thread nD τ).loc main_arg0)) (m ((c : Thread nD τ).loc main_arg1)) (m ((c : Thread nD τ).loc main_arg2)) (m ((c : Thread nD τ).loc main_arg3)) (m ((c : Thread nD τ).loc main_arg4)) j f := by
  refine (daK0 _ _ _ i k).trans ?_
  rw [ha, in2 m c t i f j hj]
  refine congrArg (· * _) (Fin.sum_fin_congr fun x => ?_)
  rw [hu, in6 m c t 0 k x f (by simp; omega), in1 m c t i x j hj]

theorem uK0 (a : Vec Ideal S256x1024 .f32) (i : Fin 256) (k : Fin 1024) : k0_pay8 a (ix2 i k) = max (a (ix2 i k)) 0 * max (a (ix2 i k)) 0 := by
  pointwise [k0_pay8, k0_pay14, k0_pay10, k0_pay17, k0_pay21, k0_pay6, k0_pay15, k0_pay19]

theorem daK1 (x1 : Vec Ideal S256x1024 .bf16) (a : Vec Ideal S256x1024 .f32) (u : Vec Ideal S1x1024x1024 .bf16) (i : Fin 256) (k : Fin 1024) :
    k0_pay13 (k0_pay10 a) (k0_pay11 x1 u) k0_pay12 (ix2 i k) = (∑ x, x1 (ix2 i x) * u (ix3 0 k x)) * (Ideal.ofBits .f32 1073741824#32 * max (a (ix2 i k)) 0) := by
  pointwise [k0_pay7, k0_pay13, k0_pay10, k0_pay11, k0_pay12, k0_pay16, k0_pay20, k0_pay5, k0_pay6, k0_pay15, k0_pay19]

theorem daT1 (c : Dev nD) (t : Fin cfg0.N) (i : Fin 256) (j : Fin 4096) (hj : j.val = t.val * 256 + i.val) (k : Fin 1024) (f : Fin 4096) (hf : f.val = 1024 + k.val)
    (a : Vec Ideal S256x1024 .f32) (u : Vec Ideal S1x1024x1024 .bf16) (ha : a (ix2 i k) = iblk m c 2 t (ix2 i f)) (hu : ∀ x : Fin 1024, u (ix3 0 k x) = iblk m c 6 t (ix3 1 k x)) :
    k0_pay13 (k0_pay10 a) (k0_pay11 (iblk m c 1 t) u) k0_pay12 (ix2 i k) = da (m ((c : Thread nD τ).loc main_arg0)) (m ((c : Thread nD τ).loc main_arg1)) (m ((c : Thread nD τ).loc main_arg2)) (m ((c : Thread nD τ).loc main_arg3)) (m ((c : Thread nD τ).loc main_arg4)) j f := by
  refine (daK1 _ _ _ i k).trans ?_
  rw [ha, in2 m c t i f j hj]
  refine congrArg (· * _) (Fin.sum_fin_congr fun x => ?_)
  rw [hu, in6 m c t 1 k x f (by simp; omega), in1 m c t i x j hj]

theorem uK1 (a : Vec Ideal S256x1024 .f32) (i : Fin 256) (k : Fin 1024) : k0_pay14 (k0_pay10 a) (ix2 i k) = max (a (ix2 i k)) 0 * max (a (ix2 i k)) 0 := by
  pointwise [k0_pay8, k0_pay14, k0_pay10, k0_pay17, k0_pay21, k0_pay6, k0_pay15, k0_pay19]

theorem daK2 (x1 : Vec Ideal S256x1024 .bf16) (a : Vec Ideal S256x1024 .f32) (u : Vec Ideal S1x1024x1024 .bf16) (i : Fin 256) (k : Fin 1024) :
    k0_pay16 (k0_pay5 x1) a u (ix2 i k) = (∑ x, x1 (ix2 i x) * u (ix3 0 k x)) * (Ideal.ofBits .f32 1073741824#32 * max (a (ix2 i k)) 0) := by
  pointwise [k0_pay7, k0_pay13, k0_pay10, k0_pay11, k0_pay12, k0_pay16, k0_pay20, k0_pay5, k0_pay6, k0_pay15, k0_pay19]

theorem daT2 (c : Dev nD) (t : Fin cfg0.N) (i : Fin 256) (j : Fin 4096) (hj : j.val = t.val * 256 + i.val) (k : Fin 1024) (f : Fin 4096) (hf : f.val = 2048 + k.val)
    (a : Vec Ideal S256x1024 .f32) (u : Vec Ideal S1x1024x1024 .bf16) (ha : a (ix2 i k) = iblk m c 2 t (ix2 i f)) (hu : ∀ x : Fin 1024, u (ix3 0 k x) = iblk m c 6 t (ix3 2 k x)) :
    k0_pay16 (k0_pay5 (iblk m c 1 t)) a u (ix2 i k) = da (m ((c : Thread nD τ).loc main_arg0)) (m ((c : Thread nD τ).loc main_arg1)) (m ((c : Thread nD τ).loc main_arg2)) (m ((c : Thread nD τ).loc main_arg3)) (m ((c : Thread nD τ).loc main_arg4)) j f := by
  refine (daK2 _ _ _ i k).trans ?_
  rw [ha, in2 m c t i f j hj]
  refine congrArg (· * _) (Fin.sum_fin_congr fun x => ?_)
  rw [hu, in6 m c t 2 k x f (by simp; omega), in1 m c t i x j hj]

theorem uK2 (a : Vec Ideal S256x1024 .f32) (i : Fin 256) (k : Fin 1024) : k0_pay17 a (ix2 i k) = max (a (ix2 i k)) 0 * max (a (ix2 i k)) 0 := by
  pointwise [k0_pay8, k0_pay14, k0_pay10, k0_pay17, k0_pay21, k0_pay6, k0_pay15, k0_pay19]

theorem daK3 (x1 : Vec Ideal S256x1024 .bf16) (a : Vec Ideal S256x1024 .f32) (u : Vec Ideal S1x1024x1024 .bf16) (i : Fin 256) (k : Fin 1024) :
    k0_pay20 (k0_pay5 x1) a u (ix2 i k) = (∑ x, x1 (ix2 i x) * u (ix3 0 k x)) * (Ideal.ofBits .f32 1073741824#32 * max (a (ix2 i k)) 0) := by
  pointwise [k0_pay7, k0_pay13, k0_pay10, k0_pay11, k0_pay12, k0_pay16, k0_pay20, k0_pay5, k0_pay6, k0_pay15, k0_pay19]

theorem daT3 (c : Dev nD) (t : Fin cfg0.N) (i : Fin 256) (j : Fin 4096) (hj : j.val = t.val * 256 + i.val) (k : Fin 1024) (f : Fin 4096) (hf : f.val = 3072 + k.val)
    (a : Vec Ideal S256x1024 .f32) (u : Vec Ideal S1x1024x1024 .bf16) (ha : a (ix2 i k) = iblk m c 2 t (ix2 i f)) (hu : ∀ x : Fin 1024, u (ix3 0 k x) = iblk m c 6 t (ix3 3 k x)) :
    k0_pay20 (k0_pay5 (iblk m c 1 t)) a u (ix2 i k) = da (m ((c : Thread nD τ).loc main_arg0)) (m ((c : Thread nD τ).loc main_arg1)) (m ((c : Thread nD τ).loc main_arg2)) (m ((c : Thread nD τ).loc main_arg3)) (m ((c : Thread nD τ).loc main_arg4)) j f := by
  refine (daK3 _ _ _ i k).trans ?_
  rw [ha, in2 m c t i f j hj]
  refine congrArg (· * _) (Fin.sum_fin_congr fun x => ?_)
  rw [hu, in6 m c t 3 k x f (by simp; omega), in1 m c t i x j hj]

theorem uK3 (a : Vec Ideal S256x1024 .f32) (i : Fin 256) (k : Fin 1024) : k0_pay21 a (ix2 i k) = max (a (ix2 i k)) 0 * max (a (ix2 i k)) 0 := by
  pointwise [k0_pay8, k0_pay14, k0_pay10, k0_pay17, k0_pay21, k0_pay6, k0_pay15, k0_pay19]

theorem dhK (x1 : Vec Ideal S256x1024 .bf16) (a0 a1 a2 a3 : Vec Ideal S256x1024 .f32) (u0 u1 u2 u3 w0 w1 w2 w3 : Vec Ideal S1x1024x1024 .bf16) (i : Fin 256) (d : Fin 1024) (Z Y : Fin 4096 → EReal)
    (h0 : ∀ k : Fin 1024, k0_pay7 x1 a0 u0 (ix2 i k) = Z ⟨0 + k, by omega⟩)
    (h1 : ∀ k : Fin 1024, k0_pay13 (k0_pay10 a1) (k0_pay11 x1 u1) k0_pay12 (ix2 i k) = Z ⟨1024 + k, by omega⟩)
    (h2 : ∀ k : Fin 1024, k0_pay16 (k0_pay5 x1) a2 u2 (ix2 i k) = Z ⟨2048 + k, by omega⟩)
    (h3 : ∀ k : Fin 1024, k0_pay20 (k0_pay5 x1) a3 u3 (ix2 i k) = Z ⟨3072 + k, by omega⟩)
    (g0 : ∀ k : Fin 1024, w0 (ix3 0 d k) = Y ⟨0 + k, by omega⟩) (g1 : ∀ k : Fin 1024, w1 (ix3 0 d k) = Y ⟨1024 + k, by omega⟩)
    (g2 : ∀ k : Fin 1024, w2 (ix3 0 d k) = Y ⟨2048 + k, by omega⟩) (g3 : ∀ k : Fin 1024, w3 (ix3 0 d k) = Y ⟨3072 + k, by omega⟩) :
    k0_pay22 (k0_pay5 x1) (k0_pay18 (k0_pay5 x1) (k0_pay9 x1 a0 u0 w0) (k0_pay10 a1) (k0_pay11 x1 u1) k0_pay12 w1 a2 u2 w2) a3 u3 w3 (ix2 i d) = ∑ f, Z f * Y f := by
  pointwise [k0_pay22, k0_pay18, k0_pay9]
  simp only [h0, h1, h2, h3, g0, g1, g2, g3]
  exact Common.sum_quarters (b := 1024) rfl (fun e => Z e * Y e) _ _ _ _ (fun k => by simp only [Nat.zero_add]) (fun _ => rfl) (fun _ => rfl) (fun _ => rfl)

theorem dhB (c : Dev nD) (t : Fin cfg0.N) (i : Fin 256) (j : Fin 4096) (hj : j.val = t.val * 256 + i.val) (a0 a1 a2 a3 : Vec Ideal S256x1024 .f32) (u0 u1 u2 u3 w0 w1 w2 w3 : Vec Ideal S1x1024x1024 .bf16)
    (ha0 : ∀ k : Fin 1024, a0 (ix2 i k) = iblk m c 2 t (ix2 i ⟨0 + k, by omega⟩)) (hu0 : ∀ k x : Fin 1024, u0 (ix3 0 k x) = iblk m c 6 t (ix3 0 k x)) (hw0 : ∀ d k : Fin 1024, w0 (ix3 0 d k) = iblk m c 5 t (ix3 0 d k))
    (ha1 : ∀ k : Fin 1024, a1 (ix2 i k) = iblk m c 2 t (ix2 i ⟨1024 + k, by omega⟩)) (hu1 : ∀ k x : Fin 1024, u1 (ix3 0 k x) = iblk m c 6 t (ix3 1 k x)) (hw1 : ∀ d k : Fin 1024, w1 (ix3 0 d k) = iblk m c 5 t (ix3 1 d k))
    (ha2 : ∀ k : Fin 1024, a2 (ix2 i k) = iblk m c 2 t (ix2 i ⟨2048 + k, by omega⟩)) (hu2 : ∀ k x : Fin 1024, u2 (ix3 0 k x) = iblk m c 6 t (ix3 2 k x)) (hw2 : ∀ d k : Fin 1024, w2 (ix3 0 d k) = iblk m c 5 t (ix3 2 d k))
    (ha3 : ∀ k : Fin 1024, a3 (ix2 i k) = iblk m c 2 t (ix2 i ⟨3072 + k, by omega⟩)) (hu3 : ∀ k x : Fin 1024, u3 (ix3 0 k x) = iblk m c 6 t (ix3 3 k x)) (hw3 : ∀ d k : Fin 1024, w3 (ix3 0 d k) = iblk m c 5 t (ix3 3 d k)) (d : Fin 1024) :
    k0_pay22 (k0_pay5 (iblk m c 1 t)) (k0_pay18 (k0_pay5 (iblk m c 1 t)) (k0_pay9 (iblk m c 1 t) a0 u0 w0) (k0_pay10 a1) (k0_pay11 (iblk m c 1 t) u1) k0_pay12 w1 a2 u2 w2) a3 u3 w3 (ix2 i d) = dh (m ((c : Thread nD τ).loc main_arg0)) (m ((c : Thread nD τ).loc main_arg1)) (m ((c : Thread nD τ).loc main_arg2)) (m ((c : Thread nD τ).loc main_arg3)) (m ((c : Thread nD τ).loc main_arg4)) j d := by
  refine dhK _ _ _ _ _ _ _ _ _ _ _ _ _ i d (da (m ((c : Thread nD τ).loc main_arg0)) (m ((c : Thread nD τ).loc main_arg1)) (m ((c : Thread nD τ).loc main_arg2)) (m ((c : Thread nD τ).loc main_arg3)) (m ((c : Thread nD τ).loc main_arg4)) j) (fun f => m ((c : Thread nD τ).loc main_arg2) (ix3 0 d f)) ?_ ?_ ?_ ?_ ?_ ?_ ?_ ?_
  · intro k; exact daT0 m c t i j hj k _ rfl _ _ (ha0 k) (hu0 k)
  · intro k; exact daT1 m c t i j hj k _ rfl _ _ (ha1 k) (hu1 k)
  · intro k; exact daT2 m c t i j hj k _ rfl _ _ (ha2 k) (hu2 k)
  · intro k; exact daT3 m c t i j hj k _ rfl _ _ (ha3 k) (hu3 k)
  · intro k; exact (hw0 d k).trans (in5 m c t 0 d k _ (by simp))
  · intro k; exact (hw1 d k).trans (in5 m c t 1 d k _ (by simp))
  · intro k; exact (hw2 d k).trans (in5 m c t 2 d k _ (by simp))
  · intro k; exact (hw3 d k).trans (in5 m c t 3 d k _ (by simp))

theorem gxK (v1 : FVec Ideal S256x1024 .bf16) (v59 : FVec Ideal S256x1024 .f32) (v60 : Vec Ideal S256x1024 .f32) (v64 v75 : Vec Ideal S1x1024x1024 .bf16) (g : Vec Ideal S1x1024 .f32) (x3 x0 : Vec Ideal S256x1024 .f32) (i : Fin 256) (d : Fin 1024)
    (X H G : Fin 1024 → EReal) (C : EReal) (hX : ∀ k, x3 (ix2 i k) = X k) (hH : ∀ k, k0_pay22 v1 v59 v60 v64 v75 (ix2 i k) = H k) (hG : ∀ k, g (ix2 0 k) = G k)
    (hC : x0 (ix2 i d) = C) :
    k0_pay1 (k0_pay24 x3) (k0_pay25 x3) (k0_pay26 v1 v59 v60 v64 v75 g) (k0_pay27 v1 v59 v60 v64 v75 g x3) x0 (ix2 i d)
      = C + Norm.rinv X * (H d * G d - X d * Norm.rinv X * Ideal.div (∑ k, H k * G k * (X k * Norm.rinv X)) (Ideal.ofBits .f32 1149239296#32)) := by
  pointwise [k0_pay1, k0_pay23, k0_pay24, k0_pay25, k0_pay26, k0_pay27]
  simp only [hX, hH, hG, hC]
  rfl

theorem gxK' (v1 : FVec Ideal S256x1024 .bf16) (v59 : FVec Ideal S256x1024 .f32) (v60 : Vec Ideal S256x1024 .f32) (v64 v75 : Vec Ideal S1x1024x1024 .bf16) (g : Vec Ideal S1x1024 .f32) (x3 x0 : Vec Ideal S256x1024 .f32) (i : Fin 256) (d : Fin 1024)
    (X H G : Fin 1024 → EReal) (C : EReal) (hX : ∀ k, x3 (ix2 i k) = X k) (hH : ∀ k, k0_pay22 v1 v59 v60 v64 v75 (ix2 i k) = H k) (hG : ∀ k, g (ix2 0 k) = G k)
    (hC : x0 (ix2 i d) = C) :
    k0_pay2 (k0_pay24 x3) (k0_pay25 x3) (k0_pay26 v1 v59 v60 v64 v75 g) (k0_pay27 v1 v59 v60 v64 v75 g x3) x0 (ix2 i d)
      = C + Norm.rinv X * (H d * G d - X d * Norm.rinv X * Ideal.div (∑ k, H k * G k * (X k * Norm.rinv X)) (Ideal.ofBits .f32 1149239296#32)) :=
  (show _ = k0_pay1 (k0_pay24 x3) (k0_pay25 x3) (k0_pay26 v1 v59 v60 v64 v75 g) (k0_pay27 v1 v59 v60 v64 v75 g x3) x0 (ix2 i d) by pointwise [k0_pay2]).trans
    (gxK _ _ _ _ _ _ _ _ i d X H G C hX hH hG hC)

/-- Every entry of every argument is a real number. -/
def Real (c : Dev nD) : Prop :=
  (∀ i, ∃ r : ℝ, (show EReal from m ((c : Thread nD τ).loc main_arg0) i) = r) ∧ (∀ i, ∃ r : ℝ, (show EReal from m ((c : Thread nD τ).loc main_arg1) i) = r) ∧ (∀ i, ∃ r : ℝ, (show EReal from m ((c : Thread nD τ).loc main_arg2) i) = r) ∧ (∀ i, ∃ r : ℝ, (show EReal from m ((c : Thread nD τ).loc main_arg3) i) = r) ∧ (∀ i, ∃ r : ℝ, (show EReal from m ((c : Thread nD τ).loc main_arg4) i) = r)

theorem pre_real (c : Dev nD) (h : Real m c) (j f : Fin 4096) : ∃ r : ℝ, pre (m ((c : Thread nD τ).loc main_arg0)) (m ((c : Thread nD τ).loc main_arg1)) (m ((c : Thread nD τ).loc main_arg2)) j f = r := by
  obtain ⟨h0, h1, h2, -, -⟩ := h
  obtain ⟨r, hr⟩ := Norm.rinv_real (row (m ((c : Thread nD τ).loc main_arg0)) j) (fun k => h0 _)
  exact Norm.real_sum _ _ fun k => Norm.real_mul (Norm.real_mul (Norm.real_mul (h0 _) ⟨r, hr⟩) (h1 _)) (h2 _)

theorem dh_real (c : Dev nD) (h : Real m c) (j : Fin 4096) (d : Fin 1024) : ∃ r : ℝ, dh (m ((c : Thread nD τ).loc main_arg0)) (m ((c : Thread nD τ).loc main_arg1)) (m ((c : Thread nD τ).loc main_arg2)) (m ((c : Thread nD τ).loc main_arg3)) (m ((c : Thread nD τ).loc main_arg4)) j d = r := by
  obtain ⟨h0, h1, h2, h3, h4⟩ := h
  refine Norm.real_sum _ _ fun f => Norm.real_mul (Norm.real_mul (Norm.real_sum _ _ fun k => Norm.real_mul (h4 _) (h3 _)) (Norm.real_mul ⟨2, Norm.word_2⟩ (Norm.real_max (pre_real m c ⟨h0, h1, h2, h3, h4⟩ j f) ⟨0, rfl⟩))) (h2 _)

theorem at_lt {q : ℕ} (hq : q ≤ 3072) (x : Fin 1024) : q + x.val < 4096 := by omega

theorem outX (c : Dev nD) (h : Real m c) : (dats m 0 c).arrAt 9 (cfgs 0).N
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  obtain ⟨i, d, rfl⟩ : ∃ (i : Fin 256) (d : Fin 1024), y = ix2 i d := ⟨y 0, y 1, eq_ix2 y⟩
  have ht : t.val < 16 := lt_of_lt_of_eq t.isLt N_0
  obtain ⟨j, hj⟩ : ∃ j : Fin 4096, j.val = t.val * 256 + i.val := ⟨⟨t.val * 256 + i.val, by omega⟩, rfl⟩
  have e : ((cfg0.win 9).blk t).view.emb (ix2 i d) = (ix2 j d : S4096x1024.Idx) := by blk_ext [idx t]
  refine Eq.trans ?_ (congrArg _ e).symm
  have r : val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 j d) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 j d) := by
    pointwise [val_main_cst, val_main_cst_0, val_main_cst_1, val_main_call0_cst, val_main_call0_v0, val_main_call1_cst, val_main_call1_v0, val_main_cst_2, val_main_cst_3, val_main_cst_4, val_main_cst_5, val_main_cst_6, val_main_cst_7, val_main_cst_8, val_main_cst_9, val_main_call2_cst, val_main_call2_v0, val_main_cst_10, val_main_cst_11, val_main_cst_12, val_main_cst_13, val_main_cst_14, val_main_cst_15, val_main_cst_16, val_main_cst_17, val_main_cst_18, val_main_v88, val_main_v89, val_main_v90, val_main_v91, val_main_v92, val_main_v93, val_main_v94, val_main_v95, val_main_cst_19, Common.hostReduceAdd_leading, Common.hostReduceAdd_outer]
  refine Eq.trans ?_ ((r.trans (dxR _ _ _ _ _ j d)).trans
    (Norm.grad_eq _ _ _ (fun k => h.1 _) (fun k => Norm.real_mul (dh_real m c h j k) (h.2.1 _)) d)).symm
  rw [after0_9]
  by_cases h0 : t.val % 16 = 0
  · rw [outsAt0_A m c t h0 (by omega)]
    frame_out
    refine gxK _ _ _ _ _ _ _ _ i d _ _ _ _ (fun k => in3 m c t i k j hj) (fun k => dhB m c t i j hj _ _ _ _ _ _ _ _ _ _ _ _ ?_ ?_ ?_ ?_ ?_ ?_ ?_ ?_ ?_ ?_ ?_ ?_ k) (fun k => in4 m c t k) (in0 m c t i d j hj)
    all_goals (intros; pointwise)
  · rw [outsAt0_B m c t h0 (by omega)]
    frame_out
    refine gxK _ _ _ _ _ _ _ _ i d _ _ _ _ (fun k => in3 m c t i k j hj) (fun k => dhB m c t i j hj _ _ _ _ _ _ _ _ _ _ _ _ ?_ ?_ ?_ ?_ ?_ ?_ ?_ ?_ ?_ ?_ ?_ ?_ k) (fun k => in4 m c t k) (in0 m c t i d j hj)
    all_goals (intros; pointwise)

theorem outXb (c : Dev nD) (h : Real m c) : (dats m 0 c).arrAt 10 (cfgs 0).N
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  obtain ⟨i, d, rfl⟩ : ∃ (i : Fin 256) (d : Fin 1024), y = ix2 i d := ⟨y 0, y 1, eq_ix2 y⟩
  have ht : t.val < 16 := lt_of_lt_of_eq t.isLt N_0
  obtain ⟨j, hj⟩ : ∃ j : Fin 4096, j.val = t.val * 256 + i.val := ⟨⟨t.val * 256 + i.val, by omega⟩, rfl⟩
  have e : ((cfg0.win 10).blk t).view.emb (ix2 i d) = (ix2 j d : S4096x1024.Idx) := by blk_ext [idx t]
  refine Eq.trans ?_ (congrArg _ e).symm
  have r : val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 j d) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 j d) := by
    pointwise [val_main_cst, val_main_cst_0, val_main_cst_1, val_main_call0_cst, val_main_call0_v0, val_main_call1_cst, val_main_call1_v0, val_main_cst_2, val_main_cst_3, val_main_cst_4, val_main_cst_5, val_main_cst_6, val_main_cst_7, val_main_cst_8, val_main_cst_9, val_main_call2_cst, val_main_call2_v0, val_main_cst_10, val_main_cst_11, val_main_cst_12, val_main_cst_13, val_main_cst_14, val_main_cst_15, val_main_cst_16, val_main_cst_17, val_main_cst_18, val_main_v88, val_main_v89, val_main_v90, val_main_v91, val_main_v92, val_main_v93, val_main_v94, val_main_v95, val_main_cst_19, Common.hostReduceAdd_leading, Common.hostReduceAdd_outer]
  refine Eq.trans ?_ ((r.trans (dxR _ _ _ _ _ j d)).trans
    (Norm.grad_eq _ _ _ (fun k => h.1 _) (fun k => Norm.real_mul (dh_real m c h j k) (h.2.1 _)) d)).symm
  rw [after0_10]
  by_cases h0 : t.val % 16 = 0
  · rw [outsAt0_A m c t h0 (by omega)]
    frame_out
    refine gxK' _ _ _ _ _ _ _ _ i d _ _ _ _ (fun k => in3 m c t i k j hj) (fun k => dhB m c t i j hj _ _ _ _ _ _ _ _ _ _ _ _ ?_ ?_ ?_ ?_ ?_ ?_ ?_ ?_ ?_ ?_ ?_ ?_ k) (fun k => in4 m c t k) (in0 m c t i d j hj)
    all_goals (intros; pointwise)
  · rw [outsAt0_B m c t h0 (by omega)]
    frame_out
    refine gxK' _ _ _ _ _ _ _ _ i d _ _ _ _ (fun k => in3 m c t i k j hj) (fun k => dhB m c t i j hj _ _ _ _ _ _ _ _ _ _ _ _ ?_ ?_ ?_ ?_ ?_ ?_ ?_ ?_ ?_ ?_ ?_ ?_ k) (fun k => in4 m c t k) (in0 m c t i d j hj)
    all_goals (intros; pointwise)

theorem outA (c : Dev nD) : (dats m 0 c).arrAt 7 (cfgs 0).N
    = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  obtain ⟨i, f, rfl⟩ : ∃ (i : Fin 256) (f : Fin 4096), y = ix2 i f := ⟨y 0, y 1, eq_ix2 y⟩
  have ht : t.val < 16 := lt_of_lt_of_eq t.isLt N_0
  obtain ⟨j, hj⟩ : ∃ j : Fin 4096, j.val = t.val * 256 + i.val := ⟨⟨t.val * 256 + i.val, by omega⟩, rfl⟩
  have e : ((cfg0.win 7).blk t).view.emb (ix2 i f) = (ix2 j f : S4096x4096.Idx) := by blk_ext [idx t]
  refine Eq.trans ?_ (congrArg _ e).symm
  refine Eq.trans ?_ (daR' (m ((c : Thread nD τ).loc main_arg0)) (m ((c : Thread nD τ).loc main_arg3)) (m ((c : Thread nD τ).loc main_arg4)) (m ((c : Thread nD τ).loc main_arg1)) (m ((c : Thread nD τ).loc main_arg2)) j f).symm
  rw [after0_7]
  by_cases h0 : t.val % 16 = 0
  · rw [outsAt0_A m c t h0 (by omega)]
    frame_out
    canon_tiles x h <;> idx_vars x
    · obtain rfl : i = x0 := Fin.ext (by assumption)
      obtain rfl : f = ⟨3072 + x1.val, at_lt (by decide) x1⟩ := Fin.ext (by assumption)
      refine daT3 m c t i j hj x1 _ rfl _ _ ?_ ?_
      all_goals (intros; pointwise)
    · obtain rfl : i = x0 := Fin.ext (by assumption)
      obtain rfl : f = ⟨2048 + x1.val, at_lt (by decide) x1⟩ := Fin.ext (by assumption)
      refine daT2 m c t i j hj x1 _ rfl _ _ ?_ ?_
      all_goals (intros; pointwise)
    · obtain rfl : i = x0 := Fin.ext (by assumption)
      obtain rfl : f = ⟨1024 + x1.val, at_lt (by decide) x1⟩ := Fin.ext (by assumption)
      refine daT1 m c t i j hj x1 _ rfl _ _ ?_ ?_
      all_goals (intros; pointwise)
    · obtain rfl : i = x0 := Fin.ext (by assumption)
      obtain rfl : f = ⟨x1.val, lt_trans x1.isLt (by decide)⟩ := Fin.ext (by assumption)
      refine daT0 m c t i j hj x1 _ (Nat.zero_add _).symm _ _ ?_ ?_
      all_goals (intros; pointwise)
  · rw [outsAt0_B m c t h0 (by omega)]
    frame_out
    canon_tiles x h <;> idx_vars x
    · obtain rfl : i = x0 := Fin.ext (by assumption)
      obtain rfl : f = ⟨3072 + x1.val, at_lt (by decide) x1⟩ := Fin.ext (by assumption)
      refine daT3 m c t i j hj x1 _ rfl _ _ ?_ ?_
      all_goals (intros; pointwise)
    · obtain rfl : i = x0 := Fin.ext (by assumption)
      obtain rfl : f = ⟨2048 + x1.val, at_lt (by decide) x1⟩ := Fin.ext (by assumption)
      refine daT2 m c t i j hj x1 _ rfl _ _ ?_ ?_
      all_goals (intros; pointwise)
    · obtain rfl : i = x0 := Fin.ext (by assumption)
      obtain rfl : f = ⟨1024 + x1.val, at_lt (by decide) x1⟩ := Fin.ext (by assumption)
      refine daT1 m c t i j hj x1 _ rfl _ _ ?_ ?_
      all_goals (intros; pointwise)
    · obtain rfl : i = x0 := Fin.ext (by assumption)
      obtain rfl : f = ⟨x1.val, lt_trans x1.isLt (by decide)⟩ := Fin.ext (by assumption)
      refine daT0 m c t i j hj x1 _ (Nat.zero_add _).symm _ _ ?_ ?_
      all_goals (intros; pointwise)

theorem outU (c : Dev nD) : (dats m 0 c).arrAt 8 (cfgs 0).N
    = val_main_v92 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  obtain ⟨i, f, rfl⟩ : ∃ (i : Fin 256) (f : Fin 4096), y = ix2 i f := ⟨y 0, y 1, eq_ix2 y⟩
  have ht : t.val < 16 := lt_of_lt_of_eq t.isLt N_0
  obtain ⟨j, hj⟩ : ∃ j : Fin 4096, j.val = t.val * 256 + i.val := ⟨⟨t.val * 256 + i.val, by omega⟩, rfl⟩
  have e : ((cfg0.win 8).blk t).view.emb (ix2 i f) = (ix2 j f : S4096x4096.Idx) := by blk_ext [idx t]
  refine Eq.trans ?_ (congrArg _ e).symm
  refine Eq.trans ?_ (uR (m ((c : Thread nD τ).loc main_arg0)) (m ((c : Thread nD τ).loc main_arg3)) (m ((c : Thread nD τ).loc main_arg4)) (m ((c : Thread nD τ).loc main_arg1)) (m ((c : Thread nD τ).loc main_arg2)) j f).symm
  rw [after0_8]
  by_cases h0 : t.val % 16 = 0
  · rw [outsAt0_A m c t h0 (by omega)]
    frame_out
    canon_tiles x h <;> idx_vars x
    · obtain rfl : i = x0 := Fin.ext (by assumption)
      obtain rfl : f = ⟨3072 + x1.val, at_lt (by decide) x1⟩ := Fin.ext (by assumption)
      refine (uK3 _ i x1).trans ?_
      refine congrArg (fun x : EReal => max x 0 * max x 0) (Eq.trans ?_ (in2 m c t i _ j hj))
      pointwise
    · obtain rfl : i = x0 := Fin.ext (by assumption)
      obtain rfl : f = ⟨2048 + x1.val, at_lt (by decide) x1⟩ := Fin.ext (by assumption)
      refine (uK2 _ i x1).trans ?_
      refine congrArg (fun x : EReal => max x 0 * max x 0) (Eq.trans ?_ (in2 m c t i _ j hj))
      pointwise
    · obtain rfl : i = x0 := Fin.ext (by assumption)
      obtain rfl : f = ⟨1024 + x1.val, at_lt (by decide) x1⟩ := Fin.ext (by assumption)
      refine (uK1 _ i x1).trans ?_
      refine congrArg (fun x : EReal => max x 0 * max x 0) (Eq.trans ?_ (in2 m c t i _ j hj))
      pointwise
    · obtain rfl : i = x0 := Fin.ext (by assumption)
      obtain rfl : f = ⟨x1.val, lt_trans x1.isLt (by decide)⟩ := Fin.ext (by assumption)
      refine (uK0 _ i x1).trans ?_
      refine congrArg (fun x : EReal => max x 0 * max x 0) (Eq.trans ?_ (in2 m c t i _ j hj))
      pointwise
  · rw [outsAt0_B m c t h0 (by omega)]
    frame_out
    canon_tiles x h <;> idx_vars x
    · obtain rfl : i = x0 := Fin.ext (by assumption)
      obtain rfl : f = ⟨3072 + x1.val, at_lt (by decide) x1⟩ := Fin.ext (by assumption)
      refine (uK3 _ i x1).trans ?_
      refine congrArg (fun x : EReal => max x 0 * max x 0) (Eq.trans ?_ (in2 m c t i _ j hj))
      pointwise
    · obtain rfl : i = x0 := Fin.ext (by assumption)
      obtain rfl : f = ⟨2048 + x1.val, at_lt (by decide) x1⟩ := Fin.ext (by assumption)
      refine (uK2 _ i x1).trans ?_
      refine congrArg (fun x : EReal => max x 0 * max x 0) (Eq.trans ?_ (in2 m c t i _ j hj))
      pointwise
    · obtain rfl : i = x0 := Fin.ext (by assumption)
      obtain rfl : f = ⟨1024 + x1.val, at_lt (by decide) x1⟩ := Fin.ext (by assumption)
      refine (uK1 _ i x1).trans ?_
      refine congrArg (fun x : EReal => max x 0 * max x 0) (Eq.trans ?_ (in2 m c t i _ j hj))
      pointwise
    · obtain rfl : i = x0 := Fin.ext (by assumption)
      obtain rfl : f = ⟨x1.val, lt_trans x1.isLt (by decide)⟩ := Fin.ext (by assumption)
      refine (uK0 _ i x1).trans ?_
      refine congrArg (fun x : EReal => max x 0 * max x 0) (Eq.trans ?_ (in2 m c t i _ j hj))
      pointwise

/-- What a token adds to the gradient of the gain. -/
def gain (c : Dev nD) (j : Fin 4096) (d : Fin 1024) : EReal := dh (m ((c : Thread nD τ).loc main_arg0)) (m ((c : Thread nD τ).loc main_arg1)) (m ((c : Thread nD τ).loc main_arg2)) (m ((c : Thread nD τ).loc main_arg3)) (m ((c : Thread nD τ).loc main_arg4)) j d * (row (m ((c : Thread nD τ).loc main_arg0)) j d * Norm.rinv (row (m ((c : Thread nD τ).loc main_arg0)) j))

theorem stK (v78 : FVec Ideal S256x1024 .f32) (x3 : Vec Ideal S256x1024 .f32) (j : S8x1024.Idx)
    (X H : Fin 256 → Fin 1024 → EReal) (hX : ∀ i k, x3 (ix2 i k) = X i k) (hH : ∀ i k, v78 (ix2 i k) = H i k) :
    k0_pay3 v78 (k0_pay25 x3) j = if (j 0).val < 1 then ∑ i : Fin 256, H i (j 1) * (X i (j 1) * Norm.rinv (X i)) else 0 := by
  obtain ⟨r, d, rfl⟩ : ∃ (r : Fin 8) (d : Fin 1024), j = ix2 r d := ⟨j 0, j 1, eq_ix2 j⟩
  pointwise [k0_pay3, k0_pay25, k0_pay24, k0_pay23]
  simp only [hX, hH, dite_eq_ite]
  rfl

/-- A token of a tile. -/
def tok (t : Fin cfg0.N) (i : Fin 256) : Fin 4096 := ⟨t.val * 256 + i.val, by have : t.val < 16 := lt_of_lt_of_eq t.isLt N_0; omega⟩

theorem stB (c : Dev nD) (t : Fin cfg0.N) (j : S8x1024.Idx) (v78 : FVec Ideal S256x1024 .f32) (h : ∀ i k, v78 (ix2 i k) = dh (m ((c : Thread nD τ).loc main_arg0)) (m ((c : Thread nD τ).loc main_arg1)) (m ((c : Thread nD τ).loc main_arg2)) (m ((c : Thread nD τ).loc main_arg3)) (m ((c : Thread nD τ).loc main_arg4)) (tok t i) k) :
    k0_pay3 v78 (k0_pay25 (iblk m c 3 t)) j = if (j 0).val < 1 then ∑ i : Fin 256, gain m c (tok t i) (j 1) else 0 :=
  stK _ _ j (fun i => row (m ((c : Thread nD τ).loc main_arg0)) (tok t i)) (fun i => dh (m ((c : Thread nD τ).loc main_arg0)) (m ((c : Thread nD τ).loc main_arg1)) (m ((c : Thread nD τ).loc main_arg2)) (m ((c : Thread nD τ).loc main_arg3)) (m ((c : Thread nD τ).loc main_arg4)) (tok t i)) (fun i k => in3 m c t i k _ rfl) h

theorem outG (c : Dev nD) : (dats m 0 c).arrAt 11 (cfgs 0).N
    = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 11 t0_15 (by decide +kernel) _ fun j => ?_
  obtain ⟨r, d, rfl⟩ : ∃ (r : Fin 8) (d : Fin 1024), j = ix2 r d := ⟨j 0, j 1, eq_ix2 j⟩
  refine Eq.trans ?_ (stR _ _ _ _ _ r d).symm
  blk_simp
  rw [after0_11, Pipeline.eq_sum_fin_of_reset_step_apply_last (fun n h => (outsAt0 m c n h).2.2.2.2) 16 (fun _ => 0)
    (fun p j => if (j 0).val < 1 then ∑ i : Fin 256, gain m c (tok p i) (j 1) else 0)
    (fun t h j => by
      have ht : t.val < 16 := lt_of_lt_of_eq t.isLt N_0
      rw [outsAt0_A m c t h (by omega)]; frame_out
      refine (stB m c t j _ fun i k => dhB m c t i _ rfl _ _ _ _ _ _ _ _ _ _ _ _ ?_ ?_ ?_ ?_ ?_ ?_ ?_ ?_ ?_ ?_ ?_ ?_ k).trans (zero_add _).symm
      all_goals (intros; pointwise))
    (fun t h j => by
      rw [outsAt0_B m c t h (by omega)]; frame_out
      pointwise [k0_pay4]
      refine (congrArg (fun x : EReal => (((outsAt0 m c (t.val - 1) (Nat.lt_of_le_of_lt (Nat.sub_le _ 1) t.isLt)).2.2.2.2 j : EReal) + x : EReal)) (stB m c t j _ fun i k => dhB m c t i _ rfl _ _ _ _ _ _ _ _ _ _ _ _ ?_ ?_ ?_ ?_ ?_ ?_ ?_ ?_ ?_ ?_ ?_ ?_ k))
      all_goals (intros; pointwise))
    (le_of_eq N_0) t0_15 rfl (ix2 r d), zero_add]
  show (∑ p : Fin cfg0.N, if r.val < 1 then ∑ i : Fin 256, gain m c (tok p i) d else 0 : EReal) = _
  split_ifs
  · exact Fin.sum_mul_add_congr fun p i hl => rfl
  · exact Finset.sum_const_zero

end Cert.MlpKernelIdeal.Val

end
-- ==== Proof.Mlp.lean ====
module

public import proofs.«01_k».proof.Defs
public import proofs.«01_k».proof.Proof.Gen.MlpReferenceIdeal.Run
public import proofs.«01_k».proof.Proof.MlpValue

@[expose] public section

noncomputable section

open Idealize.ShloMosaic Idealize.SL.Sem

namespace Cert.Mlp

/-- Of finite arguments, every entry is a real number. -/
theorem real [Cert.Pre_finite_mlp.Facts] (m : (ℓ : Loc Cert.MlpKernelIdeal.nD Cert.MlpKernelIdeal.τ Cert.MlpKernelIdeal.sig) → Buf (Elt Ideal) ℓ)
    (hp : Cert.Pre_MlpKernelIdeal_finite_mlp m) (c : Dev Cert.MlpKernelIdeal.nD) : Cert.MlpKernelIdeal.Val.Real m c := by
  obtain ⟨h0, h1, h2, h3, h4⟩ := hp c
  exact ⟨fun i => Norm.real_of_finite (congrFun h0 i), fun i => Norm.real_of_finite (congrFun h1 i), fun i => Norm.real_of_finite (congrFun h2 i), fun i => Norm.real_of_finite (congrFun h3 i), fun i => Norm.real_of_finite (congrFun h4 i)⟩

/-- Of finite arguments, the kernel of the two-layer perceptron's gradient computes what the reference computes. -/
theorem algebraic [Cert.Pre_finite_mlp.Facts] : Cert.algebraic_MlpKernelIdeal_MlpReferenceIdeal_pre_finite_mlp := by
  intro m g m' g' hp h
  refine ⟨fun c => (Cert.MlpKernelIdeal.Gen.dats m 0 c).arrAt 7 (Cert.MlpKernelIdeal.cfgs 0).N, fun c => (Cert.MlpKernelIdeal.Gen.dats m 0 c).arrAt 8 (Cert.MlpKernelIdeal.cfgs 0).N, fun c => (Cert.MlpKernelIdeal.Gen.dats m 0 c).arrAt 9 (Cert.MlpKernelIdeal.cfgs 0).N, fun c => (Cert.MlpKernelIdeal.Gen.dats m 0 c).arrAt 10 (Cert.MlpKernelIdeal.cfgs 0).N, fun c => (Cert.MlpKernelIdeal.Gen.dats m 0 c).arrAt 11 (Cert.MlpKernelIdeal.cfgs 0).N,
    (θ_run _ _ _).mono (fun r hr c => hr c) (Cert.MlpKernelIdeal.Value.run_blocks m g),
    (θ_run _ _ _).mono (fun r hr c => ?_) (Cert.MlpReferenceIdeal.Value.run m' g')⟩
  obtain ⟨h0, h1, h2, h3, h4⟩ := h c
  obtain ⟨r0, r1, r2, r3, r4, ra⟩ := hr c
  refine ⟨r0.trans ?_, r1.trans ?_, r2.trans ?_, r3.trans ?_, r4.trans ?_, ra⟩
  · refine (Cert.MlpReferenceIdeal.Read.val_main_v90_eq _ _ _ _ _).trans ?_
    rewrite [h0, h1, h2, h3, h4]
    exact (Cert.MlpKernelIdeal.Val.outA m c).symm
  · refine (Cert.MlpReferenceIdeal.Read.val_main_v92_eq _ _ _).trans ?_
    rewrite [h0, h1, h2]
    exact (Cert.MlpKernelIdeal.Val.outU m c).symm
  · refine (Cert.MlpReferenceIdeal.Read.val_main_v93_eq _ _).trans ?_
    rewrite [h0, h1, h2, h3, h4]
    exact (Cert.MlpKernelIdeal.Val.outX m c (real m hp c)).symm
  · refine (Cert.MlpReferenceIdeal.Read.val_main_v95_eq _ _).trans ?_
    rewrite [h0, h1, h2, h3, h4]
    exact (Cert.MlpKernelIdeal.Val.outXb m c (real m hp c)).symm
  · refine (Cert.MlpReferenceIdeal.Read.val_main_v97_eq _ _ _ _ _).trans ?_
    rewrite [h0, h1, h2, h3, h4]
    exact (Cert.MlpKernelIdeal.Val.outG m c).symm

/-- The reference terminates, leaves its arguments as they were and has no semaphore. -/
theorem frameReference : Cert.quiescent_MlpReferenceIdeal := by
  intro m ρ _
  exact (θ_run _ _ _).mono (fun r h => ⟨fun c => (h c).2.2.2.2.2, sem_eq_zero_of_no_sems (by decide) r.2⟩)
    (Cert.MlpReferenceIdeal.Value.run m ρ)

end Cert.Mlp

end
-- ==== Proof.LossValue.lean ====
module

public import proofs.«01_k».proof.Proof.Gen.LossKernelIdeal.Value
public import proofs.«01_k».proof.Proof.Gen.LossReferenceIdeal.Read
public import proofs.«01_k».proof.Proof.Common
public import proofs.«01_k».proof.Proof.Norm

@[expose] public section

set_option maxRecDepth 16384
set_option maxHeartbeats 1000000

noncomputable section

open Idealize.ShloMosaic Idealize.ShloMosaic.TcCoe Idealize.SL.Sem
open Idealize.ShloMosaic.Pipeline (Dat)

namespace Cert.LossKernelIdeal.Val

open Cert.LossKernelIdeal Cert.LossKernelIdeal.Gen
open Cert.LossReferenceIdeal.Read

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

/-- A token's row. -/
def row (X0 : FVec Ideal S1x4096x1024 .f32) (j : Fin 4096) (k : Fin 1024) : EReal := X0 (ix3 0 j k)

/-- A token's normalized row. -/
def hf (X0 : FVec Ideal S1x4096x1024 .f32) (X1 : FVec Ideal S1x1024 .f32) (j : Fin 4096) (k : Fin 1024) : EReal := row X0 j k * Norm.rinv (row X0 j) * X1 (ix2 0 k)

/-- A token's pre-activation. -/
def pre (X0 : FVec Ideal S1x4096x1024 .f32) (X1 : FVec Ideal S1x1024 .f32) (X3 : FVec Ideal S1x1024x4096 .f32) (j f : Fin 4096) : EReal := ∑ k : Fin 1024, hf X0 X1 j k * X3 (ix3 0 k f)

/-- A token's row after the two-layer perceptron. -/
def out (X0 : FVec Ideal S1x4096x1024 .f32) (X1 : FVec Ideal S1x1024 .f32) (X3 : FVec Ideal S1x1024x4096 .f32) (X4 : FVec Ideal S1x4096x1024 .f32) (j : Fin 4096) (d : Fin 1024) : EReal :=
  row X0 j d + ∑ f : Fin 4096, max (pre X0 X1 X3 j f) 0 * max (pre X0 X1 X3 j f) 0 * X4 (ix3 0 f d)

/-- The normalized row of `x` under the gain `g` less the target `y`. -/
def err (x g y : Fin 1024 → EReal) (d : Fin 1024) : EReal := x d * Norm.rinv x * g d - y d

/-- The error's gradient. -/
def dy (x g y : Fin 1024 → EReal) (d : Fin 1024) : EReal := err x g y d * Ideal.ofBits .f32 981467136#32

/-- A token's share of the loss, before the half. -/
def loss (x g y : Fin 1024 → EReal) : EReal := (∑ d, err x g y d * err x g y d) * Ideal.ofBits .f32 981467136#32

theorem hfR (X0 : FVec Ideal S1x4096x1024 .f32) (X1 : FVec Ideal S1x1024 .f32) (i : Fin 4096) (d : Fin 1024) : val_main_v13 (F := Ideal) X0 X1 (ix3 0 i d) = hf X0 X1 i d := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_call0_cst, val_main_call0_v0, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, Common.hostReduceAdd_leading, Common.hostReduceAdd_outer]
  rfl

theorem preR (X0 : FVec Ideal S1x4096x1024 .f32) (X1 : FVec Ideal S1x1024 .f32) (X3 : FVec Ideal S1x1024x4096 .f32) (i f : Fin 4096) : val_main_v15 (F := Ideal) X0 X1 X3 (ix3 0 i f) = pre X0 X1 X3 i f := by
  pointwise [val_main_cst, val_main_cst_0, val_main_cst_1, val_main_v14, val_main_v15, val_main_call0_cst, val_main_call0_v0, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, Common.hostReduceAdd_leading, Common.hostReduceAdd_outer]
  simp only [hfR]
  rfl

theorem outR (X0 : FVec Ideal S1x4096x1024 .f32) (X1 : FVec Ideal S1x1024 .f32) (X3 : FVec Ideal S1x1024x4096 .f32) (X4 : FVec Ideal S1x4096x1024 .f32) (i : Fin 4096) (d : Fin 1024) : val_main_v20 (F := Ideal) X0 X1 X3 X4 (ix3 0 i d) = out X0 X1 X3 X4 i d := by
  pointwise [val_main_cst, val_main_cst_0, val_main_cst_1, val_main_call0_cst, val_main_call0_v0, val_main_v16, val_main_v17, val_main_v18, val_main_v19, val_main_v20, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, Common.hostReduceAdd_leading, Common.hostReduceAdd_outer]
  simp only [preR]
  rfl

theorem errR (X0 : FVec Ideal S1x4096x1024 .f32) (X1 : FVec Ideal S1x1024 .f32) (X2 : FVec Ideal S1024 .f32) (X3 : FVec Ideal S1x1024x4096 .f32) (X4 : FVec Ideal S1x4096x1024 .f32) (X5 : FVec Ideal S1x4096x1024 .f32) (i : Fin 4096) (d : Fin 1024) :
    val_main_v37 (F := Ideal) X0 X1 X2 X3 X4 X5 (ix3 0 i d) = err (out X0 X1 X3 X4 i) (fun k => X2 (ix1 k)) (row X5 i) d := by
  pointwise [val_main_cst, val_main_cst_0, val_main_cst_1, val_main_call0_cst, val_main_call0_v0, val_main_v21, val_main_cst_2, val_main_v22, val_main_v23, val_main_cst_3, val_main_v24, val_main_v25, val_main_cst_4, val_main_v26, val_main_v27, val_main_v28, val_main_v29, val_main_cst_5, val_main_v30, val_main_v31, val_main_v32, val_main_v33, val_main_v34, val_main_v35, val_main_v36, val_main_v37, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, Common.hostReduceAdd_leading, Common.hostReduceAdd_outer]
  simp only [outR]
  rfl

theorem dyR (X0 : FVec Ideal S1x4096x1024 .f32) (X1 : FVec Ideal S1x1024 .f32) (X2 : FVec Ideal S1024 .f32) (X3 : FVec Ideal S1x1024x4096 .f32) (X4 : FVec Ideal S1x4096x1024 .f32) (X5 : FVec Ideal S1x4096x1024 .f32) (i : Fin 4096) (d : Fin 1024) :
    val_main_v51 (F := Ideal) X0 X1 X2 X3 X4 X5 (ix3 0 i d) = dy (out X0 X1 X3 X4 i) (fun k => X2 (ix1 k)) (row X5 i) d := by
  pointwise [val_main_cst, val_main_cst_0, val_main_cst_1, val_main_call0_cst, val_main_call0_v0, val_main_cst_2, val_main_cst_3, val_main_cst_4, val_main_cst_5, val_main_v38, val_main_cst_6, val_main_v39, val_main_v40, val_main_cst_7, val_main_v41, val_main_cst_8, val_main_v42, val_main_v43, val_main_cst_9, val_main_v44, val_main_cst_10, val_main_v45, val_main_cst_11, val_main_cst_12, val_main_v46, val_main_v47, val_main_cst_13, val_main_v48, val_main_v49, val_main_v50, val_main_v51, val_main_cst_14, val_main_cst_15, val_main_cst_16, val_main_cst_17, val_main_cst_18, val_main_cst_19, Common.hostReduceAdd_leading, Common.hostReduceAdd_outer]
  simp only [errR]
  exact Norm.half_two _

theorem dxR (X0 : FVec Ideal S1x4096x1024 .f32) (X1 : FVec Ideal S1x1024 .f32) (X2 : FVec Ideal S1024 .f32) (X3 : FVec Ideal S1x1024x4096 .f32) (X4 : FVec Ideal S1x4096x1024 .f32) (X5 : FVec Ideal S1x4096x1024 .f32) (i : Fin 4096) (d : Fin 1024) (X G Y : Fin 1024 → EReal) (hX : out X0 X1 X3 X4 i = X) (hG : (fun k => X2 (ix1 k)) = G) (hY : row X5 i = Y) :
    val_main_v72 (F := Ideal) X0 X1 X2 X3 X4 X5 (ix3 0 i d)
      = dy X G Y d * G d * Norm.rinv X + X d * Norm.slope X (fun k => dy X G Y k * G k) + Norm.slope X (fun k => dy X G Y k * G k) * X d := by
  pointwise [val_main_cst, val_main_cst_0, val_main_cst_1, val_main_call0_cst, val_main_call0_v0, val_main_cst_2, val_main_cst_3, val_main_cst_4, val_main_cst_5, val_main_cst_6, val_main_cst_7, val_main_cst_8, val_main_cst_9, val_main_cst_10, val_main_cst_11, val_main_cst_12, val_main_cst_13, val_main_v52, val_main_cst_14, val_main_v53, val_main_v54, val_main_v55, val_main_v56, val_main_cst_15, val_main_v57, val_main_v58, val_main_cst_16, val_main_v59, val_main_v60, val_main_v61, val_main_v62, val_main_v63, val_main_cst_17, val_main_v64, val_main_v65, val_main_cst_18, val_main_v66, val_main_v67, val_main_v68, val_main_v69, val_main_v70, val_main_v71, val_main_v72, val_main_cst_19, Common.hostReduceAdd_leading, Common.hostReduceAdd_outer, val_main_cst, val_main_cst_0, val_main_cst_1, val_main_call0_cst, val_main_call0_v0, val_main_v21, val_main_cst_2, val_main_v22, val_main_v23, val_main_cst_3, val_main_v24, val_main_v25, val_main_cst_4, val_main_v26, val_main_v27, val_main_v28, val_main_v29, val_main_cst_5, val_main_v30, val_main_v31, val_main_v32, val_main_v33, val_main_v34, val_main_v35, val_main_v36, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, Common.hostReduceAdd_leading, Common.hostReduceAdd_outer]
  simp only [Fin.sum_univ_one, dyR, outR]
  subst hX hG hY
  rfl

theorem stR (X0 : FVec Ideal S1x4096x1024 .f32) (X1 : FVec Ideal S1x1024 .f32) (X2 : FVec Ideal S1024 .f32) (X3 : FVec Ideal S1x1024x4096 .f32) (X4 : FVec Ideal S1x4096x1024 .f32) (X5 : FVec Ideal S1x4096x1024 .f32) (r : Fin 8) (d : Fin 1024) :
    val_main_v76 (F := Ideal) X0 X1 X2 X3 X4 X5 (ix2 r d)
      = if r.val < 1 then ∑ i : Fin 4096, dy (out X0 X1 X3 X4 i) (fun k => X2 (ix1 k)) (row X5 i) d * (out X0 X1 X3 X4 i d * Norm.rinv (out X0 X1 X3 X4 i))
        else if r.val - 1 < 1 then Ideal.ofBits .f32 1056964608#32 * ∑ i : Fin 4096, Ideal.div (∑ k, err (out X0 X1 X3 X4 i) (fun k => X2 (ix1 k)) (row X5 i) k * err (out X0 X1 X3 X4 i) (fun k => X2 (ix1 k)) (row X5 i) k) (Ideal.ofBits .f32 1149239296#32) else 0 := by
  pointwise [val_main_cst, val_main_cst_0, val_main_cst_1, val_main_call0_cst, val_main_call0_v0, val_main_cst_2, val_main_cst_3, val_main_cst_4, val_main_cst_5, val_main_cst_6, val_main_cst_7, val_main_cst_8, val_main_cst_9, val_main_cst_10, val_main_cst_11, val_main_cst_12, val_main_cst_13, val_main_v52, val_main_cst_14, val_main_v53, val_main_v54, val_main_v55, val_main_v56, val_main_cst_15, val_main_v57, val_main_v58, val_main_cst_16, val_main_v59, val_main_v60, val_main_v61, val_main_v62, val_main_v63, val_main_cst_17, val_main_v64, val_main_v65, val_main_cst_18, val_main_v66, val_main_v67, val_main_v68, val_main_v69, val_main_v70, val_main_v71, val_main_v72, val_main_v73, val_main_v74, val_main_cst_19, val_main_v75, val_main_v76, Common.hostReduceAdd_leading, Common.hostReduceAdd_outer, val_main_cst, val_main_cst_0, val_main_cst_1, val_main_call0_cst, val_main_call0_v0, val_main_v21, val_main_cst_2, val_main_v22, val_main_v23, val_main_cst_3, val_main_v24, val_main_v25, val_main_cst_4, val_main_v26, val_main_v27, val_main_v28, val_main_v29, val_main_cst_5, val_main_v30, val_main_v31, val_main_v32, val_main_v33, val_main_v34, val_main_v35, val_main_v36, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, Common.hostReduceAdd_leading, Common.hostReduceAdd_outer, val_main_cst, val_main_cst_0, val_main_cst_1, val_main_call0_cst, val_main_call0_v0, val_main_cst_2, val_main_cst_3, val_main_cst_4, val_main_cst_5, val_main_v38, val_main_cst_6, val_main_v39, val_main_v40, val_main_cst_7, val_main_v41, val_main_cst_8, val_main_v42, val_main_v43, val_main_cst_9, val_main_v44, val_main_cst_10, val_main_v45, val_main_cst_11, val_main_cst_12, val_main_cst_13, val_main_cst_14, val_main_cst_15, val_main_cst_16, val_main_cst_17, val_main_cst_18, val_main_cst_19, Common.hostReduceAdd_leading, Common.hostReduceAdd_outer]
  simp only [Fin.sum_univ_one, dyR, outR, errR, dite_eq_ite]
  refine if_congr Iff.rfl (Fin.sum_fin_congr fun i => ?_) rfl
  exact mul_comm (G := EReal) _ _

theorem in0 (c : Dev nD) (t : Fin cfg0.N) (i : Fin 512) (k : Fin 1024) (j : Fin 4096) (hj : j.val = t.val * 512 + i.val) :
    iblk m c 0 t (ix2 i k) = m ((c : Thread nD τ).loc main_arg0) (ix3 0 j k) := by
  blk_point [iblk, V, idx t]

theorem in1 (c : Dev nD) (t : Fin cfg0.N) (k : Fin 1024) :
    iblk m c 1 t (ix2 0 k) = m ((c : Thread nD τ).loc main_arg1) (ix2 0 k) := by
  blk_point [iblk, V, idx t]

theorem in2 (c : Dev nD) (t : Fin cfg0.N) (k : Fin 1024) :
    iblk m c 2 t (ix2 0 k) = m ((c : Thread nD τ).loc main_arg2) (ix1 k) := by
  blk_point [iblk, V, idx t]

theorem in3 (c : Dev nD) (t : Fin cfg0.N) (q : Fin 4) (d : Fin 1024) (k : Fin 1024) (f : Fin 4096) (hf : f.val = q.val * 1024 + k.val) :
    iblk m c 3 t (ix3 q d k) = m ((c : Thread nD τ).loc main_arg3) (ix3 0 d f) := by
  blk_simp [iblk]
  entry_read
  pointwise
  blk_ext [idx t]

theorem in4 (c : Dev nD) (t : Fin cfg0.N) (q : Fin 4) (d : Fin 1024) (k : Fin 1024) (f : Fin 4096) (hf : f.val = q.val * 1024 + d.val) :
    iblk m c 4 t (ix3 q d k) = m ((c : Thread nD τ).loc main_arg4) (ix3 0 f k) := by
  blk_simp [iblk]
  entry_read
  pointwise
  blk_ext [idx t]

theorem in5 (c : Dev nD) (t : Fin cfg0.N) (i : Fin 512) (k : Fin 1024) (j : Fin 4096) (hj : j.val = t.val * 512 + i.val) :
    iblk m c 5 t (ix2 i k) = m ((c : Thread nD τ).loc main_arg5) (ix3 0 j k) := by
  blk_point [iblk, V, idx t]

theorem hfK (x0 : Vec Ideal S512x1024 .f32) (g1 : Vec Ideal S1x1024 .f32) (i : Fin 512) (d : Fin 1024) (X : Fin 1024 → EReal) (hX : ∀ k, x0 (ix2 i k) = X k) :
    k0_pay5 x0 g1 (ix2 i d) = X d * Norm.rinv X * g1 (ix2 0 d) := by
  pointwise [k0_pay5, k0_pay4]
  simp only [hX]
  rfl

theorem hfT (c : Dev nD) (t : Fin cfg0.N) (i : Fin 512) (j : Fin 4096) (hj : j.val = t.val * 512 + i.val) (d : Fin 1024) : k0_pay5 (iblk m c 0 t) (iblk m c 1 t) (ix2 i d) = hf (m ((c : Thread nD τ).loc main_arg0)) (m ((c : Thread nD τ).loc main_arg1)) j d :=
  (hfK _ _ i d (row (m ((c : Thread nD τ).loc main_arg0)) j) (fun k => in0 m c t i k j hj)).trans (congrArg (fun x : EReal => (row (m ((c : Thread nD τ).loc main_arg0)) j d * Norm.rinv (row (m ((c : Thread nD τ).loc main_arg0)) j) * x : EReal)) (in1 m c t d))

theorem aK0 (x0 : Vec Ideal S512x1024 .f32) (g1 : Vec Ideal S1x1024 .f32) (w : Vec Ideal S1x1024x1024 .bf16) (i : Fin 512) (k : Fin 1024) :
    k0_pay6 x0 g1 w (ix2 i k) = ∑ x, k0_pay5 x0 g1 (ix2 i x) * w (ix3 0 x k) := by
  pointwise [k0_pay6, k0_pay8, k0_pay9, k0_pay11]

theorem aT0 (c : Dev nD) (t : Fin cfg0.N) (i : Fin 512) (j : Fin 4096) (hj : j.val = t.val * 512 + i.val) (k : Fin 1024) (f : Fin 4096) (hf : f.val = 0 + k.val)
    (w : Vec Ideal S1x1024x1024 .bf16) (hw : ∀ x : Fin 1024, w (ix3 0 x k) = iblk m c 3 t (ix3 0 x k)) :
    k0_pay6 (iblk m c 0 t) (iblk m c 1 t) w (ix2 i k) = pre (m ((c : Thread nD τ).loc main_arg0)) (m ((c : Thread nD τ).loc main_arg1)) (m ((c : Thread nD τ).loc main_arg3)) j f := by
  refine (aK0 _ _ _ i k).trans (Fin.sum_fin_congr fun x => ?_)
  rw [hfT m c t i j hj, hw, in3 m c t 0 x k f (by simp; omega)]

theorem aK1 (x0 : Vec Ideal S512x1024 .f32) (g1 : Vec Ideal S1x1024 .f32) (w : Vec Ideal S1x1024x1024 .bf16) (i : Fin 512) (k : Fin 1024) :
    k0_pay8 x0 g1 w (ix2 i k) = ∑ x, k0_pay5 x0 g1 (ix2 i x) * w (ix3 0 x k) := by
  pointwise [k0_pay6, k0_pay8, k0_pay9, k0_pay11]

theorem aT1 (c : Dev nD) (t : Fin cfg0.N) (i : Fin 512) (j : Fin 4096) (hj : j.val = t.val * 512 + i.val) (k : Fin 1024) (f : Fin 4096) (hf : f.val = 1024 + k.val)
    (w : Vec Ideal S1x1024x1024 .bf16) (hw : ∀ x : Fin 1024, w (ix3 0 x k) = iblk m c 3 t (ix3 1 x k)) :
    k0_pay8 (iblk m c 0 t) (iblk m c 1 t) w (ix2 i k) = pre (m ((c : Thread nD τ).loc main_arg0)) (m ((c : Thread nD τ).loc main_arg1)) (m ((c : Thread nD τ).loc main_arg3)) j f := by
  refine (aK1 _ _ _ i k).trans (Fin.sum_fin_congr fun x => ?_)
  rw [hfT m c t i j hj, hw, in3 m c t 1 x k f (by simp; omega)]

theorem aK2 (x0 : Vec Ideal S512x1024 .f32) (g1 : Vec Ideal S1x1024 .f32) (w : Vec Ideal S1x1024x1024 .bf16) (i : Fin 512) (k : Fin 1024) :
    k0_pay9 (k0_pay5 x0 g1) w (ix2 i k) = ∑ x, k0_pay5 x0 g1 (ix2 i x) * w (ix3 0 x k) := by
  pointwise [k0_pay6, k0_pay8, k0_pay9, k0_pay11]

theorem aT2 (c : Dev nD) (t : Fin cfg0.N) (i : Fin 512) (j : Fin 4096) (hj : j.val = t.val * 512 + i.val) (k : Fin 1024) (f : Fin 4096) (hf : f.val = 2048 + k.val)
    (w : Vec Ideal S1x1024x1024 .bf16) (hw : ∀ x : Fin 1024, w (ix3 0 x k) = iblk m c 3 t (ix3 2 x k)) :
    k0_pay9 (k0_pay5 (iblk m c 0 t) (iblk m c 1 t)) w (ix2 i k) = pre (m ((c : Thread nD τ).loc main_arg0)) (m ((c : Thread nD τ).loc main_arg1)) (m ((c : Thread nD τ).loc main_arg3)) j f := by
  refine (aK2 _ _ _ i k).trans (Fin.sum_fin_congr fun x => ?_)
  rw [hfT m c t i j hj, hw, in3 m c t 2 x k f (by simp; omega)]

theorem aK3 (x0 : Vec Ideal S512x1024 .f32) (g1 : Vec Ideal S1x1024 .f32) (w : Vec Ideal S1x1024x1024 .bf16) (i : Fin 512) (k : Fin 1024) :
    k0_pay11 (k0_pay5 x0 g1) w (ix2 i k) = ∑ x, k0_pay5 x0 g1 (ix2 i x) * w (ix3 0 x k) := by
  pointwise [k0_pay6, k0_pay8, k0_pay9, k0_pay11]

theorem aT3 (c : Dev nD) (t : Fin cfg0.N) (i : Fin 512) (j : Fin 4096) (hj : j.val = t.val * 512 + i.val) (k : Fin 1024) (f : Fin 4096) (hf : f.val = 3072 + k.val)
    (w : Vec Ideal S1x1024x1024 .bf16) (hw : ∀ x : Fin 1024, w (ix3 0 x k) = iblk m c 3 t (ix3 3 x k)) :
    k0_pay11 (k0_pay5 (iblk m c 0 t) (iblk m c 1 t)) w (ix2 i k) = pre (m ((c : Thread nD τ).loc main_arg0)) (m ((c : Thread nD τ).loc main_arg1)) (m ((c : Thread nD τ).loc main_arg3)) j f := by
  refine (aK3 _ _ _ i k).trans (Fin.sum_fin_congr fun x => ?_)
  rw [hfT m c t i j hj, hw, in3 m c t 3 x k f (by simp; omega)]

theorem outK (x0 : Vec Ideal S512x1024 .f32) (g1 : Vec Ideal S1x1024 .f32) (w0 w1 w2 w3 z0 z1 z2 z3 : Vec Ideal S1x1024x1024 .bf16) (i : Fin 512) (d : Fin 1024) (Z Y : Fin 4096 → EReal)
    (h0 : ∀ k : Fin 1024, k0_pay6 x0 g1 w0 (ix2 i k) = Z ⟨0 + k, by omega⟩) (g0' : ∀ k : Fin 1024, z0 (ix3 0 k d) = Y ⟨0 + k, by omega⟩)
    (h1 : ∀ k : Fin 1024, k0_pay8 x0 g1 w1 (ix2 i k) = Z ⟨1024 + k, by omega⟩) (g1' : ∀ k : Fin 1024, z1 (ix3 0 k d) = Y ⟨1024 + k, by omega⟩)
    (h2 : ∀ k : Fin 1024, k0_pay9 (k0_pay5 x0 g1) w2 (ix2 i k) = Z ⟨2048 + k, by omega⟩) (g2' : ∀ k : Fin 1024, z2 (ix3 0 k d) = Y ⟨2048 + k, by omega⟩)
    (h3 : ∀ k : Fin 1024, k0_pay11 (k0_pay5 x0 g1) w3 (ix2 i k) = Z ⟨3072 + k, by omega⟩) (g3' : ∀ k : Fin 1024, z3 (ix3 0 k d) = Y ⟨3072 + k, by omega⟩) :
    k0_pay13 (k0_pay10 (k0_pay5 x0 g1) (k0_pay7 x0 g1 w0 z0) (k0_pay8 x0 g1 w1) z1 w2 z2) (k0_pay12 (k0_pay5 x0 g1) w3) z3 (ix2 i d) = x0 (ix2 i d) + ∑ f, max (Z f) 0 * max (Z f) 0 * Y f := by
  pointwise [k0_pay13, k0_pay10, k0_pay12, k0_pay7, k0_pay4]
  simp only [h0, h1, h2, h3, g0', g1', g2', g3']
  have a : ∀ x s0 s1 s2 s3 : EReal, x + s0 + s1 + s2 + s3 = x + (s0 + s1 + s2 + s3) := fun x s0 s1 s2 s3 => by simp only [add_assoc]
  refine (a _ _ _ _ _).trans (congrArg (fun s : EReal => (x0 (ix2 i d) + s : EReal)) ?_)
  exact Common.sum_quarters (b := 1024) rfl (fun e => max (Z e) 0 * max (Z e) 0 * Y e) _ _ _ _ (fun k => by simp only [Nat.zero_add]) (fun _ => rfl) (fun _ => rfl) (fun _ => rfl)

theorem outT (c : Dev nD) (t : Fin cfg0.N) (i : Fin 512) (j : Fin 4096) (hj : j.val = t.val * 512 + i.val) (w0 w1 w2 w3 z0 z1 z2 z3 : Vec Ideal S1x1024x1024 .bf16)
    (hw0 : ∀ x k : Fin 1024, w0 (ix3 0 x k) = iblk m c 3 t (ix3 0 x k)) (hz0 : ∀ k d : Fin 1024, z0 (ix3 0 k d) = iblk m c 4 t (ix3 0 k d))
    (hw1 : ∀ x k : Fin 1024, w1 (ix3 0 x k) = iblk m c 3 t (ix3 1 x k)) (hz1 : ∀ k d : Fin 1024, z1 (ix3 0 k d) = iblk m c 4 t (ix3 1 k d))
    (hw2 : ∀ x k : Fin 1024, w2 (ix3 0 x k) = iblk m c 3 t (ix3 2 x k)) (hz2 : ∀ k d : Fin 1024, z2 (ix3 0 k d) = iblk m c 4 t (ix3 2 k d))
    (hw3 : ∀ x k : Fin 1024, w3 (ix3 0 x k) = iblk m c 3 t (ix3 3 x k)) (hz3 : ∀ k d : Fin 1024, z3 (ix3 0 k d) = iblk m c 4 t (ix3 3 k d)) (d : Fin 1024) :
    k0_pay13 (k0_pay10 (k0_pay5 (iblk m c 0 t) (iblk m c 1 t)) (k0_pay7 (iblk m c 0 t) (iblk m c 1 t) w0 z0) (k0_pay8 (iblk m c 0 t) (iblk m c 1 t) w1) z1 w2 z2) (k0_pay12 (k0_pay5 (iblk m c 0 t) (iblk m c 1 t)) w3) z3 (ix2 i d) = out (m ((c : Thread nD τ).loc main_arg0)) (m ((c : Thread nD τ).loc main_arg1)) (m ((c : Thread nD τ).loc main_arg3)) (m ((c : Thread nD τ).loc main_arg4)) j d := by
  refine (outK _ _ _ _ _ _ _ _ _ _ i d (pre (m ((c : Thread nD τ).loc main_arg0)) (m ((c : Thread nD τ).loc main_arg1)) (m ((c : Thread nD τ).loc main_arg3)) j) (fun f => m ((c : Thread nD τ).loc main_arg4) (ix3 0 f d)) ?_ ?_ ?_ ?_ ?_ ?_ ?_ ?_).trans ?_
  · intro k; exact aT0 m c t i j hj k _ rfl _ (fun x => hw0 x k)
  · intro k; exact (hz0 k d).trans (in4 m c t 0 k d _ (by simp))
  · intro k; exact aT1 m c t i j hj k _ rfl _ (fun x => hw1 x k)
  · intro k; exact (hz1 k d).trans (in4 m c t 1 k d _ (by simp))
  · intro k; exact aT2 m c t i j hj k _ rfl _ (fun x => hw2 x k)
  · intro k; exact (hz2 k d).trans (in4 m c t 2 k d _ (by simp))
  · intro k; exact aT3 m c t i j hj k _ rfl _ (fun x => hw3 x k)
  · intro k; exact (hz3 k d).trans (in4 m c t 3 k d _ (by simp))
  · rw [in0 m c t i d j hj]; rfl

theorem dxK (v52 : FVec Ideal S512x1024 .f32) (v60 : FVec Ideal S512x1024 .bf16) (v61 : Vec Ideal S1x1024x1024 .bf16) (v65 : Vec Ideal S1x1024 .f32) (v79 : Vec Ideal S512x1024 .f32) (i : Fin 512) (d : Fin 1024) (X G Y : Fin 1024 → EReal)
    (hX : ∀ k, k0_pay13 v52 v60 v61 (ix2 i k) = X k) (hG : ∀ k, v65 (ix2 0 k) = G k) (hY : ∀ k, v79 (ix2 i k) = Y k) :
    k0_pay20 v52 v60 v61 v65 v79 (ix2 i d)
      = Norm.rinv X * (dy X G Y d * G d - X d * Norm.rinv X * Ideal.div (∑ k, dy X G Y k * G k * (X k * Norm.rinv X)) (Ideal.ofBits .f32 1149239296#32)) := by
  pointwise [k0_pay20, k0_pay19, k0_pay17, k0_pay16, k0_pay15, k0_pay14]
  simp only [hX, hG, hY]
  rfl

theorem stK (v52 : FVec Ideal S512x1024 .f32) (v60 : FVec Ideal S512x1024 .bf16) (v61 : Vec Ideal S1x1024x1024 .bf16) (v65 : Vec Ideal S1x1024 .f32) (v79 : Vec Ideal S512x1024 .f32) (j : S8x1024.Idx) (X Y : Fin 512 → Fin 1024 → EReal) (G : Fin 1024 → EReal)
    (hX : ∀ i k, k0_pay13 v52 v60 v61 (ix2 i k) = X i k) (hG : ∀ k, v65 (ix2 0 k) = G k) (hY : ∀ i k, v79 (ix2 i k) = Y i k) :
    k0_pay2 (k0_pay18 v52 v60 v61 v65 v79) (k0_pay21 v52 v60 v61 v65 v79) j
      = if (j 0).val < 1 then ∑ i : Fin 512, dy (X i) G (Y i) (j 1) * (X i (j 1) * Norm.rinv (X i))
        else if (j 0).val - 1 < 1 then Ideal.ofBits .f32 1056964608#32 * ∑ i : Fin 512, loss (X i) G (Y i) else 0 := by
  obtain ⟨r, d, rfl⟩ : ∃ (r : Fin 8) (d : Fin 1024), j = ix2 r d := ⟨j 0, j 1, eq_ix2 j⟩
  pointwise [k0_pay2, k0_pay18, k0_pay21, k0_pay19, k0_pay17, k0_pay16, k0_pay15, k0_pay14]
  simp only [hX, hG, hY, dite_eq_ite]
  rfl

/-- Every entry of every argument is a real number. -/
def Real (c : Dev nD) : Prop :=
  (∀ i, ∃ r : ℝ, (show EReal from m ((c : Thread nD τ).loc main_arg0) i) = r) ∧ (∀ i, ∃ r : ℝ, (show EReal from m ((c : Thread nD τ).loc main_arg1) i) = r) ∧ (∀ i, ∃ r : ℝ, (show EReal from m ((c : Thread nD τ).loc main_arg2) i) = r) ∧ (∀ i, ∃ r : ℝ, (show EReal from m ((c : Thread nD τ).loc main_arg3) i) = r) ∧ (∀ i, ∃ r : ℝ, (show EReal from m ((c : Thread nD τ).loc main_arg4) i) = r) ∧ (∀ i, ∃ r : ℝ, (show EReal from m ((c : Thread nD τ).loc main_arg5) i) = r)

theorem out_real (c : Dev nD) (h : Real m c) (j : Fin 4096) (d : Fin 1024) : ∃ r : ℝ, out (m ((c : Thread nD τ).loc main_arg0)) (m ((c : Thread nD τ).loc main_arg1)) (m ((c : Thread nD τ).loc main_arg3)) (m ((c : Thread nD τ).loc main_arg4)) j d = r := by
  obtain ⟨h0, h1, -, h3, h4, -⟩ := h
  have p : ∀ f, ∃ r : ℝ, max (pre (m ((c : Thread nD τ).loc main_arg0)) (m ((c : Thread nD τ).loc main_arg1)) (m ((c : Thread nD τ).loc main_arg3)) j f) 0 = r := fun f => Norm.real_max (Norm.real_sum _ _ fun k =>
    Norm.real_mul (Norm.real_mul (Norm.real_mul (h0 _) (Norm.rinv_real _ fun k => h0 _)) (h1 _)) (h3 _)) ⟨0, rfl⟩
  exact Norm.real_add (h0 _) (Norm.real_sum _ _ fun f => Norm.real_mul (Norm.real_mul (p f) (p f)) (h4 _))

theorem err_real (x g y : Fin 1024 → EReal) (hx : ∀ k, ∃ r : ℝ, x k = r) (hg : ∀ k, ∃ r : ℝ, g k = r) (hy : ∀ k, ∃ r : ℝ, y k = r) (d : Fin 1024) :
    ∃ r : ℝ, err x g y d = r :=
  Norm.real_sub (Norm.real_mul (Norm.real_mul (hx d) (Norm.rinv_real x hx)) (hg d)) (hy d)

/-- The gain of the final norm. -/
def gain (c : Dev nD) (k : Fin 1024) : EReal := m ((c : Thread nD τ).loc main_arg2) (ix1 k)

/-- A token's row before the final norm. -/
def X (c : Dev nD) (j : Fin 4096) : Fin 1024 → EReal := out (m ((c : Thread nD τ).loc main_arg0)) (m ((c : Thread nD τ).loc main_arg1)) (m ((c : Thread nD τ).loc main_arg3)) (m ((c : Thread nD τ).loc main_arg4)) j

/-- A token's target. -/
def Y (c : Dev nD) (j : Fin 4096) : Fin 1024 → EReal := row (m ((c : Thread nD τ).loc main_arg5)) j

theorem sq_real (c : Dev nD) (h : Real m c) (j : Fin 4096) : ∃ r : ℝ, ∑ k, err (X m c j) (gain m c) (Y m c j) k * err (X m c j) (gain m c) (Y m c j) k = r :=
  Norm.real_sum _ _ fun k => Norm.real_mul (err_real _ _ _ (out_real m c h j) (fun _ => h.2.2.1 _) (fun _ => h.2.2.2.2.2 _) k) (err_real _ _ _ (out_real m c h j) (fun _ => h.2.2.1 _) (fun _ => h.2.2.2.2.2 _) k)

theorem loss_real (c : Dev nD) (h : Real m c) (j : Fin 4096) : ∃ r : ℝ, loss (X m c j) (gain m c) (Y m c j) = r :=
  Norm.real_mul (sq_real m c h j) ⟨_, Norm.word_inv⟩

theorem dxG (c : Dev nD) (h : Real m c) (j : Fin 4096) (d : Fin 1024) :
    val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 0 j d)
      = Norm.rinv (X m c j) * (dy (X m c j) (gain m c) (Y m c j) d * gain m c d - X m c j d * Norm.rinv (X m c j)
        * Ideal.div (∑ k, dy (X m c j) (gain m c) (Y m c j) k * gain m c k * (X m c j k * Norm.rinv (X m c j))) (Ideal.ofBits .f32 1149239296#32)) := by
  refine (dxR _ _ _ _ _ _ j d (X m c j) (gain m c) (Y m c j) rfl rfl rfl).trans ?_
  have g := Norm.grad_eq 0 (X m c j) (fun k => dy (X m c j) (gain m c) (Y m c j) k * gain m c k) (out_real m c h j)
    (fun k => Norm.real_mul (Norm.real_mul (err_real _ _ _ (out_real m c h j) (fun _ => h.2.2.1 _) (fun _ => h.2.2.2.2.2 _) k) ⟨_, Norm.word_inv⟩) (h.2.2.1 _)) d
  simp only [zero_add] at g
  exact g

theorem outX (c : Dev nD) (h : Real m c) : (dats m 0 c).arrAt 8 (cfgs 0).N
    = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  obtain ⟨i, d, rfl⟩ : ∃ (i : Fin 512) (d : Fin 1024), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 8).blk t).view.emb (ix2 i d) = (ix2 j d : S4096x1024.Idx) := by blk_ext [idx t]
  refine Eq.trans ?_ (congrArg _ e).symm
  have r : val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 j d) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 0 j d) := by
    pointwise [val_main_cst, val_main_cst_0, val_main_cst_1, val_main_call0_cst, val_main_call0_v0, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_v73, val_main_v74, val_main_cst_19, val_main_v75, val_main_v76, val_main_v77, val_main_v78, val_main_v79, val_main_v80, val_main_v81, val_main_v82, Common.hostReduceAdd_leading, Common.hostReduceAdd_outer]
  refine Eq.trans ?_ (r.trans (dxG m c h j d)).symm
  rw [after0_8]
  by_cases h0 : t.val % 8 = 0
  · rw [outsAt0_A m c t h0 (by omega)]
    frame_out
    refine dxK _ _ _ _ _ i d (X m c j) (gain m c) (Y m c j) (fun k => outT m c t i j hj _ _ _ _ _ _ _ _ ?_ ?_ ?_ ?_ ?_ ?_ ?_ ?_ k) (fun k => in2 m c t k) (fun k => in5 m c t i k j hj)
    all_goals (intros; pointwise)
  · rw [outsAt0_B m c t h0 (by omega)]
    frame_out
    refine dxK _ _ _ _ _ i d (X m c j) (gain m c) (Y m c j) (fun k => outT m c t i j hj _ _ _ _ _ _ _ _ ?_ ?_ ?_ ?_ ?_ ?_ ?_ ?_ k) (fun k => in2 m c t k) (fun k => in5 m c t i k j hj)
    all_goals (intros; pointwise)

theorem outXb (c : Dev nD) (h : Real m c) : (dats m 0 c).arrAt 9 (cfgs 0).N
    = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  obtain ⟨i, d, rfl⟩ : ∃ (i : Fin 512) (d : Fin 1024), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 9).blk t).view.emb (ix2 i d) = (ix2 j d : S4096x1024.Idx) := by blk_ext [idx t]
  refine Eq.trans ?_ (congrArg _ e).symm
  have r : val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 j d) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 0 j d) := by
    pointwise [val_main_cst, val_main_cst_0, val_main_cst_1, val_main_call0_cst, val_main_call0_v0, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_v73, val_main_v74, val_main_cst_19, val_main_v75, val_main_v76, val_main_v77, val_main_v78, val_main_v79, val_main_v80, val_main_v81, val_main_v82, Common.hostReduceAdd_leading, Common.hostReduceAdd_outer]
  refine Eq.trans ?_ (r.trans (dxG m c h j d)).symm
  rw [after0_9]
  by_cases h0 : t.val % 8 = 0
  · rw [outsAt0_A m c t h0 (by omega)]
    frame_out
    pointwise [k0_pay1]
    refine dxK _ _ _ _ _ i d (X m c j) (gain m c) (Y m c j) (fun k => outT m c t i j hj _ _ _ _ _ _ _ _ ?_ ?_ ?_ ?_ ?_ ?_ ?_ ?_ k) (fun k => in2 m c t k) (fun k => in5 m c t i k j hj)
    all_goals (intros; pointwise)
  · rw [outsAt0_B m c t h0 (by omega)]
    frame_out
    pointwise [k0_pay1]
    refine dxK _ _ _ _ _ i d (X m c j) (gain m c) (Y m c j) (fun k => outT m c t i j hj _ _ _ _ _ _ _ _ ?_ ?_ ?_ ?_ ?_ ?_ ?_ ?_ k) (fun k => in2 m c t k) (fun k => in5 m c t i k j hj)
    all_goals (intros; pointwise)

theorem outH (c : Dev nD) : (dats m 0 c).arrAt 7 (cfgs 0).N
    = val_main_v79 (F := Ideal) (m ((c : Thread nD τ).loc main_arg0)) (m ((c : Thread nD τ).loc main_arg1)) := by
  refine (dats m 0 c).arrAt_eq_of_covers 7 _ (by decide +kernel) fun t _ y => ?_
  obtain ⟨i, d, rfl⟩ : ∃ (i : Fin 512) (d : Fin 1024), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 7).blk t).view.emb (ix2 i d) = (ix2 j d : S4096x1024.Idx) := by blk_ext [idx t]
  refine Eq.trans ?_ (congrArg _ e).symm
  have r : val_main_v79 (F := Ideal) (m ((c : Thread nD τ).loc main_arg0)) (m ((c : Thread nD τ).loc main_arg1)) (ix2 j d) = val_main_v13 (F := Ideal) (m ((c : Thread nD τ).loc main_arg0)) (m ((c : Thread nD τ).loc main_arg1)) (ix3 0 j d) := by
    pointwise [val_main_cst, val_main_cst_0, val_main_cst_1, val_main_call0_cst, val_main_call0_v0, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_v73, val_main_v74, val_main_cst_19, val_main_v75, val_main_v76, val_main_v77, val_main_v78, val_main_v79, val_main_v80, val_main_v81, val_main_v82, Common.hostReduceAdd_leading, Common.hostReduceAdd_outer]
  refine Eq.trans ?_ (r.trans (hfR _ _ j d)).symm
  rw [after0_7]
  by_cases h0 : t.val % 8 = 0
  · rw [outsAt0_A m c t h0 (by omega)]
    frame_out
    exact hfT m c t i j hj d
  · rw [outsAt0_B m c t h0 (by omega)]
    frame_out
    exact hfT m c t i j hj d

theorem at_lt {q : ℕ} (hq : q ≤ 3072) (x : Fin 1024) : q + x.val < 4096 := by omega

theorem outA (c : Dev nD) : (dats m 0 c).arrAt 6 (cfgs 0).N
    = val_main_v77 (F := Ideal) (m ((c : Thread nD τ).loc main_arg0)) (m ((c : Thread nD τ).loc main_arg1)) (m ((c : Thread nD τ).loc main_arg3)) := by
  refine (dats m 0 c).arrAt_eq_of_covers 6 _ (by decide +kernel) fun t _ y => ?_
  obtain ⟨i, f, rfl⟩ : ∃ (i : Fin 512) (f : Fin 4096), y = ix2 i f := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 6).blk t).view.emb (ix2 i f) = (ix2 j f : S4096x4096.Idx) := by blk_ext [idx t]
  refine Eq.trans ?_ (congrArg _ e).symm
  have r : val_main_v77 (F := Ideal) (m ((c : Thread nD τ).loc main_arg0)) (m ((c : Thread nD τ).loc main_arg1)) (m ((c : Thread nD τ).loc main_arg3)) (ix2 j f) = val_main_v15 (F := Ideal) (m ((c : Thread nD τ).loc main_arg0)) (m ((c : Thread nD τ).loc main_arg1)) (m ((c : Thread nD τ).loc main_arg3)) (ix3 0 j f) := by
    pointwise [val_main_cst, val_main_cst_0, val_main_cst_1, val_main_call0_cst, val_main_call0_v0, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_v73, val_main_v74, val_main_cst_19, val_main_v75, val_main_v76, val_main_v77, val_main_v78, val_main_v79, val_main_v80, val_main_v81, val_main_v82, Common.hostReduceAdd_leading, Common.hostReduceAdd_outer]
  refine Eq.trans ?_ (r.trans (preR _ _ _ j f)).symm
  rw [after0_6]
  by_cases h0 : t.val % 8 = 0
  · rw [outsAt0_A m c t h0 (by omega)]
    frame_out
    canon_tiles x h <;> idx_vars x
    · obtain rfl : i = x0 := Fin.ext (by assumption)
      obtain rfl : f = ⟨3072 + x1.val, at_lt (by decide) x1⟩ := Fin.ext (by assumption)
      refine aT3 m c t i j hj x1 _ rfl _ ?_
      intros; pointwise
    · obtain rfl : i = x0 := Fin.ext (by assumption)
      obtain rfl : f = ⟨2048 + x1.val, at_lt (by decide) x1⟩ := Fin.ext (by assumption)
      refine aT2 m c t i j hj x1 _ rfl _ ?_
      intros; pointwise
    · obtain rfl : i = x0 := Fin.ext (by assumption)
      obtain rfl : f = ⟨1024 + x1.val, at_lt (by decide) x1⟩ := Fin.ext (by assumption)
      refine aT1 m c t i j hj x1 _ rfl _ ?_
      intros; pointwise
    · obtain rfl : i = x0 := Fin.ext (by assumption)
      obtain rfl : f = ⟨x1.val, lt_trans x1.isLt (by decide)⟩ := Fin.ext (by assumption)
      refine aT0 m c t i j hj x1 _ (Nat.zero_add _).symm _ ?_
      intros; pointwise
  · rw [outsAt0_B m c t h0 (by omega)]
    frame_out
    canon_tiles x h <;> idx_vars x
    · obtain rfl : i = x0 := Fin.ext (by assumption)
      obtain rfl : f = ⟨3072 + x1.val, at_lt (by decide) x1⟩ := Fin.ext (by assumption)
      refine aT3 m c t i j hj x1 _ rfl _ ?_
      intros; pointwise
    · obtain rfl : i = x0 := Fin.ext (by assumption)
      obtain rfl : f = ⟨2048 + x1.val, at_lt (by decide) x1⟩ := Fin.ext (by assumption)
      refine aT2 m c t i j hj x1 _ rfl _ ?_
      intros; pointwise
    · obtain rfl : i = x0 := Fin.ext (by assumption)
      obtain rfl : f = ⟨1024 + x1.val, at_lt (by decide) x1⟩ := Fin.ext (by assumption)
      refine aT1 m c t i j hj x1 _ rfl _ ?_
      intros; pointwise
    · obtain rfl : i = x0 := Fin.ext (by assumption)
      obtain rfl : f = ⟨x1.val, lt_trans x1.isLt (by decide)⟩ := Fin.ext (by assumption)
      refine aT0 m c t i j hj x1 _ (Nat.zero_add _).symm _ ?_
      intros; pointwise

/-- A token of a tile. -/
def tok (t : Fin cfg0.N) (i : Fin 512) : Fin 4096 := ⟨t.val * 512 + i.val, by have : t.val < 8 := lt_of_lt_of_eq t.isLt N_0; omega⟩

theorem stB (c : Dev nD) (t : Fin cfg0.N) (j : S8x1024.Idx) (v52 : FVec Ideal S512x1024 .f32) (v60 : FVec Ideal S512x1024 .bf16) (v61 : Vec Ideal S1x1024x1024 .bf16) (h : ∀ i k, k0_pay13 v52 v60 v61 (ix2 i k) = X m c (tok t i) k) :
    k0_pay2 (k0_pay18 v52 v60 v61 (iblk m c 2 t) (iblk m c 5 t)) (k0_pay21 v52 v60 v61 (iblk m c 2 t) (iblk m c 5 t)) j
      = if (j 0).val < 1 then ∑ i : Fin 512, dy (X m c (tok t i)) (gain m c) (Y m c (tok t i)) (j 1) * (X m c (tok t i) (j 1) * Norm.rinv (X m c (tok t i))) else if (j 0).val - 1 < 1 then Ideal.ofBits .f32 1056964608#32 * ∑ i : Fin 512, loss (X m c (tok t i)) (gain m c) (Y m c (tok t i)) else 0 :=
  stK _ _ _ _ _ j (fun i => X m c (tok t i)) (fun i => Y m c (tok t i)) (gain m c) h (fun k => in2 m c t k) (fun i k => in5 m c t i k _ rfl)

theorem outG (c : Dev nD) (h : Real m c) : (dats m 0 c).arrAt 10 (cfgs 0).N
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_7 (by decide +kernel) _ fun j => ?_
  obtain ⟨r, d, rfl⟩ : ∃ (r : Fin 8) (d : Fin 1024), j = ix2 r d := ⟨j 0, j 1, eq_ix2 j⟩
  refine Eq.trans ?_ (stR _ _ _ _ _ _ r d).symm
  blk_simp
  rw [after0_10, Pipeline.eq_sum_fin_of_reset_step_apply_last (fun n h => (outsAt0 m c n h).2.2.2.2) 8 (fun _ => 0)
    (fun p j => if (j 0).val < 1 then ∑ i : Fin 512, dy (X m c (tok p i)) (gain m c) (Y m c (tok p i)) (j 1) * (X m c (tok p i) (j 1) * Norm.rinv (X m c (tok p i))) else if (j 0).val - 1 < 1 then Ideal.ofBits .f32 1056964608#32 * ∑ i : Fin 512, loss (X m c (tok p i)) (gain m c) (Y m c (tok p i)) else 0)
    (fun t h j => by
      have ht : t.val < 8 := lt_of_lt_of_eq t.isLt N_0
      rw [outsAt0_A m c t h (by omega)]; frame_out
      refine (stB m c t j _ _ _ fun i k => outT m c t i _ rfl _ _ _ _ _ _ _ _ ?_ ?_ ?_ ?_ ?_ ?_ ?_ ?_ k).trans (zero_add _).symm
      all_goals (intros; pointwise))
    (fun t h j => by
      rw [outsAt0_B m c t h (by omega)]; frame_out
      pointwise [k0_pay3]
      refine (congrArg (fun x : EReal => (((outsAt0 m c (t.val - 1) (Nat.lt_of_le_of_lt (Nat.sub_le _ 1) t.isLt)).2.2.2.2 j : EReal) + x : EReal)) (stB m c t j _ _ _ fun i k => outT m c t i _ rfl _ _ _ _ _ _ _ _ ?_ ?_ ?_ ?_ ?_ ?_ ?_ ?_ k))
      all_goals (intros; pointwise))
    (le_of_eq N_0) t0_7 rfl (ix2 r d), zero_add]
  show (∑ p : Fin cfg0.N, if r.val < 1 then ∑ i : Fin 512, dy (X m c (tok p i)) (gain m c) (Y m c (tok p i)) d * (X m c (tok p i) d * Norm.rinv (X m c (tok p i))) else if r.val - 1 < 1 then Ideal.ofBits .f32 1056964608#32 * ∑ i : Fin 512, loss (X m c (tok p i)) (gain m c) (Y m c (tok p i)) else 0 : EReal) = _
  split_ifs
  · exact Fin.sum_mul_add_congr fun p i hl => rfl
  · rw [Norm.word_half, Norm.mul_sum _ _ _ fun p => Norm.real_sum _ _ fun i => loss_real m c h _]
    refine congrArg (fun x : EReal => (((1 / 2 : ℝ) : EReal) * x : EReal)) ?_
    refine (Fin.sum_mul_add_congr fun p i hl => ?_ : _ = ∑ j : Fin 4096, loss (X m c j) (gain m c) (Y m c j)).trans (Fin.sum_fin_congr fun j => (Norm.div_inv (sq_real m c h j)).symm)
    rfl
  · exact Finset.sum_const_zero

end Cert.LossKernelIdeal.Val

end
-- ==== Proof.Loss.lean ====
module

public import proofs.«01_k».proof.Defs
public import proofs.«01_k».proof.Proof.Gen.LossReferenceIdeal.Run
public import proofs.«01_k».proof.Proof.LossValue

@[expose] public section

noncomputable section

open Idealize.ShloMosaic Idealize.SL.Sem

namespace Cert.Loss

/-- Of finite arguments, every entry is a real number. -/
theorem real [Cert.Pre_finite_loss.Facts] (m : (ℓ : Loc Cert.LossKernelIdeal.nD Cert.LossKernelIdeal.τ Cert.LossKernelIdeal.sig) → Buf (Elt Ideal) ℓ)
    (hp : Cert.Pre_LossKernelIdeal_finite_loss m) (c : Dev Cert.LossKernelIdeal.nD) : Cert.LossKernelIdeal.Val.Real m c := by
  obtain ⟨h0, h1, h2, h3, h4, h5⟩ := hp c
  exact ⟨fun i => Norm.real_of_finite (congrFun h0 i), fun i => Norm.real_of_finite (congrFun h1 i), fun i => Norm.real_of_finite (congrFun h2 i), fun i => Norm.real_of_finite (congrFun h3 i), fun i => Norm.real_of_finite (congrFun h4 i), fun i => Norm.real_of_finite (congrFun h5 i)⟩

/-- Of finite arguments, the kernel of the perceptron's forward pass with the loss and its gradient computes what the reference computes. -/
theorem algebraic [Cert.Pre_finite_loss.Facts] : Cert.algebraic_LossKernelIdeal_LossReferenceIdeal_pre_finite_loss := by
  intro m g m' g' hp h
  refine ⟨fun c => (Cert.LossKernelIdeal.Gen.dats m 0 c).arrAt 6 (Cert.LossKernelIdeal.cfgs 0).N, fun c => (Cert.LossKernelIdeal.Gen.dats m 0 c).arrAt 7 (Cert.LossKernelIdeal.cfgs 0).N, fun c => (Cert.LossKernelIdeal.Gen.dats m 0 c).arrAt 8 (Cert.LossKernelIdeal.cfgs 0).N, fun c => (Cert.LossKernelIdeal.Gen.dats m 0 c).arrAt 9 (Cert.LossKernelIdeal.cfgs 0).N, fun c => (Cert.LossKernelIdeal.Gen.dats m 0 c).arrAt 10 (Cert.LossKernelIdeal.cfgs 0).N,
    (θ_run _ _ _).mono (fun r hr c => hr c) (Cert.LossKernelIdeal.Value.run_blocks m g),
    (θ_run _ _ _).mono (fun r hr c => ?_) (Cert.LossReferenceIdeal.Value.run m' g')⟩
  obtain ⟨h0, h1, h2, h3, h4, h5⟩ := h c
  obtain ⟨r0, r1, r2, r3, r4, ra⟩ := hr c
  refine ⟨r0.trans ?_, r1.trans ?_, r2.trans ?_, r3.trans ?_, r4.trans ?_, ra⟩
  · refine (Cert.LossReferenceIdeal.Read.val_main_v77_eq _ _ _).trans ?_
    rewrite [h0, h1, h3]
    exact (Cert.LossKernelIdeal.Val.outA m c).symm
  · refine (Cert.LossReferenceIdeal.Read.val_main_v79_eq _ _).trans ?_
    rewrite [h0, h1]
    exact (Cert.LossKernelIdeal.Val.outH m c).symm
  · refine (Cert.LossReferenceIdeal.Read.val_main_v80_eq _ _).trans ?_
    rewrite [h0, h1, h2, h3, h4, h5]
    exact (Cert.LossKernelIdeal.Val.outX m c (real m hp c)).symm
  · refine (Cert.LossReferenceIdeal.Read.val_main_v82_eq _ _).trans ?_
    rewrite [h0, h1, h2, h3, h4, h5]
    exact (Cert.LossKernelIdeal.Val.outXb m c (real m hp c)).symm
  · refine (Cert.LossReferenceIdeal.Read.val_main_v76_eq _ _).trans ?_
    rewrite [h0, h1, h2, h3, h4, h5]
    exact (Cert.LossKernelIdeal.Val.outG m c (real m hp c)).symm

/-- The reference terminates, leaves its arguments as they were and has no semaphore. -/
theorem frameReference : Cert.quiescent_LossReferenceIdeal := by
  intro m ρ _
  exact (θ_run _ _ _).mono (fun r h => ⟨fun c => (h c).2.2.2.2.2, sem_eq_zero_of_no_sems (by decide) r.2⟩)
    (Cert.LossReferenceIdeal.Value.run m ρ)

end Cert.Loss

end
-- ==== Proof.Attn.lean ====
module

public import proofs.«01_k».proof.Proof.Norm

@[expose] public section

noncomputable section

open Idealize.ShloMosaic

namespace Cert.Attn

/-- A query's scores against the keys of its head. -/
def score (q : Fin 256 → EReal) (K : Fin 256 → Fin 256 → EReal) (k : Fin 256) : EReal :=
  (∑ e, q e * K k e) * Ideal.ofBits .f32 1031798784#32

/-- The largest score. -/
def top (s : Fin 256 → EReal) : EReal := Finset.univ.fold max (Ideal.ofBits .f32 4286578688#32) s

/-- The exponential of a score less the largest. -/
def ex (s : Fin 256 → EReal) (k : Fin 256) : EReal := Ideal.exp (s k - top s)

/-- A score's probability. -/
def prob (s : Fin 256 → EReal) (k : Fin 256) : EReal := Ideal.div (ex s k) (∑ l, ex s l)

/-- The gradient of a score from the gradients of the probabilities. -/
def dscore (s dp : Fin 256 → EReal) (k : Fin 256) : EReal :=
  prob s k * (dp k - ∑ l, dp l * prob s l) * Ideal.ofBits .f32 1031798784#32

theorem word_bot : Ideal.ofBits .f32 4286578688#32 = ⊥ := by simp [Ideal.ofBits, Ideal.ieee]

theorem word_16 : Ideal.ofBits .f32 1031798784#32 = ((1 / 16 : ℝ) : EReal) := by
  simp [Ideal.ofBits, Ideal.ieee]
  rw [← EReal.coe_mul]; norm_num

theorem max_top (s : Fin 256 → EReal) : max (Ideal.ofBits .f32 4286578688#32) (top s) = top s := by
  rw [word_bot]; exact max_eq_right bot_le

theorem top_real (s : Fin 256 → EReal) (h : ∀ k, ∃ r : ℝ, s k = r) : ∃ r : ℝ, top s = r := by
  have hb : ⊥ < top s := by
    unfold top
    rw [Finset.lt_fold_max]
    obtain ⟨r, hr⟩ := h 0
    exact Or.inr ⟨0, Finset.mem_univ _, by rw [hr]; exact EReal.bot_lt_coe r⟩
  have ht : top s < ⊤ := by
    unfold top
    rw [Finset.fold_max_lt, word_bot]
    refine ⟨bot_lt_top, fun k _ => ?_⟩
    obtain ⟨r, hr⟩ := h k
    rw [hr]; exact EReal.coe_lt_top r
  exact ⟨(top s).toReal, (EReal.coe_toReal ht.ne hb.ne').symm⟩

theorem ex_real (s : Fin 256 → EReal) (h : ∀ k, ∃ r : ℝ, s k = r) : ∃ E : Fin 256 → ℝ, (∀ k, 0 < E k) ∧ ∀ k, ex s k = E k := by
  obtain ⟨t, ht⟩ := top_real s h
  choose S hS using h
  refine ⟨fun k => Real.exp (S k - t), fun k => Real.exp_pos _, fun k => ?_⟩
  unfold ex
  rw [ht, hS, ← EReal.coe_sub]
  rfl

theorem prob_eq (s : Fin 256 → EReal) (h : ∀ k, ∃ r : ℝ, s k = r) :
    ∃ (E : Fin 256 → ℝ) (D : ℝ), 0 < D ∧ (∀ k, ex s k = E k) ∧ ∑ l, ex s l = D ∧ ∀ k, prob s k = ((E k / D : ℝ) : EReal) := by
  obtain ⟨E, hE, he⟩ := ex_real s h
  have hD : 0 < ∑ k, E k := Finset.sum_pos (fun k _ => hE k) ⟨0, Finset.mem_univ _⟩
  have hs : ∑ l, ex s l = ((∑ k, E k : ℝ) : EReal) := by simp only [he, Norm.coe_sum]
  refine ⟨E, _, hD, he, hs, fun k => ?_⟩
  unfold prob
  rw [hs, he, Norm.div_real _ hD.ne']

theorem score_real (q : Fin 256 → EReal) (K : Fin 256 → Fin 256 → EReal) (hq : ∀ e, ∃ r : ℝ, q e = r) (hK : ∀ k e, ∃ r : ℝ, K k e = r) (k : Fin 256) :
    ∃ r : ℝ, score q K k = r :=
  Norm.real_mul (Norm.real_sum _ _ fun e => Norm.real_mul (hq e) (hK k e)) ⟨_, word_16⟩

theorem dscore_real (s dp : Fin 256 → EReal) (h : ∀ k, ∃ r : ℝ, s k = r) (hd : ∀ k, ∃ r : ℝ, dp k = r) (k : Fin 256) : ∃ r : ℝ, dscore s dp k = r := by
  obtain ⟨E, D, -, -, -, hp⟩ := prob_eq s h
  exact Norm.real_mul (Norm.real_mul ⟨_, hp k⟩ (Norm.real_sub (hd k) (Norm.real_sum _ _ fun l => Norm.real_mul (hd l) ⟨_, hp l⟩))) ⟨_, word_16⟩

/-- The gradient through the quotient of the exponentials by their sum is the gradient of the scores. -/
theorem dscore_eq (s dp : Fin 256 → EReal) (h : ∀ k, ∃ r : ℝ, s k = r) (hd : ∀ k, ∃ r : ℝ, dp k = r) (k : Fin 256) :
    (Ideal.div (dp k) (∑ l, ex s l) + -∑ l, dp l * Ideal.div 1 ((∑ l, ex s l) * ∑ l, ex s l) * ex s l) * ex s k * Ideal.ofBits .f32 1031798784#32
      = dscore s dp k := by
  obtain ⟨E, D, hD, he, hs, hp⟩ := prob_eq s h
  choose P hP using hd
  unfold dscore
  simp only [hp, hs]
  simp only [he, hP, word_16]
  rw [show (1 : EReal) = ((1 : ℝ) : EReal) from rfl]
  simp only [← EReal.coe_mul, Norm.div_real _ hD.ne', Norm.div_real _ (mul_pos hD hD).ne', Norm.coe_sum, ← EReal.coe_neg, ← EReal.coe_add, ← EReal.coe_sub]
  refine congrArg _ ?_
  have e : ∑ l, P l * (1 / (D * D)) * E l = (∑ l, P l * (E l / D)) / D := by
    rw [Finset.sum_div]; exact Finset.sum_congr rfl fun l _ => by field_simp
  rw [e]
  field_simp
  ring

end Cert.Attn

end
-- ==== Proof.XattnRef.lean ====
module

public import proofs.«01_k».proof.Proof.Gen.XattnKernelIdeal.Value
public import proofs.«01_k».proof.Proof.Gen.XattnReferenceIdeal.Read
public import proofs.«01_k».proof.Proof.Common
public import proofs.«01_k».proof.Proof.Norm
public import proofs.«01_k».proof.Proof.Attn
@[expose] public section

set_option maxRecDepth 16384
set_option maxHeartbeats 1000000

noncomputable section

open Idealize.ShloMosaic Idealize.ShloMosaic.TcCoe Idealize.SL.Sem
open Idealize.ShloMosaic.Pipeline (Dat)

namespace Cert.XattnKernelIdeal.Val

open Cert.XattnKernelIdeal Cert.XattnKernelIdeal.Gen
open Cert.XattnReferenceIdeal.Read

variable (m : (ℓ : Loc nD τ sig) → Buf (Elt Ideal) ℓ)

/-- The residual stream after the mixer. -/
def x1 (X0 : FVec Ideal Cert.XattnReferenceIdeal.S1x4096x1024 .f32) (X1 : FVec Ideal Cert.XattnReferenceIdeal.S1x4096x1024 .f32) (X2 : FVec Ideal Cert.XattnReferenceIdeal.S1x1024x1024 .f32) (j : Fin 4096) (d : Fin 1024) : EReal := X0 (ix3 0 j d) + ∑ k : Fin 1024, X1 (ix3 0 j k) * X2 (ix3 0 k d)

/-- A token's normalized row. -/
def hq (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (j : Fin 4096) (d : Fin 1024) : EReal := x1 X0 X1 X2 j d * Norm.rinv (x1 X0 X1 X2 j) * X3 (ix2 0 d)

/-- A token's query in a head. -/
def xq (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (j : Fin 4096) (h : Fin 4) (e : Fin 256) : EReal := ∑ d : Fin 1024, hq X0 X1 X2 X3 j d * X4 (ix4 0 d h e)

/-- A token's scores in a head. -/
def sc (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) (j : Fin 4096) (h : Fin 4) : Fin 256 → EReal := Attn.score (xq X0 X1 X2 X3 X4 j h) fun k e => X5 (ix4 0 k h e)

/-- The gradient of a token's attention. -/
def datt (X7 : FVec Ideal Cert.XattnReferenceIdeal.S1x4x256x1024 .f32) (X8 : FVec Ideal Cert.XattnReferenceIdeal.S1x4096x1024 .f32) (j : Fin 4096) (h : Fin 4) (e : Fin 256) : EReal := ∑ d : Fin 1024, X8 (ix3 0 j d) * X7 (ix4 0 h e d)

/-- The gradients of a token's probabilities in a head. -/
def dp (X6 : FVec Ideal Cert.XattnReferenceIdeal.S1x256x4x256 .f32) (X7 : FVec Ideal Cert.XattnReferenceIdeal.S1x4x256x1024 .f32) (X8 : FVec Ideal Cert.XattnReferenceIdeal.S1x4096x1024 .f32) (j : Fin 4096) (h : Fin 4) (k : Fin 256) : EReal := ∑ e : Fin 256, datt X7 X8 j h e * X6 (ix4 0 k h e)

theorem x1R (X0 : FVec Ideal Cert.XattnReferenceIdeal.S1x4096x1024 .f32) (X1 : FVec Ideal Cert.XattnReferenceIdeal.S1x4096x1024 .f32) (X2 : FVec Ideal Cert.XattnReferenceIdeal.S1x1024x1024 .f32) (j : Fin 4096) (d : Fin 1024) : val_main_v2 (F := Ideal) X0 X1 X2 (ix3 0 j d) = x1 X0 X1 X2 j d := by
  pointwise [val_main_v0, val_main_v1, val_main_v2, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  rfl

theorem hqR (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (j : Fin 4096) (d : Fin 1024) : val_main_v16 (F := Ideal) X0 X1 X2 X3 (ix3 0 j d) = hq X0 X1 X2 X3 j d := by
  pointwise [val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [x1R]
  rfl

theorem xqR (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (j : Fin 4096) (h : Fin 4) (e : Fin 256) : val_main_v18 (F := Ideal) X0 X1 X2 X3 X4 (ix4 0 j h e) = xq X0 X1 X2 X3 X4 j h e := by
  pointwise [val_main_cst, val_main_cst_0, val_main_cst_1, val_main_v17, val_main_v18, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [hqR]
  rfl

theorem scR (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) (j : Fin 4096) (h : Fin 4) (k : Fin 256) : val_main_v21 (F := Ideal) X0 X1 X2 X3 X4 X5 (ix4 0 h j k) = sc X0 X1 X2 X3 X4 X5 j h k := by
  pointwise [val_main_cst, val_main_cst_0, val_main_cst_1, val_main_v19, val_main_cst_2, val_main_v20, val_main_v21, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [xqR]
  rfl

theorem topR (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) (j : Fin 4096) (h : Fin 4) : val_main_v22 (F := Ideal) X0 X1 X2 X3 X4 X5 (ix3 0 h j) = Attn.top (sc X0 X1 X2 X3 X4 X5 j h) :=
  (Common.hostMax_last _ _ _ _ _).trans (congrArg (Finset.univ.fold max (Ideal.ofBits .f32 4286578688#32)) (funext fun k => scR X0 X1 X2 X3 X4 X5 j h k))

theorem exR (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) (j : Fin 4096) (h : Fin 4) (k : Fin 256) : val_main_v42 (F := Ideal) X0 X1 X2 X3 X4 X5 (ix4 0 h j k)
    = Attn.ex (sc X0 X1 X2 X3 X4 X5 j h) k := by
  have e : Attn.ex (sc X0 X1 X2 X3 X4 X5 j h) k = Ideal.exp (val_main_v21 (F := Ideal) X0 X1 X2 X3 X4 X5 (ix4 0 h j k) - max (Ideal.ofBits .f32 4286578688#32) (val_main_v22 (F := Ideal) X0 X1 X2 X3 X4 X5 (ix3 0 h j))) := by
    simp only [scR, topR, Attn.max_top]
    rfl
  refine Eq.trans ?_ e.symm
  rw [val_main_v42_apply, val_main_v41_apply, val_main_v40_apply, val_main_v39_apply, val_main_v29_apply, val_main_v28_apply, val_main_cst_5_apply]
  generalize val_main_v22 (F := Ideal) X0 X1 X2 X3 X4 X5 = y
  generalize val_main_v21 (F := Ideal) X0 X1 X2 X3 X4 X5 = z
  pointwise
  exact congrArg (fun i => Ideal.exp (z (ix4 0 h j k) - max (Ideal.ofBits .f32 4286578688#32) (y i))) (by
    funext a
    match a with
    | ⟨0, _⟩ => rfl
    | ⟨1, _⟩ => rfl
    | ⟨2, _⟩ => rfl)

theorem probR (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) (j : Fin 4096) (h : Fin 4) (k : Fin 256) : val_main_v46 (F := Ideal) X0 X1 X2 X3 X4 X5 (ix4 0 h j k) = Attn.prob (sc X0 X1 X2 X3 X4 X5 j h) k := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_v43, val_main_v44, val_main_v45, val_main_v46, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [exR]
  rfl

theorem dattR (X7 : FVec Ideal Cert.XattnReferenceIdeal.S1x4x256x1024 .f32) (X8 : FVec Ideal Cert.XattnReferenceIdeal.S1x4096x1024 .f32) (j : Fin 4096) (h : Fin 4) (e : Fin 256) : val_main_v55 (F := Ideal) X7 X8 (ix4 0 h e j) = datt X7 X8 j h e := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v52, val_main_v53, val_main_v54, val_main_v55, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  rfl

theorem dpR (X6 : FVec Ideal Cert.XattnReferenceIdeal.S1x256x4x256 .f32) (X7 : FVec Ideal Cert.XattnReferenceIdeal.S1x4x256x1024 .f32) (X8 : FVec Ideal Cert.XattnReferenceIdeal.S1x4096x1024 .f32) (j : Fin 4096) (h : Fin 4) (k : Fin 256) : val_main_v56 (F := Ideal) X6 X7 X8 (ix4 0 h j k) = dp X6 X7 X8 j h k := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v56, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [dattR]
  rfl

theorem dsR (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) (X6 : FVec Ideal Cert.XattnReferenceIdeal.S1x256x4x256 .f32) (X7 : FVec Ideal Cert.XattnReferenceIdeal.S1x4x256x1024 .f32) (X8 : FVec Ideal Cert.XattnReferenceIdeal.S1x4096x1024 .f32) (j : Fin 4096) (h : Fin 4) (k : Fin 256) : val_main_v73 (F := Ideal) X0 X1 X2 X3 X4 X5 X6 X7 X8 (ix4 0 h j k)
    = (Ideal.div (dp X6 X7 X8 j h k) (∑ l, Attn.ex (sc X0 X1 X2 X3 X4 X5 j h) l)
      + -∑ l, dp X6 X7 X8 j h l * Ideal.div 1 ((∑ l, Attn.ex (sc X0 X1 X2 X3 X4 X5 j h) l) * ∑ l, Attn.ex (sc X0 X1 X2 X3 X4 X5 j h) l) * Attn.ex (sc X0 X1 X2 X3 X4 X5 j h) l)
      * Attn.ex (sc X0 X1 X2 X3 X4 X5 j h) k * Ideal.ofBits .f32 1031798784#32 := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v57, val_main_v58, val_main_v59, val_main_v60, val_main_v61, val_main_cst_13, val_main_v62, val_main_v63, val_main_v64, val_main_v65, val_main_v66, val_main_cst_14, val_main_v67, val_main_v68, val_main_v69, val_main_v70, val_main_v71, val_main_cst_15, val_main_v72, val_main_v73, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_v43, val_main_v44, val_main_v45, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_v47, val_main_cst_12, val_main_v48, val_main_v49, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [Fin.sum_univ_one, exR, dpR]

theorem c80 (X0 : FVec Ideal Cert.XattnReferenceIdeal.S1x4096x1024 .f32) (X1 : FVec Ideal Cert.XattnReferenceIdeal.S1x4096x1024 .f32) (X2 : FVec Ideal Cert.XattnReferenceIdeal.S1x1024x1024 .f32) : val_main_v80 (F := Ideal) X0 X1 X2 = val_main_v2 (F := Ideal) X0 X1 X2 := rfl
theorem c94 (X0 : FVec Ideal Cert.XattnReferenceIdeal.S1x4096x1024 .f32) (X1 : FVec Ideal Cert.XattnReferenceIdeal.S1x4096x1024 .f32) (X2 : FVec Ideal Cert.XattnReferenceIdeal.S1x1024x1024 .f32) : val_main_v94 (F := Ideal) X0 X1 X2 = val_main_v13 (F := Ideal) X0 X1 X2 := rfl
theorem c123 (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) : val_main_v123 (F := Ideal) X0 X1 X2 X3 X4 X5 = val_main_v42 (F := Ideal) X0 X1 X2 X3 X4 X5 := rfl
theorem c125 (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) : val_main_v125 (F := Ideal) X0 X1 X2 X3 X4 X5 = val_main_v44 (F := Ideal) X0 X1 X2 X3 X4 X5 := rfl
theorem c130 (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) : val_main_v130 (F := Ideal) X0 X1 X2 X3 X4 X5 = val_main_v49 (F := Ideal) X0 X1 X2 X3 X4 X5 := rfl

/-- The head of a column. -/
def hd (d : Fin 1024) : Fin 4 := ⟨d.val / 256, by omega⟩

/-- A column's place in its head. -/
def lo (d : Fin 1024) : Fin 256 := ⟨d.val % 256, by omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0] ∧ win0_7.index t = ![0, 1, 0] ∧ win0_8.index t = ![0, 0, 0]
    ∧ win0_9.index t = ![t.val, 0] ∧ win0_10.index t = ![t.val, 0] ∧ win0_11.index t = ![t.val, 0] ∧ win0_12.index t = ![t.val, 0] ∧ win0_13.index t = ![0, 0] ∧ win0_14.index t = ![0, 0] ∧ win0_15.index t = ![0, 0] :=
  (by decide +kernel : ∀ t : Fin grid0.N, _)

theorem in0 (c : Dev nD) (t : Fin cfg0.N) (i : Fin 512) (k : Fin 1024) (j : Fin 4096) (hj : j.val = t.val * 512 + i.val) : iblk m c 0 t (ix2 i k) = m ((c : Thread nD τ).loc main_arg8) (ix3 0 j k) := by
  blk_point [iblk, V, idx t]

theorem in5 (c : Dev nD) (t : Fin cfg0.N) (k : Fin 1024) : iblk m c 5 t (ix2 0 k) = m ((c : Thread nD τ).loc main_arg3) (ix2 0 k) := by
  blk_point [iblk, V, idx t]

theorem in1 (c : Dev nD) (t : Fin cfg0.N) (i : Fin 512) (k : Fin 1024) (j : Fin 4096) (hj : j.val = t.val * 512 + i.val) : iblk m c 1 t (ix2 i k) = x1 (m ((c : Thread nD τ).loc main_arg0)) (m ((c : Thread nD τ).loc main_arg1)) (m ((c : Thread nD τ).loc main_arg2)) j k := by
  blk_simp [iblk]
  entry_read
  pointwise
  have em : ((View.whole main_v17).slice (win0_1.rect t)).emb (ix2 i k) = (ix2 j k : S4096x1024.Idx) := by blk_ext [idx t]
  simp only [em]
  rfl

theorem in2 (c : Dev nD) (t : Fin cfg0.N) (i : Fin 512) (k : Fin 1024) (j : Fin 4096) (hj : j.val = t.val * 512 + i.val) : iblk m c 2 t (ix2 i k) = xq (m ((c : Thread nD τ).loc main_arg0)) (m ((c : Thread nD τ).loc main_arg1)) (m ((c : Thread nD τ).loc main_arg2)) (m ((c : Thread nD τ).loc main_arg3)) (m ((c : Thread nD τ).loc main_arg4)) j (hd k) (lo k) := by
  blk_simp [iblk]
  entry_read
  pointwise
  have em : ((View.whole main_v33).slice (win0_2.rect t)).emb (ix2 i k) = (ix2 j k : S4096x1024.Idx) := by blk_ext [idx t]
  simp only [em]
  rfl

theorem in3 (c : Dev nD) (t : Fin cfg0.N) (i : Fin 256) (k : Fin 1024) : iblk m c 3 t (ix2 i k) = m ((c : Thread nD τ).loc main_arg5) (ix4 0 i (hd k) (lo k)) := by
  blk_simp [iblk]
  entry_read
  pointwise
  have em : ((View.whole main_v36).slice (win0_3.rect t)).emb (ix2 i k) = (ix2 i k : S256x1024.Idx) := by blk_ext [idx t]
  simp only [em]
  rfl

theorem in4 (c : Dev nD) (t : Fin cfg0.N) (i : Fin 256) (k : Fin 1024) : iblk m c 4 t (ix2 i k) = m ((c : Thread nD τ).loc main_arg6) (ix4 0 i (hd k) (lo k)) := by
  blk_simp [iblk]
  entry_read
  pointwise
  have em : ((View.whole main_v38).slice (win0_4.rect t)).emb (ix2 i k) = (ix2 i k : S256x1024.Idx) := by blk_ext [idx t]
  simp only [em]
  rfl

theorem in6 (c : Dev nD) (t : Fin cfg0.N) (q : Fin 4) (e : Fin 256) (k : Fin 1024) (f : Fin 1024) (hf : f.val = q.val * 256 + e.val) : iblk m c 6 t (ix3 q e k) = m ((c : Thread nD τ).loc main_arg2) (ix3 0 f k) := by
  blk_simp [iblk]
  entry_read
  pointwise
  have em : ((View.whole main_v8).slice (win0_6.rect t)).emb (ix3 q e k) = (ix3 q ⟨e.val, by omega⟩ k : S4x512x1024.Idx) := by blk_ext [idx t]
  simp only [em]
  refine (dif_pos e.isLt).trans ?_
  refine congrArg _ ?_
  idx_ext

theorem in7 (c : Dev nD) (t : Fin cfg0.N) (q : Fin 4) (e : Fin 256) (k : Fin 1024) (f : Fin 1024) (hf : f.val = q.val * 256 + e.val) : iblk m c 7 t (ix3 q e k) = m ((c : Thread nD τ).loc main_arg4) (ix4 0 f (hd k) (lo k)) := by
  blk_simp [iblk]
  entry_read
  pointwise
  have em : ((View.whole main_v8).slice (win0_7.rect t)).emb (ix3 q e k) = (ix3 q ⟨256 + e.val, by omega⟩ k : S4x512x1024.Idx) := by blk_ext [idx t]
  simp only [em]
  refine (dif_neg (by simp)).trans ?_
  refine congrArg _ ?_
  idx_ext

theorem in8 (c : Dev nD) (t : Fin cfg0.N) (q : Fin 4) (e : Fin 256) (k : Fin 1024) (f : Fin 1024) (hf : f.val = q.val * 256 + e.val) : iblk m c 8 t (ix3 q k e) = m ((c : Thread nD τ).loc main_arg7) (ix4 0 (hd k) (lo k) f) := by
  blk_simp [iblk]
  entry_read
  pointwise
  have em : ((View.whole main_v11).slice (win0_8.rect t)).emb (ix3 q k e) = (ix3 q k e : S4x1024x256.Idx) := by blk_ext [idx t]
  simp only [em]
  refine congrArg _ ?_
  idx_ext

end Cert.XattnKernelIdeal.Val

end
-- ==== Proof.XattnPay.lean ====
module

public import proofs.«01_k».proof.Proof.Gen.XattnKernelIdeal.Value
public import proofs.«01_k».proof.Proof.Gen.XattnReferenceIdeal.Read
public import proofs.«01_k».proof.Proof.Common
public import proofs.«01_k».proof.Proof.Norm
public import proofs.«01_k».proof.Proof.XattnRef
@[expose] public section

set_option maxRecDepth 16384
set_option maxHeartbeats 1000000

noncomputable section

open Idealize.ShloMosaic Idealize.ShloMosaic.TcCoe Idealize.SL.Sem
open Idealize.ShloMosaic.Pipeline (Dat)

namespace Cert.XattnKernelIdeal.Val

open Cert.XattnKernelIdeal Cert.XattnKernelIdeal.Gen

variable (m : (ℓ : Loc nD τ sig) → Buf (Elt Ideal) ℓ)

theorem probK0 (w : Ideal .f32) (hw : w = Ideal.ofBits .f32 1031798784#32) (a : FVec Ideal S512x256 .bf16) (b : FVec Ideal S256x256 .bf16) (i : Fin 512) (k : Fin 256) : (k0_pay12 (k0_pay11 a b) w : FVec Ideal S512x256 .f32) (ix2 i k) = Attn.prob (Attn.score (fun e => a (ix2 i e)) (fun k e => b (ix2 k e))) k := by
  subst hw
  pointwise [k0_pay12, k0_pay11, k0_pay8, k0_pay9]
  rfl

theorem dsK0 (w : Ideal .f32) (hw : w = Ideal.ofBits .f32 1031798784#32) (v24 : FVec Ideal S512x1024 .bf16) (a : FVec Ideal S512x256 .bf16) (b c : FVec Ideal S256x256 .bf16) (i : Fin 512) (k : Fin 256) : (k0_pay13 v24 (k0_pay10 c) (k0_pay11 a b) w : FVec Ideal S512x256 .bf16) (ix2 i k) = Attn.dscore (Attn.score (fun e => a (ix2 i e)) (fun k e => b (ix2 k e))) (fun k => ∑ e : Fin 256, v24 (ix2 i ⟨0 + e.val, by omega⟩) * c (ix2 k e)) k := by
  subst hw
  pointwise [k0_pay13, k0_pay10, k0_pay12, k0_pay11, k0_pay8, k0_pay9]
  rfl

theorem probK1 (a : FVec Ideal S512x256 .bf16) (b : FVec Ideal S256x256 .bf16) (i : Fin 512) (k : Fin 256) : (k0_pay21 (k0_pay20 a b) : FVec Ideal S512x256 .f32) (ix2 i k) = Attn.prob (Attn.score (fun e => a (ix2 i e)) (fun k e => b (ix2 k e))) k := by
  pointwise [k0_pay21, k0_pay20, k0_pay17, k0_pay18]
  rfl

theorem dsK1 (v24 : FVec Ideal S512x1024 .bf16) (a : FVec Ideal S512x256 .bf16) (b c : FVec Ideal S256x256 .bf16) (i : Fin 512) (k : Fin 256) : (k0_pay22 v24 (k0_pay19 c) (k0_pay20 a b) : FVec Ideal S512x256 .bf16) (ix2 i k) = Attn.dscore (Attn.score (fun e => a (ix2 i e)) (fun k e => b (ix2 k e))) (fun k => ∑ e : Fin 256, v24 (ix2 i ⟨256 + e.val, by omega⟩) * c (ix2 k e)) k := by
  pointwise [k0_pay22, k0_pay19]
  simp only [probK1]
  rfl

theorem probK2 (a : FVec Ideal S512x256 .bf16) (b : FVec Ideal S256x256 .bf16) (i : Fin 512) (k : Fin 256) : (k0_pay28 a b : FVec Ideal S512x256 .f32) (ix2 i k) = Attn.prob (Attn.score (fun e => a (ix2 i e)) (fun k e => b (ix2 k e))) k := by
  pointwise [k0_pay28, k0_pay26, k0_pay27]
  rfl

theorem dsK2 (v24 : FVec Ideal S512x1024 .bf16) (a : FVec Ideal S512x256 .bf16) (b c : FVec Ideal S256x256 .bf16) (i : Fin 512) (k : Fin 256) : (k0_pay31 (k0_pay28 a b) (k0_pay29 v24 c) (k0_pay30 v24 a b c) : FVec Ideal S512x256 .bf16) (ix2 i k) = Attn.dscore (Attn.score (fun e => a (ix2 i e)) (fun k e => b (ix2 k e))) (fun k => ∑ e : Fin 256, v24 (ix2 i ⟨512 + e.val, by omega⟩) * c (ix2 k e)) k := by
  pointwise [k0_pay31, k0_pay29, k0_pay30]
  simp only [probK2]
  rfl

theorem probK3 (a : FVec Ideal S512x256 .bf16) (b : FVec Ideal S256x256 .bf16) (i : Fin 512) (k : Fin 256) : (k0_pay37 a b : FVec Ideal S512x256 .f32) (ix2 i k) = Attn.prob (Attn.score (fun e => a (ix2 i e)) (fun k e => b (ix2 k e))) k := by
  pointwise [k0_pay37, k0_pay35, k0_pay36]
  rfl

theorem dsK3 (v24 : FVec Ideal S512x1024 .bf16) (a : FVec Ideal S512x256 .bf16) (b c : FVec Ideal S256x256 .bf16) (i : Fin 512) (k : Fin 256) : (k0_pay38 v24 a b c : FVec Ideal S512x256 .bf16) (ix2 i k) = Attn.dscore (Attn.score (fun e => a (ix2 i e)) (fun k e => b (ix2 k e))) (fun k => ∑ e : Fin 256, v24 (ix2 i ⟨768 + e.val, by omega⟩) * c (ix2 k e)) k := by
  pointwise [k0_pay38]
  simp only [probK3]
  rfl

theorem dattK (x : Vec Ideal S512x1024 .f32) (w0 w1 w2 w3 : Vec Ideal S1x1024x256 .bf16) (i : Fin 512) (d : Fin 1024) (Y : Fin 1024 → EReal)
    (g0 : ∀ k : Fin 256, w0 (ix3 0 d k) = Y ⟨0 + k, by omega⟩)
    (g1 : ∀ k : Fin 256, w1 (ix3 0 d k) = Y ⟨256 + k, by omega⟩)
    (g2 : ∀ k : Fin 256, w2 (ix3 0 d k) = Y ⟨512 + k, by omega⟩)
    (g3 : ∀ k : Fin 256, w3 (ix3 0 d k) = Y ⟨768 + k, by omega⟩) :
    k0_pay7 x w0 w1 w2 w3 (ix2 i d) = ∑ k, x (ix2 i k) * Y k := by
  pointwise [k0_pay7, k0_pay6]
  simp only [g0, g1, g2, g3]
  exact Common.sum_quarters (b := 256) rfl (fun e => x (ix2 i e) * Y e) _ _ _ _ (fun k => by simp only [Nat.zero_add]) (fun _ => rfl) (fun _ => rfl) (fun _ => rfl)

theorem dxqK0 (v24 : FVec Ideal S512x1024 .bf16) (v30 : FVec Ideal S256x256 .bf16) (v31 : FVec Ideal S512x256 .f32) (w : Ideal .f32) (bk : FVec Ideal S256x256 .bf16) (i : Fin 512) (e : Fin 256) : (k0_pay14 v24 bk v30 v31 w : FVec Ideal S512x256 .bf16) (ix2 i e) = ∑ k : Fin 256, (k0_pay13 v24 v30 v31 w : FVec Ideal S512x256 .bf16) (ix2 i k) * bk (ix2 k e) := by
  pointwise [k0_pay14]

theorem dxkK0 (v24 : FVec Ideal S512x1024 .bf16) (v30 : FVec Ideal S256x256 .bf16) (v31 : FVec Ideal S512x256 .f32) (w : Ideal .f32) (aq : FVec Ideal S512x256 .bf16) (k e : Fin 256) : (k0_pay15 v24 aq v30 v31 w : FVec Ideal S256x256 .f32) (ix2 k e) = ∑ i : Fin 512, (k0_pay13 v24 v30 v31 w : FVec Ideal S512x256 .bf16) (ix2 i k) * aq (ix2 i e) := by
  pointwise [k0_pay15]

theorem dxqK1 (v24 : FVec Ideal S512x1024 .bf16) (v65 : FVec Ideal S256x256 .bf16) (v73 : FVec Ideal S512x256 .f32) (bk : FVec Ideal S256x256 .bf16) (i : Fin 512) (e : Fin 256) : (k0_pay23 v24 bk v65 v73 : FVec Ideal S512x256 .bf16) (ix2 i e) = ∑ k : Fin 256, (k0_pay22 v24 v65 v73 : FVec Ideal S512x256 .bf16) (ix2 i k) * bk (ix2 k e) := by
  pointwise [k0_pay23]

theorem dxkK1 (v24 : FVec Ideal S512x1024 .bf16) (v65 : FVec Ideal S256x256 .bf16) (v73 : FVec Ideal S512x256 .f32) (aq : FVec Ideal S512x256 .bf16) (k e : Fin 256) : (k0_pay24 v24 aq v65 v73 : FVec Ideal S256x256 .f32) (ix2 k e) = ∑ i : Fin 512, (k0_pay22 v24 v65 v73 : FVec Ideal S512x256 .bf16) (ix2 i k) * aq (ix2 i e) := by
  pointwise [k0_pay24]

theorem dxqK2 (v112 v114 v115 : FVec Ideal S512x256 .f32) (bk : FVec Ideal S256x256 .bf16) (i : Fin 512) (e : Fin 256) : (k0_pay32 bk v112 v114 v115 : FVec Ideal S512x256 .bf16) (ix2 i e) = ∑ k : Fin 256, (k0_pay31 v112 v114 v115 : FVec Ideal S512x256 .bf16) (ix2 i k) * bk (ix2 k e) := by
  pointwise [k0_pay32]

theorem dxkK2 (v112 v114 v115 : FVec Ideal S512x256 .f32) (aq : FVec Ideal S512x256 .bf16) (k e : Fin 256) : (k0_pay33 aq v112 v114 v115 : FVec Ideal S256x256 .f32) (ix2 k e) = ∑ i : Fin 512, (k0_pay31 v112 v114 v115 : FVec Ideal S512x256 .bf16) (ix2 i k) * aq (ix2 i e) := by
  pointwise [k0_pay33]

theorem dxvK0 (v24 : FVec Ideal S512x1024 .bf16) (v31 : FVec Ideal S512x256 .f32) (w : Ideal .f32) (k e : Fin 256) : (k0_pay16 v24 v31 w : FVec Ideal S256x256 .f32) (ix2 k e) = ∑ i : Fin 512, (k0_pay12 v31 w : FVec Ideal S512x256 .f32) (ix2 i k) * v24 (ix2 i ⟨0 + e.val, by omega⟩) := by
  pointwise [k0_pay16]

theorem dxvK1 (v24 : FVec Ideal S512x1024 .bf16) (v73 : FVec Ideal S512x256 .f32) (k e : Fin 256) : (k0_pay25 v24 v73 : FVec Ideal S256x256 .f32) (ix2 k e) = ∑ i : Fin 512, (k0_pay21 v73 : FVec Ideal S512x256 .f32) (ix2 i k) * v24 (ix2 i ⟨256 + e.val, by omega⟩) := by
  pointwise [k0_pay25]

theorem dxvK2 (v24 : FVec Ideal S512x1024 .bf16) (v112 : FVec Ideal S512x256 .f32) (k e : Fin 256) : (k0_pay34 v24 v112 : FVec Ideal S256x256 .f32) (ix2 k e) = ∑ i : Fin 512, v112 (ix2 i k) * v24 (ix2 i ⟨512 + e.val, by omega⟩) := by
  pointwise [k0_pay34]

theorem dxqK (v55 v90 v125 v158 : FVec Ideal S512x256 .bf16) (bk : FVec Ideal S256x256 .bf16) (i : Fin 512) (d : Fin 1024) (F : Fin 4 → Fin 256 → EReal)
    (h0 : ∀ e, v55 (ix2 i e) = F 0 e) (h1 : ∀ e, v90 (ix2 i e) = F 1 e) (h2 : ∀ e, v125 (ix2 i e) = F 2 e) (h3 : ∀ e, ∑ k : Fin 256, v158 (ix2 i k) * bk (ix2 k e) = F 3 e) :
    (k0_pay39 v55 v90 v125 bk v158 : FVec Ideal S512x1024 .bf16) (ix2 i d) = F (hd d) (lo d) := by
  pointwise [k0_pay39]
  exact Common.four_blocks d F (fun e => v55 (ix2 i e)) (fun e => v90 (ix2 i e)) (fun e => v125 (ix2 i e)) (fun e => ∑ k : Fin 256, v158 (ix2 i k) * bk (ix2 k e)) h0 h1 h2 h3

theorem dxkK (v56 v91 v126 : FVec Ideal S256x256 .f32) (aq v158 : FVec Ideal S512x256 .bf16) (k : Fin 256) (d : Fin 1024) (F : Fin 4 → Fin 256 → EReal)
    (h0 : ∀ e, v56 (ix2 k e) = F 0 e) (h1 : ∀ e, v91 (ix2 k e) = F 1 e) (h2 : ∀ e, v126 (ix2 k e) = F 2 e) (h3 : ∀ e, ∑ i : Fin 512, v158 (ix2 i k) * aq (ix2 i e) = F 3 e) :
    (k0_pay40 v56 v91 v126 aq v158 : FVec Ideal S256x1024 .f32) (ix2 k d) = F (hd d) (lo d) := by
  pointwise [k0_pay40]
  exact Common.four_blocks d F (fun e => v56 (ix2 k e)) (fun e => v91 (ix2 k e)) (fun e => v126 (ix2 k e)) (fun e => ∑ i : Fin 512, v158 (ix2 i k) * aq (ix2 i e)) h0 h1 h2 h3

theorem dxvK (v24 : FVec Ideal S512x1024 .bf16) (v56 v91 v126 : FVec Ideal S256x256 .f32) (v147 : FVec Ideal S512x256 .f32) (k : Fin 256) (d : Fin 1024) (F : Fin 4 → Fin 256 → EReal)
    (h0 : ∀ e, v56 (ix2 k e) = F 0 e) (h1 : ∀ e, v91 (ix2 k e) = F 1 e) (h2 : ∀ e, v126 (ix2 k e) = F 2 e) (h3 : ∀ e, ∑ i : Fin 512, v147 (ix2 i k) * v24 (ix2 i ⟨768 + e.val, by omega⟩) = F 3 e) :
    (k0_pay41 v24 v56 v91 v126 v147 : FVec Ideal S256x1024 .f32) (ix2 k d) = F (hd d) (lo d) := by
  pointwise [k0_pay41]
  exact Common.four_blocks d F (fun e => v56 (ix2 k e)) (fun e => v91 (ix2 k e)) (fun e => v126 (ix2 k e)) (fun e => ∑ i : Fin 512, v147 (ix2 i k) * v24 (ix2 i ⟨768 + e.val, by omega⟩)) h0 h1 h2 h3

theorem dhqK (v55 v90 v125 v158 : FVec Ideal S512x256 .bf16) (bk : FVec Ideal S256x256 .bf16) (w0 w1 w2 w3 : Vec Ideal S1x256x1024 .bf16) (i : Fin 512) (d : Fin 1024) (F : Fin 4 → Fin 256 → EReal)
    (h0 : ∀ e, ∑ x : Fin 1024, (k0_pay39 v55 v90 v125 bk v158 : FVec Ideal S512x1024 .bf16) (ix2 i x) * w0 (ix3 0 e x) = F 0 e) (h1 : ∀ e, ∑ x : Fin 1024, (k0_pay39 v55 v90 v125 bk v158 : FVec Ideal S512x1024 .bf16) (ix2 i x) * w1 (ix3 0 e x) = F 1 e) (h2 : ∀ e, ∑ x : Fin 1024, (k0_pay39 v55 v90 v125 bk v158 : FVec Ideal S512x1024 .bf16) (ix2 i x) * w2 (ix3 0 e x) = F 2 e) (h3 : ∀ e, ∑ x : Fin 1024, (k0_pay39 v55 v90 v125 bk v158 : FVec Ideal S512x1024 .bf16) (ix2 i x) * w3 (ix3 0 e x) = F 3 e) :
    (k0_pay44 v55 v90 v125 bk v158 w0 w1 w2 w3 : FVec Ideal S512x1024 .f32) (ix2 i d) = F (hd d) (lo d) := by
  pointwise [k0_pay44]
  exact Common.four_blocks d F (fun e => ∑ x : Fin 1024, (k0_pay39 v55 v90 v125 bk v158 : FVec Ideal S512x1024 .bf16) (ix2 i x) * w0 (ix3 0 e x)) (fun e => ∑ x : Fin 1024, (k0_pay39 v55 v90 v125 bk v158 : FVec Ideal S512x1024 .bf16) (ix2 i x) * w1 (ix3 0 e x)) (fun e => ∑ x : Fin 1024, (k0_pay39 v55 v90 v125 bk v158 : FVec Ideal S512x1024 .bf16) (ix2 i x) * w2 (ix3 0 e x)) (fun e => ∑ x : Fin 1024, (k0_pay39 v55 v90 v125 bk v158 : FVec Ideal S512x1024 .bf16) (ix2 i x) * w3 (ix3 0 e x)) h0 h1 h2 h3

theorem nK (x : Vec Ideal S512x1024 .f32) (i : Fin 512) (d : Fin 1024) (X : Fin 1024 → EReal) (hX : ∀ k, x (ix2 i k) = X k) :
    k0_pay47 x (ix2 i d) = X d * Norm.rinv X := by
  pointwise [k0_pay47, k0_pay46, k0_pay45]
  simp only [hX]
  rfl

theorem dxK (y : Vec Ideal S512x1024 .f32) (dh : FVec Ideal S512x1024 .f32) (g : Vec Ideal S1x1024 .f32) (x : Vec Ideal S512x1024 .f32) (i : Fin 512) (d : Fin 1024) (X H G Y : Fin 1024 → EReal)
    (hX : ∀ k, x (ix2 i k) = X k) (hH : ∀ k, dh (ix2 i k) = H k) (hG : ∀ k, g (ix2 0 k) = G k) (hY : ∀ k, y (ix2 i k) = Y k) :
    k0_pay49 (k0_pay6 y) dh g x (ix2 i d)
      = Y d + Norm.rinv X * (H d * G d - X d * Norm.rinv X * Ideal.div (∑ k, H k * G k * (X k * Norm.rinv X)) (Ideal.ofBits .f32 1149239296#32)) := by
  pointwise [k0_pay49, k0_pay47, k0_pay46, k0_pay45, k0_pay6]
  simp only [hX, hH, hG, hY]
  rfl

theorem stK (dh : FVec Ideal S512x1024 .f32) (x : Vec Ideal S512x1024 .f32) (j : S8x1024.Idx) (X H : Fin 512 → Fin 1024 → EReal)
    (hX : ∀ i k, x (ix2 i k) = X i k) (hH : ∀ i k, dh (ix2 i k) = H i k) :
    k0_pay4 (k0_pay48 dh x) j = if (j 0).val < 1 then ∑ i : Fin 512, H i (j 1) * (X i (j 1) * Norm.rinv (X i)) else 0 := by
  obtain ⟨r, d, rfl⟩ : ∃ (r : Fin 8) (d : Fin 1024), j = ix2 r d := ⟨j 0, j 1, eq_ix2 j⟩
  pointwise [k0_pay4, k0_pay48]
  simp only [nK _ _ _ _ (hX _), hH, dite_eq_ite]

theorem dmixK0 (y : Vec Ideal S512x1024 .f32) (dh : FVec Ideal S512x1024 .f32) (g : Vec Ideal S1x1024 .f32) (x : Vec Ideal S512x1024 .f32) (w : Vec Ideal S1x256x1024 .bf16) (i : Fin 512) (e : Fin 256) :
    (k0_pay51 (k0_pay6 y) dh g x w : FVec Ideal S512x256 .f32) (ix2 i e) = ∑ d : Fin 1024, k0_pay49 (k0_pay6 y) dh g x (ix2 i d) * w (ix3 0 e d) := by
  pointwise [k0_pay51, k0_pay50]

theorem dmixK1 (y : Vec Ideal S512x1024 .f32) (dh : FVec Ideal S512x1024 .f32) (g : Vec Ideal S1x1024 .f32) (x : Vec Ideal S512x1024 .f32) (w : Vec Ideal S1x256x1024 .bf16) (i : Fin 512) (e : Fin 256) :
    (k0_pay1 (k0_pay50 (k0_pay6 y) dh g x) w : FVec Ideal S512x256 .f32) (ix2 i e) = ∑ d : Fin 1024, k0_pay49 (k0_pay6 y) dh g x (ix2 i d) * w (ix3 0 e d) := by
  pointwise [k0_pay1, k0_pay50]

theorem dmixK2 (y : Vec Ideal S512x1024 .f32) (dh : FVec Ideal S512x1024 .f32) (g : Vec Ideal S1x1024 .f32) (x : Vec Ideal S512x1024 .f32) (w : Vec Ideal S1x256x1024 .bf16) (i : Fin 512) (e : Fin 256) :
    (k0_pay2 (k0_pay50 (k0_pay6 y) dh g x) w : FVec Ideal S512x256 .f32) (ix2 i e) = ∑ d : Fin 1024, k0_pay49 (k0_pay6 y) dh g x (ix2 i d) * w (ix3 0 e d) := by
  pointwise [k0_pay2, k0_pay50]

theorem dmixK3 (y : Vec Ideal S512x1024 .f32) (dh : FVec Ideal S512x1024 .f32) (g : Vec Ideal S1x1024 .f32) (x : Vec Ideal S512x1024 .f32) (w : Vec Ideal S1x256x1024 .bf16) (i : Fin 512) (e : Fin 256) :
    (k0_pay3 (k0_pay50 (k0_pay6 y) dh g x) w : FVec Ideal S512x256 .f32) (ix2 i e) = ∑ d : Fin 1024, k0_pay49 (k0_pay6 y) dh g x (ix2 i d) * w (ix3 0 e d) := by
  pointwise [k0_pay3, k0_pay50]

end Cert.XattnKernelIdeal.Val

end
-- ==== Proof.XattnTile.lean ====
module

public import proofs.«01_k».proof.Proof.Gen.XattnKernelIdeal.Value
public import proofs.«01_k».proof.Proof.Gen.XattnReferenceIdeal.Read
public import proofs.«01_k».proof.Proof.Common
public import proofs.«01_k».proof.Proof.Norm
public import proofs.«01_k».proof.Proof.XattnPay
@[expose] public section

set_option maxRecDepth 16384
set_option maxHeartbeats 1000000

noncomputable section

open Idealize.ShloMosaic Idealize.ShloMosaic.TcCoe Idealize.SL.Sem
open Idealize.ShloMosaic.Pipeline (Dat)

namespace Cert.XattnKernelIdeal.Val

open Cert.XattnKernelIdeal Cert.XattnKernelIdeal.Gen

variable (m : (ℓ : Loc nD τ sig) → Buf (Elt Ideal) ℓ)

/-- The gradients of a token's scores in a head. -/
def DS (c : Dev nD) (j : Fin 4096) (h : Fin 4) (k : Fin 256) : EReal := Attn.dscore (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j h) (dp (m ((c : Thread nD τ).loc main_arg6)) (m ((c : Thread nD τ).loc main_arg7)) (m ((c : Thread nD τ).loc main_arg8)) j h) k

/-- The gradient of a token's query. -/
def DQ (c : Dev nD) (j : Fin 4096) (h : Fin 4) (e : Fin 256) : EReal := ∑ k : Fin 256, DS m c j h k * m ((c : Thread nD τ).loc main_arg5) (ix4 0 k h e)

/-- The gradient of a token's normalized row. -/
def DH (c : Dev nD) (j : Fin 4096) (d : Fin 1024) : EReal := ∑ h : Fin 4, ∑ e : Fin 256, DQ m c j h e * m ((c : Thread nD τ).loc main_arg4) (ix4 0 d h e)

/-- A token's row of the residual stream after the mixer. -/
def X (c : Dev nD) (j : Fin 4096) : Fin 1024 → EReal := x1 (m ((c : Thread nD τ).loc main_arg0)) (m ((c : Thread nD τ).loc main_arg1)) (m ((c : Thread nD τ).loc main_arg2)) j

/-- The gain of the norm. -/
def gain (c : Dev nD) (k : Fin 1024) : EReal := m ((c : Thread nD τ).loc main_arg3) (ix2 0 k)

/-- The gradient of a token's row after the attention. -/
def Y (c : Dev nD) (j : Fin 4096) (d : Fin 1024) : EReal := m ((c : Thread nD τ).loc main_arg8) (ix3 0 j d)

/-- The gradient of a token's row. -/
def DX (c : Dev nD) (j : Fin 4096) (d : Fin 1024) : EReal :=
  Y m c j d + Norm.rinv (X m c j) * (DH m c j d * gain m c d - X m c j d * Norm.rinv (X m c j)
    * Ideal.div (∑ k, DH m c j k * gain m c k * (X m c j k * Norm.rinv (X m c j))) (Ideal.ofBits .f32 1149239296#32))

theorem hd_eq {q : ℕ} {h : Fin 4} {e : Fin 256} {d : Fin 1024} (hq : q = h.val * 256) (H : d.val = q + e.val) : hd d = h :=
  Fin.ext (by show d.val / 256 = h.val; omega)

theorem lo_eq {q : ℕ} {h : Fin 4} {e : Fin 256} {d : Fin 1024} (hq : q = h.val * 256) (H : d.val = q + e.val) : lo d = e :=
  Fin.ext (by show d.val % 256 = e.val; omega)

section tile

variable (c : Dev nD) (t : Fin cfg0.N)

/-- The tile's gradient of the attention. -/
abbrev tdatt : FVec Ideal S512x1024 .bf16 := k0_pay7 (iblk m c 0 t) (View.ld (iblk m c 8 t) (Rect.unit ![0, 0, 0] ![1, 1024, 256] inb_S4x1024x256_S1x1024x256_0_0_0)) (View.ld (iblk m c 8 t) (Rect.unit ![1, 0, 0] ![1, 1024, 256] inb_S4x1024x256_S1x1024x256_1_0_0)) (View.ld (iblk m c 8 t) (Rect.unit ![2, 0, 0] ![1, 1024, 256] inb_S4x1024x256_S1x1024x256_2_0_0)) (View.ld (iblk m c 8 t) (Rect.unit ![3, 0, 0] ![1, 1024, 256] inb_S4x1024x256_S1x1024x256_3_0_0))

/-- The tile's queries, keys and values in a head. -/
abbrev tq0 : Vec Ideal S512x256 .bf16 := View.ld (iblk m c 2 t) (Rect.unit ![0, 0] ![512, 256] inb_S512x1024_S512x256_0_0)
abbrev tk0 : Vec Ideal S256x256 .bf16 := View.ld (iblk m c 3 t) (Rect.unit ![0, 0] ![256, 256] inb_S256x1024_S256x256_0_0)
abbrev tv0 : Vec Ideal S256x256 .bf16 := View.ld (iblk m c 4 t) (Rect.unit ![0, 0] ![256, 256] inb_S256x1024_S256x256_0_0)

/-- The tile's queries, keys and values in a head. -/
abbrev tq1 : Vec Ideal S512x256 .bf16 := View.ld (iblk m c 2 t) (Rect.unit ![0, 256] ![512, 256] inb_S512x1024_S512x256_0_256)
abbrev tk1 : Vec Ideal S256x256 .bf16 := View.ld (iblk m c 3 t) (Rect.unit ![0, 256] ![256, 256] inb_S256x1024_S256x256_0_256)
abbrev tv1 : Vec Ideal S256x256 .bf16 := View.ld (iblk m c 4 t) (Rect.unit ![0, 256] ![256, 256] inb_S256x1024_S256x256_0_256)

/-- The tile's queries, keys and values in a head. -/
abbrev tq2 : Vec Ideal S512x256 .bf16 := View.ld (iblk m c 2 t) (Rect.unit ![0, 512] ![512, 256] inb_S512x1024_S512x256_0_512)
abbrev tk2 : Vec Ideal S256x256 .bf16 := View.ld (iblk m c 3 t) (Rect.unit ![0, 512] ![256, 256] inb_S256x1024_S256x256_0_512)
abbrev tv2 : Vec Ideal S256x256 .bf16 := View.ld (iblk m c 4 t) (Rect.unit ![0, 512] ![256, 256] inb_S256x1024_S256x256_0_512)

/-- The tile's queries, keys and values in a head. -/
abbrev tq3 : Vec Ideal S512x256 .bf16 := View.ld (iblk m c 2 t) (Rect.unit ![0, 768] ![512, 256] inb_S512x1024_S512x256_0_768)
abbrev tk3 : Vec Ideal S256x256 .bf16 := View.ld (iblk m c 3 t) (Rect.unit ![0, 768] ![256, 256] inb_S256x1024_S256x256_0_768)
abbrev tv3 : Vec Ideal S256x256 .bf16 := View.ld (iblk m c 4 t) (Rect.unit ![0, 768] ![256, 256] inb_S256x1024_S256x256_0_768)

/-- The tile's gradient of the queries, and its shares of the gradients of keys and values. -/
abbrev tdq : FVec Ideal S512x1024 .bf16 := k0_pay39 (k0_pay14 (tdatt m c t) (k0_pay9 (tk0 m c t)) (k0_pay10 (tv0 m c t)) (k0_pay11 (tq0 m c t) (tk0 m c t)) (FloatOps.ofBits (F := Ideal) .f32 1031798784#32)) (k0_pay23 (tdatt m c t) (k0_pay18 (tk1 m c t)) (k0_pay19 (tv1 m c t)) (k0_pay20 (tq1 m c t) (tk1 m c t))) (k0_pay32 (k0_pay27 (tk2 m c t)) (k0_pay28 (tq2 m c t) (tk2 m c t)) (k0_pay29 (tdatt m c t) (tv2 m c t)) (k0_pay30 (tdatt m c t) (tq2 m c t) (tk2 m c t) (tv2 m c t))) (k0_pay36 (tk3 m c t)) (k0_pay38 (tdatt m c t) (tq3 m c t) (tk3 m c t) (tv3 m c t))
abbrev tdk : FVec Ideal S256x1024 .f32 := k0_pay40 (k0_pay15 (tdatt m c t) (k0_pay8 (tq0 m c t)) (k0_pay10 (tv0 m c t)) (k0_pay11 (tq0 m c t) (tk0 m c t)) (FloatOps.ofBits (F := Ideal) .f32 1031798784#32)) (k0_pay24 (tdatt m c t) (k0_pay17 (tq1 m c t)) (k0_pay19 (tv1 m c t)) (k0_pay20 (tq1 m c t) (tk1 m c t))) (k0_pay33 (k0_pay26 (tq2 m c t)) (k0_pay28 (tq2 m c t) (tk2 m c t)) (k0_pay29 (tdatt m c t) (tv2 m c t)) (k0_pay30 (tdatt m c t) (tq2 m c t) (tk2 m c t) (tv2 m c t))) (k0_pay35 (tq3 m c t)) (k0_pay38 (tdatt m c t) (tq3 m c t) (tk3 m c t) (tv3 m c t))
abbrev tdv : FVec Ideal S256x1024 .f32 := k0_pay41 (tdatt m c t) (k0_pay16 (tdatt m c t) (k0_pay11 (tq0 m c t) (tk0 m c t)) (FloatOps.ofBits (F := Ideal) .f32 1031798784#32)) (k0_pay25 (tdatt m c t) (k0_pay20 (tq1 m c t) (tk1 m c t))) (k0_pay34 (tdatt m c t) (k0_pay28 (tq2 m c t) (tk2 m c t))) (k0_pay37 (tq3 m c t) (tk3 m c t))

/-- The tile's gradient of the normalized rows. -/
abbrev tdh : FVec Ideal S512x1024 .f32 := k0_pay44 (k0_pay14 (tdatt m c t) (k0_pay9 (tk0 m c t)) (k0_pay10 (tv0 m c t)) (k0_pay11 (tq0 m c t) (tk0 m c t)) (FloatOps.ofBits (F := Ideal) .f32 1031798784#32)) (k0_pay23 (tdatt m c t) (k0_pay18 (tk1 m c t)) (k0_pay19 (tv1 m c t)) (k0_pay20 (tq1 m c t) (tk1 m c t))) (k0_pay32 (k0_pay27 (tk2 m c t)) (k0_pay28 (tq2 m c t) (tk2 m c t)) (k0_pay29 (tdatt m c t) (tv2 m c t)) (k0_pay30 (tdatt m c t) (tq2 m c t) (tk2 m c t) (tv2 m c t))) (k0_pay36 (tk3 m c t)) (k0_pay38 (tdatt m c t) (tq3 m c t) (tk3 m c t) (tv3 m c t)) (View.ld (iblk m c 7 t) (Rect.unit ![0, 0, 0] ![1, 256, 1024] inb_S4x256x1024_S1x256x1024_0_0_0)) (View.ld (iblk m c 7 t) (Rect.unit ![1, 0, 0] ![1, 256, 1024] inb_S4x256x1024_S1x256x1024_1_0_0)) (View.ld (iblk m c 7 t) (Rect.unit ![2, 0, 0] ![1, 256, 1024] inb_S4x256x1024_S1x256x1024_2_0_0)) (View.ld (iblk m c 7 t) (Rect.unit ![3, 0, 0] ![1, 256, 1024] inb_S4x256x1024_S1x256x1024_3_0_0))

theorem dattT (i : Fin 512) (j : Fin 4096) (hj : j.val = t.val * 512 + i.val) (d : Fin 1024) : tdatt m c t (ix2 i d) = datt (m ((c : Thread nD τ).loc main_arg7)) (m ((c : Thread nD τ).loc main_arg8)) j (hd d) (lo d) := by
  refine (dattK _ _ _ _ _ i d (fun f => m ((c : Thread nD τ).loc main_arg7) (ix4 0 (hd d) (lo d) f)) ?_ ?_ ?_ ?_).trans ?_
  · intro k
    refine Eq.trans ?_ (in8 m c t 0 k d ⟨0 + k.val, by omega⟩ (by simp))
    pointwise
  · intro k
    refine Eq.trans ?_ (in8 m c t 1 k d ⟨256 + k.val, by omega⟩ (by simp))
    pointwise
  · intro k
    refine Eq.trans ?_ (in8 m c t 2 k d ⟨512 + k.val, by omega⟩ (by simp))
    pointwise
  · intro k
    refine Eq.trans ?_ (in8 m c t 3 k d ⟨768 + k.val, by omega⟩ (by simp))
    pointwise
  · exact Fin.sum_fin_congr fun f => by rw [in0 m c t i f j hj]

theorem qT0 (i : Fin 512) (j : Fin 4096) (hj : j.val = t.val * 512 + i.val) (e : Fin 256) : tq0 m c t (ix2 i e) = xq (m ((c : Thread nD τ).loc main_arg0)) (m ((c : Thread nD τ).loc main_arg1)) (m ((c : Thread nD τ).loc main_arg2)) (m ((c : Thread nD τ).loc main_arg3)) (m ((c : Thread nD τ).loc main_arg4)) j 0 e := by
  refine Eq.trans ?_ ((in2 m c t i ⟨0 + e.val, by omega⟩ j hj).trans (congrArg₂ _ (hd_eq (q := 0) (e := e) (by decide) rfl) (lo_eq (q := 0) (h := 0) (by decide) rfl)))
  pointwise [tq0]

theorem kT0 (k e : Fin 256) : tk0 m c t (ix2 k e) = m ((c : Thread nD τ).loc main_arg5) (ix4 0 k 0 e) := by
  refine Eq.trans ?_ ((in3 m c t k ⟨0 + e.val, by omega⟩).trans (congrArg₂ (fun a b => m ((c : Thread nD τ).loc main_arg5) (ix4 0 k a b)) (hd_eq (q := 0) (e := e) (by decide) rfl) (lo_eq (q := 0) (h := 0) (by decide) rfl)))
  pointwise [tk0]

theorem vT0 (k e : Fin 256) : tv0 m c t (ix2 k e) = m ((c : Thread nD τ).loc main_arg6) (ix4 0 k 0 e) := by
  refine Eq.trans ?_ ((in4 m c t k ⟨0 + e.val, by omega⟩).trans (congrArg₂ (fun a b => m ((c : Thread nD τ).loc main_arg6) (ix4 0 k a b)) (hd_eq (q := 0) (e := e) (by decide) rfl) (lo_eq (q := 0) (h := 0) (by decide) rfl)))
  pointwise [tv0]

theorem datt0 (i : Fin 512) (j : Fin 4096) (hj : j.val = t.val * 512 + i.val) (e : Fin 256) : tdatt m c t (ix2 i ⟨0 + e.val, by omega⟩) = datt (m ((c : Thread nD τ).loc main_arg7)) (m ((c : Thread nD τ).loc main_arg8)) j 0 e :=
  (dattT m c t i j hj _).trans (congrArg₂ _ (hd_eq (q := 0) (e := e) (by decide) rfl) (lo_eq (q := 0) (h := 0) (by decide) rfl))

theorem scT0 (i : Fin 512) (j : Fin 4096) (hj : j.val = t.val * 512 + i.val) : Attn.score (fun e => tq0 m c t (ix2 i e)) (fun k e => tk0 m c t (ix2 k e)) = sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j 0 := by
  simp only [qT0 m c t i j hj, kT0]
  rfl

theorem dpT0 (i : Fin 512) (j : Fin 4096) (hj : j.val = t.val * 512 + i.val) : (fun k => ∑ e : Fin 256, tdatt m c t (ix2 i ⟨0 + e.val, by omega⟩) * tv0 m c t (ix2 k e)) = dp (m ((c : Thread nD τ).loc main_arg6)) (m ((c : Thread nD τ).loc main_arg7)) (m ((c : Thread nD τ).loc main_arg8)) j 0 := by
  simp only [datt0 m c t i j hj, vT0]
  rfl

theorem probT0 (i : Fin 512) (j : Fin 4096) (hj : j.val = t.val * 512 + i.val) (k : Fin 256) : (k0_pay12 (k0_pay11 (tq0 m c t) (tk0 m c t)) (FloatOps.ofBits (F := Ideal) .f32 1031798784#32) : FVec Ideal S512x256 .f32) (ix2 i k) = Attn.prob (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j 0) k :=
  (probK0 _ rfl _ _ i k).trans (congrArg (fun s => Attn.prob s k) (scT0 m c t i j hj))

theorem dsT0 (i : Fin 512) (j : Fin 4096) (hj : j.val = t.val * 512 + i.val) (k : Fin 256) : (k0_pay13 (tdatt m c t) (k0_pay10 (tv0 m c t)) (k0_pay11 (tq0 m c t) (tk0 m c t)) (FloatOps.ofBits (F := Ideal) .f32 1031798784#32) : FVec Ideal S512x256 .bf16) (ix2 i k) = DS m c j 0 k :=
  (dsK0 _ rfl _ _ _ _ i k).trans (congrArg₂ (fun s p => Attn.dscore s p k) (scT0 m c t i j hj) (dpT0 m c t i j hj))

theorem qT1 (i : Fin 512) (j : Fin 4096) (hj : j.val = t.val * 512 + i.val) (e : Fin 256) : tq1 m c t (ix2 i e) = xq (m ((c : Thread nD τ).loc main_arg0)) (m ((c : Thread nD τ).loc main_arg1)) (m ((c : Thread nD τ).loc main_arg2)) (m ((c : Thread nD τ).loc main_arg3)) (m ((c : Thread nD τ).loc main_arg4)) j 1 e := by
  refine Eq.trans ?_ ((in2 m c t i ⟨256 + e.val, by omega⟩ j hj).trans (congrArg₂ _ (hd_eq (q := 256) (e := e) (by decide) rfl) (lo_eq (q := 256) (h := 1) (by decide) rfl)))
  pointwise [tq1]

theorem kT1 (k e : Fin 256) : tk1 m c t (ix2 k e) = m ((c : Thread nD τ).loc main_arg5) (ix4 0 k 1 e) := by
  refine Eq.trans ?_ ((in3 m c t k ⟨256 + e.val, by omega⟩).trans (congrArg₂ (fun a b => m ((c : Thread nD τ).loc main_arg5) (ix4 0 k a b)) (hd_eq (q := 256) (e := e) (by decide) rfl) (lo_eq (q := 256) (h := 1) (by decide) rfl)))
  pointwise [tk1]

theorem vT1 (k e : Fin 256) : tv1 m c t (ix2 k e) = m ((c : Thread nD τ).loc main_arg6) (ix4 0 k 1 e) := by
  refine Eq.trans ?_ ((in4 m c t k ⟨256 + e.val, by omega⟩).trans (congrArg₂ (fun a b => m ((c : Thread nD τ).loc main_arg6) (ix4 0 k a b)) (hd_eq (q := 256) (e := e) (by decide) rfl) (lo_eq (q := 256) (h := 1) (by decide) rfl)))
  pointwise [tv1]

theorem datt1 (i : Fin 512) (j : Fin 4096) (hj : j.val = t.val * 512 + i.val) (e : Fin 256) : tdatt m c t (ix2 i ⟨256 + e.val, by omega⟩) = datt (m ((c : Thread nD τ).loc main_arg7)) (m ((c : Thread nD τ).loc main_arg8)) j 1 e :=
  (dattT m c t i j hj _).trans (congrArg₂ _ (hd_eq (q := 256) (e := e) (by decide) rfl) (lo_eq (q := 256) (h := 1) (by decide) rfl))

theorem scT1 (i : Fin 512) (j : Fin 4096) (hj : j.val = t.val * 512 + i.val) : Attn.score (fun e => tq1 m c t (ix2 i e)) (fun k e => tk1 m c t (ix2 k e)) = sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j 1 := by
  simp only [qT1 m c t i j hj, kT1]
  rfl

theorem dpT1 (i : Fin 512) (j : Fin 4096) (hj : j.val = t.val * 512 + i.val) : (fun k => ∑ e : Fin 256, tdatt m c t (ix2 i ⟨256 + e.val, by omega⟩) * tv1 m c t (ix2 k e)) = dp (m ((c : Thread nD τ).loc main_arg6)) (m ((c : Thread nD τ).loc main_arg7)) (m ((c : Thread nD τ).loc main_arg8)) j 1 := by
  simp only [datt1 m c t i j hj, vT1]
  rfl

theorem probT1 (i : Fin 512) (j : Fin 4096) (hj : j.val = t.val * 512 + i.val) (k : Fin 256) : (k0_pay21 (k0_pay20 (tq1 m c t) (tk1 m c t)) : FVec Ideal S512x256 .f32) (ix2 i k) = Attn.prob (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j 1) k :=
  (probK1 _ _ i k).trans (congrArg (fun s => Attn.prob s k) (scT1 m c t i j hj))

theorem dsT1 (i : Fin 512) (j : Fin 4096) (hj : j.val = t.val * 512 + i.val) (k : Fin 256) : (k0_pay22 (tdatt m c t) (k0_pay19 (tv1 m c t)) (k0_pay20 (tq1 m c t) (tk1 m c t)) : FVec Ideal S512x256 .bf16) (ix2 i k) = DS m c j 1 k :=
  (dsK1 _ _ _ _ i k).trans (congrArg₂ (fun s p => Attn.dscore s p k) (scT1 m c t i j hj) (dpT1 m c t i j hj))

theorem qT2 (i : Fin 512) (j : Fin 4096) (hj : j.val = t.val * 512 + i.val) (e : Fin 256) : tq2 m c t (ix2 i e) = xq (m ((c : Thread nD τ).loc main_arg0)) (m ((c : Thread nD τ).loc main_arg1)) (m ((c : Thread nD τ).loc main_arg2)) (m ((c : Thread nD τ).loc main_arg3)) (m ((c : Thread nD τ).loc main_arg4)) j 2 e := by
  refine Eq.trans ?_ ((in2 m c t i ⟨512 + e.val, by omega⟩ j hj).trans (congrArg₂ _ (hd_eq (q := 512) (e := e) (by decide) rfl) (lo_eq (q := 512) (h := 2) (by decide) rfl)))
  pointwise [tq2]

theorem kT2 (k e : Fin 256) : tk2 m c t (ix2 k e) = m ((c : Thread nD τ).loc main_arg5) (ix4 0 k 2 e) := by
  refine Eq.trans ?_ ((in3 m c t k ⟨512 + e.val, by omega⟩).trans (congrArg₂ (fun a b => m ((c : Thread nD τ).loc main_arg5) (ix4 0 k a b)) (hd_eq (q := 512) (e := e) (by decide) rfl) (lo_eq (q := 512) (h := 2) (by decide) rfl)))
  pointwise [tk2]

theorem vT2 (k e : Fin 256) : tv2 m c t (ix2 k e) = m ((c : Thread nD τ).loc main_arg6) (ix4 0 k 2 e) := by
  refine Eq.trans ?_ ((in4 m c t k ⟨512 + e.val, by omega⟩).trans (congrArg₂ (fun a b => m ((c : Thread nD τ).loc main_arg6) (ix4 0 k a b)) (hd_eq (q := 512) (e := e) (by decide) rfl) (lo_eq (q := 512) (h := 2) (by decide) rfl)))
  pointwise [tv2]

theorem datt2 (i : Fin 512) (j : Fin 4096) (hj : j.val = t.val * 512 + i.val) (e : Fin 256) : tdatt m c t (ix2 i ⟨512 + e.val, by omega⟩) = datt (m ((c : Thread nD τ).loc main_arg7)) (m ((c : Thread nD τ).loc main_arg8)) j 2 e :=
  (dattT m c t i j hj _).trans (congrArg₂ _ (hd_eq (q := 512) (e := e) (by decide) rfl) (lo_eq (q := 512) (h := 2) (by decide) rfl))

theorem scT2 (i : Fin 512) (j : Fin 4096) (hj : j.val = t.val * 512 + i.val) : Attn.score (fun e => tq2 m c t (ix2 i e)) (fun k e => tk2 m c t (ix2 k e)) = sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j 2 := by
  simp only [qT2 m c t i j hj, kT2]
  rfl

theorem dpT2 (i : Fin 512) (j : Fin 4096) (hj : j.val = t.val * 512 + i.val) : (fun k => ∑ e : Fin 256, tdatt m c t (ix2 i ⟨512 + e.val, by omega⟩) * tv2 m c t (ix2 k e)) = dp (m ((c : Thread nD τ).loc main_arg6)) (m ((c : Thread nD τ).loc main_arg7)) (m ((c : Thread nD τ).loc main_arg8)) j 2 := by
  simp only [datt2 m c t i j hj, vT2]
  rfl

theorem probT2 (i : Fin 512) (j : Fin 4096) (hj : j.val = t.val * 512 + i.val) (k : Fin 256) : (k0_pay28 (tq2 m c t) (tk2 m c t) : FVec Ideal S512x256 .f32) (ix2 i k) = Attn.prob (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j 2) k :=
  (probK2 _ _ i k).trans (congrArg (fun s => Attn.prob s k) (scT2 m c t i j hj))

theorem dsT2 (i : Fin 512) (j : Fin 4096) (hj : j.val = t.val * 512 + i.val) (k : Fin 256) : (k0_pay31 (k0_pay28 (tq2 m c t) (tk2 m c t)) (k0_pay29 (tdatt m c t) (tv2 m c t)) (k0_pay30 (tdatt m c t) (tq2 m c t) (tk2 m c t) (tv2 m c t)) : FVec Ideal S512x256 .bf16) (ix2 i k) = DS m c j 2 k :=
  (dsK2 _ _ _ _ i k).trans (congrArg₂ (fun s p => Attn.dscore s p k) (scT2 m c t i j hj) (dpT2 m c t i j hj))

theorem qT3 (i : Fin 512) (j : Fin 4096) (hj : j.val = t.val * 512 + i.val) (e : Fin 256) : tq3 m c t (ix2 i e) = xq (m ((c : Thread nD τ).loc main_arg0)) (m ((c : Thread nD τ).loc main_arg1)) (m ((c : Thread nD τ).loc main_arg2)) (m ((c : Thread nD τ).loc main_arg3)) (m ((c : Thread nD τ).loc main_arg4)) j 3 e := by
  refine Eq.trans ?_ ((in2 m c t i ⟨768 + e.val, by omega⟩ j hj).trans (congrArg₂ _ (hd_eq (q := 768) (e := e) (by decide) rfl) (lo_eq (q := 768) (h := 3) (by decide) rfl)))
  pointwise [tq3]

theorem kT3 (k e : Fin 256) : tk3 m c t (ix2 k e) = m ((c : Thread nD τ).loc main_arg5) (ix4 0 k 3 e) := by
  refine Eq.trans ?_ ((in3 m c t k ⟨768 + e.val, by omega⟩).trans (congrArg₂ (fun a b => m ((c : Thread nD τ).loc main_arg5) (ix4 0 k a b)) (hd_eq (q := 768) (e := e) (by decide) rfl) (lo_eq (q := 768) (h := 3) (by decide) rfl)))
  pointwise [tk3]

theorem vT3 (k e : Fin 256) : tv3 m c t (ix2 k e) = m ((c : Thread nD τ).loc main_arg6) (ix4 0 k 3 e) := by
  refine Eq.trans ?_ ((in4 m c t k ⟨768 + e.val, by omega⟩).trans (congrArg₂ (fun a b => m ((c : Thread nD τ).loc main_arg6) (ix4 0 k a b)) (hd_eq (q := 768) (e := e) (by decide) rfl) (lo_eq (q := 768) (h := 3) (by decide) rfl)))
  pointwise [tv3]

theorem datt3 (i : Fin 512) (j : Fin 4096) (hj : j.val = t.val * 512 + i.val) (e : Fin 256) : tdatt m c t (ix2 i ⟨768 + e.val, by omega⟩) = datt (m ((c : Thread nD τ).loc main_arg7)) (m ((c : Thread nD τ).loc main_arg8)) j 3 e :=
  (dattT m c t i j hj _).trans (congrArg₂ _ (hd_eq (q := 768) (e := e) (by decide) rfl) (lo_eq (q := 768) (h := 3) (by decide) rfl))

theorem scT3 (i : Fin 512) (j : Fin 4096) (hj : j.val = t.val * 512 + i.val) : Attn.score (fun e => tq3 m c t (ix2 i e)) (fun k e => tk3 m c t (ix2 k e)) = sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j 3 := by
  simp only [qT3 m c t i j hj, kT3]
  rfl

theorem dpT3 (i : Fin 512) (j : Fin 4096) (hj : j.val = t.val * 512 + i.val) : (fun k => ∑ e : Fin 256, tdatt m c t (ix2 i ⟨768 + e.val, by omega⟩) * tv3 m c t (ix2 k e)) = dp (m ((c : Thread nD τ).loc main_arg6)) (m ((c : Thread nD τ).loc main_arg7)) (m ((c : Thread nD τ).loc main_arg8)) j 3 := by
  simp only [datt3 m c t i j hj, vT3]
  rfl

theorem probT3 (i : Fin 512) (j : Fin 4096) (hj : j.val = t.val * 512 + i.val) (k : Fin 256) : (k0_pay37 (tq3 m c t) (tk3 m c t) : FVec Ideal S512x256 .f32) (ix2 i k) = Attn.prob (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j 3) k :=
  (probK3 _ _ i k).trans (congrArg (fun s => Attn.prob s k) (scT3 m c t i j hj))

theorem dsT3 (i : Fin 512) (j : Fin 4096) (hj : j.val = t.val * 512 + i.val) (k : Fin 256) : (k0_pay38 (tdatt m c t) (tq3 m c t) (tk3 m c t) (tv3 m c t) : FVec Ideal S512x256 .bf16) (ix2 i k) = DS m c j 3 k :=
  (dsK3 _ _ _ _ i k).trans (congrArg₂ (fun s p => Attn.dscore s p k) (scT3 m c t i j hj) (dpT3 m c t i j hj))

theorem kT0' (k e : Fin 256) : (k0_pay9 (tk0 m c t) : FVec Ideal S256x256 .bf16) (ix2 k e) = m ((c : Thread nD τ).loc main_arg5) (ix4 0 k 0 e) := by
  refine Eq.trans ?_ (kT0 m c t k e)
  generalize tk0 m c t = y
  pointwise [k0_pay9]

theorem qT0' (i : Fin 512) (j : Fin 4096) (hj : j.val = t.val * 512 + i.val) (e : Fin 256) : (k0_pay8 (tq0 m c t) : FVec Ideal S512x256 .bf16) (ix2 i e) = xq (m ((c : Thread nD τ).loc main_arg0)) (m ((c : Thread nD τ).loc main_arg1)) (m ((c : Thread nD τ).loc main_arg2)) (m ((c : Thread nD τ).loc main_arg3)) (m ((c : Thread nD τ).loc main_arg4)) j 0 e := by
  refine Eq.trans ?_ (qT0 m c t i j hj e)
  generalize tq0 m c t = y
  pointwise [k0_pay8]

theorem kT1' (k e : Fin 256) : (k0_pay18 (tk1 m c t) : FVec Ideal S256x256 .bf16) (ix2 k e) = m ((c : Thread nD τ).loc main_arg5) (ix4 0 k 1 e) := by
  refine Eq.trans ?_ (kT1 m c t k e)
  generalize tk1 m c t = y
  pointwise [k0_pay18]

theorem qT1' (i : Fin 512) (j : Fin 4096) (hj : j.val = t.val * 512 + i.val) (e : Fin 256) : (k0_pay17 (tq1 m c t) : FVec Ideal S512x256 .bf16) (ix2 i e) = xq (m ((c : Thread nD τ).loc main_arg0)) (m ((c : Thread nD τ).loc main_arg1)) (m ((c : Thread nD τ).loc main_arg2)) (m ((c : Thread nD τ).loc main_arg3)) (m ((c : Thread nD τ).loc main_arg4)) j 1 e := by
  refine Eq.trans ?_ (qT1 m c t i j hj e)
  generalize tq1 m c t = y
  pointwise [k0_pay17]

theorem kT2' (k e : Fin 256) : (k0_pay27 (tk2 m c t) : FVec Ideal S256x256 .bf16) (ix2 k e) = m ((c : Thread nD τ).loc main_arg5) (ix4 0 k 2 e) := by
  refine Eq.trans ?_ (kT2 m c t k e)
  generalize tk2 m c t = y
  pointwise [k0_pay27]

theorem qT2' (i : Fin 512) (j : Fin 4096) (hj : j.val = t.val * 512 + i.val) (e : Fin 256) : (k0_pay26 (tq2 m c t) : FVec Ideal S512x256 .bf16) (ix2 i e) = xq (m ((c : Thread nD τ).loc main_arg0)) (m ((c : Thread nD τ).loc main_arg1)) (m ((c : Thread nD τ).loc main_arg2)) (m ((c : Thread nD τ).loc main_arg3)) (m ((c : Thread nD τ).loc main_arg4)) j 2 e := by
  refine Eq.trans ?_ (qT2 m c t i j hj e)
  generalize tq2 m c t = y
  pointwise [k0_pay26]

theorem kT3' (k e : Fin 256) : (k0_pay36 (tk3 m c t) : FVec Ideal S256x256 .bf16) (ix2 k e) = m ((c : Thread nD τ).loc main_arg5) (ix4 0 k 3 e) := by
  refine Eq.trans ?_ (kT3 m c t k e)
  generalize tk3 m c t = y
  pointwise [k0_pay36]

theorem qT3' (i : Fin 512) (j : Fin 4096) (hj : j.val = t.val * 512 + i.val) (e : Fin 256) : (k0_pay35 (tq3 m c t) : FVec Ideal S512x256 .bf16) (ix2 i e) = xq (m ((c : Thread nD τ).loc main_arg0)) (m ((c : Thread nD τ).loc main_arg1)) (m ((c : Thread nD τ).loc main_arg2)) (m ((c : Thread nD τ).loc main_arg3)) (m ((c : Thread nD τ).loc main_arg4)) j 3 e := by
  refine Eq.trans ?_ (qT3 m c t i j hj e)
  generalize tq3 m c t = y
  pointwise [k0_pay35]

theorem dqT (i : Fin 512) (j : Fin 4096) (hj : j.val = t.val * 512 + i.val) (d : Fin 1024) : tdq m c t (ix2 i d) = DQ m c j (hd d) (lo d) := by
  refine dxqK _ _ _ _ _ i d (DQ m c j) ?_ ?_ ?_ ?_
  · intro e
    refine (dxqK0 _ _ _ _ _ i e).trans ?_
    exact Fin.sum_fin_congr fun k => congrArg₂ (fun a b : EReal => (a * b : EReal)) (dsT0 m c t i j hj k) (kT0' m c t k e)
  · intro e
    refine (dxqK1 _ _ _ _ i e).trans ?_
    exact Fin.sum_fin_congr fun k => congrArg₂ (fun a b : EReal => (a * b : EReal)) (dsT1 m c t i j hj k) (kT1' m c t k e)
  · intro e
    refine (dxqK2 _ _ _ _ i e).trans ?_
    exact Fin.sum_fin_congr fun k => congrArg₂ (fun a b : EReal => (a * b : EReal)) (dsT2 m c t i j hj k) (kT2' m c t k e)
  · intro e

    exact Fin.sum_fin_congr fun k => congrArg₂ (fun a b : EReal => (a * b : EReal)) (dsT3 m c t i j hj k) (kT3' m c t k e)

theorem dhT (i : Fin 512) (j : Fin 4096) (hj : j.val = t.val * 512 + i.val) (d : Fin 1024) : tdh m c t (ix2 i d) = DH m c j d := by
  refine (dhqK _ _ _ _ _ _ _ _ _ i d (fun q e => DH m c j ⟨q.val * 256 + e.val, by omega⟩) ?_ ?_ ?_ ?_).trans ?_
  · intro e
    refine Eq.trans (Fin.sum_fin_congr fun x => congrArg₂ (fun a b : EReal => (a * b : EReal)) (dqT m c t i j hj x) (Eq.trans ?_ (in7 m c t 0 e x ⟨0 + e.val, by omega⟩ (by simp)))) ?_
    · pointwise
    · refine (Common.sum_divMod (a := 4) (b := 256) (by decide) rfl fun h' e' => DQ m c j h' e' * m ((c : Thread nD τ).loc main_arg4) (ix4 0 (⟨0 + e.val, by omega⟩ : Fin 1024) h' e')).trans ?_
      rfl
  · intro e
    refine Eq.trans (Fin.sum_fin_congr fun x => congrArg₂ (fun a b : EReal => (a * b : EReal)) (dqT m c t i j hj x) (Eq.trans ?_ (in7 m c t 1 e x ⟨256 + e.val, by omega⟩ (by simp)))) ?_
    · pointwise
    · refine (Common.sum_divMod (a := 4) (b := 256) (by decide) rfl fun h' e' => DQ m c j h' e' * m ((c : Thread nD τ).loc main_arg4) (ix4 0 (⟨256 + e.val, by omega⟩ : Fin 1024) h' e')).trans ?_
      rfl
  · intro e
    refine Eq.trans (Fin.sum_fin_congr fun x => congrArg₂ (fun a b : EReal => (a * b : EReal)) (dqT m c t i j hj x) (Eq.trans ?_ (in7 m c t 2 e x ⟨512 + e.val, by omega⟩ (by simp)))) ?_
    · pointwise
    · refine (Common.sum_divMod (a := 4) (b := 256) (by decide) rfl fun h' e' => DQ m c j h' e' * m ((c : Thread nD τ).loc main_arg4) (ix4 0 (⟨512 + e.val, by omega⟩ : Fin 1024) h' e')).trans ?_
      rfl
  · intro e
    refine Eq.trans (Fin.sum_fin_congr fun x => congrArg₂ (fun a b : EReal => (a * b : EReal)) (dqT m c t i j hj x) (Eq.trans ?_ (in7 m c t 3 e x ⟨768 + e.val, by omega⟩ (by simp)))) ?_
    · pointwise
    · refine (Common.sum_divMod (a := 4) (b := 256) (by decide) rfl fun h' e' => DQ m c j h' e' * m ((c : Thread nD τ).loc main_arg4) (ix4 0 (⟨768 + e.val, by omega⟩ : Fin 1024) h' e')).trans ?_
      rfl
  · exact congrArg _ (Fin.ext (by show d.val / 256 * 256 + d.val % 256 = d.val; omega))

theorem dxT (i : Fin 512) (j : Fin 4096) (hj : j.val = t.val * 512 + i.val) (d : Fin 1024) : k0_pay49 (k0_pay6 (iblk m c 0 t)) (tdh m c t) (iblk m c 5 t) (iblk m c 1 t) (ix2 i d) = DX m c j d :=
  dxK _ _ _ _ i d (X m c j) (DH m c j) (gain m c) (Y m c j) (fun k => in1 m c t i k j hj) (dhT m c t i j hj) (in5 m c t) (fun k => in0 m c t i k j hj)

end tile

end Cert.XattnKernelIdeal.Val

end
-- ==== Proof.XattnValue.lean ====
module

public import proofs.«01_k».proof.Proof.Gen.XattnKernelIdeal.Value
public import proofs.«01_k».proof.Proof.Gen.XattnReferenceIdeal.Read
public import proofs.«01_k».proof.Proof.Common
public import proofs.«01_k».proof.Proof.Norm
public import proofs.«01_k».proof.Proof.XattnTile
@[expose] public section

set_option maxRecDepth 16384
set_option maxHeartbeats 1000000

noncomputable section

open Idealize.ShloMosaic Idealize.ShloMosaic.TcCoe Idealize.SL.Sem
open Idealize.ShloMosaic.Pipeline (Dat)

namespace Cert.XattnKernelIdeal.Val

open Cert.XattnKernelIdeal Cert.XattnKernelIdeal.Gen
open Cert.XattnReferenceIdeal.Read

variable (m : (ℓ : Loc nD τ sig) → Buf (Elt Ideal) ℓ)

theorem dattR2 (X7 : FVec Ideal Cert.XattnReferenceIdeal.S1x4x256x1024 .f32) (X8 : FVec Ideal Cert.XattnReferenceIdeal.S1x4096x1024 .f32) (j : Fin 4096) (h : Fin 4) (e : Fin 256) : val_main_v139 (F := Ideal) X7 X8 (ix4 0 h e j) = datt X7 X8 j h e := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_v133, val_main_v134, val_main_v135, val_main_v136, val_main_v137, val_main_v138, val_main_v139, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  rfl

theorem dpR2 (X6 : FVec Ideal Cert.XattnReferenceIdeal.S1x256x4x256 .f32) (X7 : FVec Ideal Cert.XattnReferenceIdeal.S1x4x256x1024 .f32) (X8 : FVec Ideal Cert.XattnReferenceIdeal.S1x4096x1024 .f32) (j : Fin 4096) (h : Fin 4) (k : Fin 256) : val_main_v140 (F := Ideal) X6 X7 X8 (ix4 0 h j k) = dp X6 X7 X8 j h k := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_v140, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [dattR2]
  rfl

theorem dsR2 (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) (X6 : FVec Ideal Cert.XattnReferenceIdeal.S1x256x4x256 .f32) (X7 : FVec Ideal Cert.XattnReferenceIdeal.S1x4x256x1024 .f32) (X8 : FVec Ideal Cert.XattnReferenceIdeal.S1x4096x1024 .f32) (j : Fin 4096) (h : Fin 4) (k : Fin 256) : val_main_v155 (F := Ideal) X0 X1 X2 X3 X4 X5 X6 X7 X8 (ix4 0 h j k)
    = (Ideal.div (dp X6 X7 X8 j h k) (∑ l, Attn.ex (sc X0 X1 X2 X3 X4 X5 j h) l)
      + -∑ l, dp X6 X7 X8 j h l * Ideal.div 1 ((∑ l, Attn.ex (sc X0 X1 X2 X3 X4 X5 j h) l) * ∑ l, Attn.ex (sc X0 X1 X2 X3 X4 X5 j h) l) * Attn.ex (sc X0 X1 X2 X3 X4 X5 j h) l)
      * Attn.ex (sc X0 X1 X2 X3 X4 X5 j h) k * Ideal.ofBits .f32 1031798784#32 := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_v141, val_main_v142, val_main_v143, val_main_cst_31, val_main_v144, val_main_v145, val_main_v146, val_main_v147, val_main_v148, val_main_cst_32, val_main_v149, val_main_v150, val_main_v151, val_main_v152, val_main_v153, val_main_cst_33, val_main_v154, val_main_v155, val_main_cst_34, val_main_cst_35, val_main_cst_36, val_main_cst_37, val_main_cst_38, val_main_cst_39, Common.hostReduceAdd_leading, Common.hostReduceAdd_outer, Common.hostReduceAdd_ends]
  simp only [c123, c125, c130]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_v43, val_main_v44, val_main_v45, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_v47, val_main_cst_12, val_main_v48, val_main_v49, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [Fin.sum_univ_one, exR, dpR2]

theorem dxR (X0 : FVec Ideal Cert.XattnReferenceIdeal.S1x4096x1024 .f32) (X1 : FVec Ideal Cert.XattnReferenceIdeal.S1x4096x1024 .f32) (X2 : FVec Ideal Cert.XattnReferenceIdeal.S1x1024x1024 .f32) (X3 : FVec Ideal Cert.XattnReferenceIdeal.S1x1024 .f32) (X4 : FVec Ideal Cert.XattnReferenceIdeal.S1x1024x4x256 .f32) (X5 : FVec Ideal Cert.XattnReferenceIdeal.S1x256x4x256 .f32) (X6 : FVec Ideal Cert.XattnReferenceIdeal.S1x256x4x256 .f32) (X7 : FVec Ideal Cert.XattnReferenceIdeal.S1x4x256x1024 .f32) (X8 : FVec Ideal Cert.XattnReferenceIdeal.S1x4096x1024 .f32) (j : Fin 4096) (d : Fin 1024) (H : Fin 1024 → EReal) (hH : ∀ d, val_main_v158 (F := Ideal) X0 X1 X2 X3 X4 X5 X6 X7 X8 (ix3 0 j d) = H d) :
    val_main_v180 (F := Ideal) X0 X1 X2 X3 X4 X5 X6 X7 X8 (ix3 0 j d)
      = X8 (ix3 0 j d) + H d * X3 (ix2 0 d) * Norm.rinv (x1 X0 X1 X2 j) + x1 X0 X1 X2 j d * Norm.slope (x1 X0 X1 X2 j) (fun k => H k * X3 (ix2 0 k))
        + Norm.slope (x1 X0 X1 X2 j) (fun k => H k * X3 (ix2 0 k)) * x1 X0 X1 X2 j d := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_v159, val_main_cst_34, val_main_v160, val_main_v161, val_main_v162, val_main_v163, val_main_cst_35, val_main_v164, val_main_v165, val_main_cst_36, val_main_v166, val_main_v167, val_main_v168, val_main_v169, val_main_v170, val_main_v171, val_main_cst_37, val_main_v172, val_main_v173, val_main_cst_38, val_main_v174, val_main_v175, val_main_v176, val_main_v177, val_main_v178, val_main_v179, val_main_v180, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_v81, val_main_v82, val_main_cst_16, val_main_v83, val_main_v84, val_main_cst_17, val_main_v85, val_main_v86, val_main_cst_18, val_main_v87, val_main_v88, val_main_v89, val_main_v90, val_main_cst_19, val_main_v91, val_main_v92, val_main_v93, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_v95, val_main_v96, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_v136, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [Fin.sum_univ_one, c80, x1R, hH]
  rfl

theorem nR (X0 : FVec Ideal Cert.XattnReferenceIdeal.S1x4096x1024 .f32) (X1 : FVec Ideal Cert.XattnReferenceIdeal.S1x4096x1024 .f32) (X2 : FVec Ideal Cert.XattnReferenceIdeal.S1x1024x1024 .f32) (j : Fin 4096) (d : Fin 1024) : val_main_v94 (F := Ideal) X0 X1 X2 (ix3 0 j d) = x1 X0 X1 X2 j d * Norm.rinv (x1 X0 X1 X2 j) := by
  rw [c94]
  pointwise [val_main_v3, val_main_v4, val_main_cst, val_main_v5, val_main_v6, val_main_cst_0, val_main_v7, val_main_v8, val_main_cst_1, val_main_v9, val_main_v10, val_main_v11, val_main_v12, val_main_v13, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [x1R]
  rfl

/-- Every entry of every argument is a real number. -/
def Real (c : Dev nD) : Prop :=
  (∀ i, ∃ r : ℝ, (show EReal from m ((c : Thread nD τ).loc main_arg0) i) = r) ∧ (∀ i, ∃ r : ℝ, (show EReal from m ((c : Thread nD τ).loc main_arg1) i) = r) ∧ (∀ i, ∃ r : ℝ, (show EReal from m ((c : Thread nD τ).loc main_arg2) i) = r) ∧ (∀ i, ∃ r : ℝ, (show EReal from m ((c : Thread nD τ).loc main_arg3) i) = r) ∧ (∀ i, ∃ r : ℝ, (show EReal from m ((c : Thread nD τ).loc main_arg4) i) = r) ∧ (∀ i, ∃ r : ℝ, (show EReal from m ((c : Thread nD τ).loc main_arg5) i) = r) ∧ (∀ i, ∃ r : ℝ, (show EReal from m ((c : Thread nD τ).loc main_arg6) i) = r) ∧ (∀ i, ∃ r : ℝ, (show EReal from m ((c : Thread nD τ).loc main_arg7) i) = r) ∧ (∀ i, ∃ r : ℝ, (show EReal from m ((c : Thread nD τ).loc main_arg8) i) = r)

theorem x1_real (c : Dev nD) (h : Real m c) (j : Fin 4096) (d : Fin 1024) : ∃ r : ℝ, X m c j d = r :=
  Norm.real_add (h.1 _) (Norm.real_sum _ _ fun k => Norm.real_mul (h.2.1 _) (h.2.2.1 _))

theorem sc_real (c : Dev nD) (h : Real m c) (j : Fin 4096) (q : Fin 4) (k : Fin 256) : ∃ r : ℝ, sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j q k = r :=
  Attn.score_real _ _ (fun e => Norm.real_sum _ _ fun d => Norm.real_mul (Norm.real_mul (Norm.real_mul (x1_real m c h j d) (Norm.rinv_real _ fun k => x1_real m c h j k)) (h.2.2.2.1 _)) (h.2.2.2.2.1 _))
    (fun k e => h.2.2.2.2.2.1 _) k

theorem dp_real (c : Dev nD) (h : Real m c) (j : Fin 4096) (q : Fin 4) (k : Fin 256) : ∃ r : ℝ, dp (m ((c : Thread nD τ).loc main_arg6)) (m ((c : Thread nD τ).loc main_arg7)) (m ((c : Thread nD τ).loc main_arg8)) j q k = r :=
  Norm.real_sum _ _ fun e => Norm.real_mul (Norm.real_sum _ _ fun d => Norm.real_mul (h.2.2.2.2.2.2.2.2 _) (h.2.2.2.2.2.2.2.1 _)) (h.2.2.2.2.2.2.1 _)

theorem dh_real (c : Dev nD) (h : Real m c) (j : Fin 4096) (d : Fin 1024) : ∃ r : ℝ, DH m c j d = r :=
  Norm.real_sum _ _ fun q => Norm.real_sum _ _ fun e => Norm.real_mul (Norm.real_sum _ _ fun k =>
    Norm.real_mul (Attn.dscore_real _ _ (sc_real m c h j q) (dp_real m c h j q) k) (h.2.2.2.2.2.1 _)) (h.2.2.2.2.1 _)

theorem dsG (c : Dev nD) (h : Real m c) (j : Fin 4096) (q : Fin 4) (k : Fin 256) : val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 0 q j k) = DS m c j q k :=
  (dsR _ _ _ _ _ _ _ _ _ j q k).trans (Attn.dscore_eq _ _ (sc_real m c h j q) (dp_real m c h j q) k)

theorem dsG2 (c : Dev nD) (h : Real m c) (j : Fin 4096) (q : Fin 4) (k : Fin 256) : val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 0 q j k) = DS m c j q k :=
  (dsR2 _ _ _ _ _ _ _ _ _ j q k).trans (Attn.dscore_eq _ _ (sc_real m c h j q) (dp_real m c h j q) k)

theorem dhG (c : Dev nD) (h : Real m c) (j : Fin 4096) (d : Fin 1024) : val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 0 j d) = DH m c j d := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_v156, val_main_v157, val_main_v158, val_main_cst_34, val_main_cst_35, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_v98, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [dsG2 m c h]
  rfl

theorem dxG (c : Dev nD) (h : Real m c) (j : Fin 4096) (d : Fin 1024) : val_main_v180 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 0 j d) = DX m c j d :=
  (dxR _ _ _ _ _ _ _ _ _ j d (DH m c j) (dhG m c h j)).trans
    (Norm.grad_eq (Y m c j d) (X m c j) (fun k => DH m c j k * gain m c k) (x1_real m c h j) (fun k => Norm.real_mul (dh_real m c h j k) (h.2.2.2.1 _)) d)

theorem dqG (c : Dev nD) (h : Real m c) (j : Fin 4096) (d : Fin 1024) : val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 j d) = DQ m c j (hd d) (lo d) := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_v74, val_main_v75, val_main_v76, val_main_v77, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_v186, val_main_v187, val_main_cst_39, Common.hostReduceAdd_leading, Common.hostReduceAdd_outer, Common.hostReduceAdd_ends]
  simp only [dsG m c h]
  rfl

theorem dkG (c : Dev nD) (h : Real m c) (k : Fin 256) (d : Fin 1024) : val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 k d)
    = ∑ j : Fin 4096, DS m c j (hd d) k * xq (m ((c : Thread nD τ).loc main_arg0)) (m ((c : Thread nD τ).loc main_arg1)) (m ((c : Thread nD τ).loc main_arg2)) (m ((c : Thread nD τ).loc main_arg3)) (m ((c : Thread nD τ).loc main_arg4)) j (hd d) (lo d) := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_v74, val_main_v75, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_v189, val_main_cst_39, Common.hostReduceAdd_leading, Common.hostReduceAdd_outer, Common.hostReduceAdd_ends]
  simp only [dsG m c h, xqR]
  rfl

theorem dvG (c : Dev nD) (k : Fin 256) (d : Fin 1024) : val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (ix2 k d)
    = ∑ j : Fin 4096, Attn.prob (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j (hd d)) k * datt (m ((c : Thread nD τ).loc main_arg7)) (m ((c : Thread nD τ).loc main_arg8)) j (hd d) (lo d) := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v57, val_main_v58, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_v190, val_main_cst_39, Common.hostReduceAdd_leading, Common.hostReduceAdd_outer, Common.hostReduceAdd_ends]
  simp only [dattR, probR]
  exact Fin.sum_fin_congr fun j => mul_comm (G := EReal) _ _

theorem dmG (c : Dev nD) (h : Real m c) (j : Fin 4096) (e : Fin 1024) : val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 j e) = ∑ d, DX m c j d * m ((c : Thread nD τ).loc main_arg2) (ix3 0 e d) := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_v181, val_main_v182, val_main_v183, val_main_v184, val_main_v185, val_main_v186, val_main_v187, val_main_v188, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_v78, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_cst_39, Common.hostReduceAdd_leading, Common.hostReduceAdd_outer, Common.hostReduceAdd_ends]
  simp only [dxG m c h]

theorem stG (c : Dev nD) (h : Real m c) (r : Fin 8) (d : Fin 1024) : val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r d)
    = if r.val < 1 then ∑ j : Fin 4096, DH m c j d * (X m c j d * Norm.rinv (X m c j)) else 0 := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_v159, val_main_cst_34, val_main_v160, val_main_v161, val_main_v162, val_main_v163, val_main_cst_35, val_main_v164, val_main_cst_36, val_main_cst_37, val_main_cst_38, val_main_cst_39, Common.hostReduceAdd_leading, Common.hostReduceAdd_outer, Common.hostReduceAdd_ends, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_v181, val_main_v182, val_main_v183, val_main_v184, val_main_v185, val_main_v186, val_main_v187, val_main_v188, val_main_v189, val_main_v190, val_main_cst_39, val_main_v191, val_main_v192, Common.hostReduceAdd_leading, Common.hostReduceAdd_outer, Common.hostReduceAdd_ends]
  simp only [Fin.sum_univ_one, nR, dhG m c h, dite_eq_ite]
  exact if_congr Iff.rfl (Fin.sum_fin_congr fun j => mul_comm (G := EReal) _ _) rfl

/-- A token of a tile. -/
def tok (t : Fin cfg0.N) (i : Fin 512) : Fin 4096 := ⟨t.val * 512 + i.val, by have : t.val < 8 := lt_of_lt_of_eq t.isLt N_0; omega⟩

theorem dkT (c : Dev nD) (t : Fin cfg0.N) (k : Fin 256) (d : Fin 1024) : tdk m c t (ix2 k d)
    = ∑ i : Fin 512, DS m c (tok t i) (hd d) k * xq (m ((c : Thread nD τ).loc main_arg0)) (m ((c : Thread nD τ).loc main_arg1)) (m ((c : Thread nD τ).loc main_arg2)) (m ((c : Thread nD τ).loc main_arg3)) (m ((c : Thread nD τ).loc main_arg4)) (tok t i) (hd d) (lo d) := by
  refine dxkK _ _ _ _ _ k d (fun h e => ∑ i : Fin 512, DS m c (tok t i) h k * xq (m ((c : Thread nD τ).loc main_arg0)) (m ((c : Thread nD τ).loc main_arg1)) (m ((c : Thread nD τ).loc main_arg2)) (m ((c : Thread nD τ).loc main_arg3)) (m ((c : Thread nD τ).loc main_arg4)) (tok t i) h e) ?_ ?_ ?_ ?_
  · intro e
    refine (dxkK0 _ _ _ _ _ k e).trans ?_
    exact Fin.sum_fin_congr fun i => congrArg₂ (fun a b : EReal => (a * b : EReal)) (dsT0 m c t i (tok t i) rfl k) (qT0' m c t i (tok t i) rfl e)
  · intro e
    refine (dxkK1 _ _ _ _ k e).trans ?_
    exact Fin.sum_fin_congr fun i => congrArg₂ (fun a b : EReal => (a * b : EReal)) (dsT1 m c t i (tok t i) rfl k) (qT1' m c t i (tok t i) rfl e)
  · intro e
    refine (dxkK2 _ _ _ _ k e).trans ?_
    exact Fin.sum_fin_congr fun i => congrArg₂ (fun a b : EReal => (a * b : EReal)) (dsT2 m c t i (tok t i) rfl k) (qT2' m c t i (tok t i) rfl e)
  · intro e

    exact Fin.sum_fin_congr fun i => congrArg₂ (fun a b : EReal => (a * b : EReal)) (dsT3 m c t i (tok t i) rfl k) (qT3' m c t i (tok t i) rfl e)

theorem dvT (c : Dev nD) (t : Fin cfg0.N) (k : Fin 256) (d : Fin 1024) : tdv m c t (ix2 k d)
    = ∑ i : Fin 512, Attn.prob (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tok t i) (hd d)) k * datt (m ((c : Thread nD τ).loc main_arg7)) (m ((c : Thread nD τ).loc main_arg8)) (tok t i) (hd d) (lo d) := by
  refine dxvK _ _ _ _ _ k d (fun h e => ∑ i : Fin 512, Attn.prob (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tok t i) h) k * datt (m ((c : Thread nD τ).loc main_arg7)) (m ((c : Thread nD τ).loc main_arg8)) (tok t i) h e) ?_ ?_ ?_ ?_
  · intro e
    refine (dxvK0 _ _ _ k e).trans ?_
    exact Fin.sum_fin_congr fun i => congrArg₂ (fun a b : EReal => (a * b : EReal)) (probT0 m c t i (tok t i) rfl k) (datt0 m c t i (tok t i) rfl e)
  · intro e
    refine (dxvK1 _ _ k e).trans ?_
    exact Fin.sum_fin_congr fun i => congrArg₂ (fun a b : EReal => (a * b : EReal)) (probT1 m c t i (tok t i) rfl k) (datt1 m c t i (tok t i) rfl e)
  · intro e
    refine (dxvK2 _ _ k e).trans ?_
    exact Fin.sum_fin_congr fun i => congrArg₂ (fun a b : EReal => (a * b : EReal)) (probT2 m c t i (tok t i) rfl k) (datt2 m c t i (tok t i) rfl e)
  · intro e

    exact Fin.sum_fin_congr fun i => congrArg₂ (fun a b : EReal => (a * b : EReal)) (probT3 m c t i (tok t i) rfl k) (datt3 m c t i (tok t i) rfl e)

theorem dmT0 (c : Dev nD) (t : Fin cfg0.N) (i : Fin 512) (j : Fin 4096) (hj : j.val = t.val * 512 + i.val) (e : Fin 256) (f : Fin 1024) (hf : f.val = 0 + e.val) (w : Vec Ideal S1x256x1024 .bf16)
    (hw : ∀ d : Fin 1024, w (ix3 0 e d) = iblk m c 6 t (ix3 0 e d)) : (k0_pay51 (k0_pay6 (iblk m c 0 t)) (tdh m c t) (iblk m c 5 t) (iblk m c 1 t) w : FVec Ideal S512x256 .f32) (ix2 i e) = ∑ d, DX m c j d * m ((c : Thread nD τ).loc main_arg2) (ix3 0 f d) := by
  refine (dmixK0 _ _ _ _ _ i e).trans (Fin.sum_fin_congr fun d => ?_)
  exact congrArg₂ (fun a b : EReal => (a * b : EReal)) (dxT m c t i j hj d) ((hw d).trans (in6 m c t 0 e d f (by simp; omega)))

theorem dmT1 (c : Dev nD) (t : Fin cfg0.N) (i : Fin 512) (j : Fin 4096) (hj : j.val = t.val * 512 + i.val) (e : Fin 256) (f : Fin 1024) (hf : f.val = 256 + e.val) (w : Vec Ideal S1x256x1024 .bf16)
    (hw : ∀ d : Fin 1024, w (ix3 0 e d) = iblk m c 6 t (ix3 1 e d)) : (k0_pay1 (k0_pay50 (k0_pay6 (iblk m c 0 t)) (tdh m c t) (iblk m c 5 t) (iblk m c 1 t)) w : FVec Ideal S512x256 .f32) (ix2 i e) = ∑ d, DX m c j d * m ((c : Thread nD τ).loc main_arg2) (ix3 0 f d) := by
  refine (dmixK1 _ _ _ _ _ i e).trans (Fin.sum_fin_congr fun d => ?_)
  exact congrArg₂ (fun a b : EReal => (a * b : EReal)) (dxT m c t i j hj d) ((hw d).trans (in6 m c t 1 e d f (by simp; omega)))

theorem dmT2 (c : Dev nD) (t : Fin cfg0.N) (i : Fin 512) (j : Fin 4096) (hj : j.val = t.val * 512 + i.val) (e : Fin 256) (f : Fin 1024) (hf : f.val = 512 + e.val) (w : Vec Ideal S1x256x1024 .bf16)
    (hw : ∀ d : Fin 1024, w (ix3 0 e d) = iblk m c 6 t (ix3 2 e d)) : (k0_pay2 (k0_pay50 (k0_pay6 (iblk m c 0 t)) (tdh m c t) (iblk m c 5 t) (iblk m c 1 t)) w : FVec Ideal S512x256 .f32) (ix2 i e) = ∑ d, DX m c j d * m ((c : Thread nD τ).loc main_arg2) (ix3 0 f d) := by
  refine (dmixK2 _ _ _ _ _ i e).trans (Fin.sum_fin_congr fun d => ?_)
  exact congrArg₂ (fun a b : EReal => (a * b : EReal)) (dxT m c t i j hj d) ((hw d).trans (in6 m c t 2 e d f (by simp; omega)))

theorem dmT3 (c : Dev nD) (t : Fin cfg0.N) (i : Fin 512) (j : Fin 4096) (hj : j.val = t.val * 512 + i.val) (e : Fin 256) (f : Fin 1024) (hf : f.val = 768 + e.val) (w : Vec Ideal S1x256x1024 .bf16)
    (hw : ∀ d : Fin 1024, w (ix3 0 e d) = iblk m c 6 t (ix3 3 e d)) : (k0_pay3 (k0_pay50 (k0_pay6 (iblk m c 0 t)) (tdh m c t) (iblk m c 5 t) (iblk m c 1 t)) w : FVec Ideal S512x256 .f32) (ix2 i e) = ∑ d, DX m c j d * m ((c : Thread nD τ).loc main_arg2) (ix3 0 f d) := by
  refine (dmixK3 _ _ _ _ _ i e).trans (Fin.sum_fin_congr fun d => ?_)
  exact congrArg₂ (fun a b : EReal => (a * b : EReal)) (dxT m c t i j hj d) ((hw d).trans (in6 m c t 3 e d f (by simp; omega)))

theorem stT (c : Dev nD) (t : Fin cfg0.N) (j : S8x1024.Idx) : k0_pay4 (k0_pay48 (tdh m c t) (iblk m c 1 t)) j
    = if (j 0).val < 1 then ∑ i : Fin 512, DH m c (tok t i) (j 1) * (X m c (tok t i) (j 1) * Norm.rinv (X m c (tok t i))) else 0 :=
  stK _ _ j (fun i => X m c (tok t i)) (fun i => DH m c (tok t i)) (fun i k => in1 m c t i k _ rfl) (fun i k => dhT m c t i _ rfl k)

theorem outX (c : Dev nD) (h : Real m c) : (dats m 0 c).arrAt 9 (cfgs 0).N
    = val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  obtain ⟨i, d, rfl⟩ : ∃ (i : Fin 512) (d : Fin 1024), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 9).blk t).view.emb (ix2 i d) = (ix2 j d : S4096x1024.Idx) := by blk_ext [idx t]
  refine Eq.trans ?_ (congrArg _ e).symm
  have r : val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 j d) = val_main_v180 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 0 j d) := by
    pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_v181, val_main_v182, val_main_v183, val_main_v184, val_main_v185, val_main_v186, val_main_v187, val_main_v188, val_main_cst_39, Common.hostReduceAdd_leading, Common.hostReduceAdd_outer, Common.hostReduceAdd_ends]
  refine Eq.trans ?_ (r.trans (dxG m c h j d)).symm
  rw [after0_9]
  by_cases h0 : t.val % 8 = 0
  · rw [outsAt0_A m c t h0 (by omega) h0 (by omega)]
    frame_out
    exact dxT m c t i j hj d
  · rw [outsAt0_B m c t h0 (by omega) h0 (by omega)]
    frame_out
    exact dxT m c t i j hj d

theorem outXb (c : Dev nD) (h : Real m c) : (dats m 0 c).arrAt 10 (cfgs 0).N
    = val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  obtain ⟨i, d, rfl⟩ : ∃ (i : Fin 512) (d : Fin 1024), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 10).blk t).view.emb (ix2 i d) = (ix2 j d : S4096x1024.Idx) := by blk_ext [idx t]
  refine Eq.trans ?_ (congrArg _ e).symm
  have r : val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 j d) = val_main_v180 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 0 j d) := by
    pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38, val_main_v181, val_main_v182, val_main_v183, val_main_v184, val_main_v185, val_main_v186, val_main_v187, val_main_v188, val_main_cst_39, Common.hostReduceAdd_leading, Common.hostReduceAdd_outer, Common.hostReduceAdd_ends]
  refine Eq.trans ?_ (r.trans (dxG m c h j d)).symm
  rw [after0_10]
  by_cases h0 : t.val % 8 = 0
  · rw [outsAt0_A m c t h0 (by omega) h0 (by omega)]
    frame_out
    pointwise [k0_pay50]
    exact dxT m c t i j hj d
  · rw [outsAt0_B m c t h0 (by omega) h0 (by omega)]
    frame_out
    pointwise [k0_pay50]
    exact dxT m c t i j hj d

theorem outQ (c : Dev nD) (h : Real m c) : (dats m 0 c).arrAt 11 (cfgs 0).N
    = val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  obtain ⟨i, d, rfl⟩ : ∃ (i : Fin 512) (d : Fin 1024), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 11).blk t).view.emb (ix2 i d) = (ix2 j d : S4096x1024.Idx) := by blk_ext [idx t]
  refine Eq.trans ?_ (congrArg _ e).symm
  refine Eq.trans ?_ (dqG m c h j d).symm
  rw [after0_11]
  by_cases h0 : t.val % 8 = 0
  · rw [outsAt0_A m c t h0 (by omega) h0 (by omega)]
    frame_out
    exact dqT m c t i j hj d
  · rw [outsAt0_B m c t h0 (by omega) h0 (by omega)]
    frame_out
    exact dqT m c t i j hj d

theorem at_lt {q : ℕ} (hq : q ≤ 768) (x : Fin 256) : q + x.val < 1024 := by omega

theorem outM (c : Dev nD) (hr : Real m c) : (dats m 0 c).arrAt 12 (cfgs 0).N
    = val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t _ y => ?_
  obtain ⟨i, d, rfl⟩ : ∃ (i : Fin 512) (d : Fin 1024), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 12).blk t).view.emb (ix2 i d) = (ix2 j d : S4096x1024.Idx) := by blk_ext [idx t]
  refine Eq.trans ?_ (congrArg _ e).symm
  refine Eq.trans ?_ (dmG m c hr j d).symm
  rw [after0_12]
  by_cases h0 : t.val % 8 = 0
  · rw [outsAt0_A m c t h0 (by omega) h0 (by omega)]
    frame_out
    canon_tiles x h <;> idx_vars x
    · obtain rfl : i = x0 := Fin.ext (by assumption)
      obtain rfl : d = ⟨768 + x1.val, at_lt (by decide) x1⟩ := Fin.ext (by assumption)
      refine dmT3 m c t i j hj x1 _ rfl _ ?_
      intros; pointwise
    · obtain rfl : i = x0 := Fin.ext (by assumption)
      obtain rfl : d = ⟨512 + x1.val, at_lt (by decide) x1⟩ := Fin.ext (by assumption)
      refine dmT2 m c t i j hj x1 _ rfl _ ?_
      intros; pointwise
    · obtain rfl : i = x0 := Fin.ext (by assumption)
      obtain rfl : d = ⟨256 + x1.val, at_lt (by decide) x1⟩ := Fin.ext (by assumption)
      refine dmT1 m c t i j hj x1 _ rfl _ ?_
      intros; pointwise
    · obtain rfl : i = x0 := Fin.ext (by assumption)
      obtain rfl : d = ⟨x1.val, lt_trans x1.isLt (by decide)⟩ := Fin.ext (by assumption)
      refine dmT0 m c t i j hj x1 _ (Nat.zero_add _).symm _ ?_
      intros; pointwise
  · rw [outsAt0_B m c t h0 (by omega) h0 (by omega)]
    frame_out
    canon_tiles x h <;> idx_vars x
    · obtain rfl : i = x0 := Fin.ext (by assumption)
      obtain rfl : d = ⟨768 + x1.val, at_lt (by decide) x1⟩ := Fin.ext (by assumption)
      refine dmT3 m c t i j hj x1 _ rfl _ ?_
      intros; pointwise
    · obtain rfl : i = x0 := Fin.ext (by assumption)
      obtain rfl : d = ⟨512 + x1.val, at_lt (by decide) x1⟩ := Fin.ext (by assumption)
      refine dmT2 m c t i j hj x1 _ rfl _ ?_
      intros; pointwise
    · obtain rfl : i = x0 := Fin.ext (by assumption)
      obtain rfl : d = ⟨256 + x1.val, at_lt (by decide) x1⟩ := Fin.ext (by assumption)
      refine dmT1 m c t i j hj x1 _ rfl _ ?_
      intros; pointwise
    · obtain rfl : i = x0 := Fin.ext (by assumption)
      obtain rfl : d = ⟨x1.val, lt_trans x1.isLt (by decide)⟩ := Fin.ext (by assumption)
      refine dmT0 m c t i j hj x1 _ (Nat.zero_add _).symm _ ?_
      intros; pointwise

theorem outK (c : Dev nD) (h : Real m c) : (dats m 0 c).arrAt 13 (cfgs 0).N
    = val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 13 t0_7 (by decide +kernel) _ fun j => ?_
  obtain ⟨r, d, rfl⟩ : ∃ (r : Fin 256) (d : Fin 1024), j = ix2 r d := ⟨j 0, j 1, eq_ix2 j⟩
  refine Eq.trans ?_ (dkG m c h r d).symm
  blk_simp
  rw [after0_13, Pipeline.eq_sum_fin_of_reset_step_apply_last (fun n h => (outsAt0 m c n h).2.2.2.2.1) 8 (fun _ => 0)
    (fun p j => ∑ i : Fin 512, DS m c (tok p i) (hd (j 1)) (j 0) * xq (m ((c : Thread nD τ).loc main_arg0)) (m ((c : Thread nD τ).loc main_arg1)) (m ((c : Thread nD τ).loc main_arg2)) (m ((c : Thread nD τ).loc main_arg3)) (m ((c : Thread nD τ).loc main_arg4)) (tok p i) (hd (j 1)) (lo (j 1)))
    (fun t h j => by
      have ht : t.val < 8 := lt_of_lt_of_eq t.isLt N_0
      rw [outsAt0_A m c t h (by omega) h (by omega)]; frame_out
      exact ((congrArg _ (eq_ix2 j)).trans (dkT m c t (j 0) (j 1))).trans (zero_add _).symm)
    (fun t h j => by
      rw [outsAt0_B m c t h (by omega) h (by omega)]; frame_out
      refine Eq.trans ?_ (congrArg (fun x : EReal => (((outsAt0 m c (t.val - 1) (Nat.lt_of_le_of_lt (Nat.sub_le _ 1) t.isLt)).2.2.2.2.1 j : EReal) + x : EReal)) ((congrArg _ (eq_ix2 j)).trans (dkT m c t (j 0) (j 1))))
      pointwise [k0_pay42]
      rfl)
    (le_of_eq N_0) t0_7 rfl (ix2 r d), zero_add]
  show (∑ p : Fin cfg0.N, ∑ i : Fin 512, DS m c (tok p i) (hd d) r * xq (m ((c : Thread nD τ).loc main_arg0)) (m ((c : Thread nD τ).loc main_arg1)) (m ((c : Thread nD τ).loc main_arg2)) (m ((c : Thread nD τ).loc main_arg3)) (m ((c : Thread nD τ).loc main_arg4)) (tok p i) (hd d) (lo d) : EReal) = _
  exact Fin.sum_mul_add_congr fun p i hl => rfl

theorem outV (c : Dev nD) : (dats m 0 c).arrAt 14 (cfgs 0).N
    = val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  refine (dats m 0 c).arrAt_eq_of_after_last 14 t0_7 (by decide +kernel) _ fun j => ?_
  obtain ⟨r, d, rfl⟩ : ∃ (r : Fin 256) (d : Fin 1024), j = ix2 r d := ⟨j 0, j 1, eq_ix2 j⟩
  refine Eq.trans ?_ (dvG m c r d).symm
  blk_simp
  rw [after0_14, Pipeline.eq_sum_fin_of_reset_step_apply_last (fun n h => (outsAt0 m c n h).2.2.2.2.2.1) 8 (fun _ => 0)
    (fun p j => ∑ i : Fin 512, Attn.prob (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tok p i) (hd (j 1))) (j 0) * datt (m ((c : Thread nD τ).loc main_arg7)) (m ((c : Thread nD τ).loc main_arg8)) (tok p i) (hd (j 1)) (lo (j 1)))
    (fun t h j => by
      have ht : t.val < 8 := lt_of_lt_of_eq t.isLt N_0
      rw [outsAt0_A m c t h (by omega) h (by omega)]; frame_out
      exact ((congrArg _ (eq_ix2 j)).trans (dvT m c t (j 0) (j 1))).trans (zero_add _).symm)
    (fun t h j => by
      rw [outsAt0_B m c t h (by omega) h (by omega)]; frame_out
      refine Eq.trans ?_ (congrArg (fun x : EReal => (((outsAt0 m c (t.val - 1) (Nat.lt_of_le_of_lt (Nat.sub_le _ 1) t.isLt)).2.2.2.2.2.1 j : EReal) + x : EReal)) ((congrArg _ (eq_ix2 j)).trans (dvT m c t (j 0) (j 1))))
      pointwise [k0_pay43]
      rfl)
    (le_of_eq N_0) t0_7 rfl (ix2 r d), zero_add]
  show (∑ p : Fin cfg0.N, ∑ i : Fin 512, Attn.prob (sc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tok p i) (hd d)) r * datt (m ((c : Thread nD τ).loc main_arg7)) (m ((c : Thread nD τ).loc main_arg8)) (tok p i) (hd d) (lo d) : EReal) = _
  exact Fin.sum_mul_add_congr fun p i hl => rfl

theorem outG (c : Dev nD) (h : Real m c) : (dats m 0 c).arrAt 15 (cfgs 0).N
    = val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 15 t0_7 (by decide +kernel) _ fun j => ?_
  obtain ⟨r, d, rfl⟩ : ∃ (r : Fin 8) (d : Fin 1024), j = ix2 r d := ⟨j 0, j 1, eq_ix2 j⟩
  refine Eq.trans ?_ (stG m c h r d).symm
  blk_simp
  rw [after0_15, Pipeline.eq_sum_fin_of_reset_step_apply_last (fun n h => (outsAt0 m c n h).2.2.2.2.2.2) 8 (fun _ => 0)
    (fun p j => if (j 0).val < 1 then ∑ i : Fin 512, DH m c (tok p i) (j 1) * (X m c (tok p i) (j 1) * Norm.rinv (X m c (tok p i))) else 0)
    (fun t h j => by
      have ht : t.val < 8 := lt_of_lt_of_eq t.isLt N_0
      rw [outsAt0_A m c t h (by omega) h (by omega)]; frame_out
      exact (stT m c t j).trans (zero_add _).symm)
    (fun t h j => by
      rw [outsAt0_B m c t h (by omega) h (by omega)]; frame_out
      refine Eq.trans ?_ (congrArg (fun x : EReal => (((outsAt0 m c (t.val - 1) (Nat.lt_of_le_of_lt (Nat.sub_le _ 1) t.isLt)).2.2.2.2.2.2 j : EReal) + x : EReal)) (stT m c t j))
      pointwise [k0_pay5]
      rfl)
    (le_of_eq N_0) t0_7 rfl (ix2 r d), zero_add]
  show (∑ p : Fin cfg0.N, if r.val < 1 then ∑ i : Fin 512, DH m c (tok p i) d * (X m c (tok p i) d * Norm.rinv (X m c (tok p i))) else 0 : EReal) = _
  split_ifs
  · exact Fin.sum_mul_add_congr fun p i hl => rfl
  · exact Finset.sum_const_zero

end Cert.XattnKernelIdeal.Val

end
-- ==== Proof.Xattn.lean ====
module

public import proofs.«01_k».proof.Defs
public import proofs.«01_k».proof.Proof.Gen.XattnReferenceIdeal.Run
public import proofs.«01_k».proof.Proof.XattnValue

@[expose] public section

noncomputable section

open Idealize.ShloMosaic Idealize.SL.Sem

namespace Cert.Xattn

/-- Of finite arguments, every entry is a real number. -/
theorem real [Cert.Pre_finite_xattn.Facts] (m : (ℓ : Loc Cert.XattnKernelIdeal.nD Cert.XattnKernelIdeal.τ Cert.XattnKernelIdeal.sig) → Buf (Elt Ideal) ℓ)
    (hp : Cert.Pre_XattnKernelIdeal_finite_xattn m) (c : Dev Cert.XattnKernelIdeal.nD) : Cert.XattnKernelIdeal.Val.Real m c := by
  obtain ⟨h0, h1, h2, h3, h4, h5, h6, h7, h8⟩ := hp c
  exact ⟨fun i => Norm.real_of_finite (congrFun h0 i), fun i => Norm.real_of_finite (congrFun h1 i), fun i => Norm.real_of_finite (congrFun h2 i), fun i => Norm.real_of_finite (congrFun h3 i), fun i => Norm.real_of_finite (congrFun h4 i), fun i => Norm.real_of_finite (congrFun h5 i), fun i => Norm.real_of_finite (congrFun h6 i), fun i => Norm.real_of_finite (congrFun h7 i), fun i => Norm.real_of_finite (congrFun h8 i)⟩

set_option maxHeartbeats 2000000 in
/-- The backward of the cross-attention block computes the seven gradients of its mathematics, for finite arguments. -/
theorem algebraic [Cert.Pre_finite_xattn.Facts] : Cert.algebraic_XattnKernelIdeal_XattnReferenceIdeal_pre_finite_xattn := by
  intro m g m' g' hp h
  refine ⟨fun c => (Cert.XattnKernelIdeal.Gen.dats m 0 c).arrAt 9 (Cert.XattnKernelIdeal.cfgs 0).N, fun c => (Cert.XattnKernelIdeal.Gen.dats m 0 c).arrAt 10 (Cert.XattnKernelIdeal.cfgs 0).N, fun c => (Cert.XattnKernelIdeal.Gen.dats m 0 c).arrAt 11 (Cert.XattnKernelIdeal.cfgs 0).N, fun c => (Cert.XattnKernelIdeal.Gen.dats m 0 c).arrAt 12 (Cert.XattnKernelIdeal.cfgs 0).N, fun c => (Cert.XattnKernelIdeal.Gen.dats m 0 c).arrAt 13 (Cert.XattnKernelIdeal.cfgs 0).N, fun c => (Cert.XattnKernelIdeal.Gen.dats m 0 c).arrAt 14 (Cert.XattnKernelIdeal.cfgs 0).N, fun c => (Cert.XattnKernelIdeal.Gen.dats m 0 c).arrAt 15 (Cert.XattnKernelIdeal.cfgs 0).N,
    (θ_run _ _ _).mono (fun r hr c => hr c) (Cert.XattnKernelIdeal.Value.run_blocks m g),
    (θ_run _ _ _).mono (fun r hr c => ?_) (Cert.XattnReferenceIdeal.Value.run m' g')⟩
  obtain ⟨h0, h1, h2, h3, h4, h5, h6, h7, h8⟩ := h c
  obtain ⟨r0, r1, r2, r3, r4, r5, r6, ra⟩ := hr c
  refine ⟨r0.trans ?_, r1.trans ?_, r2.trans ?_, r3.trans ?_, r4.trans ?_, r5.trans ?_, r6.trans ?_, ra⟩
  · refine (Cert.XattnReferenceIdeal.Read.val_main_v183_eq _).trans ?_
    change Cert.XattnReferenceIdeal.Read.val_main_v183 (F := Ideal) (m' (c.tc.loc Cert.XattnReferenceIdeal.main_arg0)) (m' (c.tc.loc Cert.XattnReferenceIdeal.main_arg1)) (m' (c.tc.loc Cert.XattnReferenceIdeal.main_arg2)) (m' (c.tc.loc Cert.XattnReferenceIdeal.main_arg3)) (m' (c.tc.loc Cert.XattnReferenceIdeal.main_arg4)) (m' (c.tc.loc Cert.XattnReferenceIdeal.main_arg5)) (m' (c.tc.loc Cert.XattnReferenceIdeal.main_arg6)) (m' (c.tc.loc Cert.XattnReferenceIdeal.main_arg7)) (m' (c.tc.loc Cert.XattnReferenceIdeal.main_arg8)) = _
    rewrite [h0, h1, h2, h3, h4, h5, h6, h7, h8]
    exact (Cert.XattnKernelIdeal.Val.outX m c (real m hp c)).symm
  · refine (Cert.XattnReferenceIdeal.Read.val_main_v185_eq _).trans ?_
    change Cert.XattnReferenceIdeal.Read.val_main_v185 (F := Ideal) (m' (c.tc.loc Cert.XattnReferenceIdeal.main_arg0)) (m' (c.tc.loc Cert.XattnReferenceIdeal.main_arg1)) (m' (c.tc.loc Cert.XattnReferenceIdeal.main_arg2)) (m' (c.tc.loc Cert.XattnReferenceIdeal.main_arg3)) (m' (c.tc.loc Cert.XattnReferenceIdeal.main_arg4)) (m' (c.tc.loc Cert.XattnReferenceIdeal.main_arg5)) (m' (c.tc.loc Cert.XattnReferenceIdeal.main_arg6)) (m' (c.tc.loc Cert.XattnReferenceIdeal.main_arg7)) (m' (c.tc.loc Cert.XattnReferenceIdeal.main_arg8)) = _
    rewrite [h0, h1, h2, h3, h4, h5, h6, h7, h8]
    exact (Cert.XattnKernelIdeal.Val.outXb m c (real m hp c)).symm
  · refine (Cert.XattnReferenceIdeal.Read.val_main_v187_eq _).trans ?_
    change Cert.XattnReferenceIdeal.Read.val_main_v187 (F := Ideal) (m' (c.tc.loc Cert.XattnReferenceIdeal.main_arg0)) (m' (c.tc.loc Cert.XattnReferenceIdeal.main_arg1)) (m' (c.tc.loc Cert.XattnReferenceIdeal.main_arg2)) (m' (c.tc.loc Cert.XattnReferenceIdeal.main_arg3)) (m' (c.tc.loc Cert.XattnReferenceIdeal.main_arg4)) (m' (c.tc.loc Cert.XattnReferenceIdeal.main_arg5)) (m' (c.tc.loc Cert.XattnReferenceIdeal.main_arg6)) (m' (c.tc.loc Cert.XattnReferenceIdeal.main_arg7)) (m' (c.tc.loc Cert.XattnReferenceIdeal.main_arg8)) = _
    rewrite [h0, h1, h2, h3, h4, h5, h6, h7, h8]
    exact (Cert.XattnKernelIdeal.Val.outQ m c (real m hp c)).symm
  · refine (Cert.XattnReferenceIdeal.Read.val_main_v188_eq _).trans ?_
    change Cert.XattnReferenceIdeal.Read.val_main_v188 (F := Ideal) (m' (c.tc.loc Cert.XattnReferenceIdeal.main_arg0)) (m' (c.tc.loc Cert.XattnReferenceIdeal.main_arg1)) (m' (c.tc.loc Cert.XattnReferenceIdeal.main_arg2)) (m' (c.tc.loc Cert.XattnReferenceIdeal.main_arg3)) (m' (c.tc.loc Cert.XattnReferenceIdeal.main_arg4)) (m' (c.tc.loc Cert.XattnReferenceIdeal.main_arg5)) (m' (c.tc.loc Cert.XattnReferenceIdeal.main_arg6)) (m' (c.tc.loc Cert.XattnReferenceIdeal.main_arg7)) (m' (c.tc.loc Cert.XattnReferenceIdeal.main_arg8)) = _
    rewrite [h0, h1, h2, h3, h4, h5, h6, h7, h8]
    exact (Cert.XattnKernelIdeal.Val.outM m c (real m hp c)).symm
  · refine (Cert.XattnReferenceIdeal.Read.val_main_v189_eq _).trans ?_
    change Cert.XattnReferenceIdeal.Read.val_main_v189 (F := Ideal) (m' (c.tc.loc Cert.XattnReferenceIdeal.main_arg0)) (m' (c.tc.loc Cert.XattnReferenceIdeal.main_arg1)) (m' (c.tc.loc Cert.XattnReferenceIdeal.main_arg2)) (m' (c.tc.loc Cert.XattnReferenceIdeal.main_arg3)) (m' (c.tc.loc Cert.XattnReferenceIdeal.main_arg4)) (m' (c.tc.loc Cert.XattnReferenceIdeal.main_arg5)) (m' (c.tc.loc Cert.XattnReferenceIdeal.main_arg6)) (m' (c.tc.loc Cert.XattnReferenceIdeal.main_arg7)) (m' (c.tc.loc Cert.XattnReferenceIdeal.main_arg8)) = _
    rewrite [h0, h1, h2, h3, h4, h5, h6, h7, h8]
    exact (Cert.XattnKernelIdeal.Val.outK m c (real m hp c)).symm
  · refine (Cert.XattnReferenceIdeal.Read.val_main_v190_eq _).trans ?_
    change Cert.XattnReferenceIdeal.Read.val_main_v190 (F := Ideal) (m' (c.tc.loc Cert.XattnReferenceIdeal.main_arg0)) (m' (c.tc.loc Cert.XattnReferenceIdeal.main_arg1)) (m' (c.tc.loc Cert.XattnReferenceIdeal.main_arg2)) (m' (c.tc.loc Cert.XattnReferenceIdeal.main_arg3)) (m' (c.tc.loc Cert.XattnReferenceIdeal.main_arg4)) (m' (c.tc.loc Cert.XattnReferenceIdeal.main_arg5)) (m' (c.tc.loc Cert.XattnReferenceIdeal.main_arg7)) (m' (c.tc.loc Cert.XattnReferenceIdeal.main_arg8)) = _
    rewrite [h0, h1, h2, h3, h4, h5, h7, h8]
    exact (Cert.XattnKernelIdeal.Val.outV m c).symm
  · refine (Cert.XattnReferenceIdeal.Read.val_main_v192_eq _).trans ?_
    change Cert.XattnReferenceIdeal.Read.val_main_v192 (F := Ideal) (m' (c.tc.loc Cert.XattnReferenceIdeal.main_arg0)) (m' (c.tc.loc Cert.XattnReferenceIdeal.main_arg1)) (m' (c.tc.loc Cert.XattnReferenceIdeal.main_arg2)) (m' (c.tc.loc Cert.XattnReferenceIdeal.main_arg3)) (m' (c.tc.loc Cert.XattnReferenceIdeal.main_arg4)) (m' (c.tc.loc Cert.XattnReferenceIdeal.main_arg5)) (m' (c.tc.loc Cert.XattnReferenceIdeal.main_arg6)) (m' (c.tc.loc Cert.XattnReferenceIdeal.main_arg7)) (m' (c.tc.loc Cert.XattnReferenceIdeal.main_arg8)) = _
    rewrite [h0, h1, h2, h3, h4, h5, h6, h7, h8]
    exact (Cert.XattnKernelIdeal.Val.outG m c (real m hp c)).symm

/-- The reference terminates, leaves its arguments as they were and has no semaphore. -/
theorem frameReference : Cert.quiescent_XattnReferenceIdeal := by
  intro m ρ _
  exact (θ_run _ _ _).mono (fun r h => ⟨fun c => (h c).2.2.2.2.2.2.2, sem_eq_zero_of_no_sems (by decide) r.2⟩)
    (Cert.XattnReferenceIdeal.Value.run m ρ)

end Cert.Xattn

end
-- ==== Proof.Window.lean ====
module

public import Idealize.ShloMosaic.Lib.Pipeline.ValueKit
public import Idealize.ShloMosaic.Lib.Pointwise
public import Idealize.ShloMosaic.Lib.Claim
public import proofs.«01_k».proof.Proof.Norm

@[expose] public section

noncomputable section

open Idealize.ShloMosaic

namespace Cert.Window

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

variable {N G C : Nat}

theorem column_bijective : Function.Bijective (fun k : Fin N => (ix4 0 k 0 0 : (⟨4, ![1, N, 1, 1]⟩ : Shape).Idx)) := by
  constructor
  · intro a b e
    exact congrFun e 1
  · intro i
    refine ⟨i 1, ?_⟩
    funext a; apply Fin.ext
    match a with
    | ⟨0, _⟩ => have := (i 0).isLt; change _ < 1 at this; show (0 : ℕ) = (i 0).val; omega
    | ⟨1, _⟩ => rfl
    | ⟨2, _⟩ => have := (i 2).isLt; change _ < 1 at this; show (0 : ℕ) = (i 2).val; omega
    | ⟨3, _⟩ => have := (i 3).isLt; change _ < 1 at this; show (0 : ℕ) = (i 3).val; omega

/-- A running sum along the second of four axes, as a sum over the window's positions. -/
theorem window_sum (lo hi : Fin 4 → Nat) (x : (⟨4, ![1, N, G, C]⟩ : Shape).Idx → EReal)
    (h : (⟨4, ![1, N, G, C]⟩ : Shape).ReduceWindows ![1, N, 1, 1] ![1, 1, 1, 1] lo hi ⟨4, ![1, N, G, C]⟩)
    (hlo : lo 0 = 0) (hlo2 : lo 2 = 0) (hlo3 : lo 3 = 0) (s : Fin N) (g : Fin G) (c : Fin C) (f : ℕ → EReal)
    (hf : ∀ i : Fin N, x (ix4 0 i g c) = f i) :
    Ideal.hostReduceWindowAdd ![1, N, 1, 1] ![1, 1, 1, 1] lo hi h x 0 (ix4 0 s g c)
      = ∑ k : Fin N, if lo 1 ≤ s.val + k.val ∧ s.val + k.val - lo 1 < N then f (s.val + k.val - lo 1) else 0 := by
  unfold Ideal.hostReduceWindowAdd Host.reduceWindow
  dsimp only
  rw [foldl_add, zero_add, ← Fin.sum_univ_def]
  refine (Fintype.sum_bijective _ ((⟨4, ![1, N, 1, 1]⟩ : Shape).rowMajor.bijective.comp column_bijective) _ _ fun k => ?_).symm
  simp only [Function.comp, Equiv.symm_apply_apply]
  have hs := s.isLt
  have hg := g.isLt
  have hc := c.isLt
  by_cases hk : lo 1 ≤ s.val + k.val ∧ s.val + k.val - lo 1 < N
  · rw [if_pos hk, dif_pos ?_]
    · rw [← hf ⟨_, hk.2⟩]
      refine congrArg x (funext fun a => Fin.ext ?_)
      match a with
      | ⟨0, _⟩ => show 0 = 0 * 1 + 0 - lo 0; omega
      | ⟨1, _⟩ => show s.val + k.val - lo 1 = s.val * 1 + k.val - lo 1; omega
      | ⟨2, _⟩ => show g.val = g.val * 1 + 0 - lo 2; omega
      | ⟨3, _⟩ => show c.val = c.val * 1 + 0 - lo 3; omega
    · intro a
      match a with
      | ⟨0, _⟩ => show lo 0 ≤ 0 * 1 + 0 ∧ 0 * 1 + 0 - lo 0 < 1; omega
      | ⟨1, _⟩ => show lo 1 ≤ s.val * 1 + k.val ∧ s.val * 1 + k.val - lo 1 < N; omega
      | ⟨2, _⟩ => show lo 2 ≤ g.val * 1 + 0 ∧ g.val * 1 + 0 - lo 2 < G; omega
      | ⟨3, _⟩ => show lo 3 ≤ c.val * 1 + 0 ∧ c.val * 1 + 0 - lo 3 < C; omega
  · rw [if_neg hk, dif_neg fun hin => hk ?_]
    have := hin 1
    change lo 1 ≤ s.val * 1 + k.val ∧ s.val * 1 + k.val - lo 1 < N at this
    omega

/-- The running sum from the front. -/
theorem prefix_sum (M : Nat) (hM : M + 1 = N) (x : (⟨4, ![1, N, G, C]⟩ : Shape).Idx → EReal)
    (h : (⟨4, ![1, N, G, C]⟩ : Shape).ReduceWindows ![1, N, 1, 1] ![1, 1, 1, 1] ![0, M, 0, 0] ![0, 0, 0, 0] ⟨4, ![1, N, G, C]⟩)
    (s : Fin N) (g : Fin G) (c : Fin C) (f : ℕ → EReal) (hf : ∀ i : Fin N, x (ix4 0 i g c) = f i) :
    Ideal.hostReduceWindowAdd ![1, N, 1, 1] ![1, 1, 1, 1] ![0, M, 0, 0] ![0, 0, 0, 0] h x 0 (ix4 0 s g c) = ∑ i ∈ Finset.range (s.val + 1), f i := by
  have hs := s.isLt
  refine (window_sum _ _ x h rfl rfl rfl s g c f hf).trans ?_
  change (∑ k : Fin N, if M ≤ s.val + k.val ∧ s.val + k.val - M < N then f (s.val + k.val - M) else 0) = _
  rw [Fin.sum_univ_eq_sum_range (fun k => if M ≤ s.val + k ∧ s.val + k - M < N then f (s.val + k - M) else 0) N,
    ← congrArg Finset.range (show (M - s.val) + (s.val + 1) = N by omega), Finset.sum_range_add]
  rw [Finset.sum_eq_zero (s := Finset.range (M - s.val)) fun k hk => if_neg (by have := Finset.mem_range.mp hk; omega), zero_add]
  refine Finset.sum_congr rfl fun k hk => ?_
  have := Finset.mem_range.mp hk
  rw [if_pos (by omega), show s.val + (M - s.val + k) - M = k by omega]

/-- The running sum from the back. -/
theorem suffix_sum (M : Nat) (x : (⟨4, ![1, N, G, C]⟩ : Shape).Idx → EReal)
    (h : (⟨4, ![1, N, G, C]⟩ : Shape).ReduceWindows ![1, N, 1, 1] ![1, 1, 1, 1] ![0, 0, 0, 0] ![0, M, 0, 0] ⟨4, ![1, N, G, C]⟩)
    (s : Fin N) (g : Fin G) (c : Fin C) (f : ℕ → EReal) (hf : ∀ i : Fin N, x (ix4 0 i g c) = f i) :
    Ideal.hostReduceWindowAdd ![1, N, 1, 1] ![1, 1, 1, 1] ![0, 0, 0, 0] ![0, M, 0, 0] h x 0 (ix4 0 s g c)
      = ∑ i ∈ Finset.range (N - s.val), f (s.val + i) := by
  have hs := s.isLt
  refine (window_sum _ _ x h rfl rfl rfl s g c f hf).trans ?_
  change (∑ k : Fin N, if 0 ≤ s.val + k.val ∧ s.val + k.val - 0 < N then f (s.val + k.val - 0) else 0) = _
  rw [Fin.sum_univ_eq_sum_range (fun k => if 0 ≤ s.val + k ∧ s.val + k - 0 < N then f (s.val + k - 0) else 0) N,
    ← Finset.sum_range_add_sum_Ico _ (Nat.sub_le N s.val)]
  rw [Finset.sum_eq_zero (s := Finset.Ico (N - s.val) N) fun k hk => if_neg (by have := Finset.mem_Ico.mp hk; omega), add_zero]
  refine Finset.sum_congr rfl fun k hk => ?_
  have := Finset.mem_range.mp hk
  rw [if_pos (by omega), Nat.sub_zero]

/-- The difference of two running sums from the front is the sum over the last `w` terms. -/
theorem front_window (f : ℕ → EReal) (hf : ∀ i, ∃ r : ℝ, f i = r) (n w : ℕ) (hw : w ≤ n + 1) :
    (∑ i ∈ Finset.range (n + 1), f i) - ∑ i ∈ Finset.range (n + 1 - w), f i = ∑ d ∈ Finset.range w, f (n - d) := by
  choose r hr using hf
  simp only [hr, Norm.coe_sum, ← EReal.coe_sub]
  refine congrArg _ ?_
  rw [← Finset.sum_range_reflect (fun d => r (n - d)) w, ← Finset.sum_range_add_sum_Ico _ (Nat.sub_le (n + 1) w), add_sub_cancel_left,
    Finset.sum_Ico_eq_sum_range, show n + 1 - (n + 1 - w) = w by omega]
  refine Finset.sum_congr rfl fun d hd => congrArg r ?_
  have := Finset.mem_range.mp hd
  omega

/-- The running sum from the back of a difference of terms `w` apart is the sum over the first `w` terms. -/
theorem back_window (f : ℕ → EReal) (hf : ∀ i, ∃ r : ℝ, f i = r) (s M w : ℕ) (h0 : ∀ i, s + M ≤ i → f i = 0) :
    ∑ i ∈ Finset.range M, (f (s + i) - f (s + i + w)) = ∑ d ∈ Finset.range w, f (s + d) := by
  choose r hr using hf
  have z : ∀ i, s + M ≤ i → r i = 0 := fun i h => EReal.coe_eq_zero.mp ((hr i).symm.trans (h0 i h))
  simp only [hr, Norm.coe_sum, ← EReal.coe_sub]
  refine congrArg _ ?_
  rw [Finset.sum_sub_distrib, sub_eq_iff_eq_add]
  have a := Finset.sum_range_add (fun i => r (s + i)) M w
  have b := Finset.sum_range_add (fun i => r (s + i)) w M
  rw [Finset.sum_eq_zero (s := Finset.range w) (fun i _ => z (s + (M + i)) (by omega)), add_zero] at a
  rw [← a, Nat.add_comm M w, b]
  exact congrArg _ (Finset.sum_congr rfl fun i _ => congrArg r (by omega))

/-- A sum over a window of `w` terms and the one over the `w` terms after it. -/
theorem double_front (f : ℕ → EReal) (n w : ℕ) :
    ∑ d ∈ Finset.range w, f (n - d) + ∑ d ∈ Finset.range w, f (n - w - d) = ∑ d ∈ Finset.range (w + w), f (n - d) := by
  rw [Finset.sum_range_add]
  exact congrArg _ (Finset.sum_congr rfl fun d _ => congrArg f (by omega))

theorem double_back (f : ℕ → EReal) (n w : ℕ) :
    ∑ d ∈ Finset.range w, f (n + d) + ∑ d ∈ Finset.range w, f (n + w + d) = ∑ d ∈ Finset.range (w + w), f (n + d) := by
  rw [Finset.sum_range_add]
  exact congrArg _ (Finset.sum_congr rfl fun d _ => congrArg f (by omega))

/-- A column of an array put together of four blocks of columns lies in one of them. -/
theorem four_blocks (d : Fin 512) (F : Fin 4 → Fin 128 → EReal) (f0 f1 f2 f3 : Fin 128 → EReal)
    (h0 : ∀ e, f0 e = F 0 e) (h1 : ∀ e, f1 e = F 1 e) (h2 : ∀ e, f2 e = F 2 e) (h3 : ∀ e, f3 e = F 3 e) :
    (if h : d.val < 128 then f0 ⟨d.val, h⟩ else if h : d.val - 128 < 128 then f1 ⟨d.val - 128, h⟩
      else if h : d.val - 128 - 128 < 128 then f2 ⟨d.val - 128 - 128, h⟩ else f3 ⟨d.val - 128 - 128 - 128, by omega⟩)
      = F ⟨d.val / 128, by omega⟩ ⟨d.val % 128, by omega⟩ := by
  have k : ∀ (q : Fin 4) (e : Fin 128), d.val = q.val * 128 + e.val → F ⟨d.val / 128, by omega⟩ ⟨d.val % 128, by omega⟩ = F q e := fun q e h => by
    exact congrArg₂ F (Fin.ext (by show d.val / 128 = q.val; omega)) (Fin.ext (by show d.val % 128 = e.val; omega))
  split_ifs with a b c
  · rw [h0]; exact (k 0 ⟨d.val, a⟩ (by simp)).symm
  · rw [h1]; exact (k 1 ⟨d.val - 128, b⟩ (by simp; omega)).symm
  · rw [h2]; exact (k 2 ⟨d.val - 128 - 128, c⟩ (by simp; omega)).symm
  · rw [h3]; exact (k 3 ⟨d.val - 128 - 128 - 128, by omega⟩ (by simp; omega)).symm

/-- The number of tokens that a window of width `w` covers at token `s`. -/
def cnt (s w : ℕ) : EReal := ((min (s + 1) w : ℕ) : ℝ)

theorem cnt_word (b : BitVec 32) (s w : ℕ) (hb : b = BitVec.ofNat 32 (s + 1)) (hs : s < 5000) (hw : w < 5000) :
    (((IntOp.minsi b (BitVec.ofNat 32 w)).toInt : ℝ) : EReal) = cnt s w := by
  subst hb
  unfold cnt IntOp.minsi
  have i1 : (BitVec.ofNat 32 (s + 1)).toInt = ((s + 1 : ℕ) : ℤ) := by
    rw [BitVec.toInt_eq_toNat_of_lt, BitVec.toNat_ofNat, Nat.mod_eq_of_lt] <;> [skip; rw [BitVec.toNat_ofNat, Nat.mod_eq_of_lt]] <;> omega
  have i2 : (BitVec.ofNat 32 w).toInt = ((w : ℕ) : ℤ) := by
    rw [BitVec.toInt_eq_toNat_of_lt, BitVec.toNat_ofNat, Nat.mod_eq_of_lt] <;> [skip; rw [BitVec.toNat_ofNat, Nat.mod_eq_of_lt]] <;> omega
  by_cases h : (BitVec.ofNat 32 (s + 1)).slt (BitVec.ofNat 32 w)
  · rw [if_pos h]
    rw [BitVec.slt_iff_toInt_lt, i1, i2] at h
    rw [i1, min_eq_left (by omega)]
    norm_cast
  · rw [if_neg h]
    rw [BitVec.slt_iff_toInt_lt, i1, i2] at h
    rw [i2, min_eq_right (by omega)]
    norm_cast

theorem real_div_cnt {x : EReal} (h : ∃ r : ℝ, x = r) (s w : ℕ) (hw : 0 < w) : ∃ r : ℝ, Ideal.div x (cnt s w) = r := by
  obtain ⟨r, rfl⟩ := h
  refine ⟨_, Norm.div_real r (b := ((min (s + 1) w : ℕ) : ℝ)) ?_⟩
  have : 0 < min (s + 1) w := lt_min (Nat.succ_pos _) hw
  exact_mod_cast this.ne'

end Cert.Window

end
-- ==== Proof.PoolTile.lean ====
module

public import proofs.«01_k».proof.Proof.Gen.PoolKernelIdeal.Value
public import proofs.«01_k».proof.Proof.Gen.PoolReferenceIdeal.Read
public import proofs.«01_k».proof.Proof.Common
public import proofs.«01_k».proof.Proof.Norm
public import proofs.«01_k».proof.Proof.Window
@[expose] public section

set_option maxRecDepth 16384
set_option maxHeartbeats 1000000

noncomputable section

open Idealize.ShloMosaic Idealize.ShloMosaic.TcCoe Idealize.SL.Sem
open Idealize.ShloMosaic.Pipeline (Dat)

namespace Cert.PoolKernelIdeal.Val

open Cert.PoolKernelIdeal Cert.PoolKernelIdeal.Gen

variable (m : (ℓ : Loc nD τ sig) → Buf (Elt Ideal) ℓ)

theorem coords_val : ∀ t : Fin cfg0.N, (grid0.coords t 0).val = t.val := (by decide +kernel : ∀ t : Fin grid0.N, _)

theorem idx : ∀ t : Fin cfg0.N, win0_0.index t = ![t.val, 4] ∧ win0_1.index t = ![t.val * 32 - 1, 4] ∧ win0_2.index t = ![t.val, 1]
    ∧ win0_3.index t = ![min (t.val * 32 + 32) 255, 1] ∧ win0_4.index t = ![0, 0, 0] ∧ win0_5.index t = ![0, 0] ∧ win0_6.index t = ![t.val, 0]
    ∧ win0_7.index t = ![0, 0, 0] ∧ win0_8.index t = ![0, 0] :=
  (by decide +kernel : ∀ t : Fin grid0.N, _)

/-- A column of one of the four groups. -/
def col (g : Fin 4) (k : Fin 128) : Fin 512 := ⟨g.val * 128 + k.val, by omega⟩

/-- A token's number as the programs compute it. -/
theorem tok_word (t n : ℕ) : IntOp.addi (IntOp.addi (Scalar.muli (BitVec.ofNat 32 t) 512#32) (BitVec.ofNat 32 n)) 1#32 = BitVec.ofNat 32 (t * 512 + n + 1) := by
  show BitVec.ofNat 32 t * BitVec.ofNat 32 512 + BitVec.ofNat 32 n + BitVec.ofNat 32 1 = _
  simp only [← BitVec.ofNat_mul, ← BitVec.ofNat_add]

theorem cnt_tok (t n : ℕ) (ht : t < 8) (hn : n < 528) (w : ℕ) (hw : w < 5000) :
    FloatOps.sitofp (F := Ideal) .f32 (IntOp.minsi (IntOp.addi (IntOp.addi (Scalar.muli (BitVec.ofNat 32 t) 512#32) (BitVec.ofNat 32 n)) 1#32) (BitVec.ofNat 32 w))
      = Window.cnt (t * 512 + n) w :=
  Window.cnt_word _ _ _ (tok_word t n) (by omega) hw

variable (A : FVec Ideal S528x128 .f32) (b : BitVec 32) (w : ℕ) (k : Fin 128) (f : ℕ → EReal)

/-- Adding an array to itself, moved down by a window's width, doubles the window. -/
theorem front_step (h : ∀ i : Fin 528, w ≤ i.val + 1 → A (ix2 i k) = ∑ d ∈ Finset.range w, f (i - d)) (hb : b.toNat = w) (h0 : w < 528) (i : Fin 528) (hi : w + w ≤ i.val + 1) :
    (addf A (dynamicRotate 0 b none A rotates_S528x128_d0) : FVec Ideal S528x128 .f32) (ix2 i k) = ∑ d ∈ Finset.range (w + w), f (i - d) := by
  pointwise
  refine Eq.trans (congrArg₂ (fun a b : EReal => (a + b : EReal)) (h i (by omega)) ((congrArg A (congrArg (fun i => ix2 i k) (Fin.ext ?_))).trans (h ⟨i - w, by omega⟩ (by show w ≤ i - w + 1; omega))))
    (Window.double_front f i w)
  show (i.val + 528 - b.toNat % 528) % 528 = i - w
  rw [hb, Nat.mod_eq_of_lt h0]
  omega

/-- Adding an array to itself, moved up by a window's width, doubles the window. -/
theorem back_step (h : ∀ i : Fin 528, i.val + w ≤ 528 → A (ix2 i k) = ∑ d ∈ Finset.range w, f (i + d)) (hb : b.toNat + w = 528) (h0 : 0 < w) (i : Fin 528) (hi : i.val + (w + w) ≤ 528) :
    (addf A (dynamicRotate 0 b none A rotates_S528x128_d0) : FVec Ideal S528x128 .f32) (ix2 i k) = ∑ d ∈ Finset.range (w + w), f (i + d) := by
  pointwise
  refine Eq.trans (congrArg₂ (fun a b : EReal => (a + b : EReal)) (h i (by omega)) ((congrArg A (congrArg (fun i => ix2 i k) (Fin.ext ?_))).trans (h ⟨i + w, by omega⟩ (by show i + w + w ≤ 528; omega))))
    (Window.double_back f i w)
  show (i.val + 528 - b.toNat % 528) % 528 = i + w
  rw [Nat.mod_eq_of_lt (by omega)]
  omega

/-- The window's sum over its count, less the middle. -/
theorem front_out (v : IVec S512x1 32) (P : FVec Ideal S512x128 .f32) (r : Fin 512) (t : ℕ) (ht : t < 8) (hv : v (ix2 r 0) = IntOp.addi (Scalar.muli (BitVec.ofNat 32 t) 512#32) (BitVec.ofNat 32 r))
    (h : ∀ i : Fin 528, w ≤ i.val + 1 → A (ix2 i k) = ∑ d ∈ Finset.range w, f (i - d)) (hP : P (ix2 r k) = f (16 + r)) (hw : w ≤ 16) :
    (subf (divf (extractStridedSlice S512x128 ![16, 0] A slices_S528x128_o16_0_S512x128) (broadcastTo S512x128 (sitofp .f32 (minsi (addi v (broadcast S512x1 1#32)) (broadcast S512x1 (BitVec.ofNat 32 w)))) broadcasts_S512x1_S512x128)) P
      : FVec Ideal S512x128 .f32) (ix2 r k)
      = Ideal.div (∑ d ∈ Finset.range w, f (16 + r - d)) (Window.cnt (t * 512 + r) w) - f (16 + r) := by
  have hr := r.isLt
  pointwise
  rw [hP, hv, cnt_tok t r ht (by omega) w (by omega)]
  refine congrArg (fun x : EReal => Ideal.div x _ - _) (h ⟨16 + r, by omega⟩ (by show w ≤ 16 + r + 1; omega))

theorem pooledK0 (i : grid0.Coords) (x0 : Vec Ideal S512x512 .f32) (x1 : Vec Ideal S16x512 .f32) (r : Fin 512) (k : Fin 128) (f : ℕ → Fin 512 → EReal)
    (hf : ∀ (n : Fin 528) (q : Fin 512), (k0_pay8 i x0 x1 : FVec Ideal S528x512 .f32) (ix2 n q) = f n q) (h0 : ∀ (n q : Fin 512), x0 (ix2 n q) = f (16 + n) q)
    (hi : (i 0).val < 8) : (k0_pay10 i x0 x1 : FVec Ideal S512x128 .f32) (ix2 r k)
      = Ideal.div (∑ d ∈ Finset.range 2, f (16 + r - d) (col 0 k)) (Window.cnt ((i 0).val * 512 + r) 2) - f (16 + r) (col 0 k) := by
  have hx : ∀ i' : Fin 528, 1 ≤ i'.val + 1 → (extractStridedSlice S528x128 ![0, 0] (k0_pay8 i x0 x1) slices_S528x512_o0_0_S528x128 : FVec Ideal S528x128 .f32) (ix2 i' k)
      = ∑ d ∈ Finset.range 1, f (i' - d) (col 0 k) := fun i' _ => by
    rw [Finset.sum_range_one]
    exact (extractStridedSlice_apply _ _ _ (ix2 i' k) (ix2 i' (col 0 k)) (by
      intro a
      match a with
      | ⟨0, _⟩ => exact (Nat.zero_add _).symm
      | ⟨1, _⟩ => show 0 * 128 + k.val = 0 + k.val; omega)).trans (hf i' (col 0 k))
  have hs := front_step _ 1#32 1 k (fun n => f n (col 0 k)) (hx) rfl (by decide)
  refine front_out _ 2 k (fun n => f n (col 0 k)) _ _ r _ hi ?_ hs ?_ (by decide)
  · pointwise [k0_pay9]
  · refine Eq.trans ?_ (h0 r (col 0 k))
    pointwise [k0_pay7]
    exact congrArg x0 (congrArg (ix2 r) (Fin.ext (by show k.val = 0 * 128 + k.val; omega)))

theorem pooledK1 (i : grid0.Coords) (x0 : Vec Ideal S512x512 .f32) (x1 : Vec Ideal S16x512 .f32) (r : Fin 512) (k : Fin 128) (f : ℕ → Fin 512 → EReal)
    (hf : ∀ (n : Fin 528) (q : Fin 512), (k0_pay8 i x0 x1 : FVec Ideal S528x512 .f32) (ix2 n q) = f n q) (h0 : ∀ (n q : Fin 512), x0 (ix2 n q) = f (16 + n) q)
    (hi : (i 0).val < 8) : (k0_pay11 i x0 x1 : FVec Ideal S512x128 .f32) (ix2 r k)
      = Ideal.div (∑ d ∈ Finset.range 4, f (16 + r - d) (col 1 k)) (Window.cnt ((i 0).val * 512 + r) 4) - f (16 + r) (col 1 k) := by
  have hx : ∀ i' : Fin 528, 1 ≤ i'.val + 1 → (extractStridedSlice S528x128 ![0, 128] (k0_pay8 i x0 x1) slices_S528x512_o0_128_S528x128 : FVec Ideal S528x128 .f32) (ix2 i' k)
      = ∑ d ∈ Finset.range 1, f (i' - d) (col 1 k) := fun i' _ => by
    rw [Finset.sum_range_one]
    exact (extractStridedSlice_apply _ _ _ (ix2 i' k) (ix2 i' (col 1 k)) (by
      intro a
      match a with
      | ⟨0, _⟩ => exact (Nat.zero_add _).symm
      | ⟨1, _⟩ => rfl)).trans (hf i' (col 1 k))
  have hs := front_step _ 2#32 2 k (fun n => f n (col 1 k)) (front_step _ 1#32 1 k (fun n => f n (col 1 k)) (hx) rfl (by decide)) rfl (by decide)
  refine front_out _ 4 k (fun n => f n (col 1 k)) _ _ r _ hi ?_ hs ?_ (by decide)
  · pointwise [k0_pay9]
  · refine Eq.trans ?_ (h0 r (col 1 k))
    pointwise [k0_pay7]
    rfl

theorem pooledK2 (i : grid0.Coords) (x0 : Vec Ideal S512x512 .f32) (x1 : Vec Ideal S16x512 .f32) (r : Fin 512) (k : Fin 128) (f : ℕ → Fin 512 → EReal)
    (hf : ∀ (n : Fin 528) (q : Fin 512), (k0_pay8 i x0 x1 : FVec Ideal S528x512 .f32) (ix2 n q) = f n q) (h0 : ∀ (n q : Fin 512), x0 (ix2 n q) = f (16 + n) q)
    (hi : (i 0).val < 8) : (k0_pay13 (k0_pay7 x0) (k0_pay9 i) (k0_pay12 i x0 x1) 2#32 : FVec Ideal S512x128 .f32) (ix2 r k)
      = Ideal.div (∑ d ∈ Finset.range 8, f (16 + r - d) (col 2 k)) (Window.cnt ((i 0).val * 512 + r) 8) - f (16 + r) (col 2 k) := by
  have hx : ∀ i' : Fin 528, 1 ≤ i'.val + 1 → (extractStridedSlice S528x128 ![0, 256] (k0_pay8 i x0 x1) slices_S528x512_o0_256_S528x128 : FVec Ideal S528x128 .f32) (ix2 i' k)
      = ∑ d ∈ Finset.range 1, f (i' - d) (col 2 k) := fun i' _ => by
    rw [Finset.sum_range_one]
    exact (extractStridedSlice_apply _ _ _ (ix2 i' k) (ix2 i' (col 2 k)) (by
      intro a
      match a with
      | ⟨0, _⟩ => exact (Nat.zero_add _).symm
      | ⟨1, _⟩ => rfl)).trans (hf i' (col 2 k))
  have hs := front_step _ 4#32 4 k (fun n => f n (col 2 k)) (front_step _ 2#32 2 k (fun n => f n (col 2 k)) (front_step _ 1#32 1 k (fun n => f n (col 2 k)) (hx) rfl (by decide)) rfl (by decide)) rfl (by decide)
  refine front_out _ 8 k (fun n => f n (col 2 k)) _ _ r _ hi ?_ hs ?_ (by decide)
  · pointwise [k0_pay9]
  · refine Eq.trans ?_ (h0 r (col 2 k))
    pointwise [k0_pay7]
    rfl

theorem pooledK3 (i : grid0.Coords) (x0 : Vec Ideal S512x512 .f32) (x1 : Vec Ideal S16x512 .f32) (r : Fin 512) (k : Fin 128) (f : ℕ → Fin 512 → EReal)
    (hf : ∀ (n : Fin 528) (q : Fin 512), (k0_pay8 i x0 x1 : FVec Ideal S528x512 .f32) (ix2 n q) = f n q) (h0 : ∀ (n q : Fin 512), x0 (ix2 n q) = f (16 + n) q)
    (hi : (i 0).val < 8) : (k0_pay14 (k0_pay7 x0) (k0_pay8 i x0 x1) (k0_pay9 i) : FVec Ideal S512x128 .f32) (ix2 r k)
      = Ideal.div (∑ d ∈ Finset.range 16, f (16 + r - d) (col 3 k)) (Window.cnt ((i 0).val * 512 + r) 16) - f (16 + r) (col 3 k) := by
  have hx : ∀ i' : Fin 528, 1 ≤ i'.val + 1 → (extractStridedSlice S528x128 ![0, 384] (k0_pay8 i x0 x1) slices_S528x512_o0_384_S528x128 : FVec Ideal S528x128 .f32) (ix2 i' k)
      = ∑ d ∈ Finset.range 1, f (i' - d) (col 3 k) := fun i' _ => by
    rw [Finset.sum_range_one]
    exact (extractStridedSlice_apply _ _ _ (ix2 i' k) (ix2 i' (col 3 k)) (by
      intro a
      match a with
      | ⟨0, _⟩ => exact (Nat.zero_add _).symm
      | ⟨1, _⟩ => rfl)).trans (hf i' (col 3 k))
  have hs := front_step _ 8#32 8 k (fun n => f n (col 3 k)) (front_step _ 4#32 4 k (fun n => f n (col 3 k)) (front_step _ 2#32 2 k (fun n => f n (col 3 k)) (front_step _ 1#32 1 k (fun n => f n (col 3 k)) (hx) rfl (by decide)) rfl (by decide)) rfl (by decide)) rfl (by decide)
  refine front_out _ 16 k (fun n => f n (col 3 k)) _ _ r _ hi ?_ hs ?_ (by decide)
  · pointwise [k0_pay9]
  · refine Eq.trans ?_ (h0 r (col 3 k))
    pointwise [k0_pay7]
    rfl

/-- The window's sum of the quotients by the counts, less the middle. -/
theorem back_out (B : FVec Ideal S528x128 .f32) (r : Fin 512) (e : ℕ → EReal) (h : ∀ i : Fin 528, i.val + w ≤ 528 → A (ix2 i k) = ∑ d ∈ Finset.range w, f (i + d))
    (hB : ∀ i : Fin 528, B (ix2 i k) = e i) (hw : w ≤ 16) :
    (subf (extractStridedSlice S512x128 ![0, 0] A slices_S528x128_o0_0_S512x128) (extractStridedSlice S512x128 ![0, 0] B slices_S528x128_o0_0_S512x128)
      : FVec Ideal S512x128 .f32) (ix2 r k) = ∑ d ∈ Finset.range w, f (r + d) - e r := by
  have hr := r.isLt
  pointwise
  exact congrArg₂ (fun a b : EReal => (a - b : EReal)) (h ⟨r, by omega⟩ (by show r + w ≤ 528; omega)) (hB ⟨r, by omega⟩)

theorem back_base (B : FVec Ideal S528x128 .f32) (e : ℕ → EReal) (hB : ∀ i : Fin 528, B (ix2 i k) = e i) (t : ℕ) (ht : t < 8) (hw : w < 5000) (i : Fin 528) (hi : i.val + 1 ≤ 528) :
    (divf B (broadcastTo S528x128 (sitofp .f32 (minsi (addi (k0_pay19 (BitVec.ofNat 32 t)) (broadcast S528x1 1#32)) (broadcast S528x1 (BitVec.ofNat 32 w)))) broadcasts_S528x1_S528x128)
      : FVec Ideal S528x128 .f32) (ix2 i k) = ∑ d ∈ Finset.range 1, Ideal.div (e (i + d)) (Window.cnt (t * 512 + (i + d)) w) := by
  pointwise [k0_pay19]
  rw [hB, cnt_tok t i ht i.isLt w hw, Finset.sum_range_one]
  rfl

theorem concat4 {n : Nat} (a0 a1 a2 a3 : FVec Ideal ⟨2, ![n, 128]⟩ .f32) (h : Shape.Concatenates [⟨2, ![n, 128]⟩, ⟨2, ![n, 128]⟩, ⟨2, ![n, 128]⟩, ⟨2, ![n, 128]⟩] ⟨2, ![n, 512]⟩ 1)
    (r : Fin n) (q : Fin 512) (F : Fin 4 → Fin 128 → EReal) (h0 : ∀ k, a0 (ix2 r k) = F 0 k) (h1 : ∀ k, a1 (ix2 r k) = F 1 k) (h2 : ∀ k, a2 (ix2 r k) = F 2 k) (h3 : ∀ k, a3 (ix2 r k) = F 3 k) :
    (concatenate ⟨2, ![n, 512]⟩ 1 [⟨_, a0⟩, ⟨_, a1⟩, ⟨_, a2⟩, ⟨_, a3⟩] h : FVec Ideal ⟨2, ![n, 512]⟩ .f32) (ix2 r q) = F ⟨q.val / 128, by omega⟩ ⟨q.val % 128, by omega⟩ := by
  refine Eq.trans ?_ (Window.four_blocks q F (fun k => a0 (ix2 r k)) (fun k => a1 (ix2 r k)) (fun k => a2 (ix2 r k)) (fun k => a3 (ix2 r k)) h0 h1 h2 h3)
  pointwise
  split_ifs <;>
  · refine congrArg _ (funext fun b => Fin.ext ?_)
    match b with
    | ⟨0, _⟩ => rfl
    | ⟨1, _⟩ => rfl

/-- A group's gradient with respect to the pooled rows, at a row of a tile and its halo. -/
def dpe (E : ℕ → Fin 512 → EReal) (Wp : Fin 4 → Fin 128 → Fin 128 → EReal) (g : Fin 4) (k : Fin 128) (n : ℕ) : EReal := ∑ x : Fin 128, E n (col g x) * Wp g k x

theorem dpK0 (y z : FVec Ideal S528x512 .f32) (wp : Vec Ideal S1x128x128 .f32) (Wp : Fin 4 → Fin 128 → Fin 128 → EReal) (hw : ∀ k x, wp (ix3 0 k x) = Wp 0 k x) (E : ℕ → Fin 512 → EReal) (t : ℕ) (ht : t < 8)
    (hE : ∀ (n : Fin 528) (q : Fin 512), (k0_pay18 y z : FVec Ideal S528x512 .f32) (ix2 n q) = E n q) (r : Fin 512) (k : Fin 128) :
    (k0_pay25 (BitVec.ofNat 32 t) y z wp : FVec Ideal S512x128 .f32) (ix2 r k)
      = ∑ d ∈ Finset.range 2, Ideal.div (dpe E Wp 0 k (r + d)) (Window.cnt (t * 512 + (r + d)) 2) - dpe E Wp 0 k r := by
  have hB : ∀ i : Fin 528, (matmul dot_S528x128_S128x128_S528x128_1_1_0_0_n_n none (k0_pay23 y z) (k0_pay20 wp) (constant S528x128 .f32 0x00000000#32) : FVec Ideal S528x128 .f32) (ix2 i k) = dpe E Wp 0 k i := by
    intro i
    pointwise [k0_pay23, k0_pay20]
    simp only [hE, hw]
    exact Fin.sum_fin_congr fun x => congrArg (fun q => E i q * Wp 0 k x) (Fin.ext (by simp [col]))
  exact back_out _ 2 k (fun n => Ideal.div (dpe E Wp 0 k n) (Window.cnt (t * 512 + n) 2)) _ r (dpe E Wp 0 k) (back_step _ 527#32 1 k (fun n => Ideal.div (dpe E Wp 0 k n) (Window.cnt (t * 512 + n) 2)) (back_base 2 k _ (dpe E Wp 0 k) hB t ht (by decide)) rfl (by decide)) hB (by decide)

theorem dpK1 (y z : FVec Ideal S528x512 .f32) (wp : Vec Ideal S1x128x128 .f32) (Wp : Fin 4 → Fin 128 → Fin 128 → EReal) (hw : ∀ k x, wp (ix3 0 k x) = Wp 1 k x) (E : ℕ → Fin 512 → EReal) (t : ℕ) (ht : t < 8)
    (hE : ∀ (n : Fin 528) (q : Fin 512), (k0_pay18 y z : FVec Ideal S528x512 .f32) (ix2 n q) = E n q) (r : Fin 512) (k : Fin 128) :
    (k0_pay32 (k0_pay19 (BitVec.ofNat 32 t)) (k0_pay26 wp) (k0_pay29 y z) : FVec Ideal S512x128 .f32) (ix2 r k)
      = ∑ d ∈ Finset.range 4, Ideal.div (dpe E Wp 1 k (r + d)) (Window.cnt (t * 512 + (r + d)) 4) - dpe E Wp 1 k r := by
  have hB : ∀ i : Fin 528, (matmul dot_S528x128_S128x128_S528x128_1_1_0_0_n_n none (k0_pay29 y z) (k0_pay26 wp) (constant S528x128 .f32 0x00000000#32) : FVec Ideal S528x128 .f32) (ix2 i k) = dpe E Wp 1 k i := by
    intro i
    pointwise [k0_pay29, k0_pay26]
    simp only [hE, hw]
    exact Fin.sum_fin_congr fun x => congrArg (fun q => E i q * Wp 1 k x) (Fin.ext (by simp [col]))
  exact back_out _ 4 k (fun n => Ideal.div (dpe E Wp 1 k n) (Window.cnt (t * 512 + n) 4)) _ r (dpe E Wp 1 k) (back_step _ 526#32 2 k (fun n => Ideal.div (dpe E Wp 1 k n) (Window.cnt (t * 512 + n) 4)) (back_step _ 527#32 1 k (fun n => Ideal.div (dpe E Wp 1 k n) (Window.cnt (t * 512 + n) 4)) (back_base 4 k _ (dpe E Wp 1 k) hB t ht (by decide)) rfl (by decide)) rfl (by decide)) hB (by decide)

theorem dpK2 (v : FVec Ideal S528x512 .f32) (wp : Vec Ideal S1x128x128 .f32) (Wp : Fin 4 → Fin 128 → Fin 128 → EReal) (hw : ∀ k x, wp (ix3 0 k x) = Wp 2 k x) (E : ℕ → Fin 512 → EReal) (t : ℕ) (ht : t < 8)
    (hE : ∀ (n : Fin 528) (q : Fin 512), v (ix2 n q) = E n q) (r : Fin 512) (k : Fin 128) :
    (subf (extractStridedSlice S512x128 ![0, 0] (k0_pay39 v (k0_pay19 (BitVec.ofNat 32 t)) wp) slices_S528x128_o0_0_S512x128) (extractStridedSlice S512x128 ![0, 0] (k0_pay38 v wp) slices_S528x128_o0_0_S512x128) : FVec Ideal S512x128 .f32) (ix2 r k)
      = ∑ d ∈ Finset.range 8, Ideal.div (dpe E Wp 2 k (r + d)) (Window.cnt (t * 512 + (r + d)) 8) - dpe E Wp 2 k r := by
  have hB : ∀ i : Fin 528, (k0_pay38 v wp : FVec Ideal S528x128 .f32) (ix2 i k) = dpe E Wp 2 k i := by
    intro i
    pointwise [k0_pay38, k0_pay36, k0_pay33]
    simp only [hE, hw]
    exact Fin.sum_fin_congr fun x => congrArg (fun q => E i q * Wp 2 k x) (Fin.ext (by simp [col]))
  exact back_out _ 8 k (fun n => Ideal.div (dpe E Wp 2 k n) (Window.cnt (t * 512 + n) 8)) _ r (dpe E Wp 2 k) (back_step _ 524#32 4 k (fun n => Ideal.div (dpe E Wp 2 k n) (Window.cnt (t * 512 + n) 8)) (back_step _ 526#32 2 k (fun n => Ideal.div (dpe E Wp 2 k n) (Window.cnt (t * 512 + n) 8)) (back_step _ 527#32 1 k (fun n => Ideal.div (dpe E Wp 2 k n) (Window.cnt (t * 512 + n) 8)) (back_base 8 k _ (dpe E Wp 2 k) hB t ht (by decide)) rfl (by decide)) rfl (by decide)) rfl (by decide)) hB (by decide)

/-- The widths of the four windows. -/
def wide : Fin 4 → ℕ := ![2, 4, 8, 16]

theorem tileK (y z : FVec Ideal S528x512 .f32) (w0 w1 w2 w3 : Vec Ideal S1x128x128 .f32) (Wp : Fin 4 → Fin 128 → Fin 128 → EReal) (hw0 : ∀ k x, w0 (ix3 0 k x) = Wp 0 k x)
    (hw1 : ∀ k x, w1 (ix3 0 k x) = Wp 1 k x) (hw2 : ∀ k x, w2 (ix3 0 k x) = Wp 2 k x) (hw3 : ∀ k x, w3 (ix3 0 k x) = Wp 3 k x) (E : ℕ → Fin 512 → EReal) (t : ℕ) (ht : t < 8)
    (hE : ∀ (n : Fin 528) (q : Fin 512), (k0_pay18 y z : FVec Ideal S528x512 .f32) (ix2 n q) = E n q) (r q : Fin 512) :
    (k0_pay44 (k0_pay18 y z) (k0_pay19 (BitVec.ofNat 32 t)) (k0_pay25 (BitVec.ofNat 32 t) y z w0) (k0_pay32 (k0_pay19 (BitVec.ofNat 32 t)) (k0_pay26 w1) (k0_pay29 y z))
        (k0_pay38 (k0_pay18 y z) w2) (k0_pay39 (k0_pay18 y z) (k0_pay19 (BitVec.ofNat 32 t)) w2) w3 : FVec Ideal S512x512 .f32) (ix2 r q)
      = (fun g k => ∑ d ∈ Finset.range (wide g), Ideal.div (dpe E Wp g k (r + d)) (Window.cnt (t * 512 + (r + d)) (wide g)) - dpe E Wp g k r)
          ⟨q.val / 128, by omega⟩ ⟨q.val % 128, by omega⟩ := by
  refine concat4 _ _ _ _ concatenates_S512x128_S512x128_S512x128_S512x128_S512x512_d1 r q (fun g k => ∑ d ∈ Finset.range (wide g), Ideal.div (dpe E Wp g k (r + d)) (Window.cnt (t * 512 + (r + d)) (wide g)) - dpe E Wp g k r) ?_ ?_ ?_ ?_
  · exact fun k => dpK0 y z w0 Wp hw0 E t ht hE r k
  · exact fun k => dpK1 y z w1 Wp hw1 E t ht hE r k
  · exact fun k => dpK2 _ w2 Wp hw2 E t ht hE r k
  · intro k
    have hB : ∀ i : Fin 528, (matmul dot_S528x128_S128x128_S528x128_1_1_0_0_n_n none (k0_pay42 (k0_pay18 y z)) (k0_pay40 w3) (constant S528x128 .f32 0x00000000#32) : FVec Ideal S528x128 .f32) (ix2 i k) = dpe E Wp 3 k i := by
      intro i
      pointwise [k0_pay42, k0_pay40]
      simp only [hE, hw3]
      exact Fin.sum_fin_congr fun x => congrArg (fun q => E i q * Wp 3 k x) (Fin.ext (by simp [col]))
    exact back_out _ 16 k (fun n => Ideal.div (dpe E Wp 3 k n) (Window.cnt (t * 512 + n) 16)) _ r (dpe E Wp 3 k) (back_step _ 520#32 8 k (fun n => Ideal.div (dpe E Wp 3 k n) (Window.cnt (t * 512 + n) 16)) (back_step _ 524#32 4 k (fun n => Ideal.div (dpe E Wp 3 k n) (Window.cnt (t * 512 + n) 16)) (back_step _ 526#32 2 k (fun n => Ideal.div (dpe E Wp 3 k n) (Window.cnt (t * 512 + n) 16)) (back_step _ 527#32 1 k (fun n => Ideal.div (dpe E Wp 3 k n) (Window.cnt (t * 512 + n) 16)) (back_base 16 k _ (dpe E Wp 3 k) hB t ht (by decide)) rfl (by decide)) rfl (by decide)) rfl (by decide)) rfl (by decide)) hB (by decide)

theorem dsK0 (p : FVec Ideal S512x128 .f32) (dm : FVec Ideal S512x512 .f32) (w : Vec Ideal S1x128x128 .f32) (k : Fin 128) :
    (k0_pay22 p dm w : FVec Ideal S1x128 .f32) (ix2 0 k) = ∑ i : Fin 512, dm (ix2 i (col 0 k)) * ∑ x : Fin 128, p (ix2 i x) * w (ix3 0 x k) := by
  pointwise [k0_pay22, k0_pay21, k0_pay20]
  exact Fin.sum_fin_congr fun i => congrArg (fun q => (dm (ix2 i q) * _ : EReal)) (Fin.ext (by simp [col]))

theorem dsK1 (p : FVec Ideal S512x128 .f32) (dm : FVec Ideal S512x512 .f32) (w : Vec Ideal S1x128x128 .f32) (k : Fin 128) :
    (k0_pay28 p dm w : FVec Ideal S1x128 .f32) (ix2 0 k) = ∑ i : Fin 512, dm (ix2 i (col 1 k)) * ∑ x : Fin 128, p (ix2 i x) * w (ix3 0 x k) := by
  pointwise [k0_pay28, k0_pay27, k0_pay26]
  exact Fin.sum_fin_congr fun i => congrArg (fun q => (dm (ix2 i q) * _ : EReal)) (Fin.ext (by simp [col]))

theorem dsK2 (p : FVec Ideal S512x128 .f32) (dm : FVec Ideal S512x512 .f32) (w : Vec Ideal S1x128x128 .f32) (k : Fin 128) :
    (k0_pay35 p dm w : FVec Ideal S1x128 .f32) (ix2 0 k) = ∑ i : Fin 512, dm (ix2 i (col 2 k)) * ∑ x : Fin 128, p (ix2 i x) * w (ix3 0 x k) := by
  pointwise [k0_pay35, k0_pay34, k0_pay33]
  exact Fin.sum_fin_congr fun i => congrArg (fun q => (dm (ix2 i q) * _ : EReal)) (Fin.ext (by simp [col]))

theorem stK (p0 p1 p2 p3 : FVec Ideal S512x128 .f32) (dm : FVec Ideal S512x512 .f32) (w0 w1 w2 w3 : Vec Ideal S1x128x128 .f32) (r : Fin 8) (q : Fin 512) (F : Fin 4 → Fin 128 → EReal)
    (h0 : ∀ k, ∑ i : Fin 512, dm (ix2 i (col 0 k)) * ∑ x : Fin 128, p0 (ix2 i x) * w0 (ix3 0 x k) = F 0 k) (h1 : ∀ k, ∑ i : Fin 512, dm (ix2 i (col 1 k)) * ∑ x : Fin 128, p1 (ix2 i x) * w1 (ix3 0 x k) = F 1 k)
    (h2 : ∀ k, ∑ i : Fin 512, dm (ix2 i (col 2 k)) * ∑ x : Fin 128, p2 (ix2 i x) * w2 (ix3 0 x k) = F 2 k) (h3 : ∀ k, ∑ i : Fin 512, dm (ix2 i (col 3 k)) * ∑ x : Fin 128, p3 (ix2 i x) * w3 (ix3 0 x k) = F 3 k) :
    (k0_pay5 (k0_pay45 p3 dm (k0_pay22 p0 dm w0) (k0_pay28 p1 dm w1) (k0_pay35 p2 dm w2) w3) : FVec Ideal S8x512 .f32) (ix2 r q)
      = if r.val < 1 then F ⟨q.val / 128, by omega⟩ ⟨q.val % 128, by omega⟩ else 0 := by
  have h : (k0_pay45 p3 dm (k0_pay22 p0 dm w0) (k0_pay28 p1 dm w1) (k0_pay35 p2 dm w2) w3 : FVec Ideal S1x512 .f32) (ix2 0 q)
      = F ⟨q.val / 128, by omega⟩ ⟨q.val % 128, by omega⟩ := by
    refine concat4 _ _ _ _ concatenates_S1x128_S1x128_S1x128_S1x128_S1x512_d1 0 q F (fun k => (dsK0 _ _ _ k).trans (h0 k)) (fun k => (dsK1 _ _ _ k).trans (h1 k)) (fun k => (dsK2 _ _ _ k).trans (h2 k)) (fun k => Eq.trans ?_ (h3 k))
    pointwise [k0_pay41, k0_pay40]
    exact Fin.sum_fin_congr fun i => congrArg (fun q => (dm (ix2 i q) * _ : EReal)) (Fin.ext (by simp [col]))
  generalize k0_pay45 p3 dm (k0_pay22 p0 dm w0) (k0_pay28 p1 dm w1) (k0_pay35 p2 dm w2) w3 = R at h
  pointwise [k0_pay5]
  rw [← h]
  split_ifs with a
  · exact congrArg (fun r => R (ix2 r q)) (Fin.ext (by show r.val = 0; omega))
  · rfl

theorem dwK0 (p : FVec Ideal S512x128 .f32) (y z : FVec Ideal S528x512 .f32) (E : ℕ → Fin 512 → EReal)
    (hE : ∀ (n : Fin 528) (q : Fin 512), (k0_pay18 y z : FVec Ideal S528x512 .f32) (ix2 n q) = E n q) (k e : Fin 128) :
    (k0_pay24 p y z : FVec Ideal S128x128 .f32) (ix2 k e) = ∑ i : Fin 512, p (ix2 i k) * E i (col 0 e) := by
  pointwise [k0_pay24, k0_pay23, k0_pay21]
  simp only [hE]
  exact Fin.sum_fin_congr fun i => congrArg (fun q => (p (ix2 i k) * E i q : EReal)) (Fin.ext (by simp [col]))

theorem dwK1 (p : FVec Ideal S512x128 .f32) (y z : FVec Ideal S528x512 .f32) (E : ℕ → Fin 512 → EReal)
    (hE : ∀ (n : Fin 528) (q : Fin 512), (k0_pay18 y z : FVec Ideal S528x512 .f32) (ix2 n q) = E n q) (k e : Fin 128) :
    (k0_pay31 (k0_pay27 p) (k0_pay30 y z) (constant S128x128 .f32 0x00000000#32) : FVec Ideal S128x128 .f32) (ix2 k e) = ∑ i : Fin 512, p (ix2 i k) * E i (col 1 e) := by
  pointwise [k0_pay31, k0_pay30, k0_pay29, k0_pay27]
  simp only [hE]
  exact Fin.sum_fin_congr fun i => congrArg (fun q => (p (ix2 i k) * E i q : EReal)) (Fin.ext (by simp [col]))

theorem dwK2 (p : FVec Ideal S512x128 .f32) (y z : FVec Ideal S528x512 .f32) (E : ℕ → Fin 512 → EReal)
    (hE : ∀ (n : Fin 528) (q : Fin 512), (k0_pay18 y z : FVec Ideal S528x512 .f32) (ix2 n q) = E n q) (k e : Fin 128) :
    (k0_pay37 p (k0_pay18 y z) : FVec Ideal S128x128 .f32) (ix2 k e) = ∑ i : Fin 512, p (ix2 i k) * E i (col 2 e) := by
  pointwise [k0_pay37, k0_pay36, k0_pay34]
  simp only [hE]
  exact Fin.sum_fin_congr fun i => congrArg (fun q => (p (ix2 i k) * E i q : EReal)) (Fin.ext (by simp [col]))

theorem dwK3 (p : FVec Ideal S512x128 .f32) (y z : FVec Ideal S528x512 .f32) (E : ℕ → Fin 512 → EReal)
    (hE : ∀ (n : Fin 528) (q : Fin 512), (k0_pay18 y z : FVec Ideal S528x512 .f32) (ix2 n q) = E n q) (k e : Fin 128) :
    (k0_pay43 p (k0_pay18 y z) : FVec Ideal S128x128 .f32) (ix2 k e) = ∑ i : Fin 512, p (ix2 i k) * E i (col 3 e) := by
  pointwise [k0_pay43, k0_pay42, k0_pay41]
  simp only [hE]
  exact Fin.sum_fin_congr fun i => congrArg (fun q => (p (ix2 i k) * E i q : EReal)) (Fin.ext (by simp [col]))

/-- The pooled half of the rows, with sixteen rows of zeros in front. -/
def ps (X0 : FVec Ideal S1x4096x2560 .f32) (n : ℕ) (q : Fin 512) : EReal := if h : 16 ≤ n ∧ n < 4112 then X0 (ix3 0 ⟨n - 16, by omega⟩ ⟨2048 + q.val, by omega⟩) else 0

/-- A token's pooled row. -/
def pooled (X0 : FVec Ideal S1x4096x2560 .f32) (s : ℕ) (g : Fin 4) (k : Fin 128) : EReal :=
  Ideal.div (∑ d ∈ Finset.range (wide g), ps X0 (16 + s - d) (col g k)) (Window.cnt s (wide g)) - ps X0 (16 + s) (col g k)

/-- The pooled row, its window's sum written from the row's place in the tile and its halo. -/
theorem pooled_of (X0 : FVec Ideal S1x4096x2560 .f32) (t r : ℕ) (g : Fin 4) (k : Fin 128) :
    Ideal.div (∑ d ∈ Finset.range (wide g), ps X0 (t * 512 + (16 + r - d)) (col g k)) (Window.cnt (t * 512 + r) (wide g)) - ps X0 (t * 512 + (16 + r)) (col g k) = pooled X0 (t * 512 + r) g k := by
  unfold pooled
  rw [show 16 + (t * 512 + r) = t * 512 + (16 + r) by omega]
  refine congrArg (fun x : EReal => (Ideal.div x _ - _ : EReal)) (Finset.sum_congr rfl fun d hd => congrArg (fun n => ps X0 n (col g k)) ?_)
  have hw : wide g ≤ 16 := by fin_cases g <;> decide
  have hd := Finset.mem_range.mp hd
  omega

section Rows

variable (X0 : FVec Ideal S1x4096x2560 .f32) (t : ℕ) (ht : t < 8) (i : grid0.Coords) (hi : (i 0).val = t) (x0 : Vec Ideal S512x512 .f32) (x1 : Vec Ideal S16x512 .f32)
  (h0 : ∀ r q : Fin 512, x0 (ix2 r q) = ps X0 (t * 512 + (16 + r)) q) (h1 : 0 < t → ∀ (r : Fin 16) (q : Fin 512), x1 (ix2 r q) = ps X0 (t * 512 + r) q)

include ht hi h0 h1

/-- A tile under its halo: the rows before the first are zero. -/
theorem ext_rows (n : Fin 528) (q : Fin 512) : (k0_pay8 i x0 x1 : FVec Ideal S528x512 .f32) (ix2 n q) = ps X0 (t * 512 + n) q := by
  have hn := n.isLt
  have hw : ∀ k : Fin 8, Scalar.cmpi .sgt (BitVec.ofNat 32 k.val) 0#32 = if 0 < k.val then 1#1 else 0#1 := by decide +kernel
  pointwise [k0_pay8, k0_pay7]
  rw [hi, hw ⟨t, ht⟩]
  split_ifs with h hp
  · exact h1 hp ⟨n, h⟩ q
  · unfold ps
    have hp : ¬ 0 < t := hp
    rw [dif_neg (by omega)]
    rfl
  · exact (h0 ⟨n - 16, by omega⟩ q).trans (congrArg (fun n => ps X0 (t * 512 + n) q) (show 16 + (n.val - 16) = n.val by omega))
  · exact absurd rfl ‹_›

/-- The tile's pooled rows of the four groups. -/
theorem pooled_rows (r : Fin 512) (k : Fin 128) :
    (k0_pay10 i x0 x1 : FVec Ideal S512x128 .f32) (ix2 r k) = pooled X0 (t * 512 + r) 0 k ∧ (k0_pay11 i x0 x1 : FVec Ideal S512x128 .f32) (ix2 r k) = pooled X0 (t * 512 + r) 1 k
    ∧ (k0_pay13 (k0_pay7 x0) (k0_pay9 i) (k0_pay12 i x0 x1) 2#32 : FVec Ideal S512x128 .f32) (ix2 r k) = pooled X0 (t * 512 + r) 2 k
    ∧ (k0_pay14 (k0_pay7 x0) (k0_pay8 i x0 x1) (k0_pay9 i) : FVec Ideal S512x128 .f32) (ix2 r k) = pooled X0 (t * 512 + r) 3 k := by
  have e := ext_rows X0 t ht i hi x0 x1 h0 h1
  have hi' : (i 0).val < 8 := hi ▸ ht
  subst hi
  exact ⟨(pooledK0 i x0 x1 r k (fun n => ps X0 ((i 0).val * 512 + n)) e h0 hi').trans (pooled_of X0 _ r 0 k), (pooledK1 i x0 x1 r k (fun n => ps X0 ((i 0).val * 512 + n)) e h0 hi').trans (pooled_of X0 _ r 1 k),
    (pooledK2 i x0 x1 r k (fun n => ps X0 ((i 0).val * 512 + n)) e h0 hi').trans (pooled_of X0 _ r 2 k), (pooledK3 i x0 x1 r k (fun n => ps X0 ((i 0).val * 512 + n)) e h0 hi').trans (pooled_of X0 _ r 3 k)⟩

end Rows

/-- The incoming gradient times the scale, zero past the end. -/
def dye (X2 : FVec Ideal S1x512 .f32) (X3 : FVec Ideal S1x4096x1024 .f32) (s : ℕ) (q : Fin 512) : EReal := if h : s < 4096 then X3 (ix3 0 ⟨s, h⟩ ⟨512 + q.val, by omega⟩) * X2 (ix2 0 q) else 0

/-- The gradient of the pooled rows. -/
def dpl (X1 : FVec Ideal S1x4x128x128 .f32) (X2 : FVec Ideal S1x512 .f32) (X3 : FVec Ideal S1x4096x1024 .f32) (g : Fin 4) (k : Fin 128) (s : ℕ) : EReal := dpe (dye X2 X3) (fun g k x => X1 (ix4 0 g k x)) g k s

/-- The gradient of the rows. -/
def dp (X1 : FVec Ideal S1x4x128x128 .f32) (X2 : FVec Ideal S1x512 .f32) (X3 : FVec Ideal S1x4096x1024 .f32) (s : ℕ) (g : Fin 4) (k : Fin 128) : EReal :=
  ∑ d ∈ Finset.range (wide g), Ideal.div (dpl X1 X2 X3 g k (s + d)) (Window.cnt (s + d) (wide g)) - dpl X1 X2 X3 g k s

/-- A group of a column, and its place in the group. -/
def gr (q : Fin 512) : Fin 4 := ⟨q.val / 128, by omega⟩
def pl (q : Fin 512) : Fin 128 := ⟨q.val % 128, by omega⟩

theorem in0 (c : Dev nD) (t : Fin cfg0.N) (i q : Fin 512) : iblk m c 0 t (ix2 i q) = ps (m ((c : Thread nD τ).loc main_arg0)) (t.val * 512 + (16 + i)) q := by
  have ht : t.val < 8 := lt_of_lt_of_eq t.isLt N_0
  obtain ⟨j, hj⟩ : ∃ j : Fin 4096, j.val = t.val * 512 + i.val := ⟨⟨t.val * 512 + i.val, by omega⟩, rfl⟩
  obtain ⟨e, he⟩ : ∃ e : Fin 2560, e.val = 2048 + q.val := ⟨⟨2048 + q.val, by omega⟩, rfl⟩
  have h : iblk m c 0 t (ix2 i q) = m ((c : Thread nD τ).loc main_arg0) (ix3 0 j e) := by
    blk_point [iblk, V, idx t]
  unfold ps
  rw [dif_pos (by omega)]
  exact h.trans (congrArg₂ (fun j e => m ((c : Thread nD τ).loc main_arg0) (ix3 0 j e)) (Fin.ext (by show j.val = t.val * 512 + (16 + i.val) - 16; omega)) (Fin.ext he))

theorem in1 (c : Dev nD) (t : Fin cfg0.N) (h0 : 0 < t.val) (i : Fin 16) (q : Fin 512) : iblk m c 1 t (ix2 i q) = ps (m ((c : Thread nD τ).loc main_arg0)) (t.val * 512 + i) q := by
  have ht : t.val < 8 := lt_of_lt_of_eq t.isLt N_0
  obtain ⟨j, hj⟩ : ∃ j : Fin 4096, j.val = (t.val * 32 - 1) * 16 + i.val := ⟨⟨(t.val * 32 - 1) * 16 + i.val, by omega⟩, rfl⟩
  obtain ⟨e, he⟩ : ∃ e : Fin 2560, e.val = 2048 + q.val := ⟨⟨2048 + q.val, by omega⟩, rfl⟩
  have h : iblk m c 1 t (ix2 i q) = m ((c : Thread nD τ).loc main_arg0) (ix3 0 j e) := by
    blk_point [iblk, V, idx t]
  unfold ps
  rw [dif_pos (by omega)]
  exact h.trans (congrArg₂ (fun j e => m ((c : Thread nD τ).loc main_arg0) (ix3 0 j e)) (Fin.ext (by show j.val = t.val * 512 + i.val - 16; omega)) (Fin.ext he))

theorem in2 (c : Dev nD) (t : Fin cfg0.N) (i q : Fin 512) (j : Fin 4096) (hj : j.val = t.val * 512 + i.val) : iblk m c 2 t (ix2 i q) = m ((c : Thread nD τ).loc main_arg3) (ix3 0 j ⟨512 + q.val, by omega⟩) := by
  obtain ⟨e, he⟩ : ∃ e : Fin 1024, e.val = 512 + q.val := ⟨⟨512 + q.val, by omega⟩, rfl⟩
  have h : iblk m c 2 t (ix2 i q) = m ((c : Thread nD τ).loc main_arg3) (ix3 0 j e) := by
    blk_point [iblk, V, idx t]
  exact h.trans (congrArg (fun e => m ((c : Thread nD τ).loc main_arg3) (ix3 0 j e)) (Fin.ext he))

theorem in3 (c : Dev nD) (t : Fin cfg0.N) (h0 : t.val < 7) (i : Fin 16) (q : Fin 512) (j : Fin 4096) (hj : j.val = t.val * 512 + (512 + i.val)) :
    iblk m c 3 t (ix2 i q) = m ((c : Thread nD τ).loc main_arg3) (ix3 0 j ⟨512 + q.val, by omega⟩) := by
  obtain ⟨e, he⟩ : ∃ e : Fin 1024, e.val = 512 + q.val := ⟨⟨512 + q.val, by omega⟩, rfl⟩
  have hm : min (t.val * 32 + 32) 255 = t.val * 32 + 32 := by omega
  have h : iblk m c 3 t (ix2 i q) = m ((c : Thread nD τ).loc main_arg3) (ix3 0 j e) := by
    blk_point [iblk, V, idx t, hm]
  exact h.trans (congrArg (fun e => m ((c : Thread nD τ).loc main_arg3) (ix3 0 j e)) (Fin.ext he))

theorem in4 (c : Dev nD) (t : Fin cfg0.N) (g : Fin 4) (k e : Fin 128) : iblk m c 4 t (ix3 g k e) = m ((c : Thread nD τ).loc main_arg1) (ix4 0 g k e) := by
  blk_point [iblk, V, idx t]

theorem in5 (c : Dev nD) (t : Fin cfg0.N) (q : Fin 512) : iblk m c 5 t (ix2 0 q) = m ((c : Thread nD τ).loc main_arg2) (ix2 0 q) := by
  blk_point [iblk, V, idx t]

end Cert.PoolKernelIdeal.Val

end
-- ==== Proof.PoolRef.lean ====
module

public import proofs.«01_k».proof.Proof.Gen.PoolKernelIdeal.Value
public import proofs.«01_k».proof.Proof.Gen.PoolReferenceIdeal.Read
public import proofs.«01_k».proof.Proof.Common
public import proofs.«01_k».proof.Proof.Norm
public import proofs.«01_k».proof.Proof.PoolTile
public import Idealize.ShloMosaic.Lib.KernelVsHost
@[expose] public section

set_option maxRecDepth 16384
set_option maxHeartbeats 1000000

noncomputable section

open Idealize.ShloMosaic Idealize.ShloMosaic.TcCoe Idealize.SL.Sem
open Idealize.ShloMosaic.Pipeline (Dat)

namespace Cert.PoolKernelIdeal.Val

open Cert.PoolKernelIdeal Cert.PoolKernelIdeal.Gen
open Cert.PoolReferenceIdeal.Read

variable (m : (ℓ : Loc nD τ sig) → Buf (Elt Ideal) ℓ)

theorem v3R (X0 : FVec Ideal S1x4096x2560 .f32) (s : Fin 4096) (g : Fin 4) (k : Fin 128) : val_main_v3 (F := Ideal) X0 (ix4 0 s g k) = ps X0 (16 + s) (col g k) := by
  pointwise [val_main_v0, val_main_v1, val_main_v2, val_main_v3, val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends]
  unfold ps
  rw [dif_pos (by omega)]
  exact congrArg₂ (fun j e => X0 (ix3 0 j e)) (Fin.ext (by show s.val = 16 + s.val - 16; omega)) (Fin.ext (by simp [col]))

theorem host_window {s t u : Shape} (w st lo hi : Fin s.rank → ℕ) (x : FVec Ideal s .f32) (v : u.Idx → EReal) (h : s.ReduceWindows w st lo hi t) (hu : 0 < u.numel) :
    Host.reduceWindowAdd (F := Ideal) (φ := .f32) w st lo hi x v h hu = Ideal.hostReduceWindowAdd w st lo hi h x (v (Shape.Idx.first hu)) := rfl

theorem v4R (X0 : FVec Ideal S1x4096x2560 .f32) (s : Fin 4096) (g : Fin 4) (k : Fin 128) : val_main_v4 (F := Ideal) X0 (ix4 0 s g k) = ∑ i ∈ Finset.range (s + 1), ps X0 (16 + i) (col g k) := by
  unfold val_main_v4
  rw [host_window, show val_main_call0_call0_v0 (F := Ideal) (Shape.Idx.first Cert.PoolReferenceIdeal.Gen.h_S_) = 0 by pointwise [val_main_call0_call0_v0, val_main_call0_call0_cst]]
  exact Window.prefix_sum (N := 4096) 4095 rfl _ _ s g k (fun i => ps X0 (16 + i) (col g k)) fun i => v3R X0 i g k

theorem v6R (X0 : FVec Ideal S1x4096x2560 .f32) (n : Fin 4112) (g : Fin 4) (k : Fin 128) : val_main_v6 (F := Ideal) X0 (ix4 0 n g k) = ∑ i ∈ Finset.range (n + 1), ps X0 i (col g k) := by
  pointwise [val_main_call0_call0_cst, val_main_call0_call0_v0, val_main_cst, val_main_v5, val_main_v6, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends]
  by_cases h : n.val < 16
  · rw [dif_pos h]
    refine (Finset.sum_eq_zero fun i hi => ?_).symm
    have := Finset.mem_range.mp hi
    unfold ps
    rw [dif_neg (by omega)]
  · rw [dif_neg h]
    refine (v4R X0 _ g k).trans ?_
    rw [← congrArg Finset.range (show 16 + (n.val - 16 + 1) = n.val + 1 by omega), Finset.sum_range_add (fun i => ps X0 i (col g k)) 16]
    rw [Finset.sum_eq_zero (s := Finset.range 16) fun i hi => by
      have := Finset.mem_range.mp hi
      unfold ps
      rw [dif_neg (by omega)], zero_add]

/-- Every entry that the call reads is a real number. -/
def Real (c : Dev nD) : Prop :=
  (∀ (s : Fin 4096) (q : Fin 512), ∃ r : ℝ, (show EReal from m ((c : Thread nD τ).loc main_arg0) (ix3 0 s ⟨2048 + q.val, by omega⟩)) = r) ∧ (∀ i, ∃ r : ℝ, (show EReal from m ((c : Thread nD τ).loc main_arg1) i) = r)
  ∧ (∀ i, ∃ r : ℝ, (show EReal from m ((c : Thread nD τ).loc main_arg2) i) = r) ∧ ∀ (s : Fin 4096) (q : Fin 512), ∃ r : ℝ, (show EReal from m ((c : Thread nD τ).loc main_arg3) (ix3 0 s ⟨512 + q.val, by omega⟩)) = r

theorem ps_real (X0 : FVec Ideal S1x4096x2560 .f32) (h : ∀ (s : Fin 4096) (q : Fin 512), ∃ r : ℝ, X0 (ix3 0 s ⟨2048 + q.val, by omega⟩) = r) (n : ℕ) (q : Fin 512) : ∃ r : ℝ, ps X0 n q = r := by
  unfold ps
  split_ifs
  · exact h _ q
  · exact ⟨0, rfl⟩

theorem dye_real (c : Dev nD) (h : Real m c) (n : ℕ) (q : Fin 512) : ∃ r : ℝ, dye (m ((c : Thread nD τ).loc main_arg2)) (m ((c : Thread nD τ).loc main_arg3)) n q = r := by
  unfold dye
  split_ifs
  · exact Norm.real_mul (h.2.2.2 _ q) (h.2.2.1 _)
  · exact ⟨0, rfl⟩

theorem dpl_real (c : Dev nD) (h : Real m c) (g : Fin 4) (k : Fin 128) (n : ℕ) : ∃ r : ℝ, dpl (m ((c : Thread nD τ).loc main_arg1)) (m ((c : Thread nD τ).loc main_arg2)) (m ((c : Thread nD τ).loc main_arg3)) g k n = r := by
  unfold dpl dpe
  exact Norm.real_sum _ _ fun x => Norm.real_mul (dye_real m c h n _) (h.2.1 _)

theorem dpl_end (X1 : FVec Ideal S1x4x128x128 .f32) (X2 : FVec Ideal S1x512 .f32) (X3 : FVec Ideal S1x4096x1024 .f32) (g : Fin 4) (k : Fin 128) (n : ℕ) (hn : 4096 ≤ n) : dpl X1 X2 X3 g k n = 0 := by
  unfold dpl dpe
  refine Finset.sum_eq_zero fun x _ => ?_
  unfold dye
  rw [dif_neg (by omega), zero_mul]

theorem v88R (X1 : FVec Ideal S1x4x128x128 .f32) (X2 : FVec Ideal S1x512 .f32) (X3 : FVec Ideal S1x4096x1024 .f32) (s : Fin 4096) (g : Fin 4) (k : Fin 128) : val_main_v88 (F := Ideal) X1 X2 X3 (ix4 0 s g k) = dpl X1 X2 X3 g k s := by
  pointwise [val_main_call0_call0_cst, val_main_call0_call0_v0, val_main_cst, val_main_cst_0, val_main_c, val_main_c_1, val_main_c_2, val_main_c_3, val_main_c_4, val_main_v75, val_main_v76, val_main_v77, val_main_v78, val_main_v79, val_main_cst_5, val_main_v80, val_main_v81, val_main_v82, val_main_v83, val_main_cst_6, val_main_v84, val_main_v85, val_main_v86, val_main_v87, val_main_v88, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_v0, val_main_v1, val_main_v2, val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends]
  unfold dpl dpe
  refine Fin.sum_fin_congr fun x => ?_
  unfold dye
  rw [dif_pos s.isLt]
  rfl

theorem cnt_s (s : ℕ) (hs : s < 4096) (w : ℕ) (hw : w < 5000) : FloatOps.sitofp (F := Ideal) .f32 (IntOp.minsi (IntOp.addi (BitVec.ofNat 32 s) 1#32) (BitVec.ofNat 32 w)) = Window.cnt s w :=
  Window.cnt_word _ _ _ (BitVec.ofNat_add s 1).symm (by omega) hw

theorem v71R (X0 : FVec Ideal S1x4096x2560 .f32) (h : ∀ (s : Fin 4096) (q : Fin 512), ∃ r : ℝ, X0 (ix3 0 s ⟨2048 + q.val, by omega⟩) = r) (s : Fin 4096) (g : Fin 4) (k : Fin 128) : val_main_v71 (F := Ideal) X0 (ix4 0 s g k) = pooled X0 s g k := by
  have d := fun w hw j (hj : 16 + s.val + 1 - w = j) => (congrArg (fun j => ((∑ i ∈ Finset.range (16 + s.val + 1), ps X0 i (col g k)) - ∑ i ∈ Finset.range j, ps X0 i (col g k) : EReal)) hj.symm).trans (Window.front_window _ (fun n => ps_real X0 h n (col g k)) (16 + s) w hw)
  unfold pooled
  match g with
  | 0 =>
    pointwise [val_main_call0_call0_cst, val_main_call0_call0_v0, val_main_cst, val_main_cst_0, val_main_c, val_main_c_1, val_main_c_2, val_main_c_3, val_main_c_4, val_main_v67, val_main_v68, val_main_v69, val_main_v70, val_main_v71, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_v8, val_main_c, val_main_v9, val_main_v10, val_main_v11, val_main_v12, val_main_v13, val_main_v14, val_main_v15, val_main_c_1, val_main_v16, val_main_v17, val_main_v18, val_main_v19, val_main_v20, val_main_v21, val_main_v22, val_main_v23, val_main_v24, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_v8, val_main_c, val_main_v9, val_main_v10, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends]
    rw [v6R, v6R, v3R, cnt_s s s.isLt 2 (by decide)]
    exact congrArg (fun x : EReal => (Ideal.div x (Window.cnt s 2) - ps X0 (16 + s) (col 0 k) : EReal)) (d 2 (by omega) (14 + s.val + 1) (by omega))
  | 1 =>
    pointwise [val_main_call0_call0_cst, val_main_call0_call0_v0, val_main_cst, val_main_cst_0, val_main_c, val_main_c_1, val_main_c_2, val_main_c_3, val_main_c_4, val_main_v67, val_main_v68, val_main_v69, val_main_v70, val_main_v71, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_c, val_main_c_1, val_main_v25, val_main_v26, val_main_v27, val_main_v28, val_main_v29, val_main_c_2, val_main_v30, val_main_v31, val_main_v32, val_main_v33, val_main_v34, val_main_v35, val_main_v36, val_main_v37, val_main_v38, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_v8, val_main_c, val_main_v9, val_main_v10, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends]
    rw [v6R, v6R, v3R, cnt_s s s.isLt 4 (by decide)]
    exact congrArg (fun x : EReal => (Ideal.div x (Window.cnt s 4) - ps X0 (16 + s) (col 1 k) : EReal)) (d 4 (by omega) (12 + s.val + 1) (by omega))
  | 2 =>
    pointwise [val_main_call0_call0_cst, val_main_call0_call0_v0, val_main_cst, val_main_cst_0, val_main_c, val_main_c_1, val_main_c_2, val_main_c_3, val_main_c_4, val_main_v67, val_main_v68, val_main_v69, val_main_v70, val_main_v71, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_c, val_main_c_1, val_main_c_2, val_main_v39, val_main_v40, val_main_v41, val_main_v42, val_main_v43, val_main_c_3, val_main_v44, val_main_v45, val_main_v46, val_main_v47, val_main_v48, val_main_v49, val_main_v50, val_main_v51, val_main_v52, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_v8, val_main_c, val_main_v9, val_main_v10, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends]
    rw [v6R, v6R, v3R, cnt_s s s.isLt 8 (by decide)]
    exact congrArg (fun x : EReal => (Ideal.div x (Window.cnt s 8) - ps X0 (16 + s) (col 2 k) : EReal)) (d 8 (by omega) (8 + s.val + 1) (by omega))
  | 3 =>
    pointwise [val_main_call0_call0_cst, val_main_call0_call0_v0, val_main_cst, val_main_cst_0, val_main_c, val_main_c_1, val_main_c_2, val_main_c_3, val_main_c_4, val_main_v67, val_main_v68, val_main_v69, val_main_v70, val_main_v71, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_c, val_main_c_1, val_main_c_2, val_main_c_3, val_main_v53, val_main_v54, val_main_v55, val_main_v56, val_main_v57, val_main_c_4, val_main_v58, val_main_v59, val_main_v60, val_main_v61, val_main_v62, val_main_v63, val_main_v64, val_main_v65, val_main_v66, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_v8, val_main_c, val_main_v9, val_main_v10, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends]
    rw [v6R, v6R, v3R, cnt_s s s.isLt 16 (by decide)]
    exact congrArg (fun x : EReal => (Ideal.div x (Window.cnt s 16) - ps X0 (16 + s) (col 3 k) : EReal)) (d 16 (by omega) (s.val + 1) (by omega))

/-- The quotient of a pooled row's gradient by its count. -/
def quo (X1 : FVec Ideal S1x4x128x128 .f32) (X2 : FVec Ideal S1x512 .f32) (X3 : FVec Ideal S1x4096x1024 .f32) (g : Fin 4) (k : Fin 128) (n : ℕ) : EReal := Ideal.div (dpl X1 X2 X3 g k n) (Window.cnt n (wide g))

theorem quo_end (X1 : FVec Ideal S1x4x128x128 .f32) (X2 : FVec Ideal S1x512 .f32) (X3 : FVec Ideal S1x4096x1024 .f32) (g : Fin 4) (k : Fin 128) (n : ℕ) (hn : 4096 ≤ n) : quo X1 X2 X3 g k n = 0 := by
  have hw : 0 < wide g := by fin_cases g <;> decide
  unfold quo
  rw [dpl_end _ _ _ _ _ _ hn]
  have : 0 < min (n + 1) (wide g) := lt_min (Nat.succ_pos _) hw
  exact (Norm.div_real 0 (b := ((min (n + 1) (wide g) : ℕ) : ℝ)) (by exact_mod_cast this.ne')).trans (by rw [zero_div]; rfl)

theorem dp_of (c : Dev nD) (h : Real m c) (s : Fin 4096) (g : Fin 4) (k : Fin 128) :
    -dpl (m ((c : Thread nD τ).loc main_arg1)) (m ((c : Thread nD τ).loc main_arg2)) (m ((c : Thread nD τ).loc main_arg3)) g k s + (∑ i ∈ Finset.range (4096 - s.val), (quo (m ((c : Thread nD τ).loc main_arg1)) (m ((c : Thread nD τ).loc main_arg2)) (m ((c : Thread nD τ).loc main_arg3)) g k (s + i) - quo (m ((c : Thread nD τ).loc main_arg1)) (m ((c : Thread nD τ).loc main_arg2)) (m ((c : Thread nD τ).loc main_arg3)) g k (s + i + wide g))) = dp (m ((c : Thread nD τ).loc main_arg1)) (m ((c : Thread nD τ).loc main_arg2)) (m ((c : Thread nD τ).loc main_arg3)) s g k := by
  have hw : 0 < wide g := by fin_cases g <;> decide
  refine (add_comm (G := EReal) _ _).trans (congrArg (fun x : EReal => (x - dpl (m ((c : Thread nD τ).loc main_arg1)) (m ((c : Thread nD τ).loc main_arg2)) (m ((c : Thread nD τ).loc main_arg3)) g k s : EReal)) (Window.back_window (quo (m ((c : Thread nD τ).loc main_arg1)) (m ((c : Thread nD τ).loc main_arg2)) (m ((c : Thread nD τ).loc main_arg3)) g k)
    (fun n => Window.real_div_cnt (dpl_real m c h g k n) n _ hw) s (4096 - s.val) (wide g) fun n hn => quo_end _ _ _ _ _ _ (by omega)))

/-- A padded array of one group, read at any group: the array where it lies, zero elsewhere. -/
theorem pad_at {N : Nat} {u : Shape} (a b g0 g1 : ℕ) (X : FVec Ideal ⟨4, ![1, 4096, 1, 128]⟩ .f32) (v : FVec Ideal u .f32) (h : (⟨4, ![1, 4096, 1, 128]⟩ : Shape).Pads ![0, a, g0, 0] ![0, b, g1, 0] ![0, 0, 0, 0] ⟨4, ![1, N, 4, 128]⟩)
    (hu : 0 < u.numel) (hv : ∀ i, v i = 0) (n : Fin N) (g : Fin 4) (k : Fin 128) (f : ℕ → EReal) (hf : ∀ i : Fin 4096, X (ix4 0 i 0 k) = f i) (h0 : ∀ i, 4096 ≤ i → f i = 0) (ha : a ≤ n.val) :
    (pad ⟨4, ![1, N, 4, 128]⟩ ![0, a, g0, 0] ![0, b, g1, 0] ![0, 0, 0, 0] X v h hu : FVec Ideal ⟨4, ![1, N, 4, 128]⟩ .f32) (ix4 0 n g k) = if g.val = g0 then f (n - a) else 0 := by
  by_cases hg : g.val = g0
  · rw [if_pos hg]
    by_cases hn : n.val - a < 4096
    · refine (pad_apply_of_inside _ _ _ _ _ h hu _ (ix4 0 ⟨n.val - a, hn⟩ 0 k) fun x => ?_).trans (hf ⟨n.val - a, hn⟩)
      match x with
      | ⟨0, _⟩ => rfl
      | ⟨1, _⟩ => show n.val = a + (n.val - a) * 1; omega
      | ⟨2, _⟩ => show g.val = g0 + 0 * 1; omega
      | ⟨3, _⟩ => show k.val = 0 + k.val * 1; omega
    · refine (pad_apply_of_not_inside _ _ _ _ _ h hu _ (1 : Fin 4) fun x => hn ?_).trans ((hv _).trans (h0 _ (by omega)).symm)
      have := x.2.2
      rw [show (![0, 0, 0, 0] : Fin 4 → ℕ) 1 + 1 = 1 from rfl, Nat.div_one] at this
      exact this
  · rw [if_neg hg]
    refine (pad_apply_of_not_inside _ _ _ _ _ h hu _ (2 : Fin 4) fun x => hg ?_).trans (hv _)
    have h1 : g0 ≤ g.val := x.1
    have h2 := x.2.2
    rw [show (![0, 0, 0, 0] : Fin 4 → ℕ) 2 + 1 = 1 from rfl, Nat.div_one] at h2
    have h2 : g.val - g0 < 1 := h2
    omega

theorem v108R (X1 : FVec Ideal S1x4x128x128 .f32) (X2 : FVec Ideal S1x512 .f32) (X3 : FVec Ideal S1x4096x1024 .f32) (n : Fin 4112) (g : Fin 4) (k : Fin 128) (ha : 16 ≤ n.val) : val_main_v108 (F := Ideal) X1 X2 X3 (ix4 0 n g k) = if g.val = 3 then quo X1 X2 X3 3 k (n - 16) else 0 := by
  refine pad_at 16 _ 3 _ _ _ _ _ (fun i => by pointwise [val_main_cst_9]) n g k (fun n => quo X1 X2 X3 3 k n) (fun i => ?_) (fun i hi => (quo_end X1 X2 X3 3 k i hi)) ha
  pointwise [val_main_v8, val_main_c, val_main_v9, val_main_v10, val_main_c_4, val_main_v58, val_main_v59, val_main_v60, val_main_v61, val_main_v102, val_main_v97, val_main_v98, val_main_v103, val_main_v107]
  rw [v88R, cnt_s i i.isLt 16 (by decide)]
  rfl

theorem v106R (X1 : FVec Ideal S1x4x128x128 .f32) (X2 : FVec Ideal S1x512 .f32) (X3 : FVec Ideal S1x4096x1024 .f32) (n : Fin 4112) (g : Fin 4) (k : Fin 128) : val_main_v106 (F := Ideal) X1 X2 X3 (ix4 0 n g k) = if g.val = 3 then -quo X1 X2 X3 3 k (n - 0) else 0 := by
  refine pad_at 0 _ 3 _ _ _ _ _ (fun i => by pointwise [val_main_cst_8]) n g k (fun n => -quo X1 X2 X3 3 k n) (fun i => ?_) (fun i hi => (congrArg Neg.neg (quo_end X1 X2 X3 3 k i hi)).trans neg_zero) (Nat.zero_le _)
  pointwise [val_main_v8, val_main_c, val_main_v9, val_main_v10, val_main_c_4, val_main_v58, val_main_v59, val_main_v60, val_main_v61, val_main_v102, val_main_v97, val_main_v98, val_main_v103, val_main_v104, val_main_v105]
  rw [v88R, cnt_s i i.isLt 16 (by decide)]
  rfl

theorem v101R (X1 : FVec Ideal S1x4x128x128 .f32) (X2 : FVec Ideal S1x512 .f32) (X3 : FVec Ideal S1x4096x1024 .f32) (n : Fin 4096) (g : Fin 4) (k : Fin 128) : val_main_v101 (F := Ideal) X1 X2 X3 (ix4 0 n g k) = if g.val = 3 then -dpl X1 X2 X3 3 k (n - 0) else 0 := by
  refine pad_at 0 _ 3 _ _ _ _ _ (fun i => by pointwise [val_main_cst_7]) n g k (fun n => -dpl X1 X2 X3 3 k n) (fun i => ?_) (fun i hi => (congrArg Neg.neg (dpl_end X1 X2 X3 3 k i hi)).trans neg_zero) (Nat.zero_le _)
  pointwise [val_main_v97, val_main_v98, val_main_v99, val_main_v100]
  rw [v88R]

theorem v121R (X1 : FVec Ideal S1x4x128x128 .f32) (X2 : FVec Ideal S1x512 .f32) (X3 : FVec Ideal S1x4096x1024 .f32) (n : Fin 4112) (g : Fin 4) (k : Fin 128) (ha : 16 ≤ n.val) : val_main_v121 (F := Ideal) X1 X2 X3 (ix4 0 n g k) = if g.val = 2 then quo X1 X2 X3 2 k (n - 16) else 0 := by
  refine pad_at 16 _ 2 _ _ _ _ _ (fun i => by pointwise [val_main_cst_12]) n g k (fun n => quo X1 X2 X3 2 k n) (fun i => ?_) (fun i hi => (quo_end X1 X2 X3 2 k i hi)) ha
  pointwise [val_main_v8, val_main_c, val_main_v9, val_main_v10, val_main_c_3, val_main_v44, val_main_v45, val_main_v46, val_main_v47, val_main_v114, val_main_v95, val_main_v96, val_main_v115, val_main_v120]
  rw [v88R, cnt_s i i.isLt 8 (by decide)]
  rfl

theorem v118R (X1 : FVec Ideal S1x4x128x128 .f32) (X2 : FVec Ideal S1x512 .f32) (X3 : FVec Ideal S1x4096x1024 .f32) (n : Fin 4112) (g : Fin 4) (k : Fin 128) (ha : 8 ≤ n.val) : val_main_v118 (F := Ideal) X1 X2 X3 (ix4 0 n g k) = if g.val = 2 then -quo X1 X2 X3 2 k (n - 8) else 0 := by
  refine pad_at 8 _ 2 _ _ _ _ _ (fun i => by pointwise [val_main_cst_11]) n g k (fun n => -quo X1 X2 X3 2 k n) (fun i => ?_) (fun i hi => (congrArg Neg.neg (quo_end X1 X2 X3 2 k i hi)).trans neg_zero) ha
  pointwise [val_main_v8, val_main_c, val_main_v9, val_main_v10, val_main_c_3, val_main_v44, val_main_v45, val_main_v46, val_main_v47, val_main_v114, val_main_v95, val_main_v96, val_main_v115, val_main_v116, val_main_v117]
  rw [v88R, cnt_s i i.isLt 8 (by decide)]
  rfl

theorem v112R (X1 : FVec Ideal S1x4x128x128 .f32) (X2 : FVec Ideal S1x512 .f32) (X3 : FVec Ideal S1x4096x1024 .f32) (n : Fin 4096) (g : Fin 4) (k : Fin 128) : val_main_v112 (F := Ideal) X1 X2 X3 (ix4 0 n g k) = if g.val = 2 then -dpl X1 X2 X3 2 k (n - 0) else 0 := by
  refine pad_at 0 _ 2 _ _ _ _ _ (fun i => by pointwise [val_main_cst_10]) n g k (fun n => -dpl X1 X2 X3 2 k n) (fun i => ?_) (fun i hi => (congrArg Neg.neg (dpl_end X1 X2 X3 2 k i hi)).trans neg_zero) (Nat.zero_le _)
  pointwise [val_main_v95, val_main_v96, val_main_v110, val_main_v111]
  rw [v88R]

theorem v134R (X1 : FVec Ideal S1x4x128x128 .f32) (X2 : FVec Ideal S1x512 .f32) (X3 : FVec Ideal S1x4096x1024 .f32) (n : Fin 4112) (g : Fin 4) (k : Fin 128) (ha : 16 ≤ n.val) : val_main_v134 (F := Ideal) X1 X2 X3 (ix4 0 n g k) = if g.val = 1 then quo X1 X2 X3 1 k (n - 16) else 0 := by
  refine pad_at 16 _ 1 _ _ _ _ _ (fun i => by pointwise [val_main_cst_15]) n g k (fun n => quo X1 X2 X3 1 k n) (fun i => ?_) (fun i hi => (quo_end X1 X2 X3 1 k i hi)) ha
  pointwise [val_main_v8, val_main_c, val_main_v9, val_main_v10, val_main_c_2, val_main_v30, val_main_v31, val_main_v32, val_main_v33, val_main_v127, val_main_v93, val_main_v94, val_main_v128, val_main_v133]
  rw [v88R, cnt_s i i.isLt 4 (by decide)]
  rfl

theorem v131R (X1 : FVec Ideal S1x4x128x128 .f32) (X2 : FVec Ideal S1x512 .f32) (X3 : FVec Ideal S1x4096x1024 .f32) (n : Fin 4112) (g : Fin 4) (k : Fin 128) (ha : 12 ≤ n.val) : val_main_v131 (F := Ideal) X1 X2 X3 (ix4 0 n g k) = if g.val = 1 then -quo X1 X2 X3 1 k (n - 12) else 0 := by
  refine pad_at 12 _ 1 _ _ _ _ _ (fun i => by pointwise [val_main_cst_14]) n g k (fun n => -quo X1 X2 X3 1 k n) (fun i => ?_) (fun i hi => (congrArg Neg.neg (quo_end X1 X2 X3 1 k i hi)).trans neg_zero) ha
  pointwise [val_main_v8, val_main_c, val_main_v9, val_main_v10, val_main_c_2, val_main_v30, val_main_v31, val_main_v32, val_main_v33, val_main_v127, val_main_v93, val_main_v94, val_main_v128, val_main_v129, val_main_v130]
  rw [v88R, cnt_s i i.isLt 4 (by decide)]
  rfl

theorem v125R (X1 : FVec Ideal S1x4x128x128 .f32) (X2 : FVec Ideal S1x512 .f32) (X3 : FVec Ideal S1x4096x1024 .f32) (n : Fin 4096) (g : Fin 4) (k : Fin 128) : val_main_v125 (F := Ideal) X1 X2 X3 (ix4 0 n g k) = if g.val = 1 then -dpl X1 X2 X3 1 k (n - 0) else 0 := by
  refine pad_at 0 _ 1 _ _ _ _ _ (fun i => by pointwise [val_main_cst_13]) n g k (fun n => -dpl X1 X2 X3 1 k n) (fun i => ?_) (fun i hi => (congrArg Neg.neg (dpl_end X1 X2 X3 1 k i hi)).trans neg_zero) (Nat.zero_le _)
  pointwise [val_main_v93, val_main_v94, val_main_v123, val_main_v124]
  rw [v88R]

theorem v147R (X1 : FVec Ideal S1x4x128x128 .f32) (X2 : FVec Ideal S1x512 .f32) (X3 : FVec Ideal S1x4096x1024 .f32) (n : Fin 4112) (g : Fin 4) (k : Fin 128) (ha : 16 ≤ n.val) : val_main_v147 (F := Ideal) X1 X2 X3 (ix4 0 n g k) = if g.val = 0 then quo X1 X2 X3 0 k (n - 16) else 0 := by
  refine pad_at 16 _ 0 _ _ _ _ _ (fun i => by pointwise [val_main_cst_18]) n g k (fun n => quo X1 X2 X3 0 k n) (fun i => ?_) (fun i hi => (quo_end X1 X2 X3 0 k i hi)) ha
  pointwise [val_main_v8, val_main_c, val_main_v9, val_main_v10, val_main_c_1, val_main_v16, val_main_v17, val_main_v18, val_main_v19, val_main_v140, val_main_v91, val_main_v92, val_main_v141, val_main_v146]
  rw [v88R, cnt_s i i.isLt 2 (by decide)]
  rfl

theorem v144R (X1 : FVec Ideal S1x4x128x128 .f32) (X2 : FVec Ideal S1x512 .f32) (X3 : FVec Ideal S1x4096x1024 .f32) (n : Fin 4112) (g : Fin 4) (k : Fin 128) (ha : 14 ≤ n.val) : val_main_v144 (F := Ideal) X1 X2 X3 (ix4 0 n g k) = if g.val = 0 then -quo X1 X2 X3 0 k (n - 14) else 0 := by
  refine pad_at 14 _ 0 _ _ _ _ _ (fun i => by pointwise [val_main_cst_17]) n g k (fun n => -quo X1 X2 X3 0 k n) (fun i => ?_) (fun i hi => (congrArg Neg.neg (quo_end X1 X2 X3 0 k i hi)).trans neg_zero) ha
  pointwise [val_main_v8, val_main_c, val_main_v9, val_main_v10, val_main_c_1, val_main_v16, val_main_v17, val_main_v18, val_main_v19, val_main_v140, val_main_v91, val_main_v92, val_main_v141, val_main_v142, val_main_v143]
  rw [v88R, cnt_s i i.isLt 2 (by decide)]
  rfl

theorem v138R (X1 : FVec Ideal S1x4x128x128 .f32) (X2 : FVec Ideal S1x512 .f32) (X3 : FVec Ideal S1x4096x1024 .f32) (n : Fin 4096) (g : Fin 4) (k : Fin 128) : val_main_v138 (F := Ideal) X1 X2 X3 (ix4 0 n g k) = if g.val = 0 then -dpl X1 X2 X3 0 k (n - 0) else 0 := by
  refine pad_at 0 _ 0 _ _ _ _ _ (fun i => by pointwise [val_main_cst_16]) n g k (fun n => -dpl X1 X2 X3 0 k n) (fun i => ?_) (fun i hi => (congrArg Neg.neg (dpl_end X1 X2 X3 0 k i hi)).trans neg_zero) (Nat.zero_le _)
  pointwise [val_main_v91, val_main_v92, val_main_v136, val_main_v137]
  rw [v88R]

theorem v150R (X1 : FVec Ideal S1x4x128x128 .f32) (X2 : FVec Ideal S1x512 .f32) (X3 : FVec Ideal S1x4096x1024 .f32) (s : Fin 4096) (g : Fin 4) (k : Fin 128) : val_main_v150 (F := Ideal) X1 X2 X3 (ix4 0 s g k) = quo X1 X2 X3 g k s - quo X1 X2 X3 g k (s + wide g) := by
  have h : val_main_v150 (F := Ideal) X1 X2 X3 (ix4 0 s g k) = val_main_v148 (F := Ideal) X1 X2 X3 (ix4 0 ⟨16 + s.val, by omega⟩ g k) := by
    pointwise [val_main_v150]
  rw [h]
  pointwise [val_main_v148, val_main_v145, val_main_v135, val_main_v132, val_main_v122, val_main_v119, val_main_v109]
  have ha (a : ℕ) (h : a ≤ 16) : a ≤ (⟨16 + s.val, by omega⟩ : Fin 4112).val := le_trans h (Nat.le_add_right _ _)
  rw [v106R, v108R _ _ _ _ _ _ (ha _ (by decide)), v118R _ _ _ _ _ _ (ha _ (by decide)), v121R _ _ _ _ _ _ (ha _ (by decide)), v131R _ _ _ _ _ _ (ha _ (by decide)),
    v134R _ _ _ _ _ _ (ha _ (by decide)), v144R _ _ _ _ _ _ (ha _ (by decide)), v147R _ _ _ _ _ _ (ha _ (by decide))]
  match g with
  | 0 =>
    simp [wide, sub_eq_add_neg]
    exact (add_comm (G := EReal) _ _).trans (congrArg (fun n : ℕ => (quo X1 X2 X3 0 k s + -quo X1 X2 X3 0 k n : EReal)) (show 16 + s.val - 14 = s.val + 2 by omega))
  | 1 =>
    simp [wide, sub_eq_add_neg]
    exact (add_comm (G := EReal) _ _).trans (congrArg (fun n : ℕ => (quo X1 X2 X3 1 k s + -quo X1 X2 X3 1 k n : EReal)) (show 16 + s.val - 12 = s.val + 4 by omega))
  | 2 =>
    simp [wide, sub_eq_add_neg]
    exact (add_comm (G := EReal) _ _).trans (congrArg (fun n : ℕ => (quo X1 X2 X3 2 k s + -quo X1 X2 X3 2 k n : EReal)) (show 16 + s.val - 8 = s.val + 8 by omega))
  | 3 =>
    simp [wide, sub_eq_add_neg]
    exact (add_comm (G := EReal) _ _).trans (congrArg (fun n : ℕ => (quo X1 X2 X3 3 k s + -quo X1 X2 X3 3 k n : EReal)) (show 16 + s.val - 0 = s.val + 16 by omega))

theorem v139R (X1 : FVec Ideal S1x4x128x128 .f32) (X2 : FVec Ideal S1x512 .f32) (X3 : FVec Ideal S1x4096x1024 .f32) (s : Fin 4096) (g : Fin 4) (k : Fin 128) : val_main_v139 (F := Ideal) X1 X2 X3 (ix4 0 s g k) = -dpl X1 X2 X3 g k s := by
  pointwise [val_main_v139, val_main_v126, val_main_v113]
  rw [v101R, v112R, v125R, v138R]
  match g with
  | 0 => simp
  | 1 => simp
  | 2 => simp
  | 3 => simp

theorem v151R (X1 : FVec Ideal S1x4x128x128 .f32) (X2 : FVec Ideal S1x512 .f32) (X3 : FVec Ideal S1x4096x1024 .f32) (s : Fin 4096) (g : Fin 4) (k : Fin 128) : val_main_v151 (F := Ideal) X1 X2 X3 (ix4 0 s g k)
    = ∑ i ∈ Finset.range (4096 - s.val), (quo X1 X2 X3 g k (s + i) - quo X1 X2 X3 g k (s + i + wide g)) := by
  unfold val_main_v151
  rw [host_window, show val_main_call1_call0_v0 (F := Ideal) (Shape.Idx.first Cert.PoolReferenceIdeal.Gen.h_S_) = 0 by pointwise [val_main_call1_call0_v0, val_main_call1_call0_cst]]
  exact Window.suffix_sum (N := 4096) 4095 (val_main_v150 (F := Ideal) X1 X2 X3) Cert.PoolReferenceIdeal.Gen.reduceWindows_S1x4096x4x128_S1x4096x4x128_w1s1p0_0_w4096s1p0_4095_w1s1p0_0_w1s1p0_0 s g k (fun n => quo X1 X2 X3 g k n - quo X1 X2 X3 g k (n + wide g)) fun i => v150R _ _ _ i g k

theorem v152R (c : Dev nD) (h : Real m c) (s : Fin 4096) (g : Fin 4) (k : Fin 128) : val_main_v152 (F := Ideal) (m ((c : Thread nD τ).loc main_arg1)) (m ((c : Thread nD τ).loc main_arg2)) (m ((c : Thread nD τ).loc main_arg3)) (ix4 0 s g k) = dp (m ((c : Thread nD τ).loc main_arg1)) (m ((c : Thread nD τ).loc main_arg2)) (m ((c : Thread nD τ).loc main_arg3)) s g k := by
  refine Eq.trans ?_ (dp_of m c h s g k)
  pointwise [val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_v152, val_main_cst_19, Common.hostReduceAdd_leading, Common.hostReduceAdd_outer, Common.hostReduceAdd_ends]
  exact congrArg₂ (fun a b : EReal => (a + b : EReal)) (v139R _ _ _ s g k) (v151R _ _ _ s g k)

theorem v156G (c : Dev nD) (h : Real m c) (s : Fin 4096) (q : Fin 512) : val_main_v156 (F := Ideal) (m ((c : Thread nD τ).loc main_arg1)) (m ((c : Thread nD τ).loc main_arg2)) (m ((c : Thread nD τ).loc main_arg3)) (ix2 s q) = dp (m ((c : Thread nD τ).loc main_arg1)) (m ((c : Thread nD τ).loc main_arg2)) (m ((c : Thread nD τ).loc main_arg3)) s (gr q) (pl q) := by
  refine Eq.trans ?_ (v152R m c h s (gr q) (pl q))
  pointwise [val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_v153, val_main_cst_19, Common.hostReduceAdd_leading, Common.hostReduceAdd_outer, Common.hostReduceAdd_ends, val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_v156, val_main_cst_19, Common.hostReduceAdd_leading, Common.hostReduceAdd_outer, Common.hostReduceAdd_ends]
  rfl

theorem v157G (c : Dev nD) (h : Real m c) (g : Fin 4) (k e : Fin 128) : val_main_v157 (F := Ideal) (m ((c : Thread nD τ).loc main_arg0)) (m ((c : Thread nD τ).loc main_arg2)) (m ((c : Thread nD τ).loc main_arg3)) (ix3 g k e)
    = ∑ s : Fin 4096, pooled (m ((c : Thread nD τ).loc main_arg0)) s g k * dye (m ((c : Thread nD τ).loc main_arg2)) (m ((c : Thread nD τ).loc main_arg3)) s (col g e) := by
  pointwise [val_main_call0_call0_cst, val_main_call0_call0_v0, val_main_cst, val_main_cst_0, val_main_c, val_main_c_1, val_main_c_2, val_main_c_3, val_main_c_4, val_main_v72, val_main_v73, val_main_v74, val_main_v75, val_main_v76, val_main_v77, val_main_v78, val_main_v79, val_main_cst_5, val_main_v80, val_main_v81, val_main_v82, val_main_v83, val_main_cst_6, val_main_v84, val_main_v85, val_main_v86, val_main_v87, val_main_v88, val_main_v89, val_main_v90, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_v155, val_main_v156, val_main_v157, val_main_cst_19, Common.hostReduceAdd_leading, Common.hostReduceAdd_outer, Common.hostReduceAdd_ends, val_main_v2, val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends]
  rw [Fin.sum_univ_one]
  refine Fin.sum_fin_congr fun s => ?_
  unfold dye
  rw [dif_pos s.isLt]
  exact (mul_comm (G := EReal) _ _).trans (congrArg (fun x : EReal => (x * _ : EReal)) (v71R _ h.1 s g k))

theorem v159G (c : Dev nD) (h : Real m c) (r : Fin 8) (q : Fin 512) : val_main_v159 (F := Ideal) (m ((c : Thread nD τ).loc main_arg0)) (m ((c : Thread nD τ).loc main_arg1)) (m ((c : Thread nD τ).loc main_arg3)) (ix2 r q)
    = if r.val < 1 then ∑ s : Fin 4096, (show EReal from m ((c : Thread nD τ).loc main_arg3) (ix3 0 s ⟨512 + q.val, by omega⟩)) * ∑ k : Fin 128, pooled (m ((c : Thread nD τ).loc main_arg0)) s (gr q) k * m ((c : Thread nD τ).loc main_arg1) (ix4 0 (gr q) k (pl q)) else 0 := by
  pointwise [val_main_call0_call0_cst, val_main_call0_call0_v0, val_main_cst, val_main_cst_0, val_main_c, val_main_c_1, val_main_c_2, val_main_c_3, val_main_c_4, val_main_v72, val_main_v73, val_main_v74, val_main_v75, val_main_v76, val_main_v77, val_main_v78, val_main_v79, val_main_cst_5, val_main_v80, val_main_v81, val_main_v82, val_main_v83, val_main_cst_6, val_main_v84, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_v1, val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, Common.hostReduceAdd_leading, Common.hostReduceAdd_outer, Common.hostReduceAdd_ends, val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_v154, val_main_cst_19, Common.hostReduceAdd_leading, Common.hostReduceAdd_outer, Common.hostReduceAdd_ends, val_main_call0_call0_cst, val_main_call0_call0_v0, val_main_cst, val_main_cst_0, val_main_c, val_main_c_1, val_main_c_2, val_main_c_3, val_main_c_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_call1_call0_cst, val_main_call1_call0_v0, val_main_cst_19, val_main_v158, val_main_v159, Common.hostReduceAdd_leading, Common.hostReduceAdd_outer, Common.hostReduceAdd_ends]
  simp only [Fin.sum_univ_one]
  rw [dite_eq_ite]
  refine if_congr Iff.rfl (Fin.sum_fin_congr fun s => (mul_comm (G := EReal) _ _).trans (congrArg (fun x : EReal => (_ * x : EReal)) (Fin.sum_fin_congr fun x => ?_))) rfl
  exact (mul_comm (G := EReal) _ _).trans (congrArg (fun x : EReal => (x * _ : EReal)) (v71R _ h.1 s (gr q) x))

end Cert.PoolKernelIdeal.Val

end
-- ==== Proof.PoolValue.lean ====
module

public import proofs.«01_k».proof.Proof.Gen.PoolKernelIdeal.Value
public import proofs.«01_k».proof.Proof.Gen.PoolReferenceIdeal.Read
public import proofs.«01_k».proof.Proof.Common
public import proofs.«01_k».proof.Proof.Norm
public import proofs.«01_k».proof.Proof.PoolRef
@[expose] public section

set_option maxRecDepth 16384
set_option maxHeartbeats 1000000

noncomputable section

open Idealize.ShloMosaic Idealize.ShloMosaic.TcCoe Idealize.SL.Sem
open Idealize.ShloMosaic.Pipeline (Dat)

namespace Cert.PoolKernelIdeal.Val

open Cert.PoolKernelIdeal Cert.PoolKernelIdeal.Gen

variable (m : (ℓ : Loc nD τ sig) → Buf (Elt Ideal) ℓ)

theorem last_word : ∀ t : Fin cfg0.N, Scalar.cmpi .slt (BitVec.ofNat 32 (grid0.coords t 0).val) 7#32 = if t.val < 7 then 1#1 else 0#1 := (by decide +kernel : ∀ t : Fin grid0.N, _)

theorem dyeT (c : Dev nD) (t : Fin cfg0.N) (n : Fin 528) (q : Fin 512) : (k0_pay18 (k0_pay16 (BitVec.ofNat 32 (grid0.coords t 0).val) (iblk m c 2 t) (iblk m c 3 t)) (k0_pay17 (iblk m c 5 t)) : FVec Ideal S528x512 .f32) (ix2 n q) = dye (m ((c : Thread nD τ).loc main_arg2)) (m ((c : Thread nD τ).loc main_arg3)) (t.val * 512 + n) q := by
  have ht : t.val < 8 := lt_of_lt_of_eq t.isLt N_0
  have hn := n.isLt
  pointwise [k0_pay18, k0_pay17, k0_pay16, k0_pay15]
  rw [last_word, in5]
  by_cases h : n.val < 512
  · rw [dif_pos h]
    unfold dye
    rw [dif_pos (by omega)]
    exact congrArg (fun x : EReal => (x * _ : EReal)) (in2 m c t ⟨n, h⟩ q ⟨t.val * 512 + n, by omega⟩ rfl)
  · rw [dif_neg h]
    unfold dye
    by_cases h1 : t.val < 7
    · rw [if_pos h1, dif_pos (by omega)]
      exact congrArg (fun x : EReal => (x * _ : EReal)) (in3 m c t h1 ⟨n - 512, by omega⟩ q ⟨t.val * 512 + n, by omega⟩ (by show t.val * 512 + n.val = t.val * 512 + (512 + (n.val - 512)); omega))
    · rw [if_neg h1, dif_neg (by omega)]
      exact zero_mul _

theorem pooledT (c : Dev nD) (t : Fin cfg0.N) (r : Fin 512) (k : Fin 128) :
    (k0_pay10 (grid0.coords t) (iblk m c 0 t) (iblk m c 1 t) : FVec Ideal S512x128 .f32) (ix2 r k) = pooled (m ((c : Thread nD τ).loc main_arg0)) (t.val * 512 + r) 0 k
    ∧ (k0_pay11 (grid0.coords t) (iblk m c 0 t) (iblk m c 1 t) : FVec Ideal S512x128 .f32) (ix2 r k) = pooled (m ((c : Thread nD τ).loc main_arg0)) (t.val * 512 + r) 1 k
    ∧ (k0_pay13 (k0_pay7 (iblk m c 0 t)) (k0_pay9 (grid0.coords t)) (k0_pay12 (grid0.coords t) (iblk m c 0 t) (iblk m c 1 t)) 2#32 : FVec Ideal S512x128 .f32) (ix2 r k) = pooled (m ((c : Thread nD τ).loc main_arg0)) (t.val * 512 + r) 2 k
    ∧ (k0_pay14 (k0_pay7 (iblk m c 0 t)) (k0_pay8 (grid0.coords t) (iblk m c 0 t) (iblk m c 1 t)) (k0_pay9 (grid0.coords t)) : FVec Ideal S512x128 .f32) (ix2 r k) = pooled (m ((c : Thread nD τ).loc main_arg0)) (t.val * 512 + r) 3 k :=
  pooled_rows (m ((c : Thread nD τ).loc main_arg0)) t.val (lt_of_lt_of_eq t.isLt N_0) (grid0.coords t) (coords_val t) (iblk m c 0 t) (iblk m c 1 t)
    (fun n q => in0 m c t n q) (fun h n q => in1 m c t h n q) r k

theorem dpT (c : Dev nD) (t : Fin cfg0.N) (w0 w1 w2 w3 : Vec Ideal S1x128x128 .f32) (hw0 : ∀ k x, w0 (ix3 0 k x) = iblk m c 4 t (ix3 0 k x)) (hw1 : ∀ k x, w1 (ix3 0 k x) = iblk m c 4 t (ix3 1 k x))
    (hw2 : ∀ k x, w2 (ix3 0 k x) = iblk m c 4 t (ix3 2 k x)) (hw3 : ∀ k x, w3 (ix3 0 k x) = iblk m c 4 t (ix3 3 k x)) (r q : Fin 512) (j : Fin 4096) (hj : j.val = t.val * 512 + r.val) :
    (k0_pay44 (k0_pay18 (k0_pay16 (BitVec.ofNat 32 (grid0.coords t 0).val) (iblk m c 2 t) (iblk m c 3 t)) (k0_pay17 (iblk m c 5 t))) (k0_pay19 (BitVec.ofNat 32 (grid0.coords t 0).val)) (k0_pay25 (BitVec.ofNat 32 (grid0.coords t 0).val) (k0_pay16 (BitVec.ofNat 32 (grid0.coords t 0).val) (iblk m c 2 t) (iblk m c 3 t)) (k0_pay17 (iblk m c 5 t)) w0) (k0_pay32 (k0_pay19 (BitVec.ofNat 32 (grid0.coords t 0).val)) (k0_pay26 w1) (k0_pay29 (k0_pay16 (BitVec.ofNat 32 (grid0.coords t 0).val) (iblk m c 2 t) (iblk m c 3 t)) (k0_pay17 (iblk m c 5 t))))
        (k0_pay38 (k0_pay18 (k0_pay16 (BitVec.ofNat 32 (grid0.coords t 0).val) (iblk m c 2 t) (iblk m c 3 t)) (k0_pay17 (iblk m c 5 t))) w2) (k0_pay39 (k0_pay18 (k0_pay16 (BitVec.ofNat 32 (grid0.coords t 0).val) (iblk m c 2 t) (iblk m c 3 t)) (k0_pay17 (iblk m c 5 t))) (k0_pay19 (BitVec.ofNat 32 (grid0.coords t 0).val)) w2) w3 : FVec Ideal S512x512 .f32) (ix2 r q) = dp (m ((c : Thread nD τ).loc main_arg1)) (m ((c : Thread nD τ).loc main_arg2)) (m ((c : Thread nD τ).loc main_arg3)) j (gr q) (pl q) := by
  have ht : t.val < 8 := lt_of_lt_of_eq t.isLt N_0
  refine (tileK _ _ w0 w1 w2 w3 (fun g k x => m ((c : Thread nD τ).loc main_arg1) (ix4 0 g k x)) (fun k x => (hw0 k x).trans (in4 m c t 0 k x)) (fun k x => (hw1 k x).trans (in4 m c t 1 k x)) (fun k x => (hw2 k x).trans (in4 m c t 2 k x))
    (fun k x => (hw3 k x).trans (in4 m c t 3 k x)) (fun n => dye (m ((c : Thread nD τ).loc main_arg2)) (m ((c : Thread nD τ).loc main_arg3)) (t.val * 512 + n)) _ (by rw [coords_val]; exact ht) (dyeT m c t) r q).trans ?_
  rw [coords_val, hj]
  exact congrArg (fun x : EReal => (x - dpl (m ((c : Thread nD τ).loc main_arg1)) (m ((c : Thread nD τ).loc main_arg2)) (m ((c : Thread nD τ).loc main_arg3)) (gr q) (pl q) (t.val * 512 + r) : EReal)) (Finset.sum_congr rfl fun d hd => congrArg (quo (m ((c : Thread nD τ).loc main_arg1)) (m ((c : Thread nD τ).loc main_arg2)) (m ((c : Thread nD τ).loc main_arg3)) (gr q) (pl q)) (Nat.add_assoc _ _ _).symm)

theorem outD (c : Dev nD) (hr : Real m c) : (dats m 0 c).arrAt 6 (cfgs 0).N = Cert.PoolReferenceIdeal.Read.val_main_v156 (F := Ideal) (m ((c : Thread nD τ).loc main_arg1)) (m ((c : Thread nD τ).loc main_arg2)) (m ((c : Thread nD τ).loc main_arg3)) := by
  refine (dats m 0 c).arrAt_eq_of_covers 6 _ (by decide +kernel) fun t _ y => ?_
  obtain ⟨i, d, rfl⟩ : ∃ (i : Fin 512) (d : Fin 512), y = ix2 i d := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 6).blk t).view.emb (ix2 i d) = (ix2 j d : S4096x512.Idx) := by blk_ext [idx t]
  refine Eq.trans ?_ (congrArg _ e).symm
  refine Eq.trans ?_ (v156G m c hr j d).symm
  rw [after0_6]
  by_cases h0 : t.val % 8 = 0
  · rw [outsAt0_A m c t h0 (by omega) h0 (by omega)]; frame_out
    refine dpT m c t _ _ _ _ ?_ ?_ ?_ ?_ i d j hj <;> (intros; pointwise)
  · rw [outsAt0_B m c t h0 (by omega) h0 (by omega)]; frame_out
    refine dpT m c t _ _ _ _ ?_ ?_ ?_ ?_ i d j hj <;> (intros; pointwise)

/-- A tile's part of the gradient of the group's matrices. -/
def dwp (c : Dev nD) (p : ℕ) (g : Fin 4) (k e : Fin 128) : EReal := ∑ i : Fin 512, pooled (m ((c : Thread nD τ).loc main_arg0)) (p * 512 + i) g k * dye (m ((c : Thread nD τ).loc main_arg2)) (m ((c : Thread nD τ).loc main_arg3)) (p * 512 + i) (col g e)

theorem dwT0 (c : Dev nD) (t : Fin cfg0.N) (k e : Fin 128) : (k0_pay24 (k0_pay10 (grid0.coords t) (iblk m c 0 t) (iblk m c 1 t)) (k0_pay16 (BitVec.ofNat 32 (grid0.coords t 0).val) (iblk m c 2 t) (iblk m c 3 t)) (k0_pay17 (iblk m c 5 t)) : FVec Ideal S128x128 .f32) (ix2 k e) = dwp m c t 0 k e :=
  (dwK0 _ _ _ (fun n => dye (m ((c : Thread nD τ).loc main_arg2)) (m ((c : Thread nD τ).loc main_arg3)) (t.val * 512 + n)) (dyeT m c t) k e).trans (Fin.sum_fin_congr fun i => congrArg (fun x : EReal => (x * _ : EReal)) (pooledT m c t i k).1)

theorem dwT1 (c : Dev nD) (t : Fin cfg0.N) (k e : Fin 128) : (k0_pay31 (k0_pay27 (k0_pay11 (grid0.coords t) (iblk m c 0 t) (iblk m c 1 t))) (k0_pay30 (k0_pay16 (BitVec.ofNat 32 (grid0.coords t 0).val) (iblk m c 2 t) (iblk m c 3 t)) (k0_pay17 (iblk m c 5 t))) (constant S128x128 .f32 0x00000000#32) : FVec Ideal S128x128 .f32) (ix2 k e) = dwp m c t 1 k e :=
  (dwK1 _ _ _ (fun n => dye (m ((c : Thread nD τ).loc main_arg2)) (m ((c : Thread nD τ).loc main_arg3)) (t.val * 512 + n)) (dyeT m c t) k e).trans (Fin.sum_fin_congr fun i => congrArg (fun x : EReal => (x * _ : EReal)) (pooledT m c t i k).2.1)

theorem dwT2 (c : Dev nD) (t : Fin cfg0.N) (k e : Fin 128) : (k0_pay37 (k0_pay13 (k0_pay7 (iblk m c 0 t)) (k0_pay9 (grid0.coords t)) (k0_pay12 (grid0.coords t) (iblk m c 0 t) (iblk m c 1 t)) 2#32) (k0_pay18 (k0_pay16 (BitVec.ofNat 32 (grid0.coords t 0).val) (iblk m c 2 t) (iblk m c 3 t)) (k0_pay17 (iblk m c 5 t))) : FVec Ideal S128x128 .f32) (ix2 k e) = dwp m c t 2 k e :=
  (dwK2 _ _ _ (fun n => dye (m ((c : Thread nD τ).loc main_arg2)) (m ((c : Thread nD τ).loc main_arg3)) (t.val * 512 + n)) (dyeT m c t) k e).trans (Fin.sum_fin_congr fun i => congrArg (fun x : EReal => (x * _ : EReal)) (pooledT m c t i k).2.2.1)

theorem dwT3 (c : Dev nD) (t : Fin cfg0.N) (k e : Fin 128) : (k0_pay43 (k0_pay14 (k0_pay7 (iblk m c 0 t)) (k0_pay8 (grid0.coords t) (iblk m c 0 t) (iblk m c 1 t)) (k0_pay9 (grid0.coords t))) (k0_pay18 (k0_pay16 (BitVec.ofNat 32 (grid0.coords t 0).val) (iblk m c 2 t) (iblk m c 3 t)) (k0_pay17 (iblk m c 5 t))) : FVec Ideal S128x128 .f32) (ix2 k e) = dwp m c t 3 k e :=
  (dwK3 _ _ _ (fun n => dye (m ((c : Thread nD τ).loc main_arg2)) (m ((c : Thread nD τ).loc main_arg3)) (t.val * 512 + n)) (dyeT m c t) k e).trans (Fin.sum_fin_congr fun i => congrArg (fun x : EReal => (x * _ : EReal)) (pooledT m c t i k).2.2.2)

/-- A tile's part of the sum of the gradients times the outputs. -/
def stp (c : Dev nD) (p : Fin cfg0.N) (g : Fin 4) (e : Fin 128) : EReal :=
  ∑ i : Fin 512, (show EReal from iblk m c 2 p (ix2 i (col g e))) * ∑ k : Fin 128, pooled (m ((c : Thread nD τ).loc main_arg0)) (p.val * 512 + i) g k * m ((c : Thread nD τ).loc main_arg1) (ix4 0 g k e)

theorem stT (c : Dev nD) (t : Fin cfg0.N) (w0 w1 w2 w3 : Vec Ideal S1x128x128 .f32) (hw0 : ∀ k x, w0 (ix3 0 k x) = iblk m c 4 t (ix3 0 k x)) (hw1 : ∀ k x, w1 (ix3 0 k x) = iblk m c 4 t (ix3 1 k x))
    (hw2 : ∀ k x, w2 (ix3 0 k x) = iblk m c 4 t (ix3 2 k x)) (hw3 : ∀ k x, w3 (ix3 0 k x) = iblk m c 4 t (ix3 3 k x)) (j : S8x512.Idx) :
    (k0_pay5 (k0_pay45 (k0_pay14 (k0_pay7 (iblk m c 0 t)) (k0_pay8 (grid0.coords t) (iblk m c 0 t) (iblk m c 1 t)) (k0_pay9 (grid0.coords t))) (k0_pay15 (iblk m c 2 t)) (k0_pay22 (k0_pay10 (grid0.coords t) (iblk m c 0 t) (iblk m c 1 t)) (k0_pay15 (iblk m c 2 t)) w0) (k0_pay28 (k0_pay11 (grid0.coords t) (iblk m c 0 t) (iblk m c 1 t)) (k0_pay15 (iblk m c 2 t)) w1)
        (k0_pay35 (k0_pay13 (k0_pay7 (iblk m c 0 t)) (k0_pay9 (grid0.coords t)) (k0_pay12 (grid0.coords t) (iblk m c 0 t) (iblk m c 1 t)) 2#32) (k0_pay15 (iblk m c 2 t)) w2) w3) : FVec Ideal S8x512 .f32) j = if (j 0).val < 1 then stp m c t (gr (j 1)) (pl (j 1)) else 0 := by
  obtain ⟨r, q, rfl⟩ : ∃ (r : Fin 8) (q : Fin 512), j = ix2 r q := ⟨j 0, j 1, eq_ix2 j⟩
  have d : ∀ i q, (k0_pay15 (iblk m c 2 t) : FVec Ideal S512x512 .f32) (ix2 i q) = iblk m c 2 t (ix2 i q) := fun i q => by pointwise [k0_pay15]
  refine stK _ _ _ _ _ _ _ _ _ r q (stp m c t) ?_ ?_ ?_ ?_
  · exact fun e => Fin.sum_fin_congr fun i => congrArg₂ (fun a b : EReal => (a * b : EReal)) (d i (col 0 e)) (Fin.sum_fin_congr fun k => congrArg₂ (fun a b : EReal => (a * b : EReal)) (pooledT m c t i k).1 ((hw0 k e).trans (in4 m c t 0 k e)))
  · exact fun e => Fin.sum_fin_congr fun i => congrArg₂ (fun a b : EReal => (a * b : EReal)) (d i (col 1 e)) (Fin.sum_fin_congr fun k => congrArg₂ (fun a b : EReal => (a * b : EReal)) (pooledT m c t i k).2.1 ((hw1 k e).trans (in4 m c t 1 k e)))
  · exact fun e => Fin.sum_fin_congr fun i => congrArg₂ (fun a b : EReal => (a * b : EReal)) (d i (col 2 e)) (Fin.sum_fin_congr fun k => congrArg₂ (fun a b : EReal => (a * b : EReal)) (pooledT m c t i k).2.2.1 ((hw2 k e).trans (in4 m c t 2 k e)))
  · exact fun e => Fin.sum_fin_congr fun i => congrArg₂ (fun a b : EReal => (a * b : EReal)) (d i (col 3 e)) (Fin.sum_fin_congr fun k => congrArg₂ (fun a b : EReal => (a * b : EReal)) (pooledT m c t i k).2.2.2 ((hw3 k e).trans (in4 m c t 3 k e)))

theorem outW (c : Dev nD) (h : Real m c) : (dats m 0 c).arrAt 7 (cfgs 0).N = Cert.PoolReferenceIdeal.Read.val_main_v157 (F := Ideal) (m ((c : Thread nD τ).loc main_arg0)) (m ((c : Thread nD τ).loc main_arg2)) (m ((c : Thread nD τ).loc main_arg3)) := by
  refine (dats m 0 c).arrAt_eq_of_after_last 7 t0_7 (by decide +kernel) _ fun j => ?_
  obtain ⟨g, k, e, rfl⟩ : ∃ (g : Fin 4) (k e : Fin 128), j = ix3 g k e := ⟨j 0, j 1, j 2, eq_ix3 j⟩
  refine Eq.trans ?_ (v157G m c h g k e).symm
  blk_simp
  rw [after0_7, Pipeline.eq_sum_fin_of_reset_step_apply_last (fun n h => (outsAt0 m c n h).2.1) 8 (fun _ => 0)
    (fun p j => dwp m c p (j 0) (j 1) (j 2))
    (fun t h j => by
      have ht : t.val < 8 := lt_of_lt_of_eq t.isLt N_0
      rw [outsAt0_A m c t h (by omega) h (by omega)]; frame_out
      refine Eq.trans ?_ (zero_add _).symm
      obtain ⟨g, k, e, rfl⟩ : ∃ (g : Fin 4) (k e : Fin 128), j = ix3 g k e := ⟨j 0, j 1, j 2, eq_ix3 j⟩
      canon_tiles x h <;> idx_vars x
      · obtain rfl : k = x1 := Fin.ext (by assumption)
        obtain rfl : e = x2 := Fin.ext (by assumption)
        obtain rfl : g = 3 := Fin.ext (by show g.val = 3; omega)
        pointwise [k0_pay49]
        exact dwT3 m c t _ _
      · obtain rfl : k = x1 := Fin.ext (by assumption)
        obtain rfl : e = x2 := Fin.ext (by assumption)
        obtain rfl : g = 2 := Fin.ext (by show g.val = 2; omega)
        pointwise [k0_pay48]
        exact dwT2 m c t _ _
      · obtain rfl : k = x1 := Fin.ext (by assumption)
        obtain rfl : e = x2 := Fin.ext (by assumption)
        obtain rfl : g = 1 := Fin.ext (by show g.val = 1; omega)
        pointwise [k0_pay47]
        exact dwT1 m c t _ _
      · obtain rfl : k = x1 := Fin.ext (by assumption)
        obtain rfl : e = x2 := Fin.ext (by assumption)
        obtain rfl : g = 0 := Fin.ext (by show g.val = 0; omega)
        pointwise [k0_pay46]
        exact dwT0 m c t _ _
      )
    (fun t h j => by
      rw [outsAt0_B m c t h (by omega) h (by omega)]; frame_out
      obtain ⟨g, k, e, rfl⟩ : ∃ (g : Fin 4) (k e : Fin 128), j = ix3 g k e := ⟨j 0, j 1, j 2, eq_ix3 j⟩
      canon_tiles x h <;> idx_vars x
      · obtain rfl : k = x1 := Fin.ext (by assumption)
        obtain rfl : e = x2 := Fin.ext (by assumption)
        obtain rfl : g = 3 := Fin.ext (by show g.val = 3; omega)
        pointwise [k0_pay4]
        exact congrArg (fun x : EReal => (_ + x : EReal)) (dwT3 m c t _ _)
      · obtain rfl : k = x1 := Fin.ext (by assumption)
        obtain rfl : e = x2 := Fin.ext (by assumption)
        obtain rfl : g = 2 := Fin.ext (by show g.val = 2; omega)
        pointwise [k0_pay3]
        exact congrArg (fun x : EReal => (_ + x : EReal)) (dwT2 m c t _ _)
      · obtain rfl : k = x1 := Fin.ext (by assumption)
        obtain rfl : e = x2 := Fin.ext (by assumption)
        obtain rfl : g = 1 := Fin.ext (by show g.val = 1; omega)
        pointwise [k0_pay2]
        exact congrArg (fun x : EReal => (_ + x : EReal)) (dwT1 m c t _ _)
      · obtain rfl : k = x1 := Fin.ext (by assumption)
        obtain rfl : e = x2 := Fin.ext (by assumption)
        obtain rfl : g = 0 := Fin.ext (by show g.val = 0; omega)
        pointwise [k0_pay1]
        exact congrArg (fun x : EReal => (_ + x : EReal)) (dwT0 m c t _ _)
      )
    (le_of_eq N_0) t0_7 rfl (ix3 g k e), zero_add]
  show (∑ p : Fin cfg0.N, dwp m c p g k e : EReal) = _
  exact Fin.sum_mul_add_congr fun p i hl => rfl

theorem outS (c : Dev nD) (h : Real m c) : (dats m 0 c).arrAt 8 (cfgs 0).N = Cert.PoolReferenceIdeal.Read.val_main_v159 (F := Ideal) (m ((c : Thread nD τ).loc main_arg0)) (m ((c : Thread nD τ).loc main_arg1)) (m ((c : Thread nD τ).loc main_arg3)) := by
  refine (dats m 0 c).arrAt_eq_of_after_last 8 t0_7 (by decide +kernel) _ fun j => ?_
  obtain ⟨r, q, rfl⟩ : ∃ (r : Fin 8) (q : Fin 512), j = ix2 r q := ⟨j 0, j 1, eq_ix2 j⟩
  refine Eq.trans ?_ (v159G m c h r q).symm
  blk_simp
  rw [after0_8, Pipeline.eq_sum_fin_of_reset_step_apply_last (fun n h => (outsAt0 m c n h).2.2) 8 (fun _ => 0)
    (fun p j => if (j 0).val < 1 then stp m c p (gr (j 1)) (pl (j 1)) else 0)
    (fun t h j => by
      have ht : t.val < 8 := lt_of_lt_of_eq t.isLt N_0
      rw [outsAt0_A m c t h (by omega) h (by omega)]; frame_out
      refine Eq.trans ?_ (zero_add _).symm
      refine stT m c t _ _ _ _ ?_ ?_ ?_ ?_ j <;> (intros; pointwise))
    (fun t h j => by
      rw [outsAt0_B m c t h (by omega) h (by omega)]; frame_out
      refine Eq.trans ?_ (congrArg (fun x : EReal => (((outsAt0 m c (t.val - 1) (Nat.lt_of_le_of_lt (Nat.sub_le _ 1) t.isLt)).2.2 j : EReal) + x : EReal)) (stT m c t (View.ld (iblk m c 4 t) (Rect.unit ![0, 0, 0] ![1, 128, 128] inb_S4x128x128_S1x128x128_0_0_0))
        (View.ld (iblk m c 4 t) (Rect.unit ![1, 0, 0] ![1, 128, 128] inb_S4x128x128_S1x128x128_1_0_0)) (View.ld (iblk m c 4 t) (Rect.unit ![2, 0, 0] ![1, 128, 128] inb_S4x128x128_S1x128x128_2_0_0))
        (View.ld (iblk m c 4 t) (Rect.unit ![3, 0, 0] ![1, 128, 128] inb_S4x128x128_S1x128x128_3_0_0)) ?_ ?_ ?_ ?_ j))
      · pointwise [k0_pay6]
        rfl
      all_goals (intros; pointwise))
    (le_of_eq N_0) t0_7 rfl (ix2 r q), zero_add]
  show (∑ p : Fin cfg0.N, (if r.val < 1 then stp m c p (gr q) (pl q) else 0) : EReal) = _
  split_ifs
  · refine Fin.sum_mul_add_congr fun p i hl => ?_
    exact congrArg (fun x : EReal => (x * _ : EReal)) ((in2 m c p i (col (gr q) (pl q)) ⟨p.val * 512 + i.val, hl⟩ rfl).trans (congrArg (fun e => m ((c : Thread nD τ).loc main_arg3) (ix3 0 _ e)) (Fin.ext (by show 512 + (q.val / 128 * 128 + q.val % 128) = 512 + q.val; omega))))
  · exact Finset.sum_const_zero

end Cert.PoolKernelIdeal.Val

end
-- ==== Proof.Pool.lean ====
module

public import proofs.«01_k».proof.Defs
public import proofs.«01_k».proof.Proof.Gen.PoolReferenceIdeal.Run
public import proofs.«01_k».proof.Proof.PoolValue

@[expose] public section

noncomputable section

open Idealize.ShloMosaic Idealize.SL.Sem

namespace Cert.Pool

/-- Of finite arguments, every entry is a real number. -/
theorem real [Cert.Pre_finite_pool.Facts] (m : (ℓ : Loc Cert.PoolKernelIdeal.nD Cert.PoolKernelIdeal.τ Cert.PoolKernelIdeal.sig) → Buf (Elt Ideal) ℓ)
    (hp : Cert.Pre_PoolKernelIdeal_finite_pool m) (c : Dev Cert.PoolKernelIdeal.nD) : Cert.PoolKernelIdeal.Val.Real m c := by
  obtain ⟨h0, h1, h2, h3⟩ := hp c
  have slice {s t : Shape} (off : Fin s.rank → ℕ) (x : FVec Ideal s .f32) (h : s.Slices off t) (i : t.Idx) (k : s.Idx) (hk : ∀ a, (k a).val = off a + (i (a.cast h.1.symm)).val)
      (hr : ∃ r : ℝ, extractStridedSlice t off x h i = r) : ∃ r : ℝ, x k = r := by
    obtain ⟨r, hr⟩ := hr
    exact ⟨r, (extractStridedSlice_apply off x h i k hk).symm.trans hr⟩
  refine ⟨fun s q => slice _ _ _ (ix3 0 s q) _ ?_ (Norm.real_of_finite (congrFun h0 (ix3 0 s q))), fun i => Norm.real_of_finite (congrFun h1 i),
    fun i => Norm.real_of_finite (congrFun h2 i), fun s q => slice _ _ _ (ix3 0 s q) _ ?_ (Norm.real_of_finite (congrFun h3 (ix3 0 s q)))⟩ <;>
  · intro a
    match a with
    | ⟨0, _⟩ => rfl
    | ⟨1, _⟩ => exact (Nat.zero_add _).symm
    | ⟨2, _⟩ => rfl

set_option maxHeartbeats 2000000 in
/-- Of finite arguments, the kernel of the pooling's backward pass computes what the reference computes. -/
theorem algebraic [Cert.Pre_finite_pool.Facts] : Cert.algebraic_PoolKernelIdeal_PoolReferenceIdeal_pre_finite_pool := by
  intro m g m' g' hp h
  refine ⟨fun c => (Cert.PoolKernelIdeal.Gen.dats m 0 c).arrAt 6 (Cert.PoolKernelIdeal.cfgs 0).N, fun c => (Cert.PoolKernelIdeal.Gen.dats m 0 c).arrAt 7 (Cert.PoolKernelIdeal.cfgs 0).N, fun c => (Cert.PoolKernelIdeal.Gen.dats m 0 c).arrAt 8 (Cert.PoolKernelIdeal.cfgs 0).N,
    (θ_run _ _ _).mono (fun r hr c => hr c) (Cert.PoolKernelIdeal.Value.run_blocks m g),
    (θ_run _ _ _).mono (fun r hr c => ?_) (Cert.PoolReferenceIdeal.Value.run m' g')⟩
  obtain ⟨h0, h1, h2, h3⟩ := h c
  obtain ⟨r0, r1, r2, ra⟩ := hr c
  refine ⟨r0.trans ?_, r1.trans ?_, r2.trans ?_, ra⟩
  · refine (Cert.PoolReferenceIdeal.Read.val_main_v156_eq _).trans ?_
    change Cert.PoolReferenceIdeal.Read.val_main_v156 (F := Ideal) (m' (c.tc.loc Cert.PoolReferenceIdeal.main_arg1)) (m' (c.tc.loc Cert.PoolReferenceIdeal.main_arg2)) (m' (c.tc.loc Cert.PoolReferenceIdeal.main_arg3)) = _
    rewrite [h1, h2, h3]
    exact (Cert.PoolKernelIdeal.Val.outD m c (real m hp c)).symm
  · refine (Cert.PoolReferenceIdeal.Read.val_main_v157_eq _).trans ?_
    change Cert.PoolReferenceIdeal.Read.val_main_v157 (F := Ideal) (m' (c.tc.loc Cert.PoolReferenceIdeal.main_arg0)) (m' (c.tc.loc Cert.PoolReferenceIdeal.main_arg2)) (m' (c.tc.loc Cert.PoolReferenceIdeal.main_arg3)) = _
    rewrite [h0, h2, h3]
    exact (Cert.PoolKernelIdeal.Val.outW m c (real m hp c)).symm
  · refine (Cert.PoolReferenceIdeal.Read.val_main_v159_eq _).trans ?_
    change Cert.PoolReferenceIdeal.Read.val_main_v159 (F := Ideal) (m' (c.tc.loc Cert.PoolReferenceIdeal.main_arg0)) (m' (c.tc.loc Cert.PoolReferenceIdeal.main_arg1)) (m' (c.tc.loc Cert.PoolReferenceIdeal.main_arg3)) = _
    rewrite [h0, h1, h3]
    exact (Cert.PoolKernelIdeal.Val.outS m c (real m hp c)).symm

/-- The reference terminates, leaves its arguments as they were and has no semaphore. -/
theorem frameReference : Cert.quiescent_PoolReferenceIdeal := by
  intro m ρ _
  exact (θ_run _ _ _).mono (fun r h => ⟨fun c => (h c).2.2.2, sem_eq_zero_of_no_sems (by decide) r.2⟩)
    (Cert.PoolReferenceIdeal.Value.run m ρ)

end Cert.Pool

end
-- ==== Proof.MixRef.lean ====
module

public import proofs.«01_k».proof.Proof.Gen.MixKernelIdeal.Value
public import proofs.«01_k».proof.Proof.Gen.MixReferenceIdeal.Read
public import proofs.«01_k».proof.Proof.Common
public import proofs.«01_k».proof.Proof.Norm
public import proofs.«01_k».proof.Proof.Attn
@[expose] public section

set_option maxRecDepth 16384
set_option maxHeartbeats 1000000

noncomputable section

open Idealize.ShloMosaic Idealize.ShloMosaic.TcCoe Idealize.SL.Sem
open Idealize.ShloMosaic.Pipeline (Dat)

namespace Cert.MixKernelIdeal.Val

open Cert.MixKernelIdeal Cert.MixKernelIdeal.Gen

variable (m : (ℓ : Loc nD τ sig) → Buf (Elt Ideal) ℓ)

open Cert.MixReferenceIdeal (S1x4096x1024 S1x4096x512 S1x1024x1024 S1x1024x4x256 S1x256x4x256 S1x4x256x1024)

/-- The operands: the stream, the two mixer halves, the mixer's output weights, the norm's gain, the query weights, the memory's
    keys and values, and the output weights of the attention. -/
structure Ops where
  x : FVec Ideal S1x4096x1024 .f32
  oa : FVec Ideal S1x4096x512 .f32
  ob : FVec Ideal S1x4096x512 .f32
  wout : FVec Ideal S1x1024x1024 .f32
  g : FVec Ideal Cert.MixReferenceIdeal.S1x1024 .f32
  wq : FVec Ideal S1x1024x4x256 .f32
  xk : FVec Ideal S1x256x4x256 .f32
  xv : FVec Ideal S1x256x4x256 .f32
  wo : FVec Ideal S1x4x256x1024 .f32

/-- The operands in a core's memory. -/
def ops (c : Dev nD) : Ops :=
  ⟨m ((c : Thread nD τ).loc main_arg0), m ((c : Thread nD τ).loc main_arg1), m ((c : Thread nD τ).loc main_arg2), m ((c : Thread nD τ).loc main_arg3),
   m ((c : Thread nD τ).loc main_arg4), m ((c : Thread nD τ).loc main_arg5), m ((c : Thread nD τ).loc main_arg6), m ((c : Thread nD τ).loc main_arg7),
   m ((c : Thread nD τ).loc main_arg8)⟩

/-- The head of a column. -/
def hd (d : Fin 1024) : Fin 4 := ⟨d.val / 256, by omega⟩

/-- A column's place in its head. -/
def lo (d : Fin 1024) : Fin 256 := ⟨d.val % 256, by omega⟩

/-- A head's column. -/
def col (h : Fin 4) (e : Fin 256) : Fin 1024 := ⟨h.val * 256 + e.val, by omega⟩

theorem hd_col (h : Fin 4) (e : Fin 256) : hd (col h e) = h := Fin.ext (by show (h.val * 256 + e.val) / 256 = h.val; omega)
theorem lo_col (h : Fin 4) (e : Fin 256) : lo (col h e) = e := Fin.ext (by show (h.val * 256 + e.val) % 256 = e.val; omega)

theorem col_hd_lo (d : Fin 1024) : col (hd d) (lo d) = d := Fin.ext (by show d.val / 256 * 256 + d.val % 256 = d.val; omega)

section rows

variable (A : Ops) (j : Fin 4096)

/-- A token's two halves side by side. -/
def mixed (k : Fin 1024) : EReal :=
  if h : k.val < 512 then A.oa (ix3 0 j ⟨k.val, h⟩) else A.ob (ix3 0 j ⟨k.val - 512, by omega⟩)

/-- The stream after the mixer. -/
def x1 (d : Fin 1024) : EReal := A.x (ix3 0 j d) + ∑ k : Fin 1024, mixed A j k * A.wout (ix3 0 k d)

/-- A token's normalized row. -/
def hq (d : Fin 1024) : EReal := x1 A j d * Norm.rinv (x1 A j) * A.g (ix2 0 d)

/-- A token's query in a head. -/
def xq (h : Fin 4) (e : Fin 256) : EReal := ∑ d : Fin 1024, hq A j d * A.wq (ix4 0 d h e)

/-- A token's scores in a head. -/
def sc (h : Fin 4) : Fin 256 → EReal := Attn.score (xq A j h) fun k e => A.xk (ix4 0 k h e)

/-- A token's attention in a head. -/
def att (h : Fin 4) (e : Fin 256) : EReal := ∑ k : Fin 256, Attn.prob (sc A j h) k * A.xv (ix4 0 k h e)

/-- The stream after the attention. -/
def x2 (d : Fin 1024) : EReal := x1 A j d + ∑ h : Fin 4, ∑ e : Fin 256, att A j h e * A.wo (ix4 0 h e d)

open Cert.MixReferenceIdeal

theorem mixedR (k : Fin 1024) : Read.val_main_v0 (F := Ideal) A.oa A.ob (ix3 0 j k) = mixed A j k := by
  pointwise [Read.val_main_v0]
  rfl

theorem x1R (d : Fin 1024) : Read.val_main_v3 (F := Ideal) A.x A.oa A.ob A.wout (ix3 0 j d) = x1 A j d := by
  pointwise [Read.val_main_v1, Read.val_main_v2, Read.val_main_v3]
  simp only [mixedR]
  rfl

theorem hqR (d : Fin 1024) : Read.val_main_v17 (F := Ideal) A.x A.oa A.ob A.wout A.g (ix3 0 j d) = hq A j d := by
  pointwise [Read.val_main_v4, Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_cst, Read.val_main_cst_0, Read.val_main_cst_1]
  simp only [x1R]
  rfl

theorem xqR (h : Fin 4) (e : Fin 256) : Read.val_main_v19 (F := Ideal) A.x A.oa A.ob A.wout A.g A.wq (ix4 0 j h e) = xq A j h e := by
  pointwise [Read.val_main_v18, Read.val_main_v19]
  simp only [hqR]
  rfl

theorem scR (h : Fin 4) (k : Fin 256) : Read.val_main_v22 (F := Ideal) A.x A.oa A.ob A.wout A.g A.wq A.xk (ix4 0 h j k) = sc A j h k := by
  pointwise [Read.val_main_v20, Read.val_main_v21, Read.val_main_v22, Read.val_main_cst_2]
  simp only [xqR]
  rfl

theorem topR (h : Fin 4) : Read.val_main_v23 (F := Ideal) A.x A.oa A.ob A.wout A.g A.wq A.xk (ix3 0 h j) = Attn.top (sc A j h) :=
  (Common.hostMax_last _ _ _ _ _).trans (congrArg (Finset.univ.fold max (Ideal.ofBits .f32 4286578688#32)) (funext fun k => scR A j h k))

theorem exR (h : Fin 4) (k : Fin 256) : Read.val_main_v29 (F := Ideal) A.x A.oa A.ob A.wout A.g A.wq A.xk (ix4 0 h j k) = Attn.ex (sc A j h) k := by
  have e : Attn.ex (sc A j h) k = Ideal.exp (Read.val_main_v22 (F := Ideal) A.x A.oa A.ob A.wout A.g A.wq A.xk (ix4 0 h j k)
      - max (Ideal.ofBits .f32 4286578688#32) (Read.val_main_v23 (F := Ideal) A.x A.oa A.ob A.wout A.g A.wq A.xk (ix3 0 h j))) := by
    simp only [scR, topR, Attn.max_top]
    rfl
  refine Eq.trans ?_ e.symm
  rw [Read.val_main_v29_apply, Read.val_main_v28_apply, Read.val_main_v27_apply, Read.val_main_v26_apply, Read.val_main_v25_apply, Read.val_main_v24_apply, Read.val_main_cst_4_apply]
  generalize Read.val_main_v23 (F := Ideal) A.x A.oa A.ob A.wout A.g A.wq A.xk = y
  generalize Read.val_main_v22 (F := Ideal) A.x A.oa A.ob A.wout A.g A.wq A.xk = z
  pointwise
  exact congrArg (fun i => Ideal.exp (z (ix4 0 h j k) - max (Ideal.ofBits .f32 4286578688#32) (y i))) (by
    funext a
    match a with
    | ⟨0, _⟩ => rfl
    | ⟨1, _⟩ => rfl
    | ⟨2, _⟩ => rfl)

theorem probR (h : Fin 4) (k : Fin 256) : Read.val_main_v33 (F := Ideal) A.x A.oa A.ob A.wout A.g A.wq A.xk (ix4 0 h j k) = Attn.prob (sc A j h) k := by
  pointwise [Read.val_main_v30, Read.val_main_v31, Read.val_main_v32, Read.val_main_v33, Read.val_main_cst_5]
  simp only [exR]
  rfl

theorem attR (h : Fin 4) (e : Fin 256) : Read.val_main_v35 (F := Ideal) A.x A.oa A.ob A.wout A.g A.wq A.xk A.xv (ix4 0 j h e) = att A j h e := by
  pointwise [Read.val_main_v34, Read.val_main_v35]
  simp only [probR]
  exact Finset.sum_congr rfl fun k _ => mul_comm (G := EReal) _ _

theorem x2R (d : Fin 1024) : Read.val_main_v38 (F := Ideal) A.x A.oa A.ob A.wout A.g A.wq A.xk A.xv A.wo (ix3 0 j d) = x2 A j d := by
  pointwise [Read.val_main_v36, Read.val_main_v37, Read.val_main_v38]
  simp only [attR, x1R]
  unfold x2
  exact congrArg _ Finset.sum_comm

end rows

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 1, 0] ∧ win0_6.index t = ![0, 0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem in0 (c : Dev nD) (t : Fin cfg0.N) (i : Fin 512) (k : Fin 1024) (j : Fin 4096) (hj : j.val = t.val * 512 + i.val) : iblk m c 0 t (ix2 i k) = (ops m c).x (ix3 0 j k) := by
  blk_point [iblk, V, idx t, ops]

theorem in1 (c : Dev nD) (t : Fin cfg0.N) (i : Fin 512) (k : Fin 512) (j : Fin 4096) (hj : j.val = t.val * 512 + i.val) : iblk m c 1 t (ix2 i k) = (ops m c).oa (ix3 0 j k) := by
  blk_point [iblk, V, idx t, ops]

theorem in2 (c : Dev nD) (t : Fin cfg0.N) (i : Fin 512) (k : Fin 512) (j : Fin 4096) (hj : j.val = t.val * 512 + i.val) : iblk m c 2 t (ix2 i k) = (ops m c).ob (ix3 0 j k) := by
  blk_point [iblk, V, idx t, ops]

theorem in3 (c : Dev nD) (t : Fin cfg0.N) (k : Fin 1024) : iblk m c 3 t (ix2 0 k) = (ops m c).g (ix2 0 k) := by
  blk_point [iblk, V, idx t, ops]

theorem in4 (c : Dev nD) (t : Fin cfg0.N) (q : Fin 4) (e : Fin 256) (k : Fin 1024) : iblk m c 4 t (ix3 q e k) = (ops m c).wout (ix3 0 (col q e) k) := by
  blk_simp [iblk]
  entry_read
  pointwise
  have em : ((View.whole main_v8).slice (win0_4.rect t)).emb (ix3 q e k) = (ix3 q ⟨e.val, by omega⟩ k : S4x512x1024.Idx) := by blk_ext [idx t]
  simp only [em]
  refine (dif_pos e.isLt).trans ?_
  refine congrArg _ ?_
  unfold col
  idx_ext

theorem in5 (c : Dev nD) (t : Fin cfg0.N) (q : Fin 4) (e : Fin 256) (k : Fin 1024) : iblk m c 5 t (ix3 q e k) = (ops m c).wq (ix4 0 (col q e) (hd k) (lo k)) := by
  blk_simp [iblk]
  entry_read
  pointwise
  have em : ((View.whole main_v8).slice (win0_5.rect t)).emb (ix3 q e k) = (ix3 q ⟨256 + e.val, by omega⟩ k : S4x512x1024.Idx) := by blk_ext [idx t]
  simp only [em]
  refine (dif_neg (by simp)).trans ?_
  refine congrArg _ ?_
  unfold col
  idx_ext

theorem in6 (c : Dev nD) (t : Fin cfg0.N) (q : Fin 4) (e : Fin 256) (k : Fin 1024) : iblk m c 6 t (ix3 q k e) = (ops m c).wo (ix4 0 (hd k) (lo k) (col q e)) := by
  blk_simp [iblk]
  entry_read
  pointwise
  have em : ((View.whole main_v11).slice (win0_6.rect t)).emb (ix3 q k e) = (ix3 q k e : S4x1024x256.Idx) := by blk_ext [idx t]
  simp only [em]
  refine congrArg _ ?_
  unfold col
  idx_ext

theorem in7 (c : Dev nD) (t : Fin cfg0.N) (i : Fin 256) (k : Fin 1024) : iblk m c 7 t (ix2 i k) = (ops m c).xk (ix4 0 i (hd k) (lo k)) := by
  blk_simp [iblk]
  entry_read
  pointwise
  have em : ((View.whole main_v18).slice (win0_7.rect t)).emb (ix2 i k) = (ix2 i k : S256x1024.Idx) := by blk_ext [idx t]
  simp only [em]
  rfl

theorem in8 (c : Dev nD) (t : Fin cfg0.N) (i : Fin 256) (k : Fin 1024) : iblk m c 8 t (ix2 i k) = (ops m c).xv (ix4 0 i (hd k) (lo k)) := by
  blk_simp [iblk]
  entry_read
  pointwise
  have em : ((View.whole main_v20).slice (win0_8.rect t)).emb (ix2 i k) = (ix2 i k : S256x1024.Idx) := by blk_ext [idx t]
  simp only [em]
  rfl

end Cert.MixKernelIdeal.Val

end
-- ==== Proof.MixValue.lean ====
module

public import proofs.«01_k».proof.Proof.Gen.MixKernelIdeal.Value
public import proofs.«01_k».proof.Proof.Gen.MixReferenceIdeal.Read
public import proofs.«01_k».proof.Proof.Common
public import proofs.«01_k».proof.Proof.Norm
public import proofs.«01_k».proof.Proof.MixRef
@[expose] public section

set_option maxRecDepth 16384
set_option maxHeartbeats 1000000

noncomputable section

open Idealize.ShloMosaic Idealize.ShloMosaic.TcCoe Idealize.SL.Sem
open Idealize.ShloMosaic.Pipeline (Dat)

namespace Cert.MixKernelIdeal.Val

open Cert.MixKernelIdeal Cert.MixKernelIdeal.Gen

variable (m : (ℓ : Loc nD τ sig) → Buf (Elt Ideal) ℓ)

theorem mixedK (a b : Vec Ideal S512x512 .bf16) (i : Fin 512) (k : Fin 1024) :
    k0_pay1 a b (ix2 i k) = if h : k.val < 512 then a (ix2 i ⟨k.val, h⟩) else b (ix2 i ⟨k.val - 512, by omega⟩) := by
  pointwise [k0_pay1]

theorem x1K (a b : Vec Ideal S512x512 .bf16) (x : Vec Ideal S512x1024 .f32) (w : Vec Ideal S4x256x1024 .bf16) (i : Fin 512) (d : Fin 1024) :
    k0_pay2 a b x w (ix2 i d) = x (ix2 i d) + ∑ k : Fin 1024, k0_pay1 a b (ix2 i k) * w (ix3 (hd k) (lo k) d) := by
  pointwise [k0_pay2]
  rfl

theorem hqK (a b : Vec Ideal S512x512 .bf16) (x : Vec Ideal S512x1024 .f32) (w : Vec Ideal S4x256x1024 .bf16) (g : Vec Ideal S1x1024 .f32) (i : Fin 512) (d : Fin 1024) :
    k0_pay3 a b x w g (ix2 i d) = k0_pay2 a b x w (ix2 i d) * Norm.rinv (fun k => k0_pay2 a b x w (ix2 i k)) * g (ix2 0 d) := by
  pointwise [k0_pay3]
  rfl

theorem xqK (h : FVec Ideal S512x1024 .bf16) (w : Vec Ideal S4x256x1024 .bf16) (i : Fin 512) (d : Fin 1024) :
    k0_pay5 h (k0_pay4 w) (ix2 i d) = ∑ k : Fin 1024, h (ix2 i k) * w (ix3 (hd k) (lo k) d) := by
  pointwise [k0_pay5, k0_pay4]
  rfl

section heads

variable (h : FVec Ideal S512x1024 .bf16) (w : FVec Ideal S1024x1024 .bf16) (a b : Vec Ideal S256x256 .bf16) (i : Fin 512) (Q : Fin 256 → EReal) (K V : Fin 256 → Fin 256 → EReal)
  (hK : ∀ k e, a (ix2 k e) = K k e) (hV : ∀ k e, b (ix2 k e) = V k e)

include hK hV

theorem attK0 (hQ : ∀ e, k0_pay5 h w (ix2 i (col 0 e)) = Q e) (e : Fin 256) :
    (k0_pay6 h w a b : FVec Ideal S512x256 .bf16) (ix2 i e) = ∑ k : Fin 256, Attn.prob (Attn.score Q K) k * V k e := by
  obtain rfl : _ = Q := funext hQ
  pointwise [k0_pay6]
  simp only [hK, hV, show ∀ e : Fin 256, col 0 e = ⟨e.val, by omega⟩ from fun e => Fin.ext (by show 0 * 256 + e.val = e.val; omega)]
  rfl

theorem attK1 (hQ : ∀ e, k0_pay5 h w (ix2 i (col 1 e)) = Q e) (e : Fin 256) :
    (k0_pay8 (k0_pay7 h w a) b : FVec Ideal S512x256 .bf16) (ix2 i e) = ∑ k : Fin 256, Attn.prob (Attn.score Q K) k * V k e := by
  obtain rfl : _ = Q := funext hQ
  pointwise [k0_pay8, k0_pay7]
  simp only [hK, hV]
  rfl

theorem attK2 (hQ : ∀ e, k0_pay5 h w (ix2 i (col 2 e)) = Q e) (e : Fin 256) :
    (k0_pay9 (k0_pay5 h w) a b : FVec Ideal S512x256 .bf16) (ix2 i e) = ∑ k : Fin 256, Attn.prob (Attn.score Q K) k * V k e := by
  obtain rfl : _ = Q := funext hQ
  pointwise [k0_pay9]
  simp only [hK, hV]
  rfl

theorem attK3 (hQ : ∀ e, k0_pay5 h w (ix2 i (col 3 e)) = Q e) (e : Fin 256) :
    ∑ k : Fin 256, (k0_pay10 (k0_pay5 h w) a : FVec Ideal S512x256 .bf16) (ix2 i k) * (k0_pay11 b : FVec Ideal S256x256 .bf16) (ix2 k e)
      = ∑ k : Fin 256, Attn.prob (Attn.score Q K) k * V k e := by
  obtain rfl : _ = Q := funext hQ
  pointwise [k0_pay10, k0_pay11]
  simp only [hK, hV]
  rfl

end heads

theorem attK (a0 a1 a2 p : FVec Ideal S512x256 .bf16) (v : FVec Ideal S256x256 .bf16) (i : Fin 512) (d : Fin 1024) (F : Fin 4 → Fin 256 → EReal)
    (h0 : ∀ e, a0 (ix2 i e) = F 0 e) (h1 : ∀ e, a1 (ix2 i e) = F 1 e) (h2 : ∀ e, a2 (ix2 i e) = F 2 e) (h3 : ∀ e, ∑ k : Fin 256, p (ix2 i k) * v (ix2 k e) = F 3 e) :
    (k0_pay12 a0 a1 a2 p v : FVec Ideal S512x1024 .bf16) (ix2 i d) = F (hd d) (lo d) := by
  pointwise [k0_pay12]
  exact Common.four_blocks d F (fun e => a0 (ix2 i e)) (fun e => a1 (ix2 i e)) (fun e => a2 (ix2 i e)) (fun e => ∑ k : Fin 256, p (ix2 i k) * v (ix2 k e)) h0 h1 h2 h3

section columns

variable (x : FVec Ideal S512x1024 .f32) (a0 a1 a2 p : FVec Ideal S512x256 .bf16) (v : FVec Ideal S256x256 .bf16) (w : Vec Ideal S1x1024x256 .bf16) (i : Fin 512) (d : Fin 1024) (e : Fin 256)

theorem x2K0 (h : d.val = e.val) : (k0_pay13 x a0 a1 a2 p v w : FVec Ideal S512x256 .f32) (ix2 i e) = x (ix2 i d) + ∑ k : Fin 1024, k0_pay12 a0 a1 a2 p v (ix2 i k) * w (ix3 0 k e) := by
  obtain rfl : d = ⟨e.val, by clear h; omega⟩ := Fin.ext h
  pointwise [k0_pay13]

theorem x2K1 (h : d.val = 256 + e.val) : (k0_pay14 x a0 a1 a2 p v w : FVec Ideal S512x256 .f32) (ix2 i e) = x (ix2 i d) + ∑ k : Fin 1024, k0_pay12 a0 a1 a2 p v (ix2 i k) * w (ix3 0 k e) := by
  obtain rfl : d = ⟨256 + e.val, by clear h; omega⟩ := Fin.ext h
  pointwise [k0_pay14]

theorem x2K2 (h : d.val = 512 + e.val) : (k0_pay15 x a0 a1 a2 p v w : FVec Ideal S512x256 .f32) (ix2 i e) = x (ix2 i d) + ∑ k : Fin 1024, k0_pay12 a0 a1 a2 p v (ix2 i k) * w (ix3 0 k e) := by
  obtain rfl : d = ⟨512 + e.val, by clear h; omega⟩ := Fin.ext h
  pointwise [k0_pay15]

theorem x2K3 (h : d.val = 768 + e.val) : (k0_pay16 x a0 a1 a2 p v w : FVec Ideal S512x256 .f32) (ix2 i e) = x (ix2 i d) + ∑ k : Fin 1024, k0_pay12 a0 a1 a2 p v (ix2 i k) * w (ix3 0 k e) := by
  obtain rfl : d = ⟨768 + e.val, by clear h; omega⟩ := Fin.ext h
  pointwise [k0_pay16]

end columns

section blocks

variable (c : Dev nD) (t : Fin cfg0.N)

/-- A tile's stream after the mixer, normalized rows, query weights, attention by heads, and the last head's two factors. -/
abbrev w17 := k0_pay17 (iblk m c 0 t) (iblk m c 1 t) (iblk m c 2 t) (iblk m c 3 t) (iblk m c 4 t) (iblk m c 5 t) (iblk m c 6 t) (iblk m c 7 t) (iblk m c 8 t)
abbrev w18 := k0_pay18 (iblk m c 0 t) (iblk m c 1 t) (iblk m c 2 t) (iblk m c 3 t) (iblk m c 4 t) (iblk m c 5 t) (iblk m c 6 t) (iblk m c 7 t) (iblk m c 8 t)
abbrev w19 := k0_pay19 (iblk m c 0 t) (iblk m c 1 t) (iblk m c 2 t) (iblk m c 3 t) (iblk m c 4 t) (iblk m c 5 t) (iblk m c 6 t) (iblk m c 7 t) (iblk m c 8 t)
abbrev w21 := k0_pay21 (iblk m c 0 t) (iblk m c 1 t) (iblk m c 2 t) (iblk m c 3 t) (iblk m c 4 t) (iblk m c 5 t) (iblk m c 6 t) (iblk m c 7 t) (iblk m c 8 t)
abbrev w22 := k0_pay22 (iblk m c 0 t) (iblk m c 1 t) (iblk m c 2 t) (iblk m c 3 t) (iblk m c 4 t) (iblk m c 5 t) (iblk m c 6 t) (iblk m c 7 t) (iblk m c 8 t)
abbrev w23 := k0_pay23 (iblk m c 0 t) (iblk m c 1 t) (iblk m c 2 t) (iblk m c 3 t) (iblk m c 4 t) (iblk m c 5 t) (iblk m c 6 t) (iblk m c 7 t) (iblk m c 8 t)
abbrev w24 := k0_pay24 (iblk m c 0 t) (iblk m c 1 t) (iblk m c 2 t) (iblk m c 3 t) (iblk m c 4 t) (iblk m c 5 t) (iblk m c 6 t) (iblk m c 7 t) (iblk m c 8 t)
abbrev w25 := k0_pay25 (iblk m c 0 t) (iblk m c 1 t) (iblk m c 2 t) (iblk m c 3 t) (iblk m c 4 t) (iblk m c 5 t) (iblk m c 6 t) (iblk m c 7 t) (iblk m c 8 t)

theorem w17_eq : w17 m c t = k0_pay2 (iblk m c 1 t) (iblk m c 2 t) (iblk m c 0 t) (iblk m c 4 t) := by
  unfold w17 k0_pay17
  rw [View.ld_unit_lit (S := S512x512) _ (iblk m c 1 t) (by decide), View.ld_unit_lit (S := S512x512) _ (iblk m c 2 t) (by decide), View.ld_unit_lit (S := S512x1024) _ (iblk m c 0 t) (by decide), View.ld_unit_lit (S := S4x256x1024) _ (iblk m c 4 t) (by decide)]

theorem w18_eq : w18 m c t = k0_pay3 (iblk m c 1 t) (iblk m c 2 t) (iblk m c 0 t) (iblk m c 4 t) (iblk m c 3 t) := by
  unfold w18 k0_pay18
  rw [View.ld_unit_lit (S := S512x512) _ (iblk m c 1 t) (by decide), View.ld_unit_lit (S := S512x512) _ (iblk m c 2 t) (by decide), View.ld_unit_lit (S := S512x1024) _ (iblk m c 0 t) (by decide), View.ld_unit_lit (S := S4x256x1024) _ (iblk m c 4 t) (by decide), View.ld_unit_lit (S := S1x1024) _ (iblk m c 3 t) (by decide)]

theorem w19_eq : w19 m c t = k0_pay4 (iblk m c 5 t) := by
  unfold w19 k0_pay19
  rw [View.ld_unit_lit (S := S4x256x1024) _ (iblk m c 5 t) (by decide)]

theorem kT (q : Fin 4) (o : ℕ) (ho : o = q.val * 256) (inb) (k e : Fin 256) :
    (View.ld (iblk m c 7 t) (Rect.unit (s := S256x1024) ![0, o] S256x256.size inb) : Vec Ideal S256x256 .bf16) (ix2 k e) = (ops m c).xk (ix4 0 k q e) := by
  subst ho
  refine Eq.trans ?_ ((in7 m c t k (col q e)).trans (by rw [hd_col, lo_col]))
  pointwise
  rfl

theorem vT (q : Fin 4) (o : ℕ) (ho : o = q.val * 256) (inb) (k e : Fin 256) :
    (View.ld (iblk m c 8 t) (Rect.unit (s := S256x1024) ![0, o] S256x256.size inb) : Vec Ideal S256x256 .bf16) (ix2 k e) = (ops m c).xv (ix4 0 k q e) := by
  subst ho
  refine Eq.trans ?_ ((in8 m c t k (col q e)).trans (by rw [hd_col, lo_col]))
  pointwise
  rfl

theorem woT (q : Fin 4) (o : ℕ) (ho : o = q.val) (inb) (k : Fin 1024) (e : Fin 256) :
    (View.ld (iblk m c 6 t) (Rect.unit (s := S4x1024x256) ![o, 0, 0] S1x1024x256.size inb) : Vec Ideal S1x1024x256 .bf16) (ix3 0 k e) = (ops m c).wo (ix4 0 (hd k) (lo k) (col q e)) := by
  subst ho
  refine Eq.trans ?_ (in6 m c t q e k)
  pointwise

end blocks

section tile

variable (c : Dev nD) (t : Fin cfg0.N) (i : Fin 512) (j : Fin 4096) (hj : j.val = t.val * 512 + i.val)

include hj

theorem mixedT (k : Fin 1024) : k0_pay1 (iblk m c 1 t) (iblk m c 2 t) (ix2 i k) = mixed (ops m c) j k := by
  refine (mixedK _ _ i k).trans ?_
  simp only [in1 m c t i _ j hj, in2 m c t i _ j hj]
  rfl

theorem x1T (d : Fin 1024) : k0_pay2 (iblk m c 1 t) (iblk m c 2 t) (iblk m c 0 t) (iblk m c 4 t) (ix2 i d) = x1 (ops m c) j d := by
  refine (x1K _ _ _ _ i d).trans ?_
  simp only [mixedT m c t i j hj, in0 m c t i _ j hj, in4, col_hd_lo]
  rfl

theorem hqT (d : Fin 1024) : k0_pay3 (iblk m c 1 t) (iblk m c 2 t) (iblk m c 0 t) (iblk m c 4 t) (iblk m c 3 t) (ix2 i d) = hq (ops m c) j d := by
  refine (hqK _ _ _ _ _ i d).trans ?_
  simp only [x1T m c t i j hj, in3]
  rfl

theorem xqT (h : Fin 4) (e : Fin 256) : k0_pay5 (w18 m c t) (w19 m c t) (ix2 i (col h e)) = xq (ops m c) j h e := by
  rw [w18_eq, w19_eq]
  refine (xqK _ _ i _).trans ?_
  simp only [hqT m c t i j hj, in5, col_hd_lo, hd_col, lo_col]
  rfl

theorem attT (d : Fin 1024) : k0_pay12 (w21 m c t) (w22 m c t) (w23 m c t) (w24 m c t) (w25 m c t) (ix2 i d) = att (ops m c) j (hd d) (lo d) := by
  refine attK _ _ _ _ _ i d (att (ops m c) j) (fun e => ?_) (fun e => ?_) (fun e => ?_) (fun e => ?_)
  · exact attK0 (w18 m c t) (w19 m c t) _ _ i _ _ _ (kT m c t 0 0 rfl _) (vT m c t 0 0 rfl _) (xqT m c t i j hj 0) e
  · exact attK1 (w18 m c t) (w19 m c t) _ _ i _ _ _ (kT m c t 1 256 rfl _) (vT m c t 1 256 rfl _) (xqT m c t i j hj 1) e
  · exact attK2 (w18 m c t) (w19 m c t) _ _ i _ _ _ (kT m c t 2 512 rfl _) (vT m c t 2 512 rfl _) (xqT m c t i j hj 2) e
  · exact attK3 (w18 m c t) (w19 m c t) _ _ i _ _ _ (kT m c t 3 768 rfl _) (vT m c t 3 768 rfl _) (xqT m c t i j hj 3) e

theorem x2T (d : Fin 1024) (w : Vec Ideal S1x1024x256 .bf16) (e : Fin 256) (hw : ∀ k, w (ix3 0 k e) = (ops m c).wo (ix4 0 (hd k) (lo k) d)) :
    w17 m c t (ix2 i d) + ∑ k : Fin 1024, k0_pay12 (w21 m c t) (w22 m c t) (w23 m c t) (w24 m c t) (w25 m c t) (ix2 i k) * w (ix3 0 k e) = x2 (ops m c) j d := by
  rw [w17_eq]
  simp only [x1T m c t i j hj, attT m c t i j hj, hw]
  exact congrArg _ (Common.sum_divMod (n := 1024) (by norm_num) rfl fun h e => att (ops m c) j h e * (ops m c).wo (ix4 0 h e d))

end tile

theorem row (t : Fin cfg0.N) (i : Fin 512) : ∃ j : Fin 4096, j.val = t.val * 512 + i.val := by
  have ht : t.val < 8 := lt_of_lt_of_eq t.isLt N_0
  exact ⟨⟨t.val * 512 + i.val, by omega⟩, rfl⟩

theorem outX1 (c : Dev nD) : (dats m 0 c).arrAt 9 (cfgs 0).N = Cert.MixReferenceIdeal.Read.val_main_v39 (F := Ideal) (ops m c).x (ops m c).oa (ops m c).ob (ops m c).wout := by
  refine (dats m 0 c).arrAt_eq_of_covers 9 _ (by decide +kernel) fun t _ y => ?_
  obtain ⟨i, d, rfl⟩ : ∃ (i : Fin 512) (d : Fin 1024), y = ix2 i d := ⟨y 0, y 1, eq_ix2 y⟩
  obtain ⟨j, hj⟩ := row t i
  have e : ((cfg0.win 9).blk t).view.emb (ix2 i d) = (ix2 j d : S4096x1024.Idx) := by blk_ext [idx t]
  have r : Cert.MixReferenceIdeal.Read.val_main_v39 (F := Ideal) (ops m c).x (ops m c).oa (ops m c).ob (ops m c).wout (ix2 j d) = x1 (ops m c) j d := by
    pointwise [Cert.MixReferenceIdeal.Read.val_main_v39]
    exact x1R _ _ _
  refine Eq.trans ?_ ((congrArg _ e).trans r).symm
  rw [after0_9]
  frame_out
  exact x1T m c t i j hj d

theorem outMixed (c : Dev nD) : (dats m 0 c).arrAt 10 (cfgs 0).N = Cert.MixReferenceIdeal.Read.val_main_v41 (F := Ideal) (ops m c).oa (ops m c).ob := by
  refine (dats m 0 c).arrAt_eq_of_covers 10 _ (by decide +kernel) fun t _ y => ?_
  obtain ⟨i, d, rfl⟩ : ∃ (i : Fin 512) (d : Fin 1024), y = ix2 i d := ⟨y 0, y 1, eq_ix2 y⟩
  obtain ⟨j, hj⟩ := row t i
  have e : ((cfg0.win 10).blk t).view.emb (ix2 i d) = (ix2 j d : S4096x1024.Idx) := by blk_ext [idx t]
  have r : Cert.MixReferenceIdeal.Read.val_main_v41 (F := Ideal) (ops m c).oa (ops m c).ob (ix2 j d) = mixed (ops m c) j d := by
    pointwise [Cert.MixReferenceIdeal.Read.val_main_v41, Cert.MixReferenceIdeal.Read.val_main_v40]
    exact mixedR _ _ _
  refine Eq.trans ?_ ((congrArg _ e).trans r).symm
  rw [after0_10]
  frame_out
  exact mixedT m c t i j hj d

theorem outHq (c : Dev nD) : (dats m 0 c).arrAt 11 (cfgs 0).N = Cert.MixReferenceIdeal.Read.val_main_v43 (F := Ideal) (ops m c).x (ops m c).oa (ops m c).ob (ops m c).wout (ops m c).g := by
  refine (dats m 0 c).arrAt_eq_of_covers 11 _ (by decide +kernel) fun t _ y => ?_
  obtain ⟨i, d, rfl⟩ : ∃ (i : Fin 512) (d : Fin 1024), y = ix2 i d := ⟨y 0, y 1, eq_ix2 y⟩
  obtain ⟨j, hj⟩ := row t i
  have e : ((cfg0.win 11).blk t).view.emb (ix2 i d) = (ix2 j d : S4096x1024.Idx) := by blk_ext [idx t]
  have r : Cert.MixReferenceIdeal.Read.val_main_v43 (F := Ideal) (ops m c).x (ops m c).oa (ops m c).ob (ops m c).wout (ops m c).g (ix2 j d) = hq (ops m c) j d := by
    pointwise [Cert.MixReferenceIdeal.Read.val_main_v43, Cert.MixReferenceIdeal.Read.val_main_v42]
    exact hqR _ _ _
  refine Eq.trans ?_ ((congrArg _ e).trans r).symm
  rw [after0_11]
  frame_out
  exact hqT m c t i j hj d

theorem outXq (c : Dev nD) : (dats m 0 c).arrAt 12 (cfgs 0).N = Cert.MixReferenceIdeal.Read.val_main_v45 (F := Ideal) (ops m c).x (ops m c).oa (ops m c).ob (ops m c).wout (ops m c).g (ops m c).wq := by
  refine (dats m 0 c).arrAt_eq_of_covers 12 _ (by decide +kernel) fun t _ y => ?_
  obtain ⟨i, d, rfl⟩ : ∃ (i : Fin 512) (d : Fin 1024), y = ix2 i d := ⟨y 0, y 1, eq_ix2 y⟩
  obtain ⟨j, hj⟩ := row t i
  have e : ((cfg0.win 12).blk t).view.emb (ix2 i d) = (ix2 j d : S4096x1024.Idx) := by blk_ext [idx t]
  have r : Cert.MixReferenceIdeal.Read.val_main_v45 (F := Ideal) (ops m c).x (ops m c).oa (ops m c).ob (ops m c).wout (ops m c).g (ops m c).wq (ix2 j d) = xq (ops m c) j (hd d) (lo d) := by
    pointwise [Cert.MixReferenceIdeal.Read.val_main_v45, Cert.MixReferenceIdeal.Read.val_main_v44]
    exact xqR _ _ _ _
  refine Eq.trans ?_ ((congrArg _ e).trans r).symm
  rw [after0_12]
  frame_out
  exact (congrArg (fun d => k0_pay5 (w18 m c t) (w19 m c t) (ix2 i d)) (col_hd_lo d).symm).trans (xqT m c t i j hj (hd d) (lo d))

theorem outAtt (c : Dev nD) : (dats m 0 c).arrAt 13 (cfgs 0).N = Cert.MixReferenceIdeal.Read.val_main_v47 (F := Ideal) (ops m c).x (ops m c).oa (ops m c).ob (ops m c).wout (ops m c).g (ops m c).wq (ops m c).xk (ops m c).xv := by
  refine (dats m 0 c).arrAt_eq_of_covers 13 _ (by decide +kernel) fun t _ y => ?_
  obtain ⟨i, d, rfl⟩ : ∃ (i : Fin 512) (d : Fin 1024), y = ix2 i d := ⟨y 0, y 1, eq_ix2 y⟩
  obtain ⟨j, hj⟩ := row t i
  have e : ((cfg0.win 13).blk t).view.emb (ix2 i d) = (ix2 j d : S4096x1024.Idx) := by blk_ext [idx t]
  have r : Cert.MixReferenceIdeal.Read.val_main_v47 (F := Ideal) (ops m c).x (ops m c).oa (ops m c).ob (ops m c).wout (ops m c).g (ops m c).wq (ops m c).xk (ops m c).xv (ix2 j d) = att (ops m c) j (hd d) (lo d) := by
    pointwise [Cert.MixReferenceIdeal.Read.val_main_v47, Cert.MixReferenceIdeal.Read.val_main_v46]
    exact attR _ _ _ _
  refine Eq.trans ?_ ((congrArg _ e).trans r).symm
  rw [after0_13]
  frame_out
  exact attT m c t i j hj d

theorem outX2 (c : Dev nD) : (dats m 0 c).arrAt 14 (cfgs 0).N = Cert.MixReferenceIdeal.Read.val_main_v48 (F := Ideal) (ops m c).x (ops m c).oa (ops m c).ob (ops m c).wout (ops m c).g (ops m c).wq (ops m c).xk (ops m c).xv (ops m c).wo := by
  refine (dats m 0 c).arrAt_eq_of_covers 14 _ (by decide +kernel) fun t _ y => ?_
  obtain ⟨i, d, rfl⟩ : ∃ (i : Fin 512) (d : Fin 1024), y = ix2 i d := ⟨y 0, y 1, eq_ix2 y⟩
  obtain ⟨j, hj⟩ := row t i
  have e : ((cfg0.win 14).blk t).view.emb (ix2 i d) = (ix2 j d : S4096x1024.Idx) := by blk_ext [idx t]
  have r : Cert.MixReferenceIdeal.Read.val_main_v48 (F := Ideal) (ops m c).x (ops m c).oa (ops m c).ob (ops m c).wout (ops m c).g (ops m c).wq (ops m c).xk (ops m c).xv (ops m c).wo (ix2 j d) = x2 (ops m c) j d := by
    pointwise [Cert.MixReferenceIdeal.Read.val_main_v48]
    exact x2R _ _ _
  refine Eq.trans ?_ ((congrArg _ e).trans r).symm
  rw [after0_14]
  frame_out
  canon_tiles x h <;> idx_vars x
  all_goals
    obtain rfl : i = x0 := Fin.ext (by assumption)
  · refine (x2K3 _ _ _ _ _ _ _ i d x1 (by assumption)).trans (x2T m c t i j hj d _ x1 fun k => (woT m c t 3 3 rfl _ k x1).trans ?_)
    exact congrArg (fun f => (ops m c).wo (ix4 0 (hd k) (lo k) f)) (Fin.ext (by show 3 * 256 + x1.val = d.val; omega))
  · refine (x2K2 _ _ _ _ _ _ _ i d x1 (by assumption)).trans (x2T m c t i j hj d _ x1 fun k => (woT m c t 2 2 rfl _ k x1).trans ?_)
    exact congrArg (fun f => (ops m c).wo (ix4 0 (hd k) (lo k) f)) (Fin.ext (by show 2 * 256 + x1.val = d.val; omega))
  · refine (x2K1 _ _ _ _ _ _ _ i d x1 (by assumption)).trans (x2T m c t i j hj d _ x1 fun k => (woT m c t 1 1 rfl _ k x1).trans ?_)
    exact congrArg (fun f => (ops m c).wo (ix4 0 (hd k) (lo k) f)) (Fin.ext (by show 1 * 256 + x1.val = d.val; omega))
  · refine (x2K0 _ _ _ _ _ _ _ i d x1 (by assumption)).trans (x2T m c t i j hj d _ x1 fun k => (woT m c t 0 0 rfl _ k x1).trans ?_)
    exact congrArg (fun f => (ops m c).wo (ix4 0 (hd k) (lo k) f)) (Fin.ext (by show 0 * 256 + x1.val = d.val; omega))

end Cert.MixKernelIdeal.Val

end
-- ==== Proof.Mix.lean ====
module

public import proofs.«01_k».proof.Defs
public import proofs.«01_k».proof.Proof.Gen.MixReferenceIdeal.Run
public import proofs.«01_k».proof.Proof.MixValue

@[expose] public section

noncomputable section

open Idealize.ShloMosaic Idealize.SL.Sem

namespace Cert.Mix

set_option maxHeartbeats 2000000 in
/-- The kernel of the mixer's output projection and the cross-attention computes what the reference computes. -/
theorem algebraic : Cert.algebraic_MixKernelIdeal_MixReferenceIdeal := by
  intro m g m' g' _ h
  refine ⟨fun c => (Cert.MixKernelIdeal.Gen.dats m 0 c).arrAt 9 (Cert.MixKernelIdeal.cfgs 0).N, fun c => (Cert.MixKernelIdeal.Gen.dats m 0 c).arrAt 10 (Cert.MixKernelIdeal.cfgs 0).N, fun c => (Cert.MixKernelIdeal.Gen.dats m 0 c).arrAt 11 (Cert.MixKernelIdeal.cfgs 0).N, fun c => (Cert.MixKernelIdeal.Gen.dats m 0 c).arrAt 12 (Cert.MixKernelIdeal.cfgs 0).N, fun c => (Cert.MixKernelIdeal.Gen.dats m 0 c).arrAt 13 (Cert.MixKernelIdeal.cfgs 0).N, fun c => (Cert.MixKernelIdeal.Gen.dats m 0 c).arrAt 14 (Cert.MixKernelIdeal.cfgs 0).N,
    (θ_run _ _ _).mono (fun r hr c => hr c) (Cert.MixKernelIdeal.Value.run_blocks m g),
    (θ_run _ _ _).mono (fun r hr c => ?_) (Cert.MixReferenceIdeal.Value.run m' g')⟩
  obtain ⟨h0, h1, h2, h3, h4, h5, h6, h7, h8⟩ := h c
  obtain ⟨r0, r1, r2, r3, r4, r5, ra⟩ := hr c
  refine ⟨r0.trans ?_, r1.trans ?_, r2.trans ?_, r3.trans ?_, r4.trans ?_, r5.trans ?_, ra⟩
  · refine (Cert.MixReferenceIdeal.Read.val_main_v39_eq _ _ _ _).trans ?_
    rewrite [h0, h1, h2, h3]
    exact (Cert.MixKernelIdeal.Val.outX1 m c).symm
  · refine (Cert.MixReferenceIdeal.Read.val_main_v41_eq _ _).trans ?_
    rewrite [h1, h2]
    exact (Cert.MixKernelIdeal.Val.outMixed m c).symm
  · refine (Cert.MixReferenceIdeal.Read.val_main_v43_eq _ _ _ _ _).trans ?_
    rewrite [h0, h1, h2, h3, h4]
    exact (Cert.MixKernelIdeal.Val.outHq m c).symm
  · refine (Cert.MixReferenceIdeal.Read.val_main_v45_eq _ _ _ _ _ _).trans ?_
    rewrite [h0, h1, h2, h3, h4, h5]
    exact (Cert.MixKernelIdeal.Val.outXq m c).symm
  · refine (Cert.MixReferenceIdeal.Read.val_main_v47_eq _ _).trans ?_
    rewrite [h0, h1, h2, h3, h4, h5, h6, h7]
    exact (Cert.MixKernelIdeal.Val.outAtt m c).symm
  · refine (Cert.MixReferenceIdeal.Read.val_main_v48_eq _ _).trans ?_
    rewrite [h0, h1, h2, h3, h4, h5, h6, h7, h8]
    exact (Cert.MixKernelIdeal.Val.outX2 m c).symm

/-- The reference terminates, leaves its arguments as they were and has no semaphore. -/
theorem frameReference : Cert.quiescent_MixReferenceIdeal := by
  intro m ρ _
  exact (θ_run _ _ _).mono (fun r h => ⟨fun c => (h c).2.2.2.2.2.2, sem_eq_zero_of_no_sems (by decide) r.2⟩)
    (Cert.MixReferenceIdeal.Value.run m ρ)

end Cert.Mix

end
-- ==== Proof.ProjValue.lean ====
module

public import proofs.«01_k».proof.Proof.Gen.ProjKernelIdeal.Value
public import proofs.«01_k».proof.Proof.Gen.ProjReferenceIdeal.Read
public import proofs.«01_k».proof.Proof.Common
public import proofs.«01_k».proof.Proof.Norm

@[expose] public section

set_option maxRecDepth 16384
set_option maxHeartbeats 1000000

noncomputable section

open Idealize.ShloMosaic Idealize.ShloMosaic.TcCoe Idealize.SL.Sem
open Idealize.ShloMosaic.Pipeline (Dat)

namespace Cert.ProjKernelIdeal.Val

open Cert.ProjKernelIdeal Cert.ProjKernelIdeal.Gen

variable (m : (ℓ : Loc nD τ sig) → Buf (Elt Ideal) ℓ)

open Cert.ProjReferenceIdeal (S1x4096x1024 S1x1024x2560)

/-- A token's normalized row. -/
def norm (X : FVec Ideal S1x4096x1024 .f32) (G : FVec Ideal Cert.ProjReferenceIdeal.S1x1024 .f32) (j : Fin 4096) (d : Fin 1024) : EReal :=
  X (ix3 0 j d) * Norm.rinv (fun k => X (ix3 0 j k)) * G (ix2 0 d)

/-- A token's projection. -/
def proj (X : FVec Ideal S1x4096x1024 .f32) (G : FVec Ideal Cert.ProjReferenceIdeal.S1x1024 .f32) (W : FVec Ideal S1x1024x2560 .f32) (j : Fin 4096) (d : Fin 2560) : EReal :=
  ∑ k : Fin 1024, norm X G j k * W (ix3 0 k d)

section reference

open Cert.ProjReferenceIdeal

variable (X : FVec Ideal S1x4096x1024 .f32) (G : FVec Ideal Cert.ProjReferenceIdeal.S1x1024 .f32) (W : FVec Ideal S1x1024x2560 .f32) (j : Fin 4096)

theorem normR (d : Fin 1024) : Read.val_main_v13 (F := Ideal) X G (ix3 0 j d) = norm X G j d := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_cst, Read.val_main_cst_0, Read.val_main_cst_1]
  rfl

theorem projR (d : Fin 2560) : Read.val_main_v16 (F := Ideal) X G W (ix2 j d) = proj X G W j d := by
  pointwise [Read.val_main_v16, Read.val_main_v15, Read.val_main_v14]
  simp only [normR]
  rfl

theorem rowR (d : Fin 1024) : Read.val_main_v18 (F := Ideal) X G (ix2 j d) = norm X G j d := by
  pointwise [Read.val_main_v18, Read.val_main_v17]
  exact normR X G j d

end reference

theorem idx : ∀ t : Fin cfg0.N, win0_0.index t = ![t.val, 0] ∧ win0_1.index t = ![0, 0] ∧ win0_2.index t = ![0, 0, 0] ∧ win0_3.index t = ![t.val, 0] ∧ win0_4.index t = ![t.val, 0] :=
  (by decide +kernel : ∀ t : Fin grid0.N, _)

theorem in0 (c : Dev nD) (t : Fin cfg0.N) (i : Fin 512) (k : Fin 1024) (j : Fin 4096) (hj : j.val = t.val * 512 + i.val) : iblk m c 0 t (ix2 i k) = m ((c : Thread nD τ).loc main_arg0) (ix3 0 j k) := by
  blk_point [iblk, V, idx t]

theorem in1 (c : Dev nD) (t : Fin cfg0.N) (k : Fin 1024) : iblk m c 1 t (ix2 0 k) = m ((c : Thread nD τ).loc main_arg1) (ix2 0 k) := by
  blk_point [iblk, V, idx t]

theorem in2 (c : Dev nD) (t : Fin cfg0.N) (q : Fin 4) (k : Fin 1024) (e : Fin 640) (d : Fin 2560) (h : d.val = q.val * 640 + e.val) : iblk m c 2 t (ix3 q k e) = m ((c : Thread nD τ).loc main_arg2) (ix3 0 k d) := by
  blk_simp [iblk]
  entry_read
  pointwise
  have em : ((View.whole main_v3).slice (win0_2.rect t)).emb (ix3 q k e) = (ix3 q k e : S4x1024x640.Idx) := by blk_ext [idx t]
  simp only [em]
  refine congrArg _ ?_
  idx_ext

theorem nK (x : Vec Ideal S512x1024 .f32) (g : Vec Ideal S1x1024 .f32) (i : Fin 512) (d : Fin 1024) :
    k0_pay2 x g (ix2 i d) = x (ix2 i d) * Norm.rinv (fun k => x (ix2 i k)) * g (ix2 0 d) := by
  pointwise [k0_pay2]
  rfl

theorem zK0 (x : Vec Ideal S512x1024 .f32) (g : Vec Ideal S1x1024 .f32) (w : Vec Ideal S1x1024x640 .bf16) (i : Fin 512) (e : Fin 640) :
    (k0_pay3 x g w : FVec Ideal S512x640 .f32) (ix2 i e) = ∑ k : Fin 1024, k0_pay2 x g (ix2 i k) * w (ix3 0 k e) := by
  pointwise [k0_pay3]

theorem zK1 (x : Vec Ideal S512x1024 .f32) (g : Vec Ideal S1x1024 .f32) (w : Vec Ideal S1x1024x640 .bf16) (i : Fin 512) (e : Fin 640) :
    (k0_pay4 x g w : FVec Ideal S512x640 .f32) (ix2 i e) = ∑ k : Fin 1024, k0_pay2 x g (ix2 i k) * w (ix3 0 k e) := by
  pointwise [k0_pay4]

theorem zK2 (x : Vec Ideal S512x1024 .f32) (g : Vec Ideal S1x1024 .f32) (w : Vec Ideal S1x1024x640 .bf16) (i : Fin 512) (e : Fin 640) :
    (k0_pay5 x g w : FVec Ideal S512x640 .f32) (ix2 i e) = ∑ k : Fin 1024, k0_pay2 x g (ix2 i k) * w (ix3 0 k e) := by
  pointwise [k0_pay5]

theorem zK3 (x : Vec Ideal S512x1024 .f32) (g : Vec Ideal S1x1024 .f32) (w : Vec Ideal S1x1024x640 .bf16) (i : Fin 512) (e : Fin 640) :
    (k0_pay1 (k0_pay2 x g) w : FVec Ideal S512x640 .f32) (ix2 i e) = ∑ k : Fin 1024, k0_pay2 x g (ix2 i k) * w (ix3 0 k e) := by
  pointwise [k0_pay1]

theorem wT (c : Dev nD) (t : Fin cfg0.N) (q : Fin 4) (o : ℕ) (ho : o = q.val) (inb) (d : Fin 2560) (e : Fin 640) (h : d.val = q.val * 640 + e.val) (k : Fin 1024) :
    (View.ld (iblk m c 2 t) (Rect.unit (s := S4x1024x640) ![o, 0, 0] S1x1024x640.size inb) : Vec Ideal S1x1024x640 .bf16) (ix3 0 k e) = m ((c : Thread nD τ).loc main_arg2) (ix3 0 k d) := by
  subst ho
  refine Eq.trans ?_ (in2 m c t q k e d h)
  pointwise

section tile

variable (c : Dev nD) (t : Fin cfg0.N) (i : Fin 512) (j : Fin 4096) (hj : j.val = t.val * 512 + i.val)

include hj

theorem nT (d : Fin 1024) : k0_pay2 (iblk m c 0 t) (iblk m c 1 t) (ix2 i d) = norm (m ((c : Thread nD τ).loc main_arg0)) (m ((c : Thread nD τ).loc main_arg1)) j d := by
  refine (nK _ _ i d).trans ?_
  simp only [in0 m c t i _ j hj, in1]
  rfl

theorem zT (d : Fin 2560) (w : Vec Ideal S1x1024x640 .bf16) (e : Fin 640) (hw : ∀ k, w (ix3 0 k e) = m ((c : Thread nD τ).loc main_arg2) (ix3 0 k d)) :
    ∑ k : Fin 1024, k0_pay2 (iblk m c 0 t) (iblk m c 1 t) (ix2 i k) * w (ix3 0 k e) = proj (m ((c : Thread nD τ).loc main_arg0)) (m ((c : Thread nD τ).loc main_arg1)) (m ((c : Thread nD τ).loc main_arg2)) j d := by
  simp only [nT m c t i j hj, hw]
  rfl

end tile

theorem row (t : Fin cfg0.N) (i : Fin 512) : ∃ j : Fin 4096, j.val = t.val * 512 + i.val := by
  have ht : t.val < 8 := lt_of_lt_of_eq t.isLt N_0
  exact ⟨⟨t.val * 512 + i.val, by omega⟩, rfl⟩

theorem outZ (c : Dev nD) : (dats m 0 c).arrAt 3 (cfgs 0).N = Cert.ProjReferenceIdeal.Read.val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨i, d, rfl⟩ : ∃ (i : Fin 512) (d : Fin 2560), y = ix2 i d := ⟨y 0, y 1, eq_ix2 y⟩
  obtain ⟨j, hj⟩ := row t i
  have e : ((cfg0.win 3).blk t).view.emb (ix2 i d) = (ix2 j d : S4096x2560.Idx) := by blk_ext [idx t]
  refine Eq.trans ?_ ((congrArg _ e).trans (projR _ _ _ j d)).symm
  rw [after0_3]
  frame_out
  canon_tiles x h <;> idx_vars x
  all_goals
    obtain rfl : i = x0 := Fin.ext (by assumption)
  · refine (zK3 _ _ _ i x1).trans ?_
    exact zT m c t i j hj d _ x1 (wT m c t 3 3 rfl _ d x1 (by show d.val = 3 * 640 + x1.val; omega))
  · refine (zK2 _ _ _ i x1).trans ?_
    exact zT m c t i j hj d _ x1 (wT m c t 2 2 rfl _ d x1 (by show d.val = 2 * 640 + x1.val; omega))
  · refine (zK1 _ _ _ i x1).trans ?_
    exact zT m c t i j hj d _ x1 (wT m c t 1 1 rfl _ d x1 (by show d.val = 1 * 640 + x1.val; omega))
  · refine (zK0 _ _ _ i x1).trans ?_
    exact zT m c t i j hj d _ x1 (wT m c t 0 0 rfl _ d x1 (by show d.val = 0 * 640 + x1.val; omega))

theorem outH (c : Dev nD) : (dats m 0 c).arrAt 4 (cfgs 0).N = Cert.ProjReferenceIdeal.Read.val_main_v18 (F := Ideal) (m ((c : Thread nD τ).loc main_arg0)) (m ((c : Thread nD τ).loc main_arg1)) := by
  refine (dats m 0 c).arrAt_eq_of_covers 4 _ (by decide +kernel) fun t _ y => ?_
  obtain ⟨i, d, rfl⟩ : ∃ (i : Fin 512) (d : Fin 1024), y = ix2 i d := ⟨y 0, y 1, eq_ix2 y⟩
  obtain ⟨j, hj⟩ := row t i
  have e : ((cfg0.win 4).blk t).view.emb (ix2 i d) = (ix2 j d : S4096x1024.Idx) := by blk_ext [idx t]
  refine Eq.trans ?_ ((congrArg _ e).trans (rowR _ _ j d)).symm
  rw [after0_4]
  frame_out
  exact nT m c t i j hj d

end Cert.ProjKernelIdeal.Val

end
-- ==== Proof.Proj.lean ====
module

public import proofs.«01_k».proof.Defs
public import proofs.«01_k».proof.Proof.Gen.ProjReferenceIdeal.Run
public import proofs.«01_k».proof.Proof.ProjValue

@[expose] public section

noncomputable section

open Idealize.ShloMosaic Idealize.SL.Sem

namespace Cert.Proj

/-- The kernel of the input projection computes what the reference computes. -/
theorem algebraic : Cert.algebraic_ProjKernelIdeal_ProjReferenceIdeal := by
  intro m g m' g' _ h
  refine ⟨fun c => (Cert.ProjKernelIdeal.Gen.dats m 0 c).arrAt 3 (Cert.ProjKernelIdeal.cfgs 0).N, fun c => (Cert.ProjKernelIdeal.Gen.dats m 0 c).arrAt 4 (Cert.ProjKernelIdeal.cfgs 0).N,
    (θ_run _ _ _).mono (fun r hr c => hr c) (Cert.ProjKernelIdeal.Value.run_blocks m g),
    (θ_run _ _ _).mono (fun r hr c => ?_) (Cert.ProjReferenceIdeal.Value.run m' g')⟩
  obtain ⟨h0, h1, h2⟩ := h c
  obtain ⟨r0, r1, ra⟩ := hr c
  refine ⟨r0.trans ?_, r1.trans ?_, ra⟩
  · refine (Cert.ProjReferenceIdeal.Read.val_main_v16_eq _ _ _).trans ?_
    rewrite [h0, h1, h2]
    exact (Cert.ProjKernelIdeal.Val.outZ m c).symm
  · refine (Cert.ProjReferenceIdeal.Read.val_main_v18_eq _ _).trans ?_
    rewrite [h0, h1]
    exact (Cert.ProjKernelIdeal.Val.outH m c).symm

/-- The reference terminates, leaves its arguments as they were and has no semaphore. -/
theorem frameReference : Cert.quiescent_ProjReferenceIdeal := by
  intro m ρ _
  exact (θ_run _ _ _).mono (fun r h => ⟨fun c => (h c).2.2, sem_eq_zero_of_no_sems (by decide) r.2⟩)
    (Cert.ProjReferenceIdeal.Value.run m ρ)

end Cert.Proj

end
-- ==== Proof.MemValue.lean ====
module

public import proofs.«01_k».proof.Proof.Gen.MemKernelIdeal.Value
public import proofs.«01_k».proof.Proof.Gen.MemReferenceIdeal.Read
public import proofs.«01_k».proof.Proof.Common
public import proofs.«01_k».proof.Proof.Norm

@[expose] public section

set_option maxRecDepth 16384
set_option maxHeartbeats 1000000

noncomputable section

open Idealize.ShloMosaic Idealize.ShloMosaic.TcCoe Idealize.SL.Sem
open Idealize.ShloMosaic.Pipeline (Dat)

namespace Cert.MemKernelIdeal.Val

open Cert.MemKernelIdeal Cert.MemKernelIdeal.Gen

variable (m : (ℓ : Loc nD τ sig) → Buf (Elt Ideal) ℓ)

open Cert.MemReferenceIdeal (S1x256x1024 S1x1024x4x256)

/-- The head of a column. -/
def hd (d : Fin 1024) : Fin 4 := ⟨d.val / 256, by omega⟩

/-- A column's place in its head. -/
def lo (d : Fin 1024) : Fin 256 := ⟨d.val % 256, by omega⟩

/-- A memory token's normalized row. -/
def norm (X : FVec Ideal S1x256x1024 .f32) (G : FVec Ideal Cert.MemReferenceIdeal.S1x1024 .f32) (i : Fin 256) (d : Fin 1024) : EReal :=
  X (ix3 0 i d) * Norm.rinv (fun k => X (ix3 0 i k)) * G (ix2 0 d)

/-- A memory token's projection. -/
def proj (X : FVec Ideal S1x256x1024 .f32) (G : FVec Ideal Cert.MemReferenceIdeal.S1x1024 .f32) (W : FVec Ideal S1x1024x4x256 .f32) (i : Fin 256) (d : Fin 1024) : EReal :=
  ∑ k : Fin 1024, norm X G i k * W (ix4 0 k (hd d) (lo d))

section reference

open Cert.MemReferenceIdeal

variable (X : FVec Ideal S1x256x1024 .f32) (G : FVec Ideal Cert.MemReferenceIdeal.S1x1024 .f32) (W : FVec Ideal S1x1024x4x256 .f32) (i : Fin 256) (d : Fin 1024)

theorem normR : Read.val_main_v13 (F := Ideal) X G (ix3 0 i d) = norm X G i d := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_cst, Read.val_main_cst_0, Read.val_main_cst_1]
  rfl

theorem projR2 : Read.val_main_v19 (F := Ideal) X G W (ix2 i d) = proj X G W i d := by
  pointwise [Read.val_main_v19, Read.val_main_v18, Read.val_main_v15, Read.val_main_v14]
  simp only [normR]
  rfl

theorem projR3 : Read.val_main_v21 (F := Ideal) X G W (ix2 i d) = proj X G W i d := by
  pointwise [Read.val_main_v21, Read.val_main_v20, Read.val_main_v17, Read.val_main_v16]
  simp only [normR]
  rfl

end reference

theorem idx : ∀ t : Fin cfg0.N, win0_0.index t = ![0, 0] ∧ win0_1.index t = ![0, 0] ∧ win0_2.index t = ![0, 0, 0] ∧ win0_3.index t = ![0, 1, 0]
    ∧ win0_4.index t = ![0, 0] ∧ win0_5.index t = ![0, 0] :=
  (by decide +kernel : ∀ t : Fin grid0.N, _)

theorem in0 (c : Dev nD) (t : Fin cfg0.N) (i : Fin 256) (k : Fin 1024) : iblk m c 0 t (ix2 i k) = m ((c : Thread nD τ).loc main_arg0) (ix3 0 i k) := by
  blk_point [iblk, V, idx t]

theorem in1 (c : Dev nD) (t : Fin cfg0.N) (k : Fin 1024) : iblk m c 1 t (ix2 0 k) = m ((c : Thread nD τ).loc main_arg1) (ix2 0 k) := by
  blk_point [iblk, V, idx t]

theorem in2 (c : Dev nD) (t : Fin cfg0.N) (q : Fin 4) (e : Fin 256) (k : Fin 1024) : iblk m c 2 t (ix3 q e k) = m ((c : Thread nD τ).loc main_arg2) (ix4 0 ⟨q.val * 256 + e.val, by omega⟩ (hd k) (lo k)) := by
  blk_simp [iblk]
  entry_read
  pointwise
  have em : ((View.whole main_v5).slice (win0_2.rect t)).emb (ix3 q e k) = (ix3 q ⟨e.val, by omega⟩ k : S4x512x1024.Idx) := by blk_ext [idx t]
  simp only [em]
  refine (dif_pos e.isLt).trans ?_
  refine congrArg _ ?_
  idx_ext

theorem in3 (c : Dev nD) (t : Fin cfg0.N) (q : Fin 4) (e : Fin 256) (k : Fin 1024) : iblk m c 3 t (ix3 q e k) = m ((c : Thread nD τ).loc main_arg3) (ix4 0 ⟨q.val * 256 + e.val, by omega⟩ (hd k) (lo k)) := by
  blk_simp [iblk]
  entry_read
  pointwise
  have em : ((View.whole main_v5).slice (win0_3.rect t)).emb (ix3 q e k) = (ix3 q ⟨256 + e.val, by omega⟩ k : S4x512x1024.Idx) := by blk_ext [idx t]
  simp only [em]
  refine (dif_neg (by simp)).trans ?_
  refine congrArg _ ?_
  idx_ext

theorem nK (x : Vec Ideal S256x1024 .f32) (g : Vec Ideal S1x1024 .f32) (i : Fin 256) (d : Fin 1024) :
    k0_pay1 x g (ix2 i d) = x (ix2 i d) * Norm.rinv (fun k => x (ix2 i k)) * g (ix2 0 d) := by
  pointwise [k0_pay1]
  rfl

theorem p2K (x : Vec Ideal S256x1024 .f32) (g : Vec Ideal S1x1024 .f32) (w : Vec Ideal S4x256x1024 .bf16) (i : Fin 256) (d : Fin 1024) :
    k0_pay2 x g w (ix2 i d) = ∑ k : Fin 1024, k0_pay1 x g (ix2 i k) * w (ix3 (hd k) (lo k) d) := by
  pointwise [k0_pay2]
  rfl

theorem p3K (x : Vec Ideal S256x1024 .f32) (g : Vec Ideal S1x1024 .f32) (w : Vec Ideal S4x256x1024 .bf16) (i : Fin 256) (d : Fin 1024) :
    k0_pay3 x g w (ix2 i d) = ∑ k : Fin 1024, k0_pay1 x g (ix2 i k) * w (ix3 (hd k) (lo k) d) := by
  pointwise [k0_pay3]
  rfl

theorem outK (c : Dev nD) : (dats m 0 c).arrAt 4 (cfgs 0).N = Cert.MemReferenceIdeal.Read.val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨i, d, rfl⟩ : ∃ (i : Fin 256) (d : Fin 1024), y = ix2 i d := ⟨y 0, y 1, eq_ix2 y⟩
  have e : ((cfg0.win 4).blk t).view.emb (ix2 i d) = (ix2 i d : S256x1024.Idx) := by blk_ext [idx t]
  refine Eq.trans ?_ ((congrArg _ e).trans (projR2 _ _ _ i d)).symm
  rw [after0_4]
  frame_out
  refine (p2K _ _ _ i d).trans ?_
  simp only [nK, in0, in1, in2]
  refine Finset.sum_congr rfl fun k _ => ?_
  exact congrArg (fun f => norm (m ((c : Thread nD τ).loc main_arg0)) (m ((c : Thread nD τ).loc main_arg1)) i k * (m ((c : Thread nD τ).loc main_arg2)) (ix4 0 f (hd d) (lo d))) (Fin.ext (by show k.val / 256 * 256 + k.val % 256 = k.val; omega))

theorem outV (c : Dev nD) : (dats m 0 c).arrAt 5 (cfgs 0).N = Cert.MemReferenceIdeal.Read.val_main_v21 (F := Ideal) (m ((c : Thread nD τ).loc main_arg0)) (m ((c : Thread nD τ).loc main_arg1)) (m ((c : Thread nD τ).loc main_arg3)) := by
  refine (dats m 0 c).arrAt_eq_of_covers 5 _ (by decide +kernel) fun t _ y => ?_
  obtain ⟨i, d, rfl⟩ : ∃ (i : Fin 256) (d : Fin 1024), y = ix2 i d := ⟨y 0, y 1, eq_ix2 y⟩
  have e : ((cfg0.win 5).blk t).view.emb (ix2 i d) = (ix2 i d : S256x1024.Idx) := by blk_ext [idx t]
  refine Eq.trans ?_ ((congrArg _ e).trans (projR3 _ _ _ i d)).symm
  rw [after0_5]
  frame_out
  refine (p3K _ _ _ i d).trans ?_
  simp only [nK, in0, in1, in3]
  refine Finset.sum_congr rfl fun k _ => ?_
  exact congrArg (fun f => norm (m ((c : Thread nD τ).loc main_arg0)) (m ((c : Thread nD τ).loc main_arg1)) i k * (m ((c : Thread nD τ).loc main_arg3)) (ix4 0 f (hd d) (lo d))) (Fin.ext (by show k.val / 256 * 256 + k.val % 256 = k.val; omega))

end Cert.MemKernelIdeal.Val

end
-- ==== Proof.Mem.lean ====
module

public import proofs.«01_k».proof.Defs
public import proofs.«01_k».proof.Proof.Gen.MemReferenceIdeal.Run
public import proofs.«01_k».proof.Proof.MemValue

@[expose] public section

noncomputable section

open Idealize.ShloMosaic Idealize.SL.Sem

namespace Cert.Mem

/-- The kernel of the memory's keys and values computes what the reference computes. -/
theorem algebraic : Cert.algebraic_MemKernelIdeal_MemReferenceIdeal := by
  intro m g m' g' _ h
  refine ⟨fun c => (Cert.MemKernelIdeal.Gen.dats m 0 c).arrAt 4 (Cert.MemKernelIdeal.cfgs 0).N, fun c => (Cert.MemKernelIdeal.Gen.dats m 0 c).arrAt 5 (Cert.MemKernelIdeal.cfgs 0).N,
    (θ_run _ _ _).mono (fun r hr c => hr c) (Cert.MemKernelIdeal.Value.run_blocks m g),
    (θ_run _ _ _).mono (fun r hr c => ?_) (Cert.MemReferenceIdeal.Value.run m' g')⟩
  obtain ⟨h0, h1, h2, h3⟩ := h c
  obtain ⟨r0, r1, ra⟩ := hr c
  refine ⟨r0.trans ?_, r1.trans ?_, ra⟩
  · refine (Cert.MemReferenceIdeal.Read.val_main_v19_eq _ _ _).trans ?_
    rewrite [h0, h1, h2]
    exact (Cert.MemKernelIdeal.Val.outK m c).symm
  · refine (Cert.MemReferenceIdeal.Read.val_main_v21_eq _ _ _).trans ?_
    rewrite [h0, h1, h3]
    exact (Cert.MemKernelIdeal.Val.outV m c).symm

/-- The reference terminates, leaves its arguments as they were and has no semaphore. -/
theorem frameReference : Cert.quiescent_MemReferenceIdeal := by
  intro m ρ _
  exact (θ_run _ _ _).mono (fun r h => ⟨fun c => (h c).2.2, sem_eq_zero_of_no_sems (by decide) r.2⟩)
    (Cert.MemReferenceIdeal.Value.run m ρ)

end Cert.Mem

end
-- ==== Proof.PoolFwdValue.lean ====
module

public import proofs.«01_k».proof.Proof.Gen.PoolFwdKernelIdeal.Value
public import proofs.«01_k».proof.Proof.Gen.PoolFwdReferenceIdeal.Read
public import proofs.«01_k».proof.Proof.Common
public import proofs.«01_k».proof.Proof.Norm
public import proofs.«01_k».proof.Proof.PoolRef

@[expose] public section

set_option maxRecDepth 16384
set_option maxHeartbeats 1000000

noncomputable section

open Idealize.ShloMosaic Idealize.ShloMosaic.TcCoe Idealize.SL.Sem
open Idealize.ShloMosaic.Pipeline (Dat)

namespace Cert.PoolFwdKernelIdeal.Val

open Cert.PoolFwdKernelIdeal Cert.PoolFwdKernelIdeal.Gen

variable (m : (ℓ : Loc nD τ sig) → Buf (Elt Ideal) ℓ)

open Cert.PoolKernelIdeal.Val (ps pooled col pooled_rows concat4)
open Cert.PoolReferenceIdeal (S1x4096x2560)

/-- A token's pooled row through its group's map, times the scale. -/
def mixed (X : FVec Ideal S1x4096x2560 .f32) (W : FVec Ideal Cert.PoolFwdReferenceIdeal.S1x4x128x128 .f32) (Z : FVec Ideal S1x512 .f32) (s : ℕ) (q : Fin 512) : EReal :=
  (∑ k : Fin 128, pooled X s ⟨q.val / 128, by omega⟩ k * W (ix4 0 ⟨q.val / 128, by omega⟩ k ⟨q.val % 128, by omega⟩)) * Z (ix2 0 q)

theorem stackR (X : FVec Ideal S1x4096x2560 .f32) : Cert.PoolFwdReferenceIdeal.Read.val_main_v70 (F := Ideal) X = Cert.PoolReferenceIdeal.Read.val_main_v71 (F := Ideal) X := rfl

theorem mixedR (X : FVec Ideal S1x4096x2560 .f32) (hX : ∀ (s : Fin 4096) (q : Fin 512), ∃ r : ℝ, X (ix3 0 s ⟨2048 + q.val, by omega⟩) = r) (W : FVec Ideal Cert.PoolFwdReferenceIdeal.S1x4x128x128 .f32) (Z : FVec Ideal S1x512 .f32) (s : Fin 4096) (q : Fin 512) :
    Cert.PoolFwdReferenceIdeal.Read.val_main_v78 (F := Ideal) X W Z (ix2 s q) = mixed X W Z s q := by
  pointwise [Cert.PoolFwdReferenceIdeal.Read.val_main_v71, Cert.PoolFwdReferenceIdeal.Read.val_main_v72, Cert.PoolFwdReferenceIdeal.Read.val_main_v73, Cert.PoolFwdReferenceIdeal.Read.val_main_v74, Cert.PoolFwdReferenceIdeal.Read.val_main_v75, Cert.PoolFwdReferenceIdeal.Read.val_main_v76, Cert.PoolFwdReferenceIdeal.Read.val_main_v77, Cert.PoolFwdReferenceIdeal.Read.val_main_v78, Cert.PoolFwdReferenceIdeal.Read.val_main_v1, Cert.PoolFwdReferenceIdeal.Read.val_main_v2]
  simp only [stackR, Cert.PoolKernelIdeal.Val.v71R X hX]
  refine congrArg₂ (fun a b : EReal => a * b) (Fin.sum_fin_congr fun k => (mul_comm (G := EReal) _ _).trans ?_) ?_
  · rfl
  · rfl

theorem idx : ∀ t : Fin cfg0.N, win0_0.index t = ![t.val, 4] ∧ win0_1.index t = ![t.val * 32 - 1, 4] ∧ win0_2.index t = ![0, 0, 0] ∧ win0_3.index t = ![0, 0] ∧ win0_4.index t = ![t.val, 0] :=
  (by decide +kernel : ∀ t : Fin grid0.N, _)

theorem coords_val : ∀ t : Fin cfg0.N, (grid0.coords t 0).val = t.val := (by decide +kernel : ∀ t : Fin grid0.N, _)

theorem in0 (c : Dev nD) (t : Fin cfg0.N) (i q : Fin 512) : iblk m c 0 t (ix2 i q) = ps (m ((c : Thread nD τ).loc main_arg0)) (t.val * 512 + (16 + i)) q := by
  have ht : t.val < 8 := lt_of_lt_of_eq t.isLt N_0
  obtain ⟨j, hj⟩ : ∃ j : Fin 4096, j.val = t.val * 512 + i.val := ⟨⟨t.val * 512 + i.val, by omega⟩, rfl⟩
  obtain ⟨e, he⟩ : ∃ e : Fin 2560, e.val = 2048 + q.val := ⟨⟨2048 + q.val, by omega⟩, rfl⟩
  have h : iblk m c 0 t (ix2 i q) = m ((c : Thread nD τ).loc main_arg0) (ix3 0 j e) := by
    blk_point [iblk, V, idx t]
  unfold ps
  rw [dif_pos (by omega)]
  exact h.trans (congrArg₂ (fun j e => m ((c : Thread nD τ).loc main_arg0) (ix3 0 j e)) (Fin.ext (by show j.val = t.val * 512 + (16 + i.val) - 16; omega)) (Fin.ext he))

theorem in1 (c : Dev nD) (t : Fin cfg0.N) (h0 : 0 < t.val) (i : Fin 16) (q : Fin 512) : iblk m c 1 t (ix2 i q) = ps (m ((c : Thread nD τ).loc main_arg0)) (t.val * 512 + i) q := by
  have ht : t.val < 8 := lt_of_lt_of_eq t.isLt N_0
  obtain ⟨j, hj⟩ : ∃ j : Fin 4096, j.val = (t.val * 32 - 1) * 16 + i.val := ⟨⟨(t.val * 32 - 1) * 16 + i.val, by omega⟩, rfl⟩
  obtain ⟨e, he⟩ : ∃ e : Fin 2560, e.val = 2048 + q.val := ⟨⟨2048 + q.val, by omega⟩, rfl⟩
  have h : iblk m c 1 t (ix2 i q) = m ((c : Thread nD τ).loc main_arg0) (ix3 0 j e) := by
    blk_point [iblk, V, idx t]
  unfold ps
  rw [dif_pos (by omega)]
  exact h.trans (congrArg₂ (fun j e => m ((c : Thread nD τ).loc main_arg0) (ix3 0 j e)) (Fin.ext (by show j.val = t.val * 512 + i.val - 16; omega)) (Fin.ext he))

theorem in2 (c : Dev nD) (t : Fin cfg0.N) (g : Fin 4) (k e : Fin 128) : iblk m c 2 t (ix3 g k e) = m ((c : Thread nD τ).loc main_arg1) (ix4 0 g k e) := by
  blk_point [iblk, V, idx t]

theorem in3 (c : Dev nD) (t : Fin cfg0.N) (q : Fin 512) : iblk m c 3 t (ix2 0 q) = m ((c : Thread nD τ).loc main_arg2) (ix2 0 q) := by
  blk_point [iblk, V, idx t]

section Payloads

variable (i : grid0.Coords) (x0 : Vec Ideal S512x512 .f32) (x1 : Vec Ideal S16x512 .f32)

theorem pay0 : k0_pay5 i x0 x1 = Cert.PoolKernelIdeal.Gen.k0_pay10 i x0 x1 := rfl

theorem pay1 : k0_pay6 i x0 x1 = Cert.PoolKernelIdeal.Gen.k0_pay11 i x0 x1 := rfl

theorem pay2 : k0_pay8 (k0_pay2 x0) (k0_pay4 i) (k0_pay7 i x0 x1) 2#32 = Cert.PoolKernelIdeal.Gen.k0_pay13 (Cert.PoolKernelIdeal.Gen.k0_pay7 x0) (Cert.PoolKernelIdeal.Gen.k0_pay9 i) (Cert.PoolKernelIdeal.Gen.k0_pay12 i x0 x1) 2#32 := rfl

theorem pay3 : k0_pay9 (k0_pay2 x0) (k0_pay3 i x0 x1) (k0_pay4 i) = Cert.PoolKernelIdeal.Gen.k0_pay14 (Cert.PoolKernelIdeal.Gen.k0_pay7 x0) (Cert.PoolKernelIdeal.Gen.k0_pay8 i x0 x1) (Cert.PoolKernelIdeal.Gen.k0_pay9 i) := rfl

end Payloads

/-- A tile of the result, from the pooled rows of the four groups and the maps. -/
theorem tileK (p0 p1 p2 p3 : FVec Ideal S512x128 .f32) (w0 w1 w2 w3 : Vec Ideal S1x128x128 .f32) (z : Vec Ideal S1x512 .f32) (P : Fin 4 → Fin 128 → EReal) (W : Fin 4 → Fin 128 → Fin 128 → EReal) (r q : Fin 512)
    (h0 : ∀ k, p0 (ix2 r k) = P 0 k) (h1 : ∀ k, p1 (ix2 r k) = P 1 k) (h2 : ∀ k, p2 (ix2 r k) = P 2 k) (h3 : ∀ k, p3 (ix2 r k) = P 3 k)
    (v0 : ∀ k e, w0 (ix3 0 k e) = W 0 k e) (v1 : ∀ k e, w1 (ix3 0 k e) = W 1 k e) (v2 : ∀ k e, w2 (ix3 0 k e) = W 2 k e) (v3 : ∀ k e, w3 (ix3 0 k e) = W 3 k e) :
    (k0_pay1 p2 p3 (k0_pay10 p0 w0) (k0_pay11 p1 w1) w2 w3 z : FVec Ideal S512x512 .bf16) (ix2 r q) = (∑ k : Fin 128, P ⟨q.val / 128, by omega⟩ k * W ⟨q.val / 128, by omega⟩ k ⟨q.val % 128, by omega⟩) * z (ix2 0 q) := by
  refine congrArg₂ (fun a b : EReal => a * b) (concat4 _ _ _ _ concatenates_S512x128_S512x128_S512x128_S512x128_S512x512_d1 r q (fun g e => ∑ k : Fin 128, P g k * W g k e) ?_ ?_ ?_ ?_) ?_
  · intro e
    pointwise [k0_pay10]
    exact Fin.sum_fin_congr fun k => congrArg₂ (fun a b : EReal => a * b) (h0 k) (v0 k e)
  · intro e
    pointwise [k0_pay11]
    exact Fin.sum_fin_congr fun k => congrArg₂ (fun a b : EReal => a * b) (h1 k) (v1 k e)
  · intro e
    pointwise
    exact Fin.sum_fin_congr fun k => congrArg₂ (fun a b : EReal => a * b) (h2 k) (v2 k e)
  · intro e
    pointwise
    exact Fin.sum_fin_congr fun k => congrArg₂ (fun a b : EReal => a * b) (h3 k) (v3 k e)
  · pointwise

theorem out (c : Dev nD) (hr : ∀ (s : Fin 4096) (q : Fin 512), ∃ r : ℝ, (show EReal from m ((c : Thread nD τ).loc main_arg0) (ix3 0 s ⟨2048 + q.val, by omega⟩)) = r) :
    (dats m 0 c).arrAt 4 (cfgs 0).N = Cert.PoolFwdReferenceIdeal.Read.val_main_v78 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨i, q, rfl⟩ : ∃ (i q : Fin 512), y = ix2 i q := ⟨y 0, y 1, eq_ix2 y⟩
  have ht : t.val < 8 := lt_of_lt_of_eq t.isLt N_0
  obtain ⟨j, hj⟩ : ∃ j : Fin 4096, j.val = t.val * 512 + i.val := ⟨⟨t.val * 512 + i.val, by omega⟩, rfl⟩
  have e : ((cfg0.win 4).blk t).view.emb (ix2 i q) = (ix2 j q : S4096x512.Idx) := by blk_ext [idx t]
  refine Eq.trans ?_ ((congrArg _ e).trans (mixedR _ hr _ _ j q)).symm
  have P := pooled_rows (m ((c : Thread nD τ).loc main_arg0)) t.val ht (grid0.coords t) (coords_val t) (iblk m c 0 t) (iblk m c 1 t) (fun n q => in0 m c t n q) (fun h n q => in1 m c t h n q) i
  rw [after0_4]
  frame_out
  have e12 : k0_pay12 (grid0.coords t) (iblk m c 0 t) (iblk m c 1 t) (iblk m c 2 t) (iblk m c 3 t) = k0_pay2 (iblk m c 0 t) := by
    unfold k0_pay12
    rw [View.ld_unit_lit (S := S512x512) _ (iblk m c 0 t) (by decide)]
  have e13 : k0_pay13 (grid0.coords t) (iblk m c 0 t) (iblk m c 1 t) (iblk m c 2 t) (iblk m c 3 t) = k0_pay4 (grid0.coords t) := rfl
  rw [e12, e13, pay2, pay3]
  refine (tileK _ _ _ _ _ _ _ _ _ (pooled (m ((c : Thread nD τ).loc main_arg0)) (t.val * 512 + i)) (fun g k e => m ((c : Thread nD τ).loc main_arg1) (ix4 0 g k e)) i q ?_ ?_ ?_ ?_ ?_ ?_ ?_ ?_).trans ?_
  · exact fun k => (congrFun (pay0 (grid0.coords t) (iblk m c 0 t) (iblk m c 1 t)) (ix2 i k)).trans (P k).1
  · exact fun k => (congrFun (pay1 (grid0.coords t) (iblk m c 0 t) (iblk m c 1 t)) (ix2 i k)).trans (P k).2.1
  · exact fun k => (P k).2.2.1
  · exact fun k => (P k).2.2.2
  · exact fun k e => Eq.trans (by pointwise) (in2 m c t 0 k e)
  · exact fun k e => Eq.trans (by pointwise) (in2 m c t 1 k e)
  · exact fun k e => Eq.trans (by pointwise) (in2 m c t 2 k e)
  · exact fun k e => Eq.trans (by pointwise) (in2 m c t 3 k e)
  · rw [in3, hj.symm]
    unfold mixed
    rfl

end Cert.PoolFwdKernelIdeal.Val

end
-- ==== Proof.PoolFwd.lean ====
module

public import proofs.«01_k».proof.Defs
public import proofs.«01_k».proof.Proof.Gen.PoolFwdReferenceIdeal.Run
public import proofs.«01_k».proof.Proof.PoolFwdValue

@[expose] public section

noncomputable section

open Idealize.ShloMosaic Idealize.SL.Sem

namespace Cert.PoolFwd

/-- The pooled columns of the argument are real numbers. -/
theorem real [Cert.Pre_finite_poolf.Facts] (m : (ℓ : Loc Cert.PoolFwdKernelIdeal.nD Cert.PoolFwdKernelIdeal.τ Cert.PoolFwdKernelIdeal.sig) → Buf (Elt Ideal) ℓ)
    (hp : Cert.Pre_PoolFwdKernelIdeal_finite_poolf m) (c : Dev Cert.PoolFwdKernelIdeal.nD) (s : Fin 4096) (q : Fin 512) :
    ∃ r : ℝ, (show EReal from m ((c.tc).loc Cert.PoolFwdKernelIdeal.main_arg0) (ix3 0 s ⟨2048 + q.val, by omega⟩)) = r := by
  obtain ⟨r, hr⟩ := Norm.real_of_finite (congrFun (hp c) (ix3 0 s q))
  refine ⟨r, (extractStridedSlice_apply _ _ _ (ix3 0 s q) _ ?_).symm.trans hr⟩
  intro a
  match a with
  | ⟨0, _⟩ => rfl
  | ⟨1, _⟩ => exact (Nat.zero_add _).symm
  | ⟨2, _⟩ => rfl

/-- Where the pooled columns are finite, the kernel of the pooling computes what the reference computes. -/
theorem algebraic [Cert.Pre_finite_poolf.Facts] : Cert.algebraic_PoolFwdKernelIdeal_PoolFwdReferenceIdeal_pre_finite_poolf := by
  intro m g m' g' hp h
  refine ⟨fun c => (Cert.PoolFwdKernelIdeal.Gen.dats m 0 c).arrAt 4 (Cert.PoolFwdKernelIdeal.cfgs 0).N,
    (θ_run _ _ _).mono (fun r hr c => hr c) (Cert.PoolFwdKernelIdeal.Value.run_blocks m g),
    (θ_run _ _ _).mono (fun r hr c => ?_) (Cert.PoolFwdReferenceIdeal.Value.run m' g')⟩
  obtain ⟨h0, h1, h2⟩ := h c
  obtain ⟨r0, ra⟩ := hr c
  refine ⟨r0.trans ?_, ra⟩
  · refine (Cert.PoolFwdReferenceIdeal.Read.val_main_v78_eq _ _).trans ?_
    rewrite [h0, h1, h2]
    exact (Cert.PoolFwdKernelIdeal.Val.out m c (real m hp c)).symm

/-- The reference terminates, leaves its arguments as they were and has no semaphore. -/
theorem frameReference : Cert.quiescent_PoolFwdReferenceIdeal := by
  intro m ρ _
  exact (θ_run _ _ _).mono (fun r h => ⟨fun c => (h c).2, sem_eq_zero_of_no_sems (by decide) r.2⟩)
    (Cert.PoolFwdReferenceIdeal.Value.run m ρ)

end Cert.PoolFwd

end
-- ==== Proof.Tn.lean ====
module

public import proofs.«01_k».proof.Defs
public import proofs.«01_k».proof.Proof.Gen.TnKernelIdeal.Value
public import proofs.«01_k».proof.Proof.Gen.TnReferenceIdeal.Run
public import proofs.«01_k».proof.Proof.Gen.TnReferenceIdeal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.TnKernelIdeal.Val

open Cert.TnKernelIdeal Cert.TnKernelIdeal.Gen Cert.TnReferenceIdeal.Read

variable (m : (ℓ : Loc nD τ sig) → Buf (Elt Ideal) ℓ)

theorem idx : ∀ t : Fin cfg0.N, win0_0.index t = ![0, 0] ∧ win0_1.index t = ![0, t.val] ∧ win0_2.index t = ![t.val, 0, 0] :=
  (by decide +kernel : ∀ t : Fin grid0.N, _)

/-- The reference's gradient, in the chips' columns. -/
theorem gradR (A : FVec Ideal S4096x1024 .bf16) (B : FVec Ideal S4096x4096 .bf16) (q : Fin 4) (r e : Fin 1024) (d : Fin 4096) (hd : d.val = q.val * 1024 + e.val) :
    val_main_v7 (F := Ideal) A B (ix3 q r e) = ∑ k : Fin 4096, A (ix2 k r) * B (ix2 k d) := by
  pointwise [val_main_v7, val_main_v6, val_main_v5, val_main_v4, val_main_v3, val_main_v1]
  have hlt : q.val * 1024 + e.val < 4096 := by omega
  obtain rfl : d = ⟨q.val * 1024 + e.val, hlt⟩ := Fin.ext hd
  exact Finset.sum_congr rfl fun k _ => mul_comm _ _

theorem in0 (c : Dev nD) (t : Fin cfg0.N) (k : Fin 4096) (r : Fin 1024) : iblk m c 0 t (ix2 k r) = m ((c : Thread nD τ).loc main_arg0) (ix2 k r) := by
  blk_point [iblk, V, idx t]

theorem in1 (c : Dev nD) (t : Fin cfg0.N) (k : Fin 4096) (e : Fin 1024) (d : Fin 4096) (hd : d.val = t.val * 1024 + e.val) : iblk m c 1 t (ix2 k e) = m ((c : Thread nD τ).loc main_arg1) (ix2 k d) := by
  blk_point [iblk, V, idx t]

theorem gradK (a b : Vec Ideal S4096x1024 .bf16) (r e : Fin 1024) : (k0_pay1 a b : FVec Ideal S1x1024x1024 .f32) (ix3 0 r e) = ∑ k : Fin 4096, a (ix2 k r) * b (ix2 k e) := by
  pointwise [k0_pay1]

theorem out (c : Dev nD) : (dats m 0 c).arrAt 2 (cfgs 0).N = val_main_v7 (F := Ideal) (m ((c : Thread nD τ).loc main_arg0)) (m ((c : Thread nD τ).loc main_arg1)) := by
  refine (dats m 0 c).arrAt_eq_of_covers 2 _ (by decide +kernel) fun t _ y => ?_
  obtain ⟨z, r, e, rfl⟩ : ∃ (z : Fin 1) (r e : Fin 1024), y = ix3 z r e := ⟨y 0, y 1, y 2, eq_ix3 y⟩
  obtain rfl : z = 0 := Subsingleton.elim _ _
  have ht : t.val < 4 := lt_of_lt_of_eq t.isLt N_0
  have e' : ((cfg0.win 2).blk t).view.emb (ix3 0 r e) = (ix3 (⟨t.val, ht⟩ : Fin 4) r e : S4x1024x1024.Idx) := by blk_ext [idx t]
  refine Eq.trans ?_ ((congrArg _ e').trans (gradR _ _ ⟨t.val, ht⟩ r e ⟨t.val * 1024 + e.val, by omega⟩ rfl)).symm
  rw [after0_2]
  frame_out
  refine (gradK _ _ r e).trans ?_
  simp only [in0, in1 m c t _ e ⟨t.val * 1024 + e.val, by omega⟩ rfl]

end Cert.TnKernelIdeal.Val

namespace Cert.Tn

/-- The kernel of the weight gradient computes what the reference computes. -/
theorem algebraic : Cert.algebraic_TnKernelIdeal_TnReferenceIdeal := by
  intro m g m' g' _ h
  refine ⟨fun c => (Cert.TnKernelIdeal.Gen.dats m 0 c).arrAt 2 (Cert.TnKernelIdeal.cfgs 0).N,
    (θ_run _ _ _).mono (fun r hr c => hr c) (Cert.TnKernelIdeal.Value.run_blocks m g),
    (θ_run _ _ _).mono (fun r hr c => ?_) (Cert.TnReferenceIdeal.Value.run m' g')⟩
  obtain ⟨h0, h1⟩ := h c
  obtain ⟨r0, ra⟩ := hr c
  refine ⟨r0.trans ?_, ra⟩
  refine (Cert.TnReferenceIdeal.Read.val_main_v7_eq _ _).trans ?_
  rewrite [h0, h1]
  exact (Cert.TnKernelIdeal.Val.out m c).symm

/-- The reference terminates, leaves its arguments as they were and has no semaphore. -/
theorem frameReference : Cert.quiescent_TnReferenceIdeal := by
  intro m ρ _
  exact (θ_run _ _ _).mono (fun r h => ⟨fun c => (h c).2, sem_eq_zero_of_no_sems (by decide) r.2⟩)
    (Cert.TnReferenceIdeal.Value.run m ρ)

end Cert.Tn

end
-- ==== Proof.ChAdd.lean ====
module

public import proofs.«01_k».proof.Defs
public import proofs.«01_k».proof.Proof.Gen.ChAddKernelIdeal.Value
public import proofs.«01_k».proof.Proof.Gen.ChAddReferenceIdeal.Run
public import proofs.«01_k».proof.Proof.Gen.ChAddReferenceIdeal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.ChAddKernelIdeal.Val

open Cert.ChAddKernelIdeal Cert.ChAddKernelIdeal.Gen Cert.ChAddReferenceIdeal.Read

variable (m : (ℓ : Loc nD τ sig) → Buf (Elt Ideal) ℓ)

theorem idx : ∀ t : Fin cfg0.N, win0_0.index t = ![t.val, 0] ∧ win0_1.index t = ![0, t.val, 0] ∧ win0_2.index t = ![t.val, 0] :=
  (by decide +kernel : ∀ t : Fin grid0.N, _)

theorem sumR (K : FVec Ideal S512x1024 .f32) (G : FVec Ideal S3x512x1024 .bf16) (j : Fin 512) (d : Fin 1024) :
    val_main_v2 (F := Ideal) K G (ix2 j d) = K (ix2 j d) + ∑ q : Fin 3, G (ix3 q j d) := by
  pointwise [val_main_v2, val_main_v1, val_main_v0, val_main_cst]

theorem in0 (c : Dev nD) (t : Fin cfg0.N) (i : Fin 256) (d : Fin 1024) (j : Fin 512) (hj : j.val = t.val * 256 + i.val) : iblk m c 0 t (ix2 i d) = m ((c : Thread nD τ).loc main_arg0) (ix2 j d) := by
  blk_point [iblk, V, idx t]

theorem in1 (c : Dev nD) (t : Fin cfg0.N) (q : Fin 3) (i : Fin 256) (d : Fin 1024) (j : Fin 512) (hj : j.val = t.val * 256 + i.val) : iblk m c 1 t (ix3 q i d) = m ((c : Thread nD τ).loc main_arg1) (ix3 q j d) := by
  blk_point [iblk, V, idx t]

theorem sumK (k : Vec Ideal S256x1024 .f32) (g : Vec Ideal S3x256x1024 .bf16) (i : Fin 256) (d : Fin 1024) :
    (k0_pay1 k (View.ld g r0_1) (View.ld g r0_2) (View.ld g r0_3) : FVec Ideal S256x1024 .f32) (ix2 i d) = k (ix2 i d) + ∑ q : Fin 3, g (ix3 q i d) := by
  rw [Fin.sum_univ_three, ← add_assoc, ← add_assoc]
  pointwise [k0_pay1]

theorem out (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t _ y => ?_
  obtain ⟨i, d, rfl⟩ : ∃ (i : Fin 256) (d : Fin 1024), y = ix2 i d := ⟨y 0, y 1, eq_ix2 y⟩
  have ht : t.val < 2 := lt_of_lt_of_eq t.isLt N_0
  have e : ((cfg0.win 2).blk t).view.emb (ix2 i d) = (ix2 (⟨t.val * 256 + i.val, by omega⟩ : Fin 512) d : S512x1024.Idx) := by blk_ext [idx t]
  refine Eq.trans ?_ ((congrArg _ e).trans (sumR _ _ _ d)).symm
  rw [after0_2]
  frame_out
  refine (sumK _ _ i d).trans ?_
  simp only [in0 m c t i d ⟨t.val * 256 + i.val, by omega⟩ rfl, in1 m c t _ i d ⟨t.val * 256 + i.val, by omega⟩ rfl]

end Cert.ChAddKernelIdeal.Val

namespace Cert.ChAdd

/-- The kernel of the chips' sum computes what the reference computes. -/
theorem algebraic : Cert.algebraic_ChAddKernelIdeal_ChAddReferenceIdeal := by
  intro m g m' g' _ h
  refine ⟨fun c => (Cert.ChAddKernelIdeal.Gen.dats m 0 c).arrAt 2 (Cert.ChAddKernelIdeal.cfgs 0).N,
    (θ_run _ _ _).mono (fun r hr c => hr c) (Cert.ChAddKernelIdeal.Value.run_blocks m g),
    (θ_run _ _ _).mono (fun r hr c => ?_) (Cert.ChAddReferenceIdeal.Value.run m' g')⟩
  obtain ⟨h0, h1⟩ := h c
  obtain ⟨r0, ra⟩ := hr c
  refine ⟨r0.trans ?_, ra⟩
  refine (Cert.ChAddReferenceIdeal.Read.val_main_v2_eq _ _).trans ?_
  rewrite [h0, h1]
  exact (Cert.ChAddKernelIdeal.Val.out m c).symm

/-- The reference terminates, leaves its arguments as they were and has no semaphore. -/
theorem frameReference : Cert.quiescent_ChAddReferenceIdeal := by
  intro m ρ _
  exact (θ_run _ _ _).mono (fun r h => ⟨fun c => (h c).2, sem_eq_zero_of_no_sems (by decide) r.2⟩)
    (Cert.ChAddReferenceIdeal.Value.run m ρ)

end Cert.ChAdd

end
-- ==== Proof.Adam.lean ====
module

public import proofs.«01_k».proof.Defs
public import proofs.«01_k».proof.Proof.Gen.AdamKernel.Frame
public import proofs.«01_k».proof.Proof.Gen.AdamKernelIdeal.Frame
public import proofs.«01_k».proof.Proof.Gen.AdamReferenceIdeal.Run
public import proofs.«01_k».proof.Proof.Gen.AdamReferenceIdeal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.AdamKernelIdeal.Val

open Cert.AdamKernelIdeal Cert.AdamKernelIdeal.Gen Cert.AdamReferenceIdeal.Read

variable (m : (ℓ : Loc nD τ sig) → Buf (Elt Ideal) ℓ)

/-- The table is read by no block index. -/
theorem ok : Ok m := by
  unfold Ok ok0; trivial

/-- The block a point takes of each array. -/
theorem idx (hO : Ok m) : ∀ t : Fin (cfgM m hO).N,
    ((cfgM m hO).win 0).index t = ![t.val % 2, 0] ∧ ((cfgM m hO).win 1).index t = ![t.val % 2, 0] ∧ ((cfgM m hO).win 2).index t = ![t.val, 0]
      ∧ ((cfgM m hO).win 3).index t = ![t.val, 0] ∧ ((cfgM m hO).win 4).index t = ![t.val, 0] ∧ ((cfgM m hO).win 5).index t = ![t.val, 0]
      ∧ ((cfgM m hO).win 6).index t = ![t.val, 0] ∧ ((cfgM m hO).win 7).index t = ![t.val, 0] ∧ ((cfgM m hO).win 8).index t = ![t.val, 0] :=
  (by decide +kernel : ∀ t : Fin grid0.N, cc0_transform_0 (grid0.coords t) = ![t.val % 2, 0] ∧ cc0_transform_1 (grid0.coords t) = ![t.val % 2, 0]
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0] ∧ cc0_transform_7 (grid0.coords t) = ![t.val, 0]
    ∧ cc0_transform_8 (grid0.coords t) = ![t.val, 0])

/-- The blocks of a result cover it. -/
theorem covers5 (hO : Ok m) : ((cfgM m hO).win 5).Covers := by
  have b0 : ((cfgM m hO).win 5).nblk (0 : Fin 2) = 4 := by
    show (S1024x1024.size 0 + S256x1024.size 0 - 1) / S256x1024.size 0 = 4
    decide
  have b1 : ((cfgM m hO).win 5).nblk (1 : Fin 2) = 1 := by
    show (S1024x1024.size 1 + S256x1024.size 1 - 1) / S256x1024.size 1 = 1
    decide
  refine ⟨(by decide : ∀ a : Fin 2, 0 < S256x1024.size a), fun β => ⟨⟨(β (0 : Fin 2)).val, ((β (0 : Fin 2)).isLt.trans_eq b0).trans_eq N_0.symm⟩, flush0_5 _ _, fun a => ⟨?_, Or.inl ?_⟩⟩⟩
  · rw [(idx m hO _).2.2.2.2.2.1]
    match a with
    | ⟨0, _⟩ => rfl
    | ⟨1, _⟩ => exact (Nat.lt_one_iff.mp ((β (1 : Fin 2)).isLt.trans_eq b1)).symm
  · rfl

theorem covers6 (hO : Ok m) : ((cfgM m hO).win 6).Covers := covers5 m hO
theorem covers7 (hO : Ok m) : ((cfgM m hO).win 7).Covers := covers5 m hO
theorem covers8 (hO : Ok m) : ((cfgM m hO).win 8).Covers := covers5 m hO

theorem in0 (hO : Ok m) (c : Dev nD) (t : Fin (cfgM m hO).N) (i : Fin 256) (e : Fin 1024) (r : Fin 512) (hr : r.val = t.val % 2 * 256 + i.val) : iblk m hO c 0 t (ix2 i e) = m ((c : Thread nD τ).loc main_arg0) (ix2 r e) := by
  blk_point [iblk, V, idx m hO t]

theorem in1 (hO : Ok m) (c : Dev nD) (t : Fin (cfgM m hO).N) (i : Fin 256) (e : Fin 1024) (r : Fin 512) (hr : r.val = t.val % 2 * 256 + i.val) : iblk m hO c 1 t (ix2 i e) = m ((c : Thread nD τ).loc main_arg1) (ix2 r e) := by
  blk_point [iblk, V, idx m hO t]

theorem in2 (hO : Ok m) (c : Dev nD) (t : Fin (cfgM m hO).N) (i : Fin 256) (e d : Fin 1024) (hd : d.val = t.val * 256 + i.val) : iblk m hO c 2 t (ix2 i e) = m ((c : Thread nD τ).loc main_arg2) (ix2 d e) := by
  blk_point [iblk, V, idx m hO t]

theorem in3 (hO : Ok m) (c : Dev nD) (t : Fin (cfgM m hO).N) (i : Fin 256) (e d : Fin 1024) (hd : d.val = t.val * 256 + i.val) : iblk m hO c 3 t (ix2 i e) = m ((c : Thread nD τ).loc main_arg3) (ix2 d e) := by
  blk_point [iblk, V, idx m hO t]

theorem in4 (hO : Ok m) (c : Dev nD) (t : Fin (cfgM m hO).N) (i : Fin 256) (e d : Fin 1024) (hd : d.val = t.val * 256 + i.val) : iblk m hO c 4 t (ix2 i e) = m ((c : Thread nD τ).loc main_arg4) (ix2 d e) := by
  blk_point [iblk, V, idx m hO t]

/-- A choice by a comparison of words. -/
theorem select_eq {α : Type} (x y : BitVec 32) (a b : α) : Scalar.select (IntOp.cmpi .eq x y) a b = if x = y then a else b := by
  by_cases h : x = y
  · simp [Scalar.select, IntOp.cmpi, h]
  · have e : (x == y) = false := by simpa using h
    simp [Scalar.select, IntOp.cmpi, e, h]

/-- The gradient the reference takes: a half's rows are the core's own where the table names that half. -/
theorem gradR (A B : FVec Ideal S512x1024 .f32) (T : IVec S5 32) (h : Fin 2) (r : Fin 512) (e d : Fin 1024) (hd : d.val = h.val * 512 + r.val) :
    val_main_v8 (F := Ideal) A B T (ix2 d e) = if BitVec.ofNat 32 h.val = T (ix1 0) then A (ix2 r e) else B (ix2 r e) := by
  pointwise [val_main_v8, val_main_v7, val_main_v3, val_main_v6, val_main_v2, val_main_v5, val_main_v1, val_main_v4, val_main_v0, val_main_c, val_main_c_0]
  match h with
  | 0 =>
    have hr : d.val = r.val := by simpa using hd
    rw [dif_pos (by omega)]
    simp only [hr, select_eq, eq_comm (a := T (ix1 0))]
    rfl
  | 1 =>
    have hr : d.val - 512 = r.val := by simp at hd; omega
    rw [dif_neg (by simp at hd; omega)]
    simp only [hr, select_eq, eq_comm (a := T (ix1 0))]
    rfl

/-- Which half a block of rows lies in. -/
theorem gradK (t : Fin grid0.N) (v : BitVec 32) (a b : Vec Ideal S256x1024 .f32) :
    k0_pay3 (F := Ideal) (grid0.coords t) v a b = if BitVec.ofNat 32 (t.val / 2) = v then a else b := by
  have e : k0_pay3 (F := Ideal) (grid0.coords t) v a b = Scalar.select (Scalar.cmpi .eq (BitVec.ofNat 32 (t.val / 2)) v) a b := by
    obtain rfl | rfl | rfl | rfl := fin_N0 t <;> rfl
  exact e.trans (select_eq _ _ a b)

/-- The table's first word, as the body reads it. -/
theorem word (T : IVec S5 32) (h : 0 < (Rect.unit (s := S5) ![0] ![1] inb_S5_S1_0).shape.numel) :
    View.ld (View.read (Elt Ideal) (View.whole main_arg5) T) (Rect.unit ![0] ![1] inb_S5_S1_0) (Shape.Idx.first h) = T (ix1 0) := by
  refine congrArg T (funext fun a => Fin.ext ?_)
  match a with
  | ⟨0, _⟩ =>
    rfl

section
variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole)
  (x0 x1 x2 x3 x4 : Vec Ideal S256x1024 .f32) (T : IVec S5 32)

theorem out5 : out0_A_5 (F := Ideal) c i arg2 harg2 arg3 harg3 arg4 harg4 arg5 harg5 arg6 harg6 arg7 harg7 arg8 harg8 arg9 harg9 arg10 harg10 x0 x1 x2 x3 x4 T = k0_pay3 i (T (ix1 0)) x0 x1 := by
  funext y
  frame_out
  rw [word]

theorem out6 : out0_A_6 (F := Ideal) c i arg2 harg2 arg3 harg3 arg4 harg4 arg5 harg5 arg6 harg6 arg7 harg7 arg8 harg8 arg9 harg9 arg10 harg10 x0 x1 x2 x3 x4 T
    = k0_pay2 x2 (k0_pay4 i (T (ix1 0)) x0 x1 x3) (k0_pay5 x4) (k0_pay6 i (T (ix1 0)) x0 x1) (Scalar.ofBits .f32 0x3A83126F#32) := by
  funext y
  frame_out
  rw [word]

theorem out7 : out0_A_7 (F := Ideal) c i arg2 harg2 arg3 harg3 arg4 harg4 arg5 harg5 arg6 harg6 arg7 harg7 arg8 harg8 arg9 harg9 arg10 harg10 x0 x1 x2 x3 x4 T = k0_pay4 i (T (ix1 0)) x0 x1 x3 := by
  funext y
  frame_out
  rw [word]

theorem out8 : out0_A_8 (F := Ideal) c i arg2 harg2 arg3 harg3 arg4 harg4 arg5 harg5 arg6 harg6 arg7 harg7 arg8 harg8 arg9 harg9 arg10 harg10 x0 x1 x2 x3 x4 T
    = k0_pay1 (k0_pay5 x4) (k0_pay6 i (T (ix1 0)) x0 x1) (Scalar.ofBits .f32 0x3A83126F#32) := by
  funext y
  frame_out
  rw [word]

end

section
variable (p : grid0.Coords) (v : BitVec 32) (x0 x1 x2 x3 x4 : Vec Ideal S256x1024 .f32) (A B : FVec Ideal S512x1024 .f32)
  (W M N : FVec Ideal S1024x1024 .f32) (T : IVec S5 32) (i : Fin 256) (e d : Fin 1024)
  (hg : k0_pay3 p v x0 x1 (ix2 i e) = val_main_v8 (F := Ideal) A B T (ix2 d e))
include hg

/-- The step's first moment, of equal gradients. -/
theorem pay_m (h3 : x3 (ix2 i e) = M (ix2 d e)) : k0_pay4 p v x0 x1 x3 (ix2 i e) = val_main_v13 (F := Ideal) A B M T (ix2 d e) := by
  pointwise [k0_pay4, val_main_v13, val_main_v12, val_main_v11, val_main_v10, val_main_v9, val_main_cst, val_main_cst_1]
  rw [hg, h3]

/-- Its second moment. -/
theorem pay_v (h4 : x4 (ix2 i e) = N (ix2 d e)) :
    k0_pay1 (k0_pay5 x4) (k0_pay6 p v x0 x1) (Scalar.ofBits .f32 0x3A83126F#32) (ix2 i e) = val_main_v19 (F := Ideal) A B N T (ix2 d e) := by
  pointwise [k0_pay1, k0_pay5, k0_pay6, val_main_v19, val_main_v18, val_main_v17, val_main_v16, val_main_v15, val_main_v14, val_main_cst_2, val_main_cst_3]
  rw [hg, h4]

/-- The step itself. -/
theorem pay_d (h2 : x2 (ix2 i e) = W (ix2 d e)) (h3 : x3 (ix2 i e) = M (ix2 d e)) (h4 : x4 (ix2 i e) = N (ix2 d e)) :
    k0_pay2 x2 (k0_pay4 p v x0 x1 x3) (k0_pay5 x4) (k0_pay6 p v x0 x1) (Scalar.ofBits .f32 0x3A83126F#32) (ix2 i e)
      = val_main_v32 (F := Ideal) A B W M N T (ix2 d e) := by
  have hm := pay_m p v x0 x1 x3 A B M T i e d hg h3
  have hv : k0_pay1 (F := Ideal) (k0_pay5 x4) (k0_pay6 p v x0 x1) (Ideal.ofBits .f32 0x3A83126F#32) (ix2 i e) = _ := pay_v p v x0 x1 x4 A B N T i e d hg h4
  pointwise [k0_pay2, val_main_v32, val_main_v31, val_main_v30, val_main_v29, val_main_v28, val_main_v27, val_main_v26, val_main_v25, val_main_v24, val_main_v23, val_main_v22, val_main_v21, val_main_v20, val_main_cst_4, val_main_cst_5, val_main_cst_6, val_main_cst_7, val_main_cst_8]
  rw [hm, hv, h2]

end

/-- A block of the gradient. -/
theorem grad (hO : Ok m) (c : Dev nD) (t : Fin (cfgM m hO).N) (i : Fin 256) (e d : Fin 1024) (hd : d.val = t.val * 256 + i.val) :
    k0_pay3 (grid0.coords t) ((tbl m 0 : IVec S5 32) (ix1 0)) (iblk m hO c 0 t) (iblk m hO c 1 t) (ix2 i e)
      = val_main_v8 (F := Ideal) (m ((c : Thread nD τ).loc main_arg0)) (m ((c : Thread nD τ).loc main_arg1)) (m ((c : Thread nD τ).loc main_arg5)) (ix2 d e) := by
  have ht : t.val < 4 := lt_of_lt_of_eq t.isLt N_0
  obtain rfl : c = 0 := Subsingleton.elim _ _
  rw [gradR _ _ _ ⟨t.val / 2, by omega⟩ ⟨t.val % 2 * 256 + i.val, by omega⟩ e d (by dsimp only; omega)]
  refine (congrFun (gradK t (m (((0 : Dev nD) : Thread nD τ).loc main_arg5) (ix1 0)) _ _) _).trans ?_
  rw [← in0 m hO 0 t i e ⟨t.val % 2 * 256 + i.val, by omega⟩ rfl, ← in1 m hO 0 t i e ⟨t.val % 2 * 256 + i.val, by omega⟩ rfl]
  exact apply_ite (fun f : Vec Ideal S256x1024 .f32 => f (ix2 i e)) _ _ _

/-- What a point leaves in the gradient's block. -/
theorem after5 (hO : Ok m) (c : Dev nD) (t : Fin (cfgM m hO).N) : (dats m hO 0 c).after 5 t = k0_pay3 (F := Ideal) (grid0.coords t) ((tbl m 0 : IVec S5 32) (ix1 0)) (iblk m hO c 0 t) (iblk m hO c 1 t) := by
  rw [after0_5]
  unfold outsAt0
  dsimp only
  have h := out5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)
  rw [h]

theorem emb5 (hO : Ok m) (t : Fin (cfgM m hO).N) (i : Fin 256) (e d : Fin 1024) (hd : d.val = t.val * 256 + i.val) : (((cfgM m hO).win 5).blk t).view.emb (ix2 i e) = (ix2 d e : S1024x1024.Idx) := by
  blk_ext [idx m hO t]

/-- The gradient the kernel leaves. -/
theorem end5 (hO : Ok m) (c : Dev nD) : (dats m hO 0 c).arrAt 5 (cfgM m hO).N = val_main_v8 (F := Ideal) (m ((c : Thread nD τ).loc main_arg0)) (m ((c : Thread nD τ).loc main_arg1)) (m ((c : Thread nD τ).loc main_arg5)) := by
  refine (dats m hO 0 c).arrAt_eq_of_covers 5 _ (covers5 m hO) fun t _ (y : S256x1024.Idx) => ?_
  obtain ⟨i, e, rfl⟩ : ∃ (i : Fin 256) (e : Fin 1024), y = ix2 i e := ⟨y 0, y 1, eq_ix2 y⟩
  have ht : t.val < 4 := lt_of_lt_of_eq t.isLt N_0
  refine Eq.trans ?_ (congrArg _ (emb5 m hO t i e ⟨t.val * 256 + i.val, by omega⟩ rfl)).symm
  rw [after5]
  exact grad m hO c t i e _ rfl

/-- What a point leaves in the step's block. -/
theorem after6 (hO : Ok m) (c : Dev nD) (t : Fin (cfgM m hO).N) : (dats m hO 0 c).after 6 t = k0_pay2 (F := Ideal) (iblk m hO c 2 t) (k0_pay4 (grid0.coords t) ((tbl m 0 : IVec S5 32) (ix1 0)) (iblk m hO c 0 t) (iblk m hO c 1 t) (iblk m hO c 3 t)) (k0_pay5 (iblk m hO c 4 t)) (k0_pay6 (grid0.coords t) ((tbl m 0 : IVec S5 32) (ix1 0)) (iblk m hO c 0 t) (iblk m hO c 1 t)) (Scalar.ofBits .f32 0x3A83126F#32) := by
  rw [after0_6]
  unfold outsAt0
  dsimp only
  have h := out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)
  rw [h]

theorem emb6 (hO : Ok m) (t : Fin (cfgM m hO).N) (i : Fin 256) (e d : Fin 1024) (hd : d.val = t.val * 256 + i.val) : (((cfgM m hO).win 6).blk t).view.emb (ix2 i e) = (ix2 d e : S1024x1024.Idx) := by
  blk_ext [idx m hO t]

/-- The step the kernel leaves. -/
theorem end6 (hO : Ok m) (c : Dev nD) : (dats m hO 0 c).arrAt 6 (cfgM m hO).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers6 m hO) fun t _ (y : S256x1024.Idx) => ?_
  obtain ⟨i, e, rfl⟩ : ∃ (i : Fin 256) (e : Fin 1024), y = ix2 i e := ⟨y 0, y 1, eq_ix2 y⟩
  have ht : t.val < 4 := lt_of_lt_of_eq t.isLt N_0
  refine Eq.trans ?_ (congrArg _ (emb6 m hO t i e ⟨t.val * 256 + i.val, by omega⟩ rfl)).symm
  rw [after6]
  exact pay_d _ _ _ _ _ _ _ _ _ _ _ _ _ _ _ _ (grad m hO c t i e _ rfl) (in2 m hO c t i e _ rfl) (in3 m hO c t i e _ rfl) (in4 m hO c t i e _ rfl)

/-- What a point leaves in the first moment's block. -/
theorem after7 (hO : Ok m) (c : Dev nD) (t : Fin (cfgM m hO).N) : (dats m hO 0 c).after 7 t = k0_pay4 (F := Ideal) (grid0.coords t) ((tbl m 0 : IVec S5 32) (ix1 0)) (iblk m hO c 0 t) (iblk m hO c 1 t) (iblk m hO c 3 t) := by
  rw [after0_7]
  unfold outsAt0
  dsimp only
  have h := out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)
  rw [h]

theorem emb7 (hO : Ok m) (t : Fin (cfgM m hO).N) (i : Fin 256) (e d : Fin 1024) (hd : d.val = t.val * 256 + i.val) : (((cfgM m hO).win 7).blk t).view.emb (ix2 i e) = (ix2 d e : S1024x1024.Idx) := by
  blk_ext [idx m hO t]

/-- The first moment the kernel leaves. -/
theorem end7 (hO : Ok m) (c : Dev nD) : (dats m hO 0 c).arrAt 7 (cfgM m hO).N = val_main_v13 (F := Ideal) (m ((c : Thread nD τ).loc main_arg0)) (m ((c : Thread nD τ).loc main_arg1)) (m ((c : Thread nD τ).loc main_arg3)) (m ((c : Thread nD τ).loc main_arg5)) := by
  refine (dats m hO 0 c).arrAt_eq_of_covers 7 _ (covers7 m hO) fun t _ (y : S256x1024.Idx) => ?_
  obtain ⟨i, e, rfl⟩ : ∃ (i : Fin 256) (e : Fin 1024), y = ix2 i e := ⟨y 0, y 1, eq_ix2 y⟩
  have ht : t.val < 4 := lt_of_lt_of_eq t.isLt N_0
  refine Eq.trans ?_ (congrArg _ (emb7 m hO t i e ⟨t.val * 256 + i.val, by omega⟩ rfl)).symm
  rw [after7]
  exact pay_m _ _ _ _ _ _ _ _ _ _ _ _ (grad m hO c t i e _ rfl) (in3 m hO c t i e _ rfl)

/-- What a point leaves in the second moment's block. -/
theorem after8 (hO : Ok m) (c : Dev nD) (t : Fin (cfgM m hO).N) : (dats m hO 0 c).after 8 t = k0_pay1 (F := Ideal) (k0_pay5 (iblk m hO c 4 t)) (k0_pay6 (grid0.coords t) ((tbl m 0 : IVec S5 32) (ix1 0)) (iblk m hO c 0 t) (iblk m hO c 1 t)) (Scalar.ofBits .f32 0x3A83126F#32) := by
  rw [after0_8]
  unfold outsAt0
  dsimp only
  have h := out8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)
  rw [h]

theorem emb8 (hO : Ok m) (t : Fin (cfgM m hO).N) (i : Fin 256) (e d : Fin 1024) (hd : d.val = t.val * 256 + i.val) : (((cfgM m hO).win 8).blk t).view.emb (ix2 i e) = (ix2 d e : S1024x1024.Idx) := by
  blk_ext [idx m hO t]

/-- The second moment the kernel leaves. -/
theorem end8 (hO : Ok m) (c : Dev nD) : (dats m hO 0 c).arrAt 8 (cfgM m hO).N = val_main_v19 (F := Ideal) (m ((c : Thread nD τ).loc main_arg0)) (m ((c : Thread nD τ).loc main_arg1)) (m ((c : Thread nD τ).loc main_arg4)) (m ((c : Thread nD τ).loc main_arg5)) := by
  refine (dats m hO 0 c).arrAt_eq_of_covers 8 _ (covers8 m hO) fun t _ (y : S256x1024.Idx) => ?_
  obtain ⟨i, e, rfl⟩ : ∃ (i : Fin 256) (e : Fin 1024), y = ix2 i e := ⟨y 0, y 1, eq_ix2 y⟩
  have ht : t.val < 4 := lt_of_lt_of_eq t.isLt N_0
  refine Eq.trans ?_ (congrArg _ (emb8 m hO t i e ⟨t.val * 256 + i.val, by omega⟩ rfl)).symm
  rw [after8]
  exact pay_v _ _ _ _ _ _ _ _ _ _ _ _ (grad m hO c t i e _ rfl) (in4 m hO c t i e _ rfl)

end Cert.AdamKernelIdeal.Val

namespace Cert.Adam

open Cert.AdamKernelIdeal.Val

/-- The kernel of the optimiser's step computes what the reference computes. -/
theorem algebraic : Cert.algebraic_AdamKernelIdeal_AdamReferenceIdeal := by
  intro m g m' g' _ h
  have hO := ok m
  refine ⟨fun c => (Cert.AdamKernelIdeal.Gen.dats m hO 0 c).arrAt 5 (Cert.AdamKernelIdeal.Gen.cfgM m hO).N, fun c => (Cert.AdamKernelIdeal.Gen.dats m hO 0 c).arrAt 6 (Cert.AdamKernelIdeal.Gen.cfgM m hO).N,
    fun c => (Cert.AdamKernelIdeal.Gen.dats m hO 0 c).arrAt 7 (Cert.AdamKernelIdeal.Gen.cfgM m hO).N, fun c => (Cert.AdamKernelIdeal.Gen.dats m hO 0 c).arrAt 8 (Cert.AdamKernelIdeal.Gen.cfgM m hO).N,
    (θ_run _ _ _).mono (fun r hr c => ⟨(hr.1 c).1 5, (hr.1 c).1 6, (hr.1 c).1 7, (hr.1 c).1 8, hr.2 c⟩)
      (θ_run_and (Cert.AdamKernelIdeal.Gen.run_main m g hO) (Cert.AdamKernelIdeal.Gen.unchanged m g hO)),
    (θ_run _ _ _).mono (fun r hr c => ?_) (Cert.AdamReferenceIdeal.Value.run m' g')⟩
  obtain ⟨h0, h1, h2, h3, h4, h5⟩ := h c
  obtain ⟨r0, r1, r2, r3, ra⟩ := hr c
  refine ⟨r0.trans ?_, r1.trans ?_, r2.trans ?_, r3.trans ?_, ra⟩
  · refine (Cert.AdamReferenceIdeal.Read.val_main_v8_eq _ _ _).trans ?_
    rewrite [h0, h1, h5]
    exact (end5 m hO c).symm
  · refine (Cert.AdamReferenceIdeal.Read.val_main_v32_eq _ _ _ _ _ _).trans ?_
    rewrite [h0, h1, h2, h3, h4, h5]
    exact (end6 m hO c).symm
  · refine (Cert.AdamReferenceIdeal.Read.val_main_v13_eq _ _ _ _).trans ?_
    rewrite [h0, h1, h3, h5]
    exact (end7 m hO c).symm
  · refine (Cert.AdamReferenceIdeal.Read.val_main_v19_eq _ _ _ _).trans ?_
    rewrite [h0, h1, h4, h5]
    exact (end8 m hO c).symm

/-- The kernel terminates, leaves its arguments as they were and its counters at zero. -/
theorem frameKernel : Cert.quiescent_AdamKernel := fun m ρ _ =>
  Cert.AdamKernel.Gen.frame m ρ (by unfold Cert.AdamKernel.Gen.Ok Cert.AdamKernel.ok0; trivial)

/-- So does its ideal reading. -/
theorem frameIdeal : Cert.quiescent_AdamKernelIdeal := fun m ρ _ => Cert.AdamKernelIdeal.Gen.frame m ρ (ok m)

/-- The reference terminates, leaves its arguments as they were and has no semaphore. -/
theorem frameReference : Cert.quiescent_AdamReferenceIdeal := by
  intro m ρ _
  exact (θ_run _ _ _).mono (fun r h => ⟨fun c => (h c).2.2.2.2, sem_eq_zero_of_no_sems (by decide) r.2⟩)
    (Cert.AdamReferenceIdeal.Value.run m ρ)

end Cert.Adam

end
-- ==== Proof.Exchange.lean ====
/-
What the exchanges' proofs share: a schedule in which each semaphore takes one transfer, the opening of those
semaphores at the launch, and the launch itself: a core enters its one kernel, which stages no window, and at the end
holds its argument as launched, its result and its semaphores at zero.
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] {nD : ℕ} {τ : Topo} {sig : RefSig}

local notation "𝕄" => MT nD τ sig Unit (Elt F) ℕ (UR sig nD τ) ℕ

/-- The rounds' ghost state, all of the certificate's own component. -/
abbrev ER : Emb (UR sig nD τ) (MT nD τ sig Unit (Elt F) ℕ (UR sig nD τ) ℕ) := uEmb.toEmb

/-! ## A schedule of one round a cell, one transfer a round -/

section Schedule

/-- Cell `g` is paid `N g` by its one transfer, which hands its owner `pay g`. -/
def sched (N : GSem nD τ sig → ℕ) (hN : ∀ g, 0 < N g) (pay : GSem nD τ sig → sProp 𝕄) : Rounds.Schedule (GSem nD τ sig) Unit 𝕄 where
  duties _ r := if r = 0 then {()} else ∅
  unitless _ := False
  amount g _ _ := N g
  payload g _ _ := pay g
  amount_pos g _ _ _ := hN g

omit [FloatOps F] in
theorem sched_storable {N : GSem nD τ sig → ℕ} {hN : ∀ g, 0 < N g} {pay : GSem nD τ sig → sProp 𝕄} (h : ∀ g, BI.Storable (upEmb : UEmb _ 𝕄) (pay g)) (g : GSem nD τ sig) (r : ℕ) (d : Unit) :
    BI.Storable (upEmb : UEmb _ 𝕄) ((sched N hN pay).payload g r d) := h g

omit [FloatOps F] in
theorem duties_0 {N : GSem nD τ sig → ℕ} {hN : ∀ g, 0 < N g} {pay : GSem nD τ sig → sProp 𝕄} (g : GSem nD τ sig) : (sched N hN pay).duties g 0 = {()} := by dsimp only [sched]; exact if_pos rfl
omit [FloatOps F] in
theorem duties_later {N : GSem nD τ sig → ℕ} {hN : ∀ g, 0 < N g} {pay : GSem nD τ sig → sProp 𝕄} (g : GSem nD τ sig) : ∀ r, 1 ≤ r → (sched N hN pay).duties g r = ∅ := fun r hr => by dsimp only [sched]; exact if_neg (by omega)
omit [FloatOps F] in
theorem expect_0 {N : GSem nD τ sig → ℕ} {hN : ∀ g, 0 < N g} {pay : GSem nD τ sig → sProp 𝕄} (g : GSem nD τ sig) : 0 + N g = (sched N hN pay).expect g 0 := by
  unfold Schedule.expect Schedule.amountOf; rw [duties_0, Finset.sum_singleton, Nat.zero_add]; rfl
omit [FloatOps F] in
theorem rest {N : GSem nD τ sig → ℕ} {hN : ∀ g, 0 < N g} {pay : GSem nD τ sig → sProp 𝕄} (g : GSem nD τ sig) :
    bigSep ((sched N hN pay).duties g 0 \ ∅) (fun u => (sched N hN pay).payload g 0 u) = (sched N hN pay).payload g 0 () := by
  rw [Finset.sdiff_empty, duties_0, bigSep_singleton]

end Schedule

/-! ## The cells of the transfers `J`, two a transfer -/

section Fund

variable {J : Type} [Fintype J] (e : J × Fin 2 ↪ GSem nD τ sig)

def toks : Finset (GSem nD τ sig × ℕ × Unit) :=
  Finset.univ.map ⟨fun x : J × Fin 2 => (e x, 0, ()), fun _ _ h => e.injective (congrArg Prod.fst h)⟩
def u₀ : UR sig nD τ := initOf (Finset.univ.map e) (toks e)

/-- One assertion of each cell of a transfer. -/
abbrev both (Φ : GSem nD τ sig → sProp 𝕄) (j : J) : sProp 𝕄 := iprop(Φ (e (j, 0)) ∗ Φ (e (j, 1)))
abbrev inv (rd : Rounds.Schedule (GSem nD τ sig) Unit 𝕄) (g : GSem nD τ sig) : sProp 𝕄 := iprop(∃ κ : ℕ, cellInv ER rd κ g)

omit [FloatOps F] in
/-- The cells opened: from their counters at zero and the ghost element, their invariants, round 0 reached, and each
    cell's position and token. -/
theorem fund (rd : Rounds.Schedule (GSem nD τ sig) Unit 𝕄) [∀ g r d, BI.Storable (upEmb : UEmb _ 𝕄) (rd.payload g r d)] : iprop(ownU (u₀ e) ∗ bigSep Finset.univ (both (F := F) e fun g => semVal g 0))
    ⊢ (|={Set.univ}=> iprop(bigSep Finset.univ (both e (inv rd)) ∗ bigSep Finset.univ (both e fun g => reached ER g 0)
        ∗ bigSep Finset.univ (both e fun g => atPos ER g 0 ∅ 0) ∗ bigSep Finset.univ (both e fun g => dutyTok ER g 0 ())) : sProp 𝕄) := by
  have hX (Φ : GSem nD τ sig → sProp 𝕄) : bigSep (Finset.univ.map e) Φ = bigSep Finset.univ (both e Φ) := by
    rw [bigSep_map, bigSep_univ_prod]; exact bigSep_congr fun j _ => bigSep_univ_two _
  have hT : bigSep (toks e) (fun x => (dutyTok ER x.1 x.2.1 x.2.2 : sProp 𝕄)) = bigSep Finset.univ (both e fun g => dutyTok ER g 0 ()) := by
    unfold toks; rw [bigSep_map, bigSep_univ_prod]; exact bigSep_congr fun j _ => bigSep_univ_two _
  have hI (g : GSem nD τ sig) : iprop(semVal g 0 ∗ roundState ER rd g 0) ⊢ (|={Set.univ}=> inv rd g : sProp 𝕄) :=
    (Rounds.body_intro ER rd g).trans inv_alloc
  have hIs (j : J) : iprop(both e (fun g => semVal g 0) j ∗ both e (fun g => roundState ER rd g 0) j) ⊢ (|={Set.univ}=> both e (inv rd) j : sProp 𝕄) := by
    iintro ⟨⟨V0, V1⟩, R0, R1⟩
    imod (hI (e (j, 0))) $$ [V0 R0] with I0
    · isplitl [V0] <;> iassumption
    imod (hI (e (j, 1))) $$ [V1 R1] with I1
    · isplitl [V1] <;> iassumption
    imodintro
    isplitl [I0] <;> iassumption
  have hIA : iprop(bigSep Finset.univ (both e fun g => semVal g 0) ∗ bigSep Finset.univ (both e fun g => roundState ER rd g 0))
      ⊢ (|={Set.univ}=> bigSep Finset.univ (both e (inv rd)) : sProp 𝕄) :=
    (Entails.of_eq (bigSep_sep' Finset.univ _ _).symm).trans ((bigSep_mono fun j _ => hIs j).trans (bigSep_fupd Finset.univ _))
  iintro ⟨Hu, Hv⟩
  ihave HX := (show (ownU (u₀ e) : sProp 𝕄) ⊢ BI.own (ER (initOf (Finset.univ.map e) (toks e))) from BI.Entails.refl _) $$ Hu
  imod (Rounds.fund ER rd (Finset.univ.map e) (toks e)) $$ HX with ⟨Hst, Hr, Hat, Htok⟩
  ihave Hst' := (Entails.of_eq (hX fun g => roundState ER rd g 0)) $$ Hst
  ihave Hr' := (Entails.of_eq (hX fun g => reached ER g 0)) $$ Hr
  ihave Hat' := (Entails.of_eq (hX fun g => atPos ER g 0 ∅ 0)) $$ Hat
  ihave Htok' := (Entails.of_eq hT) $$ Htok
  imod hIA $$ [Hv Hst'] with HI
  · isplitl [Hv] <;> iassumption
  imodintro
  isplitl [HI]; · iexact HI
  isplitl [Hr']; · iexact Hr'
  isplitl [Hat'] <;> iassumption

end Fund

/-! ## A kernel with no window, at one grid point -/

section Body

variable {Λ₀ : Labels} (cfg : Cfg sig Λ₀) (hW : IsEmpty (Fin cfg.W)) (c : Dev nD)

/-- The body's invariant and what the core owes, before the one point and after it. -/
def dat (Φ₀ Φ₁ : sProp 𝕄) (O₀ : CellTallies nD τ sig Unit) : Dat τ (Elt F) Unit ℕ (UR sig nD τ) ℕ cfg c where
  A w := hW.elim w
  after w := hW.elim w
  Φ t := match t with
    | ⟨0, _⟩ => Φ₀
    | ⟨_ + 1, _⟩ => Φ₁
  q _ := fullShare
  owed t := match t with
    | ⟨0, _⟩ => O₀
    | ⟨_ + 1, _⟩ => 0

omit [FloatOps F] in
theorem body_of (Φ₀ Φ₁ : sProp 𝕄) (O₀ : CellTallies nD τ sig Unit) (hN : cfg.N = 1) (defs₀ : Defs nD τ sig (Elt F) Λ₀) (𝒱₀ : Variants)
    (hb : ∀ (t : Fin cfg.N) (W : Waits sig Unit) (K : sProp 𝕄),
      iprop((Φ₀ ∗ owes (c : Thread nD τ) O₀ W) ∗ (iprop(Φ₁ ∗ ∃ W', owes (c : Thread nD τ) (0 : CellTallies nD τ sig Unit) W') -∗ K))
        ⊢ wp frame (wpE defs₀ 𝒱₀ c none) Set.univ (defs₀ .tc cfg.body (cfg.bodyArgs t (cfg.slots t))) fun _ => K) :
    BodyObligation (dat cfg hW c Φ₀ Φ₁ O₀) defs₀ 𝒱₀ () Set.univ := fun t => by
  obtain ⟨t, ht⟩ := t
  obtain rfl : t = 0 := by omega
  rw [Finset.univ_eq_empty, bigSep_empty, bigSep_empty]
  unfold Dat.owesAt Pipeline.owesWithin
  show iprop(Φ₀ ∗ (∃ W, ⌜_⌝ ∗ owes (c : Thread nD τ) O₀ W) ∗ emp)
    ⊢ wp frame (wpE defs₀ 𝒱₀ c none) Set.univ _
        (fun _ => iprop(Φ₁ ∗ (∃ W, ⌜_⌝ ∗ owes (c : Thread nD τ) (0 : CellTallies nD τ sig Unit) W) ∗ emp))
  iintro ⟨HΦ, ⟨%W, -, HO⟩, -⟩
  iapply (hb ⟨0, ht⟩ W)
  isplitl [HΦ HO]
  · isplitl [HΦ] <;> iassumption
  iintro ⟨HΦ, ⟨%W', HO⟩⟩
  isplitl [HΦ]; · iexact HΦ
  isplitl [HO]
  · iexists W'
    isplitr; · ipureintro; exact fun _ _ => Or.inl trivial
    iexact HO
  iempintro

end Body

/-! ## The launch -/

variable (m : (ℓ : Loc nD τ sig) → Buf (Elt F) ℓ) (ρ : Dev nD → PrngReg)

variable (x o : Ref sig .tc) (L : (c : Dev nD) → Buf (Elt F) ((c : Thread nD τ).loc o))

/-- What core `c` ends with: the argument `x` as launched and the result `o` at `L c`, -/
def ends (c : Dev nD) : sProp 𝕄 := iprop((((c : Thread nD τ).loc x) ↦{fullShare} m ((c : Thread nD τ).loc x)) ∗ (((c : Thread nD τ).loc o) ↦{fullShare} L c))
/-- and its semaphores at zero. -/
def fin (c : Dev nD) : sProp 𝕄 := iprop(ends m x o L c ∗ scopedSems0 (c : Thread nD τ))

omit [FloatOps F] in
theorem fin_read (c : Dev nD) (s' : Phys nD τ sig (Elt F)) : iprop(fin m x o L c ∗ SI s')
    ⊢ (|={Set.univ}=> iprop(⌜(s'.mem.mem ((c : Thread nD τ).loc o) = L c
        ∧ s'.mem.mem ((c : Thread nD τ).loc x) = m ((c : Thread nD τ).loc x))
      ∧ ∀ sm : SemLoc sig, sm.isScoped .tc = true → s'.mem.sem ((c : Thread nD τ), sm) = 0⌝ ∗ SI s') : sProp 𝕄) := by
  unfold fin ends
  iintro ⟨⟨⟨Hx, Ho⟩, Hss⟩, HSI⟩
  ihave %hz := (tcScoped_read_pers c s') $$ [Hss HSI]
  · isplitl [Hss] <;> iassumption
  ihave Hq := (pointsTo_read_all {()} (fun _ => (c : Thread nD τ).loc o) (fun _ => L c) s') $$ [Ho HSI]
  · isplitl [Ho]; · rw [bigSep_singleton]; iexact Ho
    iexact HSI
  icases Hq with ⟨%ho, HSI⟩
  ihave Hq := (pointsTo_read_all {()} (fun _ => (c : Thread nD τ).loc x) (fun _ => m ((c : Thread nD τ).loc x)) s') $$ [Hx HSI]
  · isplitl [Hx]; · rw [bigSep_singleton]; iexact Hx
    iexact HSI
  icases Hq with ⟨%hx, HSI⟩
  imodintro
  isplitr
  · ipureintro; exact ⟨⟨ho () (Finset.mem_singleton_self _), hx () (Finset.mem_singleton_self _)⟩, hz⟩
  · iexact HSI

/-- A program whose cores all end so terminates in every weakly fair execution, with these contents and every counter at
    zero: `deal` hands the cores what they run from, `hrun` is one core's run. -/
theorem run_of {Λ : Labels} (defs : Defs nD τ sig (Elt F) Λ) (main : Dev nD → Prog (TpuEff nD τ sig (Elt F) Λ .tc) PUnit) (𝒱 : Variants)
    (O₀ : Dev nD → CellTallies nD τ sig Unit) (u₀ : UR sig nD τ) (pre : Dev nD → sProp 𝕄) (hs : ∀ sm : SemLoc sig, sm.isScoped .tc = true)
    (deal : iprop(bigSep Finset.univ (fun d : Dev nD => coreInit (Ix := Unit) (Name := ℕ) (U := UR sig nD τ) (Lvl := ℕ) (Pipeline.owing O₀) 0
        (⟨m, fun _ => 0, ρ⟩ : MemSt nD τ sig (Elt F)) (d : Thread nD τ)) ∗ ownU u₀)
      ⊢ (|={Set.univ}=> iprop(∃ _x : Unit, bigSep Finset.univ pre ∗ emp) : sProp 𝕄))
    (hrun : ∀ c : Dev nD, pre c ⊢ wp frame (wpE defs 𝒱 (c : Thread nD τ) none) Set.univ (main c)
      (fun _ => post (liftTc (fin m x o L) BI.emp) (c : Thread nD τ))) :
    θ_run defs (onTc (τ := τ) main) ⟨m, fun _ => 0, ρ⟩ (fun r =>
      (∀ c : Dev nD, r.2.mem ((c : Thread nD τ).loc o) = L c
        ∧ r.2.mem ((c : Thread nD τ).loc x) = m ((c : Thread nD τ).loc x)) ∧ r.2.sem = fun _ => 0) := by
  classical
  refine (θ_run defs _ _).mono (Q := fun r => (∀ c : Dev nD, (r.2.mem ((c : Thread nD τ).loc o) = L c
        ∧ r.2.mem ((c : Thread nD τ).loc x) = m ((c : Thread nD τ).loc x))
      ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped hs (sems_of_reads (fun c => (hr.1 c).2) hr.2)⟩)
    (adequate_tpu defs _ _ _ (reflect_intro_fupd_tc_sems (X := Unit) 𝒱 (Pipeline.owing O₀) 0 (noBookings fun _ => le_rfl) (Pipeline.owing_of_ne O₀) u₀
      (fun _ => pre) (fun _ => fin m x o L) (fun _ => iprop(emp)) Set.univ deal (fun _ c => hrun c) fun _ => ?_))
  iintro ⟨H, -, Hsc⟩ %s' HSI
  ihave %hsc := (scSems_read_zero m ρ s') $$ [Hsc HSI]
  · isplitl [Hsc] <;> iassumption
  imod (posts_fupd Finset.univ (fin_read m x o L) s') $$ [H HSI] with %h
  · isplitl [H] <;> iassumption
  imodintro
  ipureintro
  exact ⟨fun c => h c (Finset.mem_univ c), hsc⟩

/-- One core's run of a program that is one kernel with no window: from the body's invariant and what the core owes to
    what it ends with. -/
theorem core_run {Λ₀ : Labels} (cfgs : Fin 1 → Cfg sig Λ₀) (dats : (p : Fin 1) → (c : Dev nD) → Dat τ (Elt F) Unit ℕ (UR sig nD τ) ℕ (cfgs p) c)
    (hinj : Function.Injective (Pipeline.cellOf (nD := nD) (τ := τ) cfgs)) (defs₀ : Defs nD τ sig (Elt F) Λ₀) (𝒱₀ : Variants) (hW : IsEmpty (Fin (cfgs 0).W))
    (c : Dev nD) (hbody : BodyObligation (dats 0 c) defs₀ 𝒱₀ () Set.univ) (hbufs0 : (scopedBufs (c : Thread nD τ) : sProp 𝕄) = iprop(emp))
    (X : sProp 𝕄) (O : CellTallies nD τ sig Unit) (hX : (dats 0 c).Φ 0 = X) (hO : (dats 0 c).owed 0 = O) (hO' : (dats 0 c).owed (Fin.last (cfgs 0).N) = 0)
    (hY : (dats 0 c).Φ (Fin.last (cfgs 0).N) ⊢ fin m x o L c) :
    iprop(X ∗ owes (c : Thread nD τ) O ∅) ⊢ wp frame (wpE (Pipeline.defs (fun p => (cfgs p).toPCfg) defs₀) (Variants.lift 𝒱₀) (c : Thread nD τ) none) Set.univ
      (.op (.customCall (Pipeline.entry 0) ()) fun _ => .ret PUnit.unit) (fun _ => post (liftTc (fin m x o L) BI.emp) (c : Thread nD τ)) := by
  have hemp {Φ : Fin (cfgs 0).W → sProp 𝕄} : bigSep Finset.univ Φ = iprop(emp) := by rw [Finset.univ_eq_empty, bigSep_empty]; rfl
  have hbufs : (scopedBufs (c : Thread nD τ) : sProp 𝕄) ⊢ iprop(Dat.staging (cfgs 0) c ∗ emp) := by
    unfold Dat.staging; rw [hbufs0, hemp]; iintro -; isplitl <;> iempintro
  have hin : iprop(X ∗ Pipeline.prefHeld Pipeline.Prefetch.none c (fun _ => fullShare) (fun k => k.elim0) ∗ emp) ⊢ (dats 0 c).Φ 0 := by
    rw [hX]; iintro ⟨H, -⟩; iexact H
  have hout : iprop((dats 0 c).Φ (Fin.last (cfgs 0).N) ∗ Pipeline.cellsSems0 cfgs 0 c ∗ Dat.staging (cfgs 0) c ∗ emp)
      ⊢ iprop(ends m x o L c ∗ scopedSems0 (c : Thread nD τ) ∗ scopedBufs (c : Thread nD τ)) := by
    rw [hbufs0]
    iintro ⟨H, -⟩
    ihave H := hY $$ H
    unfold fin
    icases H with ⟨He, Hs⟩
    isplitl [He]; · iexact He
    isplitl [Hs]; · iexact Hs
    iempintro
  have hpre : iprop(owes (c : Thread nD τ) O ∅) ⊢ Pipeline.EntryPre cfgs dats () ER (fun _ => 0) 0 c := by
    unfold Pipeline.EntryPre Pipeline.PerCore.EntryPre Dat.arrays Dat.owesAt Pipeline.owesWithin Pipeline.PerCore.cellsWaits Pipeline.PerCore.cellsInit Pipeline.PerCore.toksInit
      Pipeline.PerCore.RDat.cellsWaits Pipeline.PerCore.RDat.cellsInit
    simp only [hemp]; rw [hO]
    iintro HO
    isplitr; · iempintro
    isplitl [HO]
    · iexists ∅; isplitr; · ipureintro; rw [Finset.coe_empty]; exact Set.empty_subset _
      iexact HO
    isplitr; · iempintro
    isplitr <;> iempintro
  have hpost : Pipeline.EntryPost cfgs dats () 0 c ⊢ iprop(∃ W, owes (c : Thread nD τ) (0 : CellTallies nD τ sig Unit) W) := by
    unfold Pipeline.EntryPost Pipeline.PerCore.EntryPost Dat.owesAt Pipeline.owesWithin
    rw [hO']
    iintro ⟨-, ⟨%W, -, HW⟩⟩
    iexists W; iexact HW
  have key := Pipeline.wp_customCall_entry_frame (fun p => (cfgs p).toPCfg) (fun p => (cfgs p).toPCfg_adm) dats () ER (fun _ => 0) hinj (0 : Fin 1) defs₀ 𝒱₀
      (fun _ => fullShare) c Set.univ (fun _ _ => Set.mem_univ _) hbody.loose (fun w => hW.elim w) none (fun u h => nomatch h)
      (X := X) (Y := ends m x o L c) (R := iprop(emp)) (I := iprop(emp))
      hbufs hin hout (k := fun _ => (.ret PUnit.unit : Prog _ PUnit)) (Q := fun _ => post (liftTc (fin m x o L) BI.emp) (c : Thread nD τ))
  iintro ⟨HΦ, HO⟩
  iapply key $$ [HΦ HO]
  · isplitl [HO]; · iapply hpre; iexact HO
    isplitr; · unfold Pipeline.prefHeld; rw [show (bigSep Finset.univ fun k : Fin 0 => _ : sProp 𝕄) = iprop(emp) from by rw [Finset.univ_eq_empty, bigSep_empty]; rfl]; iempintro
    isplitl [HΦ]; · iexact HΦ
    isplitr; · iempintro
    rw [hbufs0]; iempintro
  iintro ⟨Hpost, He, Hss, -⟩
  rw [wp_ret]; imodintro
  unfold post; simp only [liftTc_tc]; unfold fin
  isplitr [Hpost]
  · isplitl [He] <;> iassumption
  iapply hpost; iexact Hpost

end Cert.Exchange

end
-- ==== Proof.Pair.lean ====
/-
The exchange of a weight gradient between the two cores of a chip, alone: each core sends the half of its own
gradient that belongs to its peer into the peer's result array and waits until the peer's half has landed in its own.

Nothing tells a core that its peer has entered the kernel, so the peer's result array is dealt to the sender at the
launch. Two semaphore cells a core carry the protocol: `sendCell` returns the source half once it has been read,
`recvCell` returns the core's own result array with the peer's half in it.
-/
module

public import proofs.«01_k».proof.Proof.Gen.PairKernel
public import proofs.«01_k».proof.Proof.Gen.PairKernel.Skeleton
public import proofs.«01_k».proof.Proof.Gen.PairKernel.Launch
public import proofs.«01_k».proof.Proof.Exchange
public import Idealize.ShloMosaic.Lib.Pipeline.Launch
public import Idealize.ShloMosaic.Lib.Pipeline.Kit
public import Idealize.ShloMosaic.Lib.Tactic

@[expose] public section

noncomputable section

namespace Cert.PairProof

open Cert.PairKernel Cert.PairKernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Exchange (ER)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cores, their memory and their cells -/

/-- The other core. -/
def peer (c : Dev nD) : Dev nD := ⟨1 - c.val, by have := c.isLt; show 1 - c.val < 2; omega⟩

theorem peer_peer (c : Dev nD) : peer (peer c) = c := by revert c; decide
theorem dev1_eq (c : Dev nD) : (⟨k0_dev1 c, k0_dev1_lt c⟩ : Dev nD) = peer c := Fin.ext (k0_dev1_eq c)

/-- The half of the gradient core `c` sends, as the kernel slices it. -/
abbrev srcM (c : Dev nD) : Memref sig .tc .hbm S4x512x640 .f32 :=
  ((Memref.whole main_arg0).slice (Rect.unit (s := S4x2x512x640) (k0_off1 c) S4x1x512x640.size (k0_off1_inb c))
    (fun _ => rfl)).squeeze S4x512x640 squeezes_S4x1x512x640_S4x512x640
abbrev outM : Memref sig .tc .hbm S4x512x640 .f32 := Memref.whole main_v1

abbrev sendS : DmaSems sig S_ := (cc0_scratch0.slice (Rect.unit (s := S1) ![0] S1.size inb_S1_S1_0)).squeeze S_ squeezes_S1_S_
abbrev recvS : DmaSems sig S_ := (cc0_scratch1.slice (Rect.unit (s := S1) ![0] S1.size inb_S1_S1_0)).squeeze S_ squeezes_S1_S_
abbrev sendCell (c : Dev nD) : GSem nD τ sig := ((c : Thread nD τ), .dma sendS.sem)
abbrev recvCell (c : Dev nD) : GSem nD τ sig := ((c : Thread nD τ), .dma recvS.sem)

theorem send_ne_recv : (SemLoc.dma sendS.sem : SemLoc sig) ≠ .dma recvS.sem := by decide

/-- What one transfer pays. -/
@[irreducible] def N : ℕ := (outM : Memref sig .tc .hbm S4x512x640 .f32).view.dmaCredit
theorem N_pos : 0 < N := by unfold N; exact View.dmaCredit_pos _ (by decide)

theorem N_out : (outM : Memref sig .tc .hbm S4x512x640 .f32).view.dmaCredit = N := by unfold N; rfl
theorem N_src (c : Dev nD) : (srcM c).view.dmaCredit = N := by unfold N; rfl

/-- What core `c`'s result array holds at the end: the half its peer sent. -/
def landed (c : Dev nD) : Buf (Elt F) ((c : Thread nD τ).loc main_v1) :=
  (srcM (peer c)).view.read (Elt F) (m ((peer c : Thread nD τ).loc main_arg0))

/-- Core `c`'s argument array, as launched, and its result array at contents `f`. -/
def xPts (c : Dev nD) : sProp 𝕄 := ((c : Thread nD τ).loc main_arg0) ↦{fullShare} m ((c : Thread nD τ).loc main_arg0)
def outPts (c : Dev nD) (f : Buf (Elt F) ((c : Thread nD τ).loc main_v1)) : sProp 𝕄 := ((c : Thread nD τ).loc main_v1) ↦{fullShare} f
/-- The part of the argument array that is sent, and the rest. -/
def srcPts (c : Dev nD) : sProp 𝕄 := (srcM c).view.loc (c : Thread nD τ) ↦[(srcM c).view.set]{fullShare} m ((c : Thread nD τ).loc main_arg0)
def keepPts (c : Dev nD) : sProp 𝕄 := (srcM c).view.loc (c : Thread nD τ) ↦[Finset.univ \ (srcM c).view.set]{fullShare} m ((c : Thread nD τ).loc main_arg0)

omit [FloatOps F] in
theorem xPts_split (c : Dev nD) : (xPts m c : sProp 𝕄) ⊣⊢ iprop(srcPts m c ∗ keepPts m c) := by
  unfold xPts srcPts keepPts; exact pointsTo_split_subset (Finset.subset_univ _)

omit [FloatOps F] in
instance outPts_storable (c : Dev nD) (f) : BI.Storable (upEmb : UEmb _ 𝕄) (outPts (F := F) c f) := by unfold outPts; infer_instance
omit [FloatOps F] in
instance srcPts_storable (c : Dev nD) : BI.Storable (upEmb : UEmb _ 𝕄) (srcPts (F := F) m c) := by unfold srcPts; infer_instance

/-! ## The schedule: one round a cell, one transfer a round -/

abbrev rd : Rounds.Schedule (GSem nD τ sig) Unit 𝕄 :=
  Exchange.sched (fun _ => N) (fun _ => N_pos) (fun g => if g.2 = .dma recvS.sem then outPts g.1.1 (landed m g.1.1) else srcPts m g.1.1)

instance rd_payload_storable (g : GSem nD τ sig) (r : ℕ) (d : Unit) : BI.Storable (upEmb : UEmb _ 𝕄) ((rd (F := F) m).payload g r d) := by
  show BI.Storable upEmb (if g.2 = .dma recvS.sem then outPts g.1.1 (landed m g.1.1) else srcPts m g.1.1)
  split <;> infer_instance

omit [FloatOps F] in
theorem expect_0 (g : GSem nD τ sig) : 0 + N = (rd (F := F) m).expect g 0 := Exchange.expect_0 (N := fun _ => N) g
omit [FloatOps F] in
theorem payload_send (c : Dev nD) : (rd (F := F) m).payload (sendCell c) 0 () = srcPts m c := by dsimp only [rd, Exchange.sched]; exact if_neg send_ne_recv
omit [FloatOps F] in
theorem payload_recv (c : Dev nD) : (rd (F := F) m).payload (recvCell c) 0 () = outPts c (landed m c) := by dsimp only [rd, Exchange.sched]; exact if_pos rfl

/-! ## The body -/

/-- What a core holds of the protocol when it enters the kernel: the invariants of its own cells and of the peer's
    receive cell, its positions, the two duties of the transfer it issues, and the credit of the one it receives. -/
def ghost (c : Dev nD) : sProp 𝕄 :=
  iprop((∃ κ : ℕ, cellInv ER (rd m) κ (sendCell c)) ∗ (∃ κ : ℕ, cellInv ER (rd m) κ (recvCell c)) ∗ (∃ κ : ℕ, cellInv ER (rd m) κ (recvCell (peer c)))
    ∗ atPos ER (sendCell c) 0 ∅ 0 ∗ atPos ER (recvCell c) 0 ∅ 0 ∗ reached ER (sendCell c) 0 ∗ reached ER (recvCell (peer c)) 0
    ∗ dutyTok ER (sendCell c) 0 () ∗ dutyTok ER (recvCell (peer c)) 0 () ∗ cred (tallyAt (recvCell c) () N))

def Φ₀ (c : Dev nD) : sProp 𝕄 := iprop(ghost m c ∗ xPts m c ∗ outPts (peer c) (m ((peer c : Thread nD τ).loc main_v1)))
def Φ₁ (c : Dev nD) : sProp 𝕄 := iprop(xPts m c ∗ outPts c (landed m c) ∗ semVal (sendCell c) 0 ∗ semVal (recvCell c) 0)

def O₀ (c : Dev nD) : CellTallies nD τ sig Unit := tallyAt (recvCell (peer c)) () N

abbrev dats (_ : Fin 1) (c : Dev nD) : Dat τ (Elt F) Unit ℕ (UR sig nD τ) ℕ cfg0 c :=
  Exchange.dat cfg0 ⟨fun w => w.elim0⟩ c (Φ₀ m c) (Φ₁ m c) (O₀ c)

abbrev 𝒱₀ : Variants := Variants.none

omit [FloatOps F] in
theorem out_set : (outM : Memref sig .tc .hbm S4x512x640 .f32).view.set = Finset.univ := View.set_whole _
omit [FloatOps F] in
theorem outPts_eq (c : Dev nD) (f : Buf (Elt F) ((c : Thread nD τ).loc main_v1)) :
    (outPts c f : sProp 𝕄) = (outM.view.loc (c : Thread nD τ) ↦[outM.view.set]{fullShare} f) := by
  rw [out_set]; rfl
omit [FloatOps F] in
/-- The transfer lands as the whole of the receiver's result array. -/
theorem pay_peer (c : Dev nD) (fn : Buf (Elt F) ((peer c : Thread nD τ).loc main_v1)) :
    (outM.view.loc (peer c : Thread nD τ) ↦[outM.view.set]{fullShare}
        (outM.view.write (Elt F) fn ((srcM c).view.read (Elt F) (m ((c : Thread nD τ).loc main_arg0))) Finset.univ) : sProp 𝕄)
      ⊢ (rd m).payload (recvCell (peer c)) 0 () := by
  rw [payload_recv, outPts_eq]
  refine Entails.of_eq (congrArg _ ?_)
  unfold landed
  rw [peer_peer]
  exact View.write_whole_univ _ _ _

theorem wp_send_peer (c n : Dev nD) (hn : n = peer c) (κ₁ κ₂ : ℕ) {hsc : (outM : Memref sig (Dev.tc n : Thread nD τ).2.kind .hbm S4x512x640 .f32).view.ref.isScScratch = false}
    {hsrc : (srcM c).view.WordExact} {hdst : outM.view.WordExact}
    {hsem : DmaTarget.Typed .hbm (.dma recvS.sem) (.remote (Dev.tc n : Thread nD τ) outM (.dma sendS.sem) hsc)}
    {α : Type} {Q : α → sProp 𝕄} {k : PUnit → Prog (TpuEff nD τ sig (Elt F) Λ₀ .tc) α}
    (fn : Buf (Elt F) ((peer c : Thread nD τ).loc main_v1)) (W : Waits sig Unit) :
    iprop(cellInv ER (rd m) κ₁ (sendCell c) ∗ cellInv ER (rd m) κ₂ (recvCell (peer c))
        ∗ srcPts m c ∗ outPts (peer c) fn ∗ owes (c : Thread nD τ) (O₀ c) W
        ∗ dutyTok ER (sendCell c) 0 () ∗ reached ER (sendCell c) 0 ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c) (.remote (Dev.tc n : Thread nD τ) outM (.dma sendS.sem) hsc) (.dma recvS.sem) hsrc hdst hsem) k) Q) := by
  subst hn
  rw [outPts_eq]
  unfold srcPts
  exact Rounds.wp_send_pointsTo 𝒱₀ ER (rd m) (c : Thread nD τ) none (κ₁ := κ₁) (κ₂ := κ₂)
    (c' := (peer c : Thread nD τ)) (src := srcM c) (dst := outM) (sS := .dma sendS.sem) (sem := .dma recvS.sem)
    (hsc := hsc) (hsrc := hsrc) (hdst := hdst) (hsem := hsem) (k := k) (q := fullShare)
    (fs := m ((c : Thread nD τ).loc main_arg0)) (r₁ := 0) (r₂ := 0) (d₁ := ()) (d₂ := ()) (fd := fn)
    (by rw [Exchange.duties_0]; exact Finset.mem_singleton_self _) (by rw [Exchange.duties_0]; exact Finset.mem_singleton_self _)
    () () N N_out rfl rfl 0 (by rw [zero_add]; rfl) (W := W)
    (Entails.of_eq (payload_send m c).symm) (pay_peer m c fn)

set_option maxHeartbeats 1600000 in
theorem sound_body (c : Dev nD) (W : Waits sig Unit) (Kt : PUnit → sProp 𝕄) :
    iprop((Φ₀ m c ∗ owes (c : Thread nD τ) (O₀ c) W) ∗ (iprop(Φ₁ m c ∗ ∃ W', owes (c : Thread nD τ) (0 : CellTallies nD τ sig Unit) W') -∗ Kt ⟨⟩))
      ⊢ wp frame (wpE (defs₀ (F := F)) 𝒱₀ c none) Set.univ
          (cc0_grad_pair_exchange_w_in (Memref.whole main_arg0) (Memref.isWhole_whole _) (Memref.whole main_v1) (Memref.isWhole_whole _) cc0_scratch0 cc0_scratch1) Kt := by
  simp only [cc0_grad_pair_exchange_w_in_eq_skeleton, cc0_grad_pair_exchange_w_in_skel, k0_part1_eq_skeleton, k0_part1_skel]
  simp only [Prog.lift, Prog.bind_op, Prog.bind_ret, Prog.pure_eq_ret, wp_deviceId]
  unfold Φ₀ ghost
  iintro ⟨⟨⟨⟨⟨%κ₁, #HIs⟩, ⟨%κ₂, #HIr⟩, ⟨%κ₃, #HIp⟩, HatS, HatR, #HrS, #HrP, HtS, HtP, HcR⟩, Hx, Ho⟩, HO⟩, Hk⟩
  ihave Hx2 := (xPts_split m c).1 $$ Hx
  icases Hx2 with ⟨Hsrc, Hkeep⟩
  iapply (wp_send_peer m c _ (dev1_eq c) κ₁ κ₃ _ W) $$ [Hsrc Ho HO HtS HtP]
  · isplitr; · iexact HIs
    isplitr; · iexact HIp
    isplitl [Hsrc]; · iexact Hsrc
    isplitl [Ho]; · iexact Ho
    isplitl [HO]; · iexact HO
    isplitl [HtS]; · iexact HtS
    isplitr; · iexact HrS
    isplitl [HtP]; · iexact HtP
    iexact HrP
  iintro ⟨HcS, HO⟩
  iapply (Rounds.wp_wait_rest_token 𝒱₀ ER (rd m) (c : Thread nD τ) none (κ := κ₁)
      (wpE_waitDma2_eq 𝒱₀ (c : Thread nD τ) none Set.univ) (Set.mem_univ _) () (O := 0) (W := W) (R := 0) (m := 0) (T := ∅)
      ((congrArg (0 + ·) (N_src c)).trans (expect_0 m (sendCell c)))) $$ [HcS HO HatS]
  · isplitr; · iexact HIs
    isplitl [HcS]; · iapply (Entails.of_eq (congrArg (fun n => cred (tallyAt (sendCell c) () n)) (N_src c).symm)); iexact HcS
    isplitl [HO]; · iexact HO
    isplitr; · rw [MayWait_zero]; iempintro
    iexact HatS
  iintro ⟨HO, HatS, -, Hpay⟩
  ihave Hsrc := (Entails.of_eq ((Exchange.rest (sendCell c)).trans (payload_send m c))) $$ Hpay
  iapply (Rounds.wp_wait_rest_token 𝒱₀ ER (rd m) (c : Thread nD τ) none (κ := κ₂)
      (wpE_waitDma2_eq 𝒱₀ (c : Thread nD τ) none Set.univ) (Set.mem_univ _) () (O := 0) (R := 0) (m := 0) (T := ∅)
      ((congrArg (0 + ·) N_out).trans (expect_0 m (recvCell c)))) $$ [HcR HO HatR]
  · isplitr; · iexact HIr
    isplitl [HcR]; · iapply (Entails.of_eq (congrArg (fun n => cred (tallyAt (recvCell c) () n)) N_out.symm)); iexact HcR
    isplitl [HO]; · iexact HO
    isplitr; · rw [MayWait_zero]; iempintro
    iexact HatR
  iintro ⟨HO, HatR, -, Hpay⟩
  ihave Hout := (Entails.of_eq ((Exchange.rest (recvCell c)).trans (payload_recv m c))) $$ Hpay
  rw [wp_ret]
  imod (Rounds.cell_close ER (rd m) (Set.mem_univ κ₁) (fun h => h) (R := 0 + 1) (Exchange.duties_later (sendCell c))) $$ [HatS] with HzS
  · isplitr; · iexact HIs
    iexact HatS
  imod (Rounds.cell_close ER (rd m) (Set.mem_univ κ₂) (fun h => h) (R := 0 + 1) (Exchange.duties_later (recvCell c))) $$ [HatR] with HzR
  · isplitr; · iexact HIr
    iexact HatR
  imodintro
  iapply Hk
  unfold Φ₁
  isplitr [HO]
  · isplitl [Hsrc Hkeep]
    · iapply (xPts_split m c).2; isplitl [Hsrc] <;> iassumption
    isplitl [Hout]; · iexact Hout
    isplitl [HzS] <;> iassumption
  iexists _; iexact HO

theorem body_obligation (c : Dev nD) : BodyObligation (dats (F := F) m 0 c) (defs₀ (F := F)) 𝒱₀ () Set.univ :=
  Exchange.body_of cfg0 ⟨fun w => w.elim0⟩ c (Φ₀ m c) (Φ₁ m c) (O₀ c) N_0 defs₀ 𝒱₀ fun _ W K => sound_body m c W fun _ => K

/-! ## The launch -/

abbrev cellAt (ck : Dev nD × Fin 2) : GSem nD τ sig := ((ck.1 : Thread nD τ), .dma (if ck.2 = 0 then sendS.sem else recvS.sem))
theorem cellAt_injective : Function.Injective cellAt := by
  rintro ⟨c, k⟩ ⟨c', k'⟩ h
  have h1 : c = c' := congrArg (fun g : GSem nD τ sig => g.1.1) h
  have h2 := congrArg Prod.snd h
  subst h1
  fin_cases k <;> fin_cases k' <;> first | rfl | exact absurd h2 send_ne_recv | exact absurd h2.symm send_ne_recv

abbrev cells : Dev nD × Fin 2 ↪ GSem nD τ sig := ⟨cellAt, cellAt_injective⟩
def u₀ : UR sig nD τ := Exchange.u₀ cells

omit [FloatOps F] in
theorem two (Φ : Dev nD → sProp 𝕄) : bigSep Finset.univ Φ = iprop(Φ 0 ∗ Φ 1) :=
  bigSep_univ_eq_bigSepL [0, 1] (by decide) (by decide) Φ

/-- One assertion of each of the four cells. -/
abbrev both (Φ : GSem nD τ sig → sProp 𝕄) : sProp 𝕄 := iprop((Φ (sendCell 0) ∗ Φ (recvCell 0)) ∗ Φ (sendCell 1) ∗ Φ (recvCell 1))

omit [FloatOps F] in
/-- The four cells opened: from their counters at zero and the ghost element, their invariants, round 0 reached, and each
    cell's position and token. -/
theorem fund_cells : iprop(ownU u₀ ∗ both (F := F) fun g => semVal g 0)
    ⊢ (|={Set.univ}=> iprop(both (fun g => iprop(∃ κ : ℕ, cellInv ER (rd m) κ g)) ∗ both (fun g => reached ER g 0)
        ∗ both (fun g => atPos ER g 0 ∅ 0) ∗ both fun g => dutyTok ER g 0 ()) : sProp 𝕄) := by
  have h := Exchange.fund cells (rd m)
  rw [two, two, two, two, two] at h
  exact h

/-- What core `c` brings to the launch. -/
def brings (c : Dev nD) : sProp 𝕄 :=
  iprop((semVal (sendCell c) 0 ∗ semVal (recvCell c) 0) ∗ xPts m c ∗ outPts c (m ((c : Thread nD τ).loc main_v1))
    ∗ owes (c : Thread nD τ) (O₀ c) ∅ ∗ cred (tallyAt (recvCell c) () N))

/-- What core `c` runs from. -/
def pre (c : Dev nD) : sProp 𝕄 := iprop(Φ₀ m c ∗ owes (c : Thread nD τ) (O₀ c) ∅)

omit [FloatOps F] in
theorem scopedSems_eq (c : Dev nD) : (scopedSems0 (c : Thread nD τ) : sProp 𝕄) = iprop(semVal (sendCell c) 0 ∗ semVal (recvCell c) 0) := by
  rw [show (scopedSems0 (c : Thread nD τ) : sProp 𝕄) = _ from scopedSems0_tc c]
  exact bigSep_eq_bigSepL_of_eq [SemLoc.dma sendS.sem, SemLoc.dma recvS.sem] (by decide) (by decide) _
omit [FloatOps F] in
theorem scopedBufs_eq (c : Dev nD) : (scopedBufs (c : Thread nD τ) : sProp 𝕄) = iprop(emp) := by
  rw [show (scopedBufs (c : Thread nD τ) : sProp 𝕄) = _ from scopedBufs_tc c]
  exact bigSep_eq_bigSepL_of_eq [] (by decide) (by decide) _
omit [FloatOps F] in
theorem unscopedBufs_eq (c : Dev nD) (V : (b : Ref sig .tc) → Buf (Elt F) ((c : Thread nD τ).loc b)) :
    (unscopedBufs c V : sProp 𝕄) = iprop((((c : Thread nD τ).loc main_arg0) ↦{fullShare} V main_arg0) ∗ (((c : Thread nD τ).loc main_v1) ↦{fullShare} V main_v1)) := by
  unfold unscopedBufs
  exact bigSep_eq_bigSepL_of_eq [main_arg0, main_v1] (by decide) (by decide) _

omit [FloatOps F] in
theorem core_brings (c : Dev nD) :
    coreInit (Ix := Unit) (Name := ℕ) (U := UR sig nD τ) (Lvl := ℕ) (Pipeline.owing O₀) 0 (⟨m, fun _ => 0, ρ⟩ : MemSt nD τ sig (Elt F)) (c : Thread nD τ)
      ⊢ brings m c := by
  refine (Pipeline.coreInit_boundary_owing O₀ m ρ c).trans ?_
  unfold boundary brings xPts outPts
  rw [scopedSems_eq, unscopedBufs_eq]
  iintro ⟨⟨-, Hs, -⟩, ⟨Hx, Ho⟩, -, HO, -, -, Hcr⟩
  isplitl [Hs]; · iexact Hs
  isplitl [Hx]; · iexact Hx
  isplitl [Ho]; · iexact Ho
  isplitl [HO]; · iexact HO
  iapply (Pipeline.launchCred_tallyAt (.dma recvS.sem) peer peer peer_peer peer_peer () N c); iexact Hcr

omit [FloatOps F] in
/-- The launch: the cells opened, and each core handed its peer's result array. -/
theorem deal : iprop(bigSep Finset.univ (fun d : Dev nD => coreInit (Ix := Unit) (Name := ℕ) (U := UR sig nD τ) (Lvl := ℕ) (Pipeline.owing O₀) 0
        (⟨m, fun _ => 0, ρ⟩ : MemSt nD τ sig (Elt F)) (d : Thread nD τ)) ∗ ownU u₀)
    ⊢ (|={Set.univ}=> iprop(∃ _x : Unit, bigSep Finset.univ (pre m) ∗ emp) : sProp 𝕄) := by
  refine (sep_mono_left (bigSep_mono fun c _ => core_brings m ρ c)).trans ?_
  rw [two, two]
  unfold brings
  iintro ⟨⟨⟨⟨Hs0, Hr0⟩, Hx0, Ho0, HO0, Hc0⟩, ⟨Hs1, Hr1⟩, Hx1, Ho1, HO1, Hc1⟩, Hu⟩
  imod (fund_cells m) $$ [Hu Hs0 Hr0 Hs1 Hr1] with ⟨⟨⟨#IS0, #IR0⟩, #IS1, #IR1⟩, ⟨⟨#RS0, #RR0⟩, #RS1, #RR1⟩, ⟨⟨AS0, AR0⟩, AS1, AR1⟩, ⟨TS0, TR0⟩, TS1, TR1⟩
  · isplitl [Hu]; · iexact Hu
    isplitl [Hs0 Hr0]
    · isplitl [Hs0] <;> iassumption
    isplitl [Hs1] <;> iassumption
  imodintro
  iexists ()
  unfold pre Φ₀ ghost
  rw [show peer 0 = 1 from rfl, show peer 1 = 0 from rfl]
  isplitl
  · isplitl [AS0 AR0 TS0 TR1 Hc0 Hx0 Ho1 HO0]
    · isplitr [HO0]
      · isplitl [AS0 AR0 TS0 TR1 Hc0]
        · isplitr; · iexact IS0
          isplitr; · iexact IR0
          isplitr; · iexact IR1
          isplitl [AS0]; · iexact AS0
          isplitl [AR0]; · iexact AR0
          isplitr; · iexact RS0
          isplitr; · iexact RR1
          isplitl [TS0]; · iexact TS0
          isplitl [TR1] <;> iassumption
        isplitl [Hx0] <;> iassumption
      iexact HO0
    · isplitr [HO1]
      · isplitl [AS1 AR1 TS1 TR0 Hc1]
        · isplitr; · iexact IS1
          isplitr; · iexact IR1
          isplitr; · iexact IR0
          isplitl [AS1]; · iexact AS1
          isplitl [AR1]; · iexact AR1
          isplitr; · iexact RS1
          isplitr; · iexact RR0
          isplitl [TS1]; · iexact TS1
          isplitl [TR0] <;> iassumption
        isplitl [Hx1] <;> iassumption
      iexact HO1
  iempintro

/-- One core's run of @main. -/
theorem core_run (c : Dev nD) : pre m c ⊢ wp frame (wpE (defs (F := F)) (Variants.lift 𝒱₀) (c : Thread nD τ) none) Set.univ (main (F := F) c)
    (fun _ => post (liftTc (Exchange.fin m main_arg0 main_v1 (landed m)) BI.emp) (c : Thread nD τ)) := by
  refine Exchange.core_run m main_arg0 main_v1 (landed m) cfgs (dats m) cellOf_inj defs₀ 𝒱₀ ⟨fun w => w.elim0⟩ c (body_obligation m c) (scopedBufs_eq c) (Φ₀ m c) (O₀ c) rfl rfl rfl ?_
  show Φ₁ m c ⊢ _
  unfold Φ₁ Exchange.fin Exchange.ends xPts outPts
  rw [scopedSems_eq]
  iintro ⟨Hx, Ho, Hs⟩
  isplitl [Hx Ho]
  · isplitl [Hx] <;> iassumption
  iexact Hs

/-- Every weakly fair execution terminates, each core's result array holding what its peer sent, its argument unchanged and
    every semaphore counter at zero. -/
theorem run : θ_run defs (onTc (τ := τ) (main (F := F))) ⟨m, fun _ => 0, ρ⟩ (fun r =>
    (∀ c : Dev nD, r.2.mem ((c : Thread nD τ).loc main_v1) = landed m c
      ∧ r.2.mem ((c : Thread nD τ).loc main_arg0) = m ((c : Thread nD τ).loc main_arg0)) ∧ r.2.sem = fun _ => 0) :=
  Exchange.run_of m ρ main_arg0 main_v1 (landed m) defs main (Variants.lift 𝒱₀) O₀ u₀ (pre m) (by decide) (deal m ρ) (core_run m)

end Cert.PairProof

end
-- ==== Proof.PairEx.lean ====
module

public import proofs.«01_k».proof.Defs
public import proofs.«01_k».proof.Proof.Gen.PairKernelIdeal
public import proofs.«01_k».proof.Proof.Gen.PairReferenceIdeal.Run
public import proofs.«01_k».proof.Proof.Gen.PairReferenceIdeal.Read
public import proofs.«01_k».proof.Proof.Pair

@[expose] public section

noncomputable section

open Idealize.ShloMosaic Idealize.SL.Sem

namespace Cert.Pair

open Cert.PairKernel Cert.PairProof
open Facts₀ Facts

/-- Where the element `i` of what lands on core `c` lay in its peer's argument. -/
def srcIdx (c : Dev nD) (i : S4x512x640.Idx) : S4x2x512x640.Idx := fun a => match a with
  | ⟨0, _⟩ => ⟨(i 0).val, (i 0).isLt⟩
  | ⟨1, _⟩ => ⟨c.val, c.isLt⟩
  | ⟨2, _⟩ => ⟨(i 1).val, (i 1).isLt⟩
  | ⟨3, _⟩ => ⟨(i 2).val, (i 2).isLt⟩

/-- The same in the sliced half. -/
def cutIdx (i : S4x512x640.Idx) : S4x1x512x640.Idx := fun a => match a with
  | ⟨0, _⟩ => ⟨(i 0).val, (i 0).isLt⟩
  | ⟨1, _⟩ => ⟨0, Nat.one_pos⟩
  | ⟨2, _⟩ => ⟨(i 1).val, (i 1).isLt⟩
  | ⟨3, _⟩ => ⟨(i 2).val, (i 2).isLt⟩

theorem cut_rowMajor (i : S4x512x640.Idx) : (Shape.rowMajor S4x1x512x640 (cutIdx i)).val = (Shape.rowMajor S4x512x640 i).val := by
  rewrite [Shape.rowMajor_val_four, Shape.rowMajor_val_three]
  show (((i 0).val * 1 + 0) * 512 + (i 1).val) * 640 + (i 2).val = ((i 0).val * 512 + (i 1).val) * 640 + (i 2).val
  omega

theorem landed_apply (m : (ℓ : Loc nD τ sig) → Buf (Elt Ideal) ℓ) (c : Dev nD) (i : S4x512x640.Idx) :
    landed m c i = m ((peer c).tc.loc main_arg0) (srcIdx c i) := by
  have hi : Shape.reshapeEquiv squeezes_S4x1x512x640_S4x512x640.numel_eq i = cutIdx i :=
    shapeCast_apply (fun x => x) squeezes_S4x1x512x640_S4x512x640.numel_eq i (cutIdx i) (cut_rowMajor i)
  show m ((peer c).tc.loc main_arg0) ((Rect.unit (s := S4x2x512x640) (k0_off1 (peer c)) S4x1x512x640.size (k0_off1_inb (peer c))).emb
    (Shape.reshapeEquiv squeezes_S4x1x512x640_S4x512x640.numel_eq i)) = _
  rw [hi]
  refine congrArg _ (funext fun a => Fin.ext ?_)
  show k0_off1 (peer c) a + 1 * (cutIdx i a).val = _
  rw [Gen.k0_off1_eq]
  have hc : 1 - (1 - c.val) = c.val := by have h : c.val < 2 := c.isLt; omega
  match a with
  | ⟨0, _⟩ => show 0 + 1 * (i 0).val = (i 0).val; omega
  | ⟨1, _⟩ => show 1 - (1 - c.val) + 1 * 0 = c.val; omega
  | ⟨2, _⟩ => show 0 + 1 * (i 1).val = (i 1).val; omega
  | ⟨3, _⟩ => show 0 + 1 * (i 2).val = (i 2).val; omega

/-- Where the reference takes the element `i` of block `c` of its result. -/
def wholeIdx (c : Dev nD) (i : S4x512x640.Idx) : Cert.PairReferenceIdeal.S8x2x512x640.Idx := fun a => match a with
  | ⟨0, _⟩ => ⟨(1 - c.val) * 4 + (i 0).val, by have h : (i 0).val < 4 := (i 0).isLt; show _ < 8; omega⟩
  | ⟨1, _⟩ => ⟨c.val, c.isLt⟩
  | ⟨2, _⟩ => ⟨(i 1).val, (i 1).isLt⟩
  | ⟨3, _⟩ => ⟨(i 2).val, (i 2).isLt⟩

open Cert.PairReferenceIdeal.Read Layout in
/-- Block `c` of the reference's result. -/
theorem reference_apply (g : (⟨Cert.PairReferenceIdeal.S8x2x512x640, .f32⟩ : BufTy).Contents (Elt Ideal)) (c : Dev nD) (i : S4x512x640.Idx) :
    (block ⟨3, ![4, 512, 640]⟩ ⟨3, ![8, 512, 640]⟩ 0 2 c (val_main_v4 (F := Ideal) g)) i = g (wholeIdx c i) := by
  have h0 : (i 0).val < 4 := (i 0).isLt
  have h1 : (i 1).val < 512 := (i 1).isLt
  have h2 : (i 2).val < 640 := (i 2).isLt
  have hr : (((i 0).val * 512 + (i 1).val) * 640 + (i 2).val) / 327680 = (i 0).val := by omega
  have hm : (((i 0).val * 512 + (i 1).val) * 640 + (i 2).val) / 640 % 512 = (i 1).val := by omega
  have hl : (((i 0).val * 512 + (i 1).val) * 640 + (i 2).val) % 640 = (i 2).val := by omega
  show concatenate Cert.PairReferenceIdeal.S8x512x640 0 [⟨Cert.PairReferenceIdeal.S4x512x640, val_main_v1 (F := Ideal) g⟩,
    ⟨Cert.PairReferenceIdeal.S4x512x640, val_main_v3 (F := Ideal) g⟩] Cert.PairReferenceIdeal.Facts₀.concatenates_S4x512x640_S4x512x640_S8x512x640_d0 _ = _
  match c with
  | ⟨0, _⟩ =>
    refine (concatenate_pair_apply_left (s₁ := Cert.PairReferenceIdeal.S4x512x640) (s₂ := Cert.PairReferenceIdeal.S4x512x640) (t := Cert.PairReferenceIdeal.S8x512x640) 0 _ _ _ _ rfl i fun b => ?_).trans ((val_main_v1_apply g i).trans ((val_main_v0_apply g (idx_main_v1 i)).trans (congrArg g (funext fun a => Fin.ext ?_))))
    · match b with
      | ⟨0, _⟩ => show (i 0).val = 0 * 4 + (i 0).val; omega
      | ⟨1, _⟩ => rfl
      | ⟨2, _⟩ => rfl
    · match a with
      | ⟨0, _⟩ => show 4 + _ / 327680 = (1 - 0) * 4 + (i 0).val; omega
      | ⟨1, _⟩ => rfl
      | ⟨2, _⟩ => exact hm
      | ⟨3, _⟩ => exact hl
  | ⟨1, _⟩ =>
    refine (concatenate_pair_apply_right (s₁ := Cert.PairReferenceIdeal.S4x512x640) (s₂ := Cert.PairReferenceIdeal.S4x512x640) (t := Cert.PairReferenceIdeal.S8x512x640) 0 _ _ _ _ rfl rfl i (fun b hb => ?_) ?_).trans ((val_main_v3_apply g i).trans ((val_main_v2_apply g (idx_main_v3 i)).trans (congrArg g (funext fun a => Fin.ext ?_))))
    · match b with
      | ⟨0, _⟩ => exact absurd rfl hb
      | ⟨1, _⟩ => rfl
      | ⟨2, _⟩ => rfl
    · show (i 0).val + 4 = 1 * 4 + (i 0).val; omega
    · match a with
      | ⟨0, _⟩ => show _ / 327680 = (1 - 1) * 4 + (i 0).val; omega
      | ⟨1, _⟩ => rfl
      | ⟨2, _⟩ => exact hm
      | ⟨3, _⟩ => exact hl

/-- What lands on core `c` is block `c` of the reference's result. -/
theorem landed_eq (m : (ℓ : Loc nD τ sig) → Buf (Elt Ideal) ℓ) (g : (⟨Cert.PairReferenceIdeal.S8x2x512x640, .f32⟩ : BufTy).Contents (Elt Ideal))
    (h : ∀ c : Dev nD, m (c.tc.loc main_arg0) = Layout.block ⟨4, ![4, 2, 512, 640]⟩ ⟨4, ![8, 2, 512, 640]⟩ 0 2 c g) (c : Dev nD) :
    landed m c = Layout.block ⟨3, ![4, 512, 640]⟩ ⟨3, ![8, 512, 640]⟩ 0 2 c (Cert.PairReferenceIdeal.Read.val_main_v4 (F := Ideal) g) := by
  funext i
  refine (landed_apply m c i).trans (Eq.trans ?_ (reference_apply g c i).symm)
  rw [h]
  refine congrArg g (funext fun a => Fin.ext ?_)
  match a with
  | ⟨0, _⟩ => rfl
  | ⟨1, _⟩ => rfl
  | ⟨2, _⟩ => rfl
  | ⟨3, _⟩ => rfl

/-- The exchange hands every core what the reference's slices say. -/
theorem algebraic : Cert.algebraic_PairKernelIdeal_PairReferenceIdeal := by
  intro m g m' g' _ h
  exact ⟨_, (θ_run _ _ _).mono (fun r hr c => ⟨(hr.1 c).1.trans (landed_eq m _ h c), (hr.1 c).2⟩) (run (F := Ideal) m g),
    (θ_run _ _ _).mono (fun r hr => hr 0) (Cert.PairReferenceIdeal.Value.run m' g')⟩

theorem frameKernel : Cert.quiescent_PairKernel := by
  intro m ρ _
  exact (θ_run _ _ _).mono (fun r h => ⟨fun c => (h.1 c).2, h.2⟩) (run m ρ)

theorem frameIdeal : Cert.quiescent_PairKernelIdeal := by
  intro m ρ _
  exact (θ_run _ _ _).mono (fun r h => ⟨fun c => (h.1 c).2, h.2⟩) (run (F := Ideal) m ρ)

/-- The reference terminates, leaves its argument as it was and has no semaphore. -/
theorem frameReference : Cert.quiescent_PairReferenceIdeal := by
  intro m ρ _
  exact (θ_run _ _ _).mono (fun r h => ⟨fun c => (h c).2, sem_eq_zero_of_no_sems (by decide) r.2⟩)
    (Cert.PairReferenceIdeal.Value.run m ρ)

end Cert.Pair

end
-- ==== Proof.Half.lean ====
/-
The exchange of a weight's summed gradient halves between the two cores of a chip, alone: each core sends its whole half
into the peer's result array and waits until the peer's half has landed in its own.

Nothing tells a core that its peer has entered the kernel, so the peer's result array is dealt to the sender at the
launch. Two semaphore cells a core carry the protocol, as in module Pair: `sendCell` returns the argument array once it
has been read, `recvCell` returns the core's own result array with the peer's half in it.
-/
module

public import proofs.«01_k».proof.Proof.Gen.HalfKernel
public import proofs.«01_k».proof.Proof.Gen.HalfKernel.Skeleton
public import proofs.«01_k».proof.Proof.Gen.HalfKernel.Launch
public import proofs.«01_k».proof.Proof.Exchange
public import Idealize.ShloMosaic.Lib.Pipeline.Launch
public import Idealize.ShloMosaic.Lib.Pipeline.Kit
public import Idealize.ShloMosaic.Lib.Tactic

@[expose] public section

noncomputable section

namespace Cert.HalfProof

open Cert.HalfKernel Cert.HalfKernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Exchange (ER)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cores, their memory and their cells -/

/-- The other core. -/
def peer (c : Dev nD) : Dev nD := ⟨1 - c.val, by have := c.isLt; show 1 - c.val < 2; omega⟩

theorem peer_peer (c : Dev nD) : peer (peer c) = c := by revert c; decide
theorem dev1_eq (c : Dev nD) : (⟨k0_dev1 c, k0_dev1_lt c⟩ : Dev nD) = peer c := Fin.ext (k0_dev1_eq c)

/-- The half core `c` sends: its whole argument array. -/
abbrev srcM (_c : Dev nD) : Memref sig .tc .hbm S512x640 .f32 := Memref.whole main_arg0
abbrev outM : Memref sig .tc .hbm S512x640 .f32 := Memref.whole main_v1

abbrev sendS : DmaSems sig S_ := (cc0_scratch0.slice (Rect.unit (s := S1) ![0] S1.size inb_S1_S1_0)).squeeze S_ squeezes_S1_S_
abbrev recvS : DmaSems sig S_ := (cc0_scratch1.slice (Rect.unit (s := S1) ![0] S1.size inb_S1_S1_0)).squeeze S_ squeezes_S1_S_
abbrev sendCell (c : Dev nD) : GSem nD τ sig := ((c : Thread nD τ), .dma sendS.sem)
abbrev recvCell (c : Dev nD) : GSem nD τ sig := ((c : Thread nD τ), .dma recvS.sem)

theorem send_ne_recv : (SemLoc.dma sendS.sem : SemLoc sig) ≠ .dma recvS.sem := by decide

/-- What one transfer pays. -/
@[irreducible] def N : ℕ := (outM : Memref sig .tc .hbm S512x640 .f32).view.dmaCredit
theorem N_pos : 0 < N := by unfold N; exact View.dmaCredit_pos _ (by decide)

theorem N_out : (outM : Memref sig .tc .hbm S512x640 .f32).view.dmaCredit = N := by unfold N; rfl
theorem N_src (c : Dev nD) : (srcM c).view.dmaCredit = N := by unfold N; rfl

/-- What core `c`'s result array holds at the end: the half its peer sent. -/
def landed (c : Dev nD) : Buf (Elt F) ((c : Thread nD τ).loc main_v1) :=
  (srcM (peer c)).view.read (Elt F) (m ((peer c : Thread nD τ).loc main_arg0))

/-- Core `c`'s argument array, as launched, and its result array at contents `f`. -/
def xPts (c : Dev nD) : sProp 𝕄 := ((c : Thread nD τ).loc main_arg0) ↦{fullShare} m ((c : Thread nD τ).loc main_arg0)
def outPts (c : Dev nD) (f : Buf (Elt F) ((c : Thread nD τ).loc main_v1)) : sProp 𝕄 := ((c : Thread nD τ).loc main_v1) ↦{fullShare} f
/-- The argument array as the transfer reads it. -/
def srcPts (c : Dev nD) : sProp 𝕄 := (srcM c).view.loc (c : Thread nD τ) ↦[(srcM c).view.set]{fullShare} m ((c : Thread nD τ).loc main_arg0)

omit [FloatOps F] in
theorem xPts_src (c : Dev nD) : (xPts m c : sProp 𝕄) = srcPts m c := by
  unfold xPts srcPts; rw [View.set_whole]

omit [FloatOps F] in
instance outPts_storable (c : Dev nD) (f) : BI.Storable (upEmb : UEmb _ 𝕄) (outPts (F := F) c f) := by unfold outPts; infer_instance
omit [FloatOps F] in
instance srcPts_storable (c : Dev nD) : BI.Storable (upEmb : UEmb _ 𝕄) (srcPts (F := F) m c) := by unfold srcPts; infer_instance

/-! ## The schedule: one round a cell, one transfer a round -/

abbrev rd : Rounds.Schedule (GSem nD τ sig) Unit 𝕄 :=
  Exchange.sched (fun _ => N) (fun _ => N_pos) (fun g => if g.2 = .dma recvS.sem then outPts g.1.1 (landed m g.1.1) else srcPts m g.1.1)

instance rd_payload_storable (g : GSem nD τ sig) (r : ℕ) (d : Unit) : BI.Storable (upEmb : UEmb _ 𝕄) ((rd (F := F) m).payload g r d) := by
  show BI.Storable upEmb (if g.2 = .dma recvS.sem then outPts g.1.1 (landed m g.1.1) else srcPts m g.1.1)
  split <;> infer_instance

omit [FloatOps F] in
theorem expect_0 (g : GSem nD τ sig) : 0 + N = (rd (F := F) m).expect g 0 := Exchange.expect_0 (N := fun _ => N) g
omit [FloatOps F] in
theorem payload_send (c : Dev nD) : (rd (F := F) m).payload (sendCell c) 0 () = srcPts m c := by dsimp only [rd, Exchange.sched]; exact if_neg send_ne_recv
omit [FloatOps F] in
theorem payload_recv (c : Dev nD) : (rd (F := F) m).payload (recvCell c) 0 () = outPts c (landed m c) := by dsimp only [rd, Exchange.sched]; exact if_pos rfl

/-! ## The body -/

/-- What a core holds of the protocol when it enters the kernel: the invariants of its own cells and of the peer's
    receive cell, its positions, the two duties of the transfer it issues, and the credit of the one it receives. -/
def ghost (c : Dev nD) : sProp 𝕄 :=
  iprop((∃ κ : ℕ, cellInv ER (rd m) κ (sendCell c)) ∗ (∃ κ : ℕ, cellInv ER (rd m) κ (recvCell c)) ∗ (∃ κ : ℕ, cellInv ER (rd m) κ (recvCell (peer c)))
    ∗ atPos ER (sendCell c) 0 ∅ 0 ∗ atPos ER (recvCell c) 0 ∅ 0 ∗ reached ER (sendCell c) 0 ∗ reached ER (recvCell (peer c)) 0
    ∗ dutyTok ER (sendCell c) 0 () ∗ dutyTok ER (recvCell (peer c)) 0 () ∗ cred (tallyAt (recvCell c) () N))

def Φ₀ (c : Dev nD) : sProp 𝕄 := iprop(ghost m c ∗ xPts m c ∗ outPts (peer c) (m ((peer c : Thread nD τ).loc main_v1)))
def Φ₁ (c : Dev nD) : sProp 𝕄 := iprop(xPts m c ∗ outPts c (landed m c) ∗ semVal (sendCell c) 0 ∗ semVal (recvCell c) 0)

def O₀ (c : Dev nD) : CellTallies nD τ sig Unit := tallyAt (recvCell (peer c)) () N

abbrev dats (_ : Fin 1) (c : Dev nD) : Dat τ (Elt F) Unit ℕ (UR sig nD τ) ℕ cfg0 c :=
  Exchange.dat cfg0 ⟨fun w => w.elim0⟩ c (Φ₀ m c) (Φ₁ m c) (O₀ c)

abbrev 𝒱₀ : Variants := Variants.none

omit [FloatOps F] in
theorem out_set : (outM : Memref sig .tc .hbm S512x640 .f32).view.set = Finset.univ := View.set_whole _
omit [FloatOps F] in
theorem outPts_eq (c : Dev nD) (f : Buf (Elt F) ((c : Thread nD τ).loc main_v1)) :
    (outPts c f : sProp 𝕄) = (outM.view.loc (c : Thread nD τ) ↦[outM.view.set]{fullShare} f) := by
  rw [out_set]; rfl
omit [FloatOps F] in
/-- The transfer lands as the whole of the receiver's result array. -/
theorem pay_peer (c : Dev nD) (fn : Buf (Elt F) ((peer c : Thread nD τ).loc main_v1)) :
    (outM.view.loc (peer c : Thread nD τ) ↦[outM.view.set]{fullShare}
        (outM.view.write (Elt F) fn ((srcM c).view.read (Elt F) (m ((c : Thread nD τ).loc main_arg0))) Finset.univ) : sProp 𝕄)
      ⊢ (rd m).payload (recvCell (peer c)) 0 () := by
  rw [payload_recv, outPts_eq]
  refine Entails.of_eq (congrArg _ ?_)
  unfold landed
  rw [peer_peer]
  exact View.write_whole_univ _ _ _

theorem wp_send_peer (c n : Dev nD) (hn : n = peer c) (κ₁ κ₂ : ℕ) {hsc : (outM : Memref sig (Dev.tc n : Thread nD τ).2.kind .hbm S512x640 .f32).view.ref.isScScratch = false}
    {hsrc : (srcM c).view.WordExact} {hdst : outM.view.WordExact}
    {hsem : DmaTarget.Typed .hbm (.dma recvS.sem) (.remote (Dev.tc n : Thread nD τ) outM (.dma sendS.sem) hsc)}
    {α : Type} {Q : α → sProp 𝕄} {k : PUnit → Prog (TpuEff nD τ sig (Elt F) Λ₀ .tc) α}
    (fn : Buf (Elt F) ((peer c : Thread nD τ).loc main_v1)) (W : Waits sig Unit) :
    iprop(cellInv ER (rd m) κ₁ (sendCell c) ∗ cellInv ER (rd m) κ₂ (recvCell (peer c))
        ∗ srcPts m c ∗ outPts (peer c) fn ∗ owes (c : Thread nD τ) (O₀ c) W
        ∗ dutyTok ER (sendCell c) 0 () ∗ reached ER (sendCell c) 0 ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c) (.remote (Dev.tc n : Thread nD τ) outM (.dma sendS.sem) hsc) (.dma recvS.sem) hsrc hdst hsem) k) Q) := by
  subst hn
  rw [outPts_eq]
  unfold srcPts
  exact Rounds.wp_send_pointsTo 𝒱₀ ER (rd m) (c : Thread nD τ) none (κ₁ := κ₁) (κ₂ := κ₂)
    (c' := (peer c : Thread nD τ)) (src := srcM c) (dst := outM) (sS := .dma sendS.sem) (sem := .dma recvS.sem)
    (hsc := hsc) (hsrc := hsrc) (hdst := hdst) (hsem := hsem) (k := k) (q := fullShare)
    (fs := m ((c : Thread nD τ).loc main_arg0)) (r₁ := 0) (r₂ := 0) (d₁ := ()) (d₂ := ()) (fd := fn)
    (by rw [Exchange.duties_0]; exact Finset.mem_singleton_self _) (by rw [Exchange.duties_0]; exact Finset.mem_singleton_self _)
    () () N N_out rfl rfl 0 (by rw [zero_add]; rfl) (W := W)
    (Entails.of_eq (payload_send m c).symm) (pay_peer m c fn)

set_option maxHeartbeats 1600000 in
theorem sound_body (c : Dev nD) (W : Waits sig Unit) (Kt : PUnit → sProp 𝕄) :
    iprop((Φ₀ m c ∗ owes (c : Thread nD τ) (O₀ c) W) ∗ (iprop(Φ₁ m c ∗ ∃ W', owes (c : Thread nD τ) (0 : CellTallies nD τ sig Unit) W') -∗ Kt ⟨⟩))
      ⊢ wp frame (wpE (defs₀ (F := F)) 𝒱₀ c none) Set.univ
          (cc0_grad_half_exchange_w_in (Memref.whole main_arg0) (Memref.isWhole_whole _) (Memref.whole main_v1) (Memref.isWhole_whole _) cc0_scratch0 cc0_scratch1) Kt := by
  simp only [cc0_grad_half_exchange_w_in_eq_skeleton, cc0_grad_half_exchange_w_in_skel]
  simp only [Prog.lift, Prog.bind_op, Prog.bind_ret, Prog.pure_eq_ret, wp_deviceId]
  unfold Φ₀ ghost
  iintro ⟨⟨⟨⟨⟨%κ₁, #HIs⟩, ⟨%κ₂, #HIr⟩, ⟨%κ₃, #HIp⟩, HatS, HatR, #HrS, #HrP, HtS, HtP, HcR⟩, Hx, Ho⟩, HO⟩, Hk⟩
  ihave Hsrc := (Entails.of_eq (xPts_src m c)) $$ Hx
  iapply (wp_send_peer m c _ (dev1_eq c) κ₁ κ₃ _ W) $$ [Hsrc Ho HO HtS HtP]
  · isplitr; · iexact HIs
    isplitr; · iexact HIp
    isplitl [Hsrc]; · iexact Hsrc
    isplitl [Ho]; · iexact Ho
    isplitl [HO]; · iexact HO
    isplitl [HtS]; · iexact HtS
    isplitr; · iexact HrS
    isplitl [HtP]; · iexact HtP
    iexact HrP
  iintro ⟨HcS, HO⟩
  iapply (Rounds.wp_wait_rest_token 𝒱₀ ER (rd m) (c : Thread nD τ) none (κ := κ₁)
      (wpE_waitDma2_eq 𝒱₀ (c : Thread nD τ) none Set.univ) (Set.mem_univ _) () (O := 0) (W := W) (R := 0) (m := 0) (T := ∅)
      ((congrArg (0 + ·) (N_src c)).trans (expect_0 m (sendCell c)))) $$ [HcS HO HatS]
  · isplitr; · iexact HIs
    isplitl [HcS]; · iapply (Entails.of_eq (congrArg (fun n => cred (tallyAt (sendCell c) () n)) (N_src c).symm)); iexact HcS
    isplitl [HO]; · iexact HO
    isplitr; · rw [MayWait_zero]; iempintro
    iexact HatS
  iintro ⟨HO, HatS, -, Hpay⟩
  ihave Hsrc := (Entails.of_eq ((Exchange.rest (sendCell c)).trans (payload_send m c))) $$ Hpay
  iapply (Rounds.wp_wait_rest_token 𝒱₀ ER (rd m) (c : Thread nD τ) none (κ := κ₂)
      (wpE_waitDma2_eq 𝒱₀ (c : Thread nD τ) none Set.univ) (Set.mem_univ _) () (O := 0) (R := 0) (m := 0) (T := ∅)
      ((congrArg (0 + ·) N_out).trans (expect_0 m (recvCell c)))) $$ [HcR HO HatR]
  · isplitr; · iexact HIr
    isplitl [HcR]; · iapply (Entails.of_eq (congrArg (fun n => cred (tallyAt (recvCell c) () n)) N_out.symm)); iexact HcR
    isplitl [HO]; · iexact HO
    isplitr; · rw [MayWait_zero]; iempintro
    iexact HatR
  iintro ⟨HO, HatR, -, Hpay⟩
  ihave Hout := (Entails.of_eq ((Exchange.rest (recvCell c)).trans (payload_recv m c))) $$ Hpay
  rw [wp_ret]
  imod (Rounds.cell_close ER (rd m) (Set.mem_univ κ₁) (fun h => h) (R := 0 + 1) (Exchange.duties_later (sendCell c))) $$ [HatS] with HzS
  · isplitr; · iexact HIs
    iexact HatS
  imod (Rounds.cell_close ER (rd m) (Set.mem_univ κ₂) (fun h => h) (R := 0 + 1) (Exchange.duties_later (recvCell c))) $$ [HatR] with HzR
  · isplitr; · iexact HIr
    iexact HatR
  imodintro
  iapply Hk
  unfold Φ₁
  isplitr [HO]
  · isplitl [Hsrc]
    · iapply (Entails.of_eq (xPts_src m c).symm); iexact Hsrc
    isplitl [Hout]; · iexact Hout
    isplitl [HzS] <;> iassumption
  iexists _; iexact HO

theorem body_obligation (c : Dev nD) : BodyObligation (dats (F := F) m 0 c) (defs₀ (F := F)) 𝒱₀ () Set.univ :=
  Exchange.body_of cfg0 ⟨fun w => w.elim0⟩ c (Φ₀ m c) (Φ₁ m c) (O₀ c) N_0 defs₀ 𝒱₀ fun _ W K => sound_body m c W fun _ => K

/-! ## The launch -/

abbrev cellAt (ck : Dev nD × Fin 2) : GSem nD τ sig := ((ck.1 : Thread nD τ), .dma (if ck.2 = 0 then sendS.sem else recvS.sem))
theorem cellAt_injective : Function.Injective cellAt := by
  rintro ⟨c, k⟩ ⟨c', k'⟩ h
  have h1 : c = c' := congrArg (fun g : GSem nD τ sig => g.1.1) h
  have h2 := congrArg Prod.snd h
  subst h1
  fin_cases k <;> fin_cases k' <;> first | rfl | exact absurd h2 send_ne_recv | exact absurd h2.symm send_ne_recv

abbrev cells : Dev nD × Fin 2 ↪ GSem nD τ sig := ⟨cellAt, cellAt_injective⟩
def u₀ : UR sig nD τ := Exchange.u₀ cells

omit [FloatOps F] in
theorem two (Φ : Dev nD → sProp 𝕄) : bigSep Finset.univ Φ = iprop(Φ 0 ∗ Φ 1) :=
  bigSep_univ_eq_bigSepL [0, 1] (by decide) (by decide) Φ

/-- One assertion of each of the four cells. -/
abbrev both (Φ : GSem nD τ sig → sProp 𝕄) : sProp 𝕄 := iprop((Φ (sendCell 0) ∗ Φ (recvCell 0)) ∗ Φ (sendCell 1) ∗ Φ (recvCell 1))

omit [FloatOps F] in
/-- The four cells opened: from their counters at zero and the ghost element, their invariants, round 0 reached, and each
    cell's position and token. -/
theorem fund_cells : iprop(ownU u₀ ∗ both (F := F) fun g => semVal g 0)
    ⊢ (|={Set.univ}=> iprop(both (fun g => iprop(∃ κ : ℕ, cellInv ER (rd m) κ g)) ∗ both (fun g => reached ER g 0)
        ∗ both (fun g => atPos ER g 0 ∅ 0) ∗ both fun g => dutyTok ER g 0 ()) : sProp 𝕄) := by
  have h := Exchange.fund cells (rd m)
  rw [two, two, two, two, two] at h
  exact h

/-- What core `c` brings to the launch. -/
def brings (c : Dev nD) : sProp 𝕄 :=
  iprop((semVal (sendCell c) 0 ∗ semVal (recvCell c) 0) ∗ xPts m c ∗ outPts c (m ((c : Thread nD τ).loc main_v1))
    ∗ owes (c : Thread nD τ) (O₀ c) ∅ ∗ cred (tallyAt (recvCell c) () N))

/-- What core `c` runs from. -/
def pre (c : Dev nD) : sProp 𝕄 := iprop(Φ₀ m c ∗ owes (c : Thread nD τ) (O₀ c) ∅)

omit [FloatOps F] in
theorem scopedSems_eq (c : Dev nD) : (scopedSems0 (c : Thread nD τ) : sProp 𝕄) = iprop(semVal (sendCell c) 0 ∗ semVal (recvCell c) 0) := by
  rw [show (scopedSems0 (c : Thread nD τ) : sProp 𝕄) = _ from scopedSems0_tc c]
  exact bigSep_eq_bigSepL_of_eq [SemLoc.dma sendS.sem, SemLoc.dma recvS.sem] (by decide) (by decide) _
omit [FloatOps F] in
theorem scopedBufs_eq (c : Dev nD) : (scopedBufs (c : Thread nD τ) : sProp 𝕄) = iprop(emp) := by
  rw [show (scopedBufs (c : Thread nD τ) : sProp 𝕄) = _ from scopedBufs_tc c]
  exact bigSep_eq_bigSepL_of_eq [] (by decide) (by decide) _
omit [FloatOps F] in
theorem unscopedBufs_eq (c : Dev nD) (V : (b : Ref sig .tc) → Buf (Elt F) ((c : Thread nD τ).loc b)) :
    (unscopedBufs c V : sProp 𝕄) = iprop((((c : Thread nD τ).loc main_arg0) ↦{fullShare} V main_arg0) ∗ (((c : Thread nD τ).loc main_v1) ↦{fullShare} V main_v1)) := by
  unfold unscopedBufs
  exact bigSep_eq_bigSepL_of_eq [main_arg0, main_v1] (by decide) (by decide) _

omit [FloatOps F] in
theorem core_brings (c : Dev nD) :
    coreInit (Ix := Unit) (Name := ℕ) (U := UR sig nD τ) (Lvl := ℕ) (Pipeline.owing O₀) 0 (⟨m, fun _ => 0, ρ⟩ : MemSt nD τ sig (Elt F)) (c : Thread nD τ)
      ⊢ brings m c := by
  refine (Pipeline.coreInit_boundary_owing O₀ m ρ c).trans ?_
  unfold boundary brings xPts outPts
  rw [scopedSems_eq, unscopedBufs_eq]
  iintro ⟨⟨-, Hs, -⟩, ⟨Hx, Ho⟩, -, HO, -, -, Hcr⟩
  isplitl [Hs]; · iexact Hs
  isplitl [Hx]; · iexact Hx
  isplitl [Ho]; · iexact Ho
  isplitl [HO]; · iexact HO
  iapply (Pipeline.launchCred_tallyAt (.dma recvS.sem) peer peer peer_peer peer_peer () N c); iexact Hcr

omit [FloatOps F] in
/-- The launch: the cells opened, and each core handed its peer's result array. -/
theorem deal : iprop(bigSep Finset.univ (fun d : Dev nD => coreInit (Ix := Unit) (Name := ℕ) (U := UR sig nD τ) (Lvl := ℕ) (Pipeline.owing O₀) 0
        (⟨m, fun _ => 0, ρ⟩ : MemSt nD τ sig (Elt F)) (d : Thread nD τ)) ∗ ownU u₀)
    ⊢ (|={Set.univ}=> iprop(∃ _x : Unit, bigSep Finset.univ (pre m) ∗ emp) : sProp 𝕄) := by
  refine (sep_mono_left (bigSep_mono fun c _ => core_brings m ρ c)).trans ?_
  rw [two, two]
  unfold brings
  iintro ⟨⟨⟨⟨Hs0, Hr0⟩, Hx0, Ho0, HO0, Hc0⟩, ⟨Hs1, Hr1⟩, Hx1, Ho1, HO1, Hc1⟩, Hu⟩
  imod (fund_cells m) $$ [Hu Hs0 Hr0 Hs1 Hr1] with ⟨⟨⟨#IS0, #IR0⟩, #IS1, #IR1⟩, ⟨⟨#RS0, #RR0⟩, #RS1, #RR1⟩, ⟨⟨AS0, AR0⟩, AS1, AR1⟩, ⟨TS0, TR0⟩, TS1, TR1⟩
  · isplitl [Hu]; · iexact Hu
    isplitl [Hs0 Hr0]
    · isplitl [Hs0] <;> iassumption
    isplitl [Hs1] <;> iassumption
  imodintro
  iexists ()
  unfold pre Φ₀ ghost
  rw [show peer 0 = 1 from rfl, show peer 1 = 0 from rfl]
  isplitl
  · isplitl [AS0 AR0 TS0 TR1 Hc0 Hx0 Ho1 HO0]
    · isplitr [HO0]
      · isplitl [AS0 AR0 TS0 TR1 Hc0]
        · isplitr; · iexact IS0
          isplitr; · iexact IR0
          isplitr; · iexact IR1
          isplitl [AS0]; · iexact AS0
          isplitl [AR0]; · iexact AR0
          isplitr; · iexact RS0
          isplitr; · iexact RR1
          isplitl [TS0]; · iexact TS0
          isplitl [TR1] <;> iassumption
        isplitl [Hx0] <;> iassumption
      iexact HO0
    · isplitr [HO1]
      · isplitl [AS1 AR1 TS1 TR0 Hc1]
        · isplitr; · iexact IS1
          isplitr; · iexact IR1
          isplitr; · iexact IR0
          isplitl [AS1]; · iexact AS1
          isplitl [AR1]; · iexact AR1
          isplitr; · iexact RS1
          isplitr; · iexact RR0
          isplitl [TS1]; · iexact TS1
          isplitl [TR0] <;> iassumption
        isplitl [Hx1] <;> iassumption
      iexact HO1
  iempintro

/-- One core's run of @main. -/
theorem core_run (c : Dev nD) : pre m c ⊢ wp frame (wpE (defs (F := F)) (Variants.lift 𝒱₀) (c : Thread nD τ) none) Set.univ (main (F := F) c)
    (fun _ => post (liftTc (Exchange.fin m main_arg0 main_v1 (landed m)) BI.emp) (c : Thread nD τ)) := by
  refine Exchange.core_run m main_arg0 main_v1 (landed m) cfgs (dats m) cellOf_inj defs₀ 𝒱₀ ⟨fun w => w.elim0⟩ c (body_obligation m c) (scopedBufs_eq c) (Φ₀ m c) (O₀ c) rfl rfl rfl ?_
  show Φ₁ m c ⊢ _
  unfold Φ₁ Exchange.fin Exchange.ends xPts outPts
  rw [scopedSems_eq]
  iintro ⟨Hx, Ho, Hs⟩
  isplitl [Hx Ho]
  · isplitl [Hx] <;> iassumption
  iexact Hs

/-- Every weakly fair execution terminates, each core's result array holding what its peer sent, its argument unchanged and
    every semaphore counter at zero. -/
theorem run : θ_run defs (onTc (τ := τ) (main (F := F))) ⟨m, fun _ => 0, ρ⟩ (fun r =>
    (∀ c : Dev nD, r.2.mem ((c : Thread nD τ).loc main_v1) = landed m c
      ∧ r.2.mem ((c : Thread nD τ).loc main_arg0) = m ((c : Thread nD τ).loc main_arg0)) ∧ r.2.sem = fun _ => 0) :=
  Exchange.run_of m ρ main_arg0 main_v1 (landed m) defs main (Variants.lift 𝒱₀) O₀ u₀ (pre m) (by decide) (deal m ρ) (core_run m)

end Cert.HalfProof

end
-- ==== Proof.HalfEx.lean ====
module

public import proofs.«01_k».proof.Defs
public import proofs.«01_k».proof.Proof.Gen.HalfKernelIdeal
public import proofs.«01_k».proof.Proof.Gen.HalfReferenceIdeal.Run
public import proofs.«01_k».proof.Proof.Gen.HalfReferenceIdeal.Read
public import proofs.«01_k».proof.Proof.Half

@[expose] public section

noncomputable section

open Idealize.ShloMosaic Idealize.SL.Sem

namespace Cert.Half

open Cert.HalfKernel Cert.HalfProof
open Facts₀ Facts

/-- Where the reference takes the element `i` of block `c` of its result. -/
def wholeIdx (c : Dev nD) (i : S512x640.Idx) : Cert.HalfReferenceIdeal.S1024x640.Idx := fun a => match a with
  | ⟨0, _⟩ => ⟨(1 - c.val) * 512 + (i 0).val, by have h : (i 0).val < 512 := (i 0).isLt; show _ < 1024; omega⟩
  | ⟨1, _⟩ => ⟨(i 1).val, (i 1).isLt⟩

open Cert.HalfReferenceIdeal.Read Layout in
/-- Block `c` of the reference's result. -/
theorem reference_apply (t : (⟨Cert.HalfReferenceIdeal.S1024x640, .f32⟩ : BufTy).Contents (Elt Ideal)) (c : Dev nD) (i : S512x640.Idx) :
    (block ⟨2, ![512, 640]⟩ ⟨2, ![1024, 640]⟩ 0 2 c (val_main_v2 (F := Ideal) t)) i = t (wholeIdx c i) := by
  show concatenate Cert.HalfReferenceIdeal.S1024x640 0 [⟨Cert.HalfReferenceIdeal.S512x640, val_main_v0 (F := Ideal) t⟩,
    ⟨Cert.HalfReferenceIdeal.S512x640, val_main_v1 (F := Ideal) t⟩] Cert.HalfReferenceIdeal.Facts₀.concatenates_S512x640_S512x640_S1024x640_d0 _ = _
  match c with
  | ⟨0, _⟩ =>
    refine (concatenate_pair_apply_left (s₁ := Cert.HalfReferenceIdeal.S512x640) (s₂ := Cert.HalfReferenceIdeal.S512x640) (t := Cert.HalfReferenceIdeal.S1024x640) 0 _ _ _ _ rfl i fun b => ?_).trans ((val_main_v0_apply t i).trans (congrArg t (funext fun a => Fin.ext ?_)))
    · match b with
      | ⟨0, _⟩ => show (i 0).val = 0 * 512 + (i 0).val; omega
      | ⟨1, _⟩ => rfl
    · match a with
      | ⟨0, _⟩ => show 512 + (i 0).val = (1 - 0) * 512 + (i 0).val; omega
      | ⟨1, _⟩ => rfl
  | ⟨1, _⟩ =>
    refine (concatenate_pair_apply_right (s₁ := Cert.HalfReferenceIdeal.S512x640) (s₂ := Cert.HalfReferenceIdeal.S512x640) (t := Cert.HalfReferenceIdeal.S1024x640) 0 _ _ _ _ rfl rfl i (fun b hb => ?_) ?_).trans ((val_main_v1_apply t i).trans (congrArg t (funext fun a => Fin.ext ?_)))
    · match b with
      | ⟨0, _⟩ => exact absurd rfl hb
      | ⟨1, _⟩ => rfl
    · show (i 0).val + 512 = 1 * 512 + (i 0).val; omega
    · match a with
      | ⟨0, _⟩ => show (i 0).val = (1 - 1) * 512 + (i 0).val; omega
      | ⟨1, _⟩ => rfl

/-- What lands on core `c` is block `c` of the reference's result. -/
theorem landed_eq (m : (ℓ : Loc nD τ sig) → Buf (Elt Ideal) ℓ) (t : (⟨Cert.HalfReferenceIdeal.S1024x640, .f32⟩ : BufTy).Contents (Elt Ideal))
    (h : ∀ c : Dev nD, m (c.tc.loc main_arg0) = Layout.block ⟨2, ![512, 640]⟩ ⟨2, ![1024, 640]⟩ 0 2 c t) (c : Dev nD) :
    landed m c = Layout.block ⟨2, ![512, 640]⟩ ⟨2, ![1024, 640]⟩ 0 2 c (Cert.HalfReferenceIdeal.Read.val_main_v2 (F := Ideal) t) := by
  funext i
  refine Eq.trans (b := m ((peer c).tc.loc main_arg0) i) rfl (Eq.trans ?_ (reference_apply t c i).symm)
  rw [h]
  refine congrArg t (funext fun a => Fin.ext ?_)
  match a with
  | ⟨0, _⟩ => rfl
  | ⟨1, _⟩ => rfl

/-- The exchange hands every core what the reference's slices say. -/
theorem algebraic : Cert.algebraic_HalfKernelIdeal_HalfReferenceIdeal := by
  intro m g m' g' _ h
  exact ⟨_, (θ_run _ _ _).mono (fun r hr c => ⟨(hr.1 c).1.trans (landed_eq m _ h c), (hr.1 c).2⟩) (run (F := Ideal) m g),
    (θ_run _ _ _).mono (fun r hr => hr 0) (Cert.HalfReferenceIdeal.Value.run m' g')⟩

theorem frameKernel : Cert.quiescent_HalfKernel := by
  intro m ρ _
  exact (θ_run _ _ _).mono (fun r h => ⟨fun c => (h.1 c).2, h.2⟩) (run m ρ)

theorem frameIdeal : Cert.quiescent_HalfKernelIdeal := by
  intro m ρ _
  exact (θ_run _ _ _).mono (fun r h => ⟨fun c => (h.1 c).2, h.2⟩) (run (F := Ideal) m ρ)

/-- The reference terminates, leaves its argument as it was and has no semaphore. -/
theorem frameReference : Cert.quiescent_HalfReferenceIdeal := by
  intro m ρ _
  exact (θ_run _ _ _).mono (fun r h => ⟨fun c => (h c).2, sem_eq_zero_of_no_sems (by decide) r.2⟩)
    (Cert.HalfReferenceIdeal.Value.run m ρ)

end Cert.Half

end
-- ==== Proof.Chip.lean ====
/-
The exchange of a weight gradient between the four chips, alone: each chip sends slot `r` of its argument into slot `r`
of the result array of its neighbour along the axes that `r` names, and waits until its own three slots have landed.

Nothing tells a chip that another has entered the kernel, so each slot of a result array is dealt to its sender at the
launch. Two semaphore cells a slot carry the protocol, as in module Pair: `sendCell` returns the source slot once it has
been read, `recvCell` returns the chip's own result slot with the neighbour's slot in it.
-/
module

public import proofs.«01_k».proof.Proof.Gen.ChipKernel
public import proofs.«01_k».proof.Proof.Gen.ChipKernel.Skeleton
public import proofs.«01_k».proof.Proof.Gen.ChipKernel.Launch
public import proofs.«01_k».proof.Proof.Exchange
public import Idealize.ShloMosaic.Lib.Pipeline.Launch
public import Idealize.ShloMosaic.Lib.Pipeline.Kit
public import Idealize.ShloMosaic.Lib.Tactic

@[expose] public section

noncomputable section

namespace Cert.ChipProof

open Cert.ChipKernel Cert.ChipKernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Exchange (ER)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four chips, their memory and their cells -/

/-- The chip that slot `r` of chip `c` goes to, and comes from. -/
def peer (r : Fin 3) (c : Dev nD) : Dev nD := match r with
  | ⟨0, _⟩ => ⟨k0_dev1 c, k0_dev1_lt c⟩
  | ⟨1, _⟩ => ⟨k0_dev2 c, k0_dev2_lt c⟩
  | ⟨2, _⟩ => ⟨k0_dev3 c, k0_dev3_lt c⟩

theorem peer_peer (r : Fin 3) (c : Dev nD) : peer r (peer r c) = c := by revert r c; decide +kernel

/-- A slot of a chip, and the slot it is exchanged with. -/
abbrev Slot := Dev nD × Fin 3
def swap : Slot ≃ Slot where
  toFun j := (peer j.2 j.1, j.2)
  invFun j := (peer j.2 j.1, j.2)
  left_inv j := Prod.ext (peer_peer j.2 j.1) rfl
  right_inv j := Prod.ext (peer_peer j.2 j.1) rfl

theorem slot_inb (r : Fin 3) : ∀ a, (![r.val, 0, 0] : Fin 3 → Nat) a + S1x512x640.size a ≤ S3x512x640.size a := by revert r; decide
theorem sem_inb (r : Fin 3) : ∀ a, (![0, r.val] : Fin 2 → Nat) a + S1x1.size a ≤ S1x3.size a := by revert r; decide

abbrev rect (r : Fin 3) : Rect S3x512x640 := Rect.unit (s := S3x512x640) ![r.val, 0, 0] S1x512x640.size (slot_inb r)
/-- Slot `r` of the argument array and of the result array. -/
abbrev srcM (r : Fin 3) : Memref sig .tc .hbm S512x640 .bf16 :=
  ((Memref.whole main_arg0).slice (rect r) (fun _ => rfl)).squeeze S512x640 squeezes_S1x512x640_S512x640
abbrev dstM (r : Fin 3) : Memref sig .tc .hbm S512x640 .bf16 :=
  ((Memref.whole main_v1).slice (rect r) (fun _ => rfl)).squeeze S512x640 squeezes_S1x512x640_S512x640

abbrev sendS (r : Fin 3) : DmaSems sig S_ := (cc0_scratch0.slice (Rect.unit (s := S1x3) ![0, r.val] S1x1.size (sem_inb r))).squeeze S_ squeezes_S1x1_S_
abbrev recvS (r : Fin 3) : DmaSems sig S_ := (cc0_scratch1.slice (Rect.unit (s := S1x3) ![0, r.val] S1x1.size (sem_inb r))).squeeze S_ squeezes_S1x1_S_
def semAt (x : Fin 3 × Fin 2) : SemLoc sig := match x.2 with
  | ⟨0, _⟩ => .dma (sendS x.1).sem
  | ⟨1, _⟩ => .dma (recvS x.1).sem
theorem semAt_injective : Function.Injective semAt := by decide +kernel

abbrev sendCell (c : Dev nD) (r : Fin 3) : GSem nD τ sig := ((c : Thread nD τ), .dma (sendS r).sem)
abbrev recvCell (c : Dev nD) (r : Fin 3) : GSem nD τ sig := ((c : Thread nD τ), .dma (recvS r).sem)

/-- What one transfer pays. -/
@[irreducible] def N : ℕ := (dstM 0).view.dmaCredit
theorem N_pos : 0 < N := by unfold N; exact View.dmaCredit_pos _ (by decide)
theorem N_dst (r : Fin 3) : (dstM r).view.dmaCredit = N := by unfold N; rfl
theorem N_src (r : Fin 3) : (srcM r).view.dmaCredit = N := by unfold N; rfl

/-- What chip `c`'s result array holds at the end: in each slot what the slot's neighbour sent. -/
def landed (c : Dev nD) : Buf (Elt F) ((c : Thread nD τ).loc main_v1) :=
  fun i : S3x512x640.Idx => m ((peer (i 0) c : Thread nD τ).loc main_arg0) i

def xPts (c : Dev nD) : sProp 𝕄 := ((c : Thread nD τ).loc main_arg0) ↦{fullShare} m ((c : Thread nD τ).loc main_arg0)
def outPts (c : Dev nD) (f : Buf (Elt F) ((c : Thread nD τ).loc main_v1)) : sProp 𝕄 := ((c : Thread nD τ).loc main_v1) ↦{fullShare} f
def srcPts (c : Dev nD) (r : Fin 3) : sProp 𝕄 := (srcM r).view.loc (c : Thread nD τ) ↦[(srcM r).view.set]{fullShare} m ((c : Thread nD τ).loc main_arg0)
def dstPts (c : Dev nD) (r : Fin 3) (f : Buf (Elt F) ((c : Thread nD τ).loc main_v1)) : sProp 𝕄 :=
  (dstM r).view.loc (c : Thread nD τ) ↦[(dstM r).view.set]{fullShare} f

theorem mem_rect (r : Fin 3) (i : S3x512x640.Idx) : i ∈ (rect r).set ↔ (i 0 : Fin 3) = r := by
  rw [Rect.mem_set_unit]
  constructor
  · intro h
    have h0 := h 0
    refine Fin.ext ?_
    have h1 : r.val ≤ (i 0).val := h0.1
    have h2 : (i 0).val < r.val + 1 := h0.2
    omega
  · intro h a
    have h1 : (i 1).val < 512 := (i 1).isLt
    have h2 : (i 2).val < 640 := (i 2).isLt
    match a with
    | ⟨0, _⟩ => rw [← h]; exact ⟨Nat.le_refl _, Nat.lt_succ_self _⟩
    | ⟨1, _⟩ => exact ⟨Nat.zero_le _, by show (i 1).val < 0 + 512; omega⟩
    | ⟨2, _⟩ => exact ⟨Nat.zero_le _, by show (i 2).val < 0 + 640; omega⟩

theorem src_set (r : Fin 3) : (srcM r).view.set = (rect r).set := (View.set_reshape _ _).trans (View.set_slice_whole _ _)
theorem dst_set (r : Fin 3) : (dstM r).view.set = (rect r).set := (View.set_reshape _ _).trans (View.set_slice_whole _ _)
theorem rect_disjoint (r r' : Fin 3) (h : r ≠ r') : Disjoint (rect r).set (rect r').set :=
  Finset.disjoint_left.mpr fun i hi hi' => h (((mem_rect r i).1 hi).symm.trans ((mem_rect r' i).1 hi'))
theorem rect_cover : (Finset.univ : Finset (Fin 3)).biUnion (fun r => (rect r).set) = Finset.univ :=
  Finset.eq_univ_iff_forall.mpr fun i => Finset.mem_biUnion.mpr ⟨i 0, Finset.mem_univ _, (mem_rect _ i).2 rfl⟩

omit [FloatOps F] in
theorem xPts_slots (c : Dev nD) : (xPts m c : sProp 𝕄) = bigSep Finset.univ (srcPts m c) := by
  have h := pointsTo_biUnion (Ix := Unit) (Val := Elt F) (Name := ℕ) (U := UR sig nD τ) (Lvl := ℕ) (ℓ := (c : Thread nD τ).loc main_arg0) (q := fullShare) (f := m ((c : Thread nD τ).loc main_arg0))
    (Finset.univ : Finset (Fin 3)) (fun r => (rect r).set) (fun r _ r' _ h => rect_disjoint r r' h)
  rw [rect_cover] at h
  refine Eq.trans h (bigSep_congr fun r _ => ?_)
  unfold srcPts; rw [src_set]
omit [FloatOps F] in
theorem outPts_slots (c : Dev nD) (f : Buf (Elt F) ((c : Thread nD τ).loc main_v1)) : (outPts c f : sProp 𝕄) = bigSep Finset.univ (fun r => dstPts c r f) := by
  have h := pointsTo_biUnion (Ix := Unit) (Val := Elt F) (Name := ℕ) (U := UR sig nD τ) (Lvl := ℕ) (ℓ := (c : Thread nD τ).loc main_v1) (q := fullShare) (f := f)
    (Finset.univ : Finset (Fin 3)) (fun r => (rect r).set) (fun r _ r' _ h => rect_disjoint r r' h)
  rw [rect_cover] at h
  refine Eq.trans h (bigSep_congr fun r _ => ?_)
  unfold dstPts; rw [dst_set]

omit [FloatOps F] in
instance dstPts_storable (c : Dev nD) (r : Fin 3) (f) : BI.Storable (upEmb : UEmb _ 𝕄) (dstPts (F := F) c r f) := by unfold dstPts; infer_instance
omit [FloatOps F] in
instance srcPts_storable (c : Dev nD) (r : Fin 3) : BI.Storable (upEmb : UEmb _ 𝕄) (srcPts (F := F) m c r) := by unfold srcPts; infer_instance

/-! ## The schedule: one round a cell, one transfer a round -/

/-- The slot a receive cell stands for. -/
def recvSlot (s : SemLoc sig) : Option (Fin 3) :=
  if s = .dma (recvS 0).sem then some 0 else if s = .dma (recvS 1).sem then some 1 else if s = .dma (recvS 2).sem then some 2 else none
def sendSlot (s : SemLoc sig) : Fin 3 :=
  if s = .dma (sendS 0).sem then 0 else if s = .dma (sendS 1).sem then 1 else 2
theorem recvSlot_recv (r : Fin 3) : recvSlot (.dma (recvS r).sem) = some r := by revert r; decide +kernel
theorem recvSlot_send (r : Fin 3) : recvSlot (.dma (sendS r).sem) = none := by revert r; decide +kernel
theorem sendSlot_send (r : Fin 3) : sendSlot (.dma (sendS r).sem) = r := by revert r; decide +kernel

def pay (c : Dev nD) (s : SemLoc sig) : sProp 𝕄 := match recvSlot s with
  | some r => dstPts c r (landed m c)
  | none => srcPts m c (sendSlot s)

abbrev rd : Rounds.Schedule (GSem nD τ sig) Unit 𝕄 :=
  Exchange.sched (fun _ => N) (fun _ => N_pos) (fun g => pay m g.1.1 g.2)

instance rd_payload_storable (g : GSem nD τ sig) (r : ℕ) (d : Unit) : BI.Storable (upEmb : UEmb _ 𝕄) ((rd (F := F) m).payload g r d) := by
  show BI.Storable upEmb (pay m g.1.1 g.2)
  unfold pay
  split <;> infer_instance

omit [FloatOps F] in
theorem expect_0 (g : GSem nD τ sig) : 0 + N = (rd (F := F) m).expect g 0 := Exchange.expect_0 (N := fun _ => N) g
omit [FloatOps F] in
theorem payload_send (c : Dev nD) (r : Fin 3) : (rd (F := F) m).payload (sendCell c r) 0 () = srcPts m c r := by
  show pay m c (.dma (sendS r).sem) = _
  unfold pay; rw [recvSlot_send]; show srcPts m c (sendSlot _) = _; rw [sendSlot_send]
omit [FloatOps F] in
theorem payload_recv (c : Dev nD) (r : Fin 3) : (rd (F := F) m).payload (recvCell c r) 0 () = dstPts c r (landed m c) := by
  show pay m c (.dma (recvS r).sem) = _
  unfold pay; rw [recvSlot_recv]

/-! ## The body, slot by slot -/

abbrev inv (g : GSem nD τ sig) : sProp 𝕄 := iprop(∃ κ : ℕ, cellInv ER (rd m) κ g)

/-- What chip `c` holds of slot `r` when it enters the kernel: the protocol's part, and the neighbour's result slot. -/
def held (c : Dev nD) (r : Fin 3) : sProp 𝕄 :=
  iprop((inv m (sendCell c r) ∗ inv m (recvCell c r) ∗ atPos ER (sendCell c r) 0 ∅ 0 ∗ atPos ER (recvCell c r) 0 ∅ 0
      ∗ reached ER (sendCell c r) 0 ∗ dutyTok ER (sendCell c r) 0 () ∗ cred (tallyAt (recvCell c r) () N))
    ∗ (inv m (recvCell (peer r c) r) ∗ reached ER (recvCell (peer r c) r) 0 ∗ dutyTok ER (recvCell (peer r c) r) 0 ()
      ∗ dstPts (peer r c) r (m ((peer r c : Thread nD τ).loc main_v1))))
/-- The slot once its transfer has been started, -/
def started (c : Dev nD) (r : Fin 3) : sProp 𝕄 :=
  iprop(inv m (sendCell c r) ∗ inv m (recvCell c r) ∗ atPos ER (sendCell c r) 0 ∅ 0 ∗ atPos ER (recvCell c r) 0 ∅ 0
      ∗ cred (tallyAt (sendCell c r) () N) ∗ cred (tallyAt (recvCell c r) () N))
/-- once it has been read, -/
def sent (c : Dev nD) (r : Fin 3) : sProp 𝕄 :=
  iprop(inv m (sendCell c r) ∗ inv m (recvCell c r) ∗ atPos ER (sendCell c r) (0 + 1) ∅ 0 ∗ atPos ER (recvCell c r) 0 ∅ 0
      ∗ srcPts m c r ∗ cred (tallyAt (recvCell c r) () N))
/-- and once the neighbour's slot has landed. -/
def done (c : Dev nD) (r : Fin 3) : sProp 𝕄 :=
  iprop(inv m (sendCell c r) ∗ inv m (recvCell c r) ∗ atPos ER (sendCell c r) (0 + 1) ∅ 0 ∗ atPos ER (recvCell c r) (0 + 1) ∅ 0
      ∗ srcPts m c r ∗ dstPts c r (landed m c))
def closed (c : Dev nD) (r : Fin 3) : sProp 𝕄 :=
  iprop(srcPts m c r ∗ dstPts c r (landed m c) ∗ semVal (sendCell c r) 0 ∗ semVal (recvCell c r) 0)

def due (r : Fin 3) (c : Dev nD) : CellTallies nD τ sig Unit := tallyAt (recvCell (peer r c) r) () N
def O₀ (c : Dev nD) : CellTallies nD τ sig Unit := 0 + due 2 c + due 1 c + due 0 c

def Φ₀ (c : Dev nD) : sProp 𝕄 := iprop(bigSep Finset.univ (held m c) ∗ xPts m c)
def Φ₁ (c : Dev nD) : sProp 𝕄 := iprop(xPts m c ∗ outPts c (landed m c) ∗ bigSep Finset.univ (fun r => iprop(semVal (sendCell c r) 0 ∗ semVal (recvCell c r) 0)))

abbrev dats (_ : Fin 1) (c : Dev nD) : Dat τ (Elt F) Unit ℕ (UR sig nD τ) ℕ cfg0 c :=
  Exchange.dat cfg0 ⟨fun w => w.elim0⟩ c (Φ₀ m c) (Φ₁ m c) (O₀ c)

abbrev 𝒱₀ : Variants := Variants.none

omit [FloatOps F] in
/-- The transfer lands as slot `r` of the receiver's result array. -/
theorem pay_peer (c : Dev nD) (r : Fin 3) (fn : Buf (Elt F) ((peer r c : Thread nD τ).loc main_v1)) :
    ((dstM r).view.loc (peer r c : Thread nD τ) ↦[(dstM r).view.set]{fullShare}
        ((dstM r).view.write (Elt F) fn ((srcM r).view.read (Elt F) (m ((c : Thread nD τ).loc main_arg0))) Finset.univ) : sProp 𝕄)
      ⊢ (rd m).payload (recvCell (peer r c) r) 0 () := by
  rw [payload_recv]
  unfold dstPts
  refine Entails.of_eq (pointsTo_congr fun i hi => ?_)
  obtain ⟨x, -, rfl⟩ := Finset.mem_map.mp hi
  have hr : (((dstM r).view.emb x : S3x512x640.Idx) 0 : Fin 3) = r := (mem_rect r _).1 (dst_set r ▸ hi)
  refine (View.write_emb_of_mem _ _ (Finset.mem_univ x)).trans ?_
  show m ((c : Thread nD τ).loc main_arg0) ((srcM r).view.emb x) = m ((peer (((dstM r).view.emb x : S3x512x640.Idx) 0) (peer r c) : Thread nD τ).loc main_arg0) ((dstM r).view.emb x)
  rw [hr, peer_peer]
  rfl

theorem wp_start (c n : Dev nD) (r : Fin 3) (hn : n = peer r c) {hsc : (dstM r : Memref sig (Dev.tc n : Thread nD τ).2.kind .hbm S512x640 .bf16).view.ref.isScScratch = false}
    {hsrc : (srcM r).view.WordExact} {hdst : (dstM r).view.WordExact}
    {hsem : DmaTarget.Typed .hbm (.dma (recvS r).sem) (.remote (Dev.tc n : Thread nD τ) (dstM r) (.dma (sendS r).sem) hsc)}
    {α : Type} {Q : α → sProp 𝕄} {k : PUnit → Prog (TpuEff nD τ sig (Elt F) Λ₀ .tc) α} (O : CellTallies nD τ sig Unit) (W : Waits sig Unit) :
    iprop(held m c r ∗ srcPts m c r ∗ owes (c : Thread nD τ) (O + due r c) W)
      ⊢ iprop(((started m c r ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM r) (.remote (Dev.tc n : Thread nD τ) (dstM r) (.dma (sendS r).sem) hsc) (.dma (recvS r).sem) hsrc hdst hsem) k) Q) := by
  subst hn
  unfold held started
  iintro ⟨⟨⟨⟨%κ₁, #HIs⟩, ⟨%κ₂, #HIr⟩, HatS, HatR, #HrS, HtS, HcR⟩, ⟨%κ₃, #HIp⟩, #HrP, HtP, Hd⟩, Hs, HO⟩ Hk
  unfold srcPts dstPts
  iapply (Rounds.wp_send_pointsTo 𝒱₀ ER (rd m) (c : Thread nD τ) none (κ₁ := κ₁) (κ₂ := κ₃)
    (c' := (peer r c : Thread nD τ)) (src := srcM r) (dst := dstM r) (sS := .dma (sendS r).sem) (sem := .dma (recvS r).sem)
    (hsc := hsc) (hsrc := hsrc) (hdst := hdst) (hsem := hsem) (k := k) (q := fullShare)
    (fs := m ((c : Thread nD τ).loc main_arg0)) (r₁ := 0) (r₂ := 0) (d₁ := ()) (d₂ := ()) (fd := m ((peer r c : Thread nD τ).loc main_v1))
    (by rw [Exchange.duties_0]; exact Finset.mem_singleton_self _) (by rw [Exchange.duties_0]; exact Finset.mem_singleton_self _)
    () () N (N_dst r) rfl rfl (O₀ := O + due r c) O rfl (W := W)
    (Entails.of_eq (payload_send m c r).symm) (pay_peer m c r _)) $$ [Hs Hd HO HtS HtP]
  · isplitr; · iexact HIs
    isplitr; · iexact HIp
    isplitl [Hs]; · iexact Hs
    isplitl [Hd]; · iexact Hd
    isplitl [HO]; · iexact HO
    isplitl [HtS]; · iexact HtS
    isplitr; · iexact HrS
    isplitl [HtP]; · iexact HtP
    iexact HrP
  iintro ⟨HcS, HO⟩
  iapply Hk
  isplitr [HO]
  · isplitr; · iexists κ₁; iexact HIs
    isplitr; · iexists κ₂; iexact HIr
    isplitl [HatS]; · iexact HatS
    isplitl [HatR]; · iexact HatR
    isplitl [HcS] <;> iassumption
  iexact HO

/-- A wait for the one transfer of a cell. -/
theorem wp_wait (c : Dev nD) (s : DmaSem sig) {sp sp' : Space} {v v' : Shape} {e e' : EltTy} {κ' : Kind} {src : Memref sig .tc sp' v' e'} {dst : Memref sig κ' sp v e}
    (hN : dst.view.dmaCredit = N) {hsrc : src.view.WordExact} {hdst : dst.view.WordExact}
    {α : Type} {Q : α → sProp 𝕄} {k : PUnit → Prog (TpuEff nD τ sig (Elt F) Λ₀ .tc) α} :
    iprop(inv m ((c : Thread nD τ), .dma s) ∗ cred (tallyAt ((c : Thread nD τ), .dma s) () N) ∗ (∃ W, owes (c : Thread nD τ) (0 : CellTallies nD τ sig Unit) W)
        ∗ atPos ER ((c : Thread nD τ), .dma s) 0 ∅ 0)
      ⊢ iprop((((∃ W, owes (c : Thread nD τ) (0 : CellTallies nD τ sig Unit) W) ∗ inv m ((c : Thread nD τ), .dma s) ∗ atPos ER ((c : Thread nD τ), .dma s) (0 + 1) ∅ 0
              ∗ (rd m).payload ((c : Thread nD τ), .dma s) 0 ())
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  iintro ⟨⟨%κ, #HI⟩, Hc, ⟨%W, HO⟩, Hat⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      ((congrArg (0 + ·) hN).trans (expect_0 m ((c : Thread nD τ), .dma s)))) $$ [Hc HO Hat]
  · isplitr; · iexact HI
    isplitl [Hc]; · iapply (Entails.of_eq (congrArg (fun n => cred (tallyAt ((c : Thread nD τ), .dma s) () n)) hN.symm)); iexact Hc
    isplitl [HO]; · iexact HO
    isplitr; · rw [MayWait_zero]; iempintro
    iexact Hat
  iintro ⟨HO, Hat, -, Hpay⟩
  iapply Hk
  isplitl [HO]; · iexists _; iexact HO
  isplitr; · iexists κ; iexact HI
  isplitl [Hat]; · iexact Hat
  iapply (Entails.of_eq (Exchange.rest ((c : Thread nD τ), .dma s))); iexact Hpay

theorem wp_sent (c : Dev nD) (r : Fin 3) {hsrc : (dstM r).view.WordExact} {hdst : (srcM r).view.WordExact}
    {α : Type} {Q : α → sProp 𝕄} {k : PUnit → Prog (TpuEff nD τ sig (Elt F) Λ₀ .tc) α} :
    iprop(started m c r ∗ ∃ W, owes (c : Thread nD τ) (0 : CellTallies nD τ sig Unit) W)
      ⊢ iprop(((sent m c r ∗ ∃ W, owes (c : Thread nD τ) (0 : CellTallies nD τ sig Unit) W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS r).sem (dstM r) (srcM r) hsrc hdst) k) Q) := by
  unfold started sent
  iintro ⟨⟨HIs, HIr, HatS, HatR, HcS, HcR⟩, HO⟩ Hk
  iapply (wp_wait m c (sendS r).sem (N_src r)) $$ [HIs HcS HO HatS]
  · isplitl [HIs]; · iexact HIs
    isplitl [HcS]; · iexact HcS
    isplitl [HO] <;> iassumption
  iintro ⟨HO, HIs, HatS, Hpay⟩
  iapply Hk
  isplitr [HO]
  · isplitl [HIs]; · iexact HIs
    isplitl [HIr]; · iexact HIr
    isplitl [HatS]; · iexact HatS
    isplitl [HatR]; · iexact HatR
    isplitl [Hpay]; · iapply (Entails.of_eq (payload_send m c r)); iexact Hpay
    iexact HcR
  iexact HO

theorem wp_done (c : Dev nD) (r : Fin 3) {hsrc : (srcM r).view.WordExact} {hdst : (dstM r).view.WordExact}
    {α : Type} {Q : α → sProp 𝕄} {k : PUnit → Prog (TpuEff nD τ sig (Elt F) Λ₀ .tc) α} :
    iprop(sent m c r ∗ ∃ W, owes (c : Thread nD τ) (0 : CellTallies nD τ sig Unit) W)
      ⊢ iprop(((done m c r ∗ ∃ W, owes (c : Thread nD τ) (0 : CellTallies nD τ sig Unit) W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS r).sem (srcM r) (dstM r) hsrc hdst) k) Q) := by
  unfold sent done
  iintro ⟨⟨HIs, HIr, HatS, HatR, Hs, HcR⟩, HO⟩ Hk
  iapply (wp_wait m c (recvS r).sem (N_dst r)) $$ [HIr HcR HO HatR]
  · isplitl [HIr]; · iexact HIr
    isplitl [HcR]; · iexact HcR
    isplitl [HO] <;> iassumption
  iintro ⟨HO, HIr, HatR, Hpay⟩
  iapply Hk
  isplitr [HO]
  · isplitl [HIs]; · iexact HIs
    isplitl [HIr]; · iexact HIr
    isplitl [HatS]; · iexact HatS
    isplitl [HatR]; · iexact HatR
    isplitl [Hs]; · iexact Hs
    iapply (Entails.of_eq (payload_recv m c r)); iexact Hpay
  iexact HO

/-- Both cells of a finished slot closed. -/
theorem close (c : Dev nD) (r : Fin 3) : done m c r ⊢ (|={Set.univ}=> closed m c r : sProp 𝕄) := by
  unfold done closed
  iintro ⟨⟨%κ₁, #HIs⟩, ⟨%κ₂, #HIr⟩, HatS, HatR, Hs, Hd⟩
  imod (Rounds.cell_close ER (rd m) (Set.mem_univ κ₁) (fun h => h) (R := 0 + 1) (Exchange.duties_later (sendCell c r))) $$ [HatS] with HzS
  · isplitr; · iexact HIs
    iexact HatS
  imod (Rounds.cell_close ER (rd m) (Set.mem_univ κ₂) (fun h => h) (R := 0 + 1) (Exchange.duties_later (recvCell c r))) $$ [HatR] with HzR
  · isplitr; · iexact HIr
    iexact HatR
  imodintro
  isplitl [Hs]; · iexact Hs
  isplitl [Hd]; · iexact Hd
  isplitl [HzS] <;> iassumption

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

theorem close_all (c : Dev nD) : bigSep Finset.univ (done m c) ⊢ (|={Set.univ}=> Φ₁ m c : sProp 𝕄) := by
  have h : bigSep Finset.univ (closed m c) ⊢ (Φ₁ m c : sProp 𝕄) := by
    unfold Φ₁ closed
    rw [xPts_slots, outPts_slots, bigSep_sep', bigSep_sep']
  have hc : bigSep Finset.univ (done m c) ⊢ (|={Set.univ}=> bigSep Finset.univ (closed m c) : sProp 𝕄) :=
    (bigSep_mono fun r _ => close m c r).trans (bigSep_fupd Finset.univ (closed m c))
  iintro H
  imod hc $$ H with H
  imodintro
  iapply h; iexact H

set_option maxHeartbeats 1600000 in
theorem sound_body (c : Dev nD) (W : Waits sig Unit) (Kt : PUnit → sProp 𝕄) :
    iprop((Φ₀ m c ∗ owes (c : Thread nD τ) (O₀ c) W) ∗ (iprop(Φ₁ m c ∗ ∃ W', owes (c : Thread nD τ) (0 : CellTallies nD τ sig Unit) W') -∗ Kt ⟨⟩))
      ⊢ wp frame (wpE (defs₀ (F := F)) 𝒱₀ c none) Set.univ
          (cc0_grad_chip_exchange_w_in (Memref.whole main_arg0) (Memref.isWhole_whole _) (Memref.whole main_v1) (Memref.isWhole_whole _) cc0_scratch0 cc0_scratch1) Kt := by
  simp only [cc0_grad_chip_exchange_w_in_eq_skeleton, cc0_grad_chip_exchange_w_in_skel, k0_part1_eq_skeleton, k0_part1_skel, k0_part2_eq_skeleton, k0_part2_skel,
    k0_part3_eq_skeleton, k0_part3_skel, k0_part4_eq_skeleton, k0_part4_skel]
  simp only [Prog.lift, Prog.bind_op, Prog.bind_ret, Prog.pure_eq_ret, wp_deviceId]
  unfold Φ₀ O₀
  rw [xPts_slots, three, three]
  iintro ⟨⟨⟨⟨H0, H1, H2⟩, S0, S1, S2⟩, HO⟩, Hk⟩
  iapply (wp_start m c _ 0 rfl (0 + due 2 c + due 1 c) W) $$ [H0 S0 HO]
  · isplitl [H0]; · iexact H0
    isplitl [S0] <;> iassumption
  iintro ⟨H0, HO⟩
  iapply (wp_start m c _ 1 rfl (0 + due 2 c) W) $$ [H1 S1 HO]
  · isplitl [H1]; · iexact H1
    isplitl [S1] <;> iassumption
  iintro ⟨H1, HO⟩
  iapply (wp_start m c _ 2 rfl 0 W) $$ [H2 S2 HO]
  · isplitl [H2]; · iexact H2
    isplitl [S2] <;> iassumption
  iintro ⟨H2, HO⟩
  iapply (wp_sent m c 0) $$ [H0 HO]
  · isplitl [H0]; · iexact H0
    iexists W; iexact HO
  iintro H0
  iapply (wp_done m c 0) $$ H0
  iintro ⟨H0, HO⟩
  iapply (wp_sent m c 1) $$ [H1 HO]
  · isplitl [H1] <;> iassumption
  iintro H1
  iapply (wp_done m c 1) $$ H1
  iintro ⟨H1, HO⟩
  iapply (wp_sent m c 2) $$ [H2 HO]
  · isplitl [H2] <;> iassumption
  iintro H2
  iapply (wp_done m c 2) $$ H2
  iintro ⟨H2, HO⟩
  rw [wp_ret]
  imod (close_all m c) $$ [H0 H1 H2] with HΦ
  · rw [three]
    isplitl [H0]; · iexact H0
    isplitl [H1] <;> iassumption
  imodintro
  iapply Hk
  isplitl [HΦ] <;> iassumption

theorem body_obligation (c : Dev nD) : BodyObligation (dats (F := F) m 0 c) (defs₀ (F := F)) 𝒱₀ () Set.univ :=
  Exchange.body_of cfg0 ⟨fun w => w.elim0⟩ c (Φ₀ m c) (Φ₁ m c) (O₀ c) N_0 defs₀ 𝒱₀ fun _ W K => sound_body m c W fun _ => K

/-! ## The launch -/

abbrev cellAt (x : Slot × Fin 2) : GSem nD τ sig := ((x.1.1 : Thread nD τ), semAt (x.1.2, x.2))
theorem cellAt_injective : Function.Injective cellAt := by
  rintro ⟨⟨c, r⟩, k⟩ ⟨⟨c', r'⟩, k'⟩ h
  have h1 : c = c' := congrArg (fun g : GSem nD τ sig => g.1.1) h
  have h2 := Prod.ext_iff.1 (semAt_injective (congrArg Prod.snd h))
  exact Prod.ext (Prod.ext h1 h2.1) h2.2

abbrev cells : Slot × Fin 2 ↪ GSem nD τ sig := ⟨cellAt, cellAt_injective⟩
def u₀ : UR sig nD τ := Exchange.u₀ cells

/-- One assertion of each cell of a slot. -/
abbrev both (Φ : GSem nD τ sig → sProp 𝕄) (j : Slot) : sProp 𝕄 := iprop(Φ (sendCell j.1 j.2) ∗ Φ (recvCell j.1 j.2))

omit [FloatOps F] in
/-- The cells opened: from their counters at zero and the ghost element, their invariants, round 0 reached, and each
    cell's position and token. -/
theorem fund_cells : iprop(ownU u₀ ∗ bigSep Finset.univ (both (F := F) fun g => semVal g 0))
    ⊢ (|={Set.univ}=> iprop(bigSep Finset.univ (both (inv m)) ∗ bigSep Finset.univ (both fun g => reached ER g 0)
        ∗ bigSep Finset.univ (both fun g => atPos ER g 0 ∅ 0) ∗ bigSep Finset.univ (both fun g => dutyTok ER g 0 ())) : sProp 𝕄) :=
  Exchange.fund cells (rd m)

/-- What chip `c` brings to the launch, slot by slot and besides. -/
def bringsSlot (j : Slot) : sProp 𝕄 :=
  iprop(both (fun g => semVal g 0) j ∗ cred (tallyAt (recvCell j.1 j.2) () N) ∗ dstPts j.1 j.2 (m ((j.1 : Thread nD τ).loc main_v1)))
def keeps (c : Dev nD) : sProp 𝕄 := iprop(xPts m c ∗ owes (c : Thread nD τ) (O₀ c) ∅)

/-- What chip `c` runs from. -/
def pre (c : Dev nD) : sProp 𝕄 := iprop(Φ₀ m c ∗ owes (c : Thread nD τ) (O₀ c) ∅)

omit [FloatOps F] in
theorem scopedSems_eq (c : Dev nD) : (scopedSems0 (c : Thread nD τ) : sProp 𝕄) = bigSep Finset.univ (fun r => iprop(semVal (sendCell c r) 0 ∗ semVal (recvCell c r) 0)) := by
  rw [show (scopedSems0 (c : Thread nD τ) : sProp 𝕄) = _ from scopedSems0_tc c,
    show (Finset.univ.filter fun sm : SemLoc sig => sm.isScoped .tc) = (Finset.univ : Finset (Fin 3 × Fin 2)).map ⟨semAt, semAt_injective⟩ from by decide +kernel,
    bigSep_map, bigSep_univ_prod]
  exact bigSep_congr fun r _ => bigSep_univ_two _
omit [FloatOps F] in
theorem scopedBufs_eq (c : Dev nD) : (scopedBufs (c : Thread nD τ) : sProp 𝕄) = iprop(emp) := by
  rw [show (scopedBufs (c : Thread nD τ) : sProp 𝕄) = _ from scopedBufs_tc c]
  exact bigSep_eq_bigSepL_of_eq [] (by decide) (by decide) _
omit [FloatOps F] in
theorem unscopedBufs_eq (c : Dev nD) (V : (b : Ref sig .tc) → Buf (Elt F) ((c : Thread nD τ).loc b)) :
    (unscopedBufs c V : sProp 𝕄) = iprop((((c : Thread nD τ).loc main_arg0) ↦{fullShare} V main_arg0) ∗ (((c : Thread nD τ).loc main_v1) ↦{fullShare} V main_v1)) := by
  unfold unscopedBufs
  exact bigSep_eq_bigSepL_of_eq [main_arg0, main_v1] (by decide) (by decide) _

omit [FloatOps F] in
theorem launch_credit (c : Dev nD) : (Pipeline.launchCred O₀ c : sProp 𝕄) ⊢ bigSep Finset.univ (fun r => cred (tallyAt (recvCell c r) () N)) := by
  have h (r : Fin 3) : (Pipeline.launchCred (due r) c : sProp 𝕄) ⊢ cred (tallyAt (recvCell c r) () N) :=
    Pipeline.launchCred_tallyAt (.dma (recvS r).sem) (peer r) (peer r) (peer_peer r) (peer_peer r) () N c
  rw [show (O₀ : Dev nD → CellTallies nD τ sig Unit) = fun d => due 2 d + due 1 d + due 0 d from funext fun d => by unfold O₀; rw [zero_add],
    Pipeline.launchCred_add, Pipeline.launchCred_add, three]
  iintro ⟨⟨H2, H1⟩, H0⟩
  isplitl [H0]; · iapply (h 0); iexact H0
  isplitl [H1]; · iapply (h 1); iexact H1
  iapply (h 2); iexact H2

omit [FloatOps F] in
theorem core_brings (c : Dev nD) :
    coreInit (Ix := Unit) (Name := ℕ) (U := UR sig nD τ) (Lvl := ℕ) (Pipeline.owing O₀) 0 (⟨m, fun _ => 0, ρ⟩ : MemSt nD τ sig (Elt F)) (c : Thread nD τ)
      ⊢ iprop(bigSep Finset.univ (fun r => bringsSlot m (c, r)) ∗ keeps m c) := by
  refine (Pipeline.coreInit_boundary_owing O₀ m ρ c).trans ?_
  have ho : (((c : Thread nD τ).loc main_v1) ↦{fullShare} m ((c : Thread nD τ).loc main_v1) : sProp 𝕄) ⊢ bigSep Finset.univ (fun r => dstPts c r (m ((c : Thread nD τ).loc main_v1))) :=
    Entails.of_eq (outPts_slots c _)
  have hb : iprop(bigSep Finset.univ (fun r => iprop(semVal (sendCell c r) 0 ∗ semVal (recvCell c r) 0)) ∗ bigSep Finset.univ (fun r => cred (tallyAt (recvCell c r) () N))
        ∗ bigSep Finset.univ (fun r => dstPts c r (m ((c : Thread nD τ).loc main_v1)))) = (bigSep Finset.univ (fun r => bringsSlot m (c, r)) : sProp 𝕄) := by
    rw [← bigSep_sep', ← bigSep_sep']; rfl
  rw [← hb]
  unfold boundary keeps xPts
  rw [scopedSems_eq, unscopedBufs_eq]
  iintro ⟨⟨-, Hs, -⟩, ⟨Hx, Ho⟩, -, HO, -, -, Hcr⟩
  isplitr [Hx HO]
  · isplitl [Hs]; · iexact Hs
    isplitl [Hcr]; · iapply (launch_credit c); iexact Hcr
    iapply ho; iexact Ho
  isplitl [Hx] <;> iassumption

/-- A slot after its cells are opened. -/
def opened (j : Slot) : sProp 𝕄 :=
  iprop((both (inv m) j ∗ both (fun g => reached ER g 0) j ∗ both (fun g => atPos ER g 0 ∅ 0) j ∗ both (fun g => dutyTok ER g 0 ()) j)
    ∗ cred (tallyAt (recvCell j.1 j.2) () N) ∗ dstPts j.1 j.2 (m ((j.1 : Thread nD τ).loc main_v1)))

/-- What a slot keeps, and what it gives to the chip that sends into it. -/
def stay (j : Slot) : sProp 𝕄 :=
  iprop(inv m (sendCell j.1 j.2) ∗ inv m (recvCell j.1 j.2) ∗ atPos ER (sendCell j.1 j.2) 0 ∅ 0 ∗ atPos ER (recvCell j.1 j.2) 0 ∅ 0
      ∗ reached ER (sendCell j.1 j.2) 0 ∗ dutyTok ER (sendCell j.1 j.2) 0 () ∗ cred (tallyAt (recvCell j.1 j.2) () N))
def give (j : Slot) : sProp 𝕄 :=
  iprop(inv m (recvCell j.1 j.2) ∗ reached ER (recvCell j.1 j.2) 0 ∗ dutyTok ER (recvCell j.1 j.2) 0 ()
      ∗ dstPts j.1 j.2 (m ((j.1 : Thread nD τ).loc main_v1)))

omit [FloatOps F] in
theorem hand_over : bigSep Finset.univ (opened m) ⊢ (bigSep Finset.univ (fun j : Slot => held m j.1 j.2) : sProp 𝕄) := by
  have hg : (bigSep Finset.univ (give m) : sProp 𝕄) = bigSep Finset.univ (fun j => give m (swap j)) := by
    conv_lhs => rw [← Finset.map_univ_equiv swap]
    exact bigSep_map _
  refine (bigSep_mono (Ψ := fun j => iprop(stay m j ∗ give m j)) fun j _ => ?_).trans
    (Entails.of_eq ((bigSep_sep' Finset.univ (stay m) (give m)).trans ((congrArg (fun X => iprop(bigSep Finset.univ (stay m) ∗ X)) hg).trans
      (bigSep_sep' Finset.univ (stay m) (fun j => give m (swap j))).symm)))
  show opened m j ⊢ iprop(stay m j ∗ give m j)
  unfold opened stay give
  iintro ⟨⟨⟨⟨%κ₁, #IS⟩, ⟨%κ₂, #IR⟩⟩, ⟨RS, RR⟩, ⟨AS, AR⟩, TS, TR⟩, HC, HD⟩
  isplitl [RS AS AR TS HC]
  · isplitr; · iexists κ₁; iexact IS
    isplitr; · iexists κ₂; iexact IR
    isplitl [AS]; · iexact AS
    isplitl [AR]; · iexact AR
    isplitl [RS]; · iexact RS
    isplitl [TS] <;> iassumption
  isplitr; · iexists κ₂; iexact IR
  isplitl [RR]; · iexact RR
  isplitl [TR] <;> iassumption

omit [FloatOps F] in
/-- The launch: the cells opened, and each chip handed the result slots it sends into. -/
theorem deal : iprop(bigSep Finset.univ (fun d : Dev nD => coreInit (Ix := Unit) (Name := ℕ) (U := UR sig nD τ) (Lvl := ℕ) (Pipeline.owing O₀) 0
        (⟨m, fun _ => 0, ρ⟩ : MemSt nD τ sig (Elt F)) (d : Thread nD τ)) ∗ ownU u₀)
    ⊢ (|={Set.univ}=> iprop(∃ _x : Unit, bigSep Finset.univ (pre m) ∗ emp) : sProp 𝕄) := by
  have hb : bigSep Finset.univ (fun c : Dev nD => bigSep Finset.univ (fun r : Fin 3 => bringsSlot m (c, r)))
      = (iprop(bigSep Finset.univ (both fun g => semVal g 0) ∗ bigSep Finset.univ (fun j : Slot => cred (tallyAt (recvCell j.1 j.2) () N))
          ∗ bigSep Finset.univ (fun j : Slot => dstPts j.1 j.2 (m ((j.1 : Thread nD τ).loc main_v1)))) : sProp 𝕄) := by
    rw [← bigSep_univ_prod (fun j : Slot => bringsSlot m j), ← bigSep_sep', ← bigSep_sep']; rfl
  have ho : iprop((bigSep Finset.univ (both (inv m)) ∗ bigSep Finset.univ (both fun g => reached ER g 0)
        ∗ bigSep Finset.univ (both fun g => atPos ER g 0 ∅ 0) ∗ bigSep Finset.univ (both fun g => dutyTok ER g 0 ()))
        ∗ bigSep Finset.univ (fun j : Slot => cred (tallyAt (recvCell j.1 j.2) () N))
          ∗ bigSep Finset.univ (fun j : Slot => dstPts j.1 j.2 (m ((j.1 : Thread nD τ).loc main_v1))))
      = (bigSep Finset.univ (opened m) : sProp 𝕄) := by
    simp only [← bigSep_sep']; rfl
  have hp : iprop(bigSep Finset.univ (fun j : Slot => held m j.1 j.2) ∗ bigSep Finset.univ (keeps m)) ⊢ (bigSep Finset.univ (pre m) : sProp 𝕄) := by
    rw [bigSep_univ_prod, ← bigSep_sep']
    refine bigSep_mono fun c _ => ?_
    show iprop(bigSep Finset.univ (held m c) ∗ keeps m c) ⊢ pre m c
    unfold keeps pre Φ₀
    iintro ⟨H, Hx, HO⟩
    isplitr [HO]
    · isplitl [H] <;> iassumption
    iexact HO
  refine (sep_mono_left (bigSep_mono fun c _ => core_brings m ρ c)).trans ?_
  rw [bigSep_sep', hb]
  iintro ⟨⟨⟨Hs, Hc, Hd⟩, Hkeep⟩, Hu⟩
  imod (fund_cells m) $$ [Hu Hs] with H
  · isplitl [Hu] <;> iassumption
  imodintro
  iexists ()
  isplitl
  · iapply hp
    isplitr [Hkeep]
    · iapply (hand_over m)
      iapply (Entails.of_eq ho)
      isplitl [H]; · iexact H
      isplitl [Hc] <;> iassumption
    iexact Hkeep
  iempintro

/-- One core's run of @main. -/
theorem core_run (c : Dev nD) : pre m c ⊢ wp frame (wpE (defs (F := F)) (Variants.lift 𝒱₀) (c : Thread nD τ) none) Set.univ (main (F := F) c)
    (fun _ => post (liftTc (Exchange.fin m main_arg0 main_v1 (landed m)) BI.emp) (c : Thread nD τ)) := by
  refine Exchange.core_run m main_arg0 main_v1 (landed m) cfgs (dats m) cellOf_inj defs₀ 𝒱₀ ⟨fun w => w.elim0⟩ c (body_obligation m c) (scopedBufs_eq c) (Φ₀ m c) (O₀ c) rfl rfl rfl ?_
  show Φ₁ m c ⊢ _
  unfold Φ₁ Exchange.fin Exchange.ends xPts outPts
  rw [scopedSems_eq]
  iintro ⟨Hx, Ho, Hs⟩
  isplitl [Hx Ho]
  · isplitl [Hx] <;> iassumption
  iexact Hs

/-- Every weakly fair execution terminates, each core's result array holding in each slot what its neighbour sent, its argument unchanged and
    every semaphore counter at zero. -/
theorem run : θ_run defs (onTc (τ := τ) (main (F := F))) ⟨m, fun _ => 0, ρ⟩ (fun r =>
    (∀ c : Dev nD, r.2.mem ((c : Thread nD τ).loc main_v1) = landed m c
      ∧ r.2.mem ((c : Thread nD τ).loc main_arg0) = m ((c : Thread nD τ).loc main_arg0)) ∧ r.2.sem = fun _ => 0) :=
  Exchange.run_of m ρ main_arg0 main_v1 (landed m) defs main (Variants.lift 𝒱₀) O₀ u₀ (pre m) (by decide) (deal m ρ) (core_run m)

end Cert.ChipProof

end
-- ==== Proof.ChipEx.lean ====
module

public import proofs.«01_k».proof.Defs
public import proofs.«01_k».proof.Proof.Gen.ChipKernelIdeal
public import proofs.«01_k».proof.Proof.Gen.ChipReferenceIdeal.Run
public import proofs.«01_k».proof.Proof.Gen.ChipReferenceIdeal.Read
public import proofs.«01_k».proof.Proof.Chip

@[expose] public section

noncomputable section

open Idealize.ShloMosaic Idealize.SL.Sem

namespace Cert.Chip

open Cert.ChipKernel Cert.ChipProof
open Facts₀ Facts

open Cert.ChipReferenceIdeal (S12x512x640)

/-- The slot the reference puts at each slot of its result. -/
def src : Fin 12 → Fin 12 := ![3, 7, 11, 0, 10, 8, 9, 1, 5, 6, 4, 2]

def slot (c : Dev nD) (r : Fin 3) : Fin 12 := ⟨c.val * 3 + r.val, by have h : c.val < 4 := c.isLt; omega⟩

theorem src_peer (c : Dev nD) (r : Fin 3) : (src (slot c r)).val = (peer r c).val * 3 + r.val := by
  revert c r; decide +kernel

theorem read_congr (g : (⟨S12x512x640, .bf16⟩ : BufTy).Contents (Elt Ideal)) (i j : S12x512x640.Idx)
    (h0 : (i 0).val = (j 0).val) (h1 : (i 1).val = (j 1).val) (h2 : (i 2).val = (j 2).val) : g i = g j :=
  congrArg g (funext fun a => Fin.ext (match a with | ⟨0, _⟩ => h0 | ⟨1, _⟩ => h1 | ⟨2, _⟩ => h2))

def wholeIdx (n : Fin 12) (x : Fin 512) (y : Fin 640) : S12x512x640.Idx := fun a => match a with
  | ⟨0, _⟩ => n
  | ⟨1, _⟩ => x
  | ⟨2, _⟩ => y

open Cert.ChipReferenceIdeal.Read

/-- The slots the reference joins, in order. -/
def pieces (g : (⟨S12x512x640, .bf16⟩ : BufTy).Contents (Elt Ideal)) : Fin 12 → (⟨Cert.ChipReferenceIdeal.S1x512x640, .bf16⟩ : BufTy).Contents (Elt Ideal) :=
  ![val_main_v4 g, val_main_v5 g, val_main_v6 g, val_main_v7 g, val_main_v8 g, val_main_v9 g, val_main_v10 g, val_main_v11 g, val_main_v12 g, val_main_v13 g, val_main_v14 g, val_main_v15 g]

theorem pieces_apply (g : (⟨S12x512x640, .bf16⟩ : BufTy).Contents (Elt Ideal)) (n : Fin 12) (x : Cert.ChipReferenceIdeal.S1x512x640.Idx) :
    pieces g n x = g (wholeIdx (src n) (x 1) (x 2)) := match n with
  | ⟨0, _⟩ => (val_main_v4_apply g x).trans ((val_main_v1_apply g _).trans (read_congr g _ _ (by have h : (x 0).val < 1 := (x 0).isLt; show 3 + (x 0).val = 3; omega) rfl rfl))
  | ⟨1, _⟩ => (val_main_v5_apply g x).trans ((val_main_v2_apply g _).trans (read_congr g _ _ (by have h : (x 0).val < 1 := (x 0).isLt; show 6 + (1 + (x 0).val) = 7; omega) rfl rfl))
  | ⟨2, _⟩ => (val_main_v6_apply g x).trans ((val_main_v3_apply g _).trans (read_congr g _ _ (by have h : (x 0).val < 1 := (x 0).isLt; show 9 + (2 + (x 0).val) = 11; omega) rfl rfl))
  | ⟨3, _⟩ => (val_main_v7_apply g x).trans ((val_main_v0_apply g _).trans (read_congr g _ _ (by have h : (x 0).val < 1 := (x 0).isLt; show (x 0).val = 0; omega) rfl rfl))
  | ⟨4, _⟩ => (val_main_v8_apply g x).trans ((val_main_v3_apply g _).trans (read_congr g _ _ (by have h : (x 0).val < 1 := (x 0).isLt; show 9 + (1 + (x 0).val) = 10; omega) rfl rfl))
  | ⟨5, _⟩ => (val_main_v9_apply g x).trans ((val_main_v2_apply g _).trans (read_congr g _ _ (by have h : (x 0).val < 1 := (x 0).isLt; show 6 + (2 + (x 0).val) = 8; omega) rfl rfl))
  | ⟨6, _⟩ => (val_main_v10_apply g x).trans ((val_main_v3_apply g _).trans (read_congr g _ _ (by have h : (x 0).val < 1 := (x 0).isLt; show 9 + (x 0).val = 9; omega) rfl rfl))
  | ⟨7, _⟩ => (val_main_v11_apply g x).trans ((val_main_v0_apply g _).trans (read_congr g _ _ (by have h : (x 0).val < 1 := (x 0).isLt; show (1 + (x 0).val) = 1; omega) rfl rfl))
  | ⟨8, _⟩ => (val_main_v12_apply g x).trans ((val_main_v1_apply g _).trans (read_congr g _ _ (by have h : (x 0).val < 1 := (x 0).isLt; show 3 + (2 + (x 0).val) = 5; omega) rfl rfl))
  | ⟨9, _⟩ => (val_main_v13_apply g x).trans ((val_main_v2_apply g _).trans (read_congr g _ _ (by have h : (x 0).val < 1 := (x 0).isLt; show 6 + (x 0).val = 6; omega) rfl rfl))
  | ⟨10, _⟩ => (val_main_v14_apply g x).trans ((val_main_v1_apply g _).trans (read_congr g _ _ (by have h : (x 0).val < 1 := (x 0).isLt; show 3 + (1 + (x 0).val) = 4; omega) rfl rfl))
  | ⟨11, _⟩ => (val_main_v15_apply g x).trans ((val_main_v0_apply g _).trans (read_congr g _ _ (by have h : (x 0).val < 1 := (x 0).isLt; show (2 + (x 0).val) = 2; omega) rfl rfl))

open Layout in
/-- Block `c` of the reference's result. -/
theorem reference_apply (g : (⟨S12x512x640, .bf16⟩ : BufTy).Contents (Elt Ideal)) (c : Dev nD) (i : S3x512x640.Idx) (n : Fin 12) (hn : c.val * 3 + (i 0).val = n.val) :
    (block ⟨3, ![3, 512, 640]⟩ ⟨3, ![12, 512, 640]⟩ 0 4 c (val_main_v16 (F := Ideal) g)) i = g (wholeIdx (src n) (i 1) (i 2)) := by
  refine Eq.trans ?_ (pieces_apply g n (fun a => match a with | ⟨0, _⟩ => (⟨0, Nat.one_pos⟩ : Fin 1) | ⟨1, _⟩ => (i 1 : Fin 512) | ⟨2, _⟩ => (i 2 : Fin 640)))
  refine concatenate_ofFn_unit_apply (t := S12x512x640) (s₁ := Cert.ChipReferenceIdeal.S1x512x640) 0 (pieces g)
    Cert.ChipReferenceIdeal.Facts₀.concatenates_S1x512x640_S1x512x640_S1x512x640_S1x512x640_S1x512x640_S1x512x640_S1x512x640_S1x512x640_S1x512x640_S1x512x640_S1x512x640_S1x512x640_S12x512x640_d0
    rfl rfl _ n hn _ fun b hb => ?_
  match b with
  | ⟨0, _⟩ => exact absurd rfl hb
  | ⟨1, _⟩ => rfl
  | ⟨2, _⟩ => rfl

/-- What lands on chip `c` is block `c` of the reference's result. -/
theorem landed_eq (m : (ℓ : Loc nD τ sig) → Buf (Elt Ideal) ℓ) (g : (⟨S12x512x640, .bf16⟩ : BufTy).Contents (Elt Ideal))
    (h : ∀ c : Dev nD, m (c.tc.loc main_arg0) = Layout.block ⟨3, ![3, 512, 640]⟩ ⟨3, ![12, 512, 640]⟩ 0 4 c g) (c : Dev nD) :
    landed m c = Layout.block ⟨3, ![3, 512, 640]⟩ ⟨3, ![12, 512, 640]⟩ 0 4 c (val_main_v16 (F := Ideal) g) := by
  funext i
  refine Eq.trans (b := m ((peer (i 0) c).tc.loc main_arg0) i) rfl (Eq.trans ?_ (reference_apply g c i (slot c (i 0)) rfl).symm)
  rw [h]
  exact read_congr g _ _ (src_peer c (i 0)).symm rfl rfl

/-- The exchange hands every chip what the reference's slices say. -/
theorem algebraic : Cert.algebraic_ChipKernelIdeal_ChipReferenceIdeal := by
  intro m g m' g' _ h
  exact ⟨_, (θ_run _ _ _).mono (fun r hr c => ⟨(hr.1 c).1.trans (landed_eq m _ h c), (hr.1 c).2⟩) (run (F := Ideal) m g),
    (θ_run _ _ _).mono (fun r hr => hr 0) (Cert.ChipReferenceIdeal.Value.run m' g')⟩

theorem frameKernel : Cert.quiescent_ChipKernel := by
  intro m ρ _
  exact (θ_run _ _ _).mono (fun r h => ⟨fun c => (h.1 c).2, h.2⟩) (run m ρ)

theorem frameIdeal : Cert.quiescent_ChipKernelIdeal := by
  intro m ρ _
  exact (θ_run _ _ _).mono (fun r h => ⟨fun c => (h.1 c).2, h.2⟩) (run (F := Ideal) m ρ)

/-- The reference terminates, leaves its argument as it was and has no semaphore. -/
theorem frameReference : Cert.quiescent_ChipReferenceIdeal := by
  intro m ρ _
  exact (θ_run _ _ _).mono (fun r h => ⟨fun c => (h c).2, sem_eq_zero_of_no_sems (by decide) r.2⟩)
    (Cert.ChipReferenceIdeal.Value.run m ρ)

end Cert.Chip

end
-- ==== Proof.Gather.lean ====
/-
The gathering of an input weight's columns, alone: the eight devices are four chips of two cores, each device holds its
chip's block of the columns, and at the end each device holds the four blocks.

Eight transfers a device. The first brings a device its chip's own block from the chip's other core; two bring it half of
the block of each of the two neighbouring chips; two bring it quarters of the block of the chip across, which the
neighbours pass on; three bring it the halves that the chip's other core has received. A transfer is named by its number
`k : Fin 8`, and where it lands by the quarters of the result: `slotOf c j q` is the transfer that brings device `c` the
quarter `q` of block `j`.

The cells are as in module Chip, one send and one receive cell a transfer. As a device waits while it still owes
transfers, the cells carry levels: a receive cell of a later stage has a higher level than one of an earlier stage.
-/
module

public import proofs.«01_k».proof.Proof.Gen.GatherKernel
public import proofs.«01_k».proof.Proof.Gen.GatherKernel.Skeleton
public import proofs.«01_k».proof.Proof.Gen.GatherKernel.Launch
public import proofs.«01_k».proof.Proof.Exchange
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Harness.Basic

@[expose] public section

noncomputable section

namespace Cert.GatherProof

open Cert.GatherKernel Cert.GatherKernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Exchange (ER)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The eight transfers, and where they land -/

/-- The device that transfer `k` of device `c` goes to, and comes from. -/
def peer (k : Fin 8) (c : Dev nD) : Dev nD := match k with
  | ⟨0, _⟩ => ⟨k0_dev1 c, k0_dev1_lt c⟩
  | ⟨1, _⟩ => ⟨k0_dev2 c, k0_dev2_lt c⟩
  | ⟨2, _⟩ => ⟨k0_dev3 c, k0_dev3_lt c⟩
  | ⟨3, _⟩ => ⟨k0_dev4 c, k0_dev4_lt c⟩
  | ⟨4, _⟩ => ⟨k0_dev6 c, k0_dev6_lt c⟩
  | ⟨5, _⟩ => ⟨k0_dev5 c, k0_dev5_lt c⟩
  | ⟨6, _⟩ => ⟨k0_dev7 c, k0_dev7_lt c⟩
  | ⟨7, _⟩ => ⟨k0_dev8 c, k0_dev8_lt c⟩

theorem peer_peer (k : Fin 8) (c : Dev nD) : peer k (peer k c) = c := by revert k c; decide +kernel

/-- A transfer of a device, and the one it is exchanged with. -/
abbrev Slot := Dev nD × Fin 8
def swap : Slot ≃ Slot where
  toFun j := (peer j.2 j.1, j.2)
  invFun j := (peer j.2 j.1, j.2)
  left_inv j := Prod.ext (peer_peer j.2 j.1) rfl
  right_inv j := Prod.ext (peer_peer j.2 j.1) rfl

/-- The transfer that brings device `c` the quarter `q` of block `j`. -/
def slotOf (c : Dev nD) (j q : Fin 4) : Fin 8 :=
  let x := (c.val / 2) ^^^ j.val
  let near := q.val / 2 == c.val % 2
  if x = 0 then 0 else if x = 1 then (if near then 1 else 5) else if x = 2 then (if near then 2 else 6)
    else if near then (if q.val % 2 = 0 then 3 else 4) else 7

/-- The device whose argument that quarter is taken from. -/
def origin (c : Dev nD) (j q : Fin 4) : Dev nD :=
  if c.val / 2 = j.val then peer 0 c else ⟨2 * j.val + q.val / 2, by show _ < 8; omega⟩

/-- The quarters of the result that transfer `k` brings device `c`. -/
def inP (c : Dev nD) (k : Fin 8) (j q : Fin 4) : Bool := slotOf c j q == k
/-- The quarters of the result that device `c` passes on in transfer `k`, -/
def outP (c : Dev nD) (k : Fin 8) (j q : Fin 4) : Bool := match k with
  | 3 => slotOf c j q == 1 && q.val % 2 == 0
  | 4 => slotOf c j q == 2 && q.val % 2 == 1
  | 5 => slotOf c j q == 1
  | 6 => slotOf c j q == 2
  | 7 => slotOf c j q == 3 || slotOf c j q == 4
  | _ => false
/-- and the quarters of its argument that it sends. -/
def argP (c : Dev nD) (k : Fin 8) (q : Fin 4) : Bool := match k with
  | 0 => true
  | _ => q.val / 2 == c.val % 2

theorem outP_in : ∀ (c : Dev nD) (k : Fin 8), 3 ≤ k.val → ∀ j q : Fin 4, outP c k j q = inP (peer k c) k j q := by decide +kernel
theorem origin_out : ∀ (c : Dev nD) (k : Fin 8), 3 ≤ k.val → ∀ j q : Fin 4, inP (peer k c) k j q = true → origin c j q = origin (peer k c) j q := by decide +kernel
theorem origin_arg : ∀ (c : Dev nD) (k : Fin 8), k.val < 3 → ∀ j q : Fin 4, inP (peer k c) k j q = true → origin (peer k c) j q = c := by decide +kernel

/-- The block and the quarter of it that an element of the result is in, and the quarter of an element of the argument. -/
def blockOf (i : S4x1024x640.Idx) : Fin 4 := i 0
def quarterOf (i : S4x1024x640.Idx) : Fin 4 := ⟨(i 1).val / 256, by have h : (i 1).val < 1024 := (i 1).isLt; omega⟩
def quarterA (i : S1024x640.Idx) : Fin 4 := ⟨(i 0).val / 256, by have h : (i 0).val < 1024 := (i 0).isLt; omega⟩
def blk (p : Fin 4 → Fin 4 → Bool) : Finset S4x1024x640.Idx := Finset.univ.filter fun i => p (blockOf i) (quarterOf i) = true
def blkA (p : Fin 4 → Bool) : Finset S1024x640.Idx := Finset.univ.filter fun i => p (quarterA i) = true
theorem mem_blk (p : Fin 4 → Fin 4 → Bool) (i : S4x1024x640.Idx) : i ∈ blk p ↔ p (blockOf i) (quarterOf i) = true := by
  unfold blk; rw [Finset.mem_filter]; exact ⟨fun h => h.2, fun h => ⟨Finset.mem_univ _, h⟩⟩
theorem mem_blkA (p : Fin 4 → Bool) (i : S1024x640.Idx) : i ∈ blkA p ↔ p (quarterA i) = true := by
  unfold blkA; rw [Finset.mem_filter]; exact ⟨fun h => h.2, fun h => ⟨Finset.mem_univ _, h⟩⟩

theorem mem_in (c : Dev nD) (k : Fin 8) (i : S4x1024x640.Idx) : i ∈ blk (inP c k) ↔ slotOf c (blockOf i) (quarterOf i) = k := by
  rw [mem_blk]; unfold inP; exact beq_iff_eq

/-- The rectangle of `n` rows at the offset `off` is made of the quarters `p`. -/
abbrev Fits (off : Fin 3 → Nat) (n : Nat) (p : Fin 4 → Fin 4 → Bool) : Prop :=
  off 1 % 256 = 0 ∧ n % 256 = 0 ∧ off 2 = 0 ∧ ∀ j q : Fin 4, p j q = decide (j.val = off 0 ∧ off 1 ≤ 256 * q.val ∧ 256 * q.val < off 1 + n)

theorem rect_set (off sz : Fin 3 → Nat) (h : ∀ a, off a + sz a ≤ S4x1024x640.size a) (p : Fin 4 → Fin 4 → Bool)
    (h0 : sz 0 = 1) (h2 : sz 2 = 640) (hp : Fits off (sz 1) p) : (Rect.unit (s := S4x1024x640) off sz h).set = blk p := by
  obtain ⟨e1, e2, e3, hp⟩ := hp
  ext i
  rw [Rect.mem_set_unit, mem_blk, hp, decide_eq_true_iff]
  have b1 : (i 1).val < 1024 := (i 1).isLt
  have b2 : (i 2).val < 640 := (i 2).isLt
  constructor
  · intro hi
    have k0 := hi 0
    have k1 := hi 1
    rw [h0] at k0
    refine ⟨by show (i 0).val = _; omega, ?_, ?_⟩
    · show off 1 ≤ 256 * ((i 1).val / 256); omega
    · show 256 * ((i 1).val / 256) < _; omega
  · rintro ⟨k0, k1, k2⟩ a
    change (i 0).val = off 0 at k0
    change off 1 ≤ 256 * ((i 1).val / 256) at k1
    change 256 * ((i 1).val / 256) < off 1 + sz 1 at k2
    match a with
    | ⟨0, _⟩ => show off 0 ≤ (i 0).val ∧ (i 0).val < off 0 + sz 0; omega
    | ⟨1, _⟩ => show off 1 ≤ (i 1).val ∧ (i 1).val < off 1 + sz 1; omega
    | ⟨2, _⟩ => show off 2 ≤ (i 2).val ∧ (i 2).val < off 2 + sz 2; omega

theorem rectA_set (c : Dev nD) (k : Fin 8) (hk : k = 1 ∨ k = 2) : (Rect.unit (s := S1024x640) (k0_off3 c) S512x640.size (k0_off3_inb c)).set = blkA (argP c k) := by
  have hp : ∀ (c : Dev nD) (q : Fin 4), argP c k q = decide (512 * (c.val % 2) ≤ 256 * q.val ∧ 256 * q.val < 512 * (c.val % 2) + 512) := by
    rcases hk with rfl | rfl <;> decide +kernel
  ext i
  rw [Rect.mem_set_unit, mem_blkA, hp, decide_eq_true_iff, k0_off3_eq]
  have b1 : (i 0).val < 1024 := (i 0).isLt
  have b2 : (i 1).val < 640 := (i 1).isLt
  constructor
  · intro hi
    have k0 : 512 * (c.val % 2) ≤ (i 0).val ∧ (i 0).val < 512 * (c.val % 2) + 512 := hi 0
    refine ⟨?_, ?_⟩
    · show _ ≤ 256 * ((i 0).val / 256); omega
    · show 256 * ((i 0).val / 256) < _; omega
  · rintro ⟨k1, k2⟩ a
    change _ ≤ 256 * ((i 0).val / 256) at k1
    change 256 * ((i 0).val / 256) < _ at k2
    match a with
    | ⟨0, _⟩ => show 512 * (c.val % 2) ≤ (i 0).val ∧ (i 0).val < 512 * (c.val % 2) + 512; omega
    | ⟨1, _⟩ => show 0 ≤ (i 1).val ∧ (i 1).val < 0 + 640; omega

/-! ## The arrays, and the views the transfers take of them -/

abbrev o1024 (off : Fin 3 → Nat) (h : ∀ a, off a + S1x1024x640.size a ≤ S4x1024x640.size a) : Memref sig .tc .hbm S1024x640 .bf16 :=
  ((Memref.whole main_v1).slice (Rect.unit (s := S4x1024x640) off S1x1024x640.size h) (fun _ => rfl)).squeeze S1024x640 squeezes_S1x1024x640_S1024x640
abbrev o512 (off : Fin 3 → Nat) (h : ∀ a, off a + S1x512x640.size a ≤ S4x1024x640.size a) : Memref sig .tc .hbm S512x640 .bf16 :=
  ((Memref.whole main_v1).slice (Rect.unit (s := S4x1024x640) off S1x512x640.size h) (fun _ => rfl)).squeeze S512x640 squeezes_S1x512x640_S512x640
abbrev o256 (off : Fin 3 → Nat) (h : ∀ a, off a + S1x256x640.size a ≤ S4x1024x640.size a) : Memref sig .tc .hbm S256x640 .bf16 :=
  ((Memref.whole main_v1).slice (Rect.unit (s := S4x1024x640) off S1x256x640.size h) (fun _ => rfl)).squeeze S256x640 squeezes_S1x256x640_S256x640
abbrev a512 (c : Dev nD) : Memref sig .tc .hbm S512x640 .bf16 :=
  (Memref.whole main_arg0).slice (Rect.unit (s := S1024x640) (k0_off3 c) S512x640.size (k0_off3_inb c)) (fun _ => rfl)

theorem o1024_set (off : Fin 3 → Nat) (h) (p) (hp : Fits off 1024 p) : (o1024 off h).view.set = blk p :=
  ((View.set_reshape _ _).trans (View.set_slice_whole _ _)).trans (rect_set off _ h p rfl rfl hp)
theorem o512_set (off : Fin 3 → Nat) (h) (p) (hp : Fits off 512 p) : (o512 off h).view.set = blk p :=
  ((View.set_reshape _ _).trans (View.set_slice_whole _ _)).trans (rect_set off _ h p rfl rfl hp)
theorem o256_set (off : Fin 3 → Nat) (h) (p) (hp : Fits off 256 p) : (o256 off h).view.set = blk p :=
  ((View.set_reshape _ _).trans (View.set_slice_whole _ _)).trans (rect_set off _ h p rfl rfl hp)
theorem a512_set (c : Dev nD) (k : Fin 8) (hk : k = 1 ∨ k = 2) : (a512 c).view.set = blkA (argP c k) :=
  (View.set_slice_whole _ _).trans (rectA_set c k hk)

/-- The element of a block that an element of the squeezed view is. -/
theorem o1024_emb (off : Fin 3 → Nat) (h) (x : S1024x640.Idx) (a : Fin 2) : ((o1024 off h).view.emb x (Fin.succ a) : Fin _).val = off (Fin.succ a) + (x a).val := by
  have hi : Shape.reshapeEquiv squeezes_S1x1024x640_S1024x640.numel_eq x = (fun a => match a with | ⟨0, _⟩ => (⟨0, Nat.one_pos⟩ : Fin 1) | ⟨1, _⟩ => (x 0 : Fin 1024) | ⟨2, _⟩ => (x 1 : Fin 640) : S1x1024x640.Idx) :=
    shapeCast_apply (fun x => x) squeezes_S1x1024x640_S1024x640.numel_eq x _ (by
      rewrite [Shape.rowMajor_val_three, Shape.rowMajor_val_two]
      show (0 * 1024 + (x 0).val) * 640 + (x 1).val = (x 0).val * 640 + (x 1).val
      omega)
  show off (Fin.succ a) + 1 * (Shape.reshapeEquiv squeezes_S1x1024x640_S1024x640.numel_eq x (Fin.succ a)).val = _
  rw [hi, Nat.one_mul]
  match a with
  | ⟨0, _⟩ => rfl
  | ⟨1, _⟩ => rfl
theorem o512_emb (off : Fin 3 → Nat) (h) (x : S512x640.Idx) (a : Fin 2) : ((o512 off h).view.emb x (Fin.succ a) : Fin _).val = off (Fin.succ a) + (x a).val := by
  have hi : Shape.reshapeEquiv squeezes_S1x512x640_S512x640.numel_eq x = (fun a => match a with | ⟨0, _⟩ => (⟨0, Nat.one_pos⟩ : Fin 1) | ⟨1, _⟩ => (x 0 : Fin 512) | ⟨2, _⟩ => (x 1 : Fin 640) : S1x512x640.Idx) :=
    shapeCast_apply (fun x => x) squeezes_S1x512x640_S512x640.numel_eq x _ (by
      rewrite [Shape.rowMajor_val_three, Shape.rowMajor_val_two]
      show (0 * 512 + (x 0).val) * 640 + (x 1).val = (x 0).val * 640 + (x 1).val
      omega)
  show off (Fin.succ a) + 1 * (Shape.reshapeEquiv squeezes_S1x512x640_S512x640.numel_eq x (Fin.succ a)).val = _
  rw [hi, Nat.one_mul]
  match a with
  | ⟨0, _⟩ => rfl
  | ⟨1, _⟩ => rfl

/-- What device `c`'s result array holds at the end: each quarter from the device it is taken from. -/
def rowOf (i : S4x1024x640.Idx) : S1024x640.Idx := fun a => match a with
  | ⟨0, _⟩ => i 1
  | ⟨1, _⟩ => i 2
def landed (c : Dev nD) : Buf (Elt F) ((c : Thread nD τ).loc main_v1) :=
  fun i : S4x1024x640.Idx => m ((origin c (blockOf i) (quarterOf i) : Thread nD τ).loc main_arg0) (rowOf i)

def argAt (c : Dev nD) (p : Fin 4 → Bool) (q : PosShare TreeShare) : sProp 𝕄 := ((c : Thread nD τ).loc main_arg0) ↦[blkA p]{q} m ((c : Thread nD τ).loc main_arg0)
def outAt (c : Dev nD) (p : Fin 4 → Fin 4 → Bool) (q : PosShare TreeShare) (f : Buf (Elt F) ((c : Thread nD τ).loc main_v1)) : sProp 𝕄 :=
  ((c : Thread nD τ).loc main_v1) ↦[blk p]{q} f
def xPts (c : Dev nD) : sProp 𝕄 := ((c : Thread nD τ).loc main_arg0) ↦{fullShare} m ((c : Thread nD τ).loc main_arg0)
def outPts (c : Dev nD) (f : Buf (Elt F) ((c : Thread nD τ).loc main_v1)) : sProp 𝕄 := ((c : Thread nD τ).loc main_v1) ↦{fullShare} f

omit [FloatOps F] in
theorem argAt_split (c : Dev nD) (p p₁ p₂ : Fin 4 → Bool) (q : PosShare TreeShare) (h : ∀ j, p j = (p₁ j || p₂ j)) (h' : ∀ j, (p₁ j && p₂ j) = false) :
    (argAt m c p q : sProp 𝕄) = iprop(argAt m c p₁ q ∗ argAt m c p₂ q) := by
  unfold argAt
  have hd : Disjoint (blkA p₁) (blkA p₂) := Finset.disjoint_left.mpr fun i h₁ h₂ => by
    have := h' (quarterA i); rw [(mem_blkA _ _).1 h₁, (mem_blkA _ _).1 h₂] at this; cases this
  rw [show blkA p = blkA p₁ ∪ blkA p₂ from Finset.ext fun i => by rw [Finset.mem_union, mem_blkA, mem_blkA, mem_blkA, h, Bool.or_eq_true]]
  exact Entails.antisymm (pointsTo_union hd).1 (pointsTo_union hd).2
omit [FloatOps F] in
theorem outAt_split (c : Dev nD) (p p₁ p₂ : Fin 4 → Fin 4 → Bool) (q : PosShare TreeShare) (f) (h : ∀ j k, p j k = (p₁ j k || p₂ j k)) (h' : ∀ j k, (p₁ j k && p₂ j k) = false) :
    (outAt c p q f : sProp 𝕄) = iprop(outAt c p₁ q f ∗ outAt c p₂ q f) := by
  unfold outAt
  have hd : Disjoint (blk p₁) (blk p₂) := Finset.disjoint_left.mpr fun i h₁ h₂ => by
    have := h' (blockOf i) (quarterOf i); rw [(mem_blk _ _).1 h₁, (mem_blk _ _).1 h₂] at this; cases this
  rw [show blk p = blk p₁ ∪ blk p₂ from Finset.ext fun i => by rw [Finset.mem_union, mem_blk, mem_blk, mem_blk, h, Bool.or_eq_true]]
  exact Entails.antisymm (pointsTo_union hd).1 (pointsTo_union hd).2
omit [FloatOps F] in
theorem argAt_share (c : Dev nD) (p) (q : PosShare TreeShare) : (argAt m c p q : sProp 𝕄) = iprop(argAt m c p q.left ∗ argAt m c p q.right) :=
  Entails.antisymm (pointsTo_share (PosShare.mem_left_op_right q)).1 (pointsTo_share (PosShare.mem_left_op_right q)).2
omit [FloatOps F] in
theorem outAt_share (c : Dev nD) (p) (q : PosShare TreeShare) (f) : (outAt c p q f : sProp 𝕄) = iprop(outAt c p q.left f ∗ outAt c p q.right f) :=
  Entails.antisymm (pointsTo_share (PosShare.mem_left_op_right q)).1 (pointsTo_share (PosShare.mem_left_op_right q)).2

omit [FloatOps F] in
theorem xPts_eq (c : Dev nD) : (xPts m c : sProp 𝕄) = argAt m c (argP c 0) fullShare := by
  unfold xPts argAt
  rw [show blkA (argP c 0) = (Finset.univ : Finset S1024x640.Idx) from Finset.eq_univ_iff_forall.mpr fun i => (mem_blkA _ i).2 rfl]
omit [FloatOps F] in
theorem outPts_slots (c : Dev nD) (f : Buf (Elt F) ((c : Thread nD τ).loc main_v1)) : (outPts c f : sProp 𝕄) = bigSep Finset.univ (fun k => outAt c (inP c k) fullShare f) := by
  have h := pointsTo_biUnion (Ix := Unit) (Val := Elt F) (Name := ℕ) (U := UR sig nD τ) (Lvl := ℕ) (ℓ := (c : Thread nD τ).loc main_v1) (q := fullShare) (f := f)
    (Finset.univ : Finset (Fin 8)) (fun k => blk (inP c k)) (fun k _ k' _ h => Finset.disjoint_left.mpr fun i hi hi' =>
      h (((mem_in c k i).1 hi).symm.trans ((mem_in c k' i).1 hi')))
  rw [show (Finset.univ : Finset (Fin 8)).biUnion (fun k => blk (inP c k)) = (Finset.univ : Finset S4x1024x640.Idx) from
    Finset.eq_univ_iff_forall.mpr fun i => Finset.mem_biUnion.mpr ⟨slotOf c (blockOf i) (quarterOf i), Finset.mem_univ _, (mem_in c _ i).2 rfl⟩] at h
  exact h

/-- The share of what it sends that a transfer takes, and what it takes of it. -/
def share (k : Fin 8) : PosShare TreeShare := match k with
  | 0 => (fullShare : PosShare TreeShare).left
  | 1 => (fullShare : PosShare TreeShare).right.left
  | 2 => (fullShare : PosShare TreeShare).right.right
  | 3 => (fullShare : PosShare TreeShare).left
  | 4 => (fullShare : PosShare TreeShare).left
  | 5 => (fullShare : PosShare TreeShare).right
  | 6 => (fullShare : PosShare TreeShare).right
  | 7 => fullShare
def srcPts (c : Dev nD) (k : Fin 8) : sProp 𝕄 := if k.val < 3 then argAt m c (argP c k) (share k) else outAt c (outP c k) (share k) (landed m c)
def dstPts (c : Dev nD) (k : Fin 8) (f : Buf (Elt F) ((c : Thread nD τ).loc main_v1)) : sProp 𝕄 := outAt c (inP c k) fullShare f

omit [FloatOps F] in
instance dstPts_storable (c : Dev nD) (k : Fin 8) (f) : BI.Storable (upEmb : UEmb _ 𝕄) (dstPts (F := F) c k f) := by unfold dstPts outAt; infer_instance
omit [FloatOps F] in
instance srcPts_storable (c : Dev nD) (k : Fin 8) : BI.Storable (upEmb : UEmb _ 𝕄) (srcPts (F := F) m c k) := by
  unfold srcPts argAt outAt; split <;> infer_instance

/-! ## The cells and their schedule: one round a cell, one transfer a round -/

def sendS (k : Fin 8) : DmaSem sig := (![0, 2, 3, 6, 7, 10, 11, 12] : Fin 8 → Fin 16) k
def recvS (k : Fin 8) : DmaSem sig := (![1, 4, 5, 8, 9, 13, 14, 15] : Fin 8 → Fin 16) k
def semAt (x : Fin 8 × Fin 2) : SemLoc sig := match x.2 with
  | ⟨0, _⟩ => .dma (sendS x.1)
  | ⟨1, _⟩ => .dma (recvS x.1)
theorem semAt_injective : Function.Injective semAt := by decide +kernel
abbrev sendCell (c : Dev nD) (k : Fin 8) : GSem nD τ sig := ((c : Thread nD τ), .dma (sendS k))
abbrev recvCell (c : Dev nD) (k : Fin 8) : GSem nD τ sig := ((c : Thread nD τ), .dma (recvS k))

/-- The transfer a cell stands for, and whether it is the receive cell. -/
def kindOf (s : SemLoc sig) : Fin 8 × Bool :=
  if s = .dma (sendS 0) then (0, false) else if s = .dma (sendS 1) then (1, false) else if s = .dma (sendS 2) then (2, false) else if s = .dma (sendS 3) then (3, false)
  else if s = .dma (sendS 4) then (4, false) else if s = .dma (sendS 5) then (5, false) else if s = .dma (sendS 6) then (6, false) else if s = .dma (sendS 7) then (7, false)
  else if s = .dma (recvS 0) then (0, true) else if s = .dma (recvS 1) then (1, true) else if s = .dma (recvS 2) then (2, true) else if s = .dma (recvS 3) then (3, true)
  else if s = .dma (recvS 4) then (4, true) else if s = .dma (recvS 5) then (5, true) else if s = .dma (recvS 6) then (6, true) else (7, true)
theorem kindOf_send (k : Fin 8) : kindOf (.dma (sendS k)) = (k, false) := by revert k; decide +kernel
theorem kindOf_recv (k : Fin 8) : kindOf (.dma (recvS k)) = (k, true) := by revert k; decide +kernel

/-- What a transfer pays: by its number of rows. -/
@[irreducible] def N (k : Fin 8) : ℕ := match k with
  | 0 => (o1024 (k0_off1 0) (k0_off1_inb 0)).view.dmaCredit
  | 3 => (o256 (k0_off5 0) (k0_off5_inb 0)).view.dmaCredit
  | 4 => (o256 (k0_off5 0) (k0_off5_inb 0)).view.dmaCredit
  | _ => (o512 (k0_off4 0) (k0_off4_inb 0)).view.dmaCredit
theorem N_pos (k : Fin 8) : 0 < N k := by unfold N; split <;> exact View.dmaCredit_pos _ (by decide)
theorem N_0 (off h) : (o1024 off h).view.dmaCredit = N 0 := by unfold N; rfl
theorem N_arg : (Memref.whole main_arg0).view.dmaCredit = N 0 := by unfold N; rfl
theorem N_256 (k : Fin 8) (hk : k = 3 ∨ k = 4) (off h) : (o256 off h).view.dmaCredit = N k := by rcases hk with rfl | rfl <;> · unfold N; rfl
theorem N_512 (k : Fin 8) (hk : k = 1 ∨ k = 2 ∨ k = 5 ∨ k = 6 ∨ k = 7) (off h) : (o512 off h).view.dmaCredit = N k := by rcases hk with rfl | rfl | rfl | rfl | rfl <;> · unfold N; rfl
theorem N_a512 (k : Fin 8) (hk : k = 1 ∨ k = 2) (c) : (a512 c).view.dmaCredit = N k := by rcases hk with rfl | rfl <;> · unfold N; rfl

def pay (c : Dev nD) (x : Fin 8 × Bool) : sProp 𝕄 := match x.2 with
  | true => dstPts c x.1 (landed m c)
  | false => srcPts m c x.1

abbrev rd : Rounds.Schedule (GSem nD τ sig) Unit 𝕄 :=
  Exchange.sched (fun g => N (kindOf g.2).1) (fun _ => N_pos _) (fun g => pay m g.1.1 (kindOf g.2))

instance rd_payload_storable (g : GSem nD τ sig) (r : ℕ) (d : Unit) : BI.Storable (upEmb : UEmb _ 𝕄) ((rd (F := F) m).payload g r d) := by
  show BI.Storable upEmb (pay m g.1.1 (kindOf g.2))
  unfold pay
  split <;> infer_instance

omit [FloatOps F] in
theorem expect_0 (g : GSem nD τ sig) : 0 + N (kindOf g.2).1 = (rd (F := F) m).expect g 0 := Exchange.expect_0 (N := fun g => N (kindOf g.2).1) g
omit [FloatOps F] in
theorem payload_send (c : Dev nD) (k : Fin 8) : (rd (F := F) m).payload (sendCell c k) 0 () = srcPts m c k := by
  show pay m c (kindOf (.dma (sendS k))) = _
  rw [kindOf_send]; rfl
omit [FloatOps F] in
theorem payload_recv (c : Dev nD) (k : Fin 8) : (rd (F := F) m).payload (recvCell c k) 0 () = dstPts c k (landed m c) := by
  show pay m c (kindOf (.dma (recvS k))) = _
  rw [kindOf_recv]; rfl
omit [FloatOps F] in
theorem amount_send (c : Dev nD) (k : Fin 8) : (rd (F := F) m).amount (sendCell c k) 0 () = N k := by
  show N (kindOf (.dma (sendS k))).1 = _; rw [kindOf_send]
omit [FloatOps F] in
theorem amount_recv (c : Dev nD) (k : Fin 8) : (rd (F := F) m).amount (recvCell c k) 0 () = N k := by
  show N (kindOf (.dma (recvS k))).1 = _; rw [kindOf_recv]

/-! ## What each transfer moves -/

/-- Transfer `k` of device `c`, from the view `src` into the view `dst` of its peer, moves what the schedule says. -/
structure Moves (c : Dev nD) (k : Fin 8) {s : Shape} (src dst : Memref sig .tc .hbm s .bf16) : Prop where
  takes : ∃ (fs : Buf (Elt F) (src.view.loc (c : Thread nD τ))) (fd : Buf (Elt F) (dst.view.loc (peer k c : Thread nD τ))),
    (srcPts m c k : sProp 𝕄) = (src.view.loc (c : Thread nD τ) ↦[src.view.set]{share k} fs)
    ∧ (dstPts (peer k c) k (m ((peer k c : Thread nD τ).loc main_v1)) : sProp 𝕄) = (dst.view.loc (peer k c : Thread nD τ) ↦[dst.view.set]{fullShare} fd)
    ∧ (dst.view.loc (peer k c : Thread nD τ) ↦[dst.view.set]{fullShare} (dst.view.write (Elt F) fd (src.view.read (Elt F) fs) Finset.univ) : sProp 𝕄)
      = dstPts (peer k c) k (landed m (peer k c))
  pays : dst.view.dmaCredit = N k

omit [FloatOps F] in
theorem landed_out (c : Dev nD) (k : Fin 8) (hk : 3 ≤ k.val) (i : S4x1024x640.Idx) (hi : i ∈ blk (inP (peer k c) k)) : landed m c i = landed m (peer k c) i := by
  unfold landed
  rw [origin_out c k hk _ _ ((mem_blk _ i).1 hi)]

omit [FloatOps F] in
theorem moves_512 (c : Dev nD) (k : Fin 8) (hk : k = 5 ∨ k = 6 ∨ k = 7) (off h) (hf : Fits off 512 (inP (peer k c) k)) : Moves m c k (o512 off h) (o512 off h) := by
  have hk3 : 3 ≤ k.val := by rcases hk with rfl | rfl | rfl <;> decide
  have hs := o512_set off h _ hf
  refine ⟨⟨landed m c, m ((peer k c : Thread nD τ).loc main_v1), ?_, ?_, ?_⟩, N_512 k (by tauto) off h⟩
  · unfold srcPts outAt; rw [if_neg (by omega), hs, show outP c k = inP (peer k c) k from funext fun j => funext fun q => outP_in c k hk3 j q]
  · unfold dstPts outAt; rw [hs]
  · unfold dstPts outAt
    rw [← hs]
    refine pointsTo_congr fun i hi => ?_
    obtain ⟨x, -, rfl⟩ := Finset.mem_map.mp hi
    exact (View.write_emb_of_mem _ _ (Finset.mem_univ x)).trans (landed_out m c k hk3 _ (hs ▸ hi))
omit [FloatOps F] in
theorem moves_256 (c : Dev nD) (k : Fin 8) (hk : k = 3 ∨ k = 4) (off h) (hf : Fits off 256 (inP (peer k c) k)) : Moves m c k (o256 off h) (o256 off h) := by
  have hk3 : 3 ≤ k.val := by rcases hk with rfl | rfl <;> decide
  have hs := o256_set off h _ hf
  refine ⟨⟨landed m c, m ((peer k c : Thread nD τ).loc main_v1), ?_, ?_, ?_⟩, N_256 k hk off h⟩
  · unfold srcPts outAt; rw [if_neg (by omega), hs, show outP c k = inP (peer k c) k from funext fun j => funext fun q => outP_in c k hk3 j q]
  · unfold dstPts outAt; rw [hs]
  · unfold dstPts outAt
    rw [← hs]
    refine pointsTo_congr fun i hi => ?_
    obtain ⟨x, -, rfl⟩ := Finset.mem_map.mp hi
    exact (View.write_emb_of_mem _ _ (Finset.mem_univ x)).trans (landed_out m c k hk3 _ (hs ▸ hi))
omit [FloatOps F] in
theorem landed_arg (c : Dev nD) (k : Fin 8) (hk : k.val < 3) (i : S4x1024x640.Idx) (x : S1024x640.Idx) (hi : i ∈ blk (inP (peer k c) k))
    (h0 : (i 1).val = (x 0).val) (h1 : (i 2).val = (x 1).val) : m ((c : Thread nD τ).loc main_arg0) x = landed m (peer k c) i := by
  unfold landed
  rw [origin_arg c k hk _ _ ((mem_blk _ i).1 hi)]
  exact congrArg _ (funext fun a => Fin.ext (match a with | ⟨0, _⟩ => h0.symm | ⟨1, _⟩ => h1.symm))
omit [FloatOps F] in
theorem moves_own (c : Dev nD) : Moves m c 0 (Memref.whole main_arg0) (o1024 (k0_off1 c) (k0_off1_inb c)) := by
  have hs := o1024_set (k0_off1 c) (k0_off1_inb c) (inP (peer 0 c) 0) (by revert c; decide +kernel)
  refine ⟨⟨m ((c : Thread nD τ).loc main_arg0), m ((peer 0 c : Thread nD τ).loc main_v1), ?_, ?_, ?_⟩, N_0 _ _⟩
  · unfold srcPts argAt
    rw [if_pos (by decide), View.set_whole, show blkA (argP c 0) = (Finset.univ : Finset S1024x640.Idx) from Finset.eq_univ_iff_forall.mpr fun i => (mem_blkA _ i).2 rfl]
  · unfold dstPts outAt; rw [hs]
  · unfold dstPts outAt
    rw [← hs]
    refine pointsTo_congr fun i hi => ?_
    obtain ⟨x, -, rfl⟩ := Finset.mem_map.mp hi
    refine (View.write_emb_of_mem _ _ (Finset.mem_univ x)).trans (landed_arg m c 0 (by decide) _ x (hs ▸ hi) ?_ ?_)
    · refine (o1024_emb _ _ x 0).trans ?_; rw [k0_off1_eq]; exact Nat.zero_add _
    · refine (o1024_emb _ _ x 1).trans ?_; rw [k0_off1_eq]; exact Nat.zero_add _
omit [FloatOps F] in
theorem moves_direct (c : Dev nD) (k : Fin 8) (hk : k = 1 ∨ k = 2) : Moves m c k (a512 c) (o512 (k0_off2 c) (k0_off2_inb c)) := by
  have hk3 : k.val < 3 := by rcases hk with rfl | rfl <;> decide
  have hs := o512_set (k0_off2 c) (k0_off2_inb c) (inP (peer k c) k) (by rcases hk with rfl | rfl <;> · revert c; decide +kernel)
  refine ⟨⟨m ((c : Thread nD τ).loc main_arg0), m ((peer k c : Thread nD τ).loc main_v1), ?_, ?_, ?_⟩, N_512 k (by tauto) _ _⟩
  · unfold srcPts argAt
    rw [if_pos hk3, a512_set c k hk]
  · unfold dstPts outAt; rw [hs]
  · unfold dstPts outAt
    rw [← hs]
    refine pointsTo_congr fun i hi => ?_
    obtain ⟨x, -, rfl⟩ := Finset.mem_map.mp hi
    refine (View.write_emb_of_mem _ _ (Finset.mem_univ x)).trans (landed_arg m c k hk3 _ ((a512 c).view.emb x) (hs ▸ hi) ?_ ?_)
    · refine (o512_emb _ _ x 0).trans ?_
      show k0_off2 c 1 + (x 0).val = k0_off3 c 0 + 1 * (x 0).val
      rw [k0_off2_eq, k0_off3_eq, Nat.one_mul]; rfl
    · refine (o512_emb _ _ x 1).trans ?_
      show k0_off2 c 2 + (x 1).val = k0_off3 c 1 + 1 * (x 1).val
      rw [k0_off2_eq, k0_off3_eq, Nat.one_mul]; rfl

/-! ## The levels -/

/-- The level of a cell: of a receive cell the stage of its transfer. -/
def level (s : SemLoc sig) : ℕ := match kindOf s with
  | (k, true) => if k.val < 3 then 0 else if k.val < 5 then 1 else 2
  | (_, false) => 0
def Lx (g : GSem nD τ sig) : Finset Unit := if g.1.2 = .tc then {()} else ∅
def lv (g : GSem nD τ sig) (_ : Unit) : ℕ := level g.2

def due (k : Fin 8) (c : Dev nD) : CellTallies nD τ sig Unit := tallyAt (recvCell (peer k c) k) () (N k)
/-- What a device owes of the transfers `l` that it has still to start. -/
def dues (c : Dev nD) : List (Fin 8) → CellTallies nD τ sig Unit
  | [] => 0
  | k :: l => dues c l + due k c
def O₀ (c : Dev nD) : CellTallies nD τ sig Unit := dues c [0, 1, 2, 3, 5, 4, 6, 7]

omit [FloatOps F] in
theorem mayWait (c : Dev nD) (s : SemLoc sig) (l : List (Fin 8)) (hl : ∀ k ∈ l, level s < level (.dma (recvS k))) :
    (levAts Lx lv : sProp 𝕄) ⊢ MayWait (c : Thread nD τ) s () (dues c l) := by
  refine Pipeline.mayWait_of_levAts (by unfold Lx; rw [if_pos rfl]; exact Finset.mem_singleton_self _) ?_
  induction l with
  | nil => intro g i h; exact absurd h (Nat.lt_irrefl 0)
  | cons k l ih =>
    intro g i h
    rcases Pipeline.add_pos_cases (show 0 < (dues c l + due k c) g i from h) with h | h
    · exact ih (fun k hk => hl k (List.mem_cons_of_mem _ hk)) g i h
    · unfold due at h
      rw [tallyAt_apply] at h
      by_cases hg : g = recvCell (peer k c) k ∧ i = ()
      · obtain ⟨rfl, rfl⟩ := hg
        exact ⟨by unfold Lx; rw [if_pos rfl]; exact Finset.mem_singleton_self _, hl k List.mem_cons_self⟩
      · rw [if_neg hg] at h; exact absurd h (Nat.lt_irrefl 0)

/-! ## The body, transfer by transfer -/

abbrev inv (g : GSem nD τ sig) : sProp 𝕄 := iprop(∃ κ : ℕ, cellInv ER (rd m) κ g)

/-- What device `c` holds of transfer `k` when it enters the kernel: the protocol's part, and where it lands at the peer. -/
def held (c : Dev nD) (k : Fin 8) : sProp 𝕄 :=
  iprop((inv m (sendCell c k) ∗ inv m (recvCell c k) ∗ atPos ER (sendCell c k) 0 ∅ 0 ∗ atPos ER (recvCell c k) 0 ∅ 0
      ∗ reached ER (sendCell c k) 0 ∗ dutyTok ER (sendCell c k) 0 () ∗ cred (tallyAt (recvCell c k) () (N k)))
    ∗ (inv m (recvCell (peer k c) k) ∗ reached ER (recvCell (peer k c) k) 0 ∗ dutyTok ER (recvCell (peer k c) k) 0 ()
      ∗ dstPts (peer k c) k (m ((peer k c : Thread nD τ).loc main_v1))))
/-- A cell whose transfer is under way, and one whose transfer has been waited for. -/
def pend (g : GSem nD τ sig) (n : ℕ) : sProp 𝕄 := iprop(inv m g ∗ atPos ER g 0 ∅ 0 ∗ cred (tallyAt g () n))
def over (g : GSem nD τ sig) : sProp 𝕄 := iprop(inv m g ∗ atPos ER g (0 + 1) ∅ 0)

def Φ₀ (c : Dev nD) : sProp 𝕄 := iprop(bigSep Finset.univ (held m c) ∗ xPts m c ∗ levAts Lx lv)
def Φ₁ (c : Dev nD) : sProp 𝕄 := iprop(xPts m c ∗ outPts c (landed m c) ∗ bigSep Finset.univ (fun k => iprop(semVal (sendCell c k) 0 ∗ semVal (recvCell c k) 0)))

abbrev dats (_ : Fin 1) (c : Dev nD) : Dat τ (Elt F) Unit ℕ (UR sig nD τ) ℕ cfg0 c :=
  Exchange.dat cfg0 ⟨fun w => w.elim0⟩ c (Φ₀ m c) (Φ₁ m c) (O₀ c)

abbrev 𝒱₀ : Variants := Variants.none

theorem wp_start (c n : Dev nD) (k : Fin 8) (l : List (Fin 8)) {s : Shape} {src dst : Memref sig .tc .hbm s .bf16} (hm : Moves m c k src dst) (s₁ s₂ : DmaSem sig)
    (hn : n = peer k c) (h₁ : s₁ = sendS k) (h₂ : s₂ = recvS k)
    {hsc : (dst : Memref sig (Dev.tc n : Thread nD τ).2.kind .hbm s .bf16).view.ref.isScScratch = false}
    {hsrc : src.view.WordExact} {hdst : dst.view.WordExact}
    {hsem : DmaTarget.Typed .hbm (.dma s₂) (.remote (Dev.tc n : Thread nD τ) dst (.dma s₁) hsc)}
    {α : Type} {Q : α → sProp 𝕄} {K : PUnit → Prog (TpuEff nD τ sig (Elt F) Λ₀ .tc) α} :
    iprop(held m c k ∗ srcPts m c k ∗ ∃ W, owes (c : Thread nD τ) (dues c (k :: l)) W)
      ⊢ iprop(((pend m (sendCell c k) (N k) ∗ pend m (recvCell c k) (N k) ∗ ∃ W, owes (c : Thread nD τ) (dues c l) W)
            -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma src (.remote (Dev.tc n : Thread nD τ) dst (.dma s₁) hsc) (.dma s₂) hsrc hdst hsem) K) Q) := by
  subst hn h₁ h₂
  obtain ⟨⟨fs, fd, e₁, e₂, e₃⟩, hN⟩ := hm
  unfold held pend
  rw [e₁, e₂]
  iintro ⟨⟨⟨⟨%κ₁, #HIs⟩, ⟨%κ₂, #HIr⟩, HatS, HatR, #HrS, HtS, HcR⟩, ⟨%κ₃, #HIp⟩, #HrP, HtP, Hd⟩, Hs, ⟨%W, HO⟩⟩ Hk
  iapply (Rounds.wp_send_pointsTo 𝒱₀ ER (rd m) (c : Thread nD τ) none (κ₁ := κ₁) (κ₂ := κ₃)
    (c' := (peer k c : Thread nD τ)) (src := src) (dst := dst) (sS := .dma (sendS k)) (sem := .dma (recvS k))
    (hsc := hsc) (hsrc := hsrc) (hdst := hdst) (hsem := hsem) (k := K) (q := share k)
    (fs := fs) (r₁ := 0) (r₂ := 0) (d₁ := ()) (d₂ := ()) (fd := fd)
    (by rw [Exchange.duties_0]; exact Finset.mem_singleton_self _) (by rw [Exchange.duties_0]; exact Finset.mem_singleton_self _)
    () () (N k) hN (amount_send m c k) (amount_recv m (peer k c) k) (O₀ := dues c (k :: l)) (dues c l) rfl (W := W)
    (Entails.of_eq (e₁.symm.trans (payload_send m c k).symm)) (Entails.of_eq (e₃.trans (payload_recv m (peer k c) k).symm))) $$ [Hs Hd HO HtS HtP]
  · isplitr; · iexact HIs
    isplitr; · iexact HIp
    isplitl [Hs]; · iexact Hs
    isplitl [Hd]; · iexact Hd
    isplitl [HO]; · iexact HO
    isplitl [HtS]; · iexact HtS
    isplitr; · iexact HrS
    isplitl [HtP]; · iexact HtP
    iexact HrP
  iintro ⟨HcS, HO⟩
  iapply Hk
  isplitl [HcS HatS]
  · isplitr; · iexists κ₁; iexact HIs
    isplitl [HatS] <;> iassumption
  isplitl [HcR HatR]
  · isplitr; · iexists κ₂; iexact HIr
    isplitl [HatR] <;> iassumption
  iexists W; iexact HO

/-- A wait for the one transfer of a cell, the transfers `l` still owed. -/
theorem wp_wait (c : Dev nD) (s : DmaSem sig) (l : List (Fin 8)) (hl : ∀ k ∈ l, level (.dma s) < level (.dma (recvS k)))
    {sp sp' : Space} {v v' : Shape} {e e' : EltTy} {κ' : Kind} {src : Memref sig .tc sp' v' e'} {dst : Memref sig κ' sp v e}
    (hN : dst.view.dmaCredit = N (kindOf (.dma s)).1) {hsrc : src.view.WordExact} {hdst : dst.view.WordExact}
    {α : Type} {Q : α → sProp 𝕄} {K : PUnit → Prog (TpuEff nD τ sig (Elt F) Λ₀ .tc) α} :
    iprop(pend m ((c : Thread nD τ), .dma s) (N (kindOf (.dma s)).1) ∗ levAts Lx lv ∗ ∃ W, owes (c : Thread nD τ) (dues c l) W)
      ⊢ iprop(((over m ((c : Thread nD τ), .dma s) ∗ (rd m).payload ((c : Thread nD τ), .dma s) 0 () ∗ ∃ W, owes (c : Thread nD τ) (dues c l) W)
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 s src dst hsrc hdst) K) Q) := by
  unfold pend over
  iintro ⟨⟨⟨%κ, #HI⟩, Hat, Hc⟩, HL, ⟨%W, HO⟩⟩ Hk
  iapply (Rounds.wp_wait_rest_token 𝒱₀ ER (rd m) (c : Thread nD τ) none (κ := κ)
      (wpE_waitDma2_eq 𝒱₀ (c : Thread nD τ) none Set.univ) (Set.mem_univ _) () (O := dues c l) (W := W) (R := 0) (m := 0) (T := ∅)
      ((congrArg (0 + ·) hN).trans (expect_0 m ((c : Thread nD τ), .dma s)))) $$ [Hc HO Hat HL]
  · isplitr; · iexact HI
    isplitl [Hc]; · iapply (Entails.of_eq (congrArg (fun n => cred (tallyAt ((c : Thread nD τ), .dma s) () n)) hN.symm)); iexact Hc
    isplitl [HO]; · iexact HO
    isplitl [HL]; · iapply (mayWait c (.dma s) l hl); iexact HL
    iexact Hat
  iintro ⟨HO, Hat, -, Hpay⟩
  iapply Hk
  isplitl [Hat]
  · isplitr; · iexists κ; iexact HI
    iexact Hat
  isplitl [Hpay]; · iapply (Entails.of_eq (Exchange.rest ((c : Thread nD τ), .dma s))); iexact Hpay
  iexists _; iexact HO

theorem wp_sent (c : Dev nD) (k : Fin 8) (s : DmaSem sig) (hs : s = sendS k)
    {sp sp' : Space} {v v' : Shape} {e e' : EltTy} {κ' : Kind} {src : Memref sig .tc sp' v' e'} {dst : Memref sig κ' sp v e}
    (hN : dst.view.dmaCredit = N k) {hsrc : src.view.WordExact} {hdst : dst.view.WordExact}
    {α : Type} {Q : α → sProp 𝕄} {K : PUnit → Prog (TpuEff nD τ sig (Elt F) Λ₀ .tc) α} :
    iprop(pend m (sendCell c k) (N k) ∗ levAts Lx lv ∗ ∃ W, owes (c : Thread nD τ) (dues c []) W)
      ⊢ iprop(((over m (sendCell c k) ∗ srcPts m c k ∗ ∃ W, owes (c : Thread nD τ) (dues c []) W)
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 s src dst hsrc hdst) K) Q) := by
  subst hs
  have h := wp_wait m c (sendS k) [] (fun _ h => absurd h List.not_mem_nil) (src := src) (dst := dst) (hsrc := hsrc) (hdst := hdst) (Q := Q) (K := K) (by rw [kindOf_send]; exact hN)
  rw [kindOf_send, payload_send] at h
  exact h
theorem wp_landed (c : Dev nD) (k : Fin 8) (l : List (Fin 8)) (hl : ∀ k' ∈ l, level (.dma (recvS k)) < level (.dma (recvS k'))) (s : DmaSem sig) (hs : s = recvS k)
    {sp sp' : Space} {v v' : Shape} {e e' : EltTy} {κ' : Kind} {src : Memref sig .tc sp' v' e'} {dst : Memref sig κ' sp v e}
    (hN : dst.view.dmaCredit = N k) {hsrc : src.view.WordExact} {hdst : dst.view.WordExact}
    {α : Type} {Q : α → sProp 𝕄} {K : PUnit → Prog (TpuEff nD τ sig (Elt F) Λ₀ .tc) α} :
    iprop(pend m (recvCell c k) (N k) ∗ levAts Lx lv ∗ ∃ W, owes (c : Thread nD τ) (dues c l) W)
      ⊢ iprop(((over m (recvCell c k) ∗ dstPts c k (landed m c) ∗ ∃ W, owes (c : Thread nD τ) (dues c l) W)
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 s src dst hsrc hdst) K) Q) := by
  subst hs
  have h := wp_wait m c (recvS k) l hl (src := src) (dst := dst) (hsrc := hsrc) (hdst := hdst) (Q := Q) (K := K) (by rw [kindOf_recv]; exact hN)
  rw [kindOf_recv, payload_recv] at h
  exact h

/-- A finished cell closed. -/
theorem close (g : GSem nD τ sig) : over m g ⊢ (|={Set.univ}=> semVal g 0 : sProp 𝕄) := by
  unfold over
  iintro ⟨⟨%κ, #HI⟩, Hat⟩
  imod (Rounds.cell_close ER (rd m) (Set.mem_univ κ) (fun h => h) (R := 0 + 1) (Exchange.duties_later g)) $$ [Hat] with Hz
  · isplitr; · iexact HI
    iexact Hat
  imodintro
  iexact Hz

omit [FloatOps F] in
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem close_all (c : Dev nD) : bigSep Finset.univ (fun k => iprop(over m (sendCell c k) ∗ over m (recvCell c k)))
    ⊢ (|={Set.univ}=> bigSep Finset.univ (fun k => iprop(semVal (sendCell c k) 0 ∗ semVal (recvCell c k) 0)) : sProp 𝕄) := by
  have h (k : Fin 8) : iprop(over m (sendCell c k) ∗ over m (recvCell c k)) ⊢ (|={Set.univ}=> iprop(semVal (sendCell c k) 0 ∗ semVal (recvCell c k) 0) : sProp 𝕄) := by
    iintro ⟨Hs, Hr⟩
    imod (close m (sendCell c k)) $$ Hs with Hs
    imod (close m (recvCell c k)) $$ Hr with Hr
    imodintro
    isplitl [Hs] <;> iassumption
  exact (bigSep_mono fun k _ => h k).trans (bigSep_fupd Finset.univ _)

/-! What the arrays are cut into for the transfers. -/

/-- The other half of the argument, and the quarters of the neighbours' halves that are not passed on across. -/
def idleA (c : Dev nD) (q : Fin 4) : Bool := !argP c 1 q
def idle (c : Dev nD) (k : Fin 8) (j q : Fin 4) : Bool := match k with
  | 1 => slotOf c j q == 1 && q.val % 2 == 1
  | _ => slotOf c j q == 2 && q.val % 2 == 0

omit [FloatOps F] in
theorem cut_arg (c : Dev nD) : (xPts m c : sProp 𝕄) = iprop(srcPts m c 0 ∗ (srcPts m c 1 ∗ srcPts m c 2) ∗ argAt m c (idleA c) (fullShare : PosShare TreeShare).right) := by
  rw [xPts_eq, argAt_share, argAt_split m c (argP c 0) (argP c 1) (idleA c) (fullShare : PosShare TreeShare).right (by revert c; decide +kernel) (by revert c; decide +kernel), argAt_share m c (argP c 1)]
  rfl
omit [FloatOps F] in
theorem cut_1 (c : Dev nD) : (dstPts c 1 (landed m c) : sProp 𝕄) = iprop((srcPts m c 3 ∗ outAt c (idle c 1) (fullShare : PosShare TreeShare).left (landed m c)) ∗ srcPts m c 5) := by
  unfold dstPts
  rw [outAt_share, outAt_split c (inP c 1) (outP c 3) (idle c 1) _ _ (by revert c; decide +kernel) (by revert c; decide +kernel)]
  rfl
omit [FloatOps F] in
theorem cut_2 (c : Dev nD) : (dstPts c 2 (landed m c) : sProp 𝕄) = iprop((srcPts m c 4 ∗ outAt c (idle c 2) (fullShare : PosShare TreeShare).left (landed m c)) ∗ srcPts m c 6) := by
  unfold dstPts
  rw [outAt_share, outAt_split c (inP c 2) (outP c 4) (idle c 2) _ _ (by revert c; decide +kernel) (by revert c; decide +kernel)]
  rfl
omit [FloatOps F] in
theorem join_7 (c : Dev nD) : (srcPts m c 7 : sProp 𝕄) = iprop(dstPts c 3 (landed m c) ∗ dstPts c 4 (landed m c)) :=
  outAt_split c (outP c 7) (inP c 3) (inP c 4) _ _ (by revert c; decide +kernel) (by revert c; decide +kernel)

set_option maxHeartbeats 4000000 in
theorem sound_body (c : Dev nD) (W : Waits sig Unit) (Kt : PUnit → sProp 𝕄) :
    iprop((Φ₀ m c ∗ owes (c : Thread nD τ) (O₀ c) W) ∗ (iprop(Φ₁ m c ∗ ∃ W', owes (c : Thread nD τ) (0 : CellTallies nD τ sig Unit) W') -∗ Kt ⟨⟩))
      ⊢ wp frame (wpE (defs₀ (F := F)) 𝒱₀ c none) Set.univ
          (cc0_gather_w_in (Memref.whole main_arg0) (Memref.isWhole_whole _) (Memref.whole main_v1) (Memref.isWhole_whole _)
            cc0_scratch0 cc0_scratch1 cc0_scratch2 cc0_scratch3 cc0_scratch4 cc0_scratch5 cc0_scratch6 cc0_scratch7) Kt := by
  simp only [cc0_gather_w_in_eq_skeleton, cc0_gather_w_in_skel, k0_part1_eq_skeleton, k0_part1_skel, k0_part2_eq_skeleton, k0_part2_skel,
    k0_part3_eq_skeleton, k0_part3_skel, k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel, k0_part10_eq_skeleton, k0_part10_skel,
    k0_part11_eq_skeleton, k0_part11_skel]
  simp only [Prog.lift, Prog.bind_op, Prog.bind_ret, Prog.pure_eq_ret, wp_deviceId]
  unfold Φ₀ O₀
  rw [cut_arg, eight]
  iintro ⟨⟨⟨⟨H0, H1, H2, H3, H4, H5, H6, H7⟩, ⟨S0, ⟨S1, S2⟩, IA⟩, #HL⟩, HO⟩, Hk⟩
  iapply (wp_start m c _ 0 [1, 2, 3, 5, 4, 6, 7] (moves_own m c) _ _ rfl rfl rfl) $$ [H0 S0 HO]
  · isplitl [H0]; · iexact H0
    isplitl [S0]; · iexact S0
    iexists W; iexact HO
  iintro ⟨P0, R0, HO⟩
  iapply (wp_start m c _ 1 [2, 3, 5, 4, 6, 7] (moves_direct m c 1 (Or.inl rfl)) _ _ rfl rfl rfl) $$ [H1 S1 HO]
  · isplitl [H1]; · iexact H1
    isplitl [S1] <;> iassumption
  iintro ⟨P1, R1, HO⟩
  iapply (wp_start m c _ 2 [3, 5, 4, 6, 7] (moves_direct m c 2 (Or.inr rfl)) _ _ rfl rfl rfl) $$ [H2 S2 HO]
  · isplitl [H2]; · iexact H2
    isplitl [S2] <;> iassumption
  iintro ⟨P2, R2, HO⟩
  iapply (wp_landed m c 1 [3, 5, 4, 6, 7] (by decide +kernel) _ rfl (N_512 1 (by decide) _ _)) $$ [R1 HO]
  · isplitl [R1]; · iexact R1
    isplitr; · iexact HL
    iexact HO
  iintro ⟨R1, D1, HO⟩
  ihave D1 := (Entails.of_eq (cut_1 m c)) $$ D1
  icases D1 with ⟨⟨S3, I1⟩, S5⟩
  iapply (wp_start m c _ 3 [5, 4, 6, 7] (moves_256 m c 3 (by decide) _ _ (by revert c; decide +kernel)) _ _ rfl rfl rfl) $$ [H3 S3 HO]
  · isplitl [H3]; · iexact H3
    isplitl [S3] <;> iassumption
  iintro ⟨P3, R3, HO⟩
  iapply (wp_start m c _ 5 [4, 6, 7] (moves_512 m c 5 (by decide) _ _ (by revert c; decide +kernel)) _ _ rfl rfl rfl) $$ [H5 S5 HO]
  · isplitl [H5]; · iexact H5
    isplitl [S5] <;> iassumption
  iintro ⟨P5, R5, HO⟩
  iapply (wp_landed m c 2 [4, 6, 7] (by decide +kernel) _ rfl (N_512 2 (by decide) _ _)) $$ [R2 HO]
  · isplitl [R2]; · iexact R2
    isplitr; · iexact HL
    iexact HO
  iintro ⟨R2, D2, HO⟩
  ihave D2 := (Entails.of_eq (cut_2 m c)) $$ D2
  icases D2 with ⟨⟨S4, I2⟩, S6⟩
  iapply (wp_start m c _ 4 [6, 7] (moves_256 m c 4 (by decide) _ _ (by revert c; decide +kernel)) _ _ rfl rfl rfl) $$ [H4 S4 HO]
  · isplitl [H4]; · iexact H4
    isplitl [S4] <;> iassumption
  iintro ⟨P4, R4, HO⟩
  iapply (wp_start m c _ 6 [7] (moves_512 m c 6 (by decide) _ _ (by revert c; decide +kernel)) _ _ rfl rfl rfl) $$ [H6 S6 HO]
  · isplitl [H6]; · iexact H6
    isplitl [S6] <;> iassumption
  iintro ⟨P6, R6, HO⟩
  iapply (wp_landed m c 3 [7] (by decide +kernel) _ rfl (N_256 3 (by decide) _ _)) $$ [R3 HO]
  · isplitl [R3]; · iexact R3
    isplitr; · iexact HL
    iexact HO
  iintro ⟨R3, D3, HO⟩
  iapply (wp_landed m c 4 [7] (by decide +kernel) _ rfl (N_256 4 (by decide) _ _)) $$ [R4 HO]
  · isplitl [R4]; · iexact R4
    isplitr; · iexact HL
    iexact HO
  iintro ⟨R4, D4, HO⟩
  iapply (wp_start m c _ 7 [] (moves_512 m c 7 (by decide) _ _ (by revert c; decide +kernel)) _ _ rfl rfl rfl) $$ [H7 D3 D4 HO]
  · isplitl [H7]; · iexact H7
    isplitl [D3 D4]
    · iapply (Entails.of_eq (join_7 m c).symm)
      isplitl [D3] <;> iassumption
    iexact HO
  iintro ⟨P7, R7, HO⟩
  iapply (wp_landed m c 5 [] (by decide +kernel) _ rfl (N_512 5 (by decide) _ _)) $$ [R5 HO]
  · isplitl [R5]; · iexact R5
    isplitr; · iexact HL
    iexact HO
  iintro ⟨R5, D5, HO⟩
  iapply (wp_landed m c 6 [] (by decide +kernel) _ rfl (N_512 6 (by decide) _ _)) $$ [R6 HO]
  · isplitl [R6]; · iexact R6
    isplitr; · iexact HL
    iexact HO
  iintro ⟨R6, D6, HO⟩
  iapply (wp_landed m c 7 [] (by decide +kernel) _ rfl (N_512 7 (by decide) _ _)) $$ [R7 HO]
  · isplitl [R7]; · iexact R7
    isplitr; · iexact HL
    iexact HO
  iintro ⟨R7, D7, HO⟩
  iapply (wp_sent m c 1 _ rfl (N_a512 1 (by decide) c)) $$ [P1 HO]
  · isplitl [P1]; · iexact P1
    isplitr; · iexact HL
    iexact HO
  iintro ⟨P1, S1, HO⟩
  iapply (wp_sent m c 3 _ rfl (N_256 3 (by decide) _ _)) $$ [P3 HO]
  · isplitl [P3]; · iexact P3
    isplitr; · iexact HL
    iexact HO
  iintro ⟨P3, S3, HO⟩
  iapply (wp_sent m c 5 _ rfl (N_512 5 (by decide) _ _)) $$ [P5 HO]
  · isplitl [P5]; · iexact P5
    isplitr; · iexact HL
    iexact HO
  iintro ⟨P5, S5, HO⟩
  iapply (wp_sent m c 2 _ rfl (N_a512 2 (by decide) c)) $$ [P2 HO]
  · isplitl [P2]; · iexact P2
    isplitr; · iexact HL
    iexact HO
  iintro ⟨P2, S2, HO⟩
  iapply (wp_sent m c 4 _ rfl (N_256 4 (by decide) _ _)) $$ [P4 HO]
  · isplitl [P4]; · iexact P4
    isplitr; · iexact HL
    iexact HO
  iintro ⟨P4, S4, HO⟩
  iapply (wp_sent m c 6 _ rfl (N_512 6 (by decide) _ _)) $$ [P6 HO]
  · isplitl [P6]; · iexact P6
    isplitr; · iexact HL
    iexact HO
  iintro ⟨P6, S6, HO⟩
  iapply (wp_sent m c 7 _ rfl (N_512 7 (by decide) _ _)) $$ [P7 HO]
  · isplitl [P7]; · iexact P7
    isplitr; · iexact HL
    iexact HO
  iintro ⟨P7, S7, HO⟩
  iapply (wp_sent m c 0 _ rfl N_arg) $$ [P0 HO]
  · isplitl [P0]; · iexact P0
    isplitr; · iexact HL
    iexact HO
  iintro ⟨P0, S0, HO⟩
  iapply (wp_landed m c 0 [] (by decide +kernel) _ rfl (N_0 _ _)) $$ [R0 HO]
  · isplitl [R0]; · iexact R0
    isplitr; · iexact HL
    iexact HO
  iintro ⟨R0, D0, HO⟩
  rw [wp_ret]
  imod (close_all m c) $$ [P0 P1 P2 P3 P4 P5 P6 P7 R0 R1 R2 R3 R4 R5 R6 R7] with HΦ
  · rw [eight]
    isplitl [P0 R0]; · isplitl [P0] <;> iassumption
    isplitl [P1 R1]; · isplitl [P1] <;> iassumption
    isplitl [P2 R2]; · isplitl [P2] <;> iassumption
    isplitl [P3 R3]; · isplitl [P3] <;> iassumption
    isplitl [P4 R4]; · isplitl [P4] <;> iassumption
    isplitl [P5 R5]; · isplitl [P5] <;> iassumption
    isplitl [P6 R6]; · isplitl [P6] <;> iassumption
    isplitl [P7] <;> iassumption
  imodintro
  iapply Hk
  isplitr [HO]
  · unfold Φ₁
    rw [cut_arg, outPts_slots]
    isplitl [S0 S1 S2 IA]
    · isplitl [S0]; · iexact S0
      isplitl [S1 S2]; · isplitl [S1] <;> iassumption
      iexact IA
    isplitr [HΦ]
    · have hj := Entails.of_eq (join_7 m c)
      ihave S7 := hj $$ S7
      icases S7 with ⟨D3, D4⟩
      have h8 : (bigSep Finset.univ (fun k => outAt c (inP c k) fullShare (landed m c)) : sProp 𝕄) = bigSep Finset.univ (fun k => dstPts c k (landed m c)) := rfl
      rw [h8, eight, cut_1, cut_2]
      isplitl [D0]; · iexact D0
      isplitl [S3 I1 S5]
      · isplitl [S3 I1]; · isplitl [S3] <;> iassumption
        iexact S5
      isplitl [S4 I2 S6]
      · isplitl [S4 I2]; · isplitl [S4] <;> iassumption
        iexact S6
      isplitl [D3]; · iexact D3
      isplitl [D4]; · iexact D4
      isplitl [D5]; · iexact D5
      isplitl [D6] <;> iassumption
    iexact HΦ
  iexact HO

theorem body_obligation (c : Dev nD) : BodyObligation (dats (F := F) m 0 c) (defs₀ (F := F)) 𝒱₀ () Set.univ :=
  Exchange.body_of cfg0 ⟨fun w => w.elim0⟩ c (Φ₀ m c) (Φ₁ m c) (O₀ c) (by decide) defs₀ 𝒱₀ fun _ W K => sound_body m c W fun _ => K

/-! ## The launch -/

abbrev cellAt (x : Slot × Fin 2) : GSem nD τ sig := ((x.1.1 : Thread nD τ), semAt (x.1.2, x.2))
theorem cellAt_injective : Function.Injective cellAt := by
  rintro ⟨⟨c, r⟩, k⟩ ⟨⟨c', r'⟩, k'⟩ h
  have h1 : c = c' := congrArg (fun g : GSem nD τ sig => g.1.1) h
  have h2 := Prod.ext_iff.1 (semAt_injective (congrArg Prod.snd h))
  exact Prod.ext (Prod.ext h1 h2.1) h2.2

abbrev cells : Slot × Fin 2 ↪ GSem nD τ sig := ⟨cellAt, cellAt_injective⟩
def u₀ : UR sig nD τ := Exchange.u₀ cells

/-- One assertion of each cell of a transfer. -/
abbrev both (Φ : GSem nD τ sig → sProp 𝕄) (j : Slot) : sProp 𝕄 := iprop(Φ (sendCell j.1 j.2) ∗ Φ (recvCell j.1 j.2))

omit [FloatOps F] in
/-- The cells opened: from their counters at zero and the ghost element, their invariants, round 0 reached, and each
    cell's position and token. -/
theorem fund_cells : iprop(ownU u₀ ∗ bigSep Finset.univ (both (F := F) fun g => semVal g 0))
    ⊢ (|={Set.univ}=> iprop(bigSep Finset.univ (both (inv m)) ∗ bigSep Finset.univ (both fun g => reached ER g 0)
        ∗ bigSep Finset.univ (both fun g => atPos ER g 0 ∅ 0) ∗ bigSep Finset.univ (both fun g => dutyTok ER g 0 ())) : sProp 𝕄) :=
  Exchange.fund cells (rd m)

/-- What device `c` brings to the launch, transfer by transfer and besides. -/
def bringsSlot (j : Slot) : sProp 𝕄 :=
  iprop(both (fun g => semVal g 0) j ∗ cred (tallyAt (recvCell j.1 j.2) () (N j.2)) ∗ dstPts j.1 j.2 (m ((j.1 : Thread nD τ).loc main_v1)))
def keeps (c : Dev nD) : sProp 𝕄 := iprop(xPts m c ∗ owes (c : Thread nD τ) (O₀ c) ∅)

/-- What device `c` runs from. -/
def pre (c : Dev nD) : sProp 𝕄 := iprop(Φ₀ m c ∗ owes (c : Thread nD τ) (O₀ c) ∅)

omit [FloatOps F] in
theorem scopedSems_eq (c : Dev nD) : (scopedSems0 (c : Thread nD τ) : sProp 𝕄) = bigSep Finset.univ (fun r => iprop(semVal (sendCell c r) 0 ∗ semVal (recvCell c r) 0)) := by
  rw [show (scopedSems0 (c : Thread nD τ) : sProp 𝕄) = _ from scopedSems0_tc c,
    show (Finset.univ.filter fun sm : SemLoc sig => sm.isScoped .tc) = (Finset.univ : Finset (Fin 8 × Fin 2)).map ⟨semAt, semAt_injective⟩ from by decide +kernel,
    bigSep_map, bigSep_univ_prod]
  exact bigSep_congr fun r _ => bigSep_univ_two _
omit [FloatOps F] in
theorem scopedBufs_eq (c : Dev nD) : (scopedBufs (c : Thread nD τ) : sProp 𝕄) = iprop(emp) := by
  rw [show (scopedBufs (c : Thread nD τ) : sProp 𝕄) = _ from scopedBufs_tc c]
  exact bigSep_eq_bigSepL_of_eq [] (by decide) (by decide) _
omit [FloatOps F] in
theorem unscopedBufs_eq (c : Dev nD) (V : (b : Ref sig .tc) → Buf (Elt F) ((c : Thread nD τ).loc b)) :
    (unscopedBufs c V : sProp 𝕄) = iprop((((c : Thread nD τ).loc main_arg0) ↦{fullShare} V main_arg0) ∗ (((c : Thread nD τ).loc main_v1) ↦{fullShare} V main_v1)) := by
  unfold unscopedBufs
  exact bigSep_eq_bigSepL_of_eq [main_arg0, main_v1] (by decide) (by decide) _

omit [FloatOps F] in
theorem launch_credit (c : Dev nD) : (Pipeline.launchCred O₀ c : sProp 𝕄) ⊢ bigSep Finset.univ (fun r => cred (tallyAt (recvCell c r) () (N r))) := by
  have h (r : Fin 8) : (Pipeline.launchCred (due r) c : sProp 𝕄) ⊢ cred (tallyAt (recvCell c r) () (N r)) :=
    Pipeline.launchCred_tallyAt (.dma (recvS r)) (peer r) (peer r) (peer_peer r) (peer_peer r) () (N r) c
  rw [show (O₀ : Dev nD → CellTallies nD τ sig Unit) = fun d => due 7 d + due 6 d + due 4 d + due 5 d + due 3 d + due 2 d + due 1 d + due 0 d from
      funext fun d => by unfold O₀; simp only [dues, zero_add],
    Pipeline.launchCred_add, Pipeline.launchCred_add, Pipeline.launchCred_add, Pipeline.launchCred_add, Pipeline.launchCred_add, Pipeline.launchCred_add,
    Pipeline.launchCred_add, eight]
  iintro ⟨⟨⟨⟨⟨⟨⟨H7, H6⟩, H4⟩, H5⟩, H3⟩, H2⟩, H1⟩, H0⟩
  isplitl [H0]; · iapply (h 0); iexact H0
  isplitl [H1]; · iapply (h 1); iexact H1
  isplitl [H2]; · iapply (h 2); iexact H2
  isplitl [H3]; · iapply (h 3); iexact H3
  isplitl [H4]; · iapply (h 4); iexact H4
  isplitl [H5]; · iapply (h 5); iexact H5
  isplitl [H6]; · iapply (h 6); iexact H6
  iapply (h 7); iexact H7

omit [FloatOps F] in
/-- The levels, assigned to the devices' cells. -/
theorem assign : (bigSep Finset.univ fun c : Dev nD => levels0 (Ix := Unit) (Val := Elt F) (Name := ℕ) (U := UR sig nD τ) (Lvl := ℕ) (τ := τ) (sig := sig) c)
    ⊢ (|==> levAts Lx lv : sProp 𝕄) := by
  refine (Smoke.lev_assign_devs (fun _ => {()}) lv).trans (BI.bupd_mono ?_)
  have h (A : sProp 𝕄) : iprop(A ∗ levAts Lx lv) ⊢ levAts Lx lv := by iintro ⟨-, H⟩; iexact H
  exact h _

omit [FloatOps F] in
theorem core_brings (c : Dev nD) :
    coreInit (Ix := Unit) (Name := ℕ) (U := UR sig nD τ) (Lvl := ℕ) (Pipeline.owing O₀) 0 (⟨m, fun _ => 0, ρ⟩ : MemSt nD τ sig (Elt F)) (c : Thread nD τ)
      ⊢ iprop(bigSep Finset.univ (fun r => bringsSlot m (c, r)) ∗ keeps m c ∗ levels0 c) := by
  refine (Pipeline.coreInit_boundary_owing O₀ m ρ c).trans ?_
  have ho : (((c : Thread nD τ).loc main_v1) ↦{fullShare} m ((c : Thread nD τ).loc main_v1) : sProp 𝕄) ⊢ bigSep Finset.univ (fun r => dstPts c r (m ((c : Thread nD τ).loc main_v1))) :=
    Entails.of_eq (outPts_slots c _)
  have hb : iprop(bigSep Finset.univ (fun r => iprop(semVal (sendCell c r) 0 ∗ semVal (recvCell c r) 0)) ∗ bigSep Finset.univ (fun r => cred (tallyAt (recvCell c r) () (N r)))
        ∗ bigSep Finset.univ (fun r => dstPts c r (m ((c : Thread nD τ).loc main_v1)))) = (bigSep Finset.univ (fun r => bringsSlot m (c, r)) : sProp 𝕄) := by
    rw [← bigSep_sep', ← bigSep_sep']; rfl
  rw [← hb]
  unfold boundary keeps xPts
  rw [scopedSems_eq, unscopedBufs_eq]
  iintro ⟨⟨-, Hs, -⟩, ⟨Hx, Ho⟩, -, HO, Hlv, -, Hcr⟩
  isplitr [Hx HO Hlv]
  · isplitl [Hs]; · iexact Hs
    isplitl [Hcr]; · iapply (launch_credit c); iexact Hcr
    iapply ho; iexact Ho
  isplitr [Hlv]
  · isplitl [Hx] <;> iassumption
  iexact Hlv

/-- A transfer after its cells are opened. -/
def opened (j : Slot) : sProp 𝕄 :=
  iprop((both (inv m) j ∗ both (fun g => reached ER g 0) j ∗ both (fun g => atPos ER g 0 ∅ 0) j ∗ both (fun g => dutyTok ER g 0 ()) j)
    ∗ cred (tallyAt (recvCell j.1 j.2) () (N j.2)) ∗ dstPts j.1 j.2 (m ((j.1 : Thread nD τ).loc main_v1)))

/-- What a transfer keeps, and what it gives to the device that sends into it. -/
def stay (j : Slot) : sProp 𝕄 :=
  iprop(inv m (sendCell j.1 j.2) ∗ inv m (recvCell j.1 j.2) ∗ atPos ER (sendCell j.1 j.2) 0 ∅ 0 ∗ atPos ER (recvCell j.1 j.2) 0 ∅ 0
      ∗ reached ER (sendCell j.1 j.2) 0 ∗ dutyTok ER (sendCell j.1 j.2) 0 () ∗ cred (tallyAt (recvCell j.1 j.2) () (N j.2)))
def give (j : Slot) : sProp 𝕄 :=
  iprop(inv m (recvCell j.1 j.2) ∗ reached ER (recvCell j.1 j.2) 0 ∗ dutyTok ER (recvCell j.1 j.2) 0 ()
      ∗ dstPts j.1 j.2 (m ((j.1 : Thread nD τ).loc main_v1)))

omit [FloatOps F] in
theorem hand_over : bigSep Finset.univ (opened m) ⊢ (bigSep Finset.univ (fun j : Slot => held m j.1 j.2) : sProp 𝕄) := by
  have hg : (bigSep Finset.univ (give m) : sProp 𝕄) = bigSep Finset.univ (fun j => give m (swap j)) := by
    conv_lhs => rw [← Finset.map_univ_equiv swap]
    exact bigSep_map _
  refine (bigSep_mono (Ψ := fun j => iprop(stay m j ∗ give m j)) fun j _ => ?_).trans
    (Entails.of_eq ((bigSep_sep' Finset.univ (stay m) (give m)).trans ((congrArg (fun X => iprop(bigSep Finset.univ (stay m) ∗ X)) hg).trans
      (bigSep_sep' Finset.univ (stay m) (fun j => give m (swap j))).symm)))
  show opened m j ⊢ iprop(stay m j ∗ give m j)
  unfold opened stay give
  iintro ⟨⟨⟨⟨%κ₁, #IS⟩, ⟨%κ₂, #IR⟩⟩, ⟨RS, RR⟩, ⟨AS, AR⟩, TS, TR⟩, HC, HD⟩
  isplitl [RS AS AR TS HC]
  · isplitr; · iexists κ₁; iexact IS
    isplitr; · iexists κ₂; iexact IR
    isplitl [AS]; · iexact AS
    isplitl [AR]; · iexact AR
    isplitl [RS]; · iexact RS
    isplitl [TS] <;> iassumption
  isplitr; · iexists κ₂; iexact IR
  isplitl [RR]; · iexact RR
  isplitl [TR] <;> iassumption

omit [FloatOps F] in
/-- The launch: the cells opened, and the levels assigned, and each device handed what it sends into. -/
theorem deal : iprop(bigSep Finset.univ (fun d : Dev nD => coreInit (Ix := Unit) (Name := ℕ) (U := UR sig nD τ) (Lvl := ℕ) (Pipeline.owing O₀) 0
        (⟨m, fun _ => 0, ρ⟩ : MemSt nD τ sig (Elt F)) (d : Thread nD τ)) ∗ ownU u₀)
    ⊢ (|={Set.univ}=> iprop(∃ _x : Unit, bigSep Finset.univ (pre m) ∗ emp) : sProp 𝕄) := by
  have hb : bigSep Finset.univ (fun c : Dev nD => bigSep Finset.univ (fun r : Fin 8 => bringsSlot m (c, r)))
      = (iprop(bigSep Finset.univ (both fun g => semVal g 0) ∗ bigSep Finset.univ (fun j : Slot => cred (tallyAt (recvCell j.1 j.2) () (N j.2)))
          ∗ bigSep Finset.univ (fun j : Slot => dstPts j.1 j.2 (m ((j.1 : Thread nD τ).loc main_v1)))) : sProp 𝕄) := by
    rw [← bigSep_univ_prod (fun j : Slot => bringsSlot m j), ← bigSep_sep', ← bigSep_sep']; rfl
  have ho : iprop((bigSep Finset.univ (both (inv m)) ∗ bigSep Finset.univ (both fun g => reached ER g 0)
        ∗ bigSep Finset.univ (both fun g => atPos ER g 0 ∅ 0) ∗ bigSep Finset.univ (both fun g => dutyTok ER g 0 ()))
        ∗ bigSep Finset.univ (fun j : Slot => cred (tallyAt (recvCell j.1 j.2) () (N j.2)))
          ∗ bigSep Finset.univ (fun j : Slot => dstPts j.1 j.2 (m ((j.1 : Thread nD τ).loc main_v1))))
      = (bigSep Finset.univ (opened m) : sProp 𝕄) := by
    simp only [← bigSep_sep']; rfl
  have hp : iprop(bigSep Finset.univ (fun j : Slot => held m j.1 j.2) ∗ bigSep Finset.univ (keeps m) ∗ bigSep Finset.univ (fun _ : Dev nD => levAts Lx lv)) ⊢ (bigSep Finset.univ (pre m) : sProp 𝕄) := by
    rw [bigSep_univ_prod, ← bigSep_sep', ← bigSep_sep']
    refine bigSep_mono fun c _ => ?_
    show iprop(bigSep Finset.univ (held m c) ∗ keeps m c ∗ levAts Lx lv) ⊢ pre m c
    unfold keeps pre Φ₀
    iintro ⟨H, ⟨Hx, HO⟩, HL⟩
    isplitr [HO]
    · isplitl [H]; · iexact H
      isplitl [Hx] <;> iassumption
    iexact HO
  refine (sep_mono_left (bigSep_mono fun c _ => core_brings m ρ c)).trans ?_
  rw [bigSep_sep', bigSep_sep', hb]
  iintro ⟨⟨⟨Hs, Hc, Hd⟩, Hkeep, Hlv⟩, Hu⟩
  imod assign $$ Hlv with #HL
  imod (fund_cells m) $$ [Hu Hs] with H
  · isplitl [Hu] <;> iassumption
  imodintro
  iexists ()
  isplitl
  · iapply hp
    isplitr [Hkeep]
    · iapply (hand_over m)
      iapply (Entails.of_eq ho)
      isplitl [H]; · iexact H
      isplitl [Hc] <;> iassumption
    isplitl [Hkeep]; · iexact Hkeep
    iapply (BI.bigSep_intro_persistent (S := Finset.univ) fun (c : Dev nD) _ => (BI.Entails.refl (levAts Lx lv : sProp 𝕄))); iexact HL
  iempintro

/-- One core's run of @main. -/
theorem core_run (c : Dev nD) : pre m c ⊢ wp frame (wpE (defs (F := F)) (Variants.lift 𝒱₀) (c : Thread nD τ) none) Set.univ (main (F := F) c)
    (fun _ => post (liftTc (Exchange.fin m main_arg0 main_v1 (landed m)) BI.emp) (c : Thread nD τ)) := by
  refine Exchange.core_run m main_arg0 main_v1 (landed m) cfgs (dats m) cellOf_inj defs₀ 𝒱₀ ⟨fun w => w.elim0⟩ c (body_obligation m c) (scopedBufs_eq c) (Φ₀ m c) (O₀ c) rfl rfl rfl ?_
  show Φ₁ m c ⊢ _
  unfold Φ₁ Exchange.fin Exchange.ends xPts outPts
  rw [scopedSems_eq]
  iintro ⟨Hx, Ho, Hs⟩
  isplitl [Hx Ho]
  · isplitl [Hx] <;> iassumption
  iexact Hs

/-- Every weakly fair execution terminates, each device's result array holding each quarter from the device it is taken from, its argument unchanged and
    every semaphore counter at zero. -/
theorem run : θ_run defs (onTc (τ := τ) (main (F := F))) ⟨m, fun _ => 0, ρ⟩ (fun r =>
    (∀ c : Dev nD, r.2.mem ((c : Thread nD τ).loc main_v1) = landed m c
      ∧ r.2.mem ((c : Thread nD τ).loc main_arg0) = m ((c : Thread nD τ).loc main_arg0)) ∧ r.2.sem = fun _ => 0) :=
  Exchange.run_of m ρ main_arg0 main_v1 (landed m) defs main (Variants.lift 𝒱₀) O₀ u₀ (pre m) (by decide) (deal m ρ) (core_run m)

end Cert.GatherProof

end
-- ==== Proof.GatherEx.lean ====
module

public import proofs.«01_k».proof.Defs
public import proofs.«01_k».proof.Proof.Gen.GatherKernelIdeal
public import proofs.«01_k».proof.Proof.Gen.GatherReferenceIdeal.Run
public import proofs.«01_k».proof.Proof.Gen.GatherReferenceIdeal.Read
public import proofs.«01_k».proof.Proof.Gather

@[expose] public section

noncomputable section

open Idealize.ShloMosaic Idealize.SL.Sem

namespace Cert.Gather

open Cert.GatherKernel Cert.GatherProof
open Cert.GatherReferenceIdeal (S1024x2560)
open Cert.GatherReferenceIdeal.Read

theorem read_congr (g : (⟨S1024x2560, .bf16⟩ : BufTy).Contents (Elt Ideal)) (i j : S1024x2560.Idx)
    (h0 : (i 0).val = (j 0).val) (h1 : (i 1).val = (j 1).val) : g i = g j :=
  congrArg g (funext fun a => Fin.ext (match a with | ⟨0, _⟩ => h0 | ⟨1, _⟩ => h1))

/-- The device whose columns end as block `j` holds block `j` of the whole. -/
theorem origin_block (c : Dev nD) (j q : Fin 4) : Layout.meshLin [2, 2, 2] (origin c j q).val [0, 1] = j.val := by
  revert c j q; decide +kernel

theorem block_apply (g : (⟨S1024x2560, .bf16⟩ : BufTy).Contents (Elt Ideal)) (d : Dev nD) (n : Nat) (hn : Layout.meshLin [2, 2, 2] d.val [0, 1] = n) (x : S1024x640.Idx) (y : S1024x2560.Idx)
    (h0 : (x 0).val = (y 0).val) (h1 : n * 640 + (x 1).val = (y 1).val) :
    (Layout.blockN ⟨2, ![1024, 640]⟩ ⟨2, ![1024, 2560]⟩ (Layout.meshBlock [2, 2, 2] ![[], [0, 1]] d) g) x = g y := by
  subst hn
  exact read_congr g _ _ (((Nat.zero_mul 1024).symm ▸ Nat.zero_add _ : 0 * 1024 + (x 0).val = (x 0).val).trans h0) h1

/-- Every device ends with the reference's result. -/
theorem landed_eq (m : (ℓ : Loc nD τ sig) → Buf (Elt Ideal) ℓ) (g : (⟨S1024x2560, .bf16⟩ : BufTy).Contents (Elt Ideal))
    (h : ∀ c : Dev nD, m (c.tc.loc main_arg0) = Layout.blockN ⟨2, ![1024, 640]⟩ ⟨2, ![1024, 2560]⟩ (Layout.meshBlock [2, 2, 2] ![[], [0, 1]] c) g) (c : Dev nD) :
    landed m c = val_main_v1 (F := Ideal) g := by
  funext i
  refine Eq.trans (b := m ((origin c (blockOf i) (quarterOf i)).tc.loc main_arg0) (rowOf i)) rfl ?_
  rw [h]
  refine Eq.trans ?_ ((val_main_v1_apply g i).trans (val_main_v0_apply g _)).symm
  have b0 : (i 0).val < 4 := (i 0).isLt
  have b1 : (i 1).val < 1024 := (i 1).isLt
  have b2 : (i 2).val < 640 := (i 2).isLt
  have e0 : (i 1).val = (((i 1).val * 4 + (i 0).val) * 640 + (i 2).val) / 2560 := by omega
  have e1 : (i 0).val * 640 + (i 2).val = (((i 1).val * 4 + (i 0).val) * 640 + (i 2).val) % 2560 := by omega
  exact block_apply g _ _ (origin_block c (blockOf i) (quarterOf i)) _ _ e0 e1

/-- The exchange hands every device the whole weight, block after block. -/
theorem algebraic : Cert.algebraic_GatherKernelIdeal_GatherReferenceIdeal := by
  intro m g m' g' _ h
  exact ⟨_, (θ_run _ _ _).mono (fun r hr c => ⟨(hr.1 c).1.trans (landed_eq m _ h c), (hr.1 c).2⟩) (run (F := Ideal) m g),
    (θ_run _ _ _).mono (fun r hr => hr 0) (Cert.GatherReferenceIdeal.Value.run m' g')⟩

theorem frameKernel : Cert.quiescent_GatherKernel := by
  intro m ρ _
  exact (θ_run _ _ _).mono (fun r h => ⟨fun c => (h.1 c).2, h.2⟩) (run m ρ)

theorem frameIdeal : Cert.quiescent_GatherKernelIdeal := by
  intro m ρ _
  exact (θ_run _ _ _).mono (fun r h => ⟨fun c => (h.1 c).2, h.2⟩) (run (F := Ideal) m ρ)

/-- The reference terminates, leaves its argument as it was and has no semaphore. -/
theorem frameReference : Cert.quiescent_GatherReferenceIdeal := by
  intro m ρ _
  exact (θ_run _ _ _).mono (fun r h => ⟨fun c => (h c).2, sem_eq_zero_of_no_sems (by decide) r.2⟩)
    (Cert.GatherReferenceIdeal.Value.run m ρ)

end Cert.Gather

end
-- ==== Proof.lean ====
module

public import proofs.«01_k».proof.Defs
public import proofs.«01_k».proof.Proof.Gen.KvKernel
public import proofs.«01_k».proof.Proof.Gen.KvKernelIdeal
public import proofs.«01_k».proof.Proof.Gen.KvReferenceIdeal
public import proofs.«01_k».proof.Proof.Gen.KvKernelIdeal.Value
public import proofs.«01_k».proof.Proof.Gen.KvReferenceIdeal.Run
public import proofs.«01_k».proof.Proof.Gen.KvReferenceIdeal.Read
public import proofs.«01_k».proof.Proof.Gen.KvKernel.Frame
public import proofs.«01_k».proof.Proof.Gen.KvKernelIdeal.Frame
public import proofs.«01_k».proof.Proof.Kv
public import proofs.«01_k».proof.Proof.Gen.InKernel
public import proofs.«01_k».proof.Proof.Gen.InKernelIdeal
public import proofs.«01_k».proof.Proof.Gen.InReferenceIdeal
public import proofs.«01_k».proof.Proof.Gen.InKernelIdeal.Value
public import proofs.«01_k».proof.Proof.Gen.InReferenceIdeal.Run
public import proofs.«01_k».proof.Proof.Gen.InReferenceIdeal.Read
public import proofs.«01_k».proof.Proof.Gen.InKernel.Frame
public import proofs.«01_k».proof.Proof.Gen.InKernelIdeal.Frame
public import proofs.«01_k».proof.Proof.Gen.Pre_finite_in
public import proofs.«01_k».proof.Proof.In
public import proofs.«01_k».proof.Proof.Gen.MlpKernel
public import proofs.«01_k».proof.Proof.Gen.MlpKernelIdeal
public import proofs.«01_k».proof.Proof.Gen.MlpReferenceIdeal
public import proofs.«01_k».proof.Proof.Gen.MlpKernelIdeal.Value
public import proofs.«01_k».proof.Proof.Gen.MlpReferenceIdeal.Run
public import proofs.«01_k».proof.Proof.Gen.MlpReferenceIdeal.Read
public import proofs.«01_k».proof.Proof.Gen.MlpKernel.Frame
public import proofs.«01_k».proof.Proof.Gen.MlpKernelIdeal.Frame
public import proofs.«01_k».proof.Proof.Gen.Pre_finite_mlp
public import proofs.«01_k».proof.Proof.Mlp
public import proofs.«01_k».proof.Proof.Gen.LossKernel
public import proofs.«01_k».proof.Proof.Gen.LossKernelIdeal
public import proofs.«01_k».proof.Proof.Gen.LossReferenceIdeal
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.LossKernel.Frame
public import proofs.«01_k».proof.Proof.Gen.LossKernelIdeal.Frame
public import proofs.«01_k».proof.Proof.Gen.Pre_finite_loss
public import proofs.«01_k».proof.Proof.Loss
public import proofs.«01_k».proof.Proof.Gen.XattnKernel
public import proofs.«01_k».proof.Proof.Gen.XattnKernelIdeal
public import proofs.«01_k».proof.Proof.Gen.XattnReferenceIdeal
public import proofs.«01_k».proof.Proof.Gen.XattnKernelIdeal.Value
public import proofs.«01_k».proof.Proof.Gen.XattnReferenceIdeal.Run
public import proofs.«01_k».proof.Proof.Gen.XattnReferenceIdeal.Read
public import proofs.«01_k».proof.Proof.Gen.XattnKernel.Frame
public import proofs.«01_k».proof.Proof.Gen.XattnKernelIdeal.Frame
public import proofs.«01_k».proof.Proof.Gen.Pre_finite_xattn
public import proofs.«01_k».proof.Proof.Xattn
public import proofs.«01_k».proof.Proof.Gen.PoolKernel
public import proofs.«01_k».proof.Proof.Gen.PoolKernelIdeal
public import proofs.«01_k».proof.Proof.Gen.PoolReferenceIdeal
public import proofs.«01_k».proof.Proof.Gen.PoolKernelIdeal.Value
public import proofs.«01_k».proof.Proof.Gen.PoolReferenceIdeal.Run
public import proofs.«01_k».proof.Proof.Gen.PoolReferenceIdeal.Read
public import proofs.«01_k».proof.Proof.Gen.PoolKernel.Frame
public import proofs.«01_k».proof.Proof.Gen.PoolKernelIdeal.Frame
public import proofs.«01_k».proof.Proof.Gen.Pre_finite_pool
public import proofs.«01_k».proof.Proof.Pool
public import proofs.«01_k».proof.Proof.Gen.MixKernel
public import proofs.«01_k».proof.Proof.Gen.MixKernelIdeal
public import proofs.«01_k».proof.Proof.Gen.MixReferenceIdeal
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Gen.MixKernel.Frame
public import proofs.«01_k».proof.Proof.Gen.MixKernelIdeal.Frame
public import proofs.«01_k».proof.Proof.Mix
public import proofs.«01_k».proof.Proof.Gen.ProjKernel
public import proofs.«01_k».proof.Proof.Gen.ProjKernelIdeal
public import proofs.«01_k».proof.Proof.Gen.ProjReferenceIdeal
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.ProjKernel.Frame
public import proofs.«01_k».proof.Proof.Gen.ProjKernelIdeal.Frame
public import proofs.«01_k».proof.Proof.Proj
public import proofs.«01_k».proof.Proof.Gen.MemKernel
public import proofs.«01_k».proof.Proof.Gen.MemKernelIdeal
public import proofs.«01_k».proof.Proof.Gen.MemReferenceIdeal
public import proofs.«01_k».proof.Proof.Gen.MemKernelIdeal.Value
public import proofs.«01_k».proof.Proof.Gen.MemReferenceIdeal.Run
public import proofs.«01_k».proof.Proof.Gen.MemReferenceIdeal.Read
public import proofs.«01_k».proof.Proof.Gen.MemKernel.Frame
public import proofs.«01_k».proof.Proof.Gen.MemKernelIdeal.Frame
public import proofs.«01_k».proof.Proof.Mem
public import proofs.«01_k».proof.Proof.Gen.PoolFwdKernel
public import proofs.«01_k».proof.Proof.Gen.PoolFwdKernelIdeal
public import proofs.«01_k».proof.Proof.Gen.PoolFwdReferenceIdeal
public import proofs.«01_k».proof.Proof.Gen.PoolFwdKernelIdeal.Value
public import proofs.«01_k».proof.Proof.Gen.PoolFwdReferenceIdeal.Run
public import proofs.«01_k».proof.Proof.Gen.PoolFwdReferenceIdeal.Read
public import proofs.«01_k».proof.Proof.Gen.PoolFwdKernel.Frame
public import proofs.«01_k».proof.Proof.Gen.PoolFwdKernelIdeal.Frame
public import proofs.«01_k».proof.Proof.Gen.Pre_finite_poolf
public import proofs.«01_k».proof.Proof.PoolFwd
public import proofs.«01_k».proof.Proof.Gen.TnKernel
public import proofs.«01_k».proof.Proof.Gen.TnKernelIdeal
public import proofs.«01_k».proof.Proof.Gen.TnReferenceIdeal
public import proofs.«01_k».proof.Proof.Gen.TnKernelIdeal.Value
public import proofs.«01_k».proof.Proof.Gen.TnReferenceIdeal.Run
public import proofs.«01_k».proof.Proof.Gen.TnReferenceIdeal.Read
public import proofs.«01_k».proof.Proof.Gen.TnKernel.Frame
public import proofs.«01_k».proof.Proof.Gen.TnKernelIdeal.Frame
public import proofs.«01_k».proof.Proof.Tn
public import proofs.«01_k».proof.Proof.Gen.ChAddKernel
public import proofs.«01_k».proof.Proof.Gen.ChAddKernelIdeal
public import proofs.«01_k».proof.Proof.Gen.ChAddReferenceIdeal
public import proofs.«01_k».proof.Proof.Gen.ChAddKernelIdeal.Value
public import proofs.«01_k».proof.Proof.Gen.ChAddReferenceIdeal.Run
public import proofs.«01_k».proof.Proof.Gen.ChAddReferenceIdeal.Read
public import proofs.«01_k».proof.Proof.Gen.ChAddKernel.Frame
public import proofs.«01_k».proof.Proof.Gen.ChAddKernelIdeal.Frame
public import proofs.«01_k».proof.Proof.ChAdd
public import proofs.«01_k».proof.Proof.Gen.AdamKernel
public import proofs.«01_k».proof.Proof.Gen.AdamKernelIdeal
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.Gen.AdamKernel.Frame
public import proofs.«01_k».proof.Proof.Gen.AdamKernelIdeal.Frame
public import proofs.«01_k».proof.Proof.Adam
public import proofs.«01_k».proof.Proof.Gen.PairKernel
public import proofs.«01_k».proof.Proof.Gen.PairKernelIdeal
public import proofs.«01_k».proof.Proof.Gen.PairReferenceIdeal
public import proofs.«01_k».proof.Proof.Gen.PairReferenceIdeal.Run
public import proofs.«01_k».proof.Proof.Gen.PairReferenceIdeal.Read
public import proofs.«01_k».proof.Proof.PairEx
public import proofs.«01_k».proof.Proof.Gen.HalfKernel
public import proofs.«01_k».proof.Proof.Gen.HalfKernelIdeal
public import proofs.«01_k».proof.Proof.Gen.HalfReferenceIdeal
public import proofs.«01_k».proof.Proof.Gen.HalfReferenceIdeal.Run
public import proofs.«01_k».proof.Proof.Gen.HalfReferenceIdeal.Read
public import proofs.«01_k».proof.Proof.HalfEx
public import proofs.«01_k».proof.Proof.Gen.ChipKernel
public import proofs.«01_k».proof.Proof.Gen.ChipKernelIdeal
public import proofs.«01_k».proof.Proof.Gen.ChipReferenceIdeal
public import proofs.«01_k».proof.Proof.Gen.ChipReferenceIdeal.Run
public import proofs.«01_k».proof.Proof.Gen.ChipReferenceIdeal.Read
public import proofs.«01_k».proof.Proof.ChipEx
public import proofs.«01_k».proof.Proof.Gen.GatherKernel
public import proofs.«01_k».proof.Proof.Gen.GatherKernelIdeal
public import proofs.«01_k».proof.Proof.Gen.GatherReferenceIdeal
public import proofs.«01_k».proof.Proof.Gen.GatherReferenceIdeal.Run
public import proofs.«01_k».proof.Proof.Gen.GatherReferenceIdeal.Read
public import proofs.«01_k».proof.Proof.GatherEx

@[expose] public section

noncomputable section

namespace Cert.Proof

open Idealize.ShloMosaic Idealize.SL.Sem

/-- The frames of all programs, and the equality of each kernel with its reference. -/
theorem claim : Cert.Claim := ⟨Cert.KvKernel.Gen.facts,
  Cert.KvKernelIdeal.Gen.facts,
  Cert.KvReferenceIdeal.Gen.facts,
  Cert.InKernel.Gen.facts,
  Cert.InKernelIdeal.Gen.facts,
  Cert.InReferenceIdeal.Gen.facts,
  Cert.MlpKernel.Gen.facts,
  Cert.MlpKernelIdeal.Gen.facts,
  Cert.MlpReferenceIdeal.Gen.facts,
  Cert.LossKernel.Gen.facts,
  Cert.LossKernelIdeal.Gen.facts,
  Cert.LossReferenceIdeal.Gen.facts,
  Cert.XattnKernel.Gen.facts,
  Cert.XattnKernelIdeal.Gen.facts,
  Cert.XattnReferenceIdeal.Gen.facts,
  Cert.PoolKernel.Gen.facts,
  Cert.PoolKernelIdeal.Gen.facts,
  Cert.PoolReferenceIdeal.Gen.facts,
  Cert.MixKernel.Gen.facts,
  Cert.MixKernelIdeal.Gen.facts,
  Cert.MixReferenceIdeal.Gen.facts,
  Cert.ProjKernel.Gen.facts,
  Cert.ProjKernelIdeal.Gen.facts,
  Cert.ProjReferenceIdeal.Gen.facts,
  Cert.MemKernel.Gen.facts,
  Cert.MemKernelIdeal.Gen.facts,
  Cert.MemReferenceIdeal.Gen.facts,
  Cert.PoolFwdKernel.Gen.facts,
  Cert.PoolFwdKernelIdeal.Gen.facts,
  Cert.PoolFwdReferenceIdeal.Gen.facts,
  Cert.PairKernel.Gen.facts,
  Cert.PairKernelIdeal.Gen.facts,
  Cert.PairReferenceIdeal.Gen.facts,
  Cert.TnKernel.Gen.facts,
  Cert.TnKernelIdeal.Gen.facts,
  Cert.TnReferenceIdeal.Gen.facts,
  Cert.ChAddKernel.Gen.facts,
  Cert.ChAddKernelIdeal.Gen.facts,
  Cert.ChAddReferenceIdeal.Gen.facts,
  Cert.AdamKernel.Gen.facts,
  Cert.AdamKernelIdeal.Gen.facts,
  Cert.AdamReferenceIdeal.Gen.facts,
  Cert.HalfKernel.Gen.facts,
  Cert.HalfKernelIdeal.Gen.facts,
  Cert.HalfReferenceIdeal.Gen.facts,
  Cert.ChipKernel.Gen.facts,
  Cert.ChipKernelIdeal.Gen.facts,
  Cert.ChipReferenceIdeal.Gen.facts,
  Cert.GatherKernel.Gen.facts,
  Cert.GatherKernelIdeal.Gen.facts,
  Cert.GatherReferenceIdeal.Gen.facts,
  Cert.Pre_finite_in.Gen.facts,
  Cert.Pre_finite_mlp.Gen.facts,
  Cert.Pre_finite_loss.Gen.facts,
  Cert.Pre_finite_xattn.Gen.facts,
  Cert.Pre_finite_pool.Gen.facts,
  Cert.Pre_finite_poolf.Gen.facts, by
  refine ⟨fun m ρ _ => Cert.KvKernel.Gen.frame m ρ,
    fun m ρ _ => Cert.KvKernelIdeal.Gen.frame m ρ,
    Cert.Kv.frameReference,
    fun m ρ _ => Cert.InKernel.Gen.frame m ρ,
    fun m ρ _ => Cert.InKernelIdeal.Gen.frame m ρ,
    fun m ρ _ => Cert.InKernelIdeal.Gen.frame m ρ,
    Cert.In.frameReference,
    fun m ρ _ => Cert.In.frameReference m ρ trivial,
    fun m ρ _ => Cert.MlpKernel.Gen.frame m ρ,
    fun m ρ _ => Cert.MlpKernelIdeal.Gen.frame m ρ,
    fun m ρ _ => Cert.MlpKernelIdeal.Gen.frame m ρ,
    Cert.Mlp.frameReference,
    fun m ρ _ => Cert.Mlp.frameReference m ρ trivial,
    fun m ρ _ => Cert.LossKernel.Gen.frame m ρ,
    fun m ρ _ => Cert.LossKernelIdeal.Gen.frame m ρ,
    fun m ρ _ => Cert.LossKernelIdeal.Gen.frame m ρ,
    Cert.Loss.frameReference,
    fun m ρ _ => Cert.Loss.frameReference m ρ trivial,
    fun m ρ _ => Cert.XattnKernel.Gen.frame m ρ,
    fun m ρ _ => Cert.XattnKernelIdeal.Gen.frame m ρ,
    fun m ρ _ => Cert.XattnKernelIdeal.Gen.frame m ρ,
    Cert.Xattn.frameReference,
    fun m ρ _ => Cert.Xattn.frameReference m ρ trivial,
    fun m ρ _ => Cert.PoolKernel.Gen.frame m ρ,
    fun m ρ _ => Cert.PoolKernelIdeal.Gen.frame m ρ,
    fun m ρ _ => Cert.PoolKernelIdeal.Gen.frame m ρ,
    Cert.Pool.frameReference,
    fun m ρ _ => Cert.Pool.frameReference m ρ trivial,
    fun m ρ _ => Cert.MixKernel.Gen.frame m ρ,
    fun m ρ _ => Cert.MixKernelIdeal.Gen.frame m ρ,
    Cert.Mix.frameReference,
    fun m ρ _ => Cert.ProjKernel.Gen.frame m ρ,
    fun m ρ _ => Cert.ProjKernelIdeal.Gen.frame m ρ,
    Cert.Proj.frameReference,
    fun m ρ _ => Cert.MemKernel.Gen.frame m ρ,
    fun m ρ _ => Cert.MemKernelIdeal.Gen.frame m ρ,
    Cert.Mem.frameReference,
    fun m ρ _ => Cert.PoolFwdKernel.Gen.frame m ρ,
    fun m ρ _ => Cert.PoolFwdKernelIdeal.Gen.frame m ρ,
    fun m ρ _ => Cert.PoolFwdKernelIdeal.Gen.frame m ρ,
    Cert.PoolFwd.frameReference,
    fun m ρ _ => Cert.PoolFwd.frameReference m ρ trivial,
    Cert.Pair.frameKernel,
    Cert.Pair.frameIdeal,
    Cert.Pair.frameReference,
    fun m ρ _ => Cert.TnKernel.Gen.frame m ρ,
    fun m ρ _ => Cert.TnKernelIdeal.Gen.frame m ρ,
    Cert.Tn.frameReference,
    fun m ρ _ => Cert.ChAddKernel.Gen.frame m ρ,
    fun m ρ _ => Cert.ChAddKernelIdeal.Gen.frame m ρ,
    Cert.ChAdd.frameReference,
    Cert.Adam.frameKernel,
    Cert.Adam.frameIdeal,
    Cert.Adam.frameReference,
    Cert.Half.frameKernel,
    Cert.Half.frameIdeal,
    Cert.Half.frameReference,
    Cert.Chip.frameKernel,
    Cert.Chip.frameIdeal,
    Cert.Chip.frameReference,
    Cert.Gather.frameKernel,
    Cert.Gather.frameIdeal,
    Cert.Gather.frameReference,
    trivial,
    Cert.Kv.algebraic,
    trivial,
    Cert.In.algebraic,
    trivial,
    Cert.Mlp.algebraic,
    trivial,
    Cert.Loss.algebraic,
    trivial,
    Cert.Xattn.algebraic,
    trivial,
    Cert.Pool.algebraic,
    trivial,
    Cert.Mix.algebraic,
    trivial,
    Cert.Proj.algebraic,
    trivial,
    Cert.Mem.algebraic,
    trivial,
    Cert.PoolFwd.algebraic,
    trivial,
    Cert.Pair.algebraic,
    trivial,
    Cert.Tn.algebraic,
    trivial,
    Cert.ChAdd.algebraic,
    trivial,
    Cert.Adam.algebraic,
    trivial,
    Cert.Half.algebraic,
    trivial,
    Cert.Chip.algebraic,
    trivial,
    Cert.Gather.algebraic⟩⟩

end Cert.Proof

end
